-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Silu (m : (ℓ : Loc Cert.Silu.nD Cert.Silu.τ Cert.Silu.sig) → Buf (Elt Bits) ℓ) : Prop :=
  True

def Pre_SiluIdeal (m : (ℓ : Loc Cert.SiluIdeal.nD Cert.SiluIdeal.τ Cert.SiluIdeal.sig) → Buf (Elt Ideal) ℓ) : Prop :=
  True

def Pre_SiluIdeal_finite_silu [hPre_finite_silu : Cert.Pre_finite_silu.Facts] (m : (ℓ : Loc Cert.SiluIdeal.nD Cert.SiluIdeal.τ Cert.SiluIdeal.sig) → Buf (Elt Ideal) ℓ) : Prop :=
  ∀ c : Dev Cert.SiluIdeal.nD,
    (Cert.Pre_finite_silu.fn (F := Ideal) (m ((c.tc : Thread Cert.SiluIdeal.nD Cert.SiluIdeal.τ).loc Cert.SiluIdeal.main_arg0)) (m ((c.tc : Thread Cert.SiluIdeal.nD Cert.SiluIdeal.τ).loc Cert.SiluIdeal.main_arg1))) = (fun _ => 1#1)

def Pre_SiluReferenceIdeal (m : (ℓ : Loc Cert.SiluReferenceIdeal.nD Cert.SiluReferenceIdeal.τ Cert.SiluReferenceIdeal.sig) → Buf (Elt Ideal) ℓ) : Prop :=
  True

def Pre_SiluReferenceIdeal_finite_silu [hPre_finite_silu : Cert.Pre_finite_silu.Facts] (m : (ℓ : Loc Cert.SiluReferenceIdeal.nD Cert.SiluReferenceIdeal.τ Cert.SiluReferenceIdeal.sig) → Buf (Elt Ideal) ℓ) : Prop :=
  ∀ c : Dev Cert.SiluReferenceIdeal.nD,
    (Cert.Pre_finite_silu.fn (F := Ideal) (m ((c.tc : Thread Cert.SiluReferenceIdeal.nD Cert.SiluReferenceIdeal.τ).loc Cert.SiluReferenceIdeal.main_arg0)) (m ((c.tc : Thread Cert.SiluReferenceIdeal.nD Cert.SiluReferenceIdeal.τ).loc Cert.SiluReferenceIdeal.main_arg1))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_Silu [hSilu : Cert.Silu.Facts] : Prop :=
  ∀ (m : (ℓ : Loc Cert.Silu.nD Cert.Silu.τ Cert.Silu.sig) → Buf (Elt Bits) ℓ) (g : Dev Cert.Silu.nD → PrngReg), Pre_Silu m →
    θ_run (Cert.Silu.defs (F := Bits)) (onTc (τ := Cert.Silu.τ) (Cert.Silu.main (F := Bits))) ⟨m, fun _ => 0, g⟩ (fun r => (∀ c : Dev Cert.Silu.nD,
      r.2.mem ((c.tc : Thread Cert.Silu.nD Cert.Silu.τ).loc Cert.Silu.main_arg0) = m ((c.tc : Thread Cert.Silu.nD Cert.Silu.τ).loc Cert.Silu.main_arg0)
      ∧ r.2.mem ((c.tc : Thread Cert.Silu.nD Cert.Silu.τ).loc Cert.Silu.main_arg1) = m ((c.tc : Thread Cert.Silu.nD Cert.Silu.τ).loc Cert.Silu.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def quiescent_SiluIdeal_pre_finite_silu [hSiluIdeal : Cert.SiluIdeal.Facts] [hPre_finite_silu : Cert.Pre_finite_silu.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal_finite_silu m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def quiescent_SiluReferenceIdeal [hSiluReferenceIdeal : Cert.SiluReferenceIdeal.Facts] : Prop :=
  ∀ (m : (ℓ : Loc Cert.SiluReferenceIdeal.nD Cert.SiluReferenceIdeal.τ Cert.SiluReferenceIdeal.sig) → Buf (Elt Ideal) ℓ) (g : Dev Cert.SiluReferenceIdeal.nD → PrngReg), Pre_SiluReferenceIdeal m →
    θ_run (Cert.SiluReferenceIdeal.defs (F := Ideal)) (onTc (τ := Cert.SiluReferenceIdeal.τ) (Cert.SiluReferenceIdeal.main (F := Ideal))) ⟨m, fun _ => 0, g⟩ (fun r => (∀ c : Dev Cert.SiluReferenceIdeal.nD,
      r.2.mem ((c.tc : Thread Cert.SiluReferenceIdeal.nD Cert.SiluReferenceIdeal.τ).loc Cert.SiluReferenceIdeal.main_arg0) = m ((c.tc : Thread Cert.SiluReferenceIdeal.nD Cert.SiluReferenceIdeal.τ).loc Cert.SiluReferenceIdeal.main_arg0)
      ∧ r.2.mem ((c.tc : Thread Cert.SiluReferenceIdeal.nD Cert.SiluReferenceIdeal.τ).loc Cert.SiluReferenceIdeal.main_arg1) = m ((c.tc : Thread Cert.SiluReferenceIdeal.nD Cert.SiluReferenceIdeal.τ).loc Cert.SiluReferenceIdeal.main_arg1))
      ∧ r.2.sem = fun _ => 0)

def quiescent_SiluReferenceIdeal_pre_finite_silu [hSiluReferenceIdeal : Cert.SiluReferenceIdeal.Facts] [hPre_finite_silu : Cert.Pre_finite_silu.Facts] : Prop :=
  ∀ (m : (ℓ : Loc Cert.SiluReferenceIdeal.nD Cert.SiluReferenceIdeal.τ Cert.SiluReferenceIdeal.sig) → Buf (Elt Ideal) ℓ) (g : Dev Cert.SiluReferenceIdeal.nD → PrngReg), Pre_SiluReferenceIdeal_finite_silu m →
    θ_run (Cert.SiluReferenceIdeal.defs (F := Ideal)) (onTc (τ := Cert.SiluReferenceIdeal.τ) (Cert.SiluReferenceIdeal.main (F := Ideal))) ⟨m, fun _ => 0, g⟩ (fun r => (∀ c : Dev Cert.SiluReferenceIdeal.nD,
      r.2.mem ((c.tc : Thread Cert.SiluReferenceIdeal.nD Cert.SiluReferenceIdeal.τ).loc Cert.SiluReferenceIdeal.main_arg0) = m ((c.tc : Thread Cert.SiluReferenceIdeal.nD Cert.SiluReferenceIdeal.τ).loc Cert.SiluReferenceIdeal.main_arg0)
      ∧ r.2.mem ((c.tc : Thread Cert.SiluReferenceIdeal.nD Cert.SiluReferenceIdeal.τ).loc Cert.SiluReferenceIdeal.main_arg1) = m ((c.tc : Thread Cert.SiluReferenceIdeal.nD Cert.SiluReferenceIdeal.τ).loc Cert.SiluReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v6)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v16) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v3) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v10) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_Silu_SiluIdeal : Prop :=
  True

def algebraic_SiluIdeal_SiluReferenceIdeal_pre_finite_silu [hSiluIdeal : Cert.SiluIdeal.Facts] [hSiluReferenceIdeal : Cert.SiluReferenceIdeal.Facts] [hPre_finite_silu : Cert.Pre_finite_silu.Facts] : Prop :=
  ∀ (m : (ℓ : Loc Cert.SiluIdeal.nD Cert.SiluIdeal.τ Cert.SiluIdeal.sig) → Buf (Elt Ideal) ℓ) (g : Dev Cert.SiluIdeal.nD → PrngReg)
    (m' : (ℓ : Loc Cert.SiluReferenceIdeal.nD Cert.SiluReferenceIdeal.τ Cert.SiluReferenceIdeal.sig) → Buf (Elt Ideal) ℓ) (g' : Dev Cert.SiluReferenceIdeal.nD → PrngReg), Pre_SiluIdeal_finite_silu m →
    (∀ c : Dev Cert.SiluIdeal.nD,
      m' ((c.tc : Thread Cert.SiluReferenceIdeal.nD Cert.SiluReferenceIdeal.τ).loc Cert.SiluReferenceIdeal.main_arg0) = m ((c.tc : Thread Cert.SiluIdeal.nD Cert.SiluIdeal.τ).loc Cert.SiluIdeal.main_arg0)
      ∧ m' ((c.tc : Thread Cert.SiluReferenceIdeal.nD Cert.SiluReferenceIdeal.τ).loc Cert.SiluReferenceIdeal.main_arg1) = m ((c.tc : Thread Cert.SiluIdeal.nD Cert.SiluIdeal.τ).loc Cert.SiluIdeal.main_arg1)) →
    ∃ (v0 : (c : Dev Cert.SiluIdeal.nD) → Buf (Elt Ideal) ((c.tc : Thread Cert.SiluIdeal.nD Cert.SiluIdeal.τ).loc Cert.SiluIdeal.main_v3)),
      θ_run (Cert.SiluIdeal.defs (F := Ideal)) (onTc (τ := Cert.SiluIdeal.τ) (Cert.SiluIdeal.main (F := Ideal))) ⟨m, fun _ => 0, g⟩ (fun r => ∀ c : Dev Cert.SiluIdeal.nD,
          r.2.mem ((c.tc : Thread Cert.SiluIdeal.nD Cert.SiluIdeal.τ).loc Cert.SiluIdeal.main_v3) = v0 c
          ∧ r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
          ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ θ_run (Cert.SiluReferenceIdeal.defs (F := Ideal)) (onTc (τ := Cert.SiluReferenceIdeal.τ) (Cert.SiluReferenceIdeal.main (F := Ideal))) ⟨m', fun _ => 0, g'⟩ (fun r => ∀ c : Dev Cert.SiluReferenceIdeal.nD,
          r.2.mem ((c.tc : Thread Cert.SiluReferenceIdeal.nD Cert.SiluReferenceIdeal.τ).loc Cert.SiluReferenceIdeal.main_v10) = v0 c
          ∧ r.2.mem ((c.tc : Thread Cert.SiluReferenceIdeal.nD Cert.SiluReferenceIdeal.τ).loc Cert.SiluReferenceIdeal.main_arg0) = m' ((c.tc : Thread Cert.SiluReferenceIdeal.nD Cert.SiluReferenceIdeal.τ).loc Cert.SiluReferenceIdeal.main_arg0)
          ∧ r.2.mem ((c.tc : Thread Cert.SiluReferenceIdeal.nD Cert.SiluReferenceIdeal.τ).loc Cert.SiluReferenceIdeal.main_arg1) = m' ((c.tc : Thread Cert.SiluReferenceIdeal.nD Cert.SiluReferenceIdeal.τ).loc Cert.SiluReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v6) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v6_0)) (v1 : (c : Dev Cert.UpIdeal.nD) → Buf (Elt Ideal) ((c.tc : Thread Cert.UpIdeal.nD Cert.UpIdeal.τ).loc Cert.UpIdeal.main_v6_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v6_0) = v0 c
          ∧ r.2.mem ((c.tc : Thread Cert.UpIdeal.nD Cert.UpIdeal.τ).loc Cert.UpIdeal.main_v6_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v5) = v0 c
          ∧ r.2.mem ((c.tc : Thread Cert.UpReferenceIdeal.nD Cert.UpReferenceIdeal.τ).loc Cert.UpReferenceIdeal.main_v7) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def Claim : Prop :=
  ∃ (hKernel : Cert.Kernel.Facts) (hKernelIdeal : Cert.KernelIdeal.Facts) (hReferenceIdeal : Cert.ReferenceIdeal.Facts) (hOut : Cert.Out.Facts) (hOutIdeal : Cert.OutIdeal.Facts) (hOutReferenceIdeal : Cert.OutReferenceIdeal.Facts) (hGates : Cert.Gates.Facts) (hGatesIdeal : Cert.GatesIdeal.Facts) (hGatesReferenceIdeal : Cert.GatesReferenceIdeal.Facts) (hSilu : Cert.Silu.Facts) (hSiluIdeal : Cert.SiluIdeal.Facts) (hSiluReferenceIdeal : Cert.SiluReferenceIdeal.Facts) (hMerge : Cert.Merge.Facts) (hMergeIdeal : Cert.MergeIdeal.Facts) (hMergeReferenceIdeal : Cert.MergeReferenceIdeal.Facts) (hUp : Cert.Up.Facts) (hUpIdeal : Cert.UpIdeal.Facts) (hUpReferenceIdeal : Cert.UpReferenceIdeal.Facts) (hPre_finite_scores : Cert.Pre_finite_scores.Facts) (hPre_finite_silu : Cert.Pre_finite_silu.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Out (hOut := hOut)
    ∧ quiescent_OutIdeal (hOutIdeal := hOutIdeal)
    ∧ quiescent_OutReferenceIdeal (hOutReferenceIdeal := hOutReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Silu (hSilu := hSilu)
    ∧ quiescent_SiluIdeal (hSiluIdeal := hSiluIdeal)
    ∧ quiescent_SiluIdeal_pre_finite_silu (hSiluIdeal := hSiluIdeal) (hPre_finite_silu := hPre_finite_silu)
    ∧ quiescent_SiluReferenceIdeal (hSiluReferenceIdeal := hSiluReferenceIdeal)
    ∧ quiescent_SiluReferenceIdeal_pre_finite_silu (hSiluReferenceIdeal := hSiluReferenceIdeal) (hPre_finite_silu := hPre_finite_silu)
    ∧ quiescent_Merge (hMerge := hMerge)
    ∧ quiescent_MergeIdeal (hMergeIdeal := hMergeIdeal)
    ∧ quiescent_MergeReferenceIdeal (hMergeReferenceIdeal := hMergeReferenceIdeal)
    ∧ quiescent_Up (hUp := hUp)
    ∧ quiescent_UpIdeal (hUpIdeal := hUpIdeal)
    ∧ quiescent_UpReferenceIdeal (hUpReferenceIdeal := hUpReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Out_OutIdeal
    ∧ algebraic_OutIdeal_OutReferenceIdeal (hOutIdeal := hOutIdeal) (hOutReferenceIdeal := hOutReferenceIdeal)
    ∧ preserves_Gates_GatesIdeal
    ∧ algebraic_GatesIdeal_GatesReferenceIdeal (hGatesIdeal := hGatesIdeal) (hGatesReferenceIdeal := hGatesReferenceIdeal)
    ∧ preserves_Silu_SiluIdeal
    ∧ algebraic_SiluIdeal_SiluReferenceIdeal_pre_finite_silu (hSiluIdeal := hSiluIdeal) (hSiluReferenceIdeal := hSiluReferenceIdeal) (hPre_finite_silu := hPre_finite_silu)
    ∧ preserves_Merge_MergeIdeal
    ∧ algebraic_MergeIdeal_MergeReferenceIdeal (hMergeIdeal := hMergeIdeal) (hMergeReferenceIdeal := hMergeReferenceIdeal)
    ∧ preserves_Up_UpIdeal
    ∧ algebraic_UpIdeal_UpReferenceIdeal (hUpIdeal := hUpIdeal) (hUpReferenceIdeal := hUpReferenceIdeal)
-- ==== Pre_finite_scores.lean ====
abbrev S4x4096x64x64 : Shape := ⟨4, ![4, 4096, 64, 64]⟩
abbrev S4x4096x8x64 : Shape := ⟨4, ![4, 4096, 8, 64]⟩
abbrev S4x4096x8192 : Shape := ⟨3, ![4, 4096, 8192]⟩
abbrev S1x64 : Shape := ⟨2, ![1, 64]⟩
abbrev S_ : Shape := ⟨0, ![]⟩

class Facts : Prop where
  bcast_S_S4x4096x64x64 : S_.BroadcastsInDim S4x4096x64x64 (![] : Fin 0 → Fin S4x4096x64x64.rank)
  reducesTo_S4x4096x64x64_S_d0_1_2_3 : S4x4096x64x64.ReducesTo [0, 1, 2, 3] S_
  h_S_ : 0 < S_.numel
  bcast_S_S4x4096x8x64 : S_.BroadcastsInDim S4x4096x8x64 (![] : Fin 0 → Fin S4x4096x8x64.rank)
  reducesTo_S4x4096x8x64_S_d0_1_2_3 : S4x4096x8x64.ReducesTo [0, 1, 2, 3] S_
  bcast_S_S1x64 : S_.BroadcastsInDim S1x64 (![] : Fin 0 → Fin S1x64.rank)
  reducesTo_S1x64_S_d0_1 : S1x64.ReducesTo [0, 1] S_

variable [Facts]

def fn {F : FTy → Type} [FloatOps F] (main_arg0 : FVec F S4x4096x64x64 .f32) (main_arg1 : FVec F S4x4096x8x64 .f32) (main_arg2 : FVec F S4x4096x8x64 .f32) (main_arg3 : FVec F S4x4096x8192 .f32) (main_arg4 : FVec F S1x64 .f32) : IVec S_ 1 :=
  let main_v0 : FVec F S4x4096x64x64 .f32 := Host.absf main_arg0
  let main_cst : FVec F S_ .f32 := constant S_ .f32 0x7F800000#32
  let main_v1 : FVec F S4x4096x64x64 .f32 := broadcastInDim S4x4096x64x64 ![] bcast_S_S4x4096x64x64 main_cst
  let main_v2 : IVec S4x4096x64x64 1 := cmpf .olt main_v0 main_v1
  let main_c : IVec S_ 1 := constantI S_ 1 1#1
  let main_v3 : IVec S_ 1 := (fun x v => Host.reduce IntOp.andi x v reducesTo_S4x4096x64x64_S_d0_1_2_3 h_S_) main_v2 main_c
  let main_v4 : FVec F S4x4096x8x64 .f32 := Host.absf main_arg1
  let main_cst_0 : FVec F S_ .f32 := constant S_ .f32 0x7F800000#32
  let main_v5 : FVec F S4x4096x8x64 .f32 := broadcastInDim S4x4096x8x64 ![] bcast_S_S4x4096x8x64 main_cst_0
  let main_v6 : IVec S4x4096x8x64 1 := cmpf .olt main_v4 main_v5
  let main_c_1 : IVec S_ 1 := constantI S_ 1 1#1
  let main_v7 : IVec S_ 1 := (fun x v => Host.reduce IntOp.andi x v reducesTo_S4x4096x8x64_S_d0_1_2_3 h_S_) main_v6 main_c_1
  let main_v8 : IVec S_ 1 := andi main_v3 main_v7
  let main_v9 : FVec F S1x64 .f32 := Host.absf main_arg4
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  main_v13
-- ==== Pre_finite_silu.lean ====
abbrev S4x4096x4096 : Shape := ⟨3, ![4, 4096, 4096]⟩
abbrev S1x4096x29696 : Shape := ⟨3, ![1, 4096, 29696]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S1x4096x29696 : S_.BroadcastsInDim S1x4096x29696 (![] : Fin 0 → Fin S1x4096x29696.rank)
  reducesTo_S1x4096x29696_S_d0_1_2 : S1x4096x29696.ReducesTo [0, 1, 2] S_

variable [Facts]

def fn {F : FTy → Type} [FloatOps F] (main_arg0 : FVec F S4x4096x4096 .f32) (main_arg1 : FVec F S1x4096x29696 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S1x4096x29696 .f32 := Host.absf main_arg1
  let main_cst_0 : FVec F S_ .f32 := constant S_ .f32 0x7F800000#32
  let main_v5 : FVec F S1x4096x29696 .f32 := broadcastInDim S1x4096x29696 ![] bcast_S_S1x4096x29696 main_cst_0
  let main_v6 : IVec S1x4096x29696 1 := cmpf .olt main_v4 main_v5
  let main_c_1 : IVec S_ 1 := constantI S_ 1 1#1
  let main_v7 : IVec S_ 1 := (fun x v => Host.reduce IntOp.andi x v reducesTo_S1x4096x29696_S_d0_1_2 h_S_) main_v6 main_c_1
  let main_v8 : IVec S_ 1 := andi main_v3 main_v7
  main_v8
-- ==== Kernel.lean ====
abbrev S4x4096x64x64 : Shape := ⟨4, ![4, 4096, 64, 64]⟩
abbrev S4x4096x8x64 : Shape := ⟨4, ![4, 4096, 8, 64]⟩
abbrev S4x4096x8192 : Shape := ⟨3, ![4, 4096, 8192]⟩
abbrev S1x64 : Shape := ⟨2, ![1, 64]⟩
abbrev S_ : Shape := ⟨0, ![]⟩
abbrev S16384x4096 : Shape := ⟨2, ![16384, 4096]⟩
abbrev S16384x512 : Shape := ⟨2, ![16384, 512]⟩
abbrev S16384x8192 : Shape := ⟨2, ![16384, 8192]⟩
abbrev S16384x3072 : Shape := ⟨2, ![16384, 3072]⟩
abbrev S16384x1024 : Shape := ⟨2, ![16384, 1024]⟩
abbrev S16384x2048 : Shape := ⟨2, ![16384, 2048]⟩
abbrev S64 : Shape := ⟨1, ![64]⟩
abbrev S512x3072 : Shape := ⟨2, ![512, 3072]⟩
abbrev S512x1024 : Shape := ⟨2, ![512, 1024]⟩
abbrev S128x1024 : Shape := ⟨2, ![128, 1024]⟩
abbrev S512x4096 : Shape := ⟨2, ![512, 4096]⟩
abbrev S128x512 : Shape := ⟨2, ![128, 512]⟩
abbrev S128x128 : Shape := ⟨2, ![128, 128]⟩
abbrev S1x512 : Shape := ⟨2, ![1, 512]⟩
abbrev S64x256 : Shape := ⟨2, ![64, 256]⟩
abbrev S16x512 : Shape := ⟨2, ![16, 512]⟩
abbrev S256x128 : Shape := ⟨2, ![256, 128]⟩
abbrev S128x256 : Shape := ⟨2, ![128, 256]⟩
abbrev S512x128 : Shape := ⟨2, ![512, 128]⟩
abbrev S128x3072 : Shape := ⟨2, ![128, 3072]⟩
abbrev S1 : Shape := ⟨1, ![1]⟩
abbrev S512x512 : Shape := ⟨2, ![512, 512]⟩
abbrev S512 : Shape := ⟨1, ![512]⟩
abbrev S64x512 : Shape := ⟨2, ![64, 512]⟩
abbrev S144x512 : Shape := ⟨2, ![144, 512]⟩
abbrev S128x4096 : Shape := ⟨2, ![128, 4096]⟩
abbrev S64x128 : Shape := ⟨2, ![64, 128]⟩
abbrev S16x256 : Shape := ⟨2, ![16, 256]⟩
abbrev S256x512 : Shape := ⟨2, ![256, 512]⟩
abbrev S144x256 : Shape := ⟨2, ![144, 256]⟩

abbrev nBuf : Space → Nat
  | .hbm => 24
  | .vmem => 14
  | .smem => 1
  | _ => 0

abbrev bufTy : (tb : Table) → Fin (tcTables nBuf tb) → BufTy
  | .hbm, ⟨0, _⟩ => ⟨S4x4096x64x64, .f32⟩
  | .hbm, ⟨1, _⟩ => ⟨S4x4096x8x64, .f32⟩
  | .hbm, ⟨2, _⟩ => ⟨S4x4096x8x64, .f32⟩
  | .hbm, ⟨3, _⟩ => ⟨S4x4096x8192, .f32⟩
  | .hbm, ⟨4, _⟩ => ⟨S1x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x4096, .bf16⟩
  | .hbm, ⟨13, _⟩ => ⟨S16384x512, .f32⟩
  | .hbm, ⟨14, _⟩ => ⟨S16384x512, .bf16⟩
  | .hbm, ⟨15, _⟩ => ⟨S16384x512, .f32⟩
  | .hbm, ⟨16, _⟩ => ⟨S16384x512, .bf16⟩
  | .hbm, ⟨17, _⟩ => ⟨S16384x8192, .f32⟩
  | .hbm, ⟨18, _⟩ => ⟨S16384x8192, .bf16⟩
  | .hbm, ⟨19, _⟩ => ⟨S16384x3072, .bf16⟩
  | .hbm, ⟨20, _⟩ => ⟨S16384x1024, .bf16⟩
  | .hbm, ⟨21, _⟩ => ⟨S16384x2048, .bf16⟩
  | .hbm, ⟨22, _⟩ => ⟨S64, .f32⟩
  | .hbm, ⟨23, _⟩ => ⟨S16384x4096, .bf16⟩
  | .local _ .vmem, ⟨0, _⟩ => ⟨S512x3072, .bf16⟩
  | .local _ .vmem, ⟨1, _⟩ => ⟨S512x3072, .bf16⟩
  | .local _ .vmem, ⟨2, _⟩ => ⟨S512x1024, .bf16⟩
  | .local _ .vmem, ⟨3, _⟩ => ⟨S512x1024, .bf16⟩
  | .local _ .vmem, ⟨4, _⟩ => ⟨S128x1024, .bf16⟩
  | .local _ .vmem, ⟨5, _⟩ => ⟨S128x1024, .bf16⟩
  | .local _ .vmem, ⟨6, _⟩ => ⟨S512x1024, .bf16⟩
  | .local _ .vmem, ⟨7, _⟩ => ⟨S512x1024, .bf16⟩
  | .local _ .vmem, ⟨8, _⟩ => ⟨S512x4096, .bf16⟩
  | .local _ .vmem, ⟨9, _⟩ => ⟨S512x4096, .bf16⟩
  | .local _ .vmem, ⟨10, _⟩ => ⟨S512x4096, .bf16⟩
  | .local _ .vmem, ⟨11, _⟩ => ⟨S512x4096, .bf16⟩
  | .local _ .vmem, ⟨12, _⟩ => ⟨S128x512, .bf16⟩
  | .local _ .vmem, ⟨13, _⟩ => ⟨S128x512, .bf16⟩
  | .local _ .smem, ⟨0, _⟩ => ⟨S64, .f32⟩
  | _, _ => ⟨S4x4096x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x4096x64x64 : Shape := ⟨4, ![4, 4096, 64, 64]⟩
abbrev S4x4096x8x64 : Shape := ⟨4, ![4, 4096, 8, 64]⟩
abbrev S4x4096x8192 : Shape := ⟨3, ![4, 4096, 8192]⟩
abbrev S1x64 : Shape := ⟨2, ![1, 64]⟩
abbrev S4x32x128x8x8x64 : Shape := ⟨6, ![4, 32, 128, 8, 8, 64]⟩
abbrev S4x32x128x8x64 : Shape := ⟨5, ![4, 32, 128, 8, 64]⟩
abbrev S4x1x128x8x64 : Shape := ⟨5, ![4, 1, 128, 8, 64]⟩
abbrev S_ : Shape := ⟨0, ![]⟩
abbrev S4x31x128x8x64 : Shape := ⟨5, ![4, 31, 128, 8, 64]⟩
abbrev S4x32x256x8x64 : Shape := ⟨5, ![4, 32, 256, 8, 64]⟩
abbrev S64 : Shape := ⟨1, ![64]⟩
abbrev S1x1x8x8x1x1 : Shape := ⟨6, ![1, 1, 8, 8, 1, 1]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S1x32x1x1x1x1 : Shape := ⟨6, ![1, 32, 1, 1, 1, 1]⟩
abbrev S4x32x8x256x128x8 : Shape := ⟨6, ![4, 32, 8, 256, 128, 8]⟩
abbrev S4x32x8x8x128x256 : Shape := ⟨6, ![4, 32, 8, 8, 128, 256]⟩
abbrev S1x1x1x1x1x256 : Shape := ⟨6, ![1, 1, 1, 1, 1, 256]⟩
abbrev S1x32x1x1x1x256 : Shape := ⟨6, ![1, 32, 1, 1, 1, 256]⟩
abbrev S1x1x1x1x128x256 : Shape := ⟨6, ![1, 1, 1, 1, 128, 256]⟩
abbrev S1x32x1x1x128x256 : Shape := ⟨6, ![1, 32, 1, 1, 128, 256]⟩
abbrev S4x32x8x8x128 : Shape := ⟨5, ![4, 32, 8, 8, 128]⟩
abbrev S4x32x8x8x128x1 : Shape := ⟨6, ![4, 32, 8, 8, 128, 1]⟩
abbrev S4x32x8x64x8x128 : Shape := ⟨6, ![4, 32, 8, 64, 8, 128]⟩
abbrev S16384x4096 : Shape := ⟨2, ![16384, 4096]⟩
abbrev S4x4096x4096 : Shape := ⟨3, ![4, 4096, 4096]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x64x64, .f32⟩
  | .hbm, ⟨1, _⟩ => ⟨S4x4096x8x64, .f32⟩
  | .hbm, ⟨2, _⟩ => ⟨S4x4096x8x64, .f32⟩
  | .hbm, ⟨3, _⟩ => ⟨S4x4096x8192, .f32⟩
  | .hbm, ⟨4, _⟩ => ⟨S1x64, .f32⟩
  | .hbm, ⟨5, _⟩ => ⟨S4x32x128x8x8x64, .f32⟩
  | .hbm, ⟨6, _⟩ => ⟨S4x32x128x8x64, .f32⟩
  | .hbm, ⟨7, _⟩ => ⟨S4x32x128x8x64, .f32⟩
  | .hbm, ⟨8, _⟩ => ⟨S4x1x128x8x64, .f32⟩
  | .hbm, ⟨9, _⟩ => ⟨S_, .f32⟩
  | .hbm, ⟨10, _⟩ => ⟨S4x1x128x8x64, .f32⟩
  | .hbm, ⟨11, _⟩ => ⟨S4x31x128x8x64, .f32⟩
  | .hbm, ⟨12, _⟩ => ⟨S4x32x128x8x64, .f32⟩
  | .hbm, ⟨13, _⟩ => ⟨S4x32x256x8x64, .f32⟩
  | .hbm, ⟨14, _⟩ => ⟨S4x1x128x8x64, .f32⟩
  | .hbm, ⟨15, _⟩ => ⟨S_, .f32⟩
  | .hbm, ⟨16, _⟩ => ⟨S4x1x128x8x64, .f32⟩
  | .hbm, ⟨17, _⟩ => ⟨S4x31x128x8x64, .f32⟩
  | .hbm, ⟨18, _⟩ => ⟨S4x32x128x8x64, .f32⟩
  | .hbm, ⟨19, _⟩ => ⟨S4x32x256x8x64, .f32⟩
  | .hbm, ⟨20, _⟩ => ⟨S64, .f32⟩
  | .hbm, ⟨21, _⟩ => ⟨S1x1x8x8x1x1, .f32⟩
  | .hbm, ⟨22, _⟩ => ⟨S128, .i32⟩
  | .hbm, ⟨23, _⟩ => ⟨S128x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x256, .i32⟩
  | .hbm, ⟨30, _⟩ => ⟨S128x256, .i32⟩
  | .hbm, ⟨31, _⟩ => ⟨S128x256, .i1⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x256, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S32, .i32⟩
  | .hbm, ⟨43, _⟩ => ⟨S1x32x1x1x1x1, .i32⟩
  | .hbm, ⟨44, _⟩ => ⟨S4x32x8x256x128x8, .f32⟩
  | .hbm, ⟨45, _⟩ => ⟨S4x32x8x8x128x256, .f32⟩
  | .hbm, ⟨46, _⟩ => ⟨S_, .f32⟩
  | .hbm, ⟨47, _⟩ => ⟨S4x32x8x8x128x256, .f32⟩
  | .hbm, ⟨48, _⟩ => ⟨S4x32x8x8x128x256, .f32⟩
  | .hbm, ⟨49, _⟩ => ⟨S_, .i32⟩
  | .hbm, ⟨50, _⟩ => ⟨S1x32x1x1x1x1, .i32⟩
  | .hbm, ⟨51, _⟩ => ⟨S1x32x1x1x1x1, .i1⟩
  | .hbm, ⟨52, _⟩ => ⟨S_, .i32⟩
  | .hbm, ⟨53, _⟩ => ⟨S1x256, .i32⟩
  | .hbm, ⟨54, _⟩ => ⟨S1x256, .i1⟩
  | .hbm, ⟨55, _⟩ => ⟨S1x1x1x1x1x256, .i1⟩
  | .hbm, ⟨56, _⟩ => ⟨S1x32x1x1x1x256, .i1⟩
  | .hbm, ⟨57, _⟩ => ⟨S1x32x1x1x1x256, .i1⟩
  | .hbm, ⟨58, _⟩ => ⟨S1x32x1x1x1x256, .i1⟩
  | .hbm, ⟨59, _⟩ => ⟨S1x1x1x1x128x256, .i1⟩
  | .hbm, ⟨60, _⟩ => ⟨S1x32x1x1x128x256, .i1⟩
  | .hbm, ⟨61, _⟩ => ⟨S1x32x1x1x128x256, .i1⟩
  | .hbm, ⟨62, _⟩ => ⟨S1x32x1x1x128x256, .i1⟩
  | .hbm, ⟨63, _⟩ => ⟨S_, .f32⟩
  | .hbm, ⟨64, _⟩ => ⟨S_, .f32⟩
  | .hbm, ⟨65, _⟩ => ⟨S4x32x8x8x128x256, .i1⟩
  | .hbm, ⟨66, _⟩ => ⟨S4x32x8x8x128x256, .f32⟩
  | .hbm, ⟨67, _⟩ => ⟨S4x32x8x8x128x256, .f32⟩
  | .hbm, ⟨68, _⟩ => ⟨S_, .f32⟩
  | .hbm, ⟨69, _⟩ => ⟨S4x32x8x8x128, .f32⟩
  | .hbm, ⟨70, _⟩ => ⟨S4x32x8x8x128x1, .f32⟩
  | .hbm, ⟨71, _⟩ => ⟨S4x32x8x8x128x1, .f32⟩
  | .hbm, ⟨72, _⟩ => ⟨S4x32x8x8x128x1, .f32⟩
  | .hbm, ⟨73, _⟩ => ⟨S4x32x8x8x128x256, .f32⟩
  | .hbm, ⟨74, _⟩ => ⟨S4x32x8x8x128x256, .f32⟩
  | .hbm, ⟨75, _⟩ => ⟨S4x32x8x8x128x256, .f32⟩
  | .hbm, ⟨76, _⟩ => ⟨S_, .f32⟩
  | .hbm, ⟨77, _⟩ => ⟨S4x32x8x8x128, .f32⟩
  | .hbm, ⟨78, _⟩ => ⟨S4x32x8x8x128x1, .f32⟩
  | .hbm, ⟨79, _⟩ => ⟨S4x32x8x8x128x1, .f32⟩
  | .hbm, ⟨80, _⟩ => ⟨S4x32x8x8x128x1, .f32⟩
  | .hbm, ⟨81, _⟩ => ⟨S4x32x8x8x128x1, .f32⟩
  | .hbm, ⟨82, _⟩ => ⟨S4x32x8x8x128x1, .f32⟩
  | .hbm, ⟨83, _⟩ => ⟨S4x32x8x8x128x256, .f32⟩
  | .hbm, ⟨84, _⟩ => ⟨S4x32x8x8x128x256, .f32⟩
  | .hbm, ⟨85, _⟩ => ⟨S4x32x8x64x8x128, .f32⟩
  | .hbm, ⟨86, _⟩ => ⟨S4x32x128x8x8x64, .f32⟩
  | .hbm, ⟨87, _⟩ => ⟨S16384x4096, .f32⟩
  | .hbm, ⟨88, _⟩ => ⟨S4x4096x4096, .f32⟩
  | .hbm, ⟨89, _⟩ => ⟨S16384x4096, .f32⟩
  | .hbm, ⟨90, _⟩ => ⟨S16384x4096, .f32⟩
  | .hbm, ⟨91, _⟩ => ⟨S16384x4096, .bf16⟩
  | _, _ => ⟨S4x4096x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_1 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_c_4 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Out.lean ====
abbrev S4x4096x4096 : Shape := ⟨3, ![4, 4096, 4096]⟩
abbrev S1x4096x4096 : Shape := ⟨3, ![1, 4096, 4096]⟩
abbrev S4096 : Shape := ⟨1, ![4096]⟩
abbrev S16384x4096 : Shape := ⟨2, ![16384, 4096]⟩
abbrev S4096x4096 : Shape := ⟨2, ![4096, 4096]⟩
abbrev S1x4096 : Shape := ⟨2, ![1, 4096]⟩
abbrev S1024x4096 : Shape := ⟨2, ![1024, 4096]⟩
abbrev S4096x512 : Shape := ⟨2, ![4096, 512]⟩
abbrev S1024x512 : Shape := ⟨2, ![1024, 512]⟩
abbrev S2x1024x128 : Shape := ⟨3, ![2, 1024, 128]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩
abbrev S1x512 : Shape := ⟨2, ![1, 512]⟩

abbrev nBuf : Space → Nat
  | .hbm => 11
  | .vmem => 11
  | .smem => 0
  | _ => 0

abbrev bufTy : (tb : Table) → Fin (tcTables nBuf tb) → BufTy
  | .hbm, ⟨0, _⟩ => ⟨S4x4096x4096, .f32⟩
  | .hbm, ⟨1, _⟩ => ⟨S1x4096x4096, .f32⟩
  | .hbm, ⟨2, _⟩ => ⟨S4x4096x4096, .f32⟩
  | .hbm, ⟨3, _⟩ => ⟨S4096, .f32⟩
  | .hbm, ⟨4, _⟩ => ⟨S16384x4096, .f32⟩
  | .hbm, ⟨5, _⟩ => ⟨S16384x4096, .bf16⟩
  | .hbm, ⟨6, _⟩ => ⟨S4096x4096, .f32⟩
  | .hbm, ⟨7, _⟩ => ⟨S4096x4096, .bf16⟩
  | .hbm, ⟨8, _⟩ => ⟨S16384x4096, .f32⟩
  | .hbm, ⟨9, _⟩ => ⟨S1x4096, .f32⟩
  | .hbm, ⟨10, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x4096, .f32⟩
  | .local _ .vmem, ⟨7, _⟩ => ⟨S1024x512, .f32⟩
  | .local _ .vmem, ⟨8, _⟩ => ⟨S1024x512, .f32⟩
  | .local _ .vmem, ⟨9, _⟩ => ⟨S1024x4096, .f32⟩
  | .local _ .vmem, ⟨10, _⟩ => ⟨S2x1024x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![17, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32_3 : BitVec 32 := 0#32
  let v12 : BitVec 1 := Scalar.cmpi .sgt arg0 c0_i32_3
  let v13 : BitVec 32 := Scalar.extui v12
  let c0_i32_4 : BitVec 32 := 0#32
  let v14 : BitVec 1 := Scalar.cmpi .ne v13 c0_i32_4
  v14

def k0_off1 (i : grid0.Coords) : Fin 3 → Nat :=
  let c1_i32_6 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v18 : BitVec 32 := Scalar.subi c1_i32_6 v11
  let v19 : Index := Scalar.indexCast v18
  let c0 : Index := 0#32
  let c0_7 : Index := 0#32
  ![v19.toNat, 0, 0]
def k0_off2 (i : grid0.Coords) : Fin 2 → Nat :=
  let c0_9 : Index := 0#32
  let arg1 : BitVec 32 := BitVec.ofNat 32 (i 1).val
  let c512_i32 : BitVec 32 := 512#32
  let v0 : BitVec 32 := Scalar.muli arg1 c512_i32
  let v1 : BitVec 32 := v0
  let v26 : Index := Scalar.indexCast v1
  ![0, v26.toNat]
def k0_off3 (i : grid0.Coords) : Fin 2 → Nat :=
  let c0_11 : Index := 0#32
  let arg1 : BitVec 32 := BitVec.ofNat 32 (i 1).val
  let c512_i32 : BitVec 32 := 512#32
  let v0 : BitVec 32 := Scalar.muli arg1 c512_i32
  let v1 : BitVec 32 := v0
  let v33 : Index := Scalar.indexCast v1
  ![0, v33.toNat]
def k0_cond2 (i : grid0.Coords) : BitVec 1 :=
  let arg0 : BitVec 32 := BitVec.ofNat 32 (i 0).val
  let c16_i32 : BitVec 32 := 16#32
  let v15 : BitVec 1 := Scalar.cmpi .slt arg0 c16_i32
  let v16 : BitVec 32 := Scalar.extui v15
  let c0_i32_5 : BitVec 32 := 0#32
  let v17 : BitVec 1 := Scalar.cmpi .ne v16 c0_i32_5
  v17

def k0_off4 (i : grid0.Coords) : Fin 3 → Nat :=
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v35 : Index := Scalar.indexCast v11
  let c0_12 : Index := 0#32
  let c0_13 : Index := 0#32
  ![v35.toNat, 0, 0]
def k0_off5 (i : grid0.Coords) : Fin 2 → Nat :=
  let c0_16 : Index := 0#32
  let arg1 : BitVec 32 := BitVec.ofNat 32 (i 1).val
  let c512_i32 : BitVec 32 := 512#32
  let v0 : BitVec 32 := Scalar.muli arg1 c512_i32
  let v1 : BitVec 32 := v0
  let v44 : Index := Scalar.indexCast v1
  ![0, v44.toNat]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutReferenceIdeal.lean ====
abbrev S4x4096x4096 : Shape := ⟨3, ![4, 4096, 4096]⟩
abbrev S1x4096x4096 : Shape := ⟨3, ![1, 4096, 4096]⟩
abbrev S4096 : Shape := ⟨1, ![4096]⟩
abbrev S4096x4096 : Shape := ⟨2, ![4096, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S16384x4096 : Shape := ⟨2, ![16384, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096x4096, .f32⟩
  | .hbm, ⟨2, _⟩ => ⟨S4x4096x4096, .f32⟩
  | .hbm, ⟨3, _⟩ => ⟨S4096, .f32⟩
  | .hbm, ⟨4, _⟩ => ⟨S4096x4096, .f32⟩
  | .hbm, ⟨5, _⟩ => ⟨S4x4096x4096, .f32⟩
  | .hbm, ⟨6, _⟩ => ⟨S4x4096x4096, .f32⟩
  | .hbm, ⟨7, _⟩ => ⟨S4x4096x4096, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x4096, .f32⟩
  | .hbm, ⟨19, _⟩ => ⟨S4x4096x4096, .f32⟩
  | .hbm, ⟨20, _⟩ => ⟨S1x1x4096, .f32⟩
  | .hbm, ⟨21, _⟩ => ⟨S4x4096x4096, .f32⟩
  | .hbm, ⟨22, _⟩ => ⟨S4x4096x4096, .f32⟩
  | .hbm, ⟨23, _⟩ => ⟨S16384x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Gates.lean ====
abbrev S4x4096x4096 : Shape := ⟨3, ![4, 4096, 4096]⟩
abbrev S1x4096x29696 : Shape := ⟨3, ![1, 4096, 29696]⟩
abbrev S16384x4096 : Shape := ⟨2, ![16384, 4096]⟩
abbrev S4096x29696 : Shape := ⟨2, ![4096, 29696]⟩
abbrev S16384x8192 : Shape := ⟨2, ![16384, 8192]⟩
abbrev S1024x4096 : Shape := ⟨2, ![1024, 4096]⟩
abbrev S1024x1024 : Shape := ⟨2, ![1024, 1024]⟩
abbrev S2x4096x1024 : Shape := ⟨3, ![2, 4096, 1024]⟩
abbrev S2x256x1024 : Shape := ⟨3, ![2, 256, 1024]⟩
abbrev S2 : Shape := ⟨1, ![2]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1x4096x1024 : Shape := ⟨3, ![1, 4096, 1024]⟩
abbrev S4096x1024 : Shape := ⟨2, ![4096, 1024]⟩
abbrev S1024x128 : Shape := ⟨2, ![1024, 128]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S1x4096x29696, .f32⟩
  | .hbm, ⟨2, _⟩ => ⟨S16384x4096, .f32⟩
  | .hbm, ⟨3, _⟩ => ⟨S16384x4096, .bf16⟩
  | .hbm, ⟨4, _⟩ => ⟨S4096x29696, .f32⟩
  | .hbm, ⟨5, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .bf16⟩
  | .local _ .vmem, ⟨3, _⟩ => ⟨S1024x1024, .bf16⟩
  | .local _ .vmem, ⟨4, _⟩ => ⟨S2x4096x1024, .bf16⟩
  | .local _ .vmem, ⟨5, _⟩ => ⟨S2x256x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let arg1 : BitVec 32 := BitVec.ofNat 32 (i 1).val
  let c0_i32_4 : BitVec 32 := 0#32
  let v11 : BitVec 1 := Scalar.cmpi .eq arg1 c0_i32_4
  let v12 : BitVec 1 := Scalar.andi v10 v11
  let v13 : BitVec 32 := Scalar.extui v12
  let c0_i32_5 : BitVec 32 := 0#32
  let v14 : BitVec 1 := Scalar.cmpi .ne v13 c0_i32_5
  v14

def k0_mult1 : BitVec 32 :=
  let c21504_i32 : BitVec 32 := 21504#32
  c21504_i32
def k0_mult2 : BitVec 32 :=
  let c21504_i32_72 : BitVec 32 := 21504#32
  c21504_i32_72
def k0_mult3 : BitVec 32 :=
  let c21504_i32_77 : BitVec 32 := 21504#32
  c21504_i32_77
def k0_mult4 : BitVec 32 :=
  let c21504_i32_89 : BitVec 32 := 21504#32
  c21504_i32_89
def k0_mult5 : BitVec 32 :=
  let c21504_i32_94 : BitVec 32 := 21504#32
  c21504_i32_94
def k0_mult6 : BitVec 32 :=
  let c21504_i32_105 : BitVec 32 := 21504#32
  c21504_i32_105
def k0_mult7 : BitVec 32 :=
  let c21504_i32_110 : BitVec 32 := 21504#32
  c21504_i32_110
def k0_mult8 : BitVec 32 :=
  let c21504_i32_122 : BitVec 32 := 21504#32
  c21504_i32_122
def k0_mult9 : BitVec 32 :=
  let c21504_i32_127 : BitVec 32 := 21504#32
  c21504_i32_127
def k0_mult10 : BitVec 32 :=
  let c21504_i32_139 : BitVec 32 := 21504#32
  c21504_i32_139
def k0_mult11 : BitVec 32 :=
  let c21504_i32_144 : BitVec 32 := 21504#32
  c21504_i32_144
def k0_mult12 : BitVec 32 :=
  let c21504_i32_155 : BitVec 32 := 21504#32
  c21504_i32_155
def k0_mult13 : BitVec 32 :=
  let c21504_i32_160 : BitVec 32 := 21504#32
  c21504_i32_160
def k0_mult14 : BitVec 32 :=
  let c21504_i32_171 : BitVec 32 := 21504#32
  c21504_i32_171
def k0_mult15 : BitVec 32 :=
  let c21504_i32_176 : BitVec 32 := 21504#32
  c21504_i32_176
def k0_mult16 : BitVec 32 :=
  let c21504_i32_187 : BitVec 32 := 21504#32
  c21504_i32_187
def k0_mult17 : BitVec 32 :=
  let c21504_i32_192 : BitVec 32 := 21504#32
  c21504_i32_192
def k0_mult18 : BitVec 32 :=
  let c21504_i32_203 : BitVec 32 := 21504#32
  c21504_i32_203
def k0_mult19 : BitVec 32 :=
  let c21504_i32_208 : BitVec 32 := 21504#32
  c21504_i32_208
def k0_mult20 : BitVec 32 :=
  let c21504_i32_219 : BitVec 32 := 21504#32
  c21504_i32_219
def k0_mult21 : BitVec 32 :=
  let c21504_i32_224 : BitVec 32 := 21504#32
  c21504_i32_224
def k0_mult22 : BitVec 32 :=
  let c21504_i32_235 : BitVec 32 := 21504#32
  c21504_i32_235
def k0_mult23 : BitVec 32 :=
  let c21504_i32_240 : BitVec 32 := 21504#32
  c21504_i32_240
def k0_mult24 : BitVec 32 :=
  let c21504_i32_251 : BitVec 32 := 21504#32
  c21504_i32_251
def k0_mult25 : BitVec 32 :=
  let c21504_i32_256 : BitVec 32 := 21504#32
  c21504_i32_256
def k0_mult26 : BitVec 32 :=
  let c21504_i32_267 : BitVec 32 := 21504#32
  c21504_i32_267
def k0_mult27 : BitVec 32 :=
  let c21504_i32_272 : BitVec 32 := 21504#32
  c21504_i32_272
def k0_mult28 : BitVec 32 :=
  let c21504_i32_283 : BitVec 32 := 21504#32
  c21504_i32_283
def k0_mult29 : BitVec 32 :=
  let c21504_i32_288 : BitVec 32 := 21504#32
  c21504_i32_288
def k0_mult30 : BitVec 32 :=
  let c21504_i32_299 : BitVec 32 := 21504#32
  c21504_i32_299
def k0_mult31 : BitVec 32 :=
  let c21504_i32_304 : BitVec 32 := 21504#32
  c21504_i32_304
def k0_mult32 : BitVec 32 :=
  let c21504_i32_315 : BitVec 32 := 21504#32
  c21504_i32_315
def k0_cond2 (i : grid0.Coords) : BitVec 1 :=
  let arg0 : BitVec 32 := BitVec.ofNat 32 (i 0).val
  let c1_i32_6 : BitVec 32 := 1#32
  let v15 : BitVec 32 := Scalar.addi arg0 c1_i32_6
  let c8_i32 : BitVec 32 := 8#32
  let v16 : BitVec 1 := Scalar.cmpi .slt v15 c8_i32
  let v17 : BitVec 32 := Scalar.extui v16
  let c0_i32_7 : BitVec 32 := 0#32
  let v18 : BitVec 1 := Scalar.cmpi .ne v17 c0_i32_7
  v18

def k0_mult33 (i : grid0.Coords) : BitVec 32 :=
  let c21504_i32 : BitVec 32 := 21504#32
  let arg0 : BitVec 32 := BitVec.ofNat 32 (i 0).val
  let c1_i32_67 : BitVec 32 := 1#32
  let v124 : BitVec 32 := Scalar.addi arg0 c1_i32_67
  let c8_i32_74 : BitVec 32 := 8#32
  let c0_i32_75 : BitVec 32 := 0#32
  let v135 : BitVec 1 := Scalar.cmpi .eq c8_i32_74 c0_i32_75
  let c1_i32_76 : BitVec 32 := 1#32
  let v136 : BitVec 32 := Scalar.select v135 c1_i32_76 c8_i32_74
  let v137 : BitVec 32 := Scalar.remsi v124 v136
  let c0_i32_78 : BitVec 32 := 0#32
  let v139 : BitVec 1 := Scalar.cmpi .slt v137 c0_i32_78
  let c0_i32_79 : BitVec 32 := 0#32
  let v140 : BitVec 1 := Scalar.cmpi .slt v136 c0_i32_79
  let v141 : BitVec 1 := Scalar.xori v139 v140
  let c0_i32_77 : BitVec 32 := 0#32
  let v138 : BitVec 1 := Scalar.cmpi .ne v137 c0_i32_77
  let v142 : BitVec 1 := Scalar.andi v141 v138
  let v143 : BitVec 32 := Scalar.addi v137 v136
  let v144 : BitVec 32 := Scalar.select v142 v143 v137
  let c1024_i32 : BitVec 32 := 1024#32
  let v145 : BitVec 32 := Scalar.muli v144 c1024_i32
  let v146 : BitVec 32 := Scalar.addi c21504_i32 v145
  v146
def k0_off1 (i : grid0.Coords) : Fin 1 → Nat :=
  let arg1 : BitVec 32 := BitVec.ofNat 32 (i 1).val
  let c2_i32_68 : BitVec 32 := 2#32
  let c0_i32_69 : BitVec 32 := 0#32
  let v125 : BitVec 1 := Scalar.cmpi .eq c2_i32_68 c0_i32_69
  let c1_i32_70 : BitVec 32 := 1#32
  let v126 : BitVec 32 := Scalar.select v125 c1_i32_70 c2_i32_68
  let v127 : BitVec 32 := Scalar.remsi arg1 v126
  let c0_i32_72 : BitVec 32 := 0#32
  let v129 : BitVec 1 := Scalar.cmpi .slt v127 c0_i32_72
  let c0_i32_73 : BitVec 32 := 0#32
  let v130 : BitVec 1 := Scalar.cmpi .slt v126 c0_i32_73
  let v131 : BitVec 1 := Scalar.xori v129 v130
  let c0_i32_71 : BitVec 32 := 0#32
  let v128 : BitVec 1 := Scalar.cmpi .ne v127 c0_i32_71
  let v132 : BitVec 1 := Scalar.andi v131 v128
  let v133 : BitVec 32 := Scalar.addi v127 v126
  let v134 : BitVec 32 := Scalar.select v132 v133 v127
  ![v134.toNat]
def k0_off2 (i : grid0.Coords) : Fin 3 → Nat :=
  let arg1 : BitVec 32 := BitVec.ofNat 32 (i 1).val
  let c2_i32_68 : BitVec 32 := 2#32
  let c0_i32_69 : BitVec 32 := 0#32
  let v125 : BitVec 1 := Scalar.cmpi .eq c2_i32_68 c0_i32_69
  let c1_i32_70 : BitVec 32 := 1#32
  let v126 : BitVec 32 := Scalar.select v125 c1_i32_70 c2_i32_68
  let v127 : BitVec 32 := Scalar.remsi arg1 v126
  let c0_i32_72 : BitVec 32 := 0#32
  let v129 : BitVec 1 := Scalar.cmpi .slt v127 c0_i32_72
  let c0_i32_73 : BitVec 32 := 0#32
  let v130 : BitVec 1 := Scalar.cmpi .slt v126 c0_i32_73
  let v131 : BitVec 1 := Scalar.xori v129 v130
  let c0_i32_71 : BitVec 32 := 0#32
  let v128 : BitVec 1 := Scalar.cmpi .ne v127 c0_i32_71
  let v132 : BitVec 1 := Scalar.andi v131 v128
  let v133 : BitVec 32 := Scalar.addi v127 v126
  let v134 : BitVec 32 := Scalar.select v132 v133 v127
  let c0_i32_80 : BitVec 32 := 0#32
  let c0_i32_81 : BitVec 32 := 0#32
  ![v134.toNat, 0, 0]
def k0_off3 (i : grid0.Coords) : Fin 2 → Nat :=
  let arg1 : BitVec 32 := BitVec.ofNat 32 (i 1).val
  let c256_i32 : BitVec 32 := 256#32
  let v148 : BitVec 32 := Scalar.muli arg1 c256_i32
  let c21504_i32 : BitVec 32 := 21504#32
  let arg0 : BitVec 32 := BitVec.ofNat 32 (i 0).val
  let c1_i32_67 : BitVec 32 := 1#32
  let v124 : BitVec 32 := Scalar.addi arg0 c1_i32_67
  let c8_i32_74 : BitVec 32 := 8#32
  let c0_i32_75 : BitVec 32 := 0#32
  let v135 : BitVec 1 := Scalar.cmpi .eq c8_i32_74 c0_i32_75
  let c1_i32_76 : BitVec 32 := 1#32
  let v136 : BitVec 32 := Scalar.select v135 c1_i32_76 c8_i32_74
  let v137 : BitVec 32 := Scalar.remsi v124 v136
  let c0_i32_78 : BitVec 32 := 0#32
  let v139 : BitVec 1 := Scalar.cmpi .slt v137 c0_i32_78
  let c0_i32_79 : BitVec 32 := 0#32
  let v140 : BitVec 1 := Scalar.cmpi .slt v136 c0_i32_79
  let v141 : BitVec 1 := Scalar.xori v139 v140
  let c0_i32_77 : BitVec 32 := 0#32
  let v138 : BitVec 1 := Scalar.cmpi .ne v137 c0_i32_77
  let v142 : BitVec 1 := Scalar.andi v141 v138
  let v143 : BitVec 32 := Scalar.addi v137 v136
  let v144 : BitVec 32 := Scalar.select v142 v143 v137
  let c1024_i32 : BitVec 32 := 1024#32
  let v145 : BitVec 32 := Scalar.muli v144 c1024_i32
  let v146 : BitVec 32 := Scalar.addi c21504_i32 v145
  let v147 : BitVec 32 := v146
  ![v148.toNat, v147.toNat]
def k0_cond3 (i : grid0.Coords) : BitVec 1 :=
  let arg0 : BitVec 32 := BitVec.ofNat 32 (i 0).val
  let c1_i32_8 : BitVec 32 := 1#32
  let v19 : BitVec 32 := Scalar.addi arg0 c1_i32_8
  let c8_i32_9 : BitVec 32 := 8#32
  let v20 : BitVec 1 := Scalar.cmpi .slt v19 c8_i32_9
  let arg1 : BitVec 32 := BitVec.ofNat 32 (i 1).val
  let c0_i32_10 : BitVec 32 := 0#32
  let v21 : BitVec 1 := Scalar.cmpi .sgt arg1 c0_i32_10
  let v22 : BitVec 1 := Scalar.andi v20 v21
  let v23 : BitVec 32 := Scalar.extui v22
  let c0_i32_11 : BitVec 32 := 0#32
  let v24 : BitVec 1 := Scalar.cmpi .ne v23 c0_i32_11
  v24

def k0_mult34 (i : grid0.Coords) : BitVec 32 :=
  let c21504_i32 : BitVec 32 := 21504#32
  let arg0 : BitVec 32 := BitVec.ofNat 32 (i 0).val
  let c1_i32_67 : BitVec 32 := 1#32
  let v124 : BitVec 32 := Scalar.addi arg0 c1_i32_67
  let c8_i32_76 : BitVec 32 := 8#32
  let c0_i32_77 : BitVec 32 := 0#32
  let v137 : BitVec 1 := Scalar.cmpi .eq c8_i32_76 c0_i32_77
  let c1_i32_78 : BitVec 32 := 1#32
  let v138 : BitVec 32 := Scalar.select v137 c1_i32_78 c8_i32_76
  let v139 : BitVec 32 := Scalar.remsi v124 v138
  let c0_i32_80 : BitVec 32 := 0#32
  let v141 : BitVec 1 := Scalar.cmpi .slt v139 c0_i32_80
  let c0_i32_81 : BitVec 32 := 0#32
  let v142 : BitVec 1 := Scalar.cmpi .slt v138 c0_i32_81
  let v143 : BitVec 1 := Scalar.xori v141 v142
  let c0_i32_79 : BitVec 32 := 0#32
  let v140 : BitVec 1 := Scalar.cmpi .ne v139 c0_i32_79
  let v144 : BitVec 1 := Scalar.andi v143 v140
  let v145 : BitVec 32 := Scalar.addi v139 v138
  let v146 : BitVec 32 := Scalar.select v144 v145 v139
  let c1024_i32 : BitVec 32 := 1024#32
  let v147 : BitVec 32 := Scalar.muli v146 c1024_i32
  let v148 : BitVec 32 := Scalar.addi c21504_i32 v147
  v148
def k0_off4 (i : grid0.Coords) : Fin 1 → Nat :=
  let arg1 : BitVec 32 := BitVec.ofNat 32 (i 1).val
  let c1_i32_69 : BitVec 32 := 1#32
  let v126 : BitVec 32 := Scalar.subi arg1 c1_i32_69
  let c2_i32_70 : BitVec 32 := 2#32
  let c0_i32_71 : BitVec 32 := 0#32
  let v127 : BitVec 1 := Scalar.cmpi .eq c2_i32_70 c0_i32_71
  let c1_i32_72 : BitVec 32 := 1#32
  let v128 : BitVec 32 := Scalar.select v127 c1_i32_72 c2_i32_70
  let v129 : BitVec 32 := Scalar.remsi v126 v128
  let c0_i32_74 : BitVec 32 := 0#32
  let v131 : BitVec 1 := Scalar.cmpi .slt v129 c0_i32_74
  let c0_i32_75 : BitVec 32 := 0#32
  let v132 : BitVec 1 := Scalar.cmpi .slt v128 c0_i32_75
  let v133 : BitVec 1 := Scalar.xori v131 v132
  let c0_i32_73 : BitVec 32 := 0#32
  let v130 : BitVec 1 := Scalar.cmpi .ne v129 c0_i32_73
  let v134 : BitVec 1 := Scalar.andi v133 v130
  let v135 : BitVec 32 := Scalar.addi v129 v128
  let v136 : BitVec 32 := Scalar.select v134 v135 v129
  ![v136.toNat]
def k0_off5 (i : grid0.Coords) : Fin 3 → Nat :=
  let arg1 : BitVec 32 := BitVec.ofNat 32 (i 1).val
  let c1_i32_69 : BitVec 32 := 1#32
  let v126 : BitVec 32 := Scalar.subi arg1 c1_i32_69
  let c2_i32_70 : BitVec 32 := 2#32
  let c0_i32_71 : BitVec 32 := 0#32
  let v127 : BitVec 1 := Scalar.cmpi .eq c2_i32_70 c0_i32_71
  let c1_i32_72 : BitVec 32 := 1#32
  let v128 : BitVec 32 := Scalar.select v127 c1_i32_72 c2_i32_70
  let v129 : BitVec 32 := Scalar.remsi v126 v128
  let c0_i32_74 : BitVec 32 := 0#32
  let v131 : BitVec 1 := Scalar.cmpi .slt v129 c0_i32_74
  let c0_i32_75 : BitVec 32 := 0#32
  let v132 : BitVec 1 := Scalar.cmpi .slt v128 c0_i32_75
  let v133 : BitVec 1 := Scalar.xori v131 v132
  let c0_i32_73 : BitVec 32 := 0#32
  let v130 : BitVec 1 := Scalar.cmpi .ne v129 c0_i32_73
  let v134 : BitVec 1 := Scalar.andi v133 v130
  let v135 : BitVec 32 := Scalar.addi v129 v128
  let v136 : BitVec 32 := Scalar.select v134 v135 v129
  let c0_i32_82 : BitVec 32 := 0#32
  let c0_i32_83 : BitVec 32 := 0#32
  ![v136.toNat, 0, 0]
def k0_off6 (i : grid0.Coords) : Fin 2 → Nat :=
  let arg1 : BitVec 32 := BitVec.ofNat 32 (i 1).val
  let c1_i32_68 : BitVec 32 := 1#32
  let v125 : BitVec 32 := Scalar.subi arg1 c1_i32_68
  let c256_i32 : BitVec 32 := 256#32
  let v150 : BitVec 32 := Scalar.muli v125 c256_i32
  let c21504_i32 : BitVec 32 := 21504#32
  let arg0 : BitVec 32 := BitVec.ofNat 32 (i 0).val
  let c1_i32_67 : BitVec 32 := 1#32
  let v124 : BitVec 32 := Scalar.addi arg0 c1_i32_67
  let c8_i32_76 : BitVec 32 := 8#32
  let c0_i32_77 : BitVec 32 := 0#32
  let v137 : BitVec 1 := Scalar.cmpi .eq c8_i32_76 c0_i32_77
  let c1_i32_78 : BitVec 32 := 1#32
  let v138 : BitVec 32 := Scalar.select v137 c1_i32_78 c8_i32_76
  let v139 : BitVec 32 := Scalar.remsi v124 v138
  let c0_i32_80 : BitVec 32 := 0#32
  let v141 : BitVec 1 := Scalar.cmpi .slt v139 c0_i32_80
  let c0_i32_81 : BitVec 32 := 0#32
  let v142 : BitVec 1 := Scalar.cmpi .slt v138 c0_i32_81
  let v143 : BitVec 1 := Scalar.xori v141 v142
  let c0_i32_79 : BitVec 32 := 0#32
  let v140 : BitVec 1 := Scalar.cmpi .ne v139 c0_i32_79
  let v144 : BitVec 1 := Scalar.andi v143 v140
  let v145 : BitVec 32 := Scalar.addi v139 v138
  let v146 : BitVec 32 := Scalar.select v144 v145 v139
  let c1024_i32 : BitVec 32 := 1024#32
  let v147 : BitVec 32 := Scalar.muli v146 c1024_i32
  let v148 : BitVec 32 := Scalar.addi c21504_i32 v147
  let v149 : BitVec 32 := v148
  ![v150.toNat, v149.toNat]
def k0_mult35 (i : grid0.Coords) : BitVec 32 :=
  let arg1 : BitVec 32 := BitVec.ofNat 32 (i 1).val
  let c1_i32_84 : BitVec 32 := 1#32
  let v156 : BitVec 32 := Scalar.subi arg1 c1_i32_84
  let c256_i32_85 : BitVec 32 := 256#32
  let v157 : BitVec 32 := Scalar.muli v156 c256_i32_85
  v157
def k0_off7 (i : grid0.Coords) : Fin 3 → Nat :=
  let arg1 : BitVec 32 := BitVec.ofNat 32 (i 1).val
  let c1_i32_86 : BitVec 32 := 1#32
  let v159 : BitVec 32 := Scalar.subi arg1 c1_i32_86
  let c2_i32_87 : BitVec 32 := 2#32
  let c0_i32_88 : BitVec 32 := 0#32
  let v160 : BitVec 1 := Scalar.cmpi .eq c2_i32_87 c0_i32_88
  let c1_i32_89 : BitVec 32 := 1#32
  let v161 : BitVec 32 := Scalar.select v160 c1_i32_89 c2_i32_87
  let v162 : BitVec 32 := Scalar.remsi v159 v161
  let c0_i32_91 : BitVec 32 := 0#32
  let v164 : BitVec 1 := Scalar.cmpi .slt v162 c0_i32_91
  let c0_i32_92 : BitVec 32 := 0#32
  let v165 : BitVec 1 := Scalar.cmpi .slt v161 c0_i32_92
  let v166 : BitVec 1 := Scalar.xori v164 v165
  let c0_i32_90 : BitVec 32 := 0#32
  let v163 : BitVec 1 := Scalar.cmpi .ne v162 c0_i32_90
  let v167 : BitVec 1 := Scalar.andi v166 v163
  let v168 : BitVec 32 := Scalar.addi v162 v161
  let v169 : BitVec 32 := Scalar.select v167 v168 v162
  let v170 : Index := Scalar.indexCast v169
  let c0_93 : Index := 0#32
  let c0_94 : Index := 0#32
  ![v170.toNat, 0, 0]
def k0_off8 (i : grid0.Coords) : Fin 3 → Nat :=
  let c1_i32_95 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v174 : BitVec 32 := Scalar.subi c1_i32_95 v9
  let v175 : Index := Scalar.indexCast v174
  let arg1 : BitVec 32 := BitVec.ofNat 32 (i 1).val
  let c1_i32_84 : BitVec 32 := 1#32
  let v156 : BitVec 32 := Scalar.subi arg1 c1_i32_84
  let c256_i32_85 : BitVec 32 := 256#32
  let v157 : BitVec 32 := Scalar.muli v156 c256_i32_85
  let v158 : BitVec 32 := v157
  let v176 : Index := Scalar.indexCast v158
  let c0_96 : Index := 0#32
  ![v175.toNat, v176.toNat, 0]
def k0_cond4 (i : grid0.Coords) : BitVec 1 :=
  let arg0 : BitVec 32 := BitVec.ofNat 32 (i 0).val
  let c0_i32_12 : BitVec 32 := 0#32
  let v25 : BitVec 1 := Scalar.cmpi .sgt arg0 c0_i32_12
  let arg1 : BitVec 32 := BitVec.ofNat 32 (i 1).val
  let c0_i32_13 : BitVec 32 := 0#32
  let v26 : BitVec 1 := Scalar.cmpi .eq arg1 c0_i32_13
  let v27 : BitVec 1 := Scalar.andi v25 v26
  let v28 : BitVec 32 := Scalar.extui v27
  let c0_i32_14 : BitVec 32 := 0#32
  let v29 : BitVec 1 := Scalar.cmpi .ne v28 c0_i32_14
  v29

def k0_mult36 (i : grid0.Coords) : BitVec 32 :=
  let c21504_i32 : BitVec 32 := 21504#32
  let arg0 : BitVec 32 := BitVec.ofNat 32 (i 0).val
  let c8_i32_67 : BitVec 32 := 8#32
  let c0_i32_68 : BitVec 32 := 0#32
  let v124 : BitVec 1 := Scalar.cmpi .eq c8_i32_67 c0_i32_68
  let c1_i32_69 : BitVec 32 := 1#32
  let v125 : BitVec 32 := Scalar.select v124 c1_i32_69 c8_i32_67
  let v126 : BitVec 32 := Scalar.remsi arg0 v125
  let c0_i32_71 : BitVec 32 := 0#32
  let v128 : BitVec 1 := Scalar.cmpi .slt v126 c0_i32_71
  let c0_i32_72 : BitVec 32 := 0#32
  let v129 : BitVec 1 := Scalar.cmpi .slt v125 c0_i32_72
  let v130 : BitVec 1 := Scalar.xori v128 v129
  let c0_i32_70 : BitVec 32 := 0#32
  let v127 : BitVec 1 := Scalar.cmpi .ne v126 c0_i32_70
  let v131 : BitVec 1 := Scalar.andi v130 v127
  let v132 : BitVec 32 := Scalar.addi v126 v125
  let v133 : BitVec 32 := Scalar.select v131 v132 v126
  let c1024_i32 : BitVec 32 := 1024#32
  let v134 : BitVec 32 := Scalar.muli v133 c1024_i32
  let v135 : BitVec 32 := Scalar.addi c21504_i32 v134
  v135
def k0_off9 (i : grid0.Coords) : Fin 2 → Nat :=
  let c3840_i32 : BitVec 32 := 3840#32
  let c21504_i32 : BitVec 32 := 21504#32
  let arg0 : BitVec 32 := BitVec.ofNat 32 (i 0).val
  let c8_i32_67 : BitVec 32 := 8#32
  let c0_i32_68 : BitVec 32 := 0#32
  let v124 : BitVec 1 := Scalar.cmpi .eq c8_i32_67 c0_i32_68
  let c1_i32_69 : BitVec 32 := 1#32
  let v125 : BitVec 32 := Scalar.select v124 c1_i32_69 c8_i32_67
  let v126 : BitVec 32 := Scalar.remsi arg0 v125
  let c0_i32_71 : BitVec 32 := 0#32
  let v128 : BitVec 1 := Scalar.cmpi .slt v126 c0_i32_71
  let c0_i32_72 : BitVec 32 := 0#32
  let v129 : BitVec 1 := Scalar.cmpi .slt v125 c0_i32_72
  let v130 : BitVec 1 := Scalar.xori v128 v129
  let c0_i32_70 : BitVec 32 := 0#32
  let v127 : BitVec 1 := Scalar.cmpi .ne v126 c0_i32_70
  let v131 : BitVec 1 := Scalar.andi v130 v127
  let v132 : BitVec 32 := Scalar.addi v126 v125
  let v133 : BitVec 32 := Scalar.select v131 v132 v126
  let c1024_i32 : BitVec 32 := 1024#32
  let v134 : BitVec 32 := Scalar.muli v133 c1024_i32
  let v135 : BitVec 32 := Scalar.addi c21504_i32 v134
  let v136 : BitVec 32 := v135
  ![3840, v136.toNat]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v145 : Index := Scalar.indexCast v9
  let c3840 : Index := 3840#32
  let c0_79 : Index := 0#32
  ![v145.toNat, 3840, 0]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : Index := Scalar.indexCast v9
  let c0_16 : Index := 0#32
  let c0_17 : Index := 0#32
  ![v32.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== GatesReferenceIdeal.lean ====
abbrev S4x4096x4096 : Shape := ⟨3, ![4, 4096, 4096]⟩
abbrev S1x4096x29696 : Shape := ⟨3, ![1, 4096, 29696]⟩
abbrev S4096x29696 : Shape := ⟨2, ![4096, 29696]⟩
abbrev S4096x8192 : Shape := ⟨2, ![4096, 8192]⟩
abbrev S4x4096x8192 : Shape := ⟨3, ![4, 4096, 8192]⟩
abbrev S_ : Shape := ⟨0, ![]⟩
abbrev S16384x8192 : Shape := ⟨2, ![16384, 8192]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096x29696, .f32⟩
  | .hbm, ⟨2, _⟩ => ⟨S4096x29696, .f32⟩
  | .hbm, ⟨3, _⟩ => ⟨S4096x8192, .f32⟩
  | .hbm, ⟨4, _⟩ => ⟨S4x4096x8192, .f32⟩
  | .hbm, ⟨5, _⟩ => ⟨S4x4096x8192, .f32⟩
  | .hbm, ⟨6, _⟩ => ⟨S4x4096x8192, .f32⟩
  | .hbm, ⟨7, _⟩ => ⟨S_, .f32⟩
  | .hbm, ⟨8, _⟩ => ⟨S4x4096x8192, .f32⟩
  | .hbm, ⟨9, _⟩ => ⟨S4x4096x8192, .f32⟩
  | .hbm, ⟨10, _⟩ => ⟨S_, .f32⟩
  | .hbm, ⟨11, _⟩ => ⟨S4x4096x8192, .f32⟩
  | .hbm, ⟨12, _⟩ => ⟨S4x4096x8192, .f32⟩
  | .hbm, ⟨13, _⟩ => ⟨S16384x8192, .f32⟩
  | .hbm, ⟨14, _⟩ => ⟨S16384x8192, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Silu.lean ====
abbrev S4x4096x4096 : Shape := ⟨3, ![4, 4096, 4096]⟩
abbrev S1x4096x29696 : Shape := ⟨3, ![1, 4096, 29696]⟩
abbrev S16384x4096 : Shape := ⟨2, ![16384, 4096]⟩
abbrev S4096x29696 : Shape := ⟨2, ![4096, 29696]⟩
abbrev S16384x8192 : Shape := ⟨2, ![16384, 8192]⟩
abbrev S1024x4096 : Shape := ⟨2, ![1024, 4096]⟩
abbrev S1024x1024 : Shape := ⟨2, ![1024, 1024]⟩
abbrev S2x4096x1024 : Shape := ⟨3, ![2, 4096, 1024]⟩
abbrev S2x256x1024 : Shape := ⟨3, ![2, 256, 1024]⟩
abbrev S2 : Shape := ⟨1, ![2]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1x4096x1024 : Shape := ⟨3, ![1, 4096, 1024]⟩
abbrev S4096x1024 : Shape := ⟨2, ![4096, 1024]⟩
abbrev S1024x128 : Shape := ⟨2, ![1024, 128]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S1x4096x29696, .f32⟩
  | .hbm, ⟨2, _⟩ => ⟨S16384x4096, .f32⟩
  | .hbm, ⟨3, _⟩ => ⟨S16384x4096, .bf16⟩
  | .hbm, ⟨4, _⟩ => ⟨S4096x29696, .f32⟩
  | .hbm, ⟨5, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .bf16⟩
  | .local _ .vmem, ⟨3, _⟩ => ⟨S1024x1024, .bf16⟩
  | .local _ .vmem, ⟨4, _⟩ => ⟨S2x4096x1024, .bf16⟩
  | .local _ .vmem, ⟨5, _⟩ => ⟨S2x256x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let arg1 : BitVec 32 := BitVec.ofNat 32 (i 1).val
  let c0_i32_4 : BitVec 32 := 0#32
  let v11 : BitVec 1 := Scalar.cmpi .eq arg1 c0_i32_4
  let v12 : BitVec 1 := Scalar.andi v10 v11
  let v13 : BitVec 32 := Scalar.extui v12
  let c0_i32_5 : BitVec 32 := 0#32
  let v14 : BitVec 1 := Scalar.cmpi .ne v13 c0_i32_5
  v14

def k0_mult1 : BitVec 32 :=
  let v_false : BitVec 1 := 0#1
  let c17408_i32 : BitVec 32 := 17408#32
  let c5120_i32 : BitVec 32 := 5120#32
  let v108 : BitVec 32 := Scalar.select v_false c17408_i32 c5120_i32
  let c0_i32_51 : BitVec 32 := 0#32
  let v109 : BitVec 32 := Scalar.addi v108 c0_i32_51
  v109
def k0_off1 : Fin 2 → Nat :=
  let c0_i32_56 : BitVec 32 := 0#32
  let v_false : BitVec 1 := 0#1
  let c17408_i32 : BitVec 32 := 17408#32
  let c5120_i32 : BitVec 32 := 5120#32
  let v108 : BitVec 32 := Scalar.select v_false c17408_i32 c5120_i32
  let c0_i32_51 : BitVec 32 := 0#32
  let v109 : BitVec 32 := Scalar.addi v108 c0_i32_51
  let v110 : BitVec 32 := v109
  ![0, v110.toNat]
def k0_mult2 : BitVec 32 :=
  let false_57 : BitVec 1 := 0#1
  let c17408_i32_58 : BitVec 32 := 17408#32
  let c5120_i32_59 : BitVec 32 := 5120#32
  let v116 : BitVec 32 := Scalar.select false_57 c17408_i32_58 c5120_i32_59
  let c0_i32_60 : BitVec 32 := 0#32
  let v117 : BitVec 32 := Scalar.addi v116 c0_i32_60
  v117
def k0_off2 : Fin 2 → Nat :=
  let c256_i32 : BitVec 32 := 256#32
  let false_57 : BitVec 1 := 0#1
  let c17408_i32_58 : BitVec 32 := 17408#32
  let c5120_i32_59 : BitVec 32 := 5120#32
  let v116 : BitVec 32 := Scalar.select false_57 c17408_i32_58 c5120_i32_59
  let c0_i32_60 : BitVec 32 := 0#32
  let v117 : BitVec 32 := Scalar.addi v116 c0_i32_60
  let v118 : BitVec 32 := v117
  ![256, v118.toNat]
def k0_mult3 : BitVec 32 :=
  let false_65 : BitVec 1 := 0#1
  let c17408_i32_66 : BitVec 32 := 17408#32
  let c5120_i32_67 : BitVec 32 := 5120#32
  let v124 : BitVec 32 := Scalar.select false_65 c17408_i32_66 c5120_i32_67
  let c0_i32_68 : BitVec 32 := 0#32
  let v125 : BitVec 32 := Scalar.addi v124 c0_i32_68
  v125
def k0_mult4 : BitVec 32 :=
  let false_80 : BitVec 1 := 0#1
  let c17408_i32_81 : BitVec 32 := 17408#32
  let c5120_i32_82 : BitVec 32 := 5120#32
  let v138 : BitVec 32 := Scalar.select false_80 c17408_i32_81 c5120_i32_82
  let c0_i32_83 : BitVec 32 := 0#32
  let v139 : BitVec 32 := Scalar.addi v138 c0_i32_83
  v139
def k0_off3 : Fin 2 → Nat :=
  let c512_i32 : BitVec 32 := 512#32
  let false_80 : BitVec 1 := 0#1
  let c17408_i32_81 : BitVec 32 := 17408#32
  let c5120_i32_82 : BitVec 32 := 5120#32
  let v138 : BitVec 32 := Scalar.select false_80 c17408_i32_81 c5120_i32_82
  let c0_i32_83 : BitVec 32 := 0#32
  let v139 : BitVec 32 := Scalar.addi v138 c0_i32_83
  let v140 : BitVec 32 := v139
  ![512, v140.toNat]
def k0_mult5 : BitVec 32 :=
  let false_88 : BitVec 1 := 0#1
  let c17408_i32_89 : BitVec 32 := 17408#32
  let c5120_i32_90 : BitVec 32 := 5120#32
  let v146 : BitVec 32 := Scalar.select false_88 c17408_i32_89 c5120_i32_90
  let c0_i32_91 : BitVec 32 := 0#32
  let v147 : BitVec 32 := Scalar.addi v146 c0_i32_91
  v147
def k0_mult6 : BitVec 32 :=
  let false_102 : BitVec 1 := 0#1
  let c17408_i32_103 : BitVec 32 := 17408#32
  let c5120_i32_104 : BitVec 32 := 5120#32
  let v160 : BitVec 32 := Scalar.select false_102 c17408_i32_103 c5120_i32_104
  let c0_i32_105 : BitVec 32 := 0#32
  let v161 : BitVec 32 := Scalar.addi v160 c0_i32_105
  v161
def k0_off4 : Fin 2 → Nat :=
  let c768_i32 : BitVec 32 := 768#32
  let false_102 : BitVec 1 := 0#1
  let c17408_i32_103 : BitVec 32 := 17408#32
  let c5120_i32_104 : BitVec 32 := 5120#32
  let v160 : BitVec 32 := Scalar.select false_102 c17408_i32_103 c5120_i32_104
  let c0_i32_105 : BitVec 32 := 0#32
  let v161 : BitVec 32 := Scalar.addi v160 c0_i32_105
  let v162 : BitVec 32 := v161
  ![768, v162.toNat]
def k0_mult7 : BitVec 32 :=
  let false_110 : BitVec 1 := 0#1
  let c17408_i32_111 : BitVec 32 := 17408#32
  let c5120_i32_112 : BitVec 32 := 5120#32
  let v168 : BitVec 32 := Scalar.select false_110 c17408_i32_111 c5120_i32_112
  let c0_i32_113 : BitVec 32 := 0#32
  let v169 : BitVec 32 := Scalar.addi v168 c0_i32_113
  v169
def k0_mult8 : BitVec 32 :=
  let false_125 : BitVec 1 := 0#1
  let c17408_i32_126 : BitVec 32 := 17408#32
  let c5120_i32_127 : BitVec 32 := 5120#32
  let v182 : BitVec 32 := Scalar.select false_125 c17408_i32_126 c5120_i32_127
  let c0_i32_128 : BitVec 32 := 0#32
  let v183 : BitVec 32 := Scalar.addi v182 c0_i32_128
  v183
def k0_off5 : Fin 2 → Nat :=
  let c1024_i32 : BitVec 32 := 1024#32
  let false_125 : BitVec 1 := 0#1
  let c17408_i32_126 : BitVec 32 := 17408#32
  let c5120_i32_127 : BitVec 32 := 5120#32
  let v182 : BitVec 32 := Scalar.select false_125 c17408_i32_126 c5120_i32_127
  let c0_i32_128 : BitVec 32 := 0#32
  let v183 : BitVec 32 := Scalar.addi v182 c0_i32_128
  let v184 : BitVec 32 := v183
  ![1024, v184.toNat]
def k0_mult9 : BitVec 32 :=
  let false_133 : BitVec 1 := 0#1
  let c17408_i32_134 : BitVec 32 := 17408#32
  let c5120_i32_135 : BitVec 32 := 5120#32
  let v190 : BitVec 32 := Scalar.select false_133 c17408_i32_134 c5120_i32_135
  let c0_i32_136 : BitVec 32 := 0#32
  let v191 : BitVec 32 := Scalar.addi v190 c0_i32_136
  v191
def k0_mult10 : BitVec 32 :=
  let false_148 : BitVec 1 := 0#1
  let c17408_i32_149 : BitVec 32 := 17408#32
  let c5120_i32_150 : BitVec 32 := 5120#32
  let v204 : BitVec 32 := Scalar.select false_148 c17408_i32_149 c5120_i32_150
  let c0_i32_151 : BitVec 32 := 0#32
  let v205 : BitVec 32 := Scalar.addi v204 c0_i32_151
  v205
def k0_off6 : Fin 2 → Nat :=
  let c1280_i32 : BitVec 32 := 1280#32
  let false_148 : BitVec 1 := 0#1
  let c17408_i32_149 : BitVec 32 := 17408#32
  let c5120_i32_150 : BitVec 32 := 5120#32
  let v204 : BitVec 32 := Scalar.select false_148 c17408_i32_149 c5120_i32_150
  let c0_i32_151 : BitVec 32 := 0#32
  let v205 : BitVec 32 := Scalar.addi v204 c0_i32_151
  let v206 : BitVec 32 := v205
  ![1280, v206.toNat]
def k0_mult11 : BitVec 32 :=
  let false_156 : BitVec 1 := 0#1
  let c17408_i32_157 : BitVec 32 := 17408#32
  let c5120_i32_158 : BitVec 32 := 5120#32
  let v212 : BitVec 32 := Scalar.select false_156 c17408_i32_157 c5120_i32_158
  let c0_i32_159 : BitVec 32 := 0#32
  let v213 : BitVec 32 := Scalar.addi v212 c0_i32_159
  v213
def k0_mult12 : BitVec 32 :=
  let false_170 : BitVec 1 := 0#1
  let c17408_i32_171 : BitVec 32 := 17408#32
  let c5120_i32_172 : BitVec 32 := 5120#32
  let v226 : BitVec 32 := Scalar.select false_170 c17408_i32_171 c5120_i32_172
  let c0_i32_173 : BitVec 32 := 0#32
  let v227 : BitVec 32 := Scalar.addi v226 c0_i32_173
  v227
def k0_off7 : Fin 2 → Nat :=
  let c1536_i32 : BitVec 32 := 1536#32
  let false_170 : BitVec 1 := 0#1
  let c17408_i32_171 : BitVec 32 := 17408#32
  let c5120_i32_172 : BitVec 32 := 5120#32
  let v226 : BitVec 32 := Scalar.select false_170 c17408_i32_171 c5120_i32_172
  let c0_i32_173 : BitVec 32 := 0#32
  let v227 : BitVec 32 := Scalar.addi v226 c0_i32_173
  let v228 : BitVec 32 := v227
  ![1536, v228.toNat]
def k0_mult13 : BitVec 32 :=
  let false_178 : BitVec 1 := 0#1
  let c17408_i32_179 : BitVec 32 := 17408#32
  let c5120_i32_180 : BitVec 32 := 5120#32
  let v234 : BitVec 32 := Scalar.select false_178 c17408_i32_179 c5120_i32_180
  let c0_i32_181 : BitVec 32 := 0#32
  let v235 : BitVec 32 := Scalar.addi v234 c0_i32_181
  v235
def k0_mult14 : BitVec 32 :=
  let false_192 : BitVec 1 := 0#1
  let c17408_i32_193 : BitVec 32 := 17408#32
  let c5120_i32_194 : BitVec 32 := 5120#32
  let v248 : BitVec 32 := Scalar.select false_192 c17408_i32_193 c5120_i32_194
  let c0_i32_195 : BitVec 32 := 0#32
  let v249 : BitVec 32 := Scalar.addi v248 c0_i32_195
  v249
def k0_off8 : Fin 2 → Nat :=
  let c1792_i32 : BitVec 32 := 1792#32
  let false_192 : BitVec 1 := 0#1
  let c17408_i32_193 : BitVec 32 := 17408#32
  let c5120_i32_194 : BitVec 32 := 5120#32
  let v248 : BitVec 32 := Scalar.select false_192 c17408_i32_193 c5120_i32_194
  let c0_i32_195 : BitVec 32 := 0#32
  let v249 : BitVec 32 := Scalar.addi v248 c0_i32_195
  let v250 : BitVec 32 := v249
  ![1792, v250.toNat]
def k0_mult15 : BitVec 32 :=
  let false_200 : BitVec 1 := 0#1
  let c17408_i32_201 : BitVec 32 := 17408#32
  let c5120_i32_202 : BitVec 32 := 5120#32
  let v256 : BitVec 32 := Scalar.select false_200 c17408_i32_201 c5120_i32_202
  let c0_i32_203 : BitVec 32 := 0#32
  let v257 : BitVec 32 := Scalar.addi v256 c0_i32_203
  v257
def k0_mult16 : BitVec 32 :=
  let false_214 : BitVec 1 := 0#1
  let c17408_i32_215 : BitVec 32 := 17408#32
  let c5120_i32_216 : BitVec 32 := 5120#32
  let v270 : BitVec 32 := Scalar.select false_214 c17408_i32_215 c5120_i32_216
  let c0_i32_217 : BitVec 32 := 0#32
  let v271 : BitVec 32 := Scalar.addi v270 c0_i32_217
  v271
def k0_off9 : Fin 2 → Nat :=
  let c2048_i32 : BitVec 32 := 2048#32
  let false_214 : BitVec 1 := 0#1
  let c17408_i32_215 : BitVec 32 := 17408#32
  let c5120_i32_216 : BitVec 32 := 5120#32
  let v270 : BitVec 32 := Scalar.select false_214 c17408_i32_215 c5120_i32_216
  let c0_i32_217 : BitVec 32 := 0#32
  let v271 : BitVec 32 := Scalar.addi v270 c0_i32_217
  let v272 : BitVec 32 := v271
  ![2048, v272.toNat]
def k0_mult17 : BitVec 32 :=
  let false_222 : BitVec 1 := 0#1
  let c17408_i32_223 : BitVec 32 := 17408#32
  let c5120_i32_224 : BitVec 32 := 5120#32
  let v278 : BitVec 32 := Scalar.select false_222 c17408_i32_223 c5120_i32_224
  let c0_i32_225 : BitVec 32 := 0#32
  let v279 : BitVec 32 := Scalar.addi v278 c0_i32_225
  v279
def k0_mult18 : BitVec 32 :=
  let false_236 : BitVec 1 := 0#1
  let c17408_i32_237 : BitVec 32 := 17408#32
  let c5120_i32_238 : BitVec 32 := 5120#32
  let v292 : BitVec 32 := Scalar.select false_236 c17408_i32_237 c5120_i32_238
  let c0_i32_239 : BitVec 32 := 0#32
  let v293 : BitVec 32 := Scalar.addi v292 c0_i32_239
  v293
def k0_off10 : Fin 2 → Nat :=
  let c2304_i32 : BitVec 32 := 2304#32
  let false_236 : BitVec 1 := 0#1
  let c17408_i32_237 : BitVec 32 := 17408#32
  let c5120_i32_238 : BitVec 32 := 5120#32
  let v292 : BitVec 32 := Scalar.select false_236 c17408_i32_237 c5120_i32_238
  let c0_i32_239 : BitVec 32 := 0#32
  let v293 : BitVec 32 := Scalar.addi v292 c0_i32_239
  let v294 : BitVec 32 := v293
  ![2304, v294.toNat]
def k0_mult19 : BitVec 32 :=
  let false_244 : BitVec 1 := 0#1
  let c17408_i32_245 : BitVec 32 := 17408#32
  let c5120_i32_246 : BitVec 32 := 5120#32
  let v300 : BitVec 32 := Scalar.select false_244 c17408_i32_245 c5120_i32_246
  let c0_i32_247 : BitVec 32 := 0#32
  let v301 : BitVec 32 := Scalar.addi v300 c0_i32_247
  v301
def k0_mult20 : BitVec 32 :=
  let false_258 : BitVec 1 := 0#1
  let c17408_i32_259 : BitVec 32 := 17408#32
  let c5120_i32_260 : BitVec 32 := 5120#32
  let v314 : BitVec 32 := Scalar.select false_258 c17408_i32_259 c5120_i32_260
  let c0_i32_261 : BitVec 32 := 0#32
  let v315 : BitVec 32 := Scalar.addi v314 c0_i32_261
  v315
def k0_off11 : Fin 2 → Nat :=
  let c2560_i32 : BitVec 32 := 2560#32
  let false_258 : BitVec 1 := 0#1
  let c17408_i32_259 : BitVec 32 := 17408#32
  let c5120_i32_260 : BitVec 32 := 5120#32
  let v314 : BitVec 32 := Scalar.select false_258 c17408_i32_259 c5120_i32_260
  let c0_i32_261 : BitVec 32 := 0#32
  let v315 : BitVec 32 := Scalar.addi v314 c0_i32_261
  let v316 : BitVec 32 := v315
  ![2560, v316.toNat]
def k0_mult21 : BitVec 32 :=
  let false_266 : BitVec 1 := 0#1
  let c17408_i32_267 : BitVec 32 := 17408#32
  let c5120_i32_268 : BitVec 32 := 5120#32
  let v322 : BitVec 32 := Scalar.select false_266 c17408_i32_267 c5120_i32_268
  let c0_i32_269 : BitVec 32 := 0#32
  let v323 : BitVec 32 := Scalar.addi v322 c0_i32_269
  v323
def k0_mult22 : BitVec 32 :=
  let false_280 : BitVec 1 := 0#1
  let c17408_i32_281 : BitVec 32 := 17408#32
  let c5120_i32_282 : BitVec 32 := 5120#32
  let v336 : BitVec 32 := Scalar.select false_280 c17408_i32_281 c5120_i32_282
  let c0_i32_283 : BitVec 32 := 0#32
  let v337 : BitVec 32 := Scalar.addi v336 c0_i32_283
  v337
def k0_off12 : Fin 2 → Nat :=
  let c2816_i32 : BitVec 32 := 2816#32
  let false_280 : BitVec 1 := 0#1
  let c17408_i32_281 : BitVec 32 := 17408#32
  let c5120_i32_282 : BitVec 32 := 5120#32
  let v336 : BitVec 32 := Scalar.select false_280 c17408_i32_281 c5120_i32_282
  let c0_i32_283 : BitVec 32 := 0#32
  let v337 : BitVec 32 := Scalar.addi v336 c0_i32_283
  let v338 : BitVec 32 := v337
  ![2816, v338.toNat]
def k0_mult23 : BitVec 32 :=
  let false_288 : BitVec 1 := 0#1
  let c17408_i32_289 : BitVec 32 := 17408#32
  let c5120_i32_290 : BitVec 32 := 5120#32
  let v344 : BitVec 32 := Scalar.select false_288 c17408_i32_289 c5120_i32_290
  let c0_i32_291 : BitVec 32 := 0#32
  let v345 : BitVec 32 := Scalar.addi v344 c0_i32_291
  v345
def k0_mult24 : BitVec 32 :=
  let false_302 : BitVec 1 := 0#1
  let c17408_i32_303 : BitVec 32 := 17408#32
  let c5120_i32_304 : BitVec 32 := 5120#32
  let v358 : BitVec 32 := Scalar.select false_302 c17408_i32_303 c5120_i32_304
  let c0_i32_305 : BitVec 32 := 0#32
  let v359 : BitVec 32 := Scalar.addi v358 c0_i32_305
  v359
def k0_off13 : Fin 2 → Nat :=
  let c3072_i32 : BitVec 32 := 3072#32
  let false_302 : BitVec 1 := 0#1
  let c17408_i32_303 : BitVec 32 := 17408#32
  let c5120_i32_304 : BitVec 32 := 5120#32
  let v358 : BitVec 32 := Scalar.select false_302 c17408_i32_303 c5120_i32_304
  let c0_i32_305 : BitVec 32 := 0#32
  let v359 : BitVec 32 := Scalar.addi v358 c0_i32_305
  let v360 : BitVec 32 := v359
  ![3072, v360.toNat]
def k0_mult25 : BitVec 32 :=
  let false_310 : BitVec 1 := 0#1
  let c17408_i32_311 : BitVec 32 := 17408#32
  let c5120_i32_312 : BitVec 32 := 5120#32
  let v366 : BitVec 32 := Scalar.select false_310 c17408_i32_311 c5120_i32_312
  let c0_i32_313 : BitVec 32 := 0#32
  let v367 : BitVec 32 := Scalar.addi v366 c0_i32_313
  v367
def k0_mult26 : BitVec 32 :=
  let false_324 : BitVec 1 := 0#1
  let c17408_i32_325 : BitVec 32 := 17408#32
  let c5120_i32_326 : BitVec 32 := 5120#32
  let v380 : BitVec 32 := Scalar.select false_324 c17408_i32_325 c5120_i32_326
  let c0_i32_327 : BitVec 32 := 0#32
  let v381 : BitVec 32 := Scalar.addi v380 c0_i32_327
  v381
def k0_off14 : Fin 2 → Nat :=
  let c3328_i32 : BitVec 32 := 3328#32
  let false_324 : BitVec 1 := 0#1
  let c17408_i32_325 : BitVec 32 := 17408#32
  let c5120_i32_326 : BitVec 32 := 5120#32
  let v380 : BitVec 32 := Scalar.select false_324 c17408_i32_325 c5120_i32_326
  let c0_i32_327 : BitVec 32 := 0#32
  let v381 : BitVec 32 := Scalar.addi v380 c0_i32_327
  let v382 : BitVec 32 := v381
  ![3328, v382.toNat]
def k0_mult27 : BitVec 32 :=
  let false_332 : BitVec 1 := 0#1
  let c17408_i32_333 : BitVec 32 := 17408#32
  let c5120_i32_334 : BitVec 32 := 5120#32
  let v388 : BitVec 32 := Scalar.select false_332 c17408_i32_333 c5120_i32_334
  let c0_i32_335 : BitVec 32 := 0#32
  let v389 : BitVec 32 := Scalar.addi v388 c0_i32_335
  v389
def k0_mult28 : BitVec 32 :=
  let false_346 : BitVec 1 := 0#1
  let c17408_i32_347 : BitVec 32 := 17408#32
  let c5120_i32_348 : BitVec 32 := 5120#32
  let v402 : BitVec 32 := Scalar.select false_346 c17408_i32_347 c5120_i32_348
  let c0_i32_349 : BitVec 32 := 0#32
  let v403 : BitVec 32 := Scalar.addi v402 c0_i32_349
  v403
def k0_off15 : Fin 2 → Nat :=
  let c3584_i32 : BitVec 32 := 3584#32
  let false_346 : BitVec 1 := 0#1
  let c17408_i32_347 : BitVec 32 := 17408#32
  let c5120_i32_348 : BitVec 32 := 5120#32
  let v402 : BitVec 32 := Scalar.select false_346 c17408_i32_347 c5120_i32_348
  let c0_i32_349 : BitVec 32 := 0#32
  let v403 : BitVec 32 := Scalar.addi v402 c0_i32_349
  let v404 : BitVec 32 := v403
  ![3584, v404.toNat]
def k0_mult29 : BitVec 32 :=
  let false_354 : BitVec 1 := 0#1
  let c17408_i32_355 : BitVec 32 := 17408#32
  let c5120_i32_356 : BitVec 32 := 5120#32
  let v410 : BitVec 32 := Scalar.select false_354 c17408_i32_355 c5120_i32_356
  let c0_i32_357 : BitVec 32 := 0#32
  let v411 : BitVec 32 := Scalar.addi v410 c0_i32_357
  v411
def k0_mult30 : BitVec 32 :=
  let false_368 : BitVec 1 := 0#1
  let c17408_i32_369 : BitVec 32 := 17408#32
  let c5120_i32_370 : BitVec 32 := 5120#32
  let v424 : BitVec 32 := Scalar.select false_368 c17408_i32_369 c5120_i32_370
  let c0_i32_371 : BitVec 32 := 0#32
  let v425 : BitVec 32 := Scalar.addi v424 c0_i32_371
  v425
def k0_off16 : Fin 2 → Nat :=
  let c3840_i32 : BitVec 32 := 3840#32
  let false_368 : BitVec 1 := 0#1
  let c17408_i32_369 : BitVec 32 := 17408#32
  let c5120_i32_370 : BitVec 32 := 5120#32
  let v424 : BitVec 32 := Scalar.select false_368 c17408_i32_369 c5120_i32_370
  let c0_i32_371 : BitVec 32 := 0#32
  let v425 : BitVec 32 := Scalar.addi v424 c0_i32_371
  let v426 : BitVec 32 := v425
  ![3840, v426.toNat]
def k0_mult31 : BitVec 32 :=
  let false_376 : BitVec 1 := 0#1
  let c17408_i32_377 : BitVec 32 := 17408#32
  let c5120_i32_378 : BitVec 32 := 5120#32
  let v432 : BitVec 32 := Scalar.select false_376 c17408_i32_377 c5120_i32_378
  let c0_i32_379 : BitVec 32 := 0#32
  let v433 : BitVec 32 := Scalar.addi v432 c0_i32_379
  v433
def k0_mult32 : BitVec 32 :=
  let false_390 : BitVec 1 := 0#1
  let c17408_i32_391 : BitVec 32 := 17408#32
  let c5120_i32_392 : BitVec 32 := 5120#32
  let v446 : BitVec 32 := Scalar.select false_390 c17408_i32_391 c5120_i32_392
  let c0_i32_393 : BitVec 32 := 0#32
  let v447 : BitVec 32 := Scalar.addi v446 c0_i32_393
  v447
def k0_cond2 (i : grid0.Coords) : BitVec 1 :=
  let arg0 : BitVec 32 := BitVec.ofNat 32 (i 0).val
  let c1_i32_6 : BitVec 32 := 1#32
  let v15 : BitVec 32 := Scalar.addi arg0 c1_i32_6
  let c8_i32 : BitVec 32 := 8#32
  let v16 : BitVec 1 := Scalar.cmpi .slt v15 c8_i32
  let v17 : BitVec 32 := Scalar.extui v16
  let c0_i32_7 : BitVec 32 := 0#32
  let v18 : BitVec 1 := Scalar.cmpi .ne v17 c0_i32_7
  v18

def k0_mult33 (i : grid0.Coords) : BitVec 32 :=
  let arg0 : BitVec 32 := BitVec.ofNat 32 (i 0).val
  let c1_i32_51 : BitVec 32 := 1#32
  let v108 : BitVec 32 := Scalar.addi arg0 c1_i32_51
  let c0_i32_58 : BitVec 32 := 0#32
  let v120 : BitVec 1 := Scalar.cmpi .sgt v108 c0_i32_58
  let v121 : BitVec 32 := Scalar.extui v120
  let c0_i32_59 : BitVec 32 := 0#32
  let v122 : BitVec 1 := Scalar.cmpi .slt v108 c0_i32_59
  let v123 : BitVec 32 := Scalar.extui v122
  let v124 : BitVec 32 := Scalar.subi v121 v123
  let c4_i32 : BitVec 32 := 4#32
  let c0_i32_60 : BitVec 32 := 0#32
  let v125 : BitVec 1 := Scalar.cmpi .sgt c4_i32 c0_i32_60
  let v126 : BitVec 32 := Scalar.extui v125
  let c0_i32_61 : BitVec 32 := 0#32
  let v127 : BitVec 1 := Scalar.cmpi .slt c4_i32 c0_i32_61
  let v128 : BitVec 32 := Scalar.extui v127
  let v129 : BitVec 32 := Scalar.subi v126 v128
  let v130 : BitVec 1 := Scalar.cmpi .ne v124 v129
  let v131 : BitVec 32 := Scalar.remsi v108 c4_i32
  let c0_i32_62 : BitVec 32 := 0#32
  let v132 : BitVec 1 := Scalar.cmpi .ne v131 c0_i32_62
  let v133 : BitVec 1 := Scalar.andi v130 v132
  let v119 : BitVec 32 := Scalar.divsi v108 c4_i32
  let c1_i32_63 : BitVec 32 := 1#32
  let v134 : BitVec 32 := Scalar.subi v119 c1_i32_63
  let v135 : BitVec 32 := Scalar.select v133 v134 v119
  let c1_i32_64 : BitVec 32 := 1#32
  let v136 : BitVec 1 := Scalar.cmpi .eq v135 c1_i32_64
  let c17408_i32 : BitVec 32 := 17408#32
  let c5120_i32 : BitVec 32 := 5120#32
  let v137 : BitVec 32 := Scalar.select v136 c17408_i32 c5120_i32
  let c4_i32_65 : BitVec 32 := 4#32
  let c0_i32_66 : BitVec 32 := 0#32
  let v138 : BitVec 1 := Scalar.cmpi .eq c4_i32_65 c0_i32_66
  let c1_i32_67 : BitVec 32 := 1#32
  let v139 : BitVec 32 := Scalar.select v138 c1_i32_67 c4_i32_65
  let v140 : BitVec 32 := Scalar.remsi v108 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let c1024_i32 : BitVec 32 := 1024#32
  let v148 : BitVec 32 := Scalar.muli v147 c1024_i32
  let v149 : BitVec 32 := Scalar.addi v137 v148
  v149
def k0_off17 (i : grid0.Coords) : Fin 1 → Nat :=
  let arg1 : BitVec 32 := BitVec.ofNat 32 (i 1).val
  let c2_i32_52 : BitVec 32 := 2#32
  let c0_i32_53 : BitVec 32 := 0#32
  let v109 : BitVec 1 := Scalar.cmpi .eq c2_i32_52 c0_i32_53
  let c1_i32_54 : BitVec 32 := 1#32
  let v110 : BitVec 32 := Scalar.select v109 c1_i32_54 c2_i32_52
  let v111 : BitVec 32 := Scalar.remsi arg1 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  ![v118.toNat]
def k0_off18 (i : grid0.Coords) : Fin 3 → Nat :=
  let arg1 : BitVec 32 := BitVec.ofNat 32 (i 1).val
  let c2_i32_52 : BitVec 32 := 2#32
  let c0_i32_53 : BitVec 32 := 0#32
  let v109 : BitVec 1 := Scalar.cmpi .eq c2_i32_52 c0_i32_53
  let c1_i32_54 : BitVec 32 := 1#32
  let v110 : BitVec 32 := Scalar.select v109 c1_i32_54 c2_i32_52
  let v111 : BitVec 32 := Scalar.remsi arg1 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c0_i32_71 : BitVec 32 := 0#32
  let c0_i32_72 : BitVec 32 := 0#32
  ![v118.toNat, 0, 0]
def k0_off19 (i : grid0.Coords) : Fin 2 → Nat :=
  let arg1 : BitVec 32 := BitVec.ofNat 32 (i 1).val
  let c256_i32 : BitVec 32 := 256#32
  let v151 : BitVec 32 := Scalar.muli arg1 c256_i32
  let arg0 : BitVec 32 := BitVec.ofNat 32 (i 0).val
  let c1_i32_51 : BitVec 32 := 1#32
  let v108 : BitVec 32 := Scalar.addi arg0 c1_i32_51
  let c0_i32_58 : BitVec 32 := 0#32
  let v120 : BitVec 1 := Scalar.cmpi .sgt v108 c0_i32_58
  let v121 : BitVec 32 := Scalar.extui v120
  let c0_i32_59 : BitVec 32 := 0#32
  let v122 : BitVec 1 := Scalar.cmpi .slt v108 c0_i32_59
  let v123 : BitVec 32 := Scalar.extui v122
  let v124 : BitVec 32 := Scalar.subi v121 v123
  let c4_i32 : BitVec 32 := 4#32
  let c0_i32_60 : BitVec 32 := 0#32
  let v125 : BitVec 1 := Scalar.cmpi .sgt c4_i32 c0_i32_60
  let v126 : BitVec 32 := Scalar.extui v125
  let c0_i32_61 : BitVec 32 := 0#32
  let v127 : BitVec 1 := Scalar.cmpi .slt c4_i32 c0_i32_61
  let v128 : BitVec 32 := Scalar.extui v127
  let v129 : BitVec 32 := Scalar.subi v126 v128
  let v130 : BitVec 1 := Scalar.cmpi .ne v124 v129
  let v131 : BitVec 32 := Scalar.remsi v108 c4_i32
  let c0_i32_62 : BitVec 32 := 0#32
  let v132 : BitVec 1 := Scalar.cmpi .ne v131 c0_i32_62
  let v133 : BitVec 1 := Scalar.andi v130 v132
  let v119 : BitVec 32 := Scalar.divsi v108 c4_i32
  let c1_i32_63 : BitVec 32 := 1#32
  let v134 : BitVec 32 := Scalar.subi v119 c1_i32_63
  let v135 : BitVec 32 := Scalar.select v133 v134 v119
  let c1_i32_64 : BitVec 32 := 1#32
  let v136 : BitVec 1 := Scalar.cmpi .eq v135 c1_i32_64
  let c17408_i32 : BitVec 32 := 17408#32
  let c5120_i32 : BitVec 32 := 5120#32
  let v137 : BitVec 32 := Scalar.select v136 c17408_i32 c5120_i32
  let c4_i32_65 : BitVec 32 := 4#32
  let c0_i32_66 : BitVec 32 := 0#32
  let v138 : BitVec 1 := Scalar.cmpi .eq c4_i32_65 c0_i32_66
  let c1_i32_67 : BitVec 32 := 1#32
  let v139 : BitVec 32 := Scalar.select v138 c1_i32_67 c4_i32_65
  let v140 : BitVec 32 := Scalar.remsi v108 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let c1024_i32 : BitVec 32 := 1024#32
  let v148 : BitVec 32 := Scalar.muli v147 c1024_i32
  let v149 : BitVec 32 := Scalar.addi v137 v148
  let v150 : BitVec 32 := v149
  ![v151.toNat, v150.toNat]
def k0_cond3 (i : grid0.Coords) : BitVec 1 :=
  let arg0 : BitVec 32 := BitVec.ofNat 32 (i 0).val
  let c1_i32_8 : BitVec 32 := 1#32
  let v19 : BitVec 32 := Scalar.addi arg0 c1_i32_8
  let c8_i32_9 : BitVec 32 := 8#32
  let v20 : BitVec 1 := Scalar.cmpi .slt v19 c8_i32_9
  let arg1 : BitVec 32 := BitVec.ofNat 32 (i 1).val
  let c0_i32_10 : BitVec 32 := 0#32
  let v21 : BitVec 1 := Scalar.cmpi .sgt arg1 c0_i32_10
  let v22 : BitVec 1 := Scalar.andi v20 v21
  let v23 : BitVec 32 := Scalar.extui v22
  let c0_i32_11 : BitVec 32 := 0#32
  let v24 : BitVec 1 := Scalar.cmpi .ne v23 c0_i32_11
  v24

def k0_mult34 (i : grid0.Coords) : BitVec 32 :=
  let arg0 : BitVec 32 := BitVec.ofNat 32 (i 0).val
  let c1_i32_51 : BitVec 32 := 1#32
  let v108 : BitVec 32 := Scalar.addi arg0 c1_i32_51
  let c0_i32_60 : BitVec 32 := 0#32
  let v122 : BitVec 1 := Scalar.cmpi .sgt v108 c0_i32_60
  let v123 : BitVec 32 := Scalar.extui v122
  let c0_i32_61 : BitVec 32 := 0#32
  let v124 : BitVec 1 := Scalar.cmpi .slt v108 c0_i32_61
  let v125 : BitVec 32 := Scalar.extui v124
  let v126 : BitVec 32 := Scalar.subi v123 v125
  let c4_i32 : BitVec 32 := 4#32
  let c0_i32_62 : BitVec 32 := 0#32
  let v127 : BitVec 1 := Scalar.cmpi .sgt c4_i32 c0_i32_62
  let v128 : BitVec 32 := Scalar.extui v127
  let c0_i32_63 : BitVec 32 := 0#32
  let v129 : BitVec 1 := Scalar.cmpi .slt c4_i32 c0_i32_63
  let v130 : BitVec 32 := Scalar.extui v129
  let v131 : BitVec 32 := Scalar.subi v128 v130
  let v132 : BitVec 1 := Scalar.cmpi .ne v126 v131
  let v133 : BitVec 32 := Scalar.remsi v108 c4_i32
  let c0_i32_64 : BitVec 32 := 0#32
  let v134 : BitVec 1 := Scalar.cmpi .ne v133 c0_i32_64
  let v135 : BitVec 1 := Scalar.andi v132 v134
  let v121 : BitVec 32 := Scalar.divsi v108 c4_i32
  let c1_i32_65 : BitVec 32 := 1#32
  let v136 : BitVec 32 := Scalar.subi v121 c1_i32_65
  let v137 : BitVec 32 := Scalar.select v135 v136 v121
  let c1_i32_66 : BitVec 32 := 1#32
  let v138 : BitVec 1 := Scalar.cmpi .eq v137 c1_i32_66
  let c17408_i32 : BitVec 32 := 17408#32
  let c5120_i32 : BitVec 32 := 5120#32
  let v139 : BitVec 32 := Scalar.select v138 c17408_i32 c5120_i32
  let c4_i32_67 : BitVec 32 := 4#32
  let c0_i32_68 : BitVec 32 := 0#32
  let v140 : BitVec 1 := Scalar.cmpi .eq c4_i32_67 c0_i32_68
  let c1_i32_69 : BitVec 32 := 1#32
  let v141 : BitVec 32 := Scalar.select v140 c1_i32_69 c4_i32_67
  let v142 : BitVec 32 := Scalar.remsi v108 v141
  let c0_i32_71 : BitVec 32 := 0#32
  let v144 : BitVec 1 := Scalar.cmpi .slt v142 c0_i32_71
  let c0_i32_72 : BitVec 32 := 0#32
  let v145 : BitVec 1 := Scalar.cmpi .slt v141 c0_i32_72
  let v146 : BitVec 1 := Scalar.xori v144 v145
  let c0_i32_70 : BitVec 32 := 0#32
  let v143 : BitVec 1 := Scalar.cmpi .ne v142 c0_i32_70
  let v147 : BitVec 1 := Scalar.andi v146 v143
  let v148 : BitVec 32 := Scalar.addi v142 v141
  let v149 : BitVec 32 := Scalar.select v147 v148 v142
  let c1024_i32 : BitVec 32 := 1024#32
  let v150 : BitVec 32 := Scalar.muli v149 c1024_i32
  let v151 : BitVec 32 := Scalar.addi v139 v150
  v151
def k0_off20 (i : grid0.Coords) : Fin 1 → Nat :=
  let arg1 : BitVec 32 := BitVec.ofNat 32 (i 1).val
  let c1_i32_53 : BitVec 32 := 1#32
  let v110 : BitVec 32 := Scalar.subi arg1 c1_i32_53
  let c2_i32_54 : BitVec 32 := 2#32
  let c0_i32_55 : BitVec 32 := 0#32
  let v111 : BitVec 1 := Scalar.cmpi .eq c2_i32_54 c0_i32_55
  let c1_i32_56 : BitVec 32 := 1#32
  let v112 : BitVec 32 := Scalar.select v111 c1_i32_56 c2_i32_54
  let v113 : BitVec 32 := Scalar.remsi v110 v112
  let c0_i32_58 : BitVec 32 := 0#32
  let v115 : BitVec 1 := Scalar.cmpi .slt v113 c0_i32_58
  let c0_i32_59 : BitVec 32 := 0#32
  let v116 : BitVec 1 := Scalar.cmpi .slt v112 c0_i32_59
  let v117 : BitVec 1 := Scalar.xori v115 v116
  let c0_i32_57 : BitVec 32 := 0#32
  let v114 : BitVec 1 := Scalar.cmpi .ne v113 c0_i32_57
  let v118 : BitVec 1 := Scalar.andi v117 v114
  let v119 : BitVec 32 := Scalar.addi v113 v112
  let v120 : BitVec 32 := Scalar.select v118 v119 v113
  ![v120.toNat]
def k0_off21 (i : grid0.Coords) : Fin 3 → Nat :=
  let arg1 : BitVec 32 := BitVec.ofNat 32 (i 1).val
  let c1_i32_53 : BitVec 32 := 1#32
  let v110 : BitVec 32 := Scalar.subi arg1 c1_i32_53
  let c2_i32_54 : BitVec 32 := 2#32
  let c0_i32_55 : BitVec 32 := 0#32
  let v111 : BitVec 1 := Scalar.cmpi .eq c2_i32_54 c0_i32_55
  let c1_i32_56 : BitVec 32 := 1#32
  let v112 : BitVec 32 := Scalar.select v111 c1_i32_56 c2_i32_54
  let v113 : BitVec 32 := Scalar.remsi v110 v112
  let c0_i32_58 : BitVec 32 := 0#32
  let v115 : BitVec 1 := Scalar.cmpi .slt v113 c0_i32_58
  let c0_i32_59 : BitVec 32 := 0#32
  let v116 : BitVec 1 := Scalar.cmpi .slt v112 c0_i32_59
  let v117 : BitVec 1 := Scalar.xori v115 v116
  let c0_i32_57 : BitVec 32 := 0#32
  let v114 : BitVec 1 := Scalar.cmpi .ne v113 c0_i32_57
  let v118 : BitVec 1 := Scalar.andi v117 v114
  let v119 : BitVec 32 := Scalar.addi v113 v112
  let v120 : BitVec 32 := Scalar.select v118 v119 v113
  let c0_i32_73 : BitVec 32 := 0#32
  let c0_i32_74 : BitVec 32 := 0#32
  ![v120.toNat, 0, 0]
def k0_off22 (i : grid0.Coords) : Fin 2 → Nat :=
  let arg1 : BitVec 32 := BitVec.ofNat 32 (i 1).val
  let c1_i32_52 : BitVec 32 := 1#32
  let v109 : BitVec 32 := Scalar.subi arg1 c1_i32_52
  let c256_i32 : BitVec 32 := 256#32
  let v153 : BitVec 32 := Scalar.muli v109 c256_i32
  let arg0 : BitVec 32 := BitVec.ofNat 32 (i 0).val
  let c1_i32_51 : BitVec 32 := 1#32
  let v108 : BitVec 32 := Scalar.addi arg0 c1_i32_51
  let c0_i32_60 : BitVec 32 := 0#32
  let v122 : BitVec 1 := Scalar.cmpi .sgt v108 c0_i32_60
  let v123 : BitVec 32 := Scalar.extui v122
  let c0_i32_61 : BitVec 32 := 0#32
  let v124 : BitVec 1 := Scalar.cmpi .slt v108 c0_i32_61
  let v125 : BitVec 32 := Scalar.extui v124
  let v126 : BitVec 32 := Scalar.subi v123 v125
  let c4_i32 : BitVec 32 := 4#32
  let c0_i32_62 : BitVec 32 := 0#32
  let v127 : BitVec 1 := Scalar.cmpi .sgt c4_i32 c0_i32_62
  let v128 : BitVec 32 := Scalar.extui v127
  let c0_i32_63 : BitVec 32 := 0#32
  let v129 : BitVec 1 := Scalar.cmpi .slt c4_i32 c0_i32_63
  let v130 : BitVec 32 := Scalar.extui v129
  let v131 : BitVec 32 := Scalar.subi v128 v130
  let v132 : BitVec 1 := Scalar.cmpi .ne v126 v131
  let v133 : BitVec 32 := Scalar.remsi v108 c4_i32
  let c0_i32_64 : BitVec 32 := 0#32
  let v134 : BitVec 1 := Scalar.cmpi .ne v133 c0_i32_64
  let v135 : BitVec 1 := Scalar.andi v132 v134
  let v121 : BitVec 32 := Scalar.divsi v108 c4_i32
  let c1_i32_65 : BitVec 32 := 1#32
  let v136 : BitVec 32 := Scalar.subi v121 c1_i32_65
  let v137 : BitVec 32 := Scalar.select v135 v136 v121
  let c1_i32_66 : BitVec 32 := 1#32
  let v138 : BitVec 1 := Scalar.cmpi .eq v137 c1_i32_66
  let c17408_i32 : BitVec 32 := 17408#32
  let c5120_i32 : BitVec 32 := 5120#32
  let v139 : BitVec 32 := Scalar.select v138 c17408_i32 c5120_i32
  let c4_i32_67 : BitVec 32 := 4#32
  let c0_i32_68 : BitVec 32 := 0#32
  let v140 : BitVec 1 := Scalar.cmpi .eq c4_i32_67 c0_i32_68
  let c1_i32_69 : BitVec 32 := 1#32
  let v141 : BitVec 32 := Scalar.select v140 c1_i32_69 c4_i32_67
  let v142 : BitVec 32 := Scalar.remsi v108 v141
  let c0_i32_71 : BitVec 32 := 0#32
  let v144 : BitVec 1 := Scalar.cmpi .slt v142 c0_i32_71
  let c0_i32_72 : BitVec 32 := 0#32
  let v145 : BitVec 1 := Scalar.cmpi .slt v141 c0_i32_72
  let v146 : BitVec 1 := Scalar.xori v144 v145
  let c0_i32_70 : BitVec 32 := 0#32
  let v143 : BitVec 1 := Scalar.cmpi .ne v142 c0_i32_70
  let v147 : BitVec 1 := Scalar.andi v146 v143
  let v148 : BitVec 32 := Scalar.addi v142 v141
  let v149 : BitVec 32 := Scalar.select v147 v148 v142
  let c1024_i32 : BitVec 32 := 1024#32
  let v150 : BitVec 32 := Scalar.muli v149 c1024_i32
  let v151 : BitVec 32 := Scalar.addi v139 v150
  let v152 : BitVec 32 := v151
  ![v153.toNat, v152.toNat]
def k0_mult35 (i : grid0.Coords) : BitVec 32 :=
  let arg1 : BitVec 32 := BitVec.ofNat 32 (i 1).val
  let c1_i32_75 : BitVec 32 := 1#32
  let v159 : BitVec 32 := Scalar.subi arg1 c1_i32_75
  let c256_i32_76 : BitVec 32 := 256#32
  let v160 : BitVec 32 := Scalar.muli v159 c256_i32_76
  v160
def k0_off23 (i : grid0.Coords) : Fin 3 → Nat :=
  let arg1 : BitVec 32 := BitVec.ofNat 32 (i 1).val
  let c1_i32_77 : BitVec 32 := 1#32
  let v162 : BitVec 32 := Scalar.subi arg1 c1_i32_77
  let c2_i32_78 : BitVec 32 := 2#32
  let c0_i32_79 : BitVec 32 := 0#32
  let v163 : BitVec 1 := Scalar.cmpi .eq c2_i32_78 c0_i32_79
  let c1_i32_80 : BitVec 32 := 1#32
  let v164 : BitVec 32 := Scalar.select v163 c1_i32_80 c2_i32_78
  let v165 : BitVec 32 := Scalar.remsi v162 v164
  let c0_i32_82 : BitVec 32 := 0#32
  let v167 : BitVec 1 := Scalar.cmpi .slt v165 c0_i32_82
  let c0_i32_83 : BitVec 32 := 0#32
  let v168 : BitVec 1 := Scalar.cmpi .slt v164 c0_i32_83
  let v169 : BitVec 1 := Scalar.xori v167 v168
  let c0_i32_81 : BitVec 32 := 0#32
  let v166 : BitVec 1 := Scalar.cmpi .ne v165 c0_i32_81
  let v170 : BitVec 1 := Scalar.andi v169 v166
  let v171 : BitVec 32 := Scalar.addi v165 v164
  let v172 : BitVec 32 := Scalar.select v170 v171 v165
  let v173 : Index := Scalar.indexCast v172
  let c0_84 : Index := 0#32
  let c0_85 : Index := 0#32
  ![v173.toNat, 0, 0]
def k0_off24 (i : grid0.Coords) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v177 : BitVec 32 := Scalar.subi c1_i32_86 v9
  let v178 : Index := Scalar.indexCast v177
  let arg1 : BitVec 32 := BitVec.ofNat 32 (i 1).val
  let c1_i32_75 : BitVec 32 := 1#32
  let v159 : BitVec 32 := Scalar.subi arg1 c1_i32_75
  let c256_i32_76 : BitVec 32 := 256#32
  let v160 : BitVec 32 := Scalar.muli v159 c256_i32_76
  let v161 : BitVec 32 := v160
  let v179 : Index := Scalar.indexCast v161
  let c0_87 : Index := 0#32
  ![v178.toNat, v179.toNat, 0]
def k0_cond4 (i : grid0.Coords) : BitVec 1 :=
  let arg0 : BitVec 32 := BitVec.ofNat 32 (i 0).val
  let c0_i32_12 : BitVec 32 := 0#32
  let v25 : BitVec 1 := Scalar.cmpi .sgt arg0 c0_i32_12
  let arg1 : BitVec 32 := BitVec.ofNat 32 (i 1).val
  let c0_i32_13 : BitVec 32 := 0#32
  let v26 : BitVec 1 := Scalar.cmpi .eq arg1 c0_i32_13
  let v27 : BitVec 1 := Scalar.andi v25 v26
  let v28 : BitVec 32 := Scalar.extui v27
  let c0_i32_14 : BitVec 32 := 0#32
  let v29 : BitVec 1 := Scalar.cmpi .ne v28 c0_i32_14
  v29

def k0_mult36 (i : grid0.Coords) : BitVec 32 :=
  let arg0 : BitVec 32 := BitVec.ofNat 32 (i 0).val
  let c0_i32_51 : BitVec 32 := 0#32
  let v109 : BitVec 1 := Scalar.cmpi .sgt arg0 c0_i32_51
  let v110 : BitVec 32 := Scalar.extui v109
  let c0_i32_52 : BitVec 32 := 0#32
  let v111 : BitVec 1 := Scalar.cmpi .slt arg0 c0_i32_52
  let v112 : BitVec 32 := Scalar.extui v111
  let v113 : BitVec 32 := Scalar.subi v110 v112
  let c4_i32 : BitVec 32 := 4#32
  let c0_i32_53 : BitVec 32 := 0#32
  let v114 : BitVec 1 := Scalar.cmpi .sgt c4_i32 c0_i32_53
  let v115 : BitVec 32 := Scalar.extui v114
  let c0_i32_54 : BitVec 32 := 0#32
  let v116 : BitVec 1 := Scalar.cmpi .slt c4_i32 c0_i32_54
  let v117 : BitVec 32 := Scalar.extui v116
  let v118 : BitVec 32 := Scalar.subi v115 v117
  let v119 : BitVec 1 := Scalar.cmpi .ne v113 v118
  let v120 : BitVec 32 := Scalar.remsi arg0 c4_i32
  let c0_i32_55 : BitVec 32 := 0#32
  let v121 : BitVec 1 := Scalar.cmpi .ne v120 c0_i32_55
  let v122 : BitVec 1 := Scalar.andi v119 v121
  let v108 : BitVec 32 := Scalar.divsi arg0 c4_i32
  let c1_i32_56 : BitVec 32 := 1#32
  let v123 : BitVec 32 := Scalar.subi v108 c1_i32_56
  let v124 : BitVec 32 := Scalar.select v122 v123 v108
  let c1_i32_57 : BitVec 32 := 1#32
  let v125 : BitVec 1 := Scalar.cmpi .eq v124 c1_i32_57
  let c17408_i32 : BitVec 32 := 17408#32
  let c5120_i32 : BitVec 32 := 5120#32
  let v126 : BitVec 32 := Scalar.select v125 c17408_i32 c5120_i32
  let c4_i32_58 : BitVec 32 := 4#32
  let c0_i32_59 : BitVec 32 := 0#32
  let v127 : BitVec 1 := Scalar.cmpi .eq c4_i32_58 c0_i32_59
  let c1_i32_60 : BitVec 32 := 1#32
  let v128 : BitVec 32 := Scalar.select v127 c1_i32_60 c4_i32_58
  let v129 : BitVec 32 := Scalar.remsi arg0 v128
  let c0_i32_62 : BitVec 32 := 0#32
  let v131 : BitVec 1 := Scalar.cmpi .slt v129 c0_i32_62
  let c0_i32_63 : BitVec 32 := 0#32
  let v132 : BitVec 1 := Scalar.cmpi .slt v128 c0_i32_63
  let v133 : BitVec 1 := Scalar.xori v131 v132
  let c0_i32_61 : BitVec 32 := 0#32
  let v130 : BitVec 1 := Scalar.cmpi .ne v129 c0_i32_61
  let v134 : BitVec 1 := Scalar.andi v133 v130
  let v135 : BitVec 32 := Scalar.addi v129 v128
  let v136 : BitVec 32 := Scalar.select v134 v135 v129
  let c1024_i32 : BitVec 32 := 1024#32
  let v137 : BitVec 32 := Scalar.muli v136 c1024_i32
  let v138 : BitVec 32 := Scalar.addi v126 v137
  v138
def k0_off25 (i : grid0.Coords) : Fin 2 → Nat :=
  let c3840_i32 : BitVec 32 := 3840#32
  let arg0 : BitVec 32 := BitVec.ofNat 32 (i 0).val
  let c0_i32_51 : BitVec 32 := 0#32
  let v109 : BitVec 1 := Scalar.cmpi .sgt arg0 c0_i32_51
  let v110 : BitVec 32 := Scalar.extui v109
  let c0_i32_52 : BitVec 32 := 0#32
  let v111 : BitVec 1 := Scalar.cmpi .slt arg0 c0_i32_52
  let v112 : BitVec 32 := Scalar.extui v111
  let v113 : BitVec 32 := Scalar.subi v110 v112
  let c4_i32 : BitVec 32 := 4#32
  let c0_i32_53 : BitVec 32 := 0#32
  let v114 : BitVec 1 := Scalar.cmpi .sgt c4_i32 c0_i32_53
  let v115 : BitVec 32 := Scalar.extui v114
  let c0_i32_54 : BitVec 32 := 0#32
  let v116 : BitVec 1 := Scalar.cmpi .slt c4_i32 c0_i32_54
  let v117 : BitVec 32 := Scalar.extui v116
  let v118 : BitVec 32 := Scalar.subi v115 v117
  let v119 : BitVec 1 := Scalar.cmpi .ne v113 v118
  let v120 : BitVec 32 := Scalar.remsi arg0 c4_i32
  let c0_i32_55 : BitVec 32 := 0#32
  let v121 : BitVec 1 := Scalar.cmpi .ne v120 c0_i32_55
  let v122 : BitVec 1 := Scalar.andi v119 v121
  let v108 : BitVec 32 := Scalar.divsi arg0 c4_i32
  let c1_i32_56 : BitVec 32 := 1#32
  let v123 : BitVec 32 := Scalar.subi v108 c1_i32_56
  let v124 : BitVec 32 := Scalar.select v122 v123 v108
  let c1_i32_57 : BitVec 32 := 1#32
  let v125 : BitVec 1 := Scalar.cmpi .eq v124 c1_i32_57
  let c17408_i32 : BitVec 32 := 17408#32
  let c5120_i32 : BitVec 32 := 5120#32
  let v126 : BitVec 32 := Scalar.select v125 c17408_i32 c5120_i32
  let c4_i32_58 : BitVec 32 := 4#32
  let c0_i32_59 : BitVec 32 := 0#32
  let v127 : BitVec 1 := Scalar.cmpi .eq c4_i32_58 c0_i32_59
  let c1_i32_60 : BitVec 32 := 1#32
  let v128 : BitVec 32 := Scalar.select v127 c1_i32_60 c4_i32_58
  let v129 : BitVec 32 := Scalar.remsi arg0 v128
  let c0_i32_62 : BitVec 32 := 0#32
  let v131 : BitVec 1 := Scalar.cmpi .slt v129 c0_i32_62
  let c0_i32_63 : BitVec 32 := 0#32
  let v132 : BitVec 1 := Scalar.cmpi .slt v128 c0_i32_63
  let v133 : BitVec 1 := Scalar.xori v131 v132
  let c0_i32_61 : BitVec 32 := 0#32
  let v130 : BitVec 1 := Scalar.cmpi .ne v129 c0_i32_61
  let v134 : BitVec 1 := Scalar.andi v133 v130
  let v135 : BitVec 32 := Scalar.addi v129 v128
  let v136 : BitVec 32 := Scalar.select v134 v135 v129
  let c1024_i32 : BitVec 32 := 1024#32
  let v137 : BitVec 32 := Scalar.muli v136 c1024_i32
  let v138 : BitVec 32 := Scalar.addi v126 v137
  let v139 : BitVec 32 := v138
  ![3840, v139.toNat]
def k0_off26 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v148 : Index := Scalar.indexCast v9
  let c3840 : Index := 3840#32
  let c0_70 : Index := 0#32
  ![v148.toNat, 3840, 0]
def k0_off27 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : Index := Scalar.indexCast v9
  let c0_16 : Index := 0#32
  let c0_17 : Index := 0#32
  ![v32.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SiluReferenceIdeal.lean ====
abbrev S4x4096x4096 : Shape := ⟨3, ![4, 4096, 4096]⟩
abbrev S1x4096x29696 : Shape := ⟨3, ![1, 4096, 29696]⟩
abbrev S4096x29696 : Shape := ⟨2, ![4096, 29696]⟩
abbrev S4096x4096 : Shape := ⟨2, ![4096, 4096]⟩
abbrev S_ : Shape := ⟨0, ![]⟩
abbrev S4x4096x8192 : Shape := ⟨3, ![4, 4096, 8192]⟩
abbrev S16384x8192 : Shape := ⟨2, ![16384, 8192]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096x29696, .f32⟩
  | .hbm, ⟨2, _⟩ => ⟨S4096x29696, .f32⟩
  | .hbm, ⟨3, _⟩ => ⟨S4096x4096, .f32⟩
  | .hbm, ⟨4, _⟩ => ⟨S4x4096x4096, .f32⟩
  | .hbm, ⟨5, _⟩ => ⟨S4096x29696, .f32⟩
  | .hbm, ⟨6, _⟩ => ⟨S4096x4096, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x8192, .f32⟩
  | .hbm, ⟨27, _⟩ => ⟨S16384x8192, .f32⟩
  | .hbm, ⟨28, _⟩ => ⟨S16384x8192, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== Merge.lean ====
abbrev S4x4096x4096 : Shape := ⟨3, ![4, 4096, 4096]⟩
abbrev S1x4096x4096 : Shape := ⟨3, ![1, 4096, 4096]⟩
abbrev S4x4096x8192 : Shape := ⟨3, ![4, 4096, 8192]⟩
abbrev S16384x4096 : Shape := ⟨2, ![16384, 4096]⟩
abbrev S4096x4096 : Shape := ⟨2, ![4096, 4096]⟩
abbrev S16384x8192 : Shape := ⟨2, ![16384, 8192]⟩
abbrev S1024x4096 : Shape := ⟨2, ![1024, 4096]⟩
abbrev S1024x1024 : Shape := ⟨2, ![1024, 1024]⟩
abbrev S2x4096x1024 : Shape := ⟨3, ![2, 4096, 1024]⟩
abbrev S2x256x1024 : Shape := ⟨3, ![2, 256, 1024]⟩
abbrev S2 : Shape := ⟨1, ![2]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1x4096x1024 : Shape := ⟨3, ![1, 4096, 1024]⟩
abbrev S4096x1024 : Shape := ⟨2, ![4096, 1024]⟩
abbrev S1024x128 : Shape := ⟨2, ![1024, 128]⟩

abbrev nBuf : Space → Nat
  | .hbm => 12
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S1x4096x4096, .f32⟩
  | .hbm, ⟨2, _⟩ => ⟨S4x4096x8192, .f32⟩
  | .hbm, ⟨3, _⟩ => ⟨S4x4096x4096, .f32⟩
  | .hbm, ⟨4, _⟩ => ⟨S16384x4096, .f32⟩
  | .hbm, ⟨5, _⟩ => ⟨S16384x4096, .bf16⟩
  | .hbm, ⟨6, _⟩ => ⟨S4096x4096, .f32⟩
  | .hbm, ⟨7, _⟩ => ⟨S16384x8192, .f32⟩
  | .hbm, ⟨8, _⟩ => ⟨S16384x8192, .bf16⟩
  | .hbm, ⟨9, _⟩ => ⟨S16384x4096, .f32⟩
  | .hbm, ⟨10, _⟩ => ⟨S16384x4096, .bf16⟩
  | .hbm, ⟨11, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2x4096x1024, .bf16⟩
  | .local _ .vmem, ⟨9, _⟩ => ⟨S2x256x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let arg1 : BitVec 32 := BitVec.ofNat 32 (i 1).val
  let c0_i32_4 : BitVec 32 := 0#32
  let v11 : BitVec 1 := Scalar.cmpi .eq arg1 c0_i32_4
  let v12 : BitVec 1 := Scalar.andi v10 v11
  let v13 : BitVec 32 := Scalar.extui v12
  let c0_i32_5 : BitVec 32 := 0#32
  let v14 : BitVec 1 := Scalar.cmpi .ne v13 c0_i32_5
  v14

def k0_mult1 : BitVec 32 :=
  let c0_i32_107 : BitVec 32 := 0#32
  c0_i32_107
def k0_mult2 : BitVec 32 :=
  let c0_i32_113 : BitVec 32 := 0#32
  c0_i32_113
def k0_mult3 : BitVec 32 :=
  let c0_i32_118 : BitVec 32 := 0#32
  c0_i32_118
def k0_mult4 : BitVec 32 :=
  let c0_i32_130 : BitVec 32 := 0#32
  c0_i32_130
def k0_mult5 : BitVec 32 :=
  let c0_i32_135 : BitVec 32 := 0#32
  c0_i32_135
def k0_mult6 : BitVec 32 :=
  let c0_i32_146 : BitVec 32 := 0#32
  c0_i32_146
def k0_mult7 : BitVec 32 :=
  let c0_i32_151 : BitVec 32 := 0#32
  c0_i32_151
def k0_mult8 : BitVec 32 :=
  let c0_i32_163 : BitVec 32 := 0#32
  c0_i32_163
def k0_mult9 : BitVec 32 :=
  let c0_i32_168 : BitVec 32 := 0#32
  c0_i32_168
def k0_mult10 : BitVec 32 :=
  let c0_i32_180 : BitVec 32 := 0#32
  c0_i32_180
def k0_mult11 : BitVec 32 :=
  let c0_i32_185 : BitVec 32 := 0#32
  c0_i32_185
def k0_mult12 : BitVec 32 :=
  let c0_i32_196 : BitVec 32 := 0#32
  c0_i32_196
def k0_mult13 : BitVec 32 :=
  let c0_i32_201 : BitVec 32 := 0#32
  c0_i32_201
def k0_mult14 : BitVec 32 :=
  let c0_i32_212 : BitVec 32 := 0#32
  c0_i32_212
def k0_mult15 : BitVec 32 :=
  let c0_i32_217 : BitVec 32 := 0#32
  c0_i32_217
def k0_mult16 : BitVec 32 :=
  let c0_i32_228 : BitVec 32 := 0#32
  c0_i32_228
def k0_mult17 : BitVec 32 :=
  let c0_i32_233 : BitVec 32 := 0#32
  c0_i32_233
def k0_mult18 : BitVec 32 :=
  let c0_i32_244 : BitVec 32 := 0#32
  c0_i32_244
def k0_mult19 : BitVec 32 :=
  let c0_i32_249 : BitVec 32 := 0#32
  c0_i32_249
def k0_mult20 : BitVec 32 :=
  let c0_i32_260 : BitVec 32 := 0#32
  c0_i32_260
def k0_mult21 : BitVec 32 :=
  let c0_i32_265 : BitVec 32 := 0#32
  c0_i32_265
def k0_mult22 : BitVec 32 :=
  let c0_i32_276 : BitVec 32 := 0#32
  c0_i32_276
def k0_mult23 : BitVec 32 :=
  let c0_i32_281 : BitVec 32 := 0#32
  c0_i32_281
def k0_mult24 : BitVec 32 :=
  let c0_i32_292 : BitVec 32 := 0#32
  c0_i32_292
def k0_mult25 : BitVec 32 :=
  let c0_i32_297 : BitVec 32 := 0#32
  c0_i32_297
def k0_mult26 : BitVec 32 :=
  let c0_i32_308 : BitVec 32 := 0#32
  c0_i32_308
def k0_mult27 : BitVec 32 :=
  let c0_i32_313 : BitVec 32 := 0#32
  c0_i32_313
def k0_mult28 : BitVec 32 :=
  let c0_i32_324 : BitVec 32 := 0#32
  c0_i32_324
def k0_mult29 : BitVec 32 :=
  let c0_i32_329 : BitVec 32 := 0#32
  c0_i32_329
def k0_mult30 : BitVec 32 :=
  let c0_i32_340 : BitVec 32 := 0#32
  c0_i32_340
def k0_mult31 : BitVec 32 :=
  let c0_i32_345 : BitVec 32 := 0#32
  c0_i32_345
def k0_mult32 : BitVec 32 :=
  let c0_i32_356 : BitVec 32 := 0#32
  c0_i32_356
def k0_cond2 (i : grid0.Coords) : BitVec 1 :=
  let arg0 : BitVec 32 := BitVec.ofNat 32 (i 0).val
  let c1_i32_6 : BitVec 32 := 1#32
  let v15 : BitVec 32 := Scalar.addi arg0 c1_i32_6
  let c4_i32 : BitVec 32 := 4#32
  let v16 : BitVec 1 := Scalar.cmpi .slt v15 c4_i32
  let v17 : BitVec 32 := Scalar.extui v16
  let c0_i32_7 : BitVec 32 := 0#32
  let v18 : BitVec 1 := Scalar.cmpi .ne v17 c0_i32_7
  v18

def k0_mult33 (i : grid0.Coords) : BitVec 32 :=
  let c0_i32_120 : BitVec 32 := 0#32
  let arg0 : BitVec 32 := BitVec.ofNat 32 (i 0).val
  let c1_i32_107 : BitVec 32 := 1#32
  let v148 : BitVec 32 := Scalar.addi arg0 c1_i32_107
  let c4_i32_114 : BitVec 32 := 4#32
  let c0_i32_115 : BitVec 32 := 0#32
  let v159 : BitVec 1 := Scalar.cmpi .eq c4_i32_114 c0_i32_115
  let c1_i32_116 : BitVec 32 := 1#32
  let v160 : BitVec 32 := Scalar.select v159 c1_i32_116 c4_i32_114
  let v161 : BitVec 32 := Scalar.remsi v148 v160
  let c0_i32_118 : BitVec 32 := 0#32
  let v163 : BitVec 1 := Scalar.cmpi .slt v161 c0_i32_118
  let c0_i32_119 : BitVec 32 := 0#32
  let v164 : BitVec 1 := Scalar.cmpi .slt v160 c0_i32_119
  let v165 : BitVec 1 := Scalar.xori v163 v164
  let c0_i32_117 : BitVec 32 := 0#32
  let v162 : BitVec 1 := Scalar.cmpi .ne v161 c0_i32_117
  let v166 : BitVec 1 := Scalar.andi v165 v162
  let v167 : BitVec 32 := Scalar.addi v161 v160
  let v168 : BitVec 32 := Scalar.select v166 v167 v161
  let c1024_i32 : BitVec 32 := 1024#32
  let v169 : BitVec 32 := Scalar.muli v168 c1024_i32
  let v170 : BitVec 32 := Scalar.addi c0_i32_120 v169
  v170
def k0_off1 (i : grid0.Coords) : Fin 1 → Nat :=
  let arg1 : BitVec 32 := BitVec.ofNat 32 (i 1).val
  let c2_i32_108 : BitVec 32 := 2#32
  let c0_i32_109 : BitVec 32 := 0#32
  let v149 : BitVec 1 := Scalar.cmpi .eq c2_i32_108 c0_i32_109
  let c1_i32_110 : BitVec 32 := 1#32
  let v150 : BitVec 32 := Scalar.select v149 c1_i32_110 c2_i32_108
  let v151 : BitVec 32 := Scalar.remsi arg1 v150
  let c0_i32_112 : BitVec 32 := 0#32
  let v153 : BitVec 1 := Scalar.cmpi .slt v151 c0_i32_112
  let c0_i32_113 : BitVec 32 := 0#32
  let v154 : BitVec 1 := Scalar.cmpi .slt v150 c0_i32_113
  let v155 : BitVec 1 := Scalar.xori v153 v154
  let c0_i32_111 : BitVec 32 := 0#32
  let v152 : BitVec 1 := Scalar.cmpi .ne v151 c0_i32_111
  let v156 : BitVec 1 := Scalar.andi v155 v152
  let v157 : BitVec 32 := Scalar.addi v151 v150
  let v158 : BitVec 32 := Scalar.select v156 v157 v151
  ![v158.toNat]
def k0_off2 (i : grid0.Coords) : Fin 3 → Nat :=
  let arg1 : BitVec 32 := BitVec.ofNat 32 (i 1).val
  let c2_i32_108 : BitVec 32 := 2#32
  let c0_i32_109 : BitVec 32 := 0#32
  let v149 : BitVec 1 := Scalar.cmpi .eq c2_i32_108 c0_i32_109
  let c1_i32_110 : BitVec 32 := 1#32
  let v150 : BitVec 32 := Scalar.select v149 c1_i32_110 c2_i32_108
  let v151 : BitVec 32 := Scalar.remsi arg1 v150
  let c0_i32_112 : BitVec 32 := 0#32
  let v153 : BitVec 1 := Scalar.cmpi .slt v151 c0_i32_112
  let c0_i32_113 : BitVec 32 := 0#32
  let v154 : BitVec 1 := Scalar.cmpi .slt v150 c0_i32_113
  let v155 : BitVec 1 := Scalar.xori v153 v154
  let c0_i32_111 : BitVec 32 := 0#32
  let v152 : BitVec 1 := Scalar.cmpi .ne v151 c0_i32_111
  let v156 : BitVec 1 := Scalar.andi v155 v152
  let v157 : BitVec 32 := Scalar.addi v151 v150
  let v158 : BitVec 32 := Scalar.select v156 v157 v151
  let c0_i32_121 : BitVec 32 := 0#32
  let c0_i32_122 : BitVec 32 := 0#32
  ![v158.toNat, 0, 0]
def k0_off3 (i : grid0.Coords) : Fin 2 → Nat :=
  let arg1 : BitVec 32 := BitVec.ofNat 32 (i 1).val
  let c256_i32 : BitVec 32 := 256#32
  let v172 : BitVec 32 := Scalar.muli arg1 c256_i32
  let c0_i32_120 : BitVec 32 := 0#32
  let arg0 : BitVec 32 := BitVec.ofNat 32 (i 0).val
  let c1_i32_107 : BitVec 32 := 1#32
  let v148 : BitVec 32 := Scalar.addi arg0 c1_i32_107
  let c4_i32_114 : BitVec 32 := 4#32
  let c0_i32_115 : BitVec 32 := 0#32
  let v159 : BitVec 1 := Scalar.cmpi .eq c4_i32_114 c0_i32_115
  let c1_i32_116 : BitVec 32 := 1#32
  let v160 : BitVec 32 := Scalar.select v159 c1_i32_116 c4_i32_114
  let v161 : BitVec 32 := Scalar.remsi v148 v160
  let c0_i32_118 : BitVec 32 := 0#32
  let v163 : BitVec 1 := Scalar.cmpi .slt v161 c0_i32_118
  let c0_i32_119 : BitVec 32 := 0#32
  let v164 : BitVec 1 := Scalar.cmpi .slt v160 c0_i32_119
  let v165 : BitVec 1 := Scalar.xori v163 v164
  let c0_i32_117 : BitVec 32 := 0#32
  let v162 : BitVec 1 := Scalar.cmpi .ne v161 c0_i32_117
  let v166 : BitVec 1 := Scalar.andi v165 v162
  let v167 : BitVec 32 := Scalar.addi v161 v160
  let v168 : BitVec 32 := Scalar.select v166 v167 v161
  let c1024_i32 : BitVec 32 := 1024#32
  let v169 : BitVec 32 := Scalar.muli v168 c1024_i32
  let v170 : BitVec 32 := Scalar.addi c0_i32_120 v169
  let v171 : BitVec 32 := v170
  ![v172.toNat, v171.toNat]
def k0_cond3 (i : grid0.Coords) : BitVec 1 :=
  let arg0 : BitVec 32 := BitVec.ofNat 32 (i 0).val
  let c1_i32_8 : BitVec 32 := 1#32
  let v19 : BitVec 32 := Scalar.addi arg0 c1_i32_8
  let c4_i32_9 : BitVec 32 := 4#32
  let v20 : BitVec 1 := Scalar.cmpi .slt v19 c4_i32_9
  let arg1 : BitVec 32 := BitVec.ofNat 32 (i 1).val
  let c0_i32_10 : BitVec 32 := 0#32
  let v21 : BitVec 1 := Scalar.cmpi .sgt arg1 c0_i32_10
  let v22 : BitVec 1 := Scalar.andi v20 v21
  let v23 : BitVec 32 := Scalar.extui v22
  let c0_i32_11 : BitVec 32 := 0#32
  let v24 : BitVec 1 := Scalar.cmpi .ne v23 c0_i32_11
  v24

def k0_mult34 (i : grid0.Coords) : BitVec 32 :=
  let c0_i32_122 : BitVec 32 := 0#32
  let arg0 : BitVec 32 := BitVec.ofNat 32 (i 0).val
  let c1_i32_107 : BitVec 32 := 1#32
  let v148 : BitVec 32 := Scalar.addi arg0 c1_i32_107
  let c4_i32_116 : BitVec 32 := 4#32
  let c0_i32_117 : BitVec 32 := 0#32
  let v161 : BitVec 1 := Scalar.cmpi .eq c4_i32_116 c0_i32_117
  let c1_i32_118 : BitVec 32 := 1#32
  let v162 : BitVec 32 := Scalar.select v161 c1_i32_118 c4_i32_116
  let v163 : BitVec 32 := Scalar.remsi v148 v162
  let c0_i32_120 : BitVec 32 := 0#32
  let v165 : BitVec 1 := Scalar.cmpi .slt v163 c0_i32_120
  let c0_i32_121 : BitVec 32 := 0#32
  let v166 : BitVec 1 := Scalar.cmpi .slt v162 c0_i32_121
  let v167 : BitVec 1 := Scalar.xori v165 v166
  let c0_i32_119 : BitVec 32 := 0#32
  let v164 : BitVec 1 := Scalar.cmpi .ne v163 c0_i32_119
  let v168 : BitVec 1 := Scalar.andi v167 v164
  let v169 : BitVec 32 := Scalar.addi v163 v162
  let v170 : BitVec 32 := Scalar.select v168 v169 v163
  let c1024_i32 : BitVec 32 := 1024#32
  let v171 : BitVec 32 := Scalar.muli v170 c1024_i32
  let v172 : BitVec 32 := Scalar.addi c0_i32_122 v171
  v172
def k0_off4 (i : grid0.Coords) : Fin 1 → Nat :=
  let arg1 : BitVec 32 := BitVec.ofNat 32 (i 1).val
  let c1_i32_109 : BitVec 32 := 1#32
  let v150 : BitVec 32 := Scalar.subi arg1 c1_i32_109
  let c2_i32_110 : BitVec 32 := 2#32
  let c0_i32_111 : BitVec 32 := 0#32
  let v151 : BitVec 1 := Scalar.cmpi .eq c2_i32_110 c0_i32_111
  let c1_i32_112 : BitVec 32 := 1#32
  let v152 : BitVec 32 := Scalar.select v151 c1_i32_112 c2_i32_110
  let v153 : BitVec 32 := Scalar.remsi v150 v152
  let c0_i32_114 : BitVec 32 := 0#32
  let v155 : BitVec 1 := Scalar.cmpi .slt v153 c0_i32_114
  let c0_i32_115 : BitVec 32 := 0#32
  let v156 : BitVec 1 := Scalar.cmpi .slt v152 c0_i32_115
  let v157 : BitVec 1 := Scalar.xori v155 v156
  let c0_i32_113 : BitVec 32 := 0#32
  let v154 : BitVec 1 := Scalar.cmpi .ne v153 c0_i32_113
  let v158 : BitVec 1 := Scalar.andi v157 v154
  let v159 : BitVec 32 := Scalar.addi v153 v152
  let v160 : BitVec 32 := Scalar.select v158 v159 v153
  ![v160.toNat]
def k0_off5 (i : grid0.Coords) : Fin 3 → Nat :=
  let arg1 : BitVec 32 := BitVec.ofNat 32 (i 1).val
  let c1_i32_109 : BitVec 32 := 1#32
  let v150 : BitVec 32 := Scalar.subi arg1 c1_i32_109
  let c2_i32_110 : BitVec 32 := 2#32
  let c0_i32_111 : BitVec 32 := 0#32
  let v151 : BitVec 1 := Scalar.cmpi .eq c2_i32_110 c0_i32_111
  let c1_i32_112 : BitVec 32 := 1#32
  let v152 : BitVec 32 := Scalar.select v151 c1_i32_112 c2_i32_110
  let v153 : BitVec 32 := Scalar.remsi v150 v152
  let c0_i32_114 : BitVec 32 := 0#32
  let v155 : BitVec 1 := Scalar.cmpi .slt v153 c0_i32_114
  let c0_i32_115 : BitVec 32 := 0#32
  let v156 : BitVec 1 := Scalar.cmpi .slt v152 c0_i32_115
  let v157 : BitVec 1 := Scalar.xori v155 v156
  let c0_i32_113 : BitVec 32 := 0#32
  let v154 : BitVec 1 := Scalar.cmpi .ne v153 c0_i32_113
  let v158 : BitVec 1 := Scalar.andi v157 v154
  let v159 : BitVec 32 := Scalar.addi v153 v152
  let v160 : BitVec 32 := Scalar.select v158 v159 v153
  let c0_i32_123 : BitVec 32 := 0#32
  let c0_i32_124 : BitVec 32 := 0#32
  ![v160.toNat, 0, 0]
def k0_off6 (i : grid0.Coords) : Fin 2 → Nat :=
  let arg1 : BitVec 32 := BitVec.ofNat 32 (i 1).val
  let c1_i32_108 : BitVec 32 := 1#32
  let v149 : BitVec 32 := Scalar.subi arg1 c1_i32_108
  let c256_i32 : BitVec 32 := 256#32
  let v174 : BitVec 32 := Scalar.muli v149 c256_i32
  let c0_i32_122 : BitVec 32 := 0#32
  let arg0 : BitVec 32 := BitVec.ofNat 32 (i 0).val
  let c1_i32_107 : BitVec 32 := 1#32
  let v148 : BitVec 32 := Scalar.addi arg0 c1_i32_107
  let c4_i32_116 : BitVec 32 := 4#32
  let c0_i32_117 : BitVec 32 := 0#32
  let v161 : BitVec 1 := Scalar.cmpi .eq c4_i32_116 c0_i32_117
  let c1_i32_118 : BitVec 32 := 1#32
  let v162 : BitVec 32 := Scalar.select v161 c1_i32_118 c4_i32_116
  let v163 : BitVec 32 := Scalar.remsi v148 v162
  let c0_i32_120 : BitVec 32 := 0#32
  let v165 : BitVec 1 := Scalar.cmpi .slt v163 c0_i32_120
  let c0_i32_121 : BitVec 32 := 0#32
  let v166 : BitVec 1 := Scalar.cmpi .slt v162 c0_i32_121
  let v167 : BitVec 1 := Scalar.xori v165 v166
  let c0_i32_119 : BitVec 32 := 0#32
  let v164 : BitVec 1 := Scalar.cmpi .ne v163 c0_i32_119
  let v168 : BitVec 1 := Scalar.andi v167 v164
  let v169 : BitVec 32 := Scalar.addi v163 v162
  let v170 : BitVec 32 := Scalar.select v168 v169 v163
  let c1024_i32 : BitVec 32 := 1024#32
  let v171 : BitVec 32 := Scalar.muli v170 c1024_i32
  let v172 : BitVec 32 := Scalar.addi c0_i32_122 v171
  let v173 : BitVec 32 := v172
  ![v174.toNat, v173.toNat]
def k0_mult35 (i : grid0.Coords) : BitVec 32 :=
  let arg1 : BitVec 32 := BitVec.ofNat 32 (i 1).val
  let c1_i32_125 : BitVec 32 := 1#32
  let v180 : BitVec 32 := Scalar.subi arg1 c1_i32_125
  let c256_i32_126 : BitVec 32 := 256#32
  let v181 : BitVec 32 := Scalar.muli v180 c256_i32_126
  v181
def k0_off7 (i : grid0.Coords) : Fin 3 → Nat :=
  let arg1 : BitVec 32 := BitVec.ofNat 32 (i 1).val
  let c1_i32_127 : BitVec 32 := 1#32
  let v183 : BitVec 32 := Scalar.subi arg1 c1_i32_127
  let c2_i32_128 : BitVec 32 := 2#32
  let c0_i32_129 : BitVec 32 := 0#32
  let v184 : BitVec 1 := Scalar.cmpi .eq c2_i32_128 c0_i32_129
  let c1_i32_130 : BitVec 32 := 1#32
  let v185 : BitVec 32 := Scalar.select v184 c1_i32_130 c2_i32_128
  let v186 : BitVec 32 := Scalar.remsi v183 v185
  let c0_i32_132 : BitVec 32 := 0#32
  let v188 : BitVec 1 := Scalar.cmpi .slt v186 c0_i32_132
  let c0_i32_133 : BitVec 32 := 0#32
  let v189 : BitVec 1 := Scalar.cmpi .slt v185 c0_i32_133
  let v190 : BitVec 1 := Scalar.xori v188 v189
  let c0_i32_131 : BitVec 32 := 0#32
  let v187 : BitVec 1 := Scalar.cmpi .ne v186 c0_i32_131
  let v191 : BitVec 1 := Scalar.andi v190 v187
  let v192 : BitVec 32 := Scalar.addi v186 v185
  let v193 : BitVec 32 := Scalar.select v191 v192 v186
  let v194 : Index := Scalar.indexCast v193
  let c0_134 : Index := 0#32
  let c0_135 : Index := 0#32
  ![v194.toNat, 0, 0]
def k0_off8 (i : grid0.Coords) : Fin 3 → Nat :=
  let c1_i32_136 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v198 : BitVec 32 := Scalar.subi c1_i32_136 v9
  let v199 : Index := Scalar.indexCast v198
  let arg1 : BitVec 32 := BitVec.ofNat 32 (i 1).val
  let c1_i32_125 : BitVec 32 := 1#32
  let v180 : BitVec 32 := Scalar.subi arg1 c1_i32_125
  let c256_i32_126 : BitVec 32 := 256#32
  let v181 : BitVec 32 := Scalar.muli v180 c256_i32_126
  let v182 : BitVec 32 := v181
  let v200 : Index := Scalar.indexCast v182
  let c0_137 : Index := 0#32
  ![v199.toNat, v200.toNat, 0]
def k0_cond4 (i : grid0.Coords) : BitVec 1 :=
  let arg0 : BitVec 32 := BitVec.ofNat 32 (i 0).val
  let c0_i32_12 : BitVec 32 := 0#32
  let v25 : BitVec 1 := Scalar.cmpi .sgt arg0 c0_i32_12
  let arg1 : BitVec 32 := BitVec.ofNat 32 (i 1).val
  let c0_i32_13 : BitVec 32 := 0#32
  let v26 : BitVec 1 := Scalar.cmpi .eq arg1 c0_i32_13
  let v27 : BitVec 1 := Scalar.andi v25 v26
  let v28 : BitVec 32 := Scalar.extui v27
  let c0_i32_14 : BitVec 32 := 0#32
  let v29 : BitVec 1 := Scalar.cmpi .ne v28 c0_i32_14
  v29

def k0_mult36 (i : grid0.Coords) : BitVec 32 :=
  let c0_i32_113 : BitVec 32 := 0#32
  let arg0 : BitVec 32 := BitVec.ofNat 32 (i 0).val
  let c4_i32_107 : BitVec 32 := 4#32
  let c0_i32_108 : BitVec 32 := 0#32
  let v148 : BitVec 1 := Scalar.cmpi .eq c4_i32_107 c0_i32_108
  let c1_i32_109 : BitVec 32 := 1#32
  let v149 : BitVec 32 := Scalar.select v148 c1_i32_109 c4_i32_107
  let v150 : BitVec 32 := Scalar.remsi arg0 v149
  let c0_i32_111 : BitVec 32 := 0#32
  let v152 : BitVec 1 := Scalar.cmpi .slt v150 c0_i32_111
  let c0_i32_112 : BitVec 32 := 0#32
  let v153 : BitVec 1 := Scalar.cmpi .slt v149 c0_i32_112
  let v154 : BitVec 1 := Scalar.xori v152 v153
  let c0_i32_110 : BitVec 32 := 0#32
  let v151 : BitVec 1 := Scalar.cmpi .ne v150 c0_i32_110
  let v155 : BitVec 1 := Scalar.andi v154 v151
  let v156 : BitVec 32 := Scalar.addi v150 v149
  let v157 : BitVec 32 := Scalar.select v155 v156 v150
  let c1024_i32 : BitVec 32 := 1024#32
  let v158 : BitVec 32 := Scalar.muli v157 c1024_i32
  let v159 : BitVec 32 := Scalar.addi c0_i32_113 v158
  v159
def k0_off9 (i : grid0.Coords) : Fin 2 → Nat :=
  let c3840_i32 : BitVec 32 := 3840#32
  let c0_i32_113 : BitVec 32 := 0#32
  let arg0 : BitVec 32 := BitVec.ofNat 32 (i 0).val
  let c4_i32_107 : BitVec 32 := 4#32
  let c0_i32_108 : BitVec 32 := 0#32
  let v148 : BitVec 1 := Scalar.cmpi .eq c4_i32_107 c0_i32_108
  let c1_i32_109 : BitVec 32 := 1#32
  let v149 : BitVec 32 := Scalar.select v148 c1_i32_109 c4_i32_107
  let v150 : BitVec 32 := Scalar.remsi arg0 v149
  let c0_i32_111 : BitVec 32 := 0#32
  let v152 : BitVec 1 := Scalar.cmpi .slt v150 c0_i32_111
  let c0_i32_112 : BitVec 32 := 0#32
  let v153 : BitVec 1 := Scalar.cmpi .slt v149 c0_i32_112
  let v154 : BitVec 1 := Scalar.xori v152 v153
  let c0_i32_110 : BitVec 32 := 0#32
  let v151 : BitVec 1 := Scalar.cmpi .ne v150 c0_i32_110
  let v155 : BitVec 1 := Scalar.andi v154 v151
  let v156 : BitVec 32 := Scalar.addi v150 v149
  let v157 : BitVec 32 := Scalar.select v155 v156 v150
  let c1024_i32 : BitVec 32 := 1024#32
  let v158 : BitVec 32 := Scalar.muli v157 c1024_i32
  let v159 : BitVec 32 := Scalar.addi c0_i32_113 v158
  let v160 : BitVec 32 := v159
  ![3840, v160.toNat]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v169 : Index := Scalar.indexCast v9
  let c3840 : Index := 3840#32
  let c0_120 : Index := 0#32
  ![v169.toNat, 3840, 0]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : Index := Scalar.indexCast v9
  let c0_16 : Index := 0#32
  let c0_17 : Index := 0#32
  ![v32.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MergeReferenceIdeal.lean ====
abbrev S4x4096x4096 : Shape := ⟨3, ![4, 4096, 4096]⟩
abbrev S1x4096x4096 : Shape := ⟨3, ![1, 4096, 4096]⟩
abbrev S4x4096x8192 : Shape := ⟨3, ![4, 4096, 8192]⟩
abbrev S4096x4096 : Shape := ⟨2, ![4096, 4096]⟩
abbrev S16384x4096 : Shape := ⟨2, ![16384, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096x4096, .f32⟩
  | .hbm, ⟨2, _⟩ => ⟨S4x4096x8192, .f32⟩
  | .hbm, ⟨3, _⟩ => ⟨S4x4096x4096, .f32⟩
  | .hbm, ⟨4, _⟩ => ⟨S4096x4096, .f32⟩
  | .hbm, ⟨5, _⟩ => ⟨S4x4096x4096, .f32⟩
  | .hbm, ⟨6, _⟩ => ⟨S4x4096x4096, .f32⟩
  | .hbm, ⟨7, _⟩ => ⟨S4x4096x4096, .f32⟩
  | .hbm, ⟨8, _⟩ => ⟨S4x4096x4096, .f32⟩
  | .hbm, ⟨9, _⟩ => ⟨S16384x4096, .f32⟩
  | .hbm, ⟨10, _⟩ => ⟨S16384x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Up.lean ====
abbrev S4x4096x4096 : Shape := ⟨3, ![4, 4096, 4096]⟩
abbrev S1x4096x4096 : Shape := ⟨3, ![1, 4096, 4096]⟩
abbrev S4x4096x8192 : Shape := ⟨3, ![4, 4096, 8192]⟩
abbrev S16384x4096 : Shape := ⟨2, ![16384, 4096]⟩
abbrev S4096x4096 : Shape := ⟨2, ![4096, 4096]⟩
abbrev S16384x8192 : Shape := ⟨2, ![16384, 8192]⟩
abbrev S1024x4096 : Shape := ⟨2, ![1024, 4096]⟩
abbrev S1024x1024 : Shape := ⟨2, ![1024, 1024]⟩
abbrev S64x4096 : Shape := ⟨2, ![64, 4096]⟩
abbrev S2x4096x1024 : Shape := ⟨3, ![2, 4096, 1024]⟩
abbrev S2x256x1024 : Shape := ⟨3, ![2, 256, 1024]⟩
abbrev S2 : Shape := ⟨1, ![2]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1x4096x1024 : Shape := ⟨3, ![1, 4096, 1024]⟩
abbrev S4096x1024 : Shape := ⟨2, ![4096, 1024]⟩
abbrev S1024x128 : Shape := ⟨2, ![1024, 128]⟩

abbrev nBuf : Space → Nat
  | .hbm => 12
  | .vmem => 12
  | .smem => 0
  | _ => 0

abbrev bufTy : (tb : Table) → Fin (tcTables nBuf tb) → BufTy
  | .hbm, ⟨0, _⟩ => ⟨S4x4096x4096, .f32⟩
  | .hbm, ⟨1, _⟩ => ⟨S1x4096x4096, .f32⟩
  | .hbm, ⟨2, _⟩ => ⟨S4x4096x8192, .f32⟩
  | .hbm, ⟨3, _⟩ => ⟨S1x4096x4096, .f32⟩
  | .hbm, ⟨4, _⟩ => ⟨S16384x4096, .f32⟩
  | .hbm, ⟨5, _⟩ => ⟨S16384x4096, .bf16⟩
  | .hbm, ⟨6, _⟩ => ⟨S4096x4096, .f32⟩
  | .hbm, ⟨7, _⟩ => ⟨S16384x8192, .f32⟩
  | .hbm, ⟨8, _⟩ => ⟨S16384x8192, .bf16⟩
  | .hbm, ⟨9, _⟩ => ⟨S4096x4096, .f32⟩
  | .hbm, ⟨10, _⟩ => ⟨S16384x4096, .bf16⟩
  | .hbm, ⟨11, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .bf16⟩
  | .local _ .vmem, ⟨3, _⟩ => ⟨S1024x1024, .bf16⟩
  | .local _ .vmem, ⟨4, _⟩ => ⟨S64x4096, .f32⟩
  | .local _ .vmem, ⟨5, _⟩ => ⟨S64x4096, .f32⟩
  | .local _ .vmem, ⟨6, _⟩ => ⟨S1024x1024, .bf16⟩
  | .local _ .vmem, ⟨7, _⟩ => ⟨S1024x1024, .bf16⟩
  | .local _ .vmem, ⟨8, _⟩ => ⟨S64x4096, .bf16⟩
  | .local _ .vmem, ⟨9, _⟩ => ⟨S64x4096, .bf16⟩
  | .local _ .vmem, ⟨10, _⟩ => ⟨S2x4096x1024, .bf16⟩
  | .local _ .vmem, ⟨11, _⟩ => ⟨S2x256x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32_6 : BitVec 32 := 0#32
  let v14 : BitVec 1 := Scalar.cmpi .eq arg0 c0_i32_6
  let arg1 : BitVec 32 := BitVec.ofNat 32 (i 1).val
  let c0_i32_7 : BitVec 32 := 0#32
  let v15 : BitVec 1 := Scalar.cmpi .eq arg1 c0_i32_7
  let v16 : BitVec 1 := Scalar.andi v14 v15
  let v17 : BitVec 32 := Scalar.extui v16
  let c0_i32_8 : BitVec 32 := 0#32
  let v18 : BitVec 1 := Scalar.cmpi .ne v17 c0_i32_8
  v18

def k0_mult1 : BitVec 32 :=
  let c0_i32_79 : BitVec 32 := 0#32
  c0_i32_79
def k0_mult2 : BitVec 32 :=
  let c0_i32_85 : BitVec 32 := 0#32
  c0_i32_85
def k0_mult3 : BitVec 32 :=
  let c0_i32_90 : BitVec 32 := 0#32
  c0_i32_90
def k0_mult4 : BitVec 32 :=
  let c0_i32_102 : BitVec 32 := 0#32
  c0_i32_102
def k0_mult5 : BitVec 32 :=
  let c0_i32_107 : BitVec 32 := 0#32
  c0_i32_107
def k0_mult6 : BitVec 32 :=
  let c0_i32_118 : BitVec 32 := 0#32
  c0_i32_118
def k0_mult7 : BitVec 32 :=
  let c0_i32_123 : BitVec 32 := 0#32
  c0_i32_123
def k0_mult8 : BitVec 32 :=
  let c0_i32_135 : BitVec 32 := 0#32
  c0_i32_135
def k0_mult9 : BitVec 32 :=
  let c0_i32_140 : BitVec 32 := 0#32
  c0_i32_140
def k0_mult10 : BitVec 32 :=
  let c0_i32_152 : BitVec 32 := 0#32
  c0_i32_152
def k0_mult11 : BitVec 32 :=
  let c0_i32_157 : BitVec 32 := 0#32
  c0_i32_157
def k0_mult12 : BitVec 32 :=
  let c0_i32_168 : BitVec 32 := 0#32
  c0_i32_168
def k0_mult13 : BitVec 32 :=
  let c0_i32_173 : BitVec 32 := 0#32
  c0_i32_173
def k0_mult14 : BitVec 32 :=
  let c0_i32_184 : BitVec 32 := 0#32
  c0_i32_184
def k0_mult15 : BitVec 32 :=
  let c0_i32_189 : BitVec 32 := 0#32
  c0_i32_189
def k0_mult16 : BitVec 32 :=
  let c0_i32_200 : BitVec 32 := 0#32
  c0_i32_200
def k0_mult17 : BitVec 32 :=
  let c0_i32_205 : BitVec 32 := 0#32
  c0_i32_205
def k0_mult18 : BitVec 32 :=
  let c0_i32_216 : BitVec 32 := 0#32
  c0_i32_216
def k0_mult19 : BitVec 32 :=
  let c0_i32_221 : BitVec 32 := 0#32
  c0_i32_221
def k0_mult20 : BitVec 32 :=
  let c0_i32_232 : BitVec 32 := 0#32
  c0_i32_232
def k0_mult21 : BitVec 32 :=
  let c0_i32_237 : BitVec 32 := 0#32
  c0_i32_237
def k0_mult22 : BitVec 32 :=
  let c0_i32_248 : BitVec 32 := 0#32
  c0_i32_248
def k0_mult23 : BitVec 32 :=
  let c0_i32_253 : BitVec 32 := 0#32
  c0_i32_253
def k0_mult24 : BitVec 32 :=
  let c0_i32_264 : BitVec 32 := 0#32
  c0_i32_264
def k0_mult25 : BitVec 32 :=
  let c0_i32_269 : BitVec 32 := 0#32
  c0_i32_269
def k0_mult26 : BitVec 32 :=
  let c0_i32_280 : BitVec 32 := 0#32
  c0_i32_280
def k0_mult27 : BitVec 32 :=
  let c0_i32_285 : BitVec 32 := 0#32
  c0_i32_285
def k0_mult28 : BitVec 32 :=
  let c0_i32_296 : BitVec 32 := 0#32
  c0_i32_296
def k0_mult29 : BitVec 32 :=
  let c0_i32_301 : BitVec 32 := 0#32
  c0_i32_301
def k0_mult30 : BitVec 32 :=
  let c0_i32_312 : BitVec 32 := 0#32
  c0_i32_312
def k0_mult31 : BitVec 32 :=
  let c0_i32_317 : BitVec 32 := 0#32
  c0_i32_317
def k0_mult32 : BitVec 32 :=
  let c0_i32_328 : BitVec 32 := 0#32
  c0_i32_328
def k0_cond2 (i : grid0.Coords) : BitVec 1 :=
  let arg0 : BitVec 32 := BitVec.ofNat 32 (i 0).val
  let c1_i32_9 : BitVec 32 := 1#32
  let v19 : BitVec 32 := Scalar.addi arg0 c1_i32_9
  let c4_i32 : BitVec 32 := 4#32
  let v20 : BitVec 1 := Scalar.cmpi .slt v19 c4_i32
  let v21 : BitVec 32 := Scalar.extui v20
  let c0_i32_10 : BitVec 32 := 0#32
  let v22 : BitVec 1 := Scalar.cmpi .ne v21 c0_i32_10
  v22

def k0_mult33 (i : grid0.Coords) : BitVec 32 :=
  let c0_i32_92 : BitVec 32 := 0#32
  let arg0 : BitVec 32 := BitVec.ofNat 32 (i 0).val
  let c1_i32_79 : BitVec 32 := 1#32
  let v112 : BitVec 32 := Scalar.addi arg0 c1_i32_79
  let c4_i32_86 : BitVec 32 := 4#32
  let c0_i32_87 : BitVec 32 := 0#32
  let v123 : BitVec 1 := Scalar.cmpi .eq c4_i32_86 c0_i32_87
  let c1_i32_88 : BitVec 32 := 1#32
  let v124 : BitVec 32 := Scalar.select v123 c1_i32_88 c4_i32_86
  let v125 : BitVec 32 := Scalar.remsi v112 v124
  let c0_i32_90 : BitVec 32 := 0#32
  let v127 : BitVec 1 := Scalar.cmpi .slt v125 c0_i32_90
  let c0_i32_91 : BitVec 32 := 0#32
  let v128 : BitVec 1 := Scalar.cmpi .slt v124 c0_i32_91
  let v129 : BitVec 1 := Scalar.xori v127 v128
  let c0_i32_89 : BitVec 32 := 0#32
  let v126 : BitVec 1 := Scalar.cmpi .ne v125 c0_i32_89
  let v130 : BitVec 1 := Scalar.andi v129 v126
  let v131 : BitVec 32 := Scalar.addi v125 v124
  let v132 : BitVec 32 := Scalar.select v130 v131 v125
  let c1024_i32 : BitVec 32 := 1024#32
  let v133 : BitVec 32 := Scalar.muli v132 c1024_i32
  let v134 : BitVec 32 := Scalar.addi c0_i32_92 v133
  v134
def k0_off1 (i : grid0.Coords) : Fin 1 → Nat :=
  let arg1 : BitVec 32 := BitVec.ofNat 32 (i 1).val
  let c2_i32_80 : BitVec 32 := 2#32
  let c0_i32_81 : BitVec 32 := 0#32
  let v113 : BitVec 1 := Scalar.cmpi .eq c2_i32_80 c0_i32_81
  let c1_i32_82 : BitVec 32 := 1#32
  let v114 : BitVec 32 := Scalar.select v113 c1_i32_82 c2_i32_80
  let v115 : BitVec 32 := Scalar.remsi arg1 v114
  let c0_i32_84 : BitVec 32 := 0#32
  let v117 : BitVec 1 := Scalar.cmpi .slt v115 c0_i32_84
  let c0_i32_85 : BitVec 32 := 0#32
  let v118 : BitVec 1 := Scalar.cmpi .slt v114 c0_i32_85
  let v119 : BitVec 1 := Scalar.xori v117 v118
  let c0_i32_83 : BitVec 32 := 0#32
  let v116 : BitVec 1 := Scalar.cmpi .ne v115 c0_i32_83
  let v120 : BitVec 1 := Scalar.andi v119 v116
  let v121 : BitVec 32 := Scalar.addi v115 v114
  let v122 : BitVec 32 := Scalar.select v120 v121 v115
  ![v122.toNat]
def k0_off2 (i : grid0.Coords) : Fin 3 → Nat :=
  let arg1 : BitVec 32 := BitVec.ofNat 32 (i 1).val
  let c2_i32_80 : BitVec 32 := 2#32
  let c0_i32_81 : BitVec 32 := 0#32
  let v113 : BitVec 1 := Scalar.cmpi .eq c2_i32_80 c0_i32_81
  let c1_i32_82 : BitVec 32 := 1#32
  let v114 : BitVec 32 := Scalar.select v113 c1_i32_82 c2_i32_80
  let v115 : BitVec 32 := Scalar.remsi arg1 v114
  let c0_i32_84 : BitVec 32 := 0#32
  let v117 : BitVec 1 := Scalar.cmpi .slt v115 c0_i32_84
  let c0_i32_85 : BitVec 32 := 0#32
  let v118 : BitVec 1 := Scalar.cmpi .slt v114 c0_i32_85
  let v119 : BitVec 1 := Scalar.xori v117 v118
  let c0_i32_83 : BitVec 32 := 0#32
  let v116 : BitVec 1 := Scalar.cmpi .ne v115 c0_i32_83
  let v120 : BitVec 1 := Scalar.andi v119 v116
  let v121 : BitVec 32 := Scalar.addi v115 v114
  let v122 : BitVec 32 := Scalar.select v120 v121 v115
  let c0_i32_93 : BitVec 32 := 0#32
  let c0_i32_94 : BitVec 32 := 0#32
  ![v122.toNat, 0, 0]
def k0_off3 (i : grid0.Coords) : Fin 2 → Nat :=
  let arg1 : BitVec 32 := BitVec.ofNat 32 (i 1).val
  let c256_i32 : BitVec 32 := 256#32
  let v136 : BitVec 32 := Scalar.muli arg1 c256_i32
  let c0_i32_92 : BitVec 32 := 0#32
  let arg0 : BitVec 32 := BitVec.ofNat 32 (i 0).val
  let c1_i32_79 : BitVec 32 := 1#32
  let v112 : BitVec 32 := Scalar.addi arg0 c1_i32_79
  let c4_i32_86 : BitVec 32 := 4#32
  let c0_i32_87 : BitVec 32 := 0#32
  let v123 : BitVec 1 := Scalar.cmpi .eq c4_i32_86 c0_i32_87
  let c1_i32_88 : BitVec 32 := 1#32
  let v124 : BitVec 32 := Scalar.select v123 c1_i32_88 c4_i32_86
  let v125 : BitVec 32 := Scalar.remsi v112 v124
  let c0_i32_90 : BitVec 32 := 0#32
  let v127 : BitVec 1 := Scalar.cmpi .slt v125 c0_i32_90
  let c0_i32_91 : BitVec 32 := 0#32
  let v128 : BitVec 1 := Scalar.cmpi .slt v124 c0_i32_91
  let v129 : BitVec 1 := Scalar.xori v127 v128
  let c0_i32_89 : BitVec 32 := 0#32
  let v126 : BitVec 1 := Scalar.cmpi .ne v125 c0_i32_89
  let v130 : BitVec 1 := Scalar.andi v129 v126
  let v131 : BitVec 32 := Scalar.addi v125 v124
  let v132 : BitVec 32 := Scalar.select v130 v131 v125
  let c1024_i32 : BitVec 32 := 1024#32
  let v133 : BitVec 32 := Scalar.muli v132 c1024_i32
  let v134 : BitVec 32 := Scalar.addi c0_i32_92 v133
  let v135 : BitVec 32 := v134
  ![v136.toNat, v135.toNat]
def k0_cond3 (i : grid0.Coords) : BitVec 1 :=
  let arg0 : BitVec 32 := BitVec.ofNat 32 (i 0).val
  let c1_i32_11 : BitVec 32 := 1#32
  let v23 : BitVec 32 := Scalar.addi arg0 c1_i32_11
  let c4_i32_12 : BitVec 32 := 4#32
  let v24 : BitVec 1 := Scalar.cmpi .slt v23 c4_i32_12
  let arg1 : BitVec 32 := BitVec.ofNat 32 (i 1).val
  let c0_i32_13 : BitVec 32 := 0#32
  let v25 : BitVec 1 := Scalar.cmpi .sgt arg1 c0_i32_13
  let v26 : BitVec 1 := Scalar.andi v24 v25
  let v27 : BitVec 32 := Scalar.extui v26
  let c0_i32_14 : BitVec 32 := 0#32
  let v28 : BitVec 1 := Scalar.cmpi .ne v27 c0_i32_14
  v28

def k0_mult34 (i : grid0.Coords) : BitVec 32 :=
  let c0_i32_94 : BitVec 32 := 0#32
  let arg0 : BitVec 32 := BitVec.ofNat 32 (i 0).val
  let c1_i32_79 : BitVec 32 := 1#32
  let v112 : BitVec 32 := Scalar.addi arg0 c1_i32_79
  let c4_i32_88 : BitVec 32 := 4#32
  let c0_i32_89 : BitVec 32 := 0#32
  let v125 : BitVec 1 := Scalar.cmpi .eq c4_i32_88 c0_i32_89
  let c1_i32_90 : BitVec 32 := 1#32
  let v126 : BitVec 32 := Scalar.select v125 c1_i32_90 c4_i32_88
  let v127 : BitVec 32 := Scalar.remsi v112 v126
  let c0_i32_92 : BitVec 32 := 0#32
  let v129 : BitVec 1 := Scalar.cmpi .slt v127 c0_i32_92
  let c0_i32_93 : BitVec 32 := 0#32
  let v130 : BitVec 1 := Scalar.cmpi .slt v126 c0_i32_93
  let v131 : BitVec 1 := Scalar.xori v129 v130
  let c0_i32_91 : BitVec 32 := 0#32
  let v128 : BitVec 1 := Scalar.cmpi .ne v127 c0_i32_91
  let v132 : BitVec 1 := Scalar.andi v131 v128
  let v133 : BitVec 32 := Scalar.addi v127 v126
  let v134 : BitVec 32 := Scalar.select v132 v133 v127
  let c1024_i32 : BitVec 32 := 1024#32
  let v135 : BitVec 32 := Scalar.muli v134 c1024_i32
  let v136 : BitVec 32 := Scalar.addi c0_i32_94 v135
  v136
def k0_off4 (i : grid0.Coords) : Fin 1 → Nat :=
  let arg1 : BitVec 32 := BitVec.ofNat 32 (i 1).val
  let c1_i32_81 : BitVec 32 := 1#32
  let v114 : BitVec 32 := Scalar.subi arg1 c1_i32_81
  let c2_i32_82 : BitVec 32 := 2#32
  let c0_i32_83 : BitVec 32 := 0#32
  let v115 : BitVec 1 := Scalar.cmpi .eq c2_i32_82 c0_i32_83
  let c1_i32_84 : BitVec 32 := 1#32
  let v116 : BitVec 32 := Scalar.select v115 c1_i32_84 c2_i32_82
  let v117 : BitVec 32 := Scalar.remsi v114 v116
  let c0_i32_86 : BitVec 32 := 0#32
  let v119 : BitVec 1 := Scalar.cmpi .slt v117 c0_i32_86
  let c0_i32_87 : BitVec 32 := 0#32
  let v120 : BitVec 1 := Scalar.cmpi .slt v116 c0_i32_87
  let v121 : BitVec 1 := Scalar.xori v119 v120
  let c0_i32_85 : BitVec 32 := 0#32
  let v118 : BitVec 1 := Scalar.cmpi .ne v117 c0_i32_85
  let v122 : BitVec 1 := Scalar.andi v121 v118
  let v123 : BitVec 32 := Scalar.addi v117 v116
  let v124 : BitVec 32 := Scalar.select v122 v123 v117
  ![v124.toNat]
def k0_off5 (i : grid0.Coords) : Fin 3 → Nat :=
  let arg1 : BitVec 32 := BitVec.ofNat 32 (i 1).val
  let c1_i32_81 : BitVec 32 := 1#32
  let v114 : BitVec 32 := Scalar.subi arg1 c1_i32_81
  let c2_i32_82 : BitVec 32 := 2#32
  let c0_i32_83 : BitVec 32 := 0#32
  let v115 : BitVec 1 := Scalar.cmpi .eq c2_i32_82 c0_i32_83
  let c1_i32_84 : BitVec 32 := 1#32
  let v116 : BitVec 32 := Scalar.select v115 c1_i32_84 c2_i32_82
  let v117 : BitVec 32 := Scalar.remsi v114 v116
  let c0_i32_86 : BitVec 32 := 0#32
  let v119 : BitVec 1 := Scalar.cmpi .slt v117 c0_i32_86
  let c0_i32_87 : BitVec 32 := 0#32
  let v120 : BitVec 1 := Scalar.cmpi .slt v116 c0_i32_87
  let v121 : BitVec 1 := Scalar.xori v119 v120
  let c0_i32_85 : BitVec 32 := 0#32
  let v118 : BitVec 1 := Scalar.cmpi .ne v117 c0_i32_85
  let v122 : BitVec 1 := Scalar.andi v121 v118
  let v123 : BitVec 32 := Scalar.addi v117 v116
  let v124 : BitVec 32 := Scalar.select v122 v123 v117
  let c0_i32_95 : BitVec 32 := 0#32
  let c0_i32_96 : BitVec 32 := 0#32
  ![v124.toNat, 0, 0]
def k0_off6 (i : grid0.Coords) : Fin 2 → Nat :=
  let arg1 : BitVec 32 := BitVec.ofNat 32 (i 1).val
  let c1_i32_80 : BitVec 32 := 1#32
  let v113 : BitVec 32 := Scalar.subi arg1 c1_i32_80
  let c256_i32 : BitVec 32 := 256#32
  let v138 : BitVec 32 := Scalar.muli v113 c256_i32
  let c0_i32_94 : BitVec 32 := 0#32
  let arg0 : BitVec 32 := BitVec.ofNat 32 (i 0).val
  let c1_i32_79 : BitVec 32 := 1#32
  let v112 : BitVec 32 := Scalar.addi arg0 c1_i32_79
  let c4_i32_88 : BitVec 32 := 4#32
  let c0_i32_89 : BitVec 32 := 0#32
  let v125 : BitVec 1 := Scalar.cmpi .eq c4_i32_88 c0_i32_89
  let c1_i32_90 : BitVec 32 := 1#32
  let v126 : BitVec 32 := Scalar.select v125 c1_i32_90 c4_i32_88
  let v127 : BitVec 32 := Scalar.remsi v112 v126
  let c0_i32_92 : BitVec 32 := 0#32
  let v129 : BitVec 1 := Scalar.cmpi .slt v127 c0_i32_92
  let c0_i32_93 : BitVec 32 := 0#32
  let v130 : BitVec 1 := Scalar.cmpi .slt v126 c0_i32_93
  let v131 : BitVec 1 := Scalar.xori v129 v130
  let c0_i32_91 : BitVec 32 := 0#32
  let v128 : BitVec 1 := Scalar.cmpi .ne v127 c0_i32_91
  let v132 : BitVec 1 := Scalar.andi v131 v128
  let v133 : BitVec 32 := Scalar.addi v127 v126
  let v134 : BitVec 32 := Scalar.select v132 v133 v127
  let c1024_i32 : BitVec 32 := 1024#32
  let v135 : BitVec 32 := Scalar.muli v134 c1024_i32
  let v136 : BitVec 32 := Scalar.addi c0_i32_94 v135
  let v137 : BitVec 32 := v136
  ![v138.toNat, v137.toNat]
def k0_mult35 (i : grid0.Coords) : BitVec 32 :=
  let arg1 : BitVec 32 := BitVec.ofNat 32 (i 1).val
  let c1_i32_97 : BitVec 32 := 1#32
  let v144 : BitVec 32 := Scalar.subi arg1 c1_i32_97
  let c256_i32_98 : BitVec 32 := 256#32
  let v145 : BitVec 32 := Scalar.muli v144 c256_i32_98
  v145
def k0_off7 (i : grid0.Coords) : Fin 3 → Nat :=
  let arg1 : BitVec 32 := BitVec.ofNat 32 (i 1).val
  let c1_i32_99 : BitVec 32 := 1#32
  let v147 : BitVec 32 := Scalar.subi arg1 c1_i32_99
  let c2_i32_100 : BitVec 32 := 2#32
  let c0_i32_101 : BitVec 32 := 0#32
  let v148 : BitVec 1 := Scalar.cmpi .eq c2_i32_100 c0_i32_101
  let c1_i32_102 : BitVec 32 := 1#32
  let v149 : BitVec 32 := Scalar.select v148 c1_i32_102 c2_i32_100
  let v150 : BitVec 32 := Scalar.remsi v147 v149
  let c0_i32_104 : BitVec 32 := 0#32
  let v152 : BitVec 1 := Scalar.cmpi .slt v150 c0_i32_104
  let c0_i32_105 : BitVec 32 := 0#32
  let v153 : BitVec 1 := Scalar.cmpi .slt v149 c0_i32_105
  let v154 : BitVec 1 := Scalar.xori v152 v153
  let c0_i32_103 : BitVec 32 := 0#32
  let v151 : BitVec 1 := Scalar.cmpi .ne v150 c0_i32_103
  let v155 : BitVec 1 := Scalar.andi v154 v151
  let v156 : BitVec 32 := Scalar.addi v150 v149
  let v157 : BitVec 32 := Scalar.select v155 v156 v150
  let v158 : Index := Scalar.indexCast v157
  let c0_106 : Index := 0#32
  let c0_107 : Index := 0#32
  ![v158.toNat, 0, 0]
def k0_off8 (i : grid0.Coords) : Fin 3 → Nat :=
  let c1_i32_108 : BitVec 32 := 1#32
  let arg0 : BitVec 32 := BitVec.ofNat 32 (i 0).val
  let c2_i32 : BitVec 32 := 2#32
  let c0_i32 : BitVec 32 := 0#32
  let v4 : BitVec 1 := Scalar.cmpi .eq c2_i32 c0_i32
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v162 : BitVec 32 := Scalar.subi c1_i32_108 v13
  let v163 : Index := Scalar.indexCast v162
  let arg1 : BitVec 32 := BitVec.ofNat 32 (i 1).val
  let c1_i32_97 : BitVec 32 := 1#32
  let v144 : BitVec 32 := Scalar.subi arg1 c1_i32_97
  let c256_i32_98 : BitVec 32 := 256#32
  let v145 : BitVec 32 := Scalar.muli v144 c256_i32_98
  let v146 : BitVec 32 := v145
  let v164 : Index := Scalar.indexCast v146
  let c0_109 : Index := 0#32
  ![v163.toNat, v164.toNat, 0]
def k0_cond4 (i : grid0.Coords) : BitVec 1 :=
  let arg0 : BitVec 32 := BitVec.ofNat 32 (i 0).val
  let c0_i32_15 : BitVec 32 := 0#32
  let v29 : BitVec 1 := Scalar.cmpi .sgt arg0 c0_i32_15
  let arg1 : BitVec 32 := BitVec.ofNat 32 (i 1).val
  let c0_i32_16 : BitVec 32 := 0#32
  let v30 : BitVec 1 := Scalar.cmpi .eq arg1 c0_i32_16
  let v31 : BitVec 1 := Scalar.andi v29 v30
  let v32 : BitVec 32 := Scalar.extui v31
  let c0_i32_17 : BitVec 32 := 0#32
  let v33 : BitVec 1 := Scalar.cmpi .ne v32 c0_i32_17
  v33

def k0_mult36 (i : grid0.Coords) : BitVec 32 :=
  let c0_i32_85 : BitVec 32 := 0#32
  let arg0 : BitVec 32 := BitVec.ofNat 32 (i 0).val
  let c4_i32_79 : BitVec 32 := 4#32
  let c0_i32_80 : BitVec 32 := 0#32
  let v112 : BitVec 1 := Scalar.cmpi .eq c4_i32_79 c0_i32_80
  let c1_i32_81 : BitVec 32 := 1#32
  let v113 : BitVec 32 := Scalar.select v112 c1_i32_81 c4_i32_79
  let v114 : BitVec 32 := Scalar.remsi arg0 v113
  let c0_i32_83 : BitVec 32 := 0#32
  let v116 : BitVec 1 := Scalar.cmpi .slt v114 c0_i32_83
  let c0_i32_84 : BitVec 32 := 0#32
  let v117 : BitVec 1 := Scalar.cmpi .slt v113 c0_i32_84
  let v118 : BitVec 1 := Scalar.xori v116 v117
  let c0_i32_82 : BitVec 32 := 0#32
  let v115 : BitVec 1 := Scalar.cmpi .ne v114 c0_i32_82
  let v119 : BitVec 1 := Scalar.andi v118 v115
  let v120 : BitVec 32 := Scalar.addi v114 v113
  let v121 : BitVec 32 := Scalar.select v119 v120 v114
  let c1024_i32 : BitVec 32 := 1024#32
  let v122 : BitVec 32 := Scalar.muli v121 c1024_i32
  let v123 : BitVec 32 := Scalar.addi c0_i32_85 v122
  v123
def k0_off9 (i : grid0.Coords) : Fin 2 → Nat :=
  let c3840_i32 : BitVec 32 := 3840#32
  let c0_i32_85 : BitVec 32 := 0#32
  let arg0 : BitVec 32 := BitVec.ofNat 32 (i 0).val
  let c4_i32_79 : BitVec 32 := 4#32
  let c0_i32_80 : BitVec 32 := 0#32
  let v112 : BitVec 1 := Scalar.cmpi .eq c4_i32_79 c0_i32_80
  let c1_i32_81 : BitVec 32 := 1#32
  let v113 : BitVec 32 := Scalar.select v112 c1_i32_81 c4_i32_79
  let v114 : BitVec 32 := Scalar.remsi arg0 v113
  let c0_i32_83 : BitVec 32 := 0#32
  let v116 : BitVec 1 := Scalar.cmpi .slt v114 c0_i32_83
  let c0_i32_84 : BitVec 32 := 0#32
  let v117 : BitVec 1 := Scalar.cmpi .slt v113 c0_i32_84
  let v118 : BitVec 1 := Scalar.xori v116 v117
  let c0_i32_82 : BitVec 32 := 0#32
  let v115 : BitVec 1 := Scalar.cmpi .ne v114 c0_i32_82
  let v119 : BitVec 1 := Scalar.andi v118 v115
  let v120 : BitVec 32 := Scalar.addi v114 v113
  let v121 : BitVec 32 := Scalar.select v119 v120 v114
  let c1024_i32 : BitVec 32 := 1024#32
  let v122 : BitVec 32 := Scalar.muli v121 c1024_i32
  let v123 : BitVec 32 := Scalar.addi c0_i32_85 v122
  let v124 : BitVec 32 := v123
  ![3840, v124.toNat]
def k0_off10 (i : grid0.Coords) : Fin 3 → Nat :=
  let arg0 : BitVec 32 := BitVec.ofNat 32 (i 0).val
  let c2_i32 : BitVec 32 := 2#32
  let c0_i32 : BitVec 32 := 0#32
  let v4 : BitVec 1 := Scalar.cmpi .eq c2_i32 c0_i32
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v133 : Index := Scalar.indexCast v13
  let c3840 : Index := 3840#32
  let c0_92 : Index := 0#32
  ![v133.toNat, 3840, 0]
def k0_off11 (i : grid0.Coords) : Fin 3 → Nat :=
  let arg0 : BitVec 32 := BitVec.ofNat 32 (i 0).val
  let c2_i32 : BitVec 32 := 2#32
  let c0_i32 : BitVec 32 := 0#32
  let v4 : BitVec 1 := Scalar.cmpi .eq c2_i32 c0_i32
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v36 : Index := Scalar.indexCast v13
  let c0_20 : Index := 0#32
  let c0_21 : Index := 0#32
  ![v36.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpReferenceIdeal.lean ====
abbrev S4x4096x4096 : Shape := ⟨3, ![4, 4096, 4096]⟩
abbrev S1x4096x4096 : Shape := ⟨3, ![1, 4096, 4096]⟩
abbrev S4x4096x8192 : Shape := ⟨3, ![4, 4096, 8192]⟩
abbrev S4096x4096 : Shape := ⟨2, ![4096, 4096]⟩
abbrev S16384x4096 : Shape := ⟨2, ![16384, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096x4096, .f32⟩
  | .hbm, ⟨2, _⟩ => ⟨S4x4096x8192, .f32⟩
  | .hbm, ⟨3, _⟩ => ⟨S1x4096x4096, .f32⟩
  | .hbm, ⟨4, _⟩ => ⟨S4x4096x4096, .f32⟩
  | .hbm, ⟨5, _⟩ => ⟨S4096x4096, .f32⟩
  | .hbm, ⟨6, _⟩ => ⟨S4x4096x4096, .f32⟩
  | .hbm, ⟨7, _⟩ => ⟨S4x4096x4096, .f32⟩
  | .hbm, ⟨8, _⟩ => ⟨S16384x4096, .f32⟩
  | .hbm, ⟨9, _⟩ => ⟨S16384x4096, .bf16⟩
  | .hbm, ⟨10, _⟩ => ⟨S4096x4096, .f32⟩
  | .hbm, ⟨11, _⟩ => ⟨S4096x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Ref.lean ====
/-
  The reference at one element: each of its operations read at an index.
-/
module

public import proofs.«01_k».proof.Proof.Gen.ReferenceIdeal.Read
public import Idealize.ShloMosaic.Lib.Pointwise
public import Idealize.ShloMosaic.Lib.Tactic.WordOmega

@[expose] public section

noncomputable section

namespace Cert.Proof.Ref

open Cert.ReferenceIdeal Cert.ReferenceIdeal.Gen Cert.ReferenceIdeal.Read Idealize.ShloMosaic

variable (q : S4x4096x64x64.Idx → EReal) (k v : S4x4096x8x64.Idx → EReal) (g : S4x4096x8192.Idx → EReal) (s : S1x64.Idx → EReal)

/-- A position inside a sequence: block `N`, row `i` of the block. -/
def pos (N : Fin 32) (i : Fin 128) : Fin 4096 := ⟨128 * N.val + i.val, by omega⟩

/-- A query head: group `h`, member `e` of the group. -/
def head (h e : Fin 8) : Fin 64 := ⟨8 * h.val + e.val, by omega⟩

/-- Row `j` of the 256 rows that block `N` of a sequence looks at: 128 rows of the block before (zero rows before the first block),
    then the block's own 128 rows. -/
def window (x : S4x4096x8x64.Idx → EReal) (b : Fin 4) (N : Fin 32) (h : Fin 8) (j : Fin 256) (d : Fin 64) : EReal :=
  if _h : j.val < 128 then (if N.val = 0 then 0 else x (ix4 b ⟨128 * (N.val - 1) + j.val, by omega⟩ h d))
  else x (ix4 b ⟨128 * N.val + (j.val - 128), by omega⟩ h d)

/-- Which of those rows query row `i` attends: the 128 that end at its own, and none before the sequence. -/
def band (N : Fin 32) (i : Fin 128) (j : Fin 256) : Prop := (j.val ≤ i.val + 128 ∧ i.val < j.val) ∧ (0 < N.val ∨ 128 ≤ j.val)

instance (N : Fin 32) (i : Fin 128) (j : Fin 256) : Decidable (band N i j) := by unfold band; infer_instance

theorem v0_at (b : Fin 4) (N : Fin 32) (i : Fin 128) (h e : Fin 8) (d : Fin 64) :
    val_main_v0 (F := Ideal) q (ix6 b N i h e d) = q (ix4 b (pos N i) (head h e) d) := by
  unfold val_main_v0
  pointwise []
  congr 1
  refine congrArg₂ (ix4 _ · · _) (Fin.ext ?_) (Fin.ext ?_) <;> simp only [pos, head] <;> omega

theorem v7_at (b : Fin 4) (N : Fin 32) (j : Fin 256) (h : Fin 8) (d : Fin 64) :
    val_main_v7 (F := Ideal) k (ix5 b N j h d) = window k b N h j d := by
  unfold val_main_v7 val_main_v6 val_main_v5 val_main_v1 val_main_v4 val_main_cst
  pointwise []
  simp only [window, Nat.lt_one_iff, Nat.mul_comm 128]
  rfl

theorem v12_at (b : Fin 4) (N : Fin 32) (j : Fin 256) (h : Fin 8) (d : Fin 64) :
    val_main_v12 (F := Ideal) v (ix5 b N j h d) = window v b N h j d := by
  unfold val_main_v12 val_main_v11 val_main_v10 val_main_v2 val_main_v9 val_main_cst_0
  pointwise []
  simp only [window, Nat.lt_one_iff, Nat.mul_comm 128]
  rfl

theorem mask_at (N : Fin 32) (i : Fin 128) (j : Fin 256) :
    val_main_v49 (F := Ideal) (ix6 0 N 0 0 i j) = BitVec.ofBool (decide (band N i j)) := by
  unfold val_main_v49 val_main_v48 val_main_v47 val_main_v46 val_main_v45 val_main_v44 val_main_v43 val_main_v42 val_main_v41 val_main_v40 val_main_v39 val_main_v38 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_c val_main_c_1 val_main_c_2 val_main_c_4 val_main_c_5
  pointwise []
  have h1 : IntOp.cmpi CmpIPredicate.sle (BitVec.ofNat 32 j.val) (IntOp.addi (BitVec.ofNat 32 i.val) 128#32)
      = if j.val ≤ i.val + 128 then 1#1 else 0#1 := by split <;> word_omega
  have h2 : IntOp.subi (IntOp.addi (BitVec.ofNat 32 i.val) 128#32) 128#32 = BitVec.ofNat 32 i.val := by
    simp only [IntOp.subi, IntOp.addi, BitVec.add_sub_cancel]
  have h3 : IntOp.cmpi CmpIPredicate.sgt (BitVec.ofNat 32 j.val) (BitVec.ofNat 32 i.val)
      = if i.val < j.val then 1#1 else 0#1 := by split <;> word_omega
  have h4 : IntOp.cmpi CmpIPredicate.sgt (BitVec.ofNat 32 N.val) 0#32 = if 0 < N.val then 1#1 else 0#1 := by split <;> word_omega
  have h5 : IntOp.cmpi CmpIPredicate.sge (BitVec.ofNat 32 j.val) 128#32 = if 128 ≤ j.val then 1#1 else 0#1 := by split <;> word_omega
  rw [h2, h1, h3, h4, h5]
  unfold band
  by_cases c1 : j.val ≤ i.val + 128 <;> by_cases c2 : i.val < j.val <;> by_cases c3 : 0 < N.val <;> by_cases c4 : 128 ≤ j.val <;>
    simp only [c1, c2, c3, c4, if_true, if_false, and_true, true_and, and_false, false_and, or_true, true_or, or_false, decide_true, decide_false] <;> rfl

/-- The scaled score of query row `i` and window row `j`. -/
def dotR (b : Fin 4) (N : Fin 32) (h e : Fin 8) (i : Fin 128) (j : Fin 256) : EReal :=
  (∑ d : Fin 64, window k b N h j d * q (ix4 b (pos N i) (head h e) d)) * Ideal.ofBits .f32 0x3E000000#32

/-- The score after the mask: `−∞` outside the band. -/
def scoreR (b : Fin 4) (N : Fin 32) (h e : Fin 8) (i : Fin 128) (j : Fin 256) : EReal :=
  if band N i j then dotR q k b N h e i j else ⊥

theorem v34_at (b : Fin 4) (N : Fin 32) (h e : Fin 8) (i : Fin 128) (j : Fin 256) :
    val_main_v34 (F := Ideal) q k (ix6 b N h j i e) = ∑ d : Fin 64, window k b N h j d * q (ix4 b (pos N i) (head h e) d) := by
  rw [val_main_v34_apply]
  refine Finset.sum_congr rfl fun d _ => ?_
  rw [← v7_at k b N j h d, ← v0_at q b N i h e d]
  congr 2 <;> funext a
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl
    | ⟨5, _⟩ => rfl

theorem negInf : Ideal.ofBits FTy.f32 4286578688#32 = ⊥ := by
  simp [Ideal.ofBits, Ideal.ieee]

theorem v50_at (b : Fin 4) (N : Fin 32) (h e : Fin 8) (i : Fin 128) (j : Fin 256) :
    val_main_v50 (F := Ideal) q k (ix6 b N h e i j) = scoreR q k b N h e i j := by
  have h34 := v34_at q k b N h e i j
  have h49 := mask_at N i j
  unfold val_main_v50 val_main_call0_v1 val_main_call0_v2 val_main_call0_v0 val_main_v37 val_main_v36 val_main_v35 val_main_cst_3 val_main_cst_6
  generalize val_main_v34 (F := Ideal) q k = y at h34 ⊢
  generalize val_main_v49 (F := Ideal) = w at h49 ⊢
  pointwise []
  rw [h34, h49]
  unfold scoreR dotR
  by_cases hb : band N i j
  · simp only [hb, decide_true, if_true]; rfl
  · simp only [hb, decide_false, if_false]; exact negInf

theorem v51_at (b : Fin 4) (N : Fin 32) (h e : Fin 8) (i : Fin 128) :
    val_main_v51 (F := Ideal) q k (ix5 b N h e i) = Finset.univ.fold max ⊥ (scoreR q k b N h e i) := by
  have h50 := v50_at q k b N h e i
  unfold val_main_v51 val_main_cst_7
  generalize val_main_v50 (F := Ideal) q k = y at h50 ⊢
  pointwise []
  have hr : S4x32x8x8x128x256.Reduces [5] S4x32x8x8x128 := by decide
  rw [negInf, Shape.ReducesTo.drop_eq_drop reducesTo_S4x32x8x8x128x256_S4x32x8x8x128_d5 hr, hr.fold_filter_drop_single max]
  refine congrArg (fun f => Finset.univ.fold max ⊥ f) (funext fun j => ?_)
  refine Eq.trans (congrArg y ?_) (h50 j)
  funext a
  match a with
    | ⟨0, _⟩ => rfl
    | ⟨1, _⟩ => rfl
    | ⟨2, _⟩ => rfl
    | ⟨3, _⟩ => rfl
    | ⟨4, _⟩ => rfl
    | ⟨5, _⟩ => rfl

/-- The largest of the scores and the sink. -/
def maxR (b : Fin 4) (N : Fin 32) (h e : Fin 8) (i : Fin 128) : EReal :=
  max (Finset.univ.fold max ⊥ (scoreR q k b N h e i)) (s (ix2 0 (head h e)))

def expR (b : Fin 4) (N : Fin 32) (h e : Fin 8) (i : Fin 128) (j : Fin 256) : EReal :=
  Ideal.exp (scoreR q k b N h e i j - maxR q k s b N h e i)

/-- The denominator of the softmax with its sink. -/
def denR (b : Fin 4) (N : Fin 32) (h e : Fin 8) (i : Fin 128) : EReal :=
  (∑ j : Fin 256, expR q k s b N h e i j) + Ideal.exp (s (ix2 0 (head h e)) - maxR q k s b N h e i)

theorem v53_at (b : Fin 4) (N : Fin 32) (h e : Fin 8) (i : Fin 128) :
    val_main_v53 (F := Ideal) s (ix6 b N h e i 0) = s (ix2 0 (head h e)) := by
  unfold val_main_v53 val_main_v14 val_main_v13
  pointwise []
  unfold head
  simp only [Nat.mul_comm 8]

theorem v52_at (b : Fin 4) (N : Fin 32) (h e : Fin 8) (i : Fin 128) :
    val_main_v52 (F := Ideal) q k (ix6 b N h e i 0) = Finset.univ.fold max ⊥ (scoreR q k b N h e i) := by
  have h51 := v51_at q k b N h e i
  unfold val_main_v52
  generalize val_main_v51 (F := Ideal) q k = y at h51 ⊢
  pointwise []
  exact h51

theorem v54_at (b : Fin 4) (N : Fin 32) (h e : Fin 8) (i : Fin 128) :
    val_main_v54 (F := Ideal) q k s (ix6 b N h e i 0) = maxR q k s b N h e i := by
  rw [val_main_v54_apply, v52_at, v53_at]
  rfl

theorem v57_at (b : Fin 4) (N : Fin 32) (h e : Fin 8) (i : Fin 128) (j : Fin 256) :
    val_main_v57 (F := Ideal) q k s (ix6 b N h e i j) = expR q k s b N h e i j := by
  have h54 := v54_at q k s b N h e i
  have h50 := v50_at q k b N h e i j
  unfold val_main_v57 val_main_v56 val_main_v55
  generalize val_main_v54 (F := Ideal) q k s = y at h54 ⊢
  generalize val_main_v50 (F := Ideal) q k = z at h50 ⊢
  pointwise []
  rw [h54, h50]
  rfl

theorem v58_at (b : Fin 4) (N : Fin 32) (h e : Fin 8) (i : Fin 128) :
    val_main_v58 (F := Ideal) q k s (ix5 b N h e i) = ∑ j : Fin 256, expR q k s b N h e i j := by
  rw [val_main_v58_apply]
  unfold val_main_cst_8
  pointwise []
  refine Finset.sum_congr rfl fun j _ => ?_
  rw [← v57_at]
  congr 1
  funext a
  match a with
    | ⟨0, _⟩ => rfl
    | ⟨1, _⟩ => rfl
    | ⟨2, _⟩ => rfl
    | ⟨3, _⟩ => rfl
    | ⟨4, _⟩ => rfl
    | ⟨5, _⟩ => rfl

theorem v63_at (b : Fin 4) (N : Fin 32) (h e : Fin 8) (i : Fin 128) :
    val_main_v63 (F := Ideal) q k s (ix6 b N h e i 0) = denR q k s b N h e i := by
  have h54 := v54_at q k s b N h e i
  have h58 := v58_at q k s b N h e i
  unfold val_main_v63 val_main_v62 val_main_v61 val_main_v60 val_main_v59 val_main_v14 val_main_v13
  generalize val_main_v54 (F := Ideal) q k s = y at h54 ⊢
  generalize val_main_v58 (F := Ideal) q k s = z at h58 ⊢
  pointwise []
  rw [h54, h58]
  unfold denR head
  simp only [Nat.mul_comm 8]

theorem v65_at (b : Fin 4) (N : Fin 32) (h e : Fin 8) (i : Fin 128) (j : Fin 256) :
    val_main_v65 (F := Ideal) q k s (ix6 b N h e i j) = Ideal.div (expR q k s b N h e i j) (denR q k s b N h e i) := by
  have h57 := v57_at q k s b N h e i j
  have h63 := v63_at q k s b N h e i
  unfold val_main_v65 val_main_v64
  generalize val_main_v57 (F := Ideal) q k s = y at h57 ⊢
  generalize val_main_v63 (F := Ideal) q k s = z at h63 ⊢
  pointwise []
  rw [h57, h63]

theorem v66_at (b : Fin 4) (N : Fin 32) (h e : Fin 8) (i : Fin 128) (d : Fin 64) :
    val_main_v66 (F := Ideal) q k v s (ix6 b N h d e i)
      = ∑ j : Fin 256, window v b N h j d * Ideal.div (expR q k s b N h e i j) (denR q k s b N h e i) := by
  rw [val_main_v66_apply]
  refine Finset.sum_congr rfl fun j _ => ?_
  rw [← v12_at, ← v65_at]
  congr 2 <;> funext a
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl
    | ⟨5, _⟩ => rfl

/-- The reference's result at row `r`, column `c`. -/
theorem out_at (b : Fin 4) (N : Fin 32) (h e : Fin 8) (i : Fin 128) (d : Fin 64) (r : Fin 16384) (c : Fin 4096)
    (hr : r.val = 4096 * b.val + 128 * N.val + i.val) (hc : c.val = 512 * h.val + 64 * e.val + d.val) :
    val_main_v72 (F := Ideal) q k v g s (ix2 r c)
      = (∑ j : Fin 256, window v b N h j d * Ideal.div (expR q k s b N h e i j) (denR q k s b N h e i))
        * g (ix3 b (pos N i) ⟨c.val, by omega⟩) := by
  have h66 := v66_at q k v s b N h e i d
  unfold val_main_v72 val_main_v71 val_main_v70 val_main_v69 val_main_v68 val_main_v67
  generalize val_main_v66 (F := Ideal) q k v s = y at h66 ⊢
  pointwise []
  rw [← h66]
  congr 2
  · congr 1 <;> apply Fin.ext <;> dsimp only <;> omega
  · refine congrArg₂ (ix3 · · _) (Fin.ext ?_) (Fin.ext ?_) <;> simp only [pos] <;> omega

end Cert.Proof.Ref
-- ==== Proof.Heads.lean ====
/- Hand-written, untrusted: WHAT ONE KEY/VALUE HEAD OF ONE BLOCK COMPUTES, as functions of the slabs it reads. A block is 128
   query rows; a key/value head serves eight query heads, packed two to a slab of 128 lanes (`pp` of four slabs), and its
   own 64 lanes are the lower (`e = false`) or the upper (`e = true`) half of a slab of 128. The functions are spelled with
   the operations of the printed body, one function per step; the body's 128 stores are these functions at the slabs each
   reads. A block with a previous block reads 256 keys (`…2`), the first block of a sequence 128 (`…1`). -/
module

public import proofs.«01_k».proof.Proof.Gen.KernelIdeal

@[expose] public section

noncomputable section

namespace Cert.Proof.Heads

open Cert.KernelIdeal Cert.KernelIdeal.Gen Idealize.ShloMosaic

variable {F : FTy → Type} [FloatOps F] [Named F]

/-! ### The masks and selectors -/

/-- The query's row in its block, at each column of a tile (four slabs of 128 queries side by side). -/
def qryRow : IVec S128x512 32 :=
  let n : BitVec 32 := Scalar.select (Scalar.cmpi .eq 128#32 0#32) 1#32 128#32
  let r := remsi (iota .tc S128x512 32 [1] iota_S128x512_d1_w32) (broadcast S128x512 n)
  select (andi (xori (cmpi .slt r (broadcast S128x512 0#32))
      (broadcastTo S128x512 (broadcast S128x512 (Scalar.cmpi .slt n 0#32)) broadcasts_S128x512_S128x512))
    (cmpi .ne r (broadcast S128x512 0#32))) (addi r (broadcast S128x512 n)) r

/-- Where a tile takes the key from the previous block: the key's row is past the query's. -/
def fromPrev : IVec S128x512 1 := cmpi .sgt (iota .tc S128x512 32 [0] iota_S128x512_d0_w32) qryRow

/-- Where a tile takes the key from the query's own block. -/
def fromCur : IVec S128x512 1 := cmpi .sle (iota .tc S128x512 32 [0] iota_S128x512_d0_w32) qryRow

/-- A mask as the numbers one and zero. -/
def asNum (b : IVec S128x512 1) : FVec F S128x512 .bf16 :=
  truncf .bf16 (sitofp .f32 (extui 32 b natLt_1_32) : FVec F S128x512 .f32) bitsLt_bf16_f32

/-- A mask as it is stored in its scratch buffer. -/
def stored (b : IVec S128x512 1) : FVec F S128x512 .bf16 :=
  shapeCast S128x512 (asNum b) shapeCasts_S128x512_S128x512

/-- The lower 64 of 128 lanes. -/
def lowLanes : IVec S128x128 1 :=
  cmpi .slt (iota .tc S128x128 32 [1] iota_S128x128_d1_w32) (broadcast S128x128 64#32)

/-- The number of the slab a column lies in. -/
def slabNo : IVec S1x512 32 :=
  let x := iota .tc S1x512 32 [1] iota_S1x512_d1_w32
  let c := broadcast S1x512 128#32
  let z := broadcast S1x512 0#32
  let sgn := subi (extui 32 (cmpi .sgt x z) natLt_1_32) (extui 32 (cmpi .slt x z) natLt_1_32)
  let one : BitVec 32 := Scalar.subi (Scalar.extui (Scalar.cmpi .sgt 128#32 0#32))
    (Scalar.extui (Scalar.cmpi .slt 128#32 0#32))
  select (andi (cmpi .ne sgn (broadcast S1x512 one)) (cmpi .ne (remsi x c) z))
    (subi (divsi x c) (broadcast S1x512 1#32)) (divsi x c)

/-- Rows that sum the weights of the lower-lane queries (row 0) and of the upper-lane queries (row 1). -/
def sumRows2 : FVec F S16x512 .f32 :=
  let r := iota .tc S16x512 32 [0] iota_S16x512_d0_w32
  mulf (select (xori (xori (cmpi .eq r (broadcast S16x512 0#32))
        (cmpi .slt (iota .tc S16x512 32 [1] iota_S16x512_d1_w32) (broadcast S16x512 256#32))) (constantI S16x512 1 1#1))
      (broadcast S16x512 (Scalar.ofBits .f32 0x3F800000#32)) (broadcast S16x512 (Scalar.ofBits .f32 0x00000000#32)))
    (sitofp .f32 (extui 32 (cmpi .slt r (broadcast S16x512 2#32)) natLt_1_32))

/-- The same with no previous block. -/
def sumRows1 : FVec F S16x256 .f32 :=
  let r := iota .tc S16x256 32 [0] iota_S16x256_d0_w32
  mulf (select (xori (xori (cmpi .eq r (broadcast S16x256 0#32))
        (cmpi .slt (iota .tc S16x256 32 [1] iota_S16x256_d1_w32) (broadcast S16x256 128#32))) (constantI S16x256 1 1#1))
      (broadcast S16x256 (Scalar.ofBits .f32 0x3F800000#32)) (broadcast S16x256 (Scalar.ofBits .f32 0x00000000#32)))
    (sitofp .f32 (extui 32 (cmpi .slt r (broadcast S16x256 2#32)) natLt_1_32))

/-! ### The scores -/

/-- The head's keys on the lower lanes, zeros on the upper. -/
def keyLow (e : Bool) (k : Vec F S128x128 .bf16) : FVec F S128x128 .bf16 :=
  let x : FVec F S128x128 .f32 := extf .f32 (shapeCast S128x128 k shapeCasts_S128x128_S128x128) bitsLt_bf16_f32
  let z : FVec F S128x128 .f32 := broadcast S128x128 (Scalar.ofBits .f32 0x00000000#32)
  match e with
  | false => truncf .bf16 (select lowLanes x z) bitsLt_bf16_f32
  | true => truncf .bf16 (select lowLanes (dynamicRotate 1 64#32 none x rotates_S128x128_d1) z) bitsLt_bf16_f32

/-- The head's keys on the upper lanes, zeros on the lower. -/
def keyHigh (e : Bool) (k : Vec F S128x128 .bf16) : FVec F S128x128 .bf16 :=
  let x : FVec F S128x128 .f32 := extf .f32 (shapeCast S128x128 k shapeCasts_S128x128_S128x128) bitsLt_bf16_f32
  let z : FVec F S128x128 .f32 := broadcast S128x128 (Scalar.ofBits .f32 0x00000000#32)
  match e with
  | false => truncf .bf16 (select lowLanes z (dynamicRotate 1 64#32 none x rotates_S128x128_d1)) bitsLt_bf16_f32
  | true => truncf .bf16 (select lowLanes z x) bitsLt_bf16_f32

/-- The four slabs of queries, one under the other. -/
def queryRows (q : Fin 4 → Vec F S128x128 .bf16) : FVec F S512x128 .bf16 :=
  concatenate S512x128 0 [⟨S128x128, shapeCast S128x128 (q 0) shapeCasts_S128x128_S128x128⟩,
    ⟨S128x128, shapeCast S128x128 (q 1) shapeCasts_S128x128_S128x128⟩,
    ⟨S128x128, shapeCast S128x128 (q 2) shapeCasts_S128x128_S128x128⟩,
    ⟨S128x128, shapeCast S128x128 (q 3) shapeCasts_S128x128_S128x128⟩]
    concatenates_S128x128_S128x128_S128x128_S128x128_S512x128_d0

/-- Scores of both blocks' keys: the lower-lane queries' (previous, current), then the upper-lane queries'. -/
def scores2 (e : Bool) (kp kc : Vec F S128x128 .bf16) (q : Fin 4 → Vec F S128x128 .bf16) : FVec F S512x512 .f32 :=
  matmul dot_S512x128_S512x128_S512x512_1_1_0_0_n_n none
    (concatenate S512x128 0 [⟨S128x128, keyLow e kp⟩, ⟨S128x128, keyLow e kc⟩, ⟨S128x128, keyHigh e kp⟩,
      ⟨S128x128, keyHigh e kc⟩] concatenates_S128x128_S128x128_S128x128_S128x128_S512x128_d0)
    (queryRows q) (constant S512x512 .f32 0x00000000#32)

/-- Scores of the one block's keys. -/
def scores1 (e : Bool) (kc : Vec F S128x128 .bf16) (q : Fin 4 → Vec F S128x128 .bf16) : FVec F S256x512 .f32 :=
  matmul dot_S256x128_S512x128_S256x512_1_1_0_0_n_n none
    (concatenate S256x128 0 [⟨S128x128, keyLow e kc⟩, ⟨S128x128, keyHigh e kc⟩]
      concatenates_S128x128_S128x128_S256x128_d0)
    (queryRows q) (constant S256x512 .f32 0x00000000#32)

/-- The scores with each query's window merged into one tile of 128 keys (`u` = the upper-lane queries). -/
def merged2 (e : Bool) (kp kc : Vec F S128x128 .bf16) (q : Fin 4 → Vec F S128x128 .bf16) : Bool → FVec F S128x512 .f32
  | false => select fromPrev
      (extractStridedSlice S128x512 ![0, 0] (scores2 e kp kc q) slices_S512x512_o0_0_S128x512)
      (extractStridedSlice S128x512 ![128, 0] (scores2 e kp kc q) slices_S512x512_o128_0_S128x512)
  | true => select fromPrev
      (extractStridedSlice S128x512 ![256, 0] (scores2 e kp kc q) slices_S512x512_o256_0_S128x512)
      (extractStridedSlice S128x512 ![384, 0] (scores2 e kp kc q) slices_S512x512_o384_0_S128x512)

/-- The same with no previous block: what would lie there scores −∞. -/
def merged1 (e : Bool) (kc : Vec F S128x128 .bf16) (q : Fin 4 → Vec F S128x128 .bf16) : Bool → FVec F S128x512 .f32
  | false => select fromPrev (broadcast S128x512 (Scalar.ofBits .f32 0xFF800000#32))
      (extractStridedSlice S128x512 ![0, 0] (scores1 e kc q) slices_S256x512_o0_0_S128x512)
  | true => select fromPrev (broadcast S128x512 (Scalar.ofBits .f32 0xFF800000#32))
      (extractStridedSlice S128x512 ![128, 0] (scores1 e kc q) slices_S256x512_o128_0_S128x512)

/-- One number of a slab's sink, in the exponent's base. -/
def sinkNo (x : F .f32) : F .f32 := Scalar.mulf x (Named.named κ "log2e" 0x3FB8AA3B#32)

/-- The sinks of the four slabs' queries, each along its slab's columns. -/
def sinkRow (s : Fin 4 → F .f32) : FVec F S1x512 .f32 :=
  select (cmpi .eq slabNo (broadcast S1x512 3#32)) (broadcast S1x512 (sinkNo (s 3)))
    (select (cmpi .eq slabNo (broadcast S1x512 2#32)) (broadcast S1x512 (sinkNo (s 2)))
      (select (cmpi .eq slabNo (broadcast S1x512 1#32)) (broadcast S1x512 (sinkNo (s 1)))
        (select (cmpi .eq slabNo (broadcast S1x512 0#32)) (broadcast S1x512 (sinkNo (s 0)))
          (broadcast S1x512 (Scalar.ofBits .f32 0x00000000#32)))))

/-- The largest of a query's scores and its sink. -/
def top (s : FVec F S128x512 .f32) (snk : FVec F S1x512 .f32) : FVec F S1x512 .f32 :=
  maximumf (shapeCast S1x512 (multiReduction .maximumf [0] S512 s 0xFF800000#32 reduces_S128x512_S512 (.inl rfl) rfl)
    shapeCasts_S512_S1x512) snk

/-- The weights before they are divided by their sum. -/
def weights (s : FVec F S128x512 .f32) (m : FVec F S1x512 .f32) : FVec F S128x512 .bf16 :=
  truncf .bf16 (exp2 (subf s (broadcastTo S128x512 m broadcasts_S1x512_S128x512))) bitsLt_bf16_f32

/-! ### The values -/

/-- The head's lanes of both blocks' values, as rows. -/
def vals2 (e : Bool) (vp vc : Vec F S128x128 .bf16) : FVec F S64x256 .f32 :=
  let vT : FVec F S128x256 .f32 := transpose S128x256 [1, 0] (extf .f32 (concatenate S256x128 0
    [⟨S128x128, shapeCast S128x128 vp shapeCasts_S128x128_S128x128⟩,
      ⟨S128x128, shapeCast S128x128 vc shapeCasts_S128x128_S128x128⟩]
    concatenates_S128x128_S128x128_S256x128_d0 : FVec F S256x128 .bf16) bitsLt_bf16_f32)
    transposes_S256x128_p1_0_S128x256
  match e with
  | false => extractStridedSlice S64x256 ![0, 0] vT slices_S128x256_o0_0_S64x256
  | true => extractStridedSlice S64x256 ![64, 0] vT slices_S128x256_o64_0_S64x256

/-- The head's lanes of the one block's values, as rows. -/
def vals1 (e : Bool) (vc : Vec F S128x128 .bf16) : FVec F S64x128 .f32 :=
  let vT : FVec F S128x128 .f32 := transpose S128x128 [1, 0] (extf .f32
    (shapeCast S128x128 vc shapeCasts_S128x128_S128x128) bitsLt_bf16_f32) transposes_S128x128_p1_0_S128x128
  match e with
  | false => extractStridedSlice S64x128 ![0, 0] vT slices_S128x128_o0_0_S64x128
  | true => extractStridedSlice S64x128 ![64, 0] vT slices_S128x128_o64_0_S64x128

/-- The matrix the weights are multiplied by: the values for the lower-lane queries' weights, the values for the upper-lane
    queries', and the rows that sum either. -/
def valMat2 (v : FVec F S64x256 .f32) : FVec F S144x512 .bf16 :=
  let z : FVec F S64x256 .f32 := broadcast S64x256 (Scalar.ofBits .f32 0x00000000#32)
  truncf .bf16 (concatenate S144x512 0
      [⟨S64x512, concatenate S64x512 1 [⟨S64x256, v⟩, ⟨S64x256, z⟩] concatenates_S64x256_S64x256_S64x512_d1⟩,
        ⟨S64x512, concatenate S64x512 1 [⟨S64x256, z⟩, ⟨S64x256, v⟩] concatenates_S64x256_S64x256_S64x512_d1⟩,
        ⟨S16x512, sumRows2⟩] concatenates_S64x512_S64x512_S16x512_S144x512_d0 : FVec F S144x512 .f32) bitsLt_bf16_f32

/-- The same with no previous block. -/
def valMat1 (v : FVec F S64x128 .f32) : FVec F S144x256 .bf16 :=
  let z : FVec F S64x128 .f32 := broadcast S64x128 (Scalar.ofBits .f32 0x00000000#32)
  truncf .bf16 (concatenate S144x256 0
      [⟨S64x256, concatenate S64x256 1 [⟨S64x128, v⟩, ⟨S64x128, z⟩] concatenates_S64x128_S64x128_S64x256_d1⟩,
        ⟨S64x256, concatenate S64x256 1 [⟨S64x128, z⟩, ⟨S64x128, v⟩] concatenates_S64x128_S64x128_S64x256_d1⟩,
        ⟨S16x256, sumRows1⟩] concatenates_S64x256_S64x256_S16x256_S144x256_d0 : FVec F S144x256 .f32) bitsLt_bf16_f32

/-- The weights each block's keys get: the tile's where the mask keeps it. -/
def parted2 (pL pH : FVec F S128x512 .bf16) (mp mc : Vec F S128x512 .bf16) : FVec F S512x512 .bf16 :=
  concatenate S512x512 0 [⟨S128x512, mulf pL mp⟩, ⟨S128x512, mulf pL mc⟩, ⟨S128x512, mulf pH mp⟩,
      ⟨S128x512, mulf pH mc⟩] concatenates_S128x512_S128x512_S128x512_S128x512_S512x512_d0

/-- The same with no previous block. -/
def parted1 (pL pH : FVec F S128x512 .bf16) (mc : Vec F S128x512 .bf16) : FVec F S256x512 .bf16 :=
  concatenate S256x512 0 [⟨S128x512, mulf pL mc⟩, ⟨S128x512, mulf pH mc⟩]
      concatenates_S128x512_S128x512_S256x512_d0

/-- The weighted sums: rows 0–63 the lower-lane queries', 64–127 the upper-lane queries', 128 and 129 the weights' sums. -/
def sums2 (v : FVec F S64x256 .f32) (pL pH : FVec F S128x512 .bf16) (mp mc : Vec F S128x512 .bf16) :
    FVec F S144x512 .f32 :=
  matmul dot_S144x512_S512x512_S144x512_1_0_0_1_n_n none (valMat2 v) (parted2 pL pH mp mc)
    (constant S144x512 .f32 0x00000000#32)

/-- The same with no previous block. -/
def sums1 (v : FVec F S64x128 .f32) (pL pH : FVec F S128x512 .bf16) (mc : Vec F S128x512 .bf16) :
    FVec F S144x512 .f32 :=
  matmul dot_S144x256_S256x512_S144x512_1_0_0_1_n_n none (valMat1 v) (parted1 pL pH mc)
    (constant S144x512 .f32 0x00000000#32)

/-- The head's output, a column per query: each weighted sum over the sum of its weights and its sink's. -/
def out (o : FVec F S144x512 .f32) (sL mL sH mH : FVec F S1x512 .f32) : FVec F S128x512 .f32 :=
  let dL := addf (extractStridedSlice S1x512 ![128, 0] o slices_S144x512_o128_0_S1x512) (exp2 (subf sL mL))
  let dH := addf (extractStridedSlice S1x512 ![129, 0] o slices_S144x512_o129_0_S1x512) (exp2 (subf sH mH))
  let one : FVec F S1x512 .f32 := broadcast S1x512 (Scalar.ofBits .f32 0x3F800000#32)
  concatenate S128x512 0
    [⟨S64x512, mulf (extractStridedSlice S64x512 ![0, 0] o slices_S144x512_o0_0_S64x512)
        (broadcastTo S64x512 (divf one dL) broadcasts_S1x512_S64x512)⟩,
      ⟨S64x512, mulf (extractStridedSlice S64x512 ![64, 0] o slices_S144x512_o64_0_S64x512)
        (broadcastTo S64x512 (divf one dH) broadcasts_S1x512_S64x512)⟩]
    concatenates_S64x512_S64x512_S128x512_d0

/-- One slab of the head's output, a row per query. -/
def slab (o : FVec F S128x512 .f32) : Fin 4 → FVec F S128x128 .f32
  | 0 => transpose S128x128 [1, 0] (extractStridedSlice S128x128 ![0, 0] o slices_S128x512_o0_0_S128x128)
      transposes_S128x128_p1_0_S128x128
  | 1 => transpose S128x128 [1, 0] (extractStridedSlice S128x128 ![0, 128] o slices_S128x512_o0_128_S128x128)
      transposes_S128x128_p1_0_S128x128
  | 2 => transpose S128x128 [1, 0] (extractStridedSlice S128x128 ![0, 256] o slices_S128x512_o0_256_S128x128)
      transposes_S128x128_p1_0_S128x128
  | 3 => transpose S128x128 [1, 0] (extractStridedSlice S128x128 ![0, 384] o slices_S128x512_o0_384_S128x128)
      transposes_S128x128_p1_0_S128x128

/-- A slab times its gate, as it is stored. -/
def gated (x : FVec F S128x128 .f32) (g : Vec F S128x128 .bf16) : FVec F S128x128 .bf16 :=
  truncf .bf16 (mulf x (extf .f32 (shapeCast S128x128 g shapeCasts_S128x128_S128x128) bitsLt_bf16_f32)) bitsLt_bf16_f32

/-- A store of a block that has a previous block: slab `pp` of its head. -/
def piece2 (e : Bool) (pp : Fin 4) (kp kc vp vc : Vec F S128x128 .bf16) (q : Fin 4 → Vec F S128x128 .bf16)
    (sL sH : Fin 4 → F .f32) (mp mc : Vec F S128x512 .bf16) (g : Vec F S128x128 .bf16) : FVec F S128x128 .bf16 :=
  let tL := merged2 e kp kc q false
  let tH := merged2 e kp kc q true
  let mL := top tL (sinkRow sL)
  let mH := top tH (sinkRow sH)
  gated (slab (out (sums2 (vals2 e vp vc) (weights tL mL) (weights tH mH) mp mc)
    (sinkRow sL) mL (sinkRow sH) mH) pp) g

/-- A store of a sequence's first block: slab `pp` of its head. -/
def piece1 (e : Bool) (pp : Fin 4) (kc vc : Vec F S128x128 .bf16) (q : Fin 4 → Vec F S128x128 .bf16)
    (sL sH : Fin 4 → F .f32) (mc : Vec F S128x512 .bf16) (g : Vec F S128x128 .bf16) : FVec F S128x128 .bf16 :=
  let tL := merged1 e kc q false
  let tH := merged1 e kc q true
  let mL := top tL (sinkRow sL)
  let mH := top tH (sinkRow sH)
  gated (slab (out (sums1 (vals1 e vc) (weights tL mL) (weights tH mH) mc)
    (sinkRow sL) mL (sinkRow sH) mH) pp) g

end Cert.Proof.Heads

end
-- ==== Proof.Pieces.lean ====
/- Hand-written, untrusted: WHAT THE BODY STORES. A point of the grid computes four blocks of 128 query rows, and each of the
   eight key/value heads of a block stores four slabs of 128 lanes: 128 stores, one for each block, head and slab. Here each
   store is the one function of its head (Heads.lean) at the slabs that block and head load. Case A is the points that
   begin a sequence (block 0 has no previous block), case B the others. -/
module

public import proofs.«01_k».proof.Proof.Heads
public import proofs.«01_k».proof.Proof.Gen.KernelIdeal.Value

@[expose] public section

set_option maxRecDepth 100000

noncomputable section

namespace Cert.Proof.Pieces

open Cert.KernelIdeal Cert.KernelIdeal.Gen Cert.Proof.Heads Idealize.ShloMosaic Idealize.ShloMosaic.TcCoe

variable {F : FTy → Type} [FloatOps F] [Named F]

/-! ### The loads -/

/-- A slab of 128 rows and 128 columns lies in a buffer: the rows of block `b` of its `r`, the columns from `k`. -/
theorem inRow {r n : ℕ} (b : ℕ) (hb : 128 * b + 128 ≤ r) :
    ∀ a, (![128 * b, 0] : Fin 2 → ℕ) a + (![128, n] : Fin 2 → ℕ) a ≤ (![r, n] : Fin 2 → ℕ) a := by
  intro a
  match a with
  | 0 => exact hb
  | 1 => show 0 + n ≤ n; omega

theorem inCol {n : ℕ} (k : ℕ) (hk : k + 128 ≤ n) :
    ∀ a, (![0, k] : Fin 2 → ℕ) a + (![128, 128] : Fin 2 → ℕ) a ≤ (![128, n] : Fin 2 → ℕ) a := by
  intro a
  match a with
  | 0 => show 0 + 128 ≤ 128; omega
  | 1 => exact hk

/-- The slab at columns `k …` of block `b` of a buffer of 512 rows and 3072 columns, as the body loads it. -/
def ldQ (a : Memref sig .tc .vmem S512x3072 .bf16) (f : a.view.ty.Contents (Elt F)) (b : Fin 4) (k : ℕ)
    (hk : k + 128 ≤ 3072) : Vec F S128x128 .bf16 :=
  View.readAt (Elt F) a.view ((Rect.unit (s := S512x3072) ![128 * b.val, 0] S128x3072.size (inRow b.val (by omega))).withinL
    (Rect.unit (s := S128x3072) ![0, k] S128x128.size (inCol k hk)).toLoadRect (fun _ => rfl)) f

/-- The same of a buffer of 1024 columns. -/
def ldK (a : Memref sig .tc .vmem S512x1024 .bf16) (f : a.view.ty.Contents (Elt F)) (b : Fin 4) (k : ℕ)
    (hk : k + 128 ≤ 1024) : Vec F S128x128 .bf16 :=
  View.readAt (Elt F) a.view ((Rect.unit (s := S512x1024) ![128 * b.val, 0] S128x1024.size (inRow b.val (by omega))).withinL
    (Rect.unit (s := S128x1024) ![0, k] S128x128.size (inCol k hk)).toLoadRect (fun _ => rfl)) f

/-- The same of a buffer of 4096 columns. -/
def ldG (a : Memref sig .tc .vmem S512x4096 .bf16) (f : a.view.ty.Contents (Elt F)) (b : Fin 4) (k : ℕ)
    (hk : k + 128 ≤ 4096) : Vec F S128x128 .bf16 :=
  View.readAt (Elt F) a.view ((Rect.unit (s := S512x4096) ![128 * b.val, 0] S128x4096.size (inRow b.val (by omega))).withinL
    (Rect.unit (s := S128x4096) ![0, k] S128x128.size (inCol k hk)).toLoadRect (fun _ => rfl)) f

/-- The slab at columns `k …` of the buffer of the one block before. -/
def ldP (a : Memref sig .tc .vmem S128x1024 .bf16) (f : a.view.ty.Contents (Elt F)) (k : ℕ)
    (hk : k + 128 ≤ 1024) : Vec F S128x128 .bf16 :=
  View.readAt (Elt F) a.view (Rect.unit (s := S128x1024) ![0, k] S128x128.size (inCol k hk)).toLoadRect f

/-- Word `k` of the sinks. -/
def ldS (a : Memref sig .tc .smem S64 .f32) (f : a.view.ty.Contents (Elt F)) (k : ℕ) (hk : k + 1 ≤ 64) : F .f32 :=
  View.readAt (Elt F) a.view (Rect.unit (s := S64) ![k] S1.size (fun x => by
    match x with
    | 0 => exact hk)).toLoadRect f (Shape.Idx.first (show 0 < S1.numel by decide))

/-- A mask as it is loaded back from the scratch buffer it was stored in. -/
def ldMask (a : Memref sig .tc .vmem S128x512 .bf16) (b : IVec S128x512 1) : Vec F S128x512 .bf16 :=
  a.view.readCov [⟨Rect.unit (s := S128x512) ![0, 0] S128x512.size inb_S128x512_S128x512_0_0, stored b⟩]
    (Rect.unit (s := S128x512) ![0, 0] S128x512.size inb_S128x512_S128x512_0_0).toLoadRect

/-- It is what was stored. -/
theorem ldMask_eq (a : Memref sig .tc .vmem S128x512 .bf16) (b : IVec S128x512 1) :
    ldMask (F := F) a b = stored b :=
  View.readCov_cons_toLoadRect _ _ _ _

section
variable (arg1 : Memref sig .tc .smem S64 .f32) (f0 : arg1.view.ty.Contents (Elt F))
  (arg2 : Memref sig .tc .vmem S512x3072 .bf16) (f1 : arg2.view.ty.Contents (Elt F))
  (arg3 : Memref sig .tc .vmem S512x1024 .bf16) (f2 : arg3.view.ty.Contents (Elt F))
  (arg4 : Memref sig .tc .vmem S128x1024 .bf16) (f3 : arg4.view.ty.Contents (Elt F))
  (arg5 : Memref sig .tc .vmem S512x1024 .bf16) (f4 : arg5.view.ty.Contents (Elt F))
  (arg6 : Memref sig .tc .vmem S512x4096 .bf16) (f5 : arg6.view.ty.Contents (Elt F))
  (arg8 arg9 : Memref sig .tc .vmem S128x512 .bf16)

/-- A head's slab `pp` of queries: the first six heads' lie in one buffer, the last two's in the next. -/
def qSlab (b : Fin 4) (h : Fin 8) (pp : Fin 4) : Vec F S128x128 .bf16 :=
  if hq : h.val < 6 then ldQ arg2 f1 b (128 * (4 * h.val + pp.val)) (by omega)
  else ldK arg3 f2 b (128 * (4 * h.val + pp.val) - 3072) (by omega)

/-- A head's keys, in its own block. -/
def kSlab (b : Fin 4) (h : Fin 8) : Vec F S128x128 .bf16 := ldK arg5 f4 b (128 * (h.val / 2)) (by omega)

/-- A head's values, in its own block. -/
def vSlab (b : Fin 4) (h : Fin 8) : Vec F S128x128 .bf16 := ldK arg5 f4 b (512 + 128 * (h.val / 2)) (by omega)

/-- A head's keys in the block before the point's first. -/
def kPrev (h : Fin 8) : Vec F S128x128 .bf16 := ldP arg4 f3 (128 * (h.val / 2)) (by omega)

/-- A head's values in the block before the point's first. -/
def vPrev (h : Fin 8) : Vec F S128x128 .bf16 := ldP arg4 f3 (512 + 128 * (h.val / 2)) (by omega)

/-- The gates of a head's slab. -/
def gSlab (b : Fin 4) (h : Fin 8) (pp : Fin 4) : Vec F S128x128 .bf16 :=
  ldG arg6 f5 b (128 * (4 * h.val + pp.val)) (by omega)

/-- The sinks of a head's lower-lane queries. -/
def sinkL (h : Fin 8) (pp : Fin 4) : F .f32 := ldS arg1 f0 (2 * (4 * h.val + pp.val)) (by omega)

/-- The sinks of a head's upper-lane queries. -/
def sinkH (h : Fin 8) (pp : Fin 4) : F .f32 := ldS arg1 f0 (2 * (4 * h.val + pp.val) + 1) (by omega)

/-- Whether a head's lanes are the upper half of its slab. -/
def upper (h : Fin 8) : Bool := h.val % 2 == 1

/-- What is stored for slab `pp` of head `h` of block `b`, at a point that begins a sequence. -/
def payA (b : Fin 4) (h : Fin 8) (pp : Fin 4) : FVec F S128x128 .bf16 :=
  if hb : b.val = 0 then
    piece1 (upper h) pp (kSlab arg5 f4 b h) (vSlab arg5 f4 b h) (qSlab arg2 f1 arg3 f2 b h) (sinkL arg1 f0 h)
      (sinkH arg1 f0 h) (ldMask arg9 fromCur) (gSlab arg6 f5 b h pp)
  else
    piece2 (upper h) pp (kSlab arg5 f4 ⟨b.val - 1, by omega⟩ h) (kSlab arg5 f4 b h) (vSlab arg5 f4 ⟨b.val - 1, by omega⟩ h)
      (vSlab arg5 f4 b h) (qSlab arg2 f1 arg3 f2 b h) (sinkL arg1 f0 h)
      (sinkH arg1 f0 h) (ldMask arg8 fromPrev) (ldMask arg9 fromCur) (gSlab arg6 f5 b h pp)

/-- The same at any other point. -/
def payB (b : Fin 4) (h : Fin 8) (pp : Fin 4) : FVec F S128x128 .bf16 :=
  if hb : b.val = 0 then
    piece2 (upper h) pp (kPrev arg4 f3 h) (kSlab arg5 f4 b h) (vPrev arg4 f3 h)
      (vSlab arg5 f4 b h) (qSlab arg2 f1 arg3 f2 b h) (sinkL arg1 f0 h)
      (sinkH arg1 f0 h) (ldMask arg8 fromPrev) (ldMask arg9 fromCur) (gSlab arg6 f5 b h pp)
  else
    piece2 (upper h) pp (kSlab arg5 f4 ⟨b.val - 1, by omega⟩ h) (kSlab arg5 f4 b h) (vSlab arg5 f4 ⟨b.val - 1, by omega⟩ h)
      (vSlab arg5 f4 b h) (qSlab arg2 f1 arg3 f2 b h) (sinkL arg1 f0 h)
      (sinkH arg1 f0 h) (ldMask arg8 fromPrev) (ldMask arg9 fromCur) (gSlab arg6 f5 b h pp)
end

/-- The rectangle of block `b`, columns `128 k …`, lies in the output's block. -/
theorem inOut (b k : ℕ) (hb : b < 4) (hk : k < 32) :
    ∀ a, (![128 * b, 128 * k] : Fin 2 → ℕ) a + (![128, 128] : Fin 2 → ℕ) a ≤ (![512, 4096] : Fin 2 → ℕ) a := by
  intro a
  match a with
  | 0 => show 128 * b + 128 ≤ 512; omega
  | 1 => show 128 * k + 128 ≤ 4096; omega

/-- Store number `n`: block `n / 32`, head `n % 32 / 4`, slab `n % 4`. -/
def store (pay : Fin 4 → Fin 8 → Fin 4 → FVec F S128x128 .bf16) (n : Fin 128) : View.Piece (Elt F) S512x4096 .bf16 :=
  ⟨Rect.unit (s := S512x4096) ![128 * (n.val / 32), 128 * (n.val % 32)] ![128, 128] (inOut _ _ (by omega) (by omega)),
    pay ⟨n.val / 32, by omega⟩ ⟨n.val % 32 / 4, by omega⟩ ⟨n.val % 4, by omega⟩⟩

/-- The 128 stores, the last first. -/
def stores (pay : Fin 4 → Fin 8 → Fin 4 → FVec F S128x128 .bf16) : List (View.Piece (Elt F) S512x4096 .bf16) :=
  (List.finRange 128).reverse.map (store pay)

section
variable (c : Dev nD) (i : grid0.Coords) (arg1 : Memref sig .tc .smem S64 .f32) (harg1 : arg1.IsWhole) (arg2 : Memref sig
  .tc .vmem S512x3072 .bf16) (harg2 : arg2.IsWhole) (arg3 : Memref sig .tc .vmem S512x1024 .bf16) (harg3 :
  arg3.IsWhole) (arg4 : Memref sig .tc .vmem S128x1024 .bf16) (harg4 : arg4.IsWhole) (arg5 : Memref sig .tc .vmem
  S512x1024 .bf16) (harg5 : arg5.IsWhole) (arg6 : Memref sig .tc .vmem S512x4096 .bf16) (harg6 : arg6.IsWhole)
  (arg7 : Memref sig .tc .vmem S512x4096 .bf16) (harg7 : arg7.IsWhole) (arg8 : Memref sig .tc .vmem S128x512
  .bf16) (harg8 : arg8.IsWhole) (arg9 : Memref sig .tc .vmem S128x512 .bf16) (harg9 : arg9.IsWhole) (x0 : Vec F
  S64 .f32) (x1 : Vec F S512x3072 .bf16) (x2 : Vec F S512x1024 .bf16) (x3 : Vec F S128x1024 .bf16) (x4 : Vec F
  S512x1024 .bf16) (x5 : Vec F S512x4096 .bf16)

/-- At a point that begins a sequence the body's stores are these. -/
theorem storesA (hc0 : ¬cond0_0 i) (hc1 : cond0_1 i) :
    (kernelRun0_A c i arg1 harg1 arg2 harg2 arg3 harg3 arg4 harg4 arg5 harg5 arg6 harg6 arg7 harg7 arg8 harg8 arg9
        harg9 hc0 hc1 x0 x1 x2 x3 x4 x5).1
      = stores (payA arg1 (harg1.unread x0) arg2 (harg2.unread x1) arg3 (harg3.unread x2) arg5
          (harg5.unread x4) arg6 (harg6.unread x5) arg8 arg9) := by
  sl_kernel_rfl

/-- So they are at any other. -/
theorem storesB (hc0 : cond0_0 i) (hc1 : ¬cond0_1 i) :
    (kernelRun0_B c i arg1 harg1 arg2 harg2 arg3 harg3 arg4 harg4 arg5 harg5 arg6 harg6 arg7 harg7 arg8 harg8 arg9
        harg9 hc0 hc1 x0 x1 x2 x3 x4 x5).1
      = stores (payB arg1 (harg1.unread x0) arg2 (harg2.unread x1) arg3 (harg3.unread x2) arg4 (harg4.unread x3) arg5
          (harg5.unread x4) arg6 (harg6.unread x5) arg8 arg9) := by
  sl_kernel_rfl

end

end Cert.Proof.Pieces

end
-- ==== Proof.HeadsAt.lean ====
/- Hand-written, untrusted: THE HEADS' FUNCTIONS READ AT AN INDEX, at ideal values. A tile's column is a query: `pg` its slab,
   `ln` its row in the block. A lane of a slab is a lane `d` of 64 in its lower (`u = false`) or upper (`u = true`) half. A
   store of slab `pp` holds at row `i` and lane `hl u d` the weighted mean of the values, over the window of 128 keys that
   ends at row `i`, times the gate (`piece2_at`, `piece1_at`). -/
module

public import proofs.«01_k».proof.Proof.Heads
public import Idealize.ShloMosaic.Lib.Pointwise

@[expose] public section

noncomputable section

namespace Cert.Proof.Heads

open Cert.KernelIdeal Cert.KernelIdeal.Gen Idealize.ShloMosaic

/-! ### Positions -/

/-- The slab a column lies in. -/
def pg (c : Fin 512) : Fin 4 := ⟨c.val / 128, by omega⟩
/-- The query's row in the block. -/
def ln (c : Fin 512) : Fin 128 := ⟨c.val % 128, by omega⟩
/-- Lane `d` of a half of a slab. -/
def hl (u : Bool) (d : Fin 64) : Fin 128 := ⟨d.val + 64 * u.toNat, by cases u <;> simp <;> omega⟩
/-- The column of the query at row `i` of slab `pp`. -/
def col (pp : Fin 4) (i : Fin 128) : Fin 512 := ⟨128 * pp.val + i.val, by omega⟩

theorem hl_false (d : Fin 64) : (hl false d).val = d.val := rfl
theorem hl_true (d : Fin 64) : (hl true d).val = d.val + 64 := rfl

theorem pg_col (pp : Fin 4) (i : Fin 128) : pg (col pp i) = pp := Fin.ext (by simp only [pg, col]; omega)
theorem ln_col (pp : Fin 4) (i : Fin 128) : ln (col pp i) = i := Fin.ext (by simp only [ln, col]; omega)

/-- A sum over 512 as four sums over 128. -/
theorem sum512 (f : Fin 512 → EReal) : ∑ x, f x = (∑ j : Fin 128, f ⟨j.val, by omega⟩)
    + (∑ j : Fin 128, f ⟨128 + j.val, by omega⟩) + (∑ j : Fin 128, f ⟨256 + j.val, by omega⟩)
    + ∑ j : Fin 128, f ⟨384 + j.val, by omega⟩ := by
  have h := Fin.sum_univ_add (a := 384) (b := 128) f
  have h2 := Fin.sum_univ_add (a := 256) (b := 128) fun x : Fin 384 => f (Fin.castAdd 128 x)
  have h3 := Fin.sum_univ_add (a := 128) (b := 128) fun x : Fin 256 => f (Fin.castAdd 128 (Fin.castAdd 128 x))
  exact h.trans (congrArg (· + _) (h2.trans (congrArg (· + _) h3)))

/-- A sum over 256 as two sums over 128. -/
theorem sum256 (f : Fin 256 → EReal) : ∑ x, f x = (∑ j : Fin 128, f ⟨j.val, by omega⟩)
    + ∑ j : Fin 128, f ⟨128 + j.val, by omega⟩ := Fin.sum_univ_add (a := 128) (b := 128) f

/-- A sum over 128 as two sums over 64. -/
theorem sum128 (f : Fin 128 → EReal) : ∑ x, f x = (∑ d : Fin 64, f (hl false d)) + ∑ d : Fin 64, f (hl true d) := by
  refine (Fin.sum_univ_add (a := 64) (b := 64) f).trans (congrArg₂ (· + ·) rfl ?_)
  exact Finset.sum_congr rfl fun d _ => congrArg f (Fin.ext (by show 64 + d.val = d.val + 64; omega))

/-! ### The masks -/

theorem qryRow_at (j : Fin 128) (c : Fin 512) : qryRow (ix2 j c) = BitVec.ofNat 32 (c.val % 128) := by
  have h : ∀ c : Fin 512, qryRow (ix2 j c) = qryRow (ix2 0 c) := by
    intro c
    pointwise [qryRow]
  rw [h]
  revert c
  decide +kernel

theorem sgt_at : ∀ j i : Fin 128, IntOp.cmpi .sgt (BitVec.ofNat 32 j.val) (BitVec.ofNat 32 i.val)
    = if i < j then 1#1 else 0#1 := by
  decide +kernel

theorem sle_at : ∀ j i : Fin 128, IntOp.cmpi .sle (BitVec.ofNat 32 j.val) (BitVec.ofNat 32 i.val)
    = if i < j then 0#1 else 1#1 := by
  decide +kernel

theorem fromPrev_at (j : Fin 128) (c : Fin 512) : fromPrev (ix2 j c) = if ln c < j then 1#1 else 0#1 := by
  pointwise [fromPrev]
  rw [qryRow_at]
  exact sgt_at j (ln c)

theorem fromCur_at (j : Fin 128) (c : Fin 512) : fromCur (ix2 j c) = if ln c < j then 0#1 else 1#1 := by
  pointwise [fromCur]
  rw [qryRow_at]
  exact sle_at j (ln c)

theorem num_one : FloatOps.sitofp (F := Ideal) .f32 (BitVec.setWidth 32 1#1) = (1 : EReal) := by
  have h : (BitVec.setWidth 32 1#1).toInt = 1 := by decide
  show ((((BitVec.setWidth 32 1#1).toInt : ℤ) : ℝ) : EReal) = 1
  rw [h]; simp

theorem num_zero : FloatOps.sitofp (F := Ideal) .f32 (BitVec.setWidth 32 0#1) = (0 : EReal) := by
  have h : (BitVec.setWidth 32 0#1).toInt = 0 := by decide
  show ((((BitVec.setWidth 32 0#1).toInt : ℤ) : ℝ) : EReal) = 0
  rw [h]; simp

theorem storedPrev_at (j : Fin 128) (c : Fin 512) :
    stored (F := Ideal) fromPrev (ix2 j c) = (if ln c < j then 1 else 0 : EReal) := by
  pointwise [stored, asNum]
  rw [fromPrev_at]
  split_ifs
  · exact num_one
  · exact num_zero

theorem storedCur_at (j : Fin 128) (c : Fin 512) :
    stored (F := Ideal) fromCur (ix2 j c) = (if ln c < j then 0 else 1 : EReal) := by
  pointwise [stored, asNum]
  rw [fromCur_at]
  split_ifs
  · exact num_zero
  · exact num_one

theorem lowLanes_at (i c : Fin 128) : lowLanes (ix2 i c) = if c.val < 64 then 1#1 else 0#1 := by
  revert i c
  decide +kernel

theorem slabNo_at (c : Fin 512) : slabNo (ix2 0 c) = BitVec.ofNat 32 (pg c).val := by
  revert c; decide +kernel

/-! ### The scores -/

theorem at_eq (k : Vec Ideal S128x128 .bf16) {j j' c c' : Fin 128} (hj : j.val = j'.val) (hc : c.val = c'.val) :
    k (ix2 j c) = k (ix2 j' c') := by rw [Fin.ext hj, Fin.ext hc]

theorem sel_if {α : Type} (p : Prop) [Decidable p] (a b : α) :
    Scalar.select (if p then 1#1 else 0#1) a b = if p then a else b := by
  split_ifs <;> rfl

theorem keyLow_low (e : Bool) (k : Vec Ideal S128x128 .bf16) (j : Fin 128) (d : Fin 64) :
    keyLow e k (ix2 j (hl false d)) = k (ix2 j (hl e d)) := by
  cases e <;> pointwise [keyLow] <;> rw [lowLanes_at, sel_if, if_pos (by simp [hl])] <;>
    exact at_eq k rfl (by simp only [hl_false, hl_true] <;> omega)

theorem keyLow_high (e : Bool) (k : Vec Ideal S128x128 .bf16) (j : Fin 128) (d : Fin 64) :
    keyLow e k (ix2 j (hl true d)) = 0 := by
  cases e <;> pointwise [keyLow] <;> rw [lowLanes_at, if_neg (by simp [hl])] <;> rfl

theorem keyHigh_low (e : Bool) (k : Vec Ideal S128x128 .bf16) (j : Fin 128) (d : Fin 64) :
    keyHigh e k (ix2 j (hl false d)) = 0 := by
  cases e <;> pointwise [keyHigh] <;> rw [lowLanes_at, if_pos (by simp [hl])] <;> rfl

theorem keyHigh_high (e : Bool) (k : Vec Ideal S128x128 .bf16) (j : Fin 128) (d : Fin 64) :
    keyHigh e k (ix2 j (hl true d)) = k (ix2 j (hl e d)) := by
  cases e <;> pointwise [keyHigh] <;> rw [lowLanes_at, sel_if, if_neg (by simp [hl])] <;>
    exact at_eq k rfl (by simp only [hl_false, hl_true] <;> omega)

/-- The product of key `j` and query `i` over the head's 64 lanes. -/
def dot (e u : Bool) (k q : Vec Ideal S128x128 .bf16) (j i : Fin 128) : EReal :=
  ∑ d : Fin 64, k (ix2 j (hl e d)) * q (ix2 i (hl u d))

theorem keyLow_dot (e : Bool) (k q : Vec Ideal S128x128 .bf16) (j i : Fin 128) :
    ∑ x : Fin 128, keyLow e k (ix2 j x) * q (ix2 i x) = dot e false k q j i := by
  rw [sum128]
  simp only [keyLow_low, keyLow_high, zero_mul, Finset.sum_const_zero, add_zero]
  rfl

theorem keyHigh_dot (e : Bool) (k q : Vec Ideal S128x128 .bf16) (j i : Fin 128) :
    ∑ x : Fin 128, keyHigh e k (ix2 j x) * q (ix2 i x) = dot e true k q j i := by
  rw [sum128]
  simp only [keyHigh_low, keyHigh_high, zero_mul, Finset.sum_const_zero, zero_add]
  rfl

theorem queryRows_at (q : Fin 4 → Vec Ideal S128x128 .bf16) (c : Fin 512) (x : Fin 128) :
    queryRows q (ix2 c x) = q (pg c) (ix2 (ln c) x) := by
  pointwise [queryRows]
  obtain h | h | h | h : c.val < 128 ∨ (128 ≤ c.val ∧ c.val < 256) ∨ (256 ≤ c.val ∧ c.val < 384) ∨ 384 ≤ c.val := by omega
  · rw [show pg c = 0 from Fin.ext (by show c.val / 128 = 0; omega)]
    simp (disch := omega) only [dif_pos, dif_neg]
    exact at_eq _ (by simp only [ln]; omega) rfl
  · rw [show pg c = 1 from Fin.ext (by show c.val / 128 = 1; omega)]
    simp (disch := omega) only [dif_pos, dif_neg]
    exact at_eq _ (by simp only [ln]; omega) rfl
  · rw [show pg c = 2 from Fin.ext (by show c.val / 128 = 2; omega)]
    simp (disch := omega) only [dif_pos, dif_neg]
    exact at_eq _ (by simp only [ln]; omega) rfl
  · rw [show pg c = 3 from Fin.ext (by show c.val / 128 = 3; omega)]
    simp (disch := omega) only [dif_pos, dif_neg]
    exact at_eq _ (by simp only [ln]; omega) rfl

/-- A row counted from its tile's first is the row. -/
theorem back1 (j : Fin 128) (h) : (⟨128 + j.val - 128, h⟩ : Fin 128) = j := Fin.ext (by simp only; omega)
theorem back2 (j : Fin 128) (h) : (⟨256 + j.val - 128 - 128, h⟩ : Fin 128) = j := Fin.ext (by simp only; omega)
theorem back3 (j : Fin 128) (h) : (⟨384 + j.val - 128 - 128 - 128, h⟩ : Fin 128) = j := Fin.ext (by simp only; omega)

theorem neg_inf : Ideal.ofBits .f32 4286578688#32 = ⊥ := by
  have h1 : ((4286578688#32).extractLsb' 23 8).toNat = 255 := by decide
  have h2 : ((4286578688#32).extractLsb' 0 23).toNat = 0 := by decide
  have h3 : ((4286578688#32).extractLsb' (8 + 23) 1 == 1#1) = true := by decide
  show Ideal.ieee 8 23 4286578688#32 = ⊥
  unfold Ideal.ieee
  simp only [h1, h2, h3]
  rfl

theorem merged2_at (e u : Bool) (kp kc : Vec Ideal S128x128 .bf16) (q : Fin 4 → Vec Ideal S128x128 .bf16)
    (j : Fin 128) (c : Fin 512) :
    merged2 e kp kc q u (ix2 j c)
      = if ln c < j then dot e u kp (q (pg c)) j (ln c) else dot e u kc (q (pg c)) j (ln c) := by
  cases u <;> pointwise [merged2, scores2] <;> rw [fromPrev_at, sel_if] <;> simp only [queryRows_at] <;>
    (try simp (disch := omega) only [dif_pos, dif_neg, back1, back2, back3]) <;>
    simp only [keyLow_dot, keyHigh_dot]

theorem merged1_at (e u : Bool) (kc : Vec Ideal S128x128 .bf16) (q : Fin 4 → Vec Ideal S128x128 .bf16)
    (j : Fin 128) (c : Fin 512) :
    merged1 e kc q u (ix2 j c) = if ln c < j then ⊥ else dot e u kc (q (pg c)) j (ln c) := by
  cases u <;> pointwise [merged1, scores1] <;> rw [fromPrev_at, sel_if, neg_inf] <;> simp only [queryRows_at] <;>
    (try simp (disch := omega) only [dif_pos, dif_neg, back1, back2, back3]) <;>
    simp only [keyLow_dot, keyHigh_dot]

theorem log2e_eq : (Named.named κ "log2e" 0x3FB8AA3B#32 : Ideal .f32) = (((Real.log 2)⁻¹ : ℝ) : EReal) :=
  IdealRules.named_const.ideal_named_scalar _ _ _ _ rfl

theorem sinkRow_at (s : Fin 4 → Ideal .f32) (c : Fin 512) :
    sinkRow s (ix2 0 c) = s (pg c) * (((Real.log 2)⁻¹ : ℝ) : EReal) := by
  pointwise [sinkRow, sinkNo]
  rw [slabNo_at, log2e_eq]
  generalize pg c = t
  fin_cases t <;> rfl

theorem top_at (s : FVec Ideal S128x512 .f32) (k : FVec Ideal S1x512 .f32) (c : Fin 512) :
    top s k (ix2 0 c) = max (Finset.univ.fold max ⊥ fun j : Fin 128 => s (ix2 j c)) (k (ix2 0 c)) := by
  pointwise [top]
  rw [neg_inf]

theorem weights_at (s : FVec Ideal S128x512 .f32) (m : FVec Ideal S1x512 .f32) (j : Fin 128) (c : Fin 512) :
    weights s m (ix2 j c) = Ideal.exp2 (s (ix2 j c) - m (ix2 0 c)) := by
  pointwise [weights]
  rfl

end Cert.Proof.Heads

end
-- ==== Proof.HeadsSum.lean ====
/- Hand-written, untrusted: THE HEADS' WEIGHTED SUMS AND STORES READ AT AN INDEX, at ideal values. A store of slab `pp` holds,
   at row `i` and lane `hl u d`, the gated weighted mean `mean` of the values over the window of 128 keys that ends at row `i`
   (`piece2_at`, `piece1_at`). -/
module

public import proofs.«01_k».proof.Proof.HeadsAt

@[expose] public section

noncomputable section

namespace Cert.Proof.Heads

open Cert.KernelIdeal Cert.KernelIdeal.Gen Idealize.ShloMosaic

/-! ### The values -/

theorem vals2_prev (e : Bool) (vp vc : Vec Ideal S128x128 .bf16) (d : Fin 64) (j : Fin 128) (h : j.val < 256) :
    vals2 e vp vc (ix2 d ⟨j.val, h⟩) = vp (ix2 j (hl e d)) := by
  cases e <;> pointwise [vals2] <;> exact at_eq _ rfl (by simp only [hl_false, hl_true] <;> omega)

theorem vals2_cur (e : Bool) (vp vc : Vec Ideal S128x128 .bf16) (d : Fin 64) (j : Fin 128) (h : 128 + j.val < 256) :
    vals2 e vp vc (ix2 d ⟨128 + j.val, h⟩) = vc (ix2 j (hl e d)) := by
  cases e <;> pointwise [vals2] <;> exact at_eq _ rfl (by simp only [hl_false, hl_true] <;> omega)

theorem vals1_at (e : Bool) (vc : Vec Ideal S128x128 .bf16) (d : Fin 64) (j : Fin 128) :
    vals1 e vc (ix2 d j) = vc (ix2 j (hl e d)) := by
  cases e <;> pointwise [vals1] <;> exact at_eq _ rfl (by simp only [hl_false, hl_true] <;> omega)

/-- The row that sums the lower-lane (`u = false`) or the upper-lane queries' weights. -/
def sr (u : Bool) : Fin 16 := if u then 1 else 0

theorem sumRows2_at (u : Bool) (x : Fin 512) : sumRows2 (F := Ideal) (ix2 (sr u) x)
    = (if x.val < 256 then (if u then 0 else 1) else (if u then 1 else 0) : EReal) := by
  have h : IntOp.cmpi .slt (BitVec.ofNat 32 x.val) 256#32 = if x.val < 256 then 1#1 else 0#1 := by
    revert x; decide +kernel
  cases u <;> pointwise [sumRows2] <;> rw [h] <;> split_ifs <;> first | contradiction | exact num_one | rfl

theorem sumRows1_at (u : Bool) (x : Fin 256) : sumRows1 (F := Ideal) (ix2 (sr u) x)
    = (if x.val < 128 then (if u then 0 else 1) else (if u then 1 else 0) : EReal) := by
  have h : IntOp.cmpi .slt (BitVec.ofNat 32 x.val) 128#32 = if x.val < 128 then 1#1 else 0#1 := by
    revert x; decide +kernel
  cases u <;> pointwise [sumRows1] <;> rw [h] <;> split_ifs <;> first | contradiction | exact num_one | rfl

/-- Row `d` of the lower-lane (`u = false`) or the upper-lane queries' weighted sums. -/
def valRow (u : Bool) (d : Fin 64) : Fin 144 := ⟨(hl u d).val, by omega⟩
/-- Row of the lower-lane or the upper-lane queries' sums of weights. -/
def sumRow (u : Bool) : Fin 144 := ⟨128 + (sr u).val, by omega⟩

theorem valMat2_row (v : FVec Ideal S64x256 .f32) (r : Fin 144) (x : Fin 512) : valMat2 v (ix2 r x)
    = if h : r.val < 64 then if h' : x.val < 256 then v (ix2 ⟨r.val, h⟩ ⟨x.val, h'⟩) else 0
      else if h : r.val - 64 < 64 then if h' : x.val < 256 then 0 else v (ix2 ⟨r.val - 64, h⟩ ⟨x.val - 256, by omega⟩)
      else sumRows2 (ix2 ⟨r.val - 64 - 64, by omega⟩ x) := by
  pointwise [valMat2]

theorem valMat1_row (v : FVec Ideal S64x128 .f32) (r : Fin 144) (x : Fin 256) : valMat1 v (ix2 r x)
    = if h : r.val < 64 then if h' : x.val < 128 then v (ix2 ⟨r.val, h⟩ ⟨x.val, h'⟩) else 0
      else if h : r.val - 64 < 64 then if h' : x.val < 128 then 0 else v (ix2 ⟨r.val - 64, h⟩ ⟨x.val - 128, by omega⟩)
      else sumRows1 (ix2 ⟨r.val - 64 - 64, by omega⟩ x) := by
  pointwise [valMat1]

/-- A sum over 512 as its two halves. -/
theorem halves512 (f : Fin 512 → EReal) : ∑ x, f x = (∑ x : Fin 256, f ⟨x.val + 256 * false.toNat, by simp; omega⟩)
    + ∑ x : Fin 256, f ⟨x.val + 256 * true.toNat, by simp; omega⟩ := by
  refine (Fin.sum_univ_add (a := 256) (b := 256) f).trans (congrArg₂ (· + ·) rfl ?_)
  exact Finset.sum_congr rfl fun x _ => congrArg f (Fin.ext (by show 256 + x.val = x.val + 256; omega))

/-- A sum over 256 as its two halves. -/
theorem halves256 (f : Fin 256 → EReal) : ∑ x, f x = (∑ x : Fin 128, f ⟨x.val + 128 * false.toNat, by simp; omega⟩)
    + ∑ x : Fin 128, f ⟨x.val + 128 * true.toNat, by simp; omega⟩ := by
  refine (Fin.sum_univ_add (a := 128) (b := 128) f).trans (congrArg₂ (· + ·) rfl ?_)
  exact Finset.sum_congr rfl fun x _ => congrArg f (Fin.ext (by show 128 + x.val = x.val + 128; omega))

/-- The half `w` of the matrix's columns meets the weights of the lower-lane (`w = false`) or the upper-lane queries: a row
    of the values for the queries `u` is zero on the other half. -/
theorem valMat2_val (v : FVec Ideal S64x256 .f32) (u : Bool) (d : Fin 64) (x : Fin 256) (w : Bool) (h) :
    valMat2 v (ix2 (valRow u d) ⟨x.val + 256 * w.toNat, h⟩) = if w = u then v (ix2 d x) else 0 := by
  have hr : (valRow u d).val = d.val + 64 * u.toNat := rfl
  rw [valMat2_row]
  cases u <;> cases w <;> simp only [Bool.toNat_false, Bool.toNat_true] at hr ⊢ <;>
    simp (disch := first | omega | (simp only; omega)) only [dif_pos, dif_neg] <;>
    first
    | rfl
    | exact congrArg v (congrArg₂ ix2 (Fin.ext (by simp only; omega)) (Fin.ext (by simp only; omega)))

/-- A row of sums is one on the half it sums and zero on the other. -/
theorem valMat2_sum (v : FVec Ideal S64x256 .f32) (u : Bool) (x : Fin 256) (w : Bool) (h) :
    valMat2 v (ix2 (sumRow u) ⟨x.val + 256 * w.toNat, h⟩) = if w = u then 1 else 0 := by
  have hs : (sr u).val ≤ 1 := by cases u <;> decide
  have hr : (sumRow u).val = 128 + (sr u).val := rfl
  rw [valMat2_row, dif_neg (by omega), dif_neg (by omega),
    show (⟨(sumRow u).val - 64 - 64, by omega⟩ : Fin 16) = sr u from Fin.ext (by simp only; omega), sumRows2_at]
  cases u <;> cases w <;> simp

theorem valMat1_val (v : FVec Ideal S64x128 .f32) (u : Bool) (d : Fin 64) (x : Fin 128) (w : Bool) (h) :
    valMat1 v (ix2 (valRow u d) ⟨x.val + 128 * w.toNat, h⟩) = if w = u then v (ix2 d x) else 0 := by
  have hr : (valRow u d).val = d.val + 64 * u.toNat := rfl
  rw [valMat1_row]
  cases u <;> cases w <;> simp only [Bool.toNat_false, Bool.toNat_true] at hr ⊢ <;>
    simp (disch := first | omega | (simp only; omega)) only [dif_pos, dif_neg] <;>
    first
    | rfl
    | exact congrArg v (congrArg₂ ix2 (Fin.ext (by simp only; omega)) (Fin.ext (by simp only; omega)))

theorem valMat1_sum (v : FVec Ideal S64x128 .f32) (u : Bool) (x : Fin 128) (w : Bool) (h) :
    valMat1 v (ix2 (sumRow u) ⟨x.val + 128 * w.toNat, h⟩) = if w = u then 1 else 0 := by
  have hs : (sr u).val ≤ 1 := by cases u <;> decide
  have hr : (sumRow u).val = 128 + (sr u).val := rfl
  rw [valMat1_row, dif_neg (by omega), dif_neg (by omega),
    show (⟨(sumRow u).val - 64 - 64, by omega⟩ : Fin 16) = sr u from Fin.ext (by simp only; omega), sumRows1_at]
  cases u <;> cases w <;> simp

theorem parted2_row (pL pH : FVec Ideal S128x512 .bf16) (mp mc : Vec Ideal S128x512 .bf16) (x c : Fin 512) :
    parted2 pL pH mp mc (ix2 x c)
      = if h : x.val < 128 then pL (ix2 ⟨x.val, h⟩ c) * mp (ix2 ⟨x.val, h⟩ c)
        else if h : x.val - 128 < 128 then pL (ix2 ⟨x.val - 128, h⟩ c) * mc (ix2 ⟨x.val - 128, h⟩ c)
        else if h : x.val - 128 - 128 < 128 then
          pH (ix2 ⟨x.val - 128 - 128, h⟩ c) * mp (ix2 ⟨x.val - 128 - 128, h⟩ c)
        else pH (ix2 ⟨x.val - 128 - 128 - 128, by omega⟩ c) * mc (ix2 ⟨x.val - 128 - 128 - 128, by omega⟩ c) := by
  pointwise [parted2]

theorem sums2_row (v : FVec Ideal S64x256 .f32) (pL pH : FVec Ideal S128x512 .bf16)
    (mp mc : Vec Ideal S128x512 .bf16) (r : Fin 144) (c : Fin 512) :
    sums2 v pL pH mp mc (ix2 r c) = ∑ x : Fin 512, valMat2 v (ix2 r x) * parted2 pL pH mp mc (ix2 x c) := by
  pointwise [sums2]

theorem sums1_row (v : FVec Ideal S64x128 .f32) (pL pH : FVec Ideal S128x512 .bf16)
    (mc : Vec Ideal S128x512 .bf16) (r : Fin 144) (c : Fin 512) :
    sums1 v pL pH mc (ix2 r c) = ∑ x : Fin 256, valMat1 v (ix2 r x) * parted1 pL pH mc (ix2 x c) := by
  pointwise [sums1]

/-- The half `u` of the weights' rows, over the previous block's keys, then over the current block's. -/
theorem parted2_prev (pL pH : FVec Ideal S128x512 .bf16) (mp mc : Vec Ideal S128x512 .bf16) (u : Bool) (j : Fin 128)
    (c : Fin 512) (h) : parted2 pL pH mp mc (ix2 ⟨j.val + 128 * false.toNat + 256 * u.toNat, h⟩ c)
      = (if u then pH else pL) (ix2 j c) * mp (ix2 j c) := by
  rw [parted2_row]
  cases u <;> simp only [Bool.toNat_false, Bool.toNat_true] <;>
    simp (disch := omega) only [dif_pos, dif_neg] <;>
    (rw [show ∀ h, (⟨_, h⟩ : Fin 128) = j from fun h => Fin.ext (by simp only; omega)]) <;> rfl

theorem parted2_cur (pL pH : FVec Ideal S128x512 .bf16) (mp mc : Vec Ideal S128x512 .bf16) (u : Bool) (j : Fin 128)
    (c : Fin 512) (h) : parted2 pL pH mp mc (ix2 ⟨j.val + 128 * true.toNat + 256 * u.toNat, h⟩ c)
      = (if u then pH else pL) (ix2 j c) * mc (ix2 j c) := by
  rw [parted2_row]
  cases u <;> simp only [Bool.toNat_false, Bool.toNat_true] <;>
    simp (disch := omega) only [dif_pos, dif_neg] <;>
    (rw [show ∀ h, (⟨_, h⟩ : Fin 128) = j from fun h => Fin.ext (by simp only; omega)]) <;> rfl

theorem parted1_at (pL pH : FVec Ideal S128x512 .bf16) (mc : Vec Ideal S128x512 .bf16) (u : Bool) (j : Fin 128)
    (c : Fin 512) (h) : parted1 pL pH mc (ix2 ⟨j.val + 128 * u.toNat, h⟩ c)
      = (if u then pH else pL) (ix2 j c) * mc (ix2 j c) := by
  have e : ∀ x : Fin 256, parted1 pL pH mc (ix2 x c)
      = if h : x.val < 128 then pL (ix2 ⟨x.val, h⟩ c) * mc (ix2 ⟨x.val, h⟩ c)
        else pH (ix2 ⟨x.val - 128, by omega⟩ c) * mc (ix2 ⟨x.val - 128, by omega⟩ c) := by
    intro x; pointwise [parted1]
  rw [e]
  cases u <;> simp only [Bool.toNat_false, Bool.toNat_true] <;>
    simp (disch := omega) only [dif_pos, dif_neg] <;>
    (rw [show ∀ h, (⟨_, h⟩ : Fin 128) = j from fun h => Fin.ext (by simp only; omega)]) <;> rfl

theorem sums2_val (e u : Bool) (vp vc : Vec Ideal S128x128 .bf16) (pL pH : FVec Ideal S128x512 .bf16)
    (mp mc : Vec Ideal S128x512 .bf16) (d : Fin 64) (c : Fin 512) :
    sums2 (vals2 e vp vc) pL pH mp mc (ix2 (valRow u d) c)
      = (∑ j : Fin 128, vp (ix2 j (hl e d)) * ((if u then pH else pL) (ix2 j c) * mp (ix2 j c)))
        + ∑ j : Fin 128, vc (ix2 j (hl e d)) * ((if u then pH else pL) (ix2 j c) * mc (ix2 j c)) := by
  have hp : ∀ (j : Fin 128) h, vals2 e vp vc (ix2 d ⟨j.val + 128 * false.toNat, h⟩) = vp (ix2 j (hl e d)) :=
    fun j h => vals2_prev e vp vc d j (by omega)
  have hc : ∀ (j : Fin 128) h, vals2 e vp vc (ix2 d ⟨j.val + 128 * true.toNat, h⟩) = vc (ix2 j (hl e d)) := fun j h =>
    (congrArg (fun x => vals2 e vp vc (ix2 d x)) (Fin.ext (by show j.val + 128 = 128 + j.val; omega))).trans
      (vals2_cur e vp vc d j (by omega))
  rw [sums2_row, halves512]
  simp only [valMat2_val]
  cases u <;> simp only [reduceCtorEq, ↓reduceIte, zero_mul, Finset.sum_const_zero, add_zero, zero_add] <;>
    rw [halves256] <;> simp only [hp, hc, parted2_prev, parted2_cur, Bool.false_eq_true, ↓reduceIte]

theorem sums2_sum (u : Bool) (v : FVec Ideal S64x256 .f32) (pL pH : FVec Ideal S128x512 .bf16)
    (mp mc : Vec Ideal S128x512 .bf16) (c : Fin 512) :
    sums2 v pL pH mp mc (ix2 (sumRow u) c)
      = (∑ j : Fin 128, (if u then pH else pL) (ix2 j c) * mp (ix2 j c))
        + ∑ j : Fin 128, (if u then pH else pL) (ix2 j c) * mc (ix2 j c) := by
  rw [sums2_row, halves512]
  simp only [valMat2_sum]
  cases u <;> simp only [reduceCtorEq, ↓reduceIte, zero_mul, one_mul, Finset.sum_const_zero, add_zero, zero_add] <;>
    rw [halves256] <;> simp only [parted2_prev, parted2_cur, Bool.false_eq_true, ↓reduceIte]

theorem sums1_val (e u : Bool) (vc : Vec Ideal S128x128 .bf16) (pL pH : FVec Ideal S128x512 .bf16)
    (mc : Vec Ideal S128x512 .bf16) (d : Fin 64) (c : Fin 512) :
    sums1 (vals1 e vc) pL pH mc (ix2 (valRow u d) c)
      = ∑ j : Fin 128, vc (ix2 j (hl e d)) * ((if u then pH else pL) (ix2 j c) * mc (ix2 j c)) := by
  rw [sums1_row, halves256]
  simp only [valMat1_val, vals1_at, parted1_at]
  cases u <;> simp only [reduceCtorEq, ↓reduceIte, zero_mul, Finset.sum_const_zero, add_zero, zero_add]

theorem sums1_sum (u : Bool) (v : FVec Ideal S64x128 .f32) (pL pH : FVec Ideal S128x512 .bf16)
    (mc : Vec Ideal S128x512 .bf16) (c : Fin 512) :
    sums1 v pL pH mc (ix2 (sumRow u) c) = ∑ j : Fin 128, (if u then pH else pL) (ix2 j c) * mc (ix2 j c) := by
  rw [sums1_row, halves256]
  simp only [valMat1_sum, parted1_at]
  cases u <;> simp only [reduceCtorEq, ↓reduceIte, zero_mul, one_mul, Finset.sum_const_zero, add_zero, zero_add]

/-! ### The stores -/

theorem out_row (o : FVec Ideal S144x512 .f32) (sL mL sH mH : FVec Ideal S1x512 .f32) (x : Fin 128) (c : Fin 512) :
    out o sL mL sH mH (ix2 x c) = if h : x.val < 64 then
        o (ix2 ⟨x.val, by omega⟩ c) * Ideal.div 1 (o (ix2 128 c) + Ideal.exp2 (sL (ix2 0 c) - mL (ix2 0 c)))
      else o (ix2 ⟨64 + (x.val - 64), by omega⟩ c)
        * Ideal.div 1 (o (ix2 129 c) + Ideal.exp2 (sH (ix2 0 c) - mH (ix2 0 c))) := by
  pointwise [out]
  rfl

theorem out_at (o : FVec Ideal S144x512 .f32) (sL mL sH mH : FVec Ideal S1x512 .f32) (u : Bool) (d : Fin 64)
    (c : Fin 512) : out o sL mL sH mH (ix2 (hl u d) c) = o (ix2 (valRow u d) c)
      * Ideal.div 1 (o (ix2 (sumRow u) c)
        + Ideal.exp2 ((if u then sH else sL) (ix2 0 c) - (if u then mH else mL) (ix2 0 c))) := by
  rw [out_row]
  cases u
  · rw [dif_pos (by rw [hl_false]; omega)]; rfl
  · rw [dif_neg (by rw [hl_true]; omega),
      show (⟨64 + ((hl true d).val - 64), by omega⟩ : Fin 144) = valRow true d from
        Fin.ext (by show 64 + (d.val + 64 - 64) = d.val + 64; omega)]
    rfl

theorem slab_at (o : FVec Ideal S128x512 .f32) (pp : Fin 4) (i x : Fin 128) :
    slab o pp (ix2 i x) = o (ix2 x (col pp i)) := by
  fin_cases pp <;> pointwise [slab] <;> exact congrArg o (congrArg (ix2 x) (Fin.ext (by simp [col])))

theorem gated_at (x : FVec Ideal S128x128 .f32) (g : Vec Ideal S128x128 .bf16) (i c : Fin 128) :
    gated x g (ix2 i c) = x (ix2 i c) * g (ix2 i c) := by
  pointwise [gated]

/-- The mean of `w` weighted by the exponentials (base 2) of `s`, over those of 128 places that `b` keeps, a sink's
    exponential beside theirs in the sum it is divided by. -/
def mean (s w : Fin 128 → EReal) (b : Fin 128 → Bool) (snk : EReal) : EReal :=
  (∑ j, w j * (if b j then Ideal.exp2 (s j - max (Finset.univ.fold max ⊥ s) snk) else 0))
    * Ideal.div 1 ((∑ j, (if b j then Ideal.exp2 (s j - max (Finset.univ.fold max ⊥ s) snk) else 0))
      + Ideal.exp2 (snk - max (Finset.univ.fold max ⊥ s) snk))

/-- A sink in the exponent's base. -/
def base2 (x : EReal) : EReal := x * (((Real.log 2)⁻¹ : ℝ) : EReal)

/-- A store of a block with a previous block. -/
theorem piece2_at (e u : Bool) (pp : Fin 4) (kp kc vp vc : Vec Ideal S128x128 .bf16)
    (q : Fin 4 → Vec Ideal S128x128 .bf16) (sL sH : Fin 4 → Ideal .f32) (g : Vec Ideal S128x128 .bf16)
    (i : Fin 128) (d : Fin 64) :
    piece2 e pp kp kc vp vc q sL sH (stored (F := Ideal) fromPrev) (stored (F := Ideal) fromCur) g (ix2 i (hl u d))
      = mean (fun j => if i < j then dot e u kp (q pp) j i else dot e u kc (q pp) j i)
          (fun j => if i < j then vp (ix2 j (hl e d)) else vc (ix2 j (hl e d))) (fun _ => true)
          (base2 ((if u then sH else sL) pp)) * g (ix2 i (hl u d)) := by
  have hm : ∀ (a : EReal) (j : Fin 128) (x y : EReal), x * (a * (if i < j then 1 else 0)) + y * (a * (if i < j then 0 else 1))
      = (if i < j then x else y) * a := by
    intro a j x y; split_ifs <;> simp
  have hm1 : ∀ (a : EReal) (j : Fin 128), a * (if i < j then 1 else 0) + a * (if i < j then 0 else 1) = a := by
    intro a j; split_ifs <;> simp
  rw [piece2, gated_at, slab_at, out_at, sums2_val, sums2_sum]
  simp only [storedPrev_at, storedCur_at, ln_col, ← Finset.sum_add_distrib, hm, hm1]
  cases u <;> simp only [Bool.false_eq_true, ↓reduceIte, weights_at, top_at, merged2_at, sinkRow_at, ln_col, pg_col, mean, base2]

/-- A store of a sequence's first block: nothing lies before it. -/
theorem piece1_at (e u : Bool) (pp : Fin 4) (kc vc : Vec Ideal S128x128 .bf16)
    (q : Fin 4 → Vec Ideal S128x128 .bf16) (sL sH : Fin 4 → Ideal .f32) (g : Vec Ideal S128x128 .bf16)
    (i : Fin 128) (d : Fin 64) :
    piece1 e pp kc vc q sL sH (stored (F := Ideal) fromCur) g (ix2 i (hl u d))
      = mean (fun j => if i < j then ⊥ else dot e u kc (q pp) j i)
          (fun j => vc (ix2 j (hl e d))) (fun j => !decide (i < j))
          (base2 ((if u then sH else sL) pp)) * g (ix2 i (hl u d)) := by
  have hm : ∀ (a : EReal) (j : Fin 128), a * (if i < j then 0 else 1) = if !decide (i < j) then a else 0 := by
    intro a j; by_cases h : i < j <;> simp [h]
  rw [piece1, gated_at, slab_at, out_at, sums1_val, sums1_sum]
  simp only [storedCur_at, ln_col, hm]
  cases u <;> simp only [Bool.false_eq_true, ↓reduceIte, weights_at, top_at, merged1_at, sinkRow_at, ln_col, pg_col, mean, base2]

end Cert.Proof.Heads

end
-- ==== Proof.Kernel.lean ====
/- Hand-written, untrusted: WHAT A POINT OF THE GRID COMPUTES, at ideal values. Point `t` computes blocks `4 t … 4 t + 3` of
   128 rows; its output block holds, at each row and lane, `attn` of the queries, keys, values, gates and sinks of the whole
   sequence (`canonA`, `canonB`): the mean of the values over the window of 128 keys that ends at the row, weighted by the
   exponentials of the scores, times the gate. A sequence is 32 blocks; its first has no block before it. -/
module

public import proofs.«01_k».proof.Proof.Pieces
public import proofs.«01_k».proof.Proof.HeadsSum

@[expose] public section

noncomputable section

namespace Cert.Proof.Kernel

open Cert.KernelIdeal Cert.KernelIdeal.Gen Cert.Proof.Heads Cert.Proof.Pieces Idealize.ShloMosaic Idealize.ShloMosaic.TcCoe

/-! ### The attention over whole arrays -/

/-- Row `i` of block `B`. -/
def row (B i : Fin 128) : Fin 16384 := ⟨128 * B.val + i.val, by omega⟩
/-- Lane `d` of query head `n`. -/
def lane (n d : Fin 64) : Fin 4096 := ⟨64 * n.val + d.val, by omega⟩
/-- Lane `d` of the key/value head that query head `n` reads. -/
def klane (n d : Fin 64) : Fin 512 := ⟨64 * (n.val / 8) + d.val, by omega⟩
/-- Whether key place `j` of row `i`'s window lies before the sequence. -/
def before (B i j : Fin 128) : Prop := B.val % 32 = 0 ∧ i < j
instance (B i j : Fin 128) : Decidable (before B i j) := inferInstanceAs (Decidable (_ ∧ _))
/-- The row of key place `j` in the window of row `i` of block `B`: past the row, it is the previous block's. -/
def keyRow (B i j : Fin 128) : Fin 16384 :=
  ⟨if i < j ∧ B.val % 32 ≠ 0 then 128 * (B.val - 1) + j.val else 128 * B.val + j.val, by split_ifs <;> omega⟩

/-- The score of a row's query against a row's key. -/
def score (Q : Fin 16384 → Fin 4096 → EReal) (K : Fin 16384 → Fin 512 → EReal) (r t : Fin 16384) (n : Fin 64) : EReal :=
  ∑ d : Fin 64, K t (klane n d) * Q r (lane n d)

/-- The attention of row `i` of block `B`, head `n`, lane `d`. -/
def attn (Q : Fin 16384 → Fin 4096 → EReal) (K V : Fin 16384 → Fin 512 → EReal) (g : Fin 16384 → Fin 4096 → EReal)
    (s : Fin 64 → EReal) (B i : Fin 128) (n d : Fin 64) : EReal :=
  mean (fun j => if before B i j then ⊥ else score Q K (row B i) (keyRow B i j) n)
    (fun j => V (keyRow B i j) (klane n d)) (fun j => !decide (before B i j)) (base2 (s n)) * g (row B i) (lane n d)

/-! ### The loads at an index -/

theorem ldQ_at (a : Memref sig .tc .vmem S512x3072 .bf16) (ha : a.IsWhole) (x : Vec Ideal S512x3072 .bf16) (b : Fin 4)
    (k : ℕ) (hk : k + 128 ≤ 3072) (i j : Fin 128) :
    ldQ a (ha.unread x) b k hk (ix2 i j) = x (ix2 ⟨128 * b.val + i.val, by omega⟩ ⟨k + j.val, by omega⟩) :=
  (congrFun (ha.read_unread x) _).trans (congrArg x (funext fun a => Fin.ext (by
    match a with
    | 0 => show 128 * b.val + 0 + 1 * i.val = 128 * b.val + i.val; omega
    | 1 => show 0 + k + 1 * j.val = k + j.val; omega)))

theorem ldK_at (a : Memref sig .tc .vmem S512x1024 .bf16) (ha : a.IsWhole) (x : Vec Ideal S512x1024 .bf16) (b : Fin 4)
    (k : ℕ) (hk : k + 128 ≤ 1024) (i j : Fin 128) :
    ldK a (ha.unread x) b k hk (ix2 i j) = x (ix2 ⟨128 * b.val + i.val, by omega⟩ ⟨k + j.val, by omega⟩) :=
  (congrFun (ha.read_unread x) _).trans (congrArg x (funext fun a => Fin.ext (by
    match a with
    | 0 => show 128 * b.val + 0 + 1 * i.val = 128 * b.val + i.val; omega
    | 1 => show 0 + k + 1 * j.val = k + j.val; omega)))

theorem ldG_at (a : Memref sig .tc .vmem S512x4096 .bf16) (ha : a.IsWhole) (x : Vec Ideal S512x4096 .bf16) (b : Fin 4)
    (k : ℕ) (hk : k + 128 ≤ 4096) (i j : Fin 128) :
    ldG a (ha.unread x) b k hk (ix2 i j) = x (ix2 ⟨128 * b.val + i.val, by omega⟩ ⟨k + j.val, by omega⟩) :=
  (congrFun (ha.read_unread x) _).trans (congrArg x (funext fun a => Fin.ext (by
    match a with
    | 0 => show 128 * b.val + 0 + 1 * i.val = 128 * b.val + i.val; omega
    | 1 => show 0 + k + 1 * j.val = k + j.val; omega)))

theorem ldP_at (a : Memref sig .tc .vmem S128x1024 .bf16) (ha : a.IsWhole) (x : Vec Ideal S128x1024 .bf16)
    (k : ℕ) (hk : k + 128 ≤ 1024) (i j : Fin 128) :
    ldP a (ha.unread x) k hk (ix2 i j) = x (ix2 i ⟨k + j.val, by omega⟩) :=
  (congrFun (ha.read_unread x) _).trans (congrArg x (funext fun a => Fin.ext (by
    match a with
    | 0 => show 0 + 1 * i.val = i.val; omega
    | 1 => show k + 1 * j.val = k + j.val; omega)))

theorem ldS_at (a : Memref sig .tc .smem S64 .f32) (ha : a.IsWhole) (x : Vec Ideal S64 .f32) (k : ℕ) (hk : k + 1 ≤ 64) :
    ldS a (ha.unread x) k hk = x (ix1 ⟨k, by omega⟩) :=
  (congrFun (ha.read_unread x) _).trans (congrArg x (funext fun a => Fin.ext (by
    match a with
    | 0 => show k + 1 * 0 = k; omega)))

/-! ### The stores at an index -/

section
variable (arg1 : Memref sig .tc .smem S64 .f32) (harg1 : arg1.IsWhole)
  (arg2 : Memref sig .tc .vmem S512x3072 .bf16) (harg2 : arg2.IsWhole)
  (arg3 : Memref sig .tc .vmem S512x1024 .bf16) (harg3 : arg3.IsWhole)
  (arg4 : Memref sig .tc .vmem S128x1024 .bf16) (harg4 : arg4.IsWhole)
  (arg5 : Memref sig .tc .vmem S512x1024 .bf16) (harg5 : arg5.IsWhole)
  (arg6 : Memref sig .tc .vmem S512x4096 .bf16) (harg6 : arg6.IsWhole)
  (arg8 arg9 : Memref sig .tc .vmem S128x512 .bf16)
  (x0 : Vec Ideal S64 .f32) (x1 : Vec Ideal S512x3072 .bf16) (x2 : Vec Ideal S512x1024 .bf16)
  (x3 : Vec Ideal S128x1024 .bf16) (x4 : Vec Ideal S512x1024 .bf16) (x5 : Vec Ideal S512x4096 .bf16)
  (Q : Fin 16384 → Fin 4096 → EReal) (K V : Fin 16384 → Fin 512 → EReal) (g : Fin 16384 → Fin 4096 → EReal)
  (s : Fin 64 → EReal) (t : Fin 32)

/-- Row `r` of point `t`'s block of 512. -/
def prow (t : Fin 32) (r : Fin 512) : Fin 16384 := ⟨512 * t.val + r.val, by omega⟩
/-- Block `b` of point `t`. -/
def pblk (t : Fin 32) (b : Fin 4) : Fin 128 := ⟨4 * t.val + b.val, by omega⟩
/-- The query head in the lower (`u = false`) or upper half of slab `pp` of key/value head `h`. -/
def qhead (h : Fin 8) (pp : Fin 4) (u : Bool) : Fin 64 :=
  ⟨8 * h.val + 2 * pp.val + u.toNat, by cases u <;> simp <;> omega⟩

/-- The point's input blocks hold the arrays' rows `512 t …`. -/
structure Holds : Prop where
  h0 : ∀ n : Fin 64, x0 (ix1 n) = s n
  h1 : ∀ (r : Fin 512) (k : Fin 3072), x1 (ix2 r k) = Q (prow t r) ⟨k.val, by omega⟩
  h2 : ∀ (r : Fin 512) (k : Fin 1024), x2 (ix2 r k) = Q (prow t r) ⟨3072 + k.val, by omega⟩
  h4k : ∀ (r : Fin 512) (k : Fin 512), x4 (ix2 r ⟨k.val, by omega⟩) = K (prow t r) k
  h4v : ∀ (r : Fin 512) (k : Fin 512), x4 (ix2 r ⟨512 + k.val, by omega⟩) = V (prow t r) k
  h5 : ∀ (r : Fin 512) (k : Fin 4096), x5 (ix2 r k) = g (prow t r) k

/-- At a point that does not begin a sequence, the other input block holds the 128 rows before. -/
structure HoldsPrev : Prop where
  h3k : ∀ (r : Fin 128) (k : Fin 512), x3 (ix2 r ⟨k.val, by omega⟩) = K ⟨512 * t.val - 128 + r.val, by omega⟩ k
  h3v : ∀ (r : Fin 128) (k : Fin 512), x3 (ix2 r ⟨512 + k.val, by omega⟩) = V ⟨512 * t.val - 128 + r.val, by omega⟩ k

variable {Q K V g s t x0 x1 x2 x3 x4 x5} (H : Holds x0 x1 x2 x4 x5 Q K V g s t) (HP : HoldsPrev x3 K V t)

theorem lane_eq (h : Fin 8) (pp : Fin 4) (u : Bool) (d : Fin 64) :
    (lane (qhead h pp u) d).val = 128 * (4 * h.val + pp.val) + (hl u d).val := by
  cases u <;> simp only [lane, qhead, hl, Bool.toNat_false, Bool.toNat_true] <;> omega

theorem klane_eq (h : Fin 8) (pp : Fin 4) (u : Bool) (d : Fin 64) :
    (klane (qhead h pp u) d).val = 128 * (h.val / 2) + (hl (upper h) d).val := by
  have : (qhead h pp u).val / 8 = h.val := by cases u <;> simp only [qhead, Bool.toNat_false, Bool.toNat_true] <;> omega
  rcases Nat.mod_two_eq_zero_or_one h.val with e | e <;> simp [klane, hl, upper, this, e] <;> omega

theorem prow_blk (b : Fin 4) (i : Fin 128) (h) : prow t ⟨128 * b.val + i.val, h⟩ = row (pblk t b) i :=
  Fin.ext (by simp only [prow, row, pblk]; omega)

include H in
theorem qSlab_at (b : Fin 4) (h : Fin 8) (pp : Fin 4) (u : Bool) (i : Fin 128) (d : Fin 64) :
    qSlab arg2 (harg2.unread x1) arg3 (harg3.unread x2) b h pp (ix2 i (hl u d))
      = Q (row (pblk t b) i) (lane (qhead h pp u) d) := by
  have e := lane_eq h pp u d
  unfold qSlab
  split_ifs with hq
  · rw [ldQ_at, H.h1, prow_blk]
    exact congrArg _ (Fin.ext e.symm)
  · rw [ldK_at, H.h2, prow_blk]
    exact congrArg _ (Fin.ext (by dsimp only; omega))

include H in
theorem kSlab_at (b : Fin 4) (h : Fin 8) (pp : Fin 4) (u : Bool) (j : Fin 128) (d : Fin 64) :
    kSlab arg5 (harg5.unread x4) b h (ix2 j (hl (upper h) d)) = K (row (pblk t b) j) (klane (qhead h pp u) d) := by
  have e := klane_eq h pp u d
  unfold kSlab
  rw [ldK_at, ← prow_blk (t := t) b j (by omega), ← H.h4k]
  exact congrArg x4 (congrArg (ix2 _) (Fin.ext e.symm))

include H in
theorem vSlab_at (b : Fin 4) (h : Fin 8) (pp : Fin 4) (u : Bool) (j : Fin 128) (d : Fin 64) :
    vSlab arg5 (harg5.unread x4) b h (ix2 j (hl (upper h) d)) = V (row (pblk t b) j) (klane (qhead h pp u) d) := by
  have e := klane_eq h pp u d
  unfold vSlab
  rw [ldK_at, ← prow_blk (t := t) b j (by omega), ← H.h4v]
  exact congrArg x4 (congrArg (ix2 _) (Fin.ext (by dsimp only; omega)))

include HP in
theorem kPrev_at (h : Fin 8) (pp : Fin 4) (u : Bool) (j : Fin 128) (d : Fin 64) :
    kPrev arg4 (harg4.unread x3) h (ix2 j (hl (upper h) d))
      = K ⟨512 * t.val - 128 + j.val, by omega⟩ (klane (qhead h pp u) d) := by
  have e := klane_eq h pp u d
  unfold kPrev
  rw [ldP_at, ← HP.h3k]
  exact congrArg x3 (congrArg (ix2 _) (Fin.ext e.symm))

include HP in
theorem vPrev_at (h : Fin 8) (pp : Fin 4) (u : Bool) (j : Fin 128) (d : Fin 64) :
    vPrev arg4 (harg4.unread x3) h (ix2 j (hl (upper h) d))
      = V ⟨512 * t.val - 128 + j.val, by omega⟩ (klane (qhead h pp u) d) := by
  have e := klane_eq h pp u d
  unfold vPrev
  rw [ldP_at, ← HP.h3v]
  exact congrArg x3 (congrArg (ix2 _) (Fin.ext (by dsimp only; omega)))

include H in
theorem gSlab_at (b : Fin 4) (h : Fin 8) (pp : Fin 4) (u : Bool) (i : Fin 128) (d : Fin 64) :
    gSlab arg6 (harg6.unread x5) b h pp (ix2 i (hl u d)) = g (row (pblk t b) i) (lane (qhead h pp u) d) := by
  have e := lane_eq h pp u d
  unfold gSlab
  rw [ldG_at, H.h5, prow_blk]
  exact congrArg _ (Fin.ext e.symm)

include H in
theorem sink_at (h : Fin 8) (pp : Fin 4) (u : Bool) :
    (if u then sinkH arg1 (harg1.unread x0) h else sinkL arg1 (harg1.unread x0) h) pp = s (qhead h pp u) := by
  cases u
  · simp only [Bool.false_eq_true, if_false, sinkL]
    rw [ldS_at, H.h0]
    exact congrArg s (Fin.ext (by simp only [qhead, Bool.toNat_false]; omega))
  · simp only [if_true, sinkH]
    rw [ldS_at, H.h0]
    exact congrArg s (Fin.ext (by simp only [qhead, Bool.toNat_true]; omega))

include H in
/-- A block's store, given what its previous block's slabs hold. -/
theorem piece2_attn (b : Fin 4) (h : Fin 8) (pp : Fin 4) (u : Bool) (i : Fin 128) (d : Fin 64)
    (kp vp : Vec Ideal S128x128 .bf16) (hB : (pblk t b).val % 32 ≠ 0)
    (hk : ∀ (u : Bool) (j : Fin 128) (d : Fin 64), kp (ix2 j (hl (upper h) d))
      = K ⟨128 * ((pblk t b).val - 1) + j.val, by omega⟩ (klane (qhead h pp u) d))
    (hv : ∀ (u : Bool) (j : Fin 128) (d : Fin 64), vp (ix2 j (hl (upper h) d))
      = V ⟨128 * ((pblk t b).val - 1) + j.val, by omega⟩ (klane (qhead h pp u) d)) :
    piece2 (upper h) pp kp (kSlab arg5 (harg5.unread x4) b h) vp (vSlab arg5 (harg5.unread x4) b h)
        (qSlab arg2 (harg2.unread x1) arg3 (harg3.unread x2) b h) (sinkL arg1 (harg1.unread x0) h)
        (sinkH arg1 (harg1.unread x0) h) (ldMask arg8 fromPrev) (ldMask arg9 fromCur)
        (gSlab arg6 (harg6.unread x5) b h pp) (ix2 i (hl u d))
      = attn Q K V g s (pblk t b) i (qhead h pp u) d := by
  have hn : ∀ j, ¬ before (pblk t b) i j := fun j hb => hB hb.1
  rw [ldMask_eq, ldMask_eq, piece2_at, attn, sink_at arg1 harg1 H, gSlab_at arg6 harg6 H]
  congr 2
  · funext j
    rw [if_neg (hn j)]
    unfold dot score keyRow
    by_cases hij : i < j
    · rw [if_pos hij]
      refine Finset.sum_congr rfl fun d' _ => ?_
      rw [hk u, qSlab_at arg2 harg2 arg3 harg3 H]
      simp only [if_pos (show i < j ∧ (pblk t b).val % 32 ≠ 0 from ⟨hij, hB⟩)]
    · rw [if_neg hij]
      refine Finset.sum_congr rfl fun d' _ => ?_
      rw [kSlab_at arg5 harg5 H b h pp u, qSlab_at arg2 harg2 arg3 harg3 H]
      simp only [if_neg (show ¬ (i < j ∧ (pblk t b).val % 32 ≠ 0) from fun c => hij c.1)]
      rfl
  · funext j
    unfold keyRow
    by_cases hij : i < j
    · rw [if_pos hij, hv u]
      simp only [if_pos (show i < j ∧ (pblk t b).val % 32 ≠ 0 from ⟨hij, hB⟩)]
    · rw [if_neg hij, vSlab_at arg5 harg5 H b h pp u]
      simp only [if_neg (show ¬ (i < j ∧ (pblk t b).val % 32 ≠ 0) from fun c => hij c.1)]
      rfl
  · funext j
    simp only [hn j, decide_false, Bool.not_false]

include H in
/-- The store of the first block of a sequence. -/
theorem piece1_attn (b : Fin 4) (h : Fin 8) (pp : Fin 4) (u : Bool) (i : Fin 128) (d : Fin 64)
    (hB : (pblk t b).val % 32 = 0) :
    piece1 (upper h) pp (kSlab arg5 (harg5.unread x4) b h) (vSlab arg5 (harg5.unread x4) b h)
        (qSlab arg2 (harg2.unread x1) arg3 (harg3.unread x2) b h) (sinkL arg1 (harg1.unread x0) h)
        (sinkH arg1 (harg1.unread x0) h) (ldMask arg9 fromCur)
        (gSlab arg6 (harg6.unread x5) b h pp) (ix2 i (hl u d))
      = attn Q K V g s (pblk t b) i (qhead h pp u) d := by
  have hn : ∀ j, before (pblk t b) i j ↔ i < j := fun j => ⟨fun hb => hb.2, fun hij => ⟨hB, hij⟩⟩
  have hr : ∀ j, keyRow (pblk t b) i j = row (pblk t b) j := fun j => Fin.ext
    (by simp only [keyRow, if_neg (show ¬ (i < j ∧ (pblk t b).val % 32 ≠ 0) from fun c => c.2 hB)]; rfl)
  rw [ldMask_eq, piece1_at, attn, sink_at arg1 harg1 H, gSlab_at arg6 harg6 H]
  congr 2
  · funext j
    rw [hr]
    by_cases hij : i < j
    · rw [if_pos hij, if_pos ((hn j).2 hij)]
    · rw [if_neg hij, if_neg (fun c => hij ((hn j).1 c))]
      unfold dot score
      refine Finset.sum_congr rfl fun d' _ => ?_
      rw [kSlab_at arg5 harg5 H b h pp u, qSlab_at arg2 harg2 arg3 harg3 H]
  · funext j
    rw [hr, vSlab_at arg5 harg5 H b h pp u]
  · funext j
    simp only [hn j]

end

end Cert.Proof.Kernel

end
-- ==== Proof.Run.lean ====
/- Hand-written, untrusted: THE KERNEL'S RESULT ARRAY AS ONE FUNCTION of the arrays its call is given, at ideal values: a
   point's stores put together are its block of the attention (`flushed_eq`), and the points' blocks cover the result. -/
module

public import proofs.«01_k».proof.Proof.Kernel
public import Idealize.ShloMosaic.Lib.Pipeline.Value

@[expose] public section

noncomputable section

namespace Cert.Proof.Run

open Cert.KernelIdeal Cert.KernelIdeal.Gen Cert.KernelIdeal.Value Cert.Proof.Heads Cert.Proof.Pieces Cert.Proof.Kernel
open Idealize.ShloMosaic Idealize.ShloMosaic.TcCoe Idealize.SL.Sem

/-! ### The stores put together -/

section
variable (Q : Fin 16384 → Fin 4096 → EReal) (K V : Fin 16384 → Fin 512 → EReal) (g : Fin 16384 → Fin 4096 → EReal)
  (s : Fin 64 → EReal)

/-- The attention at a row and a lane of the whole result. -/
def G (r : Fin 16384) (k : Fin 4096) : EReal :=
  attn Q K V g s ⟨r.val / 128, by omega⟩ ⟨r.val % 128, by omega⟩ ⟨k.val / 64, by omega⟩ ⟨k.val % 64, by omega⟩

theorem G_at (B i : Fin 128) (n d : Fin 64) (r : Fin 16384) (k : Fin 4096) (hr : r.val = 128 * B.val + i.val)
    (hk : k.val = 64 * n.val + d.val) : G Q K V g s r k = attn Q K V g s B i n d := by
  unfold G
  congr 1 <;> exact Fin.ext (by dsimp only; omega)

/-- A lane of a slab is a lane of its lower or its upper half. -/
theorem exists_hl (l : Fin 128) : ∃ u d, l = hl u d := by
  by_cases h : l.val < 64
  · exact ⟨false, ⟨l.val, h⟩, Fin.ext rfl⟩
  · exact ⟨true, ⟨l.val - 64, by omega⟩, Fin.ext (by rw [hl_true]; dsimp only; omega)⟩

/-- An index of a slab is its row and its lane. -/
theorem eq_ix2 (x : S128x128.Idx) : x = ix2 (⟨(x 0).val, (x 0).isLt⟩ : Fin 128) (⟨(x 1).val, (x 1).isLt⟩ : Fin 128) := by
  funext a
  match a with
  | 0 => rfl
  | 1 => rfl

section
variable {Q K V g s} (t : Fin 32) (pay : Fin 4 → Fin 8 → Fin 4 → FVec Ideal S128x128 .bf16)
  (hp : ∀ b h pp u i d, pay b h pp (ix2 i (hl u d)) = attn Q K V g s (pblk t b) i (qhead h pp u) d)

include hp in
theorem pay_at (n i l : Fin 128) (r : Fin 16384) (k : Fin 4096) (hr : r.val = 512 * t.val + 128 * (n.val / 32) + i.val)
    (hk : k.val = 128 * (n.val % 32) + l.val) :
    pay ⟨n.val / 32, by omega⟩ ⟨n.val % 32 / 4, by omega⟩ ⟨n.val % 4, by omega⟩ (ix2 i l) = G Q K V g s r k := by
  obtain ⟨u, d, rfl⟩ := exists_hl l
  rw [hp]
  refine (G_at Q K V g s _ _ _ _ _ _ ?_ ?_).symm
  · simp only [pblk]; omega
  · cases u <;> simp only [qhead, hl_false, hl_true, Bool.toNat_true, Bool.toNat_false] at hk ⊢ <;> omega

include hp in
/-- Stores that hold the attention at each of their lanes make up the attention's block. -/
theorem canon_stores (hc : ∀ y : S512x4096.Idx, ∃ pc ∈ stores pay, y ∈ pc.1.set) :
    View.canon (stores pay) = fun y : S512x4096.Idx => G Q K V g s (prow t (y 0)) (y 1) := by
  funext y
  refine View.canon_apply_of_pieces (fun y : S512x4096.Idx => G Q K V g s (prow t (y 0)) (y 1)) _ ?_ y (hc y)
  intro p hpm x
  obtain ⟨n, -, rfl⟩ := List.mem_map.mp hpm
  have e0 : (((store pay n).1.emb x) 0).val = 128 * (n.val / 32) + (x 0).val := by
    show 128 * (n.val / 32) + 1 * (x 0).val = _; omega
  have e1 : (((store pay n).1.emb x) 1).val = 128 * (n.val % 32) + (x 1).val := by
    show 128 * (n.val % 32) + 1 * (x 1).val = _; omega
  refine (congrArg (pay _ _ _) (eq_ix2 x)).trans (pay_at t pay hp n _ _ _ _ ?_ ?_)
  · show 512 * t.val + _ = _
    rw [e0]; dsimp only; omega
  · exact e1
end
end

variable (m : (ℓ : Loc nD τ sig) → Buf (Elt Ideal) ℓ) (ρ : Dev nD → PrngReg) (c : Dev nD)

/-! ### The arrays the call is given -/

/-- The queries: the first 3072 lanes are one array's, the rest another's first columns. -/
def Qm (r : Fin 16384) (k : Fin 4096) : EReal :=
  if h : k.val < 3072 then (V m c main_v12 : S16384x3072.Idx → EReal) (ix2 r ⟨k.val, h⟩)
  else (V m c main_v14 : S16384x2048.Idx → EReal) (ix2 r ⟨k.val - 3072, by omega⟩)
def Km (r : Fin 16384) (k : Fin 512) : EReal := (V m c main_v14 : S16384x2048.Idx → EReal) (ix2 r ⟨1024 + k.val, by omega⟩)
def Vm (r : Fin 16384) (k : Fin 512) : EReal := (V m c main_v14 : S16384x2048.Idx → EReal) (ix2 r ⟨1536 + k.val, by omega⟩)
def gm (r : Fin 16384) (k : Fin 4096) : EReal := (V m c main_v11 : S16384x8192.Idx → EReal) (ix2 r ⟨k.val, by omega⟩)
def sm (n : Fin 64) : EReal := (V m c main_v15 : S64.Idx → EReal) (ix1 n)

/-! ### The windows' blocks -/

theorem idx0 : ∀ t : Fin cfg0.N, win0_0.index t (0 : Fin 1) = 0 := (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 4 * t.val - 1 ∧ win0_3.index t (1 : Fin 2) = 1 :=
  (by decide +kernel : ∀ t : Fin grid0.N, _)
theorem idx4 : ∀ t : Fin cfg0.N, win0_4.index t (0 : Fin 2) = t.val ∧ win0_4.index t (1 : Fin 2) = 1 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- A point of the grid as its number. -/
def pt (t : Fin cfg0.N) : Fin 32 := ⟨t.val, t.isLt⟩

theorem iblk0_at (t : Fin cfg0.N) (n : Fin 64) : (iblk m c 0 t : S64.Idx → EReal) (ix1 n) = sm m c n := by
  have e0 := idx0 t
  refine congrArg (V m c main_v15 : S64.Idx → EReal) (funext fun a => Fin.ext ?_)
  match a with
  | 0 => show win0_0.index t (0 : Fin 1) * 64 + 1 * n.val = n.val; omega

theorem iblk1_at (t : Fin cfg0.N) (r : Fin 512) (k : Fin 3072) : (iblk m c 1 t : S512x3072.Idx → EReal) (ix2 r k)
    = (V m c main_v12 : S16384x3072.Idx → EReal) (ix2 (prow (pt t) r) k) := by
  obtain ⟨e0, e1⟩ := idx1 t
  refine congrArg (V m c main_v12 : S16384x3072.Idx → EReal) (funext fun a => Fin.ext ?_)
  match a with
  | 0 => show win0_1.index t (0 : Fin 2) * 512 + 1 * r.val = 512 * t.val + r.val; omega
  | 1 => show win0_1.index t (1 : Fin 2) * 3072 + 1 * k.val = k.val; omega

theorem iblk2_at (t : Fin cfg0.N) (r : Fin 512) (k : Fin 1024) : (iblk m c 2 t : S512x1024.Idx → EReal) (ix2 r k)
    = (V m c main_v14 : S16384x2048.Idx → EReal) (ix2 (prow (pt t) r) ⟨k.val, by omega⟩) := by
  obtain ⟨e0, e1⟩ := idx2 t
  refine congrArg (V m c main_v14 : S16384x2048.Idx → EReal) (funext fun a => Fin.ext ?_)
  match a with
  | 0 => show win0_2.index t (0 : Fin 2) * 512 + 1 * r.val = 512 * t.val + r.val; omega
  | 1 => show win0_2.index t (1 : Fin 2) * 1024 + 1 * k.val = k.val; omega

theorem iblk3_at (t : Fin cfg0.N) (r : Fin 128) (k : Fin 1024) (h : 512 * t.val - 128 + r.val < 16384) :
    (iblk m c 3 t : S128x1024.Idx → EReal) (ix2 r k)
    = (V m c main_v14 : S16384x2048.Idx → EReal) (ix2 ⟨512 * t.val - 128 + r.val, h⟩ ⟨1024 + k.val, by omega⟩) := by
  obtain ⟨e0, e1⟩ := idx3 t
  refine congrArg (V m c main_v14 : S16384x2048.Idx → EReal) (funext fun a => Fin.ext ?_)
  match a with
  | 0 => show win0_3.index t (0 : Fin 2) * 128 + 1 * r.val = 512 * t.val - 128 + r.val; omega
  | 1 => show win0_3.index t (1 : Fin 2) * 1024 + 1 * k.val = 1024 + k.val; omega

theorem iblk4_at (t : Fin cfg0.N) (r : Fin 512) (k : Fin 1024) : (iblk m c 4 t : S512x1024.Idx → EReal) (ix2 r k)
    = (V m c main_v14 : S16384x2048.Idx → EReal) (ix2 (prow (pt t) r) ⟨1024 + k.val, by omega⟩) := by
  obtain ⟨e0, e1⟩ := idx4 t
  refine congrArg (V m c main_v14 : S16384x2048.Idx → EReal) (funext fun a => Fin.ext ?_)
  match a with
  | 0 => show win0_4.index t (0 : Fin 2) * 512 + 1 * r.val = 512 * t.val + r.val; omega
  | 1 => show win0_4.index t (1 : Fin 2) * 1024 + 1 * k.val = 1024 + k.val; omega

theorem iblk5_at (t : Fin cfg0.N) (r : Fin 512) (k : Fin 4096) : (iblk m c 5 t : S512x4096.Idx → EReal) (ix2 r k)
    = (V m c main_v11 : S16384x8192.Idx → EReal) (ix2 (prow (pt t) r) ⟨k.val, by omega⟩) := by
  obtain ⟨e0, e1⟩ := idx5 t
  refine congrArg (V m c main_v11 : S16384x8192.Idx → EReal) (funext fun a => Fin.ext ?_)
  match a with
  | 0 => show win0_5.index t (0 : Fin 2) * 512 + 1 * r.val = 512 * t.val + r.val; omega
  | 1 => show win0_5.index t (1 : Fin 2) * 4096 + 1 * k.val = k.val; omega

theorem holds (t : Fin cfg0.N) : Holds (iblk m c 0 t) (iblk m c 1 t) (iblk m c 2 t) (iblk m c 4 t) (iblk m c 5 t)
    (Qm m c) (Km m c) (Vm m c) (gm m c) (sm m c) (pt t) where
  h0 n := iblk0_at m c t n
  h1 r k := (iblk1_at m c t r k).trans (by rw [Qm, dif_pos k.isLt])
  h2 r k := (iblk2_at m c t r k).trans (by
    rw [Qm, dif_neg (by dsimp only; omega)]
    exact congrArg (V m c main_v14 : S16384x2048.Idx → EReal) (congrArg (ix2 _) (Fin.ext (by dsimp only; omega))))
  h4k r k := iblk4_at m c t r _
  h4v r k := (iblk4_at m c t r _).trans
    (congrArg (V m c main_v14 : S16384x2048.Idx → EReal) (congrArg (ix2 _) (Fin.ext (by dsimp only; omega))))
  h5 r k := iblk5_at m c t r k

theorem holdsPrev (t : Fin cfg0.N) : HoldsPrev (iblk m c 3 t) (Km m c) (Vm m c) (pt t) where
  h3k r k := iblk3_at m c t r _ _
  h3v r k := (iblk3_at m c t r _ _).trans
    (congrArg (V m c main_v14 : S16384x2048.Idx → EReal) (congrArg (ix2 _) (Fin.ext (by dsimp only; omega))))

/-- The result array. -/
def res : S16384x4096.Idx → EReal := fun y => G (Qm m c) (Km m c) (Vm m c) (gm m c) (sm m c) (y 0) (y 1)

/-- Cutting a point's block out of its staging buffer reads the array's block. -/
theorem cut6 (t : Fin cfg0.N) :
    (cfg0.win 6).cut (grid0.coords t)
        (fun y : S512x4096.Idx => G (Qm m c) (Km m c) (Vm m c) (gm m c) (sm m c) (prow (pt t) (y 0)) (y 1))
      = ((cfg0.win 6).blk t).view.read (Elt Ideal) (res m c) := by
  obtain ⟨e0, e1⟩ := idx6 t
  funext j
  show G _ _ _ _ _ (prow (pt t) (j 0)) (j 1) = G _ _ _ _ _ _ _
  congr 1 <;> apply Fin.ext
  · show 512 * t.val + (j 0).val = win0_6.index t (0 : Fin 2) * 512 + 1 * (j 0).val; omega
  · show (j 1).val = win0_6.index t (1 : Fin 2) * 4096 + 1 * (j 1).val; omega

/-- What a point writes back is its block of the attention. -/
theorem flushed_eq (t : Fin cfg0.N) :
    (dats m 0 c).flushed 6 t = ((cfg0.win 6).blk t).view.read (Elt Ideal) (res m c) := by
  rw [← cut6]
  by_cases h : t.val % 8 = 0
  · rw [flushed6_A m c t (fun n => n h) h]
    congr 1
    unfold out0_A_6
    rw [View.read_writes_junk_eq_canon]
    have hcov := cover0_A_6 (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) scM0_0 (Memref.isWhole_whole _) scM0_1
      (Memref.isWhole_whole _) (fun h' => (fun n => n h) ((hcond0_0 t).mp h')) ((hcond0_1 t).mpr h) (iblk m c 0 t)
      (iblk m c 1 t) (iblk m c 2 t) (iblk m c 3 t) (iblk m c 4 t) (iblk m c 5 t)
    rw [storesA] at hcov ⊢
    refine canon_stores (pt t) _ (fun b h' pp u i d => ?_) hcov
    unfold payA
    by_cases hb : b.val = 0
    · rw [dif_pos hb]
      exact piece1_attn _ _ _ _ _ _ _ _ _ _ _ (holds m c t) b h' pp u i d (by simp only [pblk, pt]; omega)
    · have ht : t.val < 32 := t.isLt
      rw [dif_neg hb]
      refine piece2_attn _ _ _ _ _ _ _ _ _ _ _ _ (holds m c t) b h' pp u i d _ _ (by simp only [pblk, pt]; omega)
        (fun u j d => ?_) (fun u j d => ?_)
      · exact (kSlab_at _ _ (holds m c t) ⟨b.val - 1, by omega⟩ h' pp u j d).trans
          (congrArg (fun r => Km m c r _) (Fin.ext (by simp only [row, pblk]; omega)))
      · exact (vSlab_at _ _ (holds m c t) ⟨b.val - 1, by omega⟩ h' pp u j d).trans
          (congrArg (fun r => Vm m c r _) (Fin.ext (by simp only [row, pblk]; omega)))
  · rw [flushed6_B m c t h h]
    congr 1
    unfold out0_B_6
    rw [View.read_writes_junk_eq_canon]
    have hcov := cover0_B_6 (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) scM0_0 (Memref.isWhole_whole _) scM0_1
      (Memref.isWhole_whole _) ((hcond0_0 t).mpr h) (fun h' => h ((hcond0_1 t).mp h')) (iblk m c 0 t)
      (iblk m c 1 t) (iblk m c 2 t) (iblk m c 3 t) (iblk m c 4 t) (iblk m c 5 t)
    rw [storesB] at hcov ⊢
    refine canon_stores (pt t) _ (fun b h' pp u i d => ?_) hcov
    have ht : t.val < 32 := t.isLt
    unfold payB
    by_cases hb : b.val = 0
    · rw [dif_pos hb]
      refine piece2_attn _ _ _ _ _ _ _ _ _ _ _ _ (holds m c t) b h' pp u i d _ _ (by simp only [pblk, pt]; omega)
        (fun u j d => ?_) (fun u j d => ?_)
      · exact (kPrev_at _ _ (holdsPrev m c t) h' pp u j d).trans
          (congrArg (fun r => Km m c r _) (Fin.ext (by simp only [pblk, pt]; omega)))
      · exact (vPrev_at _ _ (holdsPrev m c t) h' pp u j d).trans
          (congrArg (fun r => Vm m c r _) (Fin.ext (by simp only [pblk, pt]; omega)))
    · rw [dif_neg hb]
      refine piece2_attn _ _ _ _ _ _ _ _ _ _ _ _ (holds m c t) b h' pp u i d _ _ (by simp only [pblk, pt]; omega)
        (fun u j d => ?_) (fun u j d => ?_)
      · exact (kSlab_at _ _ (holds m c t) ⟨b.val - 1, by omega⟩ h' pp u j d).trans
          (congrArg (fun r => Km m c r _) (Fin.ext (by simp only [row, pblk]; omega)))
      · exact (vSlab_at _ _ (holds m c t) ⟨b.val - 1, by omega⟩ h' pp u j d).trans
          (congrArg (fun r => Vm m c r _) (Fin.ext (by simp only [row, pblk]; omega)))

/-- Every index of the result is in some point's block. -/
theorem covered (i : S16384x4096.Idx) :
    ∃ t : Fin cfg0.N, (cfg0.win 6).flush t = true ∧ i ∈ ((cfg0.win 6).blk t).view.set := by
  have h0 : (i 0).val < 16384 := (i 0).isLt
  have h1 : (i 1).val < 4096 := (i 1).isLt
  refine ⟨(⟨(i 0).val / 512, by show _ < 32; omega⟩ : Fin cfg0.N), flush0_6 _, ?_⟩
  obtain ⟨e0, e1⟩ := idx6 ⟨(i 0).val / 512, by show _ < 32; omega⟩
  have h := ((cfg0.win 6).blk (⟨(i 0).val / 512, by show _ < 32; omega⟩ : Fin cfg0.N)).view.emb_mem_set
    (ix2 (⟨(i 0).val % 512, by omega⟩ : Fin 512) (⟨(i 1).val, h1⟩ : Fin 4096) : S512x4096.Idx)
  refine Eq.mp (congrArg (· ∈ _) (?_ : _ = i)) h
  refine funext fun a => Fin.ext ?_
  match a with
  | 0 => show win0_6.index _ (0 : Fin 2) * 512 + 1 * ((i 0).val % 512) = (i 0).val; rw [e0]; dsimp only; omega
  | 1 => show win0_6.index _ (1 : Fin 2) * 4096 + 1 * (i 1).val = (i 1).val; rw [e1]; omega

/-- The result array after the run. -/
theorem final : (dats m 0 c).arrAt 6 cfg0.N = res m c :=
  (dats m 0 c).arrAt_eq_of_cover 6 (res m c) (fun t _ => flushed_eq m c t) covered

end Cert.Proof.Run

end
-- ==== Proof.Host.lean ====
/- Hand-written, untrusted: THE ARRAYS THE KERNEL'S CALL IS GIVEN, as the arguments: the queries scaled, the keys, the values,
   the gates and the sinks, each re-laid out in rows of one sequence position. -/
module

public import proofs.«01_k».proof.Proof.Run
public import Idealize.ShloMosaic.Lib.Claim
public import Idealize.ShloMosaic.Lib.StableHlo.ReadAt

@[expose] public section

noncomputable section

namespace Cert.Proof.Run

open Cert.KernelIdeal Cert.KernelIdeal.Gen Cert.KernelIdeal.Value
open Idealize.ShloMosaic Idealize.ShloMosaic.TcCoe Idealize.SL.Sem

variable (m : (ℓ : Loc nD τ sig) → Buf (Elt Ideal) ℓ) (c : Dev nD)

/-- The factor the host scales the queries by. -/
def sc : EReal := Ideal.div (Ideal.ofBits FTy.f32 1040187392#32) (Ideal.log (Ideal.ofBits FTy.f32 1073741824#32))

/-- A flat row of the queries, keys, values and gates is a sequence and a position. -/
def sq (r : Fin 16384) : Fin 4 := ⟨r.val / 4096, by omega⟩
def ps (r : Fin 16384) : Fin 4096 := ⟨r.val % 4096, by omega⟩

/-- The arguments as the caller stores them: queries, keys, values, gates and sink logits. -/
def qA : S4x4096x64x64.Idx → EReal := m ((c : Thread nD τ).loc main_arg0)
def kA : S4x4096x8x64.Idx → EReal := m ((c : Thread nD τ).loc main_arg1)
def vA : S4x4096x8x64.Idx → EReal := m ((c : Thread nD τ).loc main_arg2)
def gA : S4x4096x8192.Idx → EReal := m ((c : Thread nD τ).loc main_arg3)
def sA : S1x64.Idx → EReal := m ((c : Thread nD τ).loc main_arg4)

theorem sm_eq (n : Fin 64) : sm m c n = sA m c (ix2 0 n) := by
  unfold sm
  entry_read
  pointwise []
  rfl

theorem v12_eq (r : Fin 16384) (k : Fin 3072) : (V m c main_v12 : S16384x3072.Idx → EReal) (ix2 r k)
    = qA m c (ix4 (sq r) (ps r) ⟨k.val / 64, by omega⟩ ⟨k.val % 64, by omega⟩) * sc := by
  entry_read
  pointwise []
  rfl

theorem gm_eq (r : Fin 16384) (k : Fin 4096) : gm m c r k = gA m c (ix3 (sq r) (ps r) ⟨k.val, by omega⟩) := by
  unfold gm
  entry_read
  pointwise []
  rfl

/-- The last 16 query heads, as the packed operand holds them. -/
theorem v14_q (r : Fin 16384) (k : Fin 1024) : (V m c main_v14 : S16384x2048.Idx → EReal) (ix2 r ⟨k.val, by omega⟩)
    = qA m c (ix4 (sq r) (ps r) ⟨(3072 + k.val) / 64, by omega⟩ ⟨(3072 + k.val) % 64, by omega⟩) * sc := by
  unfold V
  after_reads_simp
  dsimp only [Matrix.cons_val]
  after_reads_simp
  pointwise []
  rfl

/-- The keys, as the packed operand holds them. -/
theorem v14_k (r : Fin 16384) (k : Fin 512) : (V m c main_v14 : S16384x2048.Idx → EReal) (ix2 r ⟨1024 + k.val, by omega⟩)
    = kA m c (ix4 (sq r) (ps r) ⟨k.val / 64, by omega⟩ ⟨k.val % 64, by omega⟩) := by
  unfold V
  after_reads_simp
  dsimp only [Matrix.cons_val]
  after_reads_simp
  pointwise []
  rfl

set_option maxRecDepth 10000 in
/-- The values, as the packed operand holds them. -/
theorem v14_v (r : Fin 16384) (k : Fin 512) : (V m c main_v14 : S16384x2048.Idx → EReal) (ix2 r ⟨1536 + k.val, by omega⟩)
    = vA m c (ix4 (sq r) (ps r) ⟨k.val / 64, by omega⟩ ⟨k.val % 64, by omega⟩) := by
  unfold V
  after_reads_simp
  dsimp only [Matrix.cons_val]
  after_reads_simp
  pointwise []
  rw [dif_neg (by omega), dif_neg (by omega)]
  unfold vA
  congr 1
  refine congrArg₂ (ix4 _ _) (Fin.ext ?_) (Fin.ext ?_) <;> dsimp only <;> omega

theorem Qm_eq (r : Fin 16384) (n d : Fin 64) : Qm m c r (Kernel.lane n d) = qA m c (ix4 (sq r) (ps r) n d) * sc := by
  unfold Qm
  by_cases h : 64 * n.val + d.val < 3072
  · rw [dif_pos (show (Kernel.lane n d).val < 3072 from h)]
    rw [v12_eq]
    congr 2
    refine congrArg₂ (ix4 _ _) (Fin.ext ?_) (Fin.ext ?_) <;> simp only [Kernel.lane] <;> omega
  · rw [dif_neg (show ¬ (Kernel.lane n d).val < 3072 from h)]
    refine (v14_q m c r ⟨64 * n.val + d.val - 3072, by omega⟩).trans ?_
    congr 2
    refine congrArg₂ (ix4 _ _) (Fin.ext ?_) (Fin.ext ?_) <;> dsimp only <;> omega

theorem Km_eq (r : Fin 16384) (n d : Fin 64) : Km m c r (Kernel.klane n d) = kA m c (ix4 (sq r) (ps r) ⟨n.val / 8, by omega⟩ d) := by
  unfold Km
  rw [v14_k]
  congr 1
  refine congrArg₂ (ix4 _ _) (Fin.ext ?_) (Fin.ext ?_) <;> simp only [Kernel.klane] <;> omega

theorem Vm_eq (r : Fin 16384) (n d : Fin 64) : Vm m c r (Kernel.klane n d) = vA m c (ix4 (sq r) (ps r) ⟨n.val / 8, by omega⟩ d) := by
  unfold Vm
  rw [v14_v]
  congr 1
  refine congrArg₂ (ix4 _ _) (Fin.ext ?_) (Fin.ext ?_) <;> simp only [Kernel.klane] <;> omega

end Cert.Proof.Run

end
-- ==== Proof.Scalar.lean ====
/- Hand-written, untrusted: THE SOFTMAX OF THE TWO SIDES. The kernel takes exponentials base 2 of scores scaled by `1 / log 2`, sums
   the weighted values and divides once; the reference takes exponentials base e and divides each weight. Where the scores and
   the sink are real numbers the two are equal, whatever the values (`mean_eq`). -/
module

public import proofs.«01_k».proof.Proof.HeadsSum

@[expose] public section

noncomputable section

namespace Cert.Proof.Scalar

open Cert.Proof.Heads Idealize.ShloMosaic

/-- The largest of the scores and the sink, as the reference takes it. -/
def peak (s : Fin 128 → EReal) (c : EReal) : EReal := max (Finset.univ.fold max ⊥ s) c

/-- The softmax with a sink, as the reference takes it: each weight divided. -/
def soft (s w : Fin 128 → EReal) (c : EReal) : EReal :=
  ∑ j, w j * Ideal.div (Ideal.exp (s j - peak s c)) ((∑ j, Ideal.exp (s j - peak s c)) + Ideal.exp (c - peak s c))

theorem log2_pos : 0 < Real.log 2 := Real.log_pos (by norm_num)

/-- Scaling by a positive real commutes with the maximum. -/
theorem scale_max (L : ℝ) (hL : 0 ≤ L) (x y : EReal) : max x y * (L : EReal) = max (x * L) (y * L) := by
  have mono : Monotone fun z : EReal => z * (L : EReal) := fun a b h =>
    mul_le_mul_of_nonneg_right h (EReal.coe_nonneg.2 hL)
  exact mono.map_max

theorem scale_peak (L : ℝ) (hL : 0 < L) (s : Fin 128 → EReal) (c : EReal) :
    max (Finset.univ.fold max ⊥ fun j => s j * (L : EReal)) (c * L) = peak s c * L := by
  unfold peak
  rw [scale_max L hL.le]
  congr 1
  have h := Finset.fold_hom (op := max) (op' := max) (b := (⊥ : EReal)) (f := s) (s := Finset.univ) (m := fun z : EReal => z * (L : EReal))
    (scale_max L hL.le)
  rw [← h, EReal.bot_mul_coe_of_pos hL]

/-- The largest of real or `−∞` scores and a real sink is real. -/
theorem peak_real (p : Fin 128 → Prop) [DecidablePred p] (a : Fin 128 → ℝ) (c : ℝ) :
    ∃ r : ℝ, peak (fun j => if p j then ⊥ else (a j : EReal)) c = r := by
  have h1 : peak (fun j => if p j then ⊥ else (a j : EReal)) c ≠ ⊥ := fun h => by
    have := (le_max_right (Finset.univ.fold max ⊥ fun j => if p j then ⊥ else (a j : EReal)) (c : EReal)).trans h.le
    exact EReal.coe_ne_bot _ (le_bot_iff.1 this)
  have h2 : peak (fun j => if p j then ⊥ else (a j : EReal)) c ≠ ⊤ := by
    refine (lt_top_iff_ne_top).1 (max_lt ?_ (EReal.coe_lt_top c))
    refine (Finset.fold_max_lt _).2 ⟨bot_lt_top, fun j _ => ?_⟩
    split
    · exact bot_lt_top
    · exact EReal.coe_lt_top _
  exact ⟨_, (EReal.coe_toReal h2 h1).symm⟩

/-- An exponential base 2 of scaled arguments is the exponential of the arguments. -/
theorem exp2_scaled (a r : ℝ) :
    Ideal.exp2 ((a : EReal) * (((Real.log 2)⁻¹ : ℝ) : EReal) - (r : EReal) * (((Real.log 2)⁻¹ : ℝ) : EReal)) = ((Real.exp (a - r) : ℝ) : EReal) := by
  rw [← EReal.coe_mul, ← EReal.coe_mul, ← EReal.coe_sub]
  show ((Real.rpow 2 _ : ℝ) : EReal) = _
  congr 1
  rw [show Real.rpow 2 (a * (Real.log 2)⁻¹ - r * (Real.log 2)⁻¹) = (2 : ℝ) ^ (a * (Real.log 2)⁻¹ - r * (Real.log 2)⁻¹) from rfl,
    Real.rpow_def_of_pos (by norm_num)]
  congr 1
  have := log2_pos.ne'
  field_simp

theorem exp_sub (a r : ℝ) : Ideal.exp ((a : EReal) - (r : EReal)) = ((Real.exp (a - r) : ℝ) : EReal) := by
  rw [← EReal.coe_sub]; rfl

/-- A non-negative real factor goes into a sum, whatever its terms. -/
theorem sum_scale {ι : Type} (t : Finset ι) (f : ι → EReal) (L : ℝ) (hL : 0 ≤ L) : (∑ j ∈ t, f j) * (L : EReal) = ∑ j ∈ t, f j * L := by
  classical
  induction t using Finset.induction_on with
  | empty => simp
  | insert a u ha ih =>
    rw [Finset.sum_insert ha, Finset.sum_insert ha, ← ih, EReal.right_distrib_of_nonneg_of_ne_top (EReal.coe_nonneg.2 hL) (EReal.coe_ne_top L)]

theorem coe_sum {ι : Type} (t : Finset ι) (f : ι → ℝ) : (∑ j ∈ t, (f j : EReal)) = ((∑ j ∈ t, f j : ℝ) : EReal) := by
  classical
  induction t using Finset.induction_on with
  | empty => simp
  | insert a u ha ih => rw [Finset.sum_insert ha, Finset.sum_insert ha, ih, EReal.coe_add]

theorem div_coe (x : EReal) (D : ℝ) (hD : 0 < D) : Ideal.div x D = x * ((D⁻¹ : ℝ) : EReal) := by
  unfold Ideal.div
  rw [if_neg (by exact_mod_cast hD.ne'), EReal.coe_inv]

/-- The denominator is a positive real. -/
theorem den_pos (p : Fin 128 → Prop) [DecidablePred p] (a : Fin 128 → ℝ) (c : ℝ) :
    ∃ D : ℝ, 0 < D ∧ (∑ j, Ideal.exp ((if p j then ⊥ else (a j : EReal)) - peak (fun j => if p j then ⊥ else (a j : EReal)) c))
      + Ideal.exp (c - peak (fun j => if p j then ⊥ else (a j : EReal)) c) = D := by
  obtain ⟨r, hr⟩ := peak_real p a c
  refine ⟨(∑ j, if p j then 0 else Real.exp (a j - r)) + Real.exp (c - r),
    add_pos_of_nonneg_of_pos (Finset.sum_nonneg fun j _ => by split <;> positivity) (Real.exp_pos _), ?_⟩
  rw [hr, EReal.coe_add, ← coe_sum, exp_sub]
  congr 1
  refine Finset.sum_congr rfl fun j _ => ?_
  by_cases h : p j
  · simp only [h, if_true, EReal.bot_sub]; rfl
  · simp only [h, if_false]; exact exp_sub _ _

/-- The values at places of weight zero do not matter. -/
theorem mean_congr (s w w' : Fin 128 → EReal) (b : Fin 128 → Bool) (c : EReal) (h : ∀ j, b j = true → w j = w' j) :
    mean s w b c = mean s w' b c := by
  unfold mean
  congr 1
  refine Finset.sum_congr rfl fun j _ => ?_
  by_cases hb : b j = true
  · rw [h j hb]
  · simp only [hb, Bool.false_eq_true, if_false, mul_zero]

theorem mean_eq (p : Fin 128 → Prop) [DecidablePred p] (a : Fin 128 → ℝ) (w : Fin 128 → EReal) (c : ℝ) :
    mean (fun j => if p j then ⊥ else (a j : EReal) * (((Real.log 2)⁻¹ : ℝ) : EReal)) w (fun j => !decide (p j)) (base2 c)
      = soft (fun j => if p j then ⊥ else (a j : EReal)) w c := by
  have hL : 0 < (Real.log 2)⁻¹ := inv_pos.2 log2_pos
  obtain ⟨r, hr⟩ := peak_real p a c
  have hs : (fun j => if p j then ⊥ else (a j : EReal) * (((Real.log 2)⁻¹ : ℝ) : EReal))
      = fun j => (if p j then ⊥ else (a j : EReal)) * (((Real.log 2)⁻¹ : ℝ) : EReal) := by
    funext j; split
    · rw [EReal.bot_mul_coe_of_pos hL]
    · rfl
  have ht := scale_peak _ hL (fun j => if p j then ⊥ else (a j : EReal)) c
  unfold mean soft base2
  rw [hs, ht, hr, exp2_scaled, exp_sub]
  have e1 : ∀ j, (if (!decide (p j)) = true then
      Ideal.exp2 ((if p j then ⊥ else (a j : EReal)) * (((Real.log 2)⁻¹ : ℝ) : EReal) - (r : EReal) * (((Real.log 2)⁻¹ : ℝ) : EReal)) else 0)
      = ((if p j then 0 else Real.exp (a j - r) : ℝ) : EReal) := by
    intro j
    by_cases h : p j
    · simp [h]
    · simp only [h, decide_false, Bool.not_false, if_true, if_false]; exact exp2_scaled _ _
  have e2 : ∀ j, Ideal.exp ((if p j then ⊥ else (a j : EReal)) - (r : EReal)) = ((if p j then 0 else Real.exp (a j - r) : ℝ) : EReal) := by
    intro j
    by_cases h : p j
    · simp only [h, if_true, EReal.bot_sub]; rfl
    · simp only [h, if_false]; exact exp_sub _ _
  simp only [e1, e2]
  rw [coe_sum, ← EReal.coe_add]
  have hD : 0 < (∑ j, if p j then 0 else Real.exp (a j - r)) + Real.exp (c - r) :=
    add_pos_of_nonneg_of_pos (Finset.sum_nonneg fun j _ => by split <;> positivity) (Real.exp_pos _)
  rw [div_coe _ _ hD, one_mul, sum_scale _ _ _ (inv_nonneg.2 hD.le)]
  refine Finset.sum_congr rfl fun j _ => ?_
  rw [div_coe _ _ hD, mul_assoc]

end Cert.Proof.Scalar
-- ==== Proof.Match.lean ====
/- Hand-written, untrusted: THE TWO SIDES ARE EQUAL. The reference looks at 256 rows, of which the mask keeps the 128 that end at
   the query's own; the kernel's window has those 128 places only (`place`). With real queries, keys and sinks the kernel's
   attention is the reference's result, element by element (`attn_eq`). -/
module

public import proofs.«01_k».proof.Proof.Ref
public import proofs.«01_k».proof.Proof.Host
public import proofs.«01_k».proof.Proof.Scalar

@[expose] public section

noncomputable section

namespace Cert.Proof.Match

open Cert.Proof.Heads Cert.Proof.Kernel Cert.Proof.Ref Cert.Proof.Scalar Idealize.ShloMosaic
open Cert.ReferenceIdeal (S4x4096x64x64 S4x4096x8x64 S4x4096x8192 S1x64)

/-! ### The window's places among the 256 rows -/

/-- The row of the 256 that place `j` of row `i`'s window is. -/
def place (i j : Fin 128) : Fin 256 := if i < j then ⟨j.val, by omega⟩ else ⟨128 + j.val, by omega⟩

theorem place_val (i j : Fin 128) : (place i j).val = if i < j then j.val else 128 + j.val := by
  unfold place; split <;> rfl

theorem place_inj (i : Fin 128) : Function.Injective (place i) := fun a b h => by
  have h' := congrArg Fin.val h
  rw [place_val, place_val] at h'
  refine Fin.ext ?_
  split_ifs at h' <;> omega

/-- The sequence, the block within it, the group of a head and its place in the group. -/
def bq (B : Fin 128) : Fin 4 := ⟨B.val / 32, by omega⟩
def bN (B : Fin 128) : Fin 32 := ⟨B.val % 32, by omega⟩
def hg (n : Fin 64) : Fin 8 := ⟨n.val / 8, by omega⟩
def he (n : Fin 64) : Fin 8 := ⟨n.val % 8, by omega⟩

theorem band_place (B i j : Fin 128) : band (bN B) i (place i j) ↔ ¬ before B i j := by
  unfold band before bN
  rw [place_val]
  dsimp only
  by_cases h : i < j
  · simp only [h, if_true, and_true]
    have := Fin.lt_def.1 h
    omega
  · simp only [h, if_false, and_false, not_false_iff, iff_true]
    have : ¬ i.val < j.val := fun h' => h (Fin.lt_def.2 h')
    omega

theorem band_range (N : Fin 32) (i : Fin 128) (t : Fin 256) (h : band N i t) : t ∈ Set.range (place i) := by
  unfold band at h
  by_cases ht : t.val < 128
  · refine ⟨⟨t.val, ht⟩, Fin.ext ?_⟩
    rw [place_val, if_pos (Fin.lt_def.2 h.1.2)]
  · refine ⟨⟨t.val - 128, by omega⟩, Fin.ext ?_⟩
    rw [place_val, if_neg (fun h' => by have := Fin.lt_def.1 h'; dsimp only at this; omega)]
    dsimp only; omega

/-- A sum over the 256 rows whose terms vanish outside the band is the sum over the places. -/
theorem sum_place (N : Fin 32) (i : Fin 128) (f : Fin 256 → EReal) (hf : ∀ t, ¬ band N i t → f t = 0) :
    ∑ t, f t = ∑ j, f (place i j) := by
  refine (Finset.sum_of_injOn (place i) (place_inj i).injOn (fun _ _ => Finset.mem_coe.2 (Finset.mem_univ _)) (fun t _ ht => hf t fun hb => ht ?_)
    (fun _ _ => rfl)).symm
  obtain ⟨j, hj⟩ := band_range N i t hb
  exact ⟨j, Finset.mem_coe.2 (Finset.mem_univ _), hj⟩

/-- So is the largest of the 256, where they are `−∞` outside the band. -/
theorem max_place (N : Fin 32) (i : Fin 128) (f : Fin 256 → EReal) (hf : ∀ t, ¬ band N i t → f t = ⊥) :
    Finset.univ.fold max ⊥ f = Finset.univ.fold max ⊥ fun j => f (place i j) := by
  apply le_antisymm
  · refine (Finset.fold_max_le _).2 ⟨bot_le, fun t _ => ?_⟩
    by_cases hb : band N i t
    · obtain ⟨j, hj⟩ := band_range N i t hb
      rw [← hj]
      exact (Finset.le_fold_max _).2 (Or.inr ⟨j, Finset.mem_univ _, le_rfl⟩)
    · rw [hf t hb]; exact bot_le
  · exact (Finset.fold_max_le _).2 ⟨bot_le, fun j _ => (Finset.le_fold_max _).2 (Or.inr ⟨place i j, Finset.mem_univ _, le_rfl⟩)⟩

/-! ### The reference over the places -/

variable (q : S4x4096x64x64.Idx → EReal) (k v : S4x4096x8x64.Idx → EReal) (g : S4x4096x8192.Idx → EReal) (s : S1x64.Idx → EReal)

/-- The reference's sum over its 256 rows is the softmax over the places. -/
theorem ref_soft (B i : Fin 128) (h e : Fin 8) (d : Fin 64) (a : Fin 128 → ℝ) (c : ℝ) (hc : s (ix2 0 (head h e)) = c)
    (ha : ∀ j, ¬ before B i j → dotR q k (bq B) (bN B) h e i (place i j) = a j) :
    ∑ t : Fin 256, window v (bq B) (bN B) h t d * Ideal.div (expR q k s (bq B) (bN B) h e i t) (denR q k s (bq B) (bN B) h e i)
      = soft (fun j => if before B i j then ⊥ else (a j : EReal)) (fun j => window v (bq B) (bN B) h (place i j) d) c := by
  have off : ∀ t, ¬ band (bN B) i t → scoreR q k (bq B) (bN B) h e i t = ⊥ := fun t ht => if_neg ht
  have on : (fun j => scoreR q k (bq B) (bN B) h e i (place i j)) = fun j => if before B i j then ⊥ else (a j : EReal) := by
    funext j
    by_cases hb : before B i j
    · rw [if_pos hb]; exact off _ fun h' => (band_place B i j).1 h' hb
    · rw [if_neg hb, ← ha j hb]; exact if_pos ((band_place B i j).2 hb)
  have hm : maxR q k s (bq B) (bN B) h e i = peak (fun j => if before B i j then ⊥ else (a j : EReal)) c := by
    unfold maxR peak
    rw [max_place (bN B) i _ off, on, hc]
  have hx : ∀ t, ¬ band (bN B) i t → expR q k s (bq B) (bN B) h e i t = 0 := fun t ht => by
    unfold expR
    rw [off t ht, EReal.bot_sub]; rfl
  have hd : denR q k s (bq B) (bN B) h e i = (∑ j, Ideal.exp ((if before B i j then ⊥ else (a j : EReal)) - peak (fun j => if before B i j then ⊥ else (a j : EReal)) c))
      + Ideal.exp (c - peak (fun j => if before B i j then ⊥ else (a j : EReal)) c) := by
    unfold denR
    rw [sum_place (bN B) i _ hx, hm, hc]
    congr 1
    refine Finset.sum_congr rfl fun j _ => ?_
    unfold expR
    rw [hm, ← congrFun on j]
  obtain ⟨D, hD, hDe⟩ := den_pos (fun j => before B i j) a c
  rw [sum_place (bN B) i _ fun t ht => by rw [hx t ht, hd, hDe, div_coe _ _ hD, zero_mul, mul_zero]]
  unfold soft
  refine Finset.sum_congr rfl fun j _ => ?_
  rw [hd]
  unfold expR
  rw [hm]
  have := congrFun on j
  dsimp only at this ⊢
  rw [this]

/-- At a place inside the sequence the reference's row is the kernel's. -/
theorem window_place (x : S4x4096x8x64.Idx → EReal) (B i j : Fin 128) (h : Fin 8) (d : Fin 64) (hb : ¬ before B i j) :
    window x (bq B) (bN B) h (place i j) d = x (ix4 (Run.sq (keyRow B i j)) (Run.ps (keyRow B i j)) h d) := by
  unfold window
  by_cases hij : i < j
  · have hv := place_val i j
    rw [if_pos hij] at hv
    have hN : ¬ B.val % 32 = 0 := fun h0 => hb ⟨h0, hij⟩
    rw [dif_pos (by omega), if_neg (show ¬ (bN B).val = 0 from hN)]
    congr 1
    refine congrArg₂ (ix4 · · _ _) (Fin.ext ?_) (Fin.ext ?_) <;> simp only [bq, bN, Run.sq, Run.ps, keyRow, hij, hN, ne_eq, not_false_iff, and_self, if_true] <;> omega
  · have hv := place_val i j
    rw [if_neg hij] at hv
    rw [dif_neg (by omega)]
    congr 1
    refine congrArg₂ (ix4 · · _ _) (Fin.ext ?_) (Fin.ext ?_) <;> simp only [bq, bN, Run.sq, Run.ps, keyRow, hij, false_and, if_false] <;> omega

theorem eighth : Ideal.ofBits FTy.f32 0x3E000000#32 = ((1 / 8 : ℝ) : EReal) := by
  simp [Ideal.ofBits, Ideal.ieee, -EReal.coe_mul]; norm_num

theorem two : Ideal.ofBits FTy.f32 0x40000000#32 = ((2 : ℝ) : EReal) := by
  simp [Ideal.ofBits, Ideal.ieee, -EReal.coe_mul]; norm_num

theorem sc_eq : Run.sc = (((1 / 8) * (Real.log 2)⁻¹ : ℝ) : EReal) := by
  have hl : Ideal.log ((2 : ℝ) : EReal) = ((Real.log 2 : ℝ) : EReal) := if_neg (by norm_num)
  unfold Run.sc
  rw [eighth, two, hl, div_coe _ _ log2_pos, EReal.coe_mul]

/-- The two sides at an element: the kernel's attention over prepared arrays, and the reference's result. -/
theorem attn_eq (Q : Fin 16384 → Fin 4096 → EReal) (K V : Fin 16384 → Fin 512 → EReal) (G : Fin 16384 → Fin 4096 → EReal) (S : Fin 64 → EReal)
    (hQ : ∀ r n d, Q r (lane n d) = q (ix4 (Run.sq r) (Run.ps r) n d) * Run.sc)
    (hK : ∀ r (n d : Fin 64), K r (klane n d) = k (ix4 (Run.sq r) (Run.ps r) (hg n) d))
    (hV : ∀ r (n d : Fin 64), V r (klane n d) = v (ix4 (Run.sq r) (Run.ps r) (hg n) d))
    (hG : ∀ r (l : Fin 4096), G r l = g (ix3 (Run.sq r) (Run.ps r) ⟨l.val, by omega⟩))
    (hS : ∀ n, S n = s (ix2 0 n))
    (qr : S4x4096x64x64.Idx → ℝ) (kr : S4x4096x8x64.Idx → ℝ) (sr : S1x64.Idx → ℝ)
    (fq : ∀ y, q y = qr y) (fk : ∀ y, k y = kr y) (fs : ∀ y, s y = sr y) (B i : Fin 128) (n d : Fin 64) :
    attn Q K V G S B i n d = Cert.ReferenceIdeal.Read.val_main_v72 (F := Ideal) q k v g s (ix2 (row B i) (lane n d)) := by
  have hn : head (hg n) (he n) = n := Fin.ext (by simp only [head, hg, he]; omega)
  rw [out_at q k v g s (bq B) (bN B) (hg n) (he n) i d (row B i) (lane n d)
    (by simp only [row, bq, bN]; omega) (by simp only [lane, hg, he]; omega)]
  have hrow : Run.sq (row B i) = bq B ∧ Run.ps (row B i) = pos (bN B) i := by
    constructor <;> apply Fin.ext <;> simp only [Run.sq, Run.ps, row, bq, bN, pos] <;> omega
  let a : Fin 128 → ℝ := fun j => (∑ e : Fin 64, kr (ix4 (Run.sq (keyRow B i j)) (Run.ps (keyRow B i j)) (hg n) e) * qr (ix4 (bq B) (pos (bN B) i) n e)) * (1 / 8)
  have ha : ∀ j, ¬ before B i j → dotR q k (bq B) (bN B) (hg n) (he n) i (place i j) = a j := fun j hb => by
    unfold dotR
    rw [eighth, hn, EReal.coe_mul, ← coe_sum]
    congr 1
    refine Finset.sum_congr rfl fun e _ => ?_
    rw [window_place k B i j (hg n) e hb, fk, fq, EReal.coe_mul]
  have hk : ∀ j, score Q K (row B i) (keyRow B i j) n = (a j : EReal) * (((Real.log 2)⁻¹ : ℝ) : EReal) := fun j => by
    unfold score
    rw [← EReal.coe_mul, mul_assoc, Finset.sum_mul, ← coe_sum]
    refine Finset.sum_congr rfl fun e _ => ?_
    rw [hK, hQ, sc_eq, hrow.1, hrow.2, fk, fq, ← EReal.coe_mul, ← EReal.coe_mul, mul_assoc]
  rw [ref_soft q k v s B i (hg n) (he n) d a (sr (ix2 0 n)) (by rw [hn, fs]) ha]
  unfold attn
  rw [hG, hrow.1, hrow.2, hS, fs]
  congr 1
  simp only [hk]
  rw [← mean_eq]
  refine mean_congr _ _ _ _ _ fun j hj => ?_
  have hb : ¬ before B i j := by simpa using hj
  rw [hV, window_place v B i j (hg n) d hb]

end Cert.Proof.Match
-- ==== Proof.Value.lean ====
/- Hand-written, untrusted: THE KERNEL'S RESULT IS THE REFERENCE'S, on memory whose queries, keys and sinks are finite. -/
module

public import proofs.«01_k».proof.Defs
public import proofs.«01_k».proof.Proof.Match
public import proofs.«01_k».proof.Proof.Gen.Pre_finite_scores
public import Idealize.ShloMosaic.Lib.ReduceAll

@[expose] public section

noncomputable section

namespace Cert.Proof.Value

open Cert.KernelIdeal Cert.KernelIdeal.Gen Cert.KernelIdeal.Value Cert.Proof.Run
open Idealize.ShloMosaic Idealize.ShloMosaic.TcCoe Idealize.SL.Sem

/-- An extended real whose absolute value is below `+∞` is a real. -/
theorem real_of_lt (x : EReal) (h : FloatOps.cmpf (F := Ideal) (φ := .f32) .olt (FloatOps.hostAbsf (F := Ideal) (φ := .f32) x) (FloatOps.ofBits .f32 0x7F800000#32) = 1#1) : x = x.toReal := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x with
  | bot => exact absurd h (by simp [Ideal.cmp])
  | top => exact absurd h (by simp [Ideal.cmp])
  | coe r => rfl

instance : Subsingleton Cert.Pre_finite_scores.S_.Idx := ⟨fun a b => funext fun i => i.elim0⟩

/-- What the precondition says of the arguments. -/
theorem finite (q : FVec Ideal Cert.Pre_finite_scores.S4x4096x64x64 .f32) (k v : FVec Ideal Cert.Pre_finite_scores.S4x4096x8x64 .f32)
    (g : FVec Ideal Cert.Pre_finite_scores.S4x4096x8192 .f32) (s : FVec Ideal Cert.Pre_finite_scores.S1x64 .f32) (j : Cert.Pre_finite_scores.S_.Idx)
    (h : Cert.Pre_finite_scores.fn (F := Ideal) q k v g s j = 1#1) :
    (∀ y, (q y : EReal) = ((q y : EReal).toReal : EReal)) ∧ (∀ y, (k y : EReal) = ((k y : EReal).toReal : EReal))
      ∧ (∀ y, (s y : EReal) = ((s y : EReal).toReal : EReal)) := by
  unfold Cert.Pre_finite_scores.fn at h
  dsimp only at h
  obtain ⟨h1, h2⟩ := IntOp.andi_eq_one.1 h
  obtain ⟨h0, h1⟩ := IntOp.andi_eq_one.1 h1
  exact ⟨fun y => real_of_lt _ (Host.reduce_andi_all _ _ _ _ _ h0 y), fun y => real_of_lt _ (Host.reduce_andi_all _ _ _ _ _ h1 y),
    fun y => real_of_lt _ (Host.reduce_andi_all _ _ _ _ _ h2 y)⟩

variable (m : (ℓ : Loc nD τ sig) → Buf (Elt Ideal) ℓ) (c : Dev nD)

theorem res_eq (fq : ∀ y, qA m c y = ((qA m c y).toReal : EReal)) (fk : ∀ y, kA m c y = ((kA m c y).toReal : EReal))
    (fs : ∀ y, sA m c y = ((sA m c y).toReal : EReal)) :
    res m c = Cert.ReferenceIdeal.Read.val_main_v72 (F := Ideal) (qA m c) (kA m c) (vA m c) (gA m c) (sA m c) := by
  funext y
  have hr : Kernel.row ⟨(y 0).val / 128, by have := (y 0).isLt; change (y 0).val < 16384 at this; omega⟩ ⟨(y 0).val % 128, by omega⟩ = y 0 :=
    Fin.ext (by simp only [Kernel.row]; omega)
  have hl : Kernel.lane ⟨(y 1).val / 64, by have := (y 1).isLt; change (y 1).val < 4096 at this; omega⟩ ⟨(y 1).val % 64, by omega⟩ = y 1 :=
    Fin.ext (by simp only [Kernel.lane]; omega)
  have h := Match.attn_eq (qA m c) (kA m c) (vA m c) (gA m c) (sA m c) (Qm m c) (Km m c) (Vm m c) (gm m c) (sm m c)
    (Qm_eq m c) (Km_eq m c) (Vm_eq m c) (gm_eq m c) (sm_eq m c) _ _ _ fq fk fs
    ⟨(y 0).val / 128, by have := (y 0).isLt; change (y 0).val < 16384 at this; omega⟩ ⟨(y 0).val % 128, by omega⟩
    ⟨(y 1).val / 64, by have := (y 1).isLt; change (y 1).val < 4096 at this; omega⟩ ⟨(y 1).val % 64, by omega⟩
  rw [hr, hl] at h
  exact Eq.trans rfl (h.trans (congrArg _ (eq_ix2 y).symm))

end Cert.Proof.Value
-- ==== Proof.OutBody.lean ====
/- Hand-written, untrusted: ONE RUN OF THE OUTPUT PROJECTION'S BODY on whole buffers, in each of its three cases: at the first
   row block it only multiplies, at the last extra step it only normalises, between them it does both. -/
module

public import proofs.«01_k».proof.Proof.Gen.OutIdeal.Frame
public import proofs.«01_k».proof.Proof.Gen.OutIdeal.Skeleton
public import Idealize.ShloMosaic.Lib.VecWindow

@[expose] public section

set_option maxRecDepth 16384

noncomputable section

namespace Cert.Proof.OutBody

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ### What the body reads and leaves -/

/-- The slot of the running sums that the step adds to, -/
def sumOld (i : grid0.Coords) (h : k0_cond2 i = 1#1) (s : Vec F S2x1024x128 .f32) : Vec F S1x1024x128 .f32 :=
  VecWindow.window s (k0_off4 i) S1x1024x128.size (k0_off4_inb i h)
/-- the slot of the row block before, -/
def sumPrev (i : grid0.Coords) (h : k0_cond1 i = 1#1) (s : Vec F S2x1024x128 .f32) : Vec F S1x1024x128 .f32 :=
  VecWindow.window s (k0_off1 i) S1x1024x128.size (k0_off1_inb i h)
/-- the columns of the row block before that this step normalises, -/
def yPrev (i : grid0.Coords) (h : k0_cond1 i = 1#1) (y : Vec F S1024x4096 .f32) : Vec F S1024x512 .f32 :=
  VecWindow.window y (k0_off2 i) S1024x512.size (k0_off2_inb i h)
/-- and the gains of those columns. -/
def gains (i : grid0.Coords) (h : k0_cond1 i = 1#1) (g : Vec F S1x4096 .f32) : Vec F S1x512 .f32 :=
  VecWindow.window g (k0_off3 i) S1x512.size (k0_off3_inb i h)

/-- The columns kept after the step, with the step's own columns put in. -/
def yNext (i : grid0.Coords) (a : Vec F S1024x4096 .bf16) (w : Vec F S4096x512 .bf16) (x : Vec F S1024x512 .f32)
    (y : Vec F S1024x4096 .f32) : Vec F S1024x4096 .f32 :=
  VecWindow.put (s := S1024x4096) y (k0_off5 i) S1024x512.size (k0_pay4 x a w)
/-- The running sums after the step, with the step's own put in. -/
def sNext (i : grid0.Coords) (h : k0_cond2 i = 1#1) (a : Vec F S1024x4096 .bf16) (w : Vec F S4096x512 .bf16)
    (x : Vec F S1024x512 .f32) (s : Vec F S2x1024x128 .f32) : Vec F S2x1024x128 .f32 :=
  VecWindow.put (s := S2x1024x128) s (k0_off4 i) S1x1024x128.size (k0_pay3 i x a w (sumOld i h s))

/-- What a store of a whole memref leaves in a buffer that held what `f` reads: the payload put there. -/
theorem putAt {sp : Space} {S : Shape} {e : EltTy} (v : View sig .tc sp S e) (f : v.ty.Contents (Elt F)) {u : Vec F S e}
    (hf : v.read (Elt F) f = u) (off size : Fin S.rank → ℕ) (inb : ∀ a, off a + size a ≤ S.size a)
    (z : (Rect.unit off size inb).shape.Idx → Elt F e) :
    v.read (Elt F) (v.writes (Elt F) f [⟨Rect.unit off size inb, z⟩]) = VecWindow.put u off size z := by
  rw [View.read_writes_cons_put v f inb z [] rfl, View.writes_nil, hf]

/-- A load of the whole of what `f` reads. -/
theorem readAll {sp : Space} {S : Shape} {e : EltTy} (v : View sig .tc sp S e) (f : v.ty.Contents (Elt F)) {u : Vec F S e}
    (hf : v.read (Elt F) f = u) {off : Fin S.rank → ℕ} (inb : ∀ a, off a + S.size a ≤ S.size a) :
    v.readAt (Elt F) (Rect.unit off S.size inb).toLoadRect f = u := (View.readAt_full v f inb).trans hf

/-- A load of a window of what `f` reads. -/
theorem readWin {sp : Space} {S : Shape} {e : EltTy} (v : View sig .tc sp S e) (f : v.ty.Contents (Elt F)) {u : Vec F S e}
    (hf : v.read (Elt F) f = u) (off size : Fin S.rank → ℕ) (inb : ∀ a, off a + size a ≤ S.size a) :
    v.readAt (Elt F) (Rect.unit off size inb).toLoadRect f = VecWindow.window u off size inb := by
  rw [View.readAt_unit v f inb rfl inb, hf]

variable (c : Dev nD) (i : grid0.Coords)
  (arg2 : Memref sig .tc .vmem S1024x4096 .bf16) (harg2 : arg2.IsWhole) (arg3 : Memref sig .tc .vmem S4096x512 .bf16) (harg3 : arg3.IsWhole)
  (arg4 : Memref sig .tc .vmem S1024x512 .f32) (harg4 : arg4.IsWhole) (arg5 : Memref sig .tc .vmem S1x4096 .f32) (harg5 : arg5.IsWhole)
  (arg6 : Memref sig .tc .vmem S1024x512 .f32) (harg6 : arg6.IsWhole) (arg7 : Memref sig .tc .vmem S1024x4096 .f32) (harg7 : arg7.IsWhole)
  (arg8 : Memref sig .tc .vmem S2x1024x128 .f32) (harg8 : arg8.IsWhole)
  (a : Vec F S1024x4096 .bf16) (w : Vec F S4096x512 .bf16) (x : Vec F S1024x512 .f32) (g : Vec F S1x4096 .f32)
  (y : Vec F S1024x4096 .f32) (s : Vec F S2x1024x128 .f32)

set_option maxHeartbeats 4000000 in
/-- The first row block: the product, its columns and its sums of squares kept; the result is not touched. -/
theorem runFirst (h1 : ¬k0_cond1 i = 1#1) (h2 : k0_cond2 i = 1#1) (E : Set ℕ) (K : PUnit → sProp 𝕄) :
    iprop(owns (c : Thread nD τ) arg2 fullShare a ∗ owns (c : Thread nD τ) arg3 fullShare w ∗ owns (c : Thread nD τ) arg4 fullShare x ∗ owns (c : Thread nD τ) arg7 fullShare y ∗ owns (c : Thread nD τ) arg8 fullShare s
        ∗ (iprop(owns (c : Thread nD τ) arg2 fullShare a ∗ owns (c : Thread nD τ) arg3 fullShare w ∗ owns (c : Thread nD τ) arg4 fullShare x ∗ owns (c : Thread nD τ) arg7 fullShare (yNext i a w x y) ∗ owns (c : Thread nD τ) arg8 fullShare (sNext i h2 a w x s)) -∗ K ⟨⟩))
      ⊢ wp frame (wpE (defs₀ (F := F)) Variants.none c none) E
          (cc0_out_proj_residual_norm i arg2 harg2 arg3 harg3 arg4 harg4 arg5 harg5 arg6 harg6 arg7 harg7 arg8 harg8) K := by
  simp only [cc0_out_proj_residual_norm_eq_skeleton]; unfold cc0_out_proj_residual_norm_skel
  unfold owns
  iintro ⟨⟨%f2, %hf2, H2⟩, ⟨%f3, %hf3, H3⟩, ⟨%f4, %hf4, H4⟩, ⟨%f7, %hf7, H7⟩, ⟨%f8, %hf8, H8⟩, Hk⟩
  sl_exec (disch := first | sl_exact h1 | sl_exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H7]
  · iexists _; isplitr
    swap; · iexact H7
    ipureintro
    rw [putAt arg7.view f7 hf7, readAll arg4.view f4 hf4, readAll arg2.view f2 hf2, readAll arg3.view f3 hf3]; rfl
  iexists _; isplitr
  swap; · iexact H8
  ipureintro
  rw [putAt arg8.view f8 hf8, readAll arg4.view f4 hf4, readAll arg2.view f2 hf2, readAll arg3.view f3 hf3, readWin arg8.view f8 hf8]; rfl

set_option maxHeartbeats 4000000 in
/-- A middle row block: the columns of the block before are normalised and written, then the product of this one is kept. -/
theorem runBoth (h1 : k0_cond1 i = 1#1) (h2 : k0_cond2 i = 1#1) (E : Set ℕ) (K : PUnit → sProp 𝕄) :
    iprop(owns (c : Thread nD τ) arg2 fullShare a ∗ owns (c : Thread nD τ) arg3 fullShare w ∗ owns (c : Thread nD τ) arg4 fullShare x ∗ owns (c : Thread nD τ) arg5 fullShare g ∗ owns (c : Thread nD τ) arg7 fullShare y ∗ owns (c : Thread nD τ) arg8 fullShare s ∗ (∃ r, owns (c : Thread nD τ) arg6 fullShare r)
        ∗ (iprop(owns (c : Thread nD τ) arg2 fullShare a ∗ owns (c : Thread nD τ) arg3 fullShare w ∗ owns (c : Thread nD τ) arg4 fullShare x ∗ owns (c : Thread nD τ) arg5 fullShare g ∗ owns (c : Thread nD τ) arg6 fullShare (k0_pay1 (sumPrev i h1 s) (yPrev i h1 y) (gains i h1 g)) ∗ owns (c : Thread nD τ) arg7 fullShare (yNext i a w x y) ∗ owns (c : Thread nD τ) arg8 fullShare (sNext i h2 a w x s)) -∗ K ⟨⟩))
      ⊢ wp frame (wpE (defs₀ (F := F)) Variants.none c none) E
          (cc0_out_proj_residual_norm i arg2 harg2 arg3 harg3 arg4 harg4 arg5 harg5 arg6 harg6 arg7 harg7 arg8 harg8) K := by
  simp only [cc0_out_proj_residual_norm_eq_skeleton]; unfold cc0_out_proj_residual_norm_skel
  unfold owns
  iintro ⟨⟨%f2, %hf2, H2⟩, ⟨%f3, %hf3, H3⟩, ⟨%f4, %hf4, H4⟩, ⟨%f5, %hf5, H5⟩, ⟨%f7, %hf7, H7⟩, ⟨%f8, %hf8, H8⟩, ⟨%r, %f6, %hf6, H6⟩, Hk⟩
  sl_exec (disch := first | sl_exact h1 | sl_exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    rw [View.read_writes_full, readWin arg8.view f8 hf8, readWin arg7.view f7 hf7, readWin arg5.view f5 hf5]; rfl
  isplitl [H7]
  · iexists _; isplitr
    swap; · iexact H7
    ipureintro
    rw [putAt arg7.view f7 hf7, readAll arg4.view f4 hf4, readAll arg2.view f2 hf2, readAll arg3.view f3 hf3]; rfl
  iexists _; isplitr
  swap; · iexact H8
  ipureintro
  rw [putAt arg8.view f8 hf8, readAll arg4.view f4 hf4, readAll arg2.view f2 hf2, readAll arg3.view f3 hf3, readWin arg8.view f8 hf8]; rfl

set_option maxHeartbeats 4000000 in
/-- The extra step after the last row block: its columns are normalised and written. -/
theorem runLast (h1 : k0_cond1 i = 1#1) (h2 : ¬k0_cond2 i = 1#1) (E : Set ℕ) (K : PUnit → sProp 𝕄) :
    iprop(owns (c : Thread nD τ) arg5 fullShare g ∗ owns (c : Thread nD τ) arg7 fullShare y ∗ owns (c : Thread nD τ) arg8 fullShare s ∗ (∃ r, owns (c : Thread nD τ) arg6 fullShare r)
        ∗ (iprop(owns (c : Thread nD τ) arg5 fullShare g ∗ owns (c : Thread nD τ) arg6 fullShare (k0_pay1 (sumPrev i h1 s) (yPrev i h1 y) (gains i h1 g)) ∗ owns (c : Thread nD τ) arg7 fullShare y ∗ owns (c : Thread nD τ) arg8 fullShare s) -∗ K ⟨⟩))
      ⊢ wp frame (wpE (defs₀ (F := F)) Variants.none c none) E
          (cc0_out_proj_residual_norm i arg2 harg2 arg3 harg3 arg4 harg4 arg5 harg5 arg6 harg6 arg7 harg7 arg8 harg8) K := by
  simp only [cc0_out_proj_residual_norm_eq_skeleton]; unfold cc0_out_proj_residual_norm_skel
  unfold owns
  iintro ⟨⟨%f5, %hf5, H5⟩, ⟨%f7, %hf7, H7⟩, ⟨%f8, %hf8, H8⟩, ⟨%r, %f6, %hf6, H6⟩, Hk⟩
  sl_exec (disch := first | sl_exact h1 | sl_exact h2)
  sl_step
  iapply Hk
  isplitl [H5]
  · iexists _; isplitr; · ipureintro; exact hf5
    iexact H5
  isplitl [H6]
  · iexists _; isplitr
    swap; · iexact H6
    ipureintro
    rw [View.read_writes_full, readWin arg8.view f8 hf8, readWin arg7.view f7 hf7, readWin arg5.view f5 hf5]; rfl
  isplitl [H7]
  · iexists _; isplitr; · ipureintro; exact hf7
    iexact H7
  iexists _; isplitr; · ipureintro; exact hf8
  iexact H8

end Cert.Proof.OutBody
-- ==== Proof.OutFrame.lean ====
/- Hand-written, untrusted: THE RUN OF THE OUTPUT PROJECTION, at any values. What its two scratch buffers hold between grid
   points (`Inv`): the columns of `y` of the last eight points, and the running sums of squares of the two row blocks at work.
   Then the body's obligation at every point, the run, and the frame. -/
module

public import proofs.«01_k».proof.Proof.OutBody
public import Idealize.ShloMosaic.Lib.Claim

@[expose] public section

set_option maxRecDepth 16384

noncomputable section

namespace Cert.Proof.OutFrame

open Cert.OutIdeal Cert.OutIdeal.Gen Cert.Proof.OutBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The grid in numbers -/

/-- A number as a grid point. -/
def pt (n : ℕ) : Fin cfg0.N := ⟨n % 136, Nat.mod_lt _ (by decide)⟩

theorem pt_val (t : Fin cfg0.N) : pt t.val = t :=
  Fin.ext (Nat.mod_eq_of_lt (lt_of_lt_of_eq t.isLt (show cfg0.N = 136 from N_0)))

theorem cond1_iff : ∀ t : Fin cfg0.N, k0_cond1 (grid0.coords t) = 1#1 ↔ 8 ≤ t.val := (by decide +kernel : ∀ t : Fin grid0.N, _)
theorem cond2_iff : ∀ t : Fin cfg0.N, k0_cond2 (grid0.coords t) = 1#1 ↔ t.val < 128 := (by decide +kernel : ∀ t : Fin grid0.N, _)
theorem off1_eq : ∀ t : Fin cfg0.N, 8 ≤ t.val → k0_off1 (grid0.coords t) = ![(t.val / 8 - 1) % 2, 0, 0] :=
  (by decide +kernel : ∀ t : Fin grid0.N, _)
theorem off4_eq : ∀ t : Fin cfg0.N, k0_off4 (grid0.coords t) = ![t.val / 8 % 2, 0, 0] := (by decide +kernel : ∀ t : Fin grid0.N, _)
theorem off2_eq : ∀ t : Fin cfg0.N, k0_off2 (grid0.coords t) = ![0, 512 * (t.val % 8)] := (by decide +kernel : ∀ t : Fin grid0.N, _)
theorem off3_eq : ∀ t : Fin cfg0.N, k0_off3 (grid0.coords t) = ![0, 512 * (t.val % 8)] := (by decide +kernel : ∀ t : Fin grid0.N, _)
theorem off5_eq : ∀ t : Fin cfg0.N, k0_off5 (grid0.coords t) = ![0, 512 * (t.val % 8)] := (by decide +kernel : ∀ t : Fin grid0.N, _)
theorem coord1 : ∀ t : Fin cfg0.N, ((grid0.coords t) 1).val = t.val % 8 := (by decide +kernel : ∀ t : Fin grid0.N, _)
theorem flush4 : ∀ t : Fin cfg0.N, (cfg0.win 4).flush t = decide (8 ≤ t.val) :=
  (by decide +kernel : ∀ t : Fin grid0.N, win0_4.flush t = decide (8 ≤ t.val))
theorem idle4 : ∀ t : Fin cfg0.N, cfg0.idle 4 (cfg0.grid.coords t) = decide (t.val < 8) :=
  (by decide +kernel : ∀ t : Fin grid0.N, idle0 4 (grid0.coords t) = decide (t.val < 8))

/-! ### Windows of the scratch buffers -/

theorem slot_inb (k : ℕ) : ∀ a : Fin 3, (![k % 2, 0, 0] : Fin 3 → ℕ) a + S1x1024x128.size a ≤ S2x1024x128.size a := fun a => by
  match a with
  | 0 => show k % 2 + 1 ≤ 2; omega
  | 1 => exact Nat.le_refl _
  | 2 => exact Nat.le_refl _
theorem cols_inb (k : ℕ) : ∀ a : Fin 2, (![0, 512 * (k % 8)] : Fin 2 → ℕ) a + S1024x512.size a ≤ S1024x4096.size a := fun a => by
  match a with
  | 0 => exact Nat.le_refl _
  | 1 => show 512 * (k % 8) + 512 ≤ 4096; omega
theorem gcols_inb (k : ℕ) : ∀ a : Fin 2, (![0, 512 * (k % 8)] : Fin 2 → ℕ) a + S1x512.size a ≤ S1x4096.size a := fun a => by
  match a with
  | 0 => exact Nat.le_refl _
  | 1 => show 512 * (k % 8) + 512 ≤ 4096; omega

/-- The slot of the running sums of a row block, -/
def slot (s : Vec F S2x1024x128 .f32) (k : ℕ) : Vec F S1x1024x128 .f32 :=
  VecWindow.window s ![k % 2, 0, 0] S1x1024x128.size (slot_inb k)
/-- the columns of a column block, -/
def cols (y : Vec F S1024x4096 .f32) (k : ℕ) : Vec F S1024x512 .f32 :=
  VecWindow.window y ![0, 512 * (k % 8)] S1024x512.size (cols_inb k)
/-- the gains of a column block. -/
def gcols (g : Vec F S1x4096 .f32) (k : ℕ) : Vec F S1x512 .f32 :=
  VecWindow.window g ![0, 512 * (k % 8)] S1x512.size (gcols_inb k)

theorem window_off {α : Type} {S : Shape} (x : S.Idx → α) {off off' : Fin S.rank → ℕ} (size : Fin S.rank → ℕ) (inb inb')
    (h : off = off') : VecWindow.window x off size inb = VecWindow.window x off' size inb' := by subst h; rfl

variable (t : Fin cfg0.N) (a : Vec F S1024x4096 .bf16) (w : Vec F S4096x512 .bf16) (x : Vec F S1024x512 .f32) (g : Vec F S1x4096 .f32)
  (y : Vec F S1024x4096 .f32) (s : Vec F S2x1024x128 .f32)

theorem sumOld_eq (h) : sumOld (grid0.coords t) h s = slot s (t.val / 8) := window_off s _ _ _ (off4_eq t)
theorem sumPrev_eq (h) : sumPrev (grid0.coords t) h s = slot s (t.val / 8 - 1) :=
  window_off s _ _ _ (off1_eq t ((cond1_iff t).mp h))
theorem yPrev_eq (h) : yPrev (grid0.coords t) h y = cols y t.val := window_off y _ _ _ (off2_eq t)
theorem gains_eq (h) : gains (grid0.coords t) h g = gcols g t.val := window_off g _ _ _ (off3_eq t)

/-- The columns just put are the product's, -/
theorem cols_yNext_same : cols (yNext (grid0.coords t) a w x y) t.val = k0_pay4 x a w := by
  unfold cols yNext
  rw [off5_eq t]
  exact VecWindow.window_put_same (s := S1024x4096) y _ _ _ _
/-- and the other columns are as before. -/
theorem cols_yNext_ne (k : ℕ) (hk : k % 8 ≠ t.val % 8) : cols (yNext (grid0.coords t) a w x y) k = cols y k := by
  unfold cols yNext
  rw [off5_eq t]
  refine VecWindow.window_put_of_disjoint (s := S1024x4096) y _ _ _ _ _ _ (1 : Fin 2) ?_
  show 512 * (k % 8) + 512 ≤ 512 * (t.val % 8) ∨ 512 * (t.val % 8) + 512 ≤ 512 * (k % 8)
  omega

theorem slot_sNext_same (h) : slot (sNext (grid0.coords t) h a w x s) (t.val / 8) = k0_pay3 (grid0.coords t) x a w (slot s (t.val / 8)) := by
  rw [← sumOld_eq t s h]
  unfold slot sNext
  rw [off4_eq t]
  exact VecWindow.window_put_same (s := S2x1024x128) s _ _ _ _
theorem slot_sNext_ne (h) (k : ℕ) (hk : k % 2 ≠ t.val / 8 % 2) : slot (sNext (grid0.coords t) h a w x s) k = slot s k := by
  unfold slot sNext
  rw [off4_eq t]
  refine VecWindow.window_put_of_disjoint (s := S2x1024x128) s _ _ _ _ _ _ (0 : Fin 3) ?_
  show k % 2 + 1 ≤ t.val / 8 % 2 ∨ t.val / 8 % 2 + 1 ≤ k % 2
  omega

/-- At the first column block the sums start afresh, whatever the slot held. -/
theorem pay3_fresh (h : t.val % 8 = 0) (u u' : Vec F S1x1024x128 .f32) :
    k0_pay3 (grid0.coords t) x a w u = k0_pay3 (grid0.coords t) x a w u' := by
  have e : ((grid0.coords t) 1).val = 0 := (coord1 t).trans h
  unfold k0_pay3
  simp only [e]
  rfl

/-! ### What the points compute -/

variable (m : (ℓ : Loc nD τ sig) → Buf (Elt F) ℓ) (ρ : Dev nD → PrngReg) (c : Dev nD)

/-- The columns of `y` that point `n` computes. -/
def Y (n : ℕ) : Vec F S1024x512 .f32 := k0_pay4 (iblk m c 2 (pt n)) (iblk m c 0 (pt n)) (iblk m c 1 (pt n))

/-- The running sums of squares after point `n`. -/
def ssc : ℕ → Vec F S1x1024x128 .f32
  | 0 => k0_pay3 (grid0.coords (pt 0)) (iblk m c 2 (pt 0)) (iblk m c 0 (pt 0)) (iblk m c 1 (pt 0)) (fun _ => FloatOps.ofBits .f32 0)
  | n + 1 => k0_pay3 (grid0.coords (pt (n + 1))) (iblk m c 2 (pt (n + 1))) (iblk m c 0 (pt (n + 1))) (iblk m c 1 (pt (n + 1))) (ssc n)

/-- What the scratch buffers hold before point `n`: the columns of the last eight points, the running sums of the row block
    at work, and the whole sums of the row block before. -/
structure Inv (n : ℕ) (y : Vec F S1024x4096 .f32) (s : Vec F S2x1024x128 .f32) : Prop where
  kept : ∀ k, k < n → n ≤ k + 8 → k < 128 → cols y k = Y m c k
  run : 1 ≤ n → n - 1 < 128 → slot s ((n - 1) / 8) = ssc m c (n - 1)
  whole : 8 ≤ n → n < 136 → slot s (n / 8 - 1) = ssc m c (8 * (n / 8) - 1)

theorem Inv.start : Inv m c 0 y s := ⟨fun _ h => absurd h (Nat.not_lt_zero _), fun h => absurd h (by omega), fun h => absurd h (by omega)⟩

variable {y s}

theorem slot_mod (s : Vec F S2x1024x128 .f32) {k k' : ℕ} (h : k % 2 = k' % 2) : slot s k = slot s k' :=
  window_off s _ _ _ (by rw [h])

/-- A point that multiplies keeps what the scratch buffers hold. -/
theorem Inv.mul (I : Inv m c t.val y s) (h) (ht : t.val < 128) :
    Inv m c (t.val + 1) (yNext (grid0.coords t) (iblk m c 0 t) (iblk m c 1 t) (iblk m c 2 t) y)
      (sNext (grid0.coords t) h (iblk m c 0 t) (iblk m c 1 t) (iblk m c 2 t) s) := by
  have hrun : slot (sNext (grid0.coords t) h (iblk m c 0 t) (iblk m c 1 t) (iblk m c 2 t) s) (t.val / 8) = ssc m c t.val := by
    rw [slot_sNext_same]
    rcases Nat.eq_zero_or_pos t.val with h0 | h0
    · have e : ssc m c t.val = _ := (congrArg (ssc m c) h0).trans (ssc.eq_1 m c)
      rw [e, ← h0, pt_val]
      exact pay3_fresh t _ _ _ (by omega) _ _
    · obtain ⟨n, hn⟩ : ∃ n, t.val = n + 1 := ⟨t.val - 1, by omega⟩
      have e : ssc m c t.val = _ := (congrArg (ssc m c) hn).trans (ssc.eq_2 m c n)
      rw [e, ← hn, pt_val]
      by_cases h8 : t.val % 8 = 0
      · exact pay3_fresh t _ _ _ h8 _ _
      · have := I.run (by omega) (by omega)
        rw [show (t.val - 1) / 8 = t.val / 8 by omega, show t.val - 1 = n by omega] at this
        rw [this]
  refine ⟨fun k hk hk8 hk128 => ?_, fun _ _ => ?_, fun h8 _ => ?_⟩
  · by_cases hkt : k = t.val
    · subst hkt
      rw [cols_yNext_same]
      unfold Y
      rw [pt_val]
    · rw [cols_yNext_ne t _ _ _ _ k (by omega)]
      exact I.kept k (by omega) (by omega) hk128
  · exact hrun
  · by_cases hm : (t.val + 1) % 8 = 0
    · rw [show (t.val + 1) / 8 - 1 = t.val / 8 by omega, show 8 * ((t.val + 1) / 8) - 1 = t.val by omega]
      exact hrun
    · rw [show (t.val + 1) / 8 = t.val / 8 by omega, slot_sNext_ne t _ _ _ _ h _ (by omega)]
      exact I.whole (by omega) (by omega)

/-- So does a point that does not. -/
theorem Inv.skip (I : Inv m c t.val y s) (ht : 128 ≤ t.val) : Inv m c (t.val + 1) y s := by
  refine ⟨fun k hk hk8 hk128 => I.kept k (by omega) (by omega) hk128, fun _ h => absurd h (by omega), fun h8 h => ?_⟩
  rw [show (t.val + 1) / 8 = t.val / 8 by omega]
  exact I.whole (by omega) (by omega)

/-- The block of the result that point `n` writes. -/
def res (n : ℕ) : Vec F S1024x512 .f32 := k0_pay1 (ssc m c (8 * (n / 8) - 1)) (Y m c (n - 8)) (gcols (iblk m c 3 (pt n)) n)

theorem Inv.writes (I : Inv m c t.val y s) (h) :
    k0_pay1 (sumPrev (grid0.coords t) h s) (yPrev (grid0.coords t) h y) (gains (grid0.coords t) h (iblk m c 3 t)) = res m c t.val := by
  have h8 := (cond1_iff t).mp h
  have hN : t.val < 136 := lt_of_lt_of_eq t.isLt (show cfg0.N = 136 from N_0)
  unfold res
  rw [sumPrev_eq, yPrev_eq, gains_eq, I.whole h8 hN, pt_val, ← I.kept (t.val - 8) (by omega) (by omega) (by omega)]
  congr 1
  exact window_off y _ _ _ (by rw [show (t.val - 8) % 8 = t.val % 8 by omega])

/-! ### The proof data -/

/-- The arrays as the region finds them; each input's buffer at its block, the output's at the block the point writes; between
    points the scratch buffers as `Inv` says, and the generator register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => res m c t.val
  Φ n := iprop(∃ y s, ⌜Inv m c n.val y s⌝ ∗ owns (c : Thread nD τ) (Memref.whole cc0_scratch0) fullShare y
    ∗ owns (c : Thread nD τ) (Memref.whole cc0_scratch1) fullShare s ∗ (∃ r, prngReg c r))
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = res m c t.val := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ### The body's obligation -/

/-- What the body leaves in the result's buffer: the point's block, or at the first eight points what it held. -/
def left4 (c : Dev nD) (t : Fin cfg0.N) : sProp 𝕄 :=
  match cfg0.idle 4 (cfg0.grid.coords t) with
  | true =>
    match (cfg0.win 4).flush t with
    | false => iprop(∃ d, owns (c : Thread nD τ) (st0_4 t) fullShare ((dats m 0 c).before 4 t d))
    | true => owns (c : Thread nD τ) (st0_4 t) fullShare ((dats m 0 c).after 4 t)
  | false => owns (c : Thread nD τ) (st0_4 t) fullShare ((dats m 0 c).after 4 t)

theorem left4_idle (h : t.val < 8) :
    left4 m c t = iprop(∃ d, owns (c : Thread nD τ) (st0_4 t) fullShare ((dats m 0 c).before 4 t d)) := by
  unfold left4
  rw [idle4, flush4, decide_eq_true h, decide_eq_false (by omega)]
theorem left4_live (h : 8 ≤ t.val) : left4 m c t = owns (c : Thread nD τ) (st0_4 t) fullShare (res m c t.val) := by
  unfold left4
  rw [idle4, decide_eq_false (by omega), after0_4]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ left4 m c t)

theorem Φ_eq (n : Fin (cfg0.N + 1)) : (dats m 0 c).Φ n = iprop(∃ y s, ⌜Inv m c n.val y s⌝
    ∗ owns (c : Thread nD τ) (Memref.whole cc0_scratch0) fullShare y
    ∗ owns (c : Thread nD τ) (Memref.whole cc0_scratch1) fullShare s ∗ (∃ r, prngReg c r)) := by dsimp only [dats]

set_option maxHeartbeats 1600000 in
/-- The body at any point: one of the three runs, and the invariant's step. -/
theorem sound_body :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, Φ_eq, Φ_eq]
  iintro ⟨⟨%y, %s, %I, HS0, HS1, Hg⟩, Ho, ⟨%d0, H0⟩, ⟨%d1, H1⟩, ⟨%d2, H2⟩, ⟨%d3, H3⟩, ⟨%d4, H4⟩⟩
  have I : Inv m c t.val y s := I
  by_cases h1 : k0_cond1 (grid0.coords t) = 1#1
  · rw [left4_live t m c ((cond1_iff t).mp h1)]
    by_cases h2 : k0_cond2 (grid0.coords t) = 1#1
    · iapply (runBoth c (grid0.coords t) _ _ _ _ _ _ _ _ _ _ _ _ _ _ (iblk m c 0 t) (iblk m c 1 t) (iblk m c 2 t) (iblk m c 3 t) y s h1 h2 Set.univ _)
      isplitl [H0]; · iexact H0
      isplitl [H1]; · iexact H1
      isplitl [H2]; · iexact H2
      isplitl [H3]; · iexact H3
      isplitl [HS0]; · iexact HS0
      isplitl [HS1]; · iexact HS1
      isplitl [H4]; · iexists _; iexact H4
      rw [I.writes t m c h1]
      iintro ⟨H0, H1, H2, H3, H4, HS0, HS1⟩
      isplitl [HS0 HS1 Hg]
      · iexists _, _
        isplitr; · ipureintro; exact I.mul t m c h2 ((cond2_iff t).mp h2)
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      iexact H4
    · iapply (runLast c (grid0.coords t) _ _ _ _ _ _ _ _ _ _ _ _ _ _ (iblk m c 3 t) y s h1 h2 Set.univ _)
      isplitl [H3]; · iexact H3
      isplitl [HS0]; · iexact HS0
      isplitl [HS1]; · iexact HS1
      isplitl [H4]; · iexists _; iexact H4
      rw [I.writes t m c h1]
      iintro ⟨H3, H4, HS0, HS1⟩
      isplitl [HS0 HS1 Hg]
      · iexists _, _
        isplitr; · ipureintro; exact I.skip t m c (not_lt.mp fun h => h2 ((cond2_iff t).mpr h))
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      iexact H4
  · have h8 : t.val < 8 := not_le.mp fun h => h1 ((cond1_iff t).mpr h)
    have h2 : k0_cond2 (grid0.coords t) = 1#1 := (cond2_iff t).mpr (by omega)
    rw [left4_idle t m c h8]
    iapply (runFirst c (grid0.coords t) _ _ _ _ _ _ _ _ _ _ _ _ _ _ (iblk m c 0 t) (iblk m c 1 t) (iblk m c 2 t) y s h1 h2 Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hg]
    · iexists _, _
      isplitr; · ipureintro; exact I.mul t m c h2 ((cond2_iff t).mp h2)
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    iexists _; iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body t m c) rfl .rfl fun _ => .rfl

/-! ### The run and the frame -/

theorem enters (c : Dev nD) : Pipeline.ΦA (cfgs 0).spec c ⊢ ((dats (F := F) m 0 c).Φ 0 : sProp 𝕄) := by
  rw [Φ_eq]
  unfold Pipeline.ΦA
  rw [show (cfgs 0).spec = spec0 from rfl, scopedRest0_eq]
  simp only [owns_whole]
  iintro ⟨⟨⟨%y, HS0⟩, ⟨%s, HS1⟩⟩, Hg⟩
  iexists y, s
  isplitr; · ipureintro; exact Inv.start y s m c
  isplitl [HS0]; · iexact HS0
  isplitl [HS1]; · iexact HS1
  iexact Hg

theorem leaves (c : Dev nD) : ((dats (F := F) m 0 c).Φ (Fin.last cfg0.N) : sProp 𝕄) ⊢ Pipeline.ΦA (cfgs 0).spec c := by
  rw [Φ_eq]
  unfold Pipeline.ΦA
  rw [show (cfgs 0).spec = spec0 from rfl, scopedRest0_eq]
  simp only [owns_whole]
  iintro ⟨%y, %s, -, HS0, HS1, Hg⟩
  isplitl [HS0 HS1]
  · isplitl [HS0]
    · iexists y; iexact HS0
    iexists s; iexact HS1
  iexact Hg

set_option backward.isDefEq.respectTransparency.types false in
/-- The launch: every array of the pipeline ends at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose)
    (hshare := fun c w => by unfold Dat.share; split <;> rfl)
    (howed := fun _ _ => rfl) (V := V m) (hmain := hmain m Variants.none) (hA := A_eq m) (hin := enters m) (hout := leaves m)
    (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- THE FRAME, at any values: the arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.OutFrame

end
-- ==== Proof.OutBits.lean ====
/- Hand-written, untrusted: THE PRINTED OUTPUT PROJECTION AND ITS IDEALIZATION ARE ONE TEXT (no rule rewrites it), so the frame
   proved at any values of the one is the frame of the other. -/
module

public import proofs.«01_k».proof.Proof.Gen.Out.Frame
public import proofs.«01_k».proof.Proof.OutFrame

@[expose] public section

noncomputable section

namespace Cert.Proof.OutBits

open Idealize.ShloMosaic Idealize.ShloMosaic.TcCoe Idealize.SL.Sem

variable {F : FTy → Type} [FloatOps F]

theorem defs₀_eq : @Cert.Out.defs₀ F _ Cert.Out.Gen.facts = @Cert.OutIdeal.defs₀ F _ Cert.OutIdeal.Gen.facts := by
  unfold Cert.Out.defs₀ Cert.OutIdeal.defs₀
  congr 1
  funext l x
  match l, x with
  | ⟨0, _⟩, (t, s) => rfl

theorem defs_eq : @Cert.Out.defs F _ Cert.Out.Gen.facts = @Cert.OutIdeal.defs F _ Cert.OutIdeal.Gen.facts := by
  unfold Cert.Out.defs Cert.OutIdeal.defs
  exact congrArg (Pipeline.defs _) defs₀_eq

theorem main_eq : @Cert.Out.main F _ Cert.Out.Gen.facts = @Cert.OutIdeal.main F _ Cert.OutIdeal.Gen.facts := rfl

open Cert.Out in
/-- The printed program's frame. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := OutFrame.frame (F := F) m ρ
  rw [← defs_eq, ← main_eq] at h
  exact h

end Cert.Proof.OutBits

end
-- ==== Proof.OutValue.lean ====
/- Hand-written, untrusted: THE OUTPUT PROJECTION'S RESULT ARRAY at ideal values, as one function of the arrays its call is
   given: the product plus the residual, over the root of its mean square, times the gain. -/
module

public import proofs.«01_k».proof.Proof.OutFrame
public import Idealize.ShloMosaic.Lib.Pipeline.Value
public import Idealize.ShloMosaic.Lib.Pointwise
public import Idealize.ShloMosaic.Lib.Tactic.WordOmega

@[expose] public section

set_option maxRecDepth 16384

noncomputable section

namespace Cert.Proof.OutValue

open Cert.OutIdeal Cert.OutIdeal.Gen Cert.Proof.OutFrame
open Idealize.ShloMosaic Idealize.ShloMosaic.TcCoe Idealize.SL.Sem

theorem zero32 : Ideal.ofBits FTy.f32 0#32 = 0 := by simp [Ideal.ofBits, Ideal.ieee]

/-! ### The payloads at an element -/

theorem pay4_at (x : Vec Ideal S1024x512 .f32) (a : Vec Ideal S1024x4096 .bf16) (w : Vec Ideal S4096x512 .bf16) (r : Fin 1024) (q : Fin 512) :
    (k0_pay4 x a w : S1024x512.Idx → EReal) (ix2 r q) = (x : S1024x512.Idx → EReal) (ix2 r q)
      + ∑ k : Fin 4096, (a : S1024x4096.Idx → EReal) (ix2 r k) * (w : S4096x512.Idx → EReal) (ix2 k q) := by
  unfold k0_pay4 k0_pay2
  pointwise []

/-- Four lanes of a column block's squares, 128 apart. -/
def quad (f : Fin 512 → EReal) (l : Fin 128) : EReal :=
  f ⟨l.val, by omega⟩ * f ⟨l.val, by omega⟩ + f ⟨128 + l.val, by omega⟩ * f ⟨128 + l.val, by omega⟩
    + f ⟨256 + l.val, by omega⟩ * f ⟨256 + l.val, by omega⟩ + f ⟨384 + l.val, by omega⟩ * f ⟨384 + l.val, by omega⟩

theorem pay3_at (i : grid0.Coords) (x : Vec Ideal S1024x512 .f32) (a : Vec Ideal S1024x4096 .bf16) (w : Vec Ideal S4096x512 .bf16)
    (u : Vec Ideal S1x1024x128 .f32) (r : Fin 1024) (l : Fin 128) :
    (k0_pay3 i x a w u : S1x1024x128.Idx → EReal) (ix3 0 r l)
      = if (i 1).val = 0 then quad (fun q => (k0_pay4 x a w : S1024x512.Idx → EReal) (ix2 r q)) l
        else (u : S1x1024x128.Idx → EReal) (ix3 0 r l) + quad (fun q => (k0_pay4 x a w : S1024x512.Idx → EReal) (ix2 r q)) l := by
  have hp : k0_pay4 x a w = k0_pay2 x a w := by
    unfold k0_pay4; exact shapeCast_self _ _
  rw [hp]
  unfold k0_pay3
  generalize k0_pay2 x a w = y
  pointwise []
  have hc : Scalar.cmpi CmpIPredicate.eq (BitVec.ofNat 32 (i 1).val) 0#32 = if (i 1).val = 0 then 1#1 else 0#1 := by
    have h8 : (i 1).val < 8 := (i 1).isLt
    generalize (i 1).val = n at h8
    split <;> word_omega
  rw [hc]
  by_cases h : (i 1).val = 0
  · rw [if_pos h, if_pos h]; rfl
  · rw [if_neg h, if_neg h]; rfl

theorem pay1_at (u : Vec Ideal S1x1024x128 .f32) (y : Vec Ideal S1024x512 .f32) (g : Vec Ideal S1x512 .f32) (r : Fin 1024) (q : Fin 512) :
    (k0_pay1 u y g : S1024x512.Idx → EReal) (ix2 r q) = (y : S1024x512.Idx → EReal) (ix2 r q)
      * Ideal.rsqrt ((∑ l : Fin 128, (u : S1x1024x128.Idx → EReal) (ix3 0 r l)) * Ideal.ofBits .f32 0x39800000#32 + Ideal.ofBits .f32 0x3727C5AC#32)
      * (g : S1x512.Idx → EReal) (ix2 0 q) := by
  unfold k0_pay1
  pointwise []

/-! ### Sums over the columns -/

/-- The running sum over the column blocks up to `j`, at a lane. -/
def part (f : Fin 4096 → EReal) (l : Fin 128) : (j : ℕ) → j < 8 → EReal
  | 0, _ => quad (fun q => f ⟨q.val, by omega⟩) l
  | j + 1, h => part f l j (by omega) + quad (fun q => f ⟨512 * (j + 1) + q.val, by omega⟩) l

/-- A sum over the columns is a sum over the slabs of 128 and their lanes. -/
theorem sum_lanes (g : Fin 4096 → EReal) : ∑ n, g n = ∑ l : Fin 128, ∑ p : Fin 32, g ⟨128 * p.val + l.val, by omega⟩ := by
  rw [Finset.sum_comm, ← Fintype.sum_prod_type']
  refine (Fintype.sum_equiv (finProdFinEquiv (m := 32) (n := 128)) _ _ fun x => ?_).symm
  exact congrArg g (Fin.ext (by show 128 * x.1.val + x.2.val = x.2.val + 128 * x.1.val; omega))

/-- The square at a lane of slab `p`. -/
def sqAt (f : Fin 4096 → EReal) (l : Fin 128) (p : ℕ) : EReal :=
  if h : p < 32 then f ⟨128 * p + l.val, by omega⟩ * f ⟨128 * p + l.val, by omega⟩ else 0

theorem sqAt_eq (f : Fin 4096 → EReal) (l : Fin 128) (p : ℕ) (n : Fin 4096) (hn : n.val = 128 * p + l.val) :
    f n * f n = sqAt f l p := by
  unfold sqAt
  have hp : p < 32 := by omega
  rw [dif_pos hp]
  have e : n = ⟨128 * p + l.val, by omega⟩ := Fin.ext hn
  exact congrArg₂ (· * ·) (congrArg f e) (congrArg f e)

theorem part_eq (f : Fin 4096 → EReal) (l : Fin 128) (j : ℕ) (h : j < 8) :
    part f l j h = ∑ p ∈ Finset.range (4 * (j + 1)), sqAt f l p := by
  induction j with
  | zero =>
    unfold part quad
    rw [sqAt_eq f l 0 _ (by dsimp only; try omega), sqAt_eq f l 1 _ (by dsimp only; try omega), sqAt_eq f l 2 _ (by dsimp only; try omega),
      sqAt_eq f l 3 _ (by dsimp only; try omega)]
    simp only [Nat.zero_add, Nat.mul_one, Finset.sum_range_succ, Finset.sum_range_zero, zero_add]
  | succ j ih =>
    unfold part quad
    rw [ih (by omega), sqAt_eq f l (4 * (j + 1)) _ (by dsimp only; omega), sqAt_eq f l (4 * (j + 1) + 1) _ (by dsimp only; omega),
      sqAt_eq f l (4 * (j + 1) + 2) _ (by dsimp only; omega), sqAt_eq f l (4 * (j + 1) + 3) _ (by dsimp only; omega)]
    rw [show 4 * (j + 1 + 1) = 4 * (j + 1) + 1 + 1 + 1 + 1 by omega]
    rw [Finset.sum_range_succ, Finset.sum_range_succ, Finset.sum_range_succ, Finset.sum_range_succ]
    simp only [add_assoc]

/-- The last running sums, over the lanes, are the sum of the squares of all columns. -/
theorem sum_part (f : Fin 4096 → EReal) : ∑ l : Fin 128, part f l 7 (by omega) = ∑ n, f n * f n := by
  rw [sum_lanes]
  refine Finset.sum_congr rfl fun l _ => ?_
  rw [part_eq, Finset.sum_range]
  exact Finset.sum_congr rfl fun p _ => (sqAt_eq f l p.val _ rfl).symm

variable (m : (ℓ : Loc nD τ sig) → Buf (Elt Ideal) ℓ) (ρ : Dev nD → PrngReg) (c : Dev nD)

/-! ### The arrays the call is given, and its blocks -/

def Am (r : Fin 16384) (k : Fin 4096) : EReal := (V m c main_v1 : S16384x4096.Idx → EReal) (ix2 r k)
def Wm (k n : Fin 4096) : EReal := (V m c main_v3 : S4096x4096.Idx → EReal) (ix2 k n)
def Xm (r : Fin 16384) (n : Fin 4096) : EReal := (V m c main_v4 : S16384x4096.Idx → EReal) (ix2 r n)
def Gm (n : Fin 4096) : EReal := (V m c main_v5 : S1x4096.Idx → EReal) (ix2 0 n)

/-- The residual plus the product. -/
def yv (r : Fin 16384) (n : Fin 4096) : EReal := Xm m c r n + ∑ k, Am m c r k * Wm m c k n

/-- The result, element by element. -/
def outv (r : Fin 16384) (n : Fin 4096) : EReal :=
  yv m c r n * Ideal.rsqrt ((∑ n', yv m c r n' * yv m c r n') * Ideal.ofBits .f32 0x39800000#32 + Ideal.ofBits .f32 0x3727C5AC#32) * Gm m c n

theorem idx0 : ∀ t : Fin cfg0.N, t.val < 128 → win0_0.index t (0 : Fin 2) = t.val / 8 ∧ win0_0.index t (1 : Fin 2) = 0 :=
  (by decide +kernel : ∀ t : Fin grid0.N, _)
theorem idx1 : ∀ t : Fin cfg0.N, t.val < 128 → win0_1.index t (0 : Fin 2) = 0 ∧ win0_1.index t (1 : Fin 2) = t.val % 8 :=
  (by decide +kernel : ∀ t : Fin grid0.N, _)
theorem idx2 : ∀ t : Fin cfg0.N, t.val < 128 → win0_2.index t (0 : Fin 2) = t.val / 8 ∧ win0_2.index t (1 : Fin 2) = t.val % 8 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, 8 ≤ t.val → win0_4.index t (0 : Fin 2) = t.val / 8 - 1 ∧ win0_4.index t (1 : Fin 2) = t.val % 8 :=
  (by decide +kernel : ∀ t : Fin grid0.N, _)

/-- A row of row block `n / 8`, a column of column block `n % 8`. -/
def row (n : ℕ) (hn : n < 128) (r : Fin 1024) : Fin 16384 := ⟨1024 * (n / 8) + r.val, by omega⟩
def col (n : ℕ) (q : Fin 512) : Fin 4096 := ⟨512 * (n % 8) + q.val, by omega⟩

theorem iblk0_at (t : Fin cfg0.N) (ht : t.val < 128) (r : Fin 1024) (k : Fin 4096) :
    (iblk m c 0 t : S1024x4096.Idx → EReal) (ix2 r k) = Am m c (row t.val ht r) k := by
  obtain ⟨e0, e1⟩ := idx0 t ht
  refine congrArg (V m c main_v1 : S16384x4096.Idx → EReal) (funext fun a => Fin.ext ?_)
  match a with
  | 0 => show win0_0.index t (0 : Fin 2) * 1024 + 1 * r.val = 1024 * (t.val / 8) + r.val; omega
  | 1 => show win0_0.index t (1 : Fin 2) * 4096 + 1 * k.val = k.val; omega

theorem iblk1_at (t : Fin cfg0.N) (ht : t.val < 128) (k : Fin 4096) (q : Fin 512) :
    (iblk m c 1 t : S4096x512.Idx → EReal) (ix2 k q) = Wm m c k (col t.val q) := by
  obtain ⟨e0, e1⟩ := idx1 t ht
  refine congrArg (V m c main_v3 : S4096x4096.Idx → EReal) (funext fun a => Fin.ext ?_)
  match a with
  | 0 => show win0_1.index t (0 : Fin 2) * 4096 + 1 * k.val = k.val; omega
  | 1 => show win0_1.index t (1 : Fin 2) * 512 + 1 * q.val = 512 * (t.val % 8) + q.val; omega

theorem iblk2_at (t : Fin cfg0.N) (ht : t.val < 128) (r : Fin 1024) (q : Fin 512) :
    (iblk m c 2 t : S1024x512.Idx → EReal) (ix2 r q) = Xm m c (row t.val ht r) (col t.val q) := by
  obtain ⟨e0, e1⟩ := idx2 t ht
  refine congrArg (V m c main_v4 : S16384x4096.Idx → EReal) (funext fun a => Fin.ext ?_)
  match a with
  | 0 => show win0_2.index t (0 : Fin 2) * 1024 + 1 * r.val = 1024 * (t.val / 8) + r.val; omega
  | 1 => show win0_2.index t (1 : Fin 2) * 512 + 1 * q.val = 512 * (t.val % 8) + q.val; omega

theorem gcols_at (t : Fin cfg0.N) (n : ℕ) (q : Fin 512) :
    (gcols (iblk m c 3 t) n : S1x512.Idx → EReal) (ix2 0 q) = Gm m c (col n q) := by
  obtain ⟨e0, e1⟩ := idx3 t
  refine congrArg (V m c main_v5 : S1x4096.Idx → EReal) (funext fun a => Fin.ext ?_)
  match a with
  | 0 => show win0_3.index t (0 : Fin 2) * 1 + 1 * (0 + 1 * 0) = 0; omega
  | 1 => show win0_3.index t (1 : Fin 2) * 4096 + 1 * (512 * (n % 8) + 1 * q.val) = 512 * (n % 8) + q.val; omega

/-! ### What the points compute -/

theorem pt_of (n : ℕ) (hn : n < 136) : (pt n).val = n := Nat.mod_eq_of_lt hn

theorem Y_at (n : ℕ) (hn : n < 128) (r : Fin 1024) (q : Fin 512) :
    (Y m c n : S1024x512.Idx → EReal) (ix2 r q) = yv m c (row n hn r) (col n q) := by
  have e := pt_of n (by omega)
  have ht : (pt n).val < 128 := by omega
  unfold Y yv
  refine (pay4_at _ _ _ r q).trans ?_
  rw [iblk2_at m c (pt n) ht]
  simp only [iblk0_at m c (pt n) ht, iblk1_at m c (pt n) ht, e]

/-- The running sums after a point are the sums of the squares of its row block's columns so far. -/
theorem ssc_at (n : ℕ) (hn : n < 128) (r : Fin 1024) (l : Fin 128) :
    (ssc m c n : S1x1024x128.Idx → EReal) (ix3 0 r l) = part (yv m c (row n hn r)) l (n % 8) (by omega) := by
  have step : ∀ (n : ℕ) (hn : n < 128) (u : Vec Ideal S1x1024x128 .f32),
      (k0_pay3 (grid0.coords (pt n)) (iblk m c 2 (pt n)) (iblk m c 0 (pt n)) (iblk m c 1 (pt n)) u : S1x1024x128.Idx → EReal) (ix3 0 r l)
        = if n % 8 = 0 then quad (fun q => yv m c (row n hn r) (col n q)) l
          else (u : S1x1024x128.Idx → EReal) (ix3 0 r l) + quad (fun q => yv m c (row n hn r) (col n q)) l := fun n hn u => by
    refine (pay3_at _ _ _ _ u r l).trans ?_
    rw [coord1, pt_of n (by omega)]
    simp only [← Y_at m c n hn]
    rfl
  induction n with
  | zero =>
    unfold ssc
    refine (step 0 hn _).trans ?_
    rw [if_pos rfl]
    unfold part
    congr 1
    funext q
    exact congrArg _ (Fin.ext (by simp only [col]; omega))
  | succ n ih =>
    unfold ssc
    refine (step (n + 1) hn _).trans ?_
    by_cases h : (n + 1) % 8 = 0
    · rw [if_pos h]
      simp only [h]
      unfold part
      congr 1
      funext q
      exact congrArg _ (Fin.ext (by simp only [col]; omega))
    · rw [if_neg h, ih (by omega)]
      have e : (n + 1) % 8 = n % 8 + 1 := by omega
      have er : row n (by omega) r = row (n + 1) hn r := Fin.ext (by simp only [row]; omega)
      simp only [e, er]
      conv_rhs => unfold part
      congr 2
      funext q
      exact congrArg _ (Fin.ext (by simp only [col]; omega))

theorem res_at (t : Fin cfg0.N) (h8 : 8 ≤ t.val) (r : Fin 1024) (q : Fin 512) :
    (res m c t.val : S1024x512.Idx → EReal) (ix2 r q)
      = outv m c (row (t.val - 8) (by have := lt_of_lt_of_eq t.isLt (show cfg0.N = 136 from N_0); omega) r) (col t.val q) := by
  have hN : t.val < 136 := lt_of_lt_of_eq t.isLt (show cfg0.N = 136 from N_0)
  unfold res outv
  refine (pay1_at _ _ _ r q).trans ?_
  rw [gcols_at, Y_at m c (t.val - 8) (by omega), ← sum_part]
  have ec : col (t.val - 8) q = col t.val q := Fin.ext (by simp only [col]; omega)
  rw [ec]
  have es : (∑ l : Fin 128, (ssc m c (8 * (t.val / 8) - 1) : S1x1024x128.Idx → EReal) (ix3 0 r l))
      = ∑ l : Fin 128, part (yv m c (row (t.val - 8) (by omega) r)) l 7 (by omega) := by
    refine Finset.sum_congr rfl fun l _ => ?_
    rw [ssc_at m c (8 * (t.val / 8) - 1) (by omega)]
    have e7 : (8 * (t.val / 8) - 1) % 8 = 7 := by omega
    have er : row (8 * (t.val / 8) - 1) (by omega) r = row (t.val - 8) (by omega) r := Fin.ext (by simp only [row]; omega)
    simp only [e7, er]
  rw [es]

/-! ### The result array -/

def resA : S16384x4096.Idx → EReal := fun y => outv m c (y 0) (y 1)

/-- What a point writes back is its block of the result. -/
theorem flushed_eq (t : Fin cfg0.N) (h8 : 8 ≤ t.val) :
    (dats m 0 c).flushed 4 t = ((cfg0.win 4).blk t).view.read (Elt Ideal) (resA m c) := by
  have hN : t.val < 136 := lt_of_lt_of_eq t.isLt (show cfg0.N = 136 from N_0)
  obtain ⟨e0, e1⟩ := idx4 t h8
  unfold Pipeline.Dat.flushed
  rw [after0_4]
  funext j
  have hj : j = (ix2 (⟨(j 0).val, (j 0).isLt⟩ : Fin 1024) (⟨(j 1).val, (j 1).isLt⟩ : Fin 512) : S1024x512.Idx) := by
    funext a
    match a with
    | 0 => rfl
    | 1 => rfl
  refine (congrArg (res m c t.val : S1024x512.Idx → EReal) hj).trans ((res_at m c t h8 _ _).trans ?_)
  show outv m c _ _ = outv m c _ _
  congr 1 <;> apply Fin.ext
  · show 1024 * ((t.val - 8) / 8) + (j 0).val = win0_4.index t (0 : Fin 2) * 1024 + 1 * (j 0).val; omega
  · show 512 * (t.val % 8) + (j 1).val = win0_4.index t (1 : Fin 2) * 512 + 1 * (j 1).val; omega

theorem covered (i : S16384x4096.Idx) :
    ∃ t : Fin cfg0.N, (cfg0.win 4).flush t = true ∧ i ∈ ((cfg0.win 4).blk t).view.set := by
  have h0 : (i 0).val < 16384 := (i 0).isLt
  have h1 : (i 1).val < 4096 := (i 1).isLt
  have ht : 8 * ((i 0).val / 1024 + 1) + (i 1).val / 512 < 136 := by omega
  have h8 : 8 ≤ 8 * ((i 0).val / 1024 + 1) + (i 1).val / 512 := by omega
  refine ⟨(⟨8 * ((i 0).val / 1024 + 1) + (i 1).val / 512, ht⟩ : Fin cfg0.N), (flush4 _).trans (decide_eq_true h8), ?_⟩
  obtain ⟨e0, e1⟩ := idx4 ⟨8 * ((i 0).val / 1024 + 1) + (i 1).val / 512, ht⟩ h8
  have h := ((cfg0.win 4).blk (⟨8 * ((i 0).val / 1024 + 1) + (i 1).val / 512, ht⟩ : Fin cfg0.N)).view.emb_mem_set
    (ix2 (⟨(i 0).val % 1024, by omega⟩ : Fin 1024) (⟨(i 1).val % 512, by omega⟩ : Fin 512) : S1024x512.Idx)
  refine Eq.mp (congrArg (· ∈ _) (?_ : _ = i)) h
  refine funext fun a => Fin.ext ?_
  match a with
  | 0 => show win0_4.index _ (0 : Fin 2) * 1024 + 1 * ((i 0).val % 1024) = (i 0).val; rw [e0]; dsimp only; omega
  | 1 => show win0_4.index _ (1 : Fin 2) * 512 + 1 * ((i 1).val % 512) = (i 1).val; rw [e1]; dsimp only; omega

/-- The result array after the run. -/
theorem final : (dats m 0 c).arrAt 4 cfg0.N = resA m c :=
  (dats m 0 c).arrAt_eq_of_cover 4 (resA m c) (fun t h => flushed_eq m c t (of_decide_eq_true ((flush4 t).symm.trans h))) covered

end Cert.Proof.OutValue

end
-- ==== Proof.OutMatch.lean ====
/- Hand-written, untrusted: THE OUTPUT PROJECTION'S RESULT IS ITS REFERENCE'S. The host's re-laying out of the arguments read at
   an element, the reference's operations read at an element, and the one difference between the two: the kernel multiplies the
   sum of squares by 1/4096 where the reference divides it by 4096. -/
module

public import proofs.«01_k».proof.Proof.OutValue
public import proofs.«01_k».proof.Proof.Gen.OutReferenceIdeal.Read
public import Idealize.ShloMosaic.Lib.Claim
public import Idealize.ShloMosaic.Lib.StableHlo.ReadAt

@[expose] public section

noncomputable section

namespace Cert.Proof.OutValue

open Cert.OutIdeal Cert.OutIdeal.Gen Cert.Proof.OutFrame
open Idealize.ShloMosaic Idealize.ShloMosaic.TcCoe Idealize.SL.Sem

/-! ### The reference at an element -/

section
open Cert.OutReferenceIdeal.Read
variable (a : S4x4096x4096.Idx → EReal) (w : S1x4096x4096.Idx → EReal) (x : S4x4096x4096.Idx → EReal) (g : S4096.Idx → EReal)

/-- The residual plus the product, at a sequence, a position and a column. -/
def yR (b : Fin 4) (s n : Fin 4096) : EReal := x (ix3 b s n) + ∑ k : Fin 4096, a (ix3 b s k) * w (ix3 0 k n)

theorem v2_at (b : Fin 4) (s n : Fin 4096) : val_main_v2 (F := Ideal) a w x (ix3 b s n) = yR a w x b s n := by
  unfold val_main_v2 val_main_v1 val_main_v0 yR
  pointwise []

theorem v4_at (b : Fin 4) (s : Fin 4096) : val_main_v4 (F := Ideal) a w x (ix2 b s) = ∑ n : Fin 4096, yR a w x b s n * yR a w x b s n := by
  have h := v2_at a w x b s
  unfold val_main_v4 val_main_v3 val_main_cst
  generalize val_main_v2 (F := Ideal) a w x = y at h ⊢
  pointwise []
  exact Finset.sum_congr rfl fun n _ => by rw [h]

theorem v16_at (r : Fin 16384) (n : Fin 4096) : val_main_v16 (F := Ideal) a w x g (ix2 r n)
    = yR a w x ⟨r.val / 4096, by omega⟩ ⟨r.val % 4096, by omega⟩ n
      * Ideal.rsqrt (Ideal.div (∑ n' : Fin 4096, yR a w x ⟨r.val / 4096, by omega⟩ ⟨r.val % 4096, by omega⟩ n'
          * yR a w x ⟨r.val / 4096, by omega⟩ ⟨r.val % 4096, by omega⟩ n') (Ideal.ofBits .f32 0x45800000#32) + Ideal.ofBits .f32 0x3727C5AC#32)
      * g (ix1 n) := by
  rw [← v4_at, ← v2_at]
  unfold val_main_v16 val_main_v15 val_main_v14 val_main_v13 val_main_v12 val_main_v11 val_main_v10 val_main_v9 val_main_v8 val_main_v7 val_main_v6 val_main_v5 val_main_cst_0 val_main_cst_1
  generalize val_main_v2 (F := Ideal) a w x = y
  generalize val_main_v4 (F := Ideal) a w x = z
  pointwise []
end

/-- Dividing by 4096 is multiplying by its inverse, whatever is divided. -/
theorem div_4096 (z : EReal) : Ideal.div z (Ideal.ofBits .f32 0x45800000#32) = z * Ideal.ofBits .f32 0x39800000#32 := by
  have h1 : Ideal.ofBits .f32 0x45800000#32 = ((4096 : ℝ) : EReal) := by
    simp [Ideal.ofBits, Ideal.ieee, -EReal.coe_mul]; norm_num
  have h2 : Ideal.ofBits .f32 0x39800000#32 = (((4096 : ℝ)⁻¹ : ℝ) : EReal) := by
    simp [Ideal.ofBits, Ideal.ieee, -EReal.coe_mul]; norm_num
  rw [h1, h2]
  unfold Ideal.div
  rw [if_neg (EReal.coe_ne_zero.2 (by norm_num)), ← EReal.coe_inv]

/-! ### The arrays the call is given, as the arguments -/

variable (m : (ℓ : Loc nD τ sig) → Buf (Elt Ideal) ℓ) (c : Dev nD)

/-- The arguments as the caller stores them: merged branches, weights, the layer's input, gains. -/
def aA : S4x4096x4096.Idx → EReal := m ((c : Thread nD τ).loc main_arg0)
def wA : S1x4096x4096.Idx → EReal := m ((c : Thread nD τ).loc main_arg1)
def xA : S4x4096x4096.Idx → EReal := m ((c : Thread nD τ).loc main_arg2)
def gA : S4096.Idx → EReal := m ((c : Thread nD τ).loc main_arg3)

theorem Am_eq (r : Fin 16384) (k : Fin 4096) : Am m c r k = aA m c (ix3 ⟨r.val / 4096, by omega⟩ ⟨r.val % 4096, by omega⟩ k) := by
  unfold Am
  entry_read
  pointwise []
  rfl
theorem Wm_eq (k n : Fin 4096) : Wm m c k n = wA m c (ix3 0 k n) := by
  unfold Wm
  entry_read
  pointwise []
  rfl
theorem Xm_eq (r : Fin 16384) (n : Fin 4096) : Xm m c r n = xA m c (ix3 ⟨r.val / 4096, by omega⟩ ⟨r.val % 4096, by omega⟩ n) := by
  unfold Xm
  entry_read
  pointwise []
  rfl
theorem Gm_eq (n : Fin 4096) : Gm m c n = gA m c (ix1 n) := by
  unfold Gm
  entry_read
  pointwise []
  rfl

theorem yv_eq (r : Fin 16384) (n : Fin 4096) :
    yv m c r n = yR (aA m c) (wA m c) (xA m c) ⟨r.val / 4096, by omega⟩ ⟨r.val % 4096, by omega⟩ n := by
  unfold yv yR
  simp only [Am_eq, Wm_eq, Xm_eq]

/-- The kernel's result is the reference's, element by element. -/
theorem outv_eq (r : Fin 16384) (n : Fin 4096) :
    outv m c r n = Cert.OutReferenceIdeal.Read.val_main_v16 (F := Ideal) (aA m c) (wA m c) (xA m c) (gA m c) (ix2 r n) := by
  rw [v16_at, div_4096]
  unfold outv
  simp only [yv_eq, Gm_eq]

theorem resA_eq : resA m c = Cert.OutReferenceIdeal.Read.val_main_v16 (F := Ideal) (aA m c) (wA m c) (xA m c) (gA m c) := by
  funext y
  have hy : y = ix2 (⟨(y 0).val, (y 0).isLt⟩ : Fin 16384) (⟨(y 1).val, (y 1).isLt⟩ : Fin 4096) := by
    funext a
    match a with
    | 0 => rfl
    | 1 => rfl
  exact Eq.trans rfl ((outv_eq m c _ _).trans (congrArg _ hy.symm))

end Cert.Proof.OutValue

end
-- ==== Proof.GatesBody.lean ====
/- Hand-written, untrusted: ONE RUN OF THE MERGE GATES' BODY, in each of its five cases. The weights come from HBM in chunks of 256
   rows by 1024 columns, 128 of them, 16 to a column block; point `t` starts chunk `t + 16` into one of two staging slots and waits
   for chunk `t + 15` in the other, rounds it, and puts it in its half of the rounded weights; the first point fetches the sixteen
   chunks of the first column block itself. Then the point multiplies its block of rows by its column block of the weights. -/
module

public import proofs.«01_k».proof.Proof.Gen.GatesIdeal.Launch
public import proofs.«01_k».proof.Proof.Gen.GatesIdeal.Skeleton
public import proofs.«01_k».proof.Proof.Gen.GatesIdeal.Points
public import Idealize.ShloMosaic.Lib.VecWindow
public import Idealize.ShloMosaic.Lib.Transfers
public import Idealize.ShloMosaic.Lib.Ring

@[expose] public section

set_option maxRecDepth 16384

noncomputable section

namespace Cert.Proof.GatesBody

open Cert.GatesIdeal Cert.GatesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

/-! ### Names for the chunks, the staging slots and their semaphores -/

/-- The weights, whole, in HBM; the rounded weights; the two staging slots. -/
abbrev wM : Memref sig .tc .hbm S4096x29696 .f32 := Memref.whole main_v2
abbrev wbM : Memref sig .tc .vmem S2x4096x1024 .bf16 := Memref.whole cc0_scratch0
abbrev bufM : Memref sig .tc .vmem S2x256x1024 .f32 := Memref.whole cc0_scratch1

abbrev grpOff (b : Fin 128) : Fin 2 → ℕ := ![256 * (b.val % 16), 21504 + 1024 * (b.val / 16)]
theorem grpOff_inb (b : Fin 128) : ∀ a, grpOff b a + S256x1024.size a ≤ S4096x29696.size a := fun a => by
  have := b.isLt
  match a with
  | 0 => show 256 * (b.val % 16) + 256 ≤ 4096; omega
  | 1 => show 21504 + 1024 * (b.val / 16) + 1024 ≤ 29696; omega
abbrev slotOff (s : Fin 2) : Fin 3 → ℕ := ![s.val, 0, 0]
theorem slotOff_inb (s : Fin 2) : ∀ a, slotOff s a + S1x256x1024.size a ≤ S2x256x1024.size a := fun a => by
  have := s.isLt
  match a with
  | 0 => show s.val + 1 ≤ 2; omega
  | 1 => exact Nat.le_refl _
  | 2 => exact Nat.le_refl _
abbrev semOff (s : Fin 2) : Fin 1 → ℕ := ![s.val]
theorem semOff_inb (s : Fin 2) : ∀ a, semOff s a + S1.size a ≤ S2.size a := fun a => by
  have := s.isLt
  match a with
  | 0 => show s.val + 1 ≤ 2; omega

/-- Chunk `b` of the weights, -/
def grp (b : Fin 128) : Memref sig .tc .hbm S256x1024 .f32 :=
  wM.slice (Rect.unit (s := S4096x29696) (grpOff b) S256x1024.size (grpOff_inb b)) (fun _ => rfl)
/-- staging slot `s`, -/
def rslot (s : Fin 2) : Memref sig .tc .vmem S256x1024 .f32 :=
  (bufM.slice (Rect.unit (s := S2x256x1024) (slotOff s) S1x256x1024.size (slotOff_inb s)) (fun _ => rfl)).squeeze S256x1024 squeezes_S1x256x1024_S256x1024
/-- and its semaphore. -/
def csm (s : Fin 2) : DmaSems sig S_ := (cc0_scratch2.slice (Rect.unit (s := S2) (semOff s) S1.size (semOff_inb s))).squeeze S_ squeezes_S1_S_

instance (s : Fin 2) : ClosedOff (slotOff s) := ⟨slotOff s, rfl⟩
instance (b : Fin 128) : ClosedOff (grpOff b) := ⟨grpOff b, rfl⟩

/-! ### The offsets in closed form -/

theorem cond1_iff : ∀ t : Fin grid0.N, k0_cond1 (grid0.coords t) = 1#1 ↔ t.val = 0 := by decide +kernel
theorem cond2_iff : ∀ t : Fin grid0.N, k0_cond2 (grid0.coords t) = 1#1 ↔ t.val < 112 := by decide +kernel
theorem cond3_iff : ∀ t : Fin grid0.N, k0_cond3 (grid0.coords t) = 1#1 ↔ t.val < 112 ∧ t.val % 16 ≠ 0 := by decide +kernel
theorem cond4_iff : ∀ t : Fin grid0.N, k0_cond4 (grid0.coords t) = 1#1 ↔ 0 < t.val ∧ t.val % 16 = 0 := by decide +kernel
theorem off1_eq : ∀ t : Fin grid0.N, k0_off1 (grid0.coords t) = semOff (Ring.sl 2 (t.val + 16)) := by decide +kernel
theorem off2_eq : ∀ t : Fin grid0.N, k0_off2 (grid0.coords t) = slotOff (Ring.sl 2 (t.val + 16)) := by decide +kernel
theorem off3_eq : ∀ t : Fin grid0.N, t.val < 112 → k0_off3 (grid0.coords t) = grpOff (Ring.bk 128 (t.val + 16)) := by decide +kernel
theorem off4_eq : ∀ t : Fin grid0.N, t.val % 16 ≠ 0 → k0_off4 (grid0.coords t) = semOff (Ring.sl 2 (t.val + 15)) := by decide +kernel
theorem off5_eq : ∀ t : Fin grid0.N, t.val % 16 ≠ 0 → k0_off5 (grid0.coords t) = slotOff (Ring.sl 2 (t.val + 15)) := by decide +kernel
theorem off6_eq : ∀ t : Fin grid0.N, t.val < 112 → t.val % 16 ≠ 0 → k0_off6 (grid0.coords t) = grpOff (Ring.bk 128 (t.val + 15)) := by decide +kernel
theorem off7_eq : ∀ t : Fin grid0.N, k0_off7 (grid0.coords t) = slotOff (Ring.sl 2 (t.val + 15)) := by decide +kernel
theorem off8_eq : ∀ t : Fin grid0.N, t.val < 112 → t.val % 16 ≠ 0 →
    k0_off8 (grid0.coords t) = ![(t.val + 15) / 16 % 2, 256 * ((t.val + 15) % 16), 0] := by decide +kernel
theorem off9_eq : ∀ t : Fin grid0.N, 0 < t.val → t.val % 16 = 0 → k0_off9 (grid0.coords t) = grpOff (Ring.bk 128 (t.val + 15)) := by decide +kernel
theorem off10_eq : ∀ t : Fin grid0.N, 0 < t.val → t.val % 16 = 0 →
    k0_off10 (grid0.coords t) = ![(t.val + 15) / 16 % 2, 256 * ((t.val + 15) % 16), 0] := by decide +kernel
theorem off11_eq : ∀ t : Fin grid0.N, k0_off11 (grid0.coords t) = ![t.val / 16 % 2, 0, 0] := by decide +kernel
theorem sl_one : ∀ t : Fin grid0.N, t.val % 16 = 0 → Ring.sl 2 (t.val + 15) = 1 := by decide +kernel
theorem sl_zero : ∀ t : Fin grid0.N, t.val % 16 = 0 → Ring.sl 2 (t.val + 16) = 0 := by decide +kernel

/-! ### The body's slices under those names -/

private theorem csm_congr {off : Fin 1 → ℕ} {s : Fin 2} (e : off = semOff s) (hh) :
    (cc0_scratch2.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → ℕ} {s : Fin 2} (e : off = slotOff s) (hh hs) :
    (bufM.slice (Rect.unit (s := S2x256x1024) off S1x256x1024.size hh) hs).squeeze S256x1024 squeezes_S1x256x1024_S256x1024 = rslot s :=
  congrArg (fun M : Memref sig .tc .vmem S1x256x1024 .f32 => M.squeeze S256x1024 squeezes_S1x256x1024_S256x1024) (Memref.slice_unit_congr _ e _ _ _ _)
private theorem grp_congr {off : Fin 2 → ℕ} {b : Fin 128} (e : off = grpOff b) (hh hs) :
    wM.slice (Rect.unit (s := S4096x29696) off S256x1024.size hh) hs = grp b := Memref.slice_unit_congr _ e _ _ _ fun _ => rfl

@[sl_canon] theorem semL0 (hh) : (cc0_scratch2.slice (Rect.unit (s := S2) ![0] S1.size hh)).squeeze S_ squeezes_S1_S_ = csm 0 := csm_congr (by decide) _
@[sl_canon] theorem semL1 (hh) : (cc0_scratch2.slice (Rect.unit (s := S2) ![1] S1.size hh)).squeeze S_ squeezes_S1_S_ = csm 1 := csm_congr (by decide) _
@[sl_canon] theorem slotL0 (hh hs) : (bufM.slice (Rect.unit (s := S2x256x1024) ![0, 0, 0] S1x256x1024.size hh) hs).squeeze S256x1024 squeezes_S1x256x1024_S256x1024 = rslot 0 := rslot_congr (by decide) _ _
@[sl_canon] theorem slotL1 (hh hs) : (bufM.slice (Rect.unit (s := S2x256x1024) ![1, 0, 0] S1x256x1024.size hh) hs).squeeze S256x1024 squeezes_S1x256x1024_S256x1024 = rslot 1 := rslot_congr (by decide) _ _
@[sl_canon] theorem grpL0 (hh hs) : wM.slice (Rect.unit (s := S4096x29696) ![0, 21504] S256x1024.size hh) hs = grp 0 := grp_congr (by decide) _ _
@[sl_canon] theorem grpL1 (hh hs) : wM.slice (Rect.unit (s := S4096x29696) ![256, 21504] S256x1024.size hh) hs = grp 1 := grp_congr (by decide) _ _
@[sl_canon] theorem grpL2 (hh hs) : wM.slice (Rect.unit (s := S4096x29696) ![512, 21504] S256x1024.size hh) hs = grp 2 := grp_congr (by decide) _ _
@[sl_canon] theorem grpL3 (hh hs) : wM.slice (Rect.unit (s := S4096x29696) ![768, 21504] S256x1024.size hh) hs = grp 3 := grp_congr (by decide) _ _
@[sl_canon] theorem grpL4 (hh hs) : wM.slice (Rect.unit (s := S4096x29696) ![1024, 21504] S256x1024.size hh) hs = grp 4 := grp_congr (by decide) _ _
@[sl_canon] theorem grpL5 (hh hs) : wM.slice (Rect.unit (s := S4096x29696) ![1280, 21504] S256x1024.size hh) hs = grp 5 := grp_congr (by decide) _ _
@[sl_canon] theorem grpL6 (hh hs) : wM.slice (Rect.unit (s := S4096x29696) ![1536, 21504] S256x1024.size hh) hs = grp 6 := grp_congr (by decide) _ _
@[sl_canon] theorem grpL7 (hh hs) : wM.slice (Rect.unit (s := S4096x29696) ![1792, 21504] S256x1024.size hh) hs = grp 7 := grp_congr (by decide) _ _
@[sl_canon] theorem grpL8 (hh hs) : wM.slice (Rect.unit (s := S4096x29696) ![2048, 21504] S256x1024.size hh) hs = grp 8 := grp_congr (by decide) _ _
@[sl_canon] theorem grpL9 (hh hs) : wM.slice (Rect.unit (s := S4096x29696) ![2304, 21504] S256x1024.size hh) hs = grp 9 := grp_congr (by decide) _ _
@[sl_canon] theorem grpL10 (hh hs) : wM.slice (Rect.unit (s := S4096x29696) ![2560, 21504] S256x1024.size hh) hs = grp 10 := grp_congr (by decide) _ _
@[sl_canon] theorem grpL11 (hh hs) : wM.slice (Rect.unit (s := S4096x29696) ![2816, 21504] S256x1024.size hh) hs = grp 11 := grp_congr (by decide) _ _
@[sl_canon] theorem grpL12 (hh hs) : wM.slice (Rect.unit (s := S4096x29696) ![3072, 21504] S256x1024.size hh) hs = grp 12 := grp_congr (by decide) _ _
@[sl_canon] theorem grpL13 (hh hs) : wM.slice (Rect.unit (s := S4096x29696) ![3328, 21504] S256x1024.size hh) hs = grp 13 := grp_congr (by decide) _ _
@[sl_canon] theorem grpL14 (hh hs) : wM.slice (Rect.unit (s := S4096x29696) ![3584, 21504] S256x1024.size hh) hs = grp 14 := grp_congr (by decide) _ _
@[sl_canon] theorem grpL15 (hh hs) : wM.slice (Rect.unit (s := S4096x29696) ![3840, 21504] S256x1024.size hh) hs = grp 15 := grp_congr (by decide) _ _

section Canon
variable (t : Fin grid0.N)
@[sl_canon] theorem semI (hh) : (cc0_scratch2.slice (Rect.unit (s := S2) (k0_off1 (grid0.coords t)) S1.size hh)).squeeze S_ squeezes_S1_S_ = csm (Ring.sl 2 (t.val + 16)) := csm_congr (off1_eq t) _
@[sl_canon] theorem slotI (hh hs) : (bufM.slice (Rect.unit (s := S2x256x1024) (k0_off2 (grid0.coords t)) S1x256x1024.size hh) hs).squeeze S256x1024 squeezes_S1x256x1024_S256x1024 = rslot (Ring.sl 2 (t.val + 16)) := rslot_congr (off2_eq t) _ _
@[sl_canon] theorem grpI (ht : t.val < 112) (hh hs) : wM.slice (Rect.unit (s := S4096x29696) (k0_off3 (grid0.coords t)) S256x1024.size hh) hs = grp (Ring.bk 128 (t.val + 16)) := grp_congr (off3_eq t ht) _ _
@[sl_canon] theorem semW (hm : t.val % 16 ≠ 0) (hh) : (cc0_scratch2.slice (Rect.unit (s := S2) (k0_off4 (grid0.coords t)) S1.size hh)).squeeze S_ squeezes_S1_S_ = csm (Ring.sl 2 (t.val + 15)) := csm_congr (off4_eq t hm) _
@[sl_canon] theorem slotW (hm : t.val % 16 ≠ 0) (hh hs) : (bufM.slice (Rect.unit (s := S2x256x1024) (k0_off5 (grid0.coords t)) S1x256x1024.size hh) hs).squeeze S256x1024 squeezes_S1x256x1024_S256x1024 = rslot (Ring.sl 2 (t.val + 15)) := rslot_congr (off5_eq t hm) _ _
@[sl_canon] theorem grpW (ht : t.val < 112) (hm : t.val % 16 ≠ 0) (hh hs) : wM.slice (Rect.unit (s := S4096x29696) (k0_off6 (grid0.coords t)) S256x1024.size hh) hs = grp (Ring.bk 128 (t.val + 15)) := grp_congr (off6_eq t ht hm) _ _
@[sl_canon] theorem grpE (h0 : 0 < t.val) (hm : t.val % 16 = 0) (hh hs) : wM.slice (Rect.unit (s := S4096x29696) (k0_off9 (grid0.coords t)) S256x1024.size hh) hs = grp (Ring.bk 128 (t.val + 15)) := grp_congr (off9_eq t h0 hm) _ _
instance : ClosedOff (k0_off7 (grid0.coords t)) := ⟨_, off7_eq t⟩
end Canon

/-! ### The pieces: a chunk at home, a slot, its semaphore, a slot in flight -/

section Pieces
variable (c : Dev nD) (q : PosShare TreeShare) (W : Buf (Elt F) (wM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
abbrev homeP (b : Fin 128) : sProp 𝕄 := (grp b).view.loc (c : Thread nD τ) ↦[(grp b).view.set]{q} W
/-- Chunk `b` as a transfer carries it. -/
abbrev payload (b : Fin 128) : S256x1024.Idx → Elt F .f32 := ReadAs.same.apply ((grp b).view.read (Elt F) W)
abbrev landed (s : Fin 2) (b : Fin 128) (f : Buf (Elt F) ((rslot s).view.loc (c : Thread nD τ))) : Buf (Elt F) ((rslot s).view.loc (c : Thread nD τ)) :=
  (rslot s).view.writes (Elt F) f [⟨Rect.whole S256x1024, payload c W b⟩]
/-- Slot `s` with chunk `b` on its way into it. -/
abbrev flightP (s : Fin 2) (b : Fin 128) (f : Buf (Elt F) ((rslot s).view.loc (c : Thread nD τ))) : sProp 𝕄 :=
  Transfers.Flight countersEmb (c : Thread nD τ) (SemLoc.dma (csm s).sem) () 32768 iprop(slotP c s (landed c W s b f) ∗ homeP c q W b)
end Pieces

/-! ### What the body computes -/

/-- Where chunk `g` goes in the rounded weights. -/
abbrev wbOff (g : ℕ) : Fin 3 → ℕ := ![g / 16 % 2, 256 * (g % 16), 0]
/-- Chunk `b`, rounded. -/
def chunk (c : Dev nD) (W : Buf (Elt F) (wM.view.loc (c : Thread nD τ))) (b : Fin 128) : Vec F S1x256x1024 .bf16 :=
  shapeCast S1x256x1024 (truncf .bf16 (payload c W b) bitsLt_bf16_f32) shapeCasts_S256x1024_S1x256x1024
/-- The rounded weights with chunk `g` put in. -/
def putChunk (c : Dev nD) (W : Buf (Elt F) (wM.view.loc (c : Thread nD τ))) (g : ℕ) (wb : Vec F S2x4096x1024 .bf16) : Vec F S2x4096x1024 .bf16 :=
  VecWindow.put (s := S2x4096x1024) wb (wbOff g) S1x256x1024.size (chunk c W (Ring.bk 128 g))

/-- A load of a slot just filled is the chunk that filled it. -/
theorem slotRead (c : Dev nD) (s : Fin 2) {off : Fin 3 → ℕ} (h : off = slotOff s) (inb : ∀ a, off a + S1x256x1024.size a ≤ S2x256x1024.size a)
    (f : Buf (Elt F) ((rslot s).view.loc (c : Thread nD τ))) (p : S256x1024.Idx → Elt F .f32) :
    shapeCast S256x1024 (bufM.view.readAt (Elt F) (Rect.unit (s := S2x256x1024) off S1x256x1024.size inb).toLoadRect
      ((rslot s).view.writes (Elt F) f [⟨Rect.whole S256x1024, p⟩])) shapeCasts_S1x256x1024_S256x1024 = p := by
  subst h
  exact View.read_writes_whole (rslot s).view f p

/-- The half of the product's sigmoid that the body computes: `½ tanh(½ x) + ½`, rounded. -/
def gate (x : Vec F S1024x1024 .f32) : Vec F S1024x1024 .bf16 :=
  truncf .bf16 (addf (mulf (broadcast S1024x1024 (Scalar.ofBits .f32 0x3F000000#32)) (tanh (mulf (broadcast S1024x1024 (Scalar.ofBits .f32 0x3F000000#32)) x)))
    (broadcast S1024x1024 (Scalar.ofBits .f32 0x3F000000#32))) bitsLt_bf16_f32

/-- Windows of one vector put over any other, where they reach, leave that vector. -/
theorem put_window {α : Type} {S : Shape} (G o : S.Idx → α) (off size : Fin S.rank → ℕ) (inb) (y : S.Idx) :
    VecWindow.put o off size (VecWindow.window G off size inb) y
      = if ∀ a, off a ≤ (y a).val ∧ (y a).val < off a + size a then G y else o y := by
  unfold VecWindow.put
  by_cases h : ∀ a, off a ≤ (y a).val ∧ (y a).val < off a + size a
  · rw [dif_pos h, if_pos h]
    unfold VecWindow.window
    congr 1
    funext a
    refine Fin.ext ?_
    have e : ((Rect.unit off size inb).emb (Rect.unitLocal (s := S) (off := off) (size := size) y h) a).val = off a + 1 * ((y a).val - off a) := rfl
    have := h a
    omega
  · rw [dif_neg h, if_neg h]

variable (c : Dev nD) (t : Fin grid0.N) (q q' : PosShare TreeShare) (W : Buf (Elt F) (wM.view.loc (c : Thread nD τ)))
  (arg2 : Memref sig .tc .vmem S1024x4096 .bf16) (harg2 : arg2.IsWhole) (arg4 : Memref sig .tc .vmem S1024x1024 .bf16) (harg4 : arg4.IsWhole)
  (arg5 : Memref sig .tc .vmem S2x4096x1024 .bf16) (harg5 : arg5.IsWhole)
  (a : Vec F S1024x4096 .bf16) (wb : Vec F S2x4096x1024 .bf16) (o : Vec F S1024x1024 .bf16)

/-- The body at point `t`: -/
abbrev bodyG : Prog (TpuEff nD τ sig (Elt F) Λ₀ .tc) PUnit :=
  cc0_in_proj_sigmoid (grid0.coords t) arg2 harg2 wM (Memref.isWhole_whole _) arg4 harg4 arg5 harg5 bufM (Memref.isWhole_whole _) cc0_scratch2
/-- its first part, which fetches weights and reads the point's block of rows, -/
abbrev headG : Prog (TpuEff nD τ sig (Elt F) Λ₀ .tc) (FVec F S1024x4096 .bf16) :=
  k0_part12 (grid0.coords t) arg2 harg2 wM (Memref.isWhole_whole _) arg4 harg4 arg5 harg5 bufM (Memref.isWhole_whole _) cc0_scratch2
/-- and the rest of it, which multiplies and writes. -/
def tailG (v31 : FVec F S1024x4096 .bf16) : Prog (TpuEff nD τ sig (Elt F) Λ₀ .tc) PUnit := do
  let ⟨v35, v66⟩ : Σ' (v35 : FVec F S1024x1024 .f32), FVec F S1024x128 .bf16 ← k0_part13 (grid0.coords t) arg2 harg2 wM (Memref.isWhole_whole _) arg4 harg4 arg5 harg5 bufM (Memref.isWhole_whole _) cc0_scratch2 v31
  let v99 : FVec F S1024x128 .bf16 ← k0_part14 (grid0.coords t) arg2 harg2 wM (Memref.isWhole_whole _) arg4 harg4 arg5 harg5 bufM (Memref.isWhole_whole _) cc0_scratch2 v35 v66
  let v100 : Memref sig .tc .vmem S1024x1024 .bf16 := arg4.slice (Rect.unit (s := S1024x1024) ![0, 0] S1024x1024.size inb_S1024x1024_S1024x1024_0_0) (fun _ => rfl)
  let v101 : Vec F S1024x128 .bf16 ← Prog.lift (.load v100 (Rect.unit (s := S1024x1024) ![0, 640] S1024x128.size inb_S1024x1024_S1024x128_0_640).toLoadRect (View.loadsAt_vmem h_S1024x128))
  Prog.lift (.store arg4 (Rect.unit (s := S1024x1024) ![0, 640] S1024x128.size inb_S1024x1024_S1024x128_0_640) (k0_pay1 v99) Finset.univ (View.stores_vmem h_S1024x128 (harg4.storeExact_slice rfl _ packedbf16_S1024x1024_S1024x128_0_640) (fun _ => rfl)) (.inl rfl))
  let v111 : Memref sig .tc .vmem S1024x1024 .bf16 := arg4.slice (Rect.unit (s := S1024x1024) ![0, 0] S1024x1024.size inb_S1024x1024_S1024x1024_0_0) (fun _ => rfl)
  let v112 : Vec F S1024x128 .bf16 ← Prog.lift (.load v111 (Rect.unit (s := S1024x1024) ![0, 768] S1024x128.size inb_S1024x1024_S1024x128_0_768).toLoadRect (View.loadsAt_vmem h_S1024x128))
  Prog.lift (.store arg4 (Rect.unit (s := S1024x1024) ![0, 768] S1024x128.size inb_S1024x1024_S1024x128_0_768) (k0_pay2 v35) Finset.univ (View.stores_vmem h_S1024x128 (harg4.storeExact_slice rfl _ packedbf16_S1024x1024_S1024x128_0_768) (fun _ => rfl)) (.inl rfl))
  let v122 : Memref sig .tc .vmem S1024x1024 .bf16 := arg4.slice (Rect.unit (s := S1024x1024) ![0, 0] S1024x1024.size inb_S1024x1024_S1024x1024_0_0) (fun _ => rfl)
  let v123 : Vec F S1024x128 .bf16 ← Prog.lift (.load v122 (Rect.unit (s := S1024x1024) ![0, 896] S1024x128.size inb_S1024x1024_S1024x128_0_896).toLoadRect (View.loadsAt_vmem h_S1024x128))
  Prog.lift (.store arg4 (Rect.unit (s := S1024x1024) ![0, 896] S1024x128.size inb_S1024x1024_S1024x128_0_896) (k0_pay3 v35) Finset.univ (View.stores_vmem h_S1024x128 (harg4.storeExact_slice rfl _ packedbf16_S1024x1024_S1024x128_0_896) (fun _ => rfl)) (.inl rfl))
  pure ⟨⟩

theorem bodyG_eq : bodyG (F := F) t arg2 harg2 arg4 harg4 arg5 harg5
    = (headG t arg2 harg2 arg4 harg4 arg5 harg5 >>= tailG t arg2 harg2 arg4 harg4 arg5 harg5) := by
  unfold bodyG
  rw [cc0_in_proj_sigmoid_eq_skeleton]
  rfl

/-! ### Loads and stores of whole memrefs -/

/-- What a store leaves in a buffer that held what `f` reads: the payload put there. -/
theorem putAt {sp : Space} {S : Shape} {e : EltTy} (v : View sig .tc sp S e) (f : v.ty.Contents (Elt F)) {u : Vec F S e}
    (hf : v.read (Elt F) f = u) (off size : Fin S.rank → ℕ) (inb : ∀ a, off a + size a ≤ S.size a)
    (z : (Rect.unit off size inb).shape.Idx → Elt F e) :
    v.read (Elt F) (v.writes (Elt F) f [⟨Rect.unit off size inb, z⟩]) = VecWindow.put u off size z := by
  rw [View.read_writes_cons_put v f inb z [] rfl, View.writes_nil, hf]

/-- A load of the whole of what `f` reads. -/
theorem readAll {sp : Space} {S : Shape} {e : EltTy} (v : View sig .tc sp S e) (f : v.ty.Contents (Elt F)) {u : Vec F S e}
    (hf : v.read (Elt F) f = u) {off : Fin S.rank → ℕ} (inb : ∀ a, off a + S.size a ≤ S.size a) :
    v.readAt (Elt F) (Rect.unit off S.size inb).toLoadRect f = u := (View.readAt_full v f inb).trans hf

/-! ### The rest: the product and its eight groups of columns -/

/-- The point's column block of the rounded weights. -/
def wBlk (i : grid0.Coords) (wb : Vec F S2x4096x1024 .bf16) : Vec F S1x4096x1024 .bf16 :=
  VecWindow.window wb (k0_off11 i) S1x4096x1024.size (k0_off11_inb i)

/-- A slice of a block is its window there. -/
theorem slice_window {α : Type} (x : S1024x1024.Idx → α) (off : Fin 2 → ℕ) (h : S1024x1024.Slices off S1024x128)
    (inb : ∀ a, off a + S1024x128.size a ≤ S1024x1024.size a) :
    extractStridedSlice S1024x128 off x h = VecWindow.window x off S1024x128.size inb := by
  funext y
  refine congrArg x (funext fun a => Fin.ext ?_)
  show off a + (y a).val = off a + 1 * (y a).val
  omega

/-- A group of 128 columns of the sigmoid, from the product. -/
theorem gate_window (x : Vec F S1024x1024 .f32) (off : Fin 2 → ℕ) (h : S1024x1024.Slices off S1024x128)
    (inb : ∀ a, off a + S1024x128.size a ≤ S1024x1024.size a) :
    truncf .bf16 (addf (mulf (broadcast S1024x128 (Scalar.ofBits .f32 0x3F000000#32)) (tanh (mulf (broadcast S1024x128 (Scalar.ofBits .f32 0x3F000000#32))
      (extractStridedSlice S1024x128 off x h)))) (broadcast S1024x128 (Scalar.ofBits .f32 0x3F000000#32))) bitsLt_bf16_f32
      = VecWindow.window (gate x) off S1024x128.size inb := by
  rw [slice_window x off h inb]
  rfl

theorem gate0 (x : Vec F S1024x4096 .bf16) (v : Vec F S1x4096x1024 .bf16) : k0_pay26 x v = VecWindow.window (gate (k0_pay25 x v)) ![0, 0] S1024x128.size inb_S1024x1024_S1024x128_0_0 := gate_window _ _ _ _
theorem gate1 (x : Vec F S1024x4096 .bf16) (v : Vec F S1x4096x1024 .bf16) : k0_pay27 x v = VecWindow.window (gate (k0_pay25 x v)) ![0, 128] S1024x128.size inb_S1024x1024_S1024x128_0_128 := gate_window _ _ _ _
theorem gate2 (x : Vec F S1024x4096 .bf16) (v : Vec F S1x4096x1024 .bf16) : k0_pay29 (k0_pay28 x v) = VecWindow.window (gate (k0_pay25 x v)) ![0, 256] S1024x128.size inb_S1024x1024_S1024x128_0_256 := gate_window _ _ _ _
theorem gate3 (x : Vec F S1024x1024 .f32) : k0_pay30 x = VecWindow.window (gate x) ![0, 384] S1024x128.size inb_S1024x1024_S1024x128_0_384 := gate_window _ _ _ _
theorem gate4 (x : Vec F S1024x1024 .f32) : k0_pay31 x = VecWindow.window (gate x) ![0, 512] S1024x128.size inb_S1024x1024_S1024x128_0_512 := gate_window _ _ _ _
theorem gate5 (x : Vec F S1024x1024 .f32) : k0_pay1 (k0_pay32 x) = VecWindow.window (gate x) ![0, 640] S1024x128.size inb_S1024x1024_S1024x128_0_640 := gate_window _ _ _ _
theorem gate6 (x : Vec F S1024x1024 .f32) : k0_pay2 x = VecWindow.window (gate x) ![0, 768] S1024x128.size inb_S1024x1024_S1024x128_0_768 := gate_window _ _ _ _
theorem gate7 (x : Vec F S1024x1024 .f32) : k0_pay3 x = VecWindow.window (gate x) ![0, 896] S1024x128.size inb_S1024x1024_S1024x128_0_896 := gate_window _ _ _ _

/-- The eight groups of columns of one block, put one after another, are the block, whatever was there. -/
theorem put8 {α : Type} (G o : S1024x1024.Idx → α) (h0 h1 h2 h3 h4 h5 h6 h7) :
    VecWindow.put (VecWindow.put (VecWindow.put (VecWindow.put (VecWindow.put (VecWindow.put (VecWindow.put (VecWindow.put o
      ![0, 0] S1024x128.size (VecWindow.window G ![0, 0] S1024x128.size h0)) ![0, 128] S1024x128.size (VecWindow.window G ![0, 128] S1024x128.size h1))
      ![0, 256] S1024x128.size (VecWindow.window G ![0, 256] S1024x128.size h2)) ![0, 384] S1024x128.size (VecWindow.window G ![0, 384] S1024x128.size h3))
      ![0, 512] S1024x128.size (VecWindow.window G ![0, 512] S1024x128.size h4)) ![0, 640] S1024x128.size (VecWindow.window G ![0, 640] S1024x128.size h5))
      ![0, 768] S1024x128.size (VecWindow.window G ![0, 768] S1024x128.size h6)) ![0, 896] S1024x128.size (VecWindow.window G ![0, 896] S1024x128.size h7) = G := by
  funext y
  have r0 : (y 0).val < 1024 := (y 0).isLt
  have r1 : (y 1).val < 1024 := (y 1).isLt
  have key : ∀ k : ℕ, (∀ a : Fin 2, (![0, k] : Fin 2 → ℕ) a ≤ (y a).val ∧ (y a).val < (![0, k] : Fin 2 → ℕ) a + S1024x128.size a) ↔ k ≤ (y 1).val ∧ (y 1).val < k + 128 :=
    fun k => ⟨fun h => h 1, fun h a => match a with
      | 0 => ⟨Nat.zero_le _, by show (y 0).val < 0 + 1024; omega⟩
      | 1 => h⟩
  rw [put_window, put_window, put_window, put_window, put_window, put_window, put_window, put_window]
  by_cases c7 : 896 ≤ (y 1).val
  · exact if_pos ((key 896).mpr ⟨c7, by omega⟩)
  rw [if_neg (fun h => c7 ((key 896).mp h).1)]
  by_cases c6 : 768 ≤ (y 1).val
  · exact if_pos ((key 768).mpr ⟨c6, by omega⟩)
  rw [if_neg (fun h => c6 ((key 768).mp h).1)]
  by_cases c5 : 640 ≤ (y 1).val
  · exact if_pos ((key 640).mpr ⟨c5, by omega⟩)
  rw [if_neg (fun h => c5 ((key 640).mp h).1)]
  by_cases c4 : 512 ≤ (y 1).val
  · exact if_pos ((key 512).mpr ⟨c4, by omega⟩)
  rw [if_neg (fun h => c4 ((key 512).mp h).1)]
  by_cases c3 : 384 ≤ (y 1).val
  · exact if_pos ((key 384).mpr ⟨c3, by omega⟩)
  rw [if_neg (fun h => c3 ((key 384).mp h).1)]
  by_cases c2 : 256 ≤ (y 1).val
  · exact if_pos ((key 256).mpr ⟨c2, by omega⟩)
  rw [if_neg (fun h => c2 ((key 256).mp h).1)]
  by_cases c1 : 128 ≤ (y 1).val
  · exact if_pos ((key 128).mpr ⟨c1, by omega⟩)
  rw [if_neg (fun h => c1 ((key 128).mp h).1)]
  exact if_pos ((key 0).mpr ⟨Nat.zero_le _, by omega⟩)

/-- The block of the result that the point writes. -/
def outB (i : grid0.Coords) (a : Vec F S1024x4096 .bf16) (wb : Vec F S2x4096x1024 .bf16) : Vec F S1024x1024 .bf16 := gate (k0_pay25 a (wBlk i wb))

set_option maxHeartbeats 4000000 in
theorem runTail (K : PUnit → sProp 𝕄) :
    iprop(owns (c : Thread nD τ) arg4 fullShare o ∗ owns (c : Thread nD τ) arg5 fullShare wb
        ∗ (iprop(owns (c : Thread nD τ) arg4 fullShare (outB (grid0.coords t) a wb) ∗ owns (c : Thread nD τ) arg5 fullShare wb) -∗ K ⟨⟩))
      ⊢ wp frame (wpE (defs₀ (F := F)) Variants.none c none) Set.univ (tailG t arg2 harg2 arg4 harg4 arg5 harg5 a) K := by
  unfold tailG
  simp only [k0_part13_eq_skeleton, k0_part14_eq_skeleton]; unfold k0_part13_skel k0_part14_skel
  unfold owns
  iintro ⟨⟨%f4, %hf4, H4⟩, ⟨%f5, %hf5, H5⟩, Hk⟩
  sl_exec
  sl_step
  iapply Hk
  isplitl [H4]
  · iexists _; isplitr
    swap; · iexact H4
    ipureintro
    rw [View.readAt_unit arg5.view f5 _ rfl (k0_off11_inb _), hf5]
    simp only [gate0, gate1, gate2, gate3, gate4, gate5, gate6, gate7]
    repeat rw [View.read_writes_cons_put arg4.view f4 _ _ _ rfl]
    exact put8 _ _ _ _ _ _ _ _ _ _
  iexists _; isplitr; · ipureintro; exact hf5
  iexact H5

/-! ### The fetches -/

set_option maxHeartbeats 4000000 in
/-- A point inside a column block: a chunk is started, the one before it arrives. -/
theorem headB (ht : t.val < 112) (hm : t.val % 16 ≠ 0) (K : _ → sProp 𝕄) :
    iprop(owns (c : Thread nD τ) arg2 fullShare a
      ∗ owns (c : Thread nD τ) arg5 fullShare wb ∗ (∃ W', owes (c : Thread nD τ) 0 W')
      ∗ homeP c q W (Ring.bk 128 (t.val + 16)) ∗ (∃ f, slotP c (Ring.sl 2 (t.val + 16)) f) ∗ cellP c (Ring.sl 2 (t.val + 16))
      ∗ (∃ f, flightP c q' W (Ring.sl 2 (t.val + 15)) (Ring.bk 128 (t.val + 15)) f)
        ∗ (iprop(owns (c : Thread nD τ) arg2 fullShare a
          ∗ owns (c : Thread nD τ) arg5 fullShare (putChunk c W (t.val + 15) wb) ∗ (∃ W', owes (c : Thread nD τ) 0 W')
          ∗ (∃ f, flightP c q W (Ring.sl 2 (t.val + 16)) (Ring.bk 128 (t.val + 16)) f)
          ∗ homeP c q' W (Ring.bk 128 (t.val + 15)) ∗ (∃ f, slotP c (Ring.sl 2 (t.val + 15)) f) ∗ cellP c (Ring.sl 2 (t.val + 15))) -∗ K (k0_pay24 a)))
      ⊢ wp frame (wpE (defs₀ (F := F)) Variants.none c none) Set.univ (headG t arg2 harg2 arg4 harg4 arg5 harg5) K := by
  have h1 : ¬k0_cond1 (grid0.coords t) = 1#1 := fun h => by have := (cond1_iff t).mp h; omega
  have h2 : k0_cond2 (grid0.coords t) = 1#1 := (cond2_iff t).mpr ht
  have h3 : k0_cond3 (grid0.coords t) = 1#1 := (cond3_iff t).mpr ⟨ht, hm⟩
  have h4 : ¬k0_cond4 (grid0.coords t) = 1#1 := fun h => by have := (cond4_iff t).mp h; omega
  unfold headG
  simp only [k0_part12_eq_skeleton]; unfold k0_part12_skel
  unfold owns
  iintro ⟨⟨%f2, %hf2, H2⟩, ⟨%f5, %hf5, H5⟩, ⟨%W', HW⟩, Hg, ⟨%fa, Hs⟩, Hc, ⟨%fb, HF⟩, Hk⟩
  sl_exec (disch := first | sl_exact h1 | sl_exact h2 | sl_exact h3 | sl_exact h4)
  sl_step
  rw [readAll arg2.view f2 hf2]
  iapply Hk
  isplitl [H2]
  · iexists _; isplitr; · ipureintro; exact hf2
    iexact H2
  isplitl [H5]
  · iexists _; isplitr
    swap; · iexact H5
    ipureintro
    rw [putAt arg5.view f5 hf5]
    unfold headB.sl.v171 k0_pay22 putChunk chunk
    simp only [slotRead c _ (off7_eq t)]
    rw [off8_eq t ht hm]
  isplitl [HW]; · iexists _; iexact HW
  isplitl [Hc]; · iexists _; iexact Hc
  isplitl [HF_src]; · iexact HF_src
  isplitl [HF_dst]; · iexists _; iexact HF_dst
  iexact HF

set_option maxHeartbeats 4000000 in
/-- The first point of a column block: a chunk is started, the last of this column block arrives. -/
theorem headC (ht : t.val < 112) (h0 : 0 < t.val) (hm : t.val % 16 = 0) (K : _ → sProp 𝕄) :
    iprop(owns (c : Thread nD τ) arg2 fullShare a
      ∗ owns (c : Thread nD τ) arg5 fullShare wb ∗ (∃ W', owes (c : Thread nD τ) 0 W')
      ∗ homeP c q W (Ring.bk 128 (t.val + 16)) ∗ (∃ f, slotP c (Ring.sl 2 (t.val + 16)) f) ∗ cellP c (Ring.sl 2 (t.val + 16))
      ∗ (∃ f, flightP c q' W (Ring.sl 2 (t.val + 15)) (Ring.bk 128 (t.val + 15)) f)
        ∗ (iprop(owns (c : Thread nD τ) arg2 fullShare a
          ∗ owns (c : Thread nD τ) arg5 fullShare (putChunk c W (t.val + 15) wb) ∗ (∃ W', owes (c : Thread nD τ) 0 W')
          ∗ (∃ f, flightP c q W (Ring.sl 2 (t.val + 16)) (Ring.bk 128 (t.val + 16)) f)
          ∗ homeP c q' W (Ring.bk 128 (t.val + 15)) ∗ (∃ f, slotP c (Ring.sl 2 (t.val + 15)) f) ∗ cellP c (Ring.sl 2 (t.val + 15))) -∗ K (k0_pay24 a)))
      ⊢ wp frame (wpE (defs₀ (F := F)) Variants.none c none) Set.univ (headG t arg2 harg2 arg4 harg4 arg5 harg5) K := by
  have h1 : ¬k0_cond1 (grid0.coords t) = 1#1 := fun h => by have := (cond1_iff t).mp h; omega
  have h2 : k0_cond2 (grid0.coords t) = 1#1 := (cond2_iff t).mpr ht
  have h3 : ¬k0_cond3 (grid0.coords t) = 1#1 := fun h => by have := (cond3_iff t).mp h; omega
  have h4 : k0_cond4 (grid0.coords t) = 1#1 := (cond4_iff t).mpr ⟨h0, hm⟩
  rw [sl_one t hm]
  unfold headG
  simp only [k0_part12_eq_skeleton]; unfold k0_part12_skel
  unfold owns
  iintro ⟨⟨%f2, %hf2, H2⟩, ⟨%f5, %hf5, H5⟩, ⟨%W', HW⟩, Hg, ⟨%fa, Hs⟩, Hc, ⟨%fb, HF⟩, Hk⟩
  sl_exec (disch := first | sl_exact h1 | sl_exact h2 | sl_exact h3 | sl_exact h4)
  sl_step
  rw [readAll arg2.view f2 hf2]
  iapply Hk
  isplitl [H2]
  · iexists _; isplitr; · ipureintro; exact hf2
    iexact H2
  isplitl [H5]
  · iexists _; isplitr
    swap; · iexact H5
    ipureintro
    rw [putAt arg5.view f5 hf5]
    unfold headC.sl.v142 k0_pay23 putChunk chunk
    simp only [slotRead c _ (by decide : (![1, 0, 0] : Fin 3 → ℕ) = slotOff 1)]
    rw [off10_eq t h0 hm]
  isplitl [HW]; · iexists _; iexact HW
  isplitl [Hc]; · iexists _; iexact Hc
  isplitl [HF_src]; · iexact HF_src
  isplitl [HF_dst]; · iexists _; iexact HF_dst
  iexact HF

set_option maxHeartbeats 4000000 in
/-- The first point of the last column block: its last chunk arrives. -/
theorem headD (ht : 112 ≤ t.val) (h0 : 0 < t.val) (hm : t.val % 16 = 0) (K : _ → sProp 𝕄) :
    iprop(owns (c : Thread nD τ) arg2 fullShare a
      ∗ owns (c : Thread nD τ) arg5 fullShare wb ∗ (∃ W', owes (c : Thread nD τ) 0 W')
      ∗ (∃ f, flightP c q' W (Ring.sl 2 (t.val + 15)) (Ring.bk 128 (t.val + 15)) f)
        ∗ (iprop(owns (c : Thread nD τ) arg2 fullShare a
          ∗ owns (c : Thread nD τ) arg5 fullShare (putChunk c W (t.val + 15) wb) ∗ (∃ W', owes (c : Thread nD τ) 0 W')
          ∗ homeP c q' W (Ring.bk 128 (t.val + 15)) ∗ (∃ f, slotP c (Ring.sl 2 (t.val + 15)) f) ∗ cellP c (Ring.sl 2 (t.val + 15))) -∗ K (k0_pay24 a)))
      ⊢ wp frame (wpE (defs₀ (F := F)) Variants.none c none) Set.univ (headG t arg2 harg2 arg4 harg4 arg5 harg5) K := by
  have h1 : ¬k0_cond1 (grid0.coords t) = 1#1 := fun h => by have := (cond1_iff t).mp h; omega
  have h2 : ¬k0_cond2 (grid0.coords t) = 1#1 := fun h => by have := (cond2_iff t).mp h; omega
  have h3 : ¬k0_cond3 (grid0.coords t) = 1#1 := fun h => by have := (cond3_iff t).mp h; omega
  have h4 : k0_cond4 (grid0.coords t) = 1#1 := (cond4_iff t).mpr ⟨h0, hm⟩
  rw [sl_one t hm]
  unfold headG
  simp only [k0_part12_eq_skeleton]; unfold k0_part12_skel
  unfold owns
  iintro ⟨⟨%f2, %hf2, H2⟩, ⟨%f5, %hf5, H5⟩, ⟨%W', HW⟩, ⟨%fb, HF⟩, Hk⟩
  sl_exec (disch := first | sl_exact h1 | sl_exact h2 | sl_exact h3 | sl_exact h4)
  sl_step
  rw [readAll arg2.view f2 hf2]
  iapply Hk
  isplitl [H2]
  · iexists _; isplitr; · ipureintro; exact hf2
    iexact H2
  isplitl [H5]
  · iexists _; isplitr
    swap; · iexact H5
    ipureintro
    rw [putAt arg5.view f5 hf5]
    unfold headD.sl.v142 k0_pay23 putChunk chunk
    simp only [slotRead c _ (by decide : (![1, 0, 0] : Fin 3 → ℕ) = slotOff 1)]
    rw [off10_eq t h0 hm]
  isplitl [HW]; · iexists _; iexact HW
  isplitl [HF_src]; · iexact HF_src
  isplitl [HF_dst]; · iexists _; iexact HF_dst
  iexact HF

set_option maxHeartbeats 4000000 in
/-- A later point of the last column block: nothing is fetched. -/
theorem headE (ht : 112 < t.val) (K : _ → sProp 𝕄) :
    iprop(owns (c : Thread nD τ) arg2 fullShare a
        ∗ (iprop(owns (c : Thread nD τ) arg2 fullShare a) -∗ K (k0_pay24 a)))
      ⊢ wp frame (wpE (defs₀ (F := F)) Variants.none c none) Set.univ (headG t arg2 harg2 arg4 harg4 arg5 harg5) K := by
  have h1 : ¬k0_cond1 (grid0.coords t) = 1#1 := fun h => by have := (cond1_iff t).mp h; omega
  have h2 : ¬k0_cond2 (grid0.coords t) = 1#1 := fun h => by have := (cond2_iff t).mp h; omega
  have h3 : ¬k0_cond3 (grid0.coords t) = 1#1 := fun h => by have := (cond3_iff t).mp h; omega
  have h4 : ¬k0_cond4 (grid0.coords t) = 1#1 := fun h => by have := (cond4_iff t).mp h; have : t.val < 128 := lt_of_lt_of_eq t.isLt N_0; omega
  unfold headG
  simp only [k0_part12_eq_skeleton]; unfold k0_part12_skel
  unfold owns
  iintro ⟨⟨%f2, %hf2, H2⟩, Hk⟩
  sl_exec (disch := first | sl_exact h1 | sl_exact h2 | sl_exact h3 | sl_exact h4)
  sl_step
  rw [readAll arg2.view f2 hf2]
  iapply Hk
  iexists _; isplitr; · ipureintro; exact hf2
  iexact H2

end Cert.Proof.GatesBody

end
-- ==== Proof.GatesFirst.lean ====
/- Hand-written, untrusted: THE FIRST POINT OF THE MERGE GATES. It fetches the sixteen chunks of the first column block itself, two
   at a time, and starts the seventeenth. -/
module

public import proofs.«01_k».proof.Proof.GatesBody

@[expose] public section

set_option maxRecDepth 16384

noncomputable section

namespace Cert.Proof.GatesFirst

open Cert.GatesIdeal Cert.GatesIdeal.Gen Cert.Proof.GatesBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

variable (c : Dev nD) (t : Fin grid0.N) (q : PosShare TreeShare) (W : Buf (Elt F) (wM.view.loc (c : Thread nD τ)))
  (arg2 : Memref sig .tc .vmem S1024x4096 .bf16) (harg2 : arg2.IsWhole) (arg4 : Memref sig .tc .vmem S1024x1024 .bf16) (harg4 : arg4.IsWhole)
  (arg5 : Memref sig .tc .vmem S2x4096x1024 .bf16) (harg5 : arg5.IsWhole)
  (a : Vec F S1024x4096 .bf16) (wb : Vec F S2x4096x1024 .bf16)

/-- The first column block's chunks at home. -/
def firstHomes : sProp 𝕄 :=
  iprop(homeP c q W 0 ∗ homeP c q W 1 ∗ homeP c q W 2 ∗ homeP c q W 3 ∗ homeP c q W 4 ∗ homeP c q W 5 ∗ homeP c q W 6 ∗ homeP c q W 7 ∗ homeP c q W 8 ∗ homeP c q W 9 ∗ homeP c q W 10 ∗ homeP c q W 11 ∗ homeP c q W 12 ∗ homeP c q W 13 ∗ homeP c q W 14 ∗ homeP c q W 15)

/-- The rounded weights with the first column block put in. -/
def putFirst : Vec F S2x4096x1024 .bf16 :=
  putChunk c W 15 (putChunk c W 14 (putChunk c W 13 (putChunk c W 12 (putChunk c W 11 (putChunk c W 10 (putChunk c W 9 (putChunk c W 8 (putChunk c W 7 (putChunk c W 6 (putChunk c W 5 (putChunk c W 4 (putChunk c W 3 (putChunk c W 2 (putChunk c W 1 (putChunk c W 0 wb)))))))))))))))

/-- A load of a slot just filled with a chunk, rounded, is the rounded chunk. -/
theorem chunkRead (s : Fin 2) {off : Fin 3 → ℕ} (h : off = slotOff s) (inb : ∀ a, off a + S1x256x1024.size a ≤ S2x256x1024.size a)
    (f : Buf (Elt F) ((rslot s).view.loc (c : Thread nD τ))) (b : Fin 128) :
    shapeCast S1x256x1024 (truncf .bf16 (shapeCast S256x1024 (bufM.view.readAt (Elt F) (Rect.unit (s := S2x256x1024) off S1x256x1024.size inb).toLoadRect
      ((rslot s).view.writes (Elt F) f [⟨Rect.whole S256x1024, payload c W b⟩])) shapeCasts_S1x256x1024_S256x1024) bitsLt_bf16_f32)
      shapeCasts_S256x1024_S1x256x1024 = chunk c W b := by
  rw [slotRead c s h]
  rfl

set_option maxHeartbeats 16000000 in
/-- The first point: the sixteen chunks of the first column block one after another, and the seventeenth started. -/
theorem headA (ht : t.val < 112) (h0 : t.val = 0) (hm : t.val % 16 = 0) (K : _ → sProp 𝕄) :
    iprop(owns (c : Thread nD τ) arg2 fullShare a
      ∗ owns (c : Thread nD τ) arg5 fullShare wb ∗ (∃ W', owes (c : Thread nD τ) 0 W')
      ∗ firstHomes c q W ∗ homeP c q W (Ring.bk 128 (t.val + 16))
      ∗ (∃ f, slotP c 0 f) ∗ cellP c 0 ∗ (∃ f, slotP c 1 f) ∗ cellP c 1
        ∗ (iprop(owns (c : Thread nD τ) arg2 fullShare a
          ∗ owns (c : Thread nD τ) arg5 fullShare (putFirst c W wb) ∗ (∃ W', owes (c : Thread nD τ) 0 W')
          ∗ firstHomes c q W ∗ (∃ f, flightP c q W 0 (Ring.bk 128 (t.val + 16)) f)
          ∗ (∃ f, slotP c 1 f) ∗ cellP c 1) -∗ K (k0_pay24 a)))
      ⊢ wp frame (wpE (defs₀ (F := F)) Variants.none c none) Set.univ (headG t arg2 harg2 arg4 harg4 arg5 harg5) K := by
  have h1 : k0_cond1 (grid0.coords t) = 1#1 := (cond1_iff t).mpr h0
  have h2 : k0_cond2 (grid0.coords t) = 1#1 := (cond2_iff t).mpr ht
  have h3 : ¬k0_cond3 (grid0.coords t) = 1#1 := fun h => by have := (cond3_iff t).mp h; omega
  have h4 : ¬k0_cond4 (grid0.coords t) = 1#1 := fun h => by have := (cond4_iff t).mp h; omega
  unfold headG
  simp only [k0_part12_eq_skeleton]; unfold k0_part12_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns firstHomes
  iintro ⟨⟨%f2, %hf2, H2⟩, ⟨%f5, %hf5, H5⟩, ⟨%W', HW⟩, ⟨Hg0, Hg1, Hg2, Hg3, Hg4, Hg5, Hg6, Hg7, Hg8, Hg9, Hg10, Hg11, Hg12, Hg13, Hg14, Hg15⟩, Hg, ⟨%f0, Hs0⟩, Hc0, ⟨%f1, Hs1⟩, Hc1, Hk⟩
  sl_exec (disch := first | sl_exact h1 | sl_exact h2 | sl_exact h3 | sl_exact h4)
  simp only [semI t, slotI t, grpI t ht, sl_zero t hm]
  sl_exec (disch := first | sl_exact h1 | sl_exact h2 | sl_exact h3 | sl_exact h4)
  sl_step
  rw [readAll arg2.view f2 hf2]
  iapply Hk
  isplitl [H2]
  · iexists _; isplitr; · ipureintro; exact hf2
    iexact H2
  isplitl [H5]
  · iexists _; isplitr
    swap; · iexact H5
    ipureintro
    repeat rw [View.read_writes_cons_put arg5.view f5 _ _ _ rfl]
    rw [View.writes_nil, hf5]
    have e0 : k0_pay4 (headA.sl.v142 c W) = chunk c W 0 := chunkRead c W 0 (by decide) _ _ 0
    have e1 : k0_pay5 (headA.sl.v160 c W) = chunk c W 1 := chunkRead c W 1 (by decide) _ _ 1
    have e2 : k0_pay6 (headA.sl.v178 c W) = chunk c W 2 := chunkRead c W 0 (by decide) _ _ 2
    have e3 : k0_pay7 (headA.sl.v196 c W) = chunk c W 3 := chunkRead c W 1 (by decide) _ _ 3
    have e4 : k0_pay8 (headA.sl.v214 c W) = chunk c W 4 := chunkRead c W 0 (by decide) _ _ 4
    have e5 : k0_pay10 (headA.sl.r c W) = chunk c W 5 := chunkRead c W 1 (by decide) _ _ 5
    have e6 : k0_pay11 (headA.sl.v250 c W) = chunk c W 6 := chunkRead c W 0 (by decide) _ _ 6
    have e7 : k0_pay12 (headA.sl.v268 c W) = chunk c W 7 := chunkRead c W 1 (by decide) _ _ 7
    have e8 : k0_pay14 (headA.sl.r_1 c W) = chunk c W 8 := chunkRead c W 0 (by decide) _ _ 8
    have e9 : k0_pay15 (headA.sl.v304 c W) = chunk c W 9 := chunkRead c W 1 (by decide) _ _ 9
    have e10 : k0_pay16 (headA.sl.v322 c W) = chunk c W 10 := chunkRead c W 0 (by decide) _ _ 10
    have e11 : headA.sl.r_2 c W = chunk c W 11 := chunkRead c W 1 (by decide) _ _ 11
    have e12 : k0_pay18 (headA.sl.v358 c W) = chunk c W 12 := chunkRead c W 0 (by decide) _ _ 12
    have e13 : k0_pay19 (headA.sl.v376 c W) = chunk c W 13 := chunkRead c W 1 (by decide) _ _ 13
    have e14 : k0_pay20 (headA.sl.v394 c W) = chunk c W 14 := chunkRead c W 0 (by decide) _ _ 14
    have e15 : k0_pay21 (headA.sl.v406 c W) = chunk c W 15 := chunkRead c W 1 (by decide) _ _ 15
    rw [e0, e1, e2, e3, e4, e5, e6, e7, e8, e9, e10, e11, e12, e13, e14, e15]
    rfl
  isplitl [HW]; · iexists _; iexact HW
  isplitl [Hg0 Hg1 Hg2 Hg3 Hg4 Hg5 Hg6 Hg7 Hg8 Hg9 Hg10 Hg11 Hg12 Hg13 Hg14 Hg15]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hg8]; · iexact Hg8
    isplitl [Hg9]; · iexact Hg9
    isplitl [Hg10]; · iexact Hg10
    isplitl [Hg11]; · iexact Hg11
    isplitl [Hg12]; · iexact Hg12
    isplitl [Hg13]; · iexact Hg13
    isplitl [Hg14]; · iexact Hg14
    iexact Hg15
  isplitl [Hc0]; · iexists _; iexact Hc0
  isplitl [Hs1]; · iexists _; iexact Hs1
  iexact Hc1

end Cert.Proof.GatesFirst

end
-- ==== Proof.GatesFrame.lean ====
/- Hand-written, untrusted: THE RUN OF THE MERGE GATES, at any values. What lies between two grid points (`Φ`): the rounded
   weights, whose last chunks are known (`Inv`), the chunks of the weights at home, and from the first point to the last but
   one column block one chunk on its way into a staging slot. Then the body's obligation at every point, the run, and the frame. -/
module

public import proofs.«01_k».proof.Proof.GatesFirst
public import Idealize.ShloMosaic.Lib.Claim
public import Idealize.ShloMosaic.Lib.Pipeline.Frame
public import Idealize.ShloMosaic.Lib.Pipeline.FrameBody
public import Idealize.ShloMosaic.Lib.Pipeline.Routed
public import Idealize.ShloMosaic.Lib.Pipeline.Value
public import Idealize.ShloMosaic.Lib.Tactic

@[expose] public section

set_option maxRecDepth 16384

noncomputable section

namespace Cert.Proof.GatesFrame

open Cert.GatesIdeal Cert.GatesIdeal.Gen Cert.Proof.GatesBody Cert.Proof.GatesFirst
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (m : (ℓ : Loc nD τ sig) → Buf (Elt F) ℓ) (ρ : Dev nD → PrngReg)

/-! ### `main` up to the call -/

/-- The buffers as the call finds them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain : Pipeline.HMain (Ix := Unit) (Name := ℕ) (U := UR sig nD τ × Counters) (Lvl := ℕ) cfgs 0 defs₀ Variants.none m (main (F := F)) (V m) :=
  Pipeline.hmain_prefix cfgs 0 defs₀ Variants.none m main hostOps0 hostOps0_sub hostOps0_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ### The kernel's semaphores, the weights' chunks and the staging slots -/

abbrev osem : Fin 2 → SemLoc sig := fun s => .dma (csm s).sem
theorem ownSemFacts : Pipeline.OwnSemFacts spec0 osem := by decide

/-- A chunk's elements, a slot's elements. -/
abbrev G (b : Fin 128) : Finset S4096x29696.Idx := (Rect.unit (s := S4096x29696) (grpOff b) S256x1024.size (grpOff_inb b)).set
abbrev S2s (s : Fin 2) : Finset S2x256x1024.Idx := (Rect.unit (s := S2x256x1024) (slotOff s) S1x256x1024.size (slotOff_inb s)).set

theorem grp_set (b : Fin 128) : (grp b : Memref sig .tc .hbm _ _).view.set = G b := View.set_slice_whole _ _
theorem rslot_set (s : Fin 2) : (rslot s : Memref sig .tc .vmem _ _).view.set = S2s s := (View.set_reshape _ _).trans (View.set_slice_whole _ _)

theorem mem_G (b : Fin 128) (y : S4096x29696.Idx) (h : y ∈ G b) :
    (y 0).val / 256 = b.val % 16 ∧ ((y 1).val - 21504) / 1024 = b.val / 16 := by
  rw [Rect.mem_set_unit] at h
  have a0 : 256 * (b.val % 16) ≤ (y 0).val ∧ (y 0).val < 256 * (b.val % 16) + 256 := h 0
  have a1 : 21504 + 1024 * (b.val / 16) ≤ (y 1).val ∧ (y 1).val < 21504 + 1024 * (b.val / 16) + 1024 := h 1
  omega
theorem mem_S2s (s : Fin 2) (y : S2x256x1024.Idx) : y ∈ S2s s ↔ (y 0).val = s.val := by
  rw [Rect.mem_set_unit]
  have h1 : (y 1).val < 256 := (y 1).isLt
  have h2 : (y 2).val < 1024 := (y 2).isLt
  constructor
  · intro H; have a0 : s.val ≤ (y 0).val ∧ (y 0).val < s.val + 1 := H 0; omega
  · intro H a
    match a with
    | 0 => show s.val ≤ (y 0).val ∧ (y 0).val < s.val + 1; omega
    | 1 => show 0 ≤ (y 1).val ∧ (y 1).val < 0 + 256; omega
    | 2 => show 0 ≤ (y 2).val ∧ (y 2).val < 0 + 1024; omega
theorem G_disjoint : ∀ b b' : Fin 128, b ≠ b' → Disjoint (G b) (G b') := by
  intro b b' hne
  rw [Finset.disjoint_left]
  intro y hy hy'
  have e := mem_G b y hy
  have e' := mem_G b' y hy'
  exact hne (Fin.ext (by omega))
theorem S2s_disjoint : ∀ s s' : Fin 2, s ≠ s' → Disjoint (S2s s) (S2s s') := by
  intro s s' hne
  rw [Finset.disjoint_left]
  intro y hy hy'
  rw [mem_S2s] at hy hy'
  exact hne (Fin.ext (hy.symm.trans hy'))
theorem S2s_cover : (Finset.univ : Finset (Fin 2)).biUnion S2s = Finset.univ := by
  ext y
  simp only [Finset.mem_biUnion, Finset.mem_univ, true_and, iff_true]
  exact ⟨(y 0).cast (by decide), by rw [mem_S2s]; rfl⟩

private theorem of_eq {P Q : sProp 𝕄} (e : P = Q) : P ⊢ Q := e ▸ .rfl

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

variable (c : Dev nD) (W : Buf (Elt F) (wM.view.loc (c : Thread nD τ)))

/-- The weights no chunk covers. -/
def restW : sProp 𝕄 := ((c : Thread nD τ).loc main_v2) ↦[Finset.univ \ Finset.univ.biUnion G]{fullShare} W

/-- The weights, whole, are the chunks at home and the rest. -/
theorem w_eq : (((c : Thread nD τ).loc main_v2) ↦{fullShare} W : sProp 𝕄)
    = iprop(bigSep Finset.univ (homeP c fullShare W) ∗ restW c W) := by
  have h := pointsTo_split_subset (Ix := Unit) (Name := ℕ) (U := UR sig nD τ × Counters) (Lvl := ℕ) (ℓ := (c : Thread nD τ).loc main_v2) (q := fullShare) (f := W) (Finset.subset_univ (Finset.univ.biUnion G))
  refine (equiv_iff.mp ⟨h.1, h.2⟩).trans ?_
  rw [Ring.pointsTo_sub_blocks (ℓ := (c : Thread nD τ).loc main_v2) G G_disjoint _ rfl]
  rw [bigSep_congr (Ψ := homeP c fullShare W) fun b _ => by rw [← grp_set]; rfl]
  rfl

theorem slotP_eq (s : Fin 2) (f) : slotP c s f = (((c : Thread nD τ).loc cc0_scratch1) ↦[S2s s]{fullShare} f : sProp 𝕄) :=
  congrArg (fun S => (_ ↦[S]{fullShare} f : sProp 𝕄)) (rslot_set s)
/-- The staging buffer, whole, is its two slots, -/
theorem buf_split :
    iprop(∃ f : Buf (Elt F) ((c : Thread nD τ).loc cc0_scratch1), ((c : Thread nD τ).loc cc0_scratch1) ↦{fullShare} f)
      ⊢ (iprop((∃ f, slotP c 0 f) ∗ ∃ f, slotP c 1 f) : sProp 𝕄) := by
  iintro ⟨%f, H⟩
  ihave H2 := (of_eq ((Ring.pointsTo_blocks (Ix := Unit) (Name := ℕ) (U := UR sig nD τ × Counters) (Lvl := ℕ) (q := fullShare) (ℓ := (c : Thread nD τ).loc cc0_scratch1) S2s S2s_disjoint S2s_cover f).trans (bigSep_fin2 _))) $$ H
  icases H2 with ⟨H0, H1⟩
  isplitl [H0]
  · iexists f; iapply (of_eq (slotP_eq c 0 f).symm); iexact H0
  · iexists f; iapply (of_eq (slotP_eq c 1 f).symm); iexact H1
/-- and back. -/
theorem buf_join :
    iprop((∃ f, slotP c 0 f) ∗ ∃ f, slotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) S2s S2s_disjoint S2s_cover f0)
  irw [bigSep_fin2]
  isplitl [H0]
  · iexists f0; iapply (of_eq (slotP_eq c 0 f0)); iexact H0
  · iexists f1; iapply (of_eq (slotP_eq c 1 f1)); iexact H1

theorem ownSems0_eq : (Pipeline.ownSems0 (Ix := Unit) (Name := ℕ) (U := UR sig nD τ × Counters) (Lvl := ℕ) (Val := Elt F) (τ := τ) osem c : sProp 𝕄)
    = iprop(cellP c 0 ∗ cellP c 1) := by
  unfold Pipeline.ownSems0; rw [bigSep_fin2]

/-! ### The chunks at home, apart -/

/-- The chunks of the first column block. -/
def S16 : Finset (Fin 128) := Finset.univ.filter fun b => b.val < 16

theorem first_eq : firstHomes c fullShare W = bigSep S16 (homeP c fullShare W) :=
  (bigSep_eq_bigSepL_of_eq [0, 1, 2, 3, 4, 5, 6, 7, 8, 9, 10, 11, 12, 13, 14, 15] (by decide) (by decide) (homeP c fullShare W)).symm

private theorem swap (P Q R : sProp 𝕄) : iprop(P ∗ Q ∗ R) = iprop(Q ∗ P ∗ R) :=
  have h := sep_left_comm (P := P) (Q := Q) (R := R)
  equiv_iff.mp ⟨h.1, h.2⟩

/-- All of them: the first column block, the seventeenth chunk, and the rest; -/
theorem homes_first : bigSep Finset.univ (homeP c fullShare W)
    = iprop(firstHomes c fullShare W ∗ homeP c fullShare W 16 ∗ bigSep ((Finset.univ.erase 16) \ S16) (homeP c fullShare W)) := by
  rw [first_eq, bigSep_erase (Finset.mem_univ (16 : Fin 128)), bigSep_sdiff_split (show S16 ⊆ Finset.univ.erase 16 by decide)]
  exact swap _ _ _
/-- and back but for the seventeenth. -/
theorem homes_first_back : bigSep (Finset.univ.erase 16) (homeP c fullShare W)
    = iprop(firstHomes c fullShare W ∗ bigSep ((Finset.univ.erase 16) \ S16) (homeP c fullShare W)) := by
  rw [first_eq, bigSep_sdiff_split (show S16 ⊆ Finset.univ.erase 16 by decide)]
  rfl

/-- One chunk apart from some. -/
theorem homes_take (s : Finset (Fin 128)) (b : Fin 128) (h : b ∈ s) :
    bigSep s (homeP c fullShare W) = iprop(homeP c fullShare W b ∗ bigSep (s.erase b) (homeP c fullShare W)) := bigSep_erase h

/-! ### What lies between two points -/

theorem wbOff_inb (g : ℕ) : ∀ a, wbOff g a + S1x256x1024.size a ≤ S2x4096x1024.size a := fun a => by
  match a with
  | 0 => show g / 16 % 2 + 1 ≤ 2; omega
  | 1 => show 256 * (g % 16) + 256 ≤ 4096; omega
  | 2 => exact Nat.le_refl _

/-- The rounded weights before point `n` have the chunks of its column block that came before, and of the one before it. -/
def Inv (n : ℕ) (wb : Vec F S2x4096x1024 .bf16) : Prop :=
  1 ≤ n → ∀ g, g < 128 → n ≤ g + 16 → g < n + 15 →
    VecWindow.window wb (wbOff g) S1x256x1024.size (wbOff_inb g) = chunk c W (Ring.bk 128 g)

variable {wb : Vec F S2x4096x1024 .bf16}

theorem window_same (g : ℕ) : VecWindow.window (putChunk c W g wb) (wbOff g) S1x256x1024.size (wbOff_inb g) = chunk c W (Ring.bk 128 g) :=
  VecWindow.window_put_same (s := S2x4096x1024) wb _ _ _ _
theorem window_ne (g k : ℕ) (h : k % 32 ≠ g % 32) : VecWindow.window (putChunk c W g wb) (wbOff k) S1x256x1024.size (wbOff_inb k)
    = VecWindow.window wb (wbOff k) S1x256x1024.size (wbOff_inb k) := by
  by_cases hs : k / 16 % 2 = g / 16 % 2
  · refine VecWindow.window_put_of_disjoint (s := S2x4096x1024) wb _ _ _ _ _ _ (1 : Fin 3) ?_
    show 256 * (k % 16) + 256 ≤ 256 * (g % 16) ∨ 256 * (g % 16) + 256 ≤ 256 * (k % 16)
    omega
  · refine VecWindow.window_put_of_disjoint (s := S2x4096x1024) wb _ _ _ _ _ _ (0 : Fin 3) ?_
    show k / 16 % 2 + 1 ≤ g / 16 % 2 ∨ g / 16 % 2 + 1 ≤ k / 16 % 2
    omega

theorem Inv.start : Inv c W 0 wb := fun h => absurd h (by omega)
theorem Inv.first : Inv c W 1 (putFirst c W wb) := fun _ g _ _ hg => by
  unfold putFirst
  by_cases h : g = 15
  · subst h; exact window_same c W 15
  rw [window_ne c W 15 g (by omega)]
  by_cases h : g = 14
  · subst h; exact window_same c W 14
  rw [window_ne c W 14 g (by omega)]
  by_cases h : g = 13
  · subst h; exact window_same c W 13
  rw [window_ne c W 13 g (by omega)]
  by_cases h : g = 12
  · subst h; exact window_same c W 12
  rw [window_ne c W 12 g (by omega)]
  by_cases h : g = 11
  · subst h; exact window_same c W 11
  rw [window_ne c W 11 g (by omega)]
  by_cases h : g = 10
  · subst h; exact window_same c W 10
  rw [window_ne c W 10 g (by omega)]
  by_cases h : g = 9
  · subst h; exact window_same c W 9
  rw [window_ne c W 9 g (by omega)]
  by_cases h : g = 8
  · subst h; exact window_same c W 8
  rw [window_ne c W 8 g (by omega)]
  by_cases h : g = 7
  · subst h; exact window_same c W 7
  rw [window_ne c W 7 g (by omega)]
  by_cases h : g = 6
  · subst h; exact window_same c W 6
  rw [window_ne c W 6 g (by omega)]
  by_cases h : g = 5
  · subst h; exact window_same c W 5
  rw [window_ne c W 5 g (by omega)]
  by_cases h : g = 4
  · subst h; exact window_same c W 4
  rw [window_ne c W 4 g (by omega)]
  by_cases h : g = 3
  · subst h; exact window_same c W 3
  rw [window_ne c W 3 g (by omega)]
  by_cases h : g = 2
  · subst h; exact window_same c W 2
  rw [window_ne c W 2 g (by omega)]
  by_cases h : g = 1
  · subst h; exact window_same c W 1
  rw [window_ne c W 1 g (by omega)]
  obtain rfl : g = 0 := by omega
  exact window_same c W 0
theorem Inv.put (n : ℕ) (hn : 1 ≤ n) (I : Inv c W n wb) : Inv c W (n + 1) (putChunk c W (n + 15) wb) := fun _ g h128 hg hg' => by
  by_cases h : g = n + 15
  · subst h; exact window_same c W (n + 15)
  rw [window_ne c W (n + 15) g (by omega)]
  exact I hn g h128 (by omega) (by omega)
theorem Inv.skip (n : ℕ) (hn : 113 ≤ n) (I : Inv c W n wb) : Inv c W (n + 1) wb := fun _ g h128 hg hg' =>
  I (by omega) g h128 (by omega) (by omega)

/-- Column block `n` of the weights, rounded. -/
def wB (n : ℕ) : Vec F S1x4096x1024 .bf16 := fun y =>
  chunk c W (Ring.bk 128 (16 * n + (y 1).val / 256)) (fun a => match a with
    | 0 => ⟨0, by decide⟩
    | 1 => ⟨(y 1).val % 256, Nat.mod_lt _ (by decide)⟩
    | 2 => y 2)

/-- It is what the point's half of the rounded weights holds after its fetches. -/
theorem Inv.blk (t : Fin cfg0.N) (I : Inv c W (t.val + 1) wb) : wBlk (grid0.coords t) wb = wB c W (t.val / 16) := by
  have hN : t.val < 128 := lt_of_lt_of_eq t.isLt (show cfg0.N = 128 from N_0)
  funext y
  have y0 : (y 0).val < 1 := (y 0).isLt
  have y1 : (y 1).val < 4096 := (y 1).isLt
  unfold wB
  rw [← I (by omega) (16 * (t.val / 16) + (y 1).val / 256) (by omega) (by omega) (by omega)]
  unfold wBlk VecWindow.window
  refine congrArg wb (funext fun a => Fin.ext ?_)
  have e := congrFun (off11_eq t) a
  match a with
  | 0 =>
    show k0_off11 (grid0.coords t) 0 + 1 * (y 0).val = (16 * (t.val / 16) + (y 1).val / 256) / 16 % 2 + 1 * 0
    have e : k0_off11 (grid0.coords t) 0 = t.val / 16 % 2 := e
    omega
  | 1 =>
    show k0_off11 (grid0.coords t) 1 + 1 * (y 1).val = 256 * ((16 * (t.val / 16) + (y 1).val / 256) % 16) + 1 * ((y 1).val % 256)
    have e : k0_off11 (grid0.coords t) 1 = 0 := e
    omega
  | 2 =>
    show k0_off11 (grid0.coords t) 2 + 1 * (y 2).val = 0 + 1 * (y 2).val
    have e : k0_off11 (grid0.coords t) 2 = 0 := e
    omega

/-- The chunks and the slots between two points while a chunk is on its way, -/
def moving (n : ℕ) : sProp 𝕄 :=
  iprop(bigSep (Finset.univ.erase (Ring.bk 128 (n + 15))) (homeP c fullShare W) ∗ (∃ f, flightP c fullShare W (Ring.sl 2 (n + 15)) (Ring.bk 128 (n + 15)) f)
    ∗ (∃ f, slotP c (Ring.sl 2 (n + 16)) f) ∗ cellP c (Ring.sl 2 (n + 16)))
/-- and while none is. -/
def still : sProp 𝕄 :=
  iprop(bigSep Finset.univ (homeP c fullShare W) ∗ (∃ f, slotP c 0 f) ∗ cellP c 0 ∗ (∃ f, slotP c 1 f) ∗ cellP c 1)
def mid (n : ℕ) : sProp 𝕄 := if 1 ≤ n ∧ n ≤ 112 then moving c W n else still c W

/-- The block of the result that point `n` writes. -/
def res (t : Fin cfg0.N) : Vec F S1024x1024 .bf16 := gate (k0_pay25 (iblk m c 0 t) (wB c (V m c main_v2) (t.val / 16)))

/-! ### The proof data -/

def dats (_ : Fin 1) (c : Dev nD) : Dat τ (Elt F) Unit ℕ (UR sig nD τ × Counters) ℕ cfg0 c where
  A w := V m c (Pipeline.arrRef spec0 w)
  after w t := match w with
    | ⟨0, _⟩ => iblk m c 0 t
    | ⟨1, _⟩ => res m c t
  Φ n := iprop(∃ wb, ⌜Inv c (V m c main_v2) n.val wb⌝ ∗ owns (c : Thread nD τ) (Memref.whole cc0_scratch0) fullShare wb
    ∗ mid c (V m c main_v2) n.val ∗ restW c (V m c main_v2) ∗ (∃ r, prngReg c r))
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = res m c t := by dsimp only [dats]
theorem before0_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem Φ_eq (n : Fin (cfg0.N + 1)) : (dats m 0 c).Φ n = iprop(∃ wb, ⌜Inv c (V m c main_v2) n.val wb⌝
    ∗ owns (c : Thread nD τ) (Memref.whole cc0_scratch0) fullShare wb
    ∗ mid c (V m c main_v2) n.val ∗ restW c (V m c main_v2) ∗ (∃ r, prngReg c r)) := by dsimp only [dats]

/-! ### The fetches at any point -/

theorem pay24_eq (a : Vec F S1024x4096 .bf16) : k0_pay24 a = a := by
  unfold k0_pay24; exact shapeCast_self _ _

variable (t : Fin cfg0.N)
  (arg2 : Memref sig .tc .vmem S1024x4096 .bf16) (harg2 : arg2.IsWhole) (arg4 : Memref sig .tc .vmem S1024x1024 .bf16) (harg4 : arg4.IsWhole)
  (arg5 : Memref sig .tc .vmem S2x4096x1024 .bf16) (harg5 : arg5.IsWhole)
  (a : Vec F S1024x4096 .bf16)

theorem bk_ne (n k : ℕ) (hn : n < 128) (hk : k < 128) (h : n ≠ k) : Ring.bk 128 n ≠ Ring.bk 128 k := fun e => h (by
  have := congrArg Fin.val e
  rwa [Ring.bk_val hn, Ring.bk_val hk] at this)

/-- A point that starts a chunk and waits for another. -/
theorem headBC (ht : t.val < 112) (h0 : 0 < t.val) (K : _ → sProp 𝕄) :
    iprop(owns (c : Thread nD τ) arg2 fullShare a
      ∗ owns (c : Thread nD τ) arg5 fullShare wb ∗ (∃ W', owes (c : Thread nD τ) 0 W')
      ∗ homeP c fullShare W (Ring.bk 128 (t.val + 16)) ∗ (∃ f, slotP c (Ring.sl 2 (t.val + 16)) f) ∗ cellP c (Ring.sl 2 (t.val + 16))
      ∗ (∃ f, flightP c fullShare W (Ring.sl 2 (t.val + 15)) (Ring.bk 128 (t.val + 15)) f)
        ∗ (iprop(owns (c : Thread nD τ) arg2 fullShare a
          ∗ owns (c : Thread nD τ) arg5 fullShare (putChunk c W (t.val + 15) wb) ∗ (∃ W', owes (c : Thread nD τ) 0 W')
          ∗ (∃ f, flightP c fullShare W (Ring.sl 2 (t.val + 16)) (Ring.bk 128 (t.val + 16)) f)
          ∗ homeP c fullShare W (Ring.bk 128 (t.val + 15)) ∗ (∃ f, slotP c (Ring.sl 2 (t.val + 15)) f) ∗ cellP c (Ring.sl 2 (t.val + 15))) -∗ K (k0_pay24 a)))
      ⊢ wp frame (wpE (defs₀ (F := F)) Variants.none c none) Set.univ (headG t arg2 harg2 arg4 harg4 arg5 harg5) K := by
  by_cases hm : t.val % 16 = 0
  · exact headC c t fullShare fullShare W arg2 harg2 arg4 harg4 arg5 harg5 a wb ht h0 hm K
  · exact headB c t fullShare fullShare W arg2 harg2 arg4 harg4 arg5 harg5 a wb ht hm K

set_option maxHeartbeats 1600000 in
/-- The first part of the body at any point, with the step of what lies between the points. -/
theorem head (I : Inv c W t.val wb) (K : _ → sProp 𝕄) :
    iprop(owns (c : Thread nD τ) arg2 fullShare a ∗ owns (c : Thread nD τ) arg5 fullShare wb ∗ (∃ W', owes (c : Thread nD τ) 0 W') ∗ mid c W t.val
      ∗ (iprop(∃ wb', ⌜Inv c W (t.val + 1) wb'⌝ ∗ owns (c : Thread nD τ) arg2 fullShare a ∗ owns (c : Thread nD τ) arg5 fullShare wb'
          ∗ (∃ W', owes (c : Thread nD τ) 0 W') ∗ mid c W (t.val + 1)) -∗ K a))
      ⊢ wp frame (wpE (defs₀ (F := F)) Variants.none c none) Set.univ (headG t arg2 harg2 arg4 harg4 arg5 harg5) K := by
  have hN : t.val < 128 := lt_of_lt_of_eq t.isLt (show cfg0.N = 128 from N_0)
  have hp : k0_pay24 a = a := pay24_eq a
  rcases Nat.eq_zero_or_pos t.val with h0 | h0
  · have e16 : Ring.bk 128 (t.val + 16) = 16 := by rw [h0]; decide
    have hA := headA c t fullShare W arg2 harg2 arg4 harg4 arg5 harg5 a wb (by omega) h0 (by omega) K
    rw [hp, e16] at hA
    have e1 : mid c W t.val = still c W := if_neg (by omega)
    have e2 : mid c W (t.val + 1) = moving c W 1 := by rw [h0]; exact if_pos ⟨by omega, by omega⟩
    rw [e1, e2]
    unfold still moving
    rw [homes_first, show Ring.bk 128 (1 + 15) = 16 by decide, homes_first_back, show Ring.sl 2 (1 + 15) = 0 by decide, show Ring.sl 2 (1 + 16) = 1 by decide]
    iintro ⟨H2, H5, HO, ⟨⟨Hf, Hg, Hr⟩, Hs0, Hc0, Hs1, Hc1⟩, Hk⟩
    iapply hA
    isplitl [H2]; · iexact H2
    isplitl [H5]; · iexact H5
    isplitl [HO]; · iexact HO
    isplitl [Hf]; · iexact Hf
    isplitl [Hg]; · iexact Hg
    isplitl [Hs0]; · iexact Hs0
    isplitl [Hc0]; · iexact Hc0
    isplitl [Hs1]; · iexact Hs1
    isplitl [Hc1]; · iexact Hc1
    iintro ⟨H2, H5, HO, Hf, HF, Hs1, Hc1⟩
    iapply Hk
    iexists (putFirst c W wb)
    isplitr; · ipureintro; rw [h0]; exact Inv.first c W
    isplitl [H2]; · iexact H2
    isplitl [H5]; · iexact H5
    isplitl [HO]; · iexact HO
    isplitl [Hf Hr]
    · isplitl [Hf]; · iexact Hf
      iexact Hr
    isplitl [HF]; · iexact HF
    isplitl [Hs1]; · iexact Hs1
    iexact Hc1
  rcases Nat.lt_or_ge 112 t.val with h112 | h112
  · have hE := headE c t arg2 harg2 arg4 harg4 arg5 harg5 a h112 K
    rw [hp] at hE
    rw [show mid c W t.val = still c W from if_neg (by omega), show mid c W (t.val + 1) = still c W from if_neg (by omega)]
    iintro ⟨H2, H5, HO, Hm, Hk⟩
    iapply hE
    isplitl [H2]; · iexact H2
    iintro H2
    iapply Hk
    iexists wb
    isplitr; · ipureintro; exact Inv.skip c W t.val (by omega) I
    isplitl [H2]; · iexact H2
    isplitl [H5]; · iexact H5
    isplitl [HO]; · iexact HO
    iexact Hm
  rw [show mid c W t.val = moving c W t.val from if_pos ⟨h0, h112⟩]
  rcases Nat.lt_or_ge t.val 112 with hlt | hge
  · have hBC := headBC c W t arg2 harg2 arg4 harg4 arg5 harg5 a (wb := wb) hlt h0 K
    rw [hp] at hBC
    rw [show mid c W (t.val + 1) = moving c W (t.val + 1) from if_pos ⟨by omega, by omega⟩]
    unfold moving
    have hne := bk_ne (t.val + 16) (t.val + 15) (by omega) (by omega) (by omega)
    have esl : Ring.sl 2 (t.val + 1 + 16) = Ring.sl 2 (t.val + 15) := Fin.ext (by show (t.val + 1 + 16) % 2 = (t.val + 15) % 2; omega)
    rw [show t.val + 1 + 15 = t.val + 16 by omega, esl,
      homes_take c W _ _ (Finset.mem_erase.mpr ⟨hne, Finset.mem_univ (Ring.bk 128 (t.val + 16))⟩),
      homes_take c W (Finset.univ.erase (Ring.bk 128 (t.val + 16))) _ (Finset.mem_erase.mpr ⟨hne.symm, Finset.mem_univ (Ring.bk 128 (t.val + 15))⟩),
      Finset.erase_right_comm]
    iintro ⟨H2, H5, HO, ⟨⟨Hg, Hr⟩, HF, Hs, Hc⟩, Hk⟩
    iapply hBC
    isplitl [H2]; · iexact H2
    isplitl [H5]; · iexact H5
    isplitl [HO]; · iexact HO
    isplitl [Hg]; · iexact Hg
    isplitl [Hs]; · iexact Hs
    isplitl [Hc]; · iexact Hc
    isplitl [HF]; · iexact HF
    iintro ⟨H2, H5, HO, HF, Hg, Hs, Hc⟩
    iapply Hk
    iexists (putChunk c W (t.val + 15) wb)
    isplitr; · ipureintro; exact Inv.put c W t.val h0 I
    isplitl [H2]; · iexact H2
    isplitl [H5]; · iexact H5
    isplitl [HO]; · iexact HO
    isplitl [Hg Hr]
    · isplitl [Hg]; · iexact Hg
      iexact Hr
    isplitl [HF]; · iexact HF
    isplitl [Hs]; · iexact Hs
    iexact Hc
  · have ht : t.val = 112 := by omega
    have hD := headD c t fullShare W arg2 harg2 arg4 harg4 arg5 harg5 a wb hge h0 (by omega) K
    rw [hp] at hD
    rw [show mid c W (t.val + 1) = still c W from if_neg (by omega)]
    unfold moving still
    rw [homes_take c W Finset.univ _ (Finset.mem_univ (Ring.bk 128 (t.val + 15)))]
    have e15 : Ring.sl 2 (t.val + 15) = 1 := by rw [ht]; decide
    have e16 : Ring.sl 2 (t.val + 16) = 0 := by rw [ht]; decide
    rw [e15] at hD
    rw [e15, e16]
    iintro ⟨H2, H5, HO, ⟨Hr, HF, Hs, Hc⟩, Hk⟩
    iapply hD
    isplitl [H2]; · iexact H2
    isplitl [H5]; · iexact H5
    isplitl [HO]; · iexact HO
    isplitl [HF]; · iexact HF
    iintro ⟨H2, H5, HO, Hg, Hs1, Hc1⟩
    iapply Hk
    iexists (putChunk c W (t.val + 15) wb)
    isplitr; · ipureintro; exact Inv.put c W t.val h0 I
    isplitl [H2]; · iexact H2
    isplitl [H5]; · iexact H5
    isplitl [HO]; · iexact HO
    isplitl [Hg Hr]
    · isplitl [Hg]; · iexact Hg
      iexact Hr
    isplitl [Hs]; · iexact Hs
    isplitl [Hc]; · iexact Hc
    isplitl [Hs1]; · iexact Hs1
    iexact Hc1

/-! ### The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

set_option maxHeartbeats 1600000 in
theorem sound_body :
    bodyPre m c t ⊢ wp frame (wpE (defs₀ (F := F)) Variants.none c none) Set.univ (bodyAt0 t) (fun _ => bodyPost m c t) := by
  unfold bodyPre bodyPost bodyAt0
  simp only [before0_0]
  unfold Dat.owesAt Pipeline.owesWithin
  rw [show (dats m 0 c).owed t.castSucc = 0 from rfl, show (dats m 0 c).owed t.succ = 0 from rfl, after0_0, after0_1, Φ_eq, Φ_eq]
  iintro ⟨⟨%wb, %I, HS0, Hm, Hr, Hp⟩, ⟨%W', -, HO⟩, ⟨%d0, H0⟩, ⟨%d1, H1⟩⟩
  have I : Inv c (V m c main_v2) t.val wb := I
  rw [show cc0_in_proj_sigmoid (F := F) (grid0.coords t) (win0_0.stage (cfg0.slots t 0)) (hstage0_0 ((cfg0.slots t 0).cast nbuf0_0)) (Memref.whole main_v2) (Memref.isWhole_whole _) (win0_1.stage (cfg0.slots t 1)) (hstage0_1 ((cfg0.slots t 1).cast nbuf0_1)) (Memref.whole cc0_scratch0) (Memref.isWhole_whole _) (Memref.whole cc0_scratch1) (Memref.isWhole_whole _) cc0_scratch2
    = _ from bodyG_eq t _ _ _ _ _ _, wp_bind]
  iapply (head c (V m c main_v2) t _ _ _ _ _ _ (iblk m c 0 t) I _)
  isplitl [H0]; · iexact H0
  isplitl [HS0]; · iexact HS0
  isplitl [HO]; · iexists _; iexact HO
  isplitl [Hm]; · iexact Hm
  iintro ⟨%wb', %I', H0, HS0, ⟨%W'', HO⟩, Hm⟩
  iapply (runTail c t _ _ _ _ _ _ (iblk m c 0 t) wb' _ _)
  isplitl [H1]; · iexact H1
  isplitl [HS0]; · iexact HS0
  unfold outB
  rw [Inv.blk c (V m c main_v2) t I']
  iintro ⟨H1, HS0⟩
  isplitl [HS0 Hm Hr Hp]
  · iexists _
    isplitr; · ipureintro; exact I'
    isplitl [HS0]; · iexact HS0
    isplitl [Hm]; · iexact Hm
    isplitl [Hr]; · iexact Hr
    iexact Hp
  isplitl [HO]
  · iexists W''; isplitr; · ipureintro; exact fun _ _ => Or.inl trivial
    iexact HO
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run and the frame -/

theorem enters : Pipeline.Ends (cfgs 0).spec osem {main_v2} c (V m c) ⊢ ((dats (F := F) m 0 c).Φ 0 : sProp 𝕄) := by
  rw [Φ_eq]
  unfold Pipeline.Ends
  rw [show (cfgs 0).spec = spec0 from rfl, scopedRest0_eq, Pipeline.routed_singleton, w_eq, ownSems0_eq]
  simp only [owns_whole]
  rw [show mid c (V m c main_v2) (0 : Fin (cfg0.N + 1)).val = still c (V m c main_v2) from if_neg (by decide)]
  unfold still
  iintro ⟨⟨Hh, Hr⟩, ⟨Hc0, Hc1⟩, ⟨⟨%wb, HS0⟩, HS1⟩, Hg⟩
  ihave Hs := (buf_split c) $$ HS1
  icases Hs with ⟨Hs0, Hs1⟩
  iexists wb
  isplitr; · ipureintro; exact Inv.start c _
  isplitl [HS0]; · iexact HS0
  isplitl [Hh Hs0 Hc0 Hs1 Hc1]
  · isplitl [Hh]; · iexact Hh
    isplitl [Hs0]; · iexact Hs0
    isplitl [Hc0]; · iexact Hc0
    isplitl [Hs1]; · iexact Hs1
    iexact Hc1
  isplitl [Hr]; · iexact Hr
  iexact Hg

theorem leaves : ((dats (F := F) m 0 c).Φ (Fin.last cfg0.N) : sProp 𝕄) ⊢ Pipeline.Ends (cfgs 0).spec osem {main_v2} c (V m c) := by
  rw [Φ_eq]
  unfold Pipeline.Ends
  rw [show (cfgs 0).spec = spec0 from rfl, scopedRest0_eq, Pipeline.routed_singleton, w_eq, ownSems0_eq]
  simp only [owns_whole]
  rw [show mid c (V m c main_v2) (Fin.last cfg0.N).val = still c (V m c main_v2) from if_neg (by decide)]
  unfold still
  iintro ⟨%wb, -, HS0, ⟨Hh, Hs0, Hc0, Hs1, Hc1⟩, Hr, Hg⟩
  isplitl [Hh Hr]
  · isplitl [Hh]; · iexact Hh
    iexact Hr
  isplitl [Hc0 Hc1]
  · isplitl [Hc0]; · iexact Hc0
    iexact Hc1
  isplitl [HS0 Hs0 Hs1]
  · isplitl [HS0]; · iexists wb; iexact HS0
    iapply (buf_join c)
    isplitl [Hs0]; · iexact Hs0
    iexact Hs1
  iexact Hg

set_option backward.isDefEq.respectTransparency.types false in
/-- The launch: the result ends at what the proof data says, the other arrays as the call found them, every counter at zero. -/
theorem run_main_quiescent : θ_run defs (onTc (τ := τ) (main (F := F))) (s₀ m ρ)
    (fun r => Pipeline.RoutedPost cfgs (dats m) 0 {main_v2} (V m) (V m) r ∧ r.2.sem = fun _ => 0) :=
  Pipeline.θ_run_frame_routed (Q' := _) cfgs (dats m) (0 : Fin 1) launch0 ownSemFacts defs₀ Variants.none m ρ main
    (hbody := fun c => (body_obligation m c).loose)
    (hshare := fun c w => by unfold Dat.share; split <;> rfl)
    (howed := fun _ _ => rfl) (V := V m) (hmain := hmain m) (hA := A_eq m) (R := {main_v2}) (hR := by decide) (Y := V m)
    (hin := enters m) (hout := leaves m) (hQ' := fun _ h => h)

/-- THE FRAME, at any values: the arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2.2 main_arg0 (by decide)).trans (V_arg0 m c), ((h.1 c).2.2 main_arg1 (by decide)).trans (V_arg1 m c)⟩, h.2⟩) (run_main_quiescent m ρ)

end Cert.Proof.GatesFrame

end
-- ==== Proof.GatesBits.lean ====
/- Hand-written, untrusted: THE PRINTED PROGRAM OF THE MERGE GATES AND ITS IDEALIZATION ARE ONE TEXT (no rule rewrites it), so the frame
   proved at any values of the one is the frame of the other. -/
module

public import proofs.«01_k».proof.Proof.Gen.Gates.Launch
public import proofs.«01_k».proof.Proof.GatesFrame

@[expose] public section

noncomputable section

namespace Cert.Proof.GatesBits

open Idealize.ShloMosaic Idealize.ShloMosaic.TcCoe Idealize.SL.Sem

variable {F : FTy → Type} [FloatOps F]

theorem defs₀_eq : @Cert.Gates.defs₀ F _ Cert.Gates.Gen.facts = @Cert.GatesIdeal.defs₀ F _ Cert.GatesIdeal.Gen.facts := by
  unfold Cert.Gates.defs₀ Cert.GatesIdeal.defs₀
  congr 1
  funext l x
  match l, x with
  | ⟨0, _⟩, (t, s) => rfl

theorem defs_eq : @Cert.Gates.defs F _ Cert.Gates.Gen.facts = @Cert.GatesIdeal.defs F _ Cert.GatesIdeal.Gen.facts := by
  unfold Cert.Gates.defs Cert.GatesIdeal.defs
  exact congrArg (Pipeline.defs _) defs₀_eq

theorem main_eq : @Cert.Gates.main F _ Cert.Gates.Gen.facts = @Cert.GatesIdeal.main F _ Cert.GatesIdeal.Gen.facts := rfl

open Cert.Gates in
/-- The printed program's frame. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  have h := GatesFrame.frame (F := F) m ρ
  rw [← defs_eq, ← main_eq] at h
  exact h

end Cert.Proof.GatesBits

end
-- ==== Proof.GatesValue.lean ====
/- Hand-written, untrusted: THE MERGE GATES' RESULT ARRAY at ideal values, as one function of the arrays their call is given:
   `½ tanh(½ x) + ½` of the product of the activations with the gates' columns of the weights. -/
module

public import proofs.«01_k».proof.Proof.GatesFrame
public import Idealize.ShloMosaic.Lib.Pipeline.Value
public import Idealize.ShloMosaic.Lib.Pointwise
public import Idealize.ShloMosaic.Lib.Tactic.WordOmega

@[expose] public section

set_option maxRecDepth 16384

noncomputable section

namespace Cert.Proof.GatesValue

open Cert.GatesIdeal Cert.GatesIdeal.Gen Cert.Proof.GatesBody Cert.Proof.GatesFrame
open Idealize.ShloMosaic Idealize.ShloMosaic.TcCoe Idealize.SL.Sem

/-! ### The payloads at an element -/

theorem pay25_at (a : Vec Ideal S1024x4096 .bf16) (w : Vec Ideal S1x4096x1024 .bf16) (r q : Fin 1024) :
    (k0_pay25 a w : S1024x1024.Idx → EReal) (ix2 r q)
      = ∑ k : Fin 4096, (a : S1024x4096.Idx → EReal) (ix2 r k) * (w : S1x4096x1024.Idx → EReal) (ix3 0 k q) := by
  unfold k0_pay25
  pointwise []

/-- The half-argument form of the sigmoid that the kernel computes. -/
def half (x : EReal) : EReal :=
  Ideal.ofBits .f32 0x3F000000#32 * Ideal.tanh (Ideal.ofBits .f32 0x3F000000#32 * x) + Ideal.ofBits .f32 0x3F000000#32

theorem gate_at (x : Vec Ideal S1024x1024 .f32) (r q : Fin 1024) :
    (gate x : S1024x1024.Idx → EReal) (ix2 r q) = half ((x : S1024x1024.Idx → EReal) (ix2 r q)) := by
  unfold gate half
  pointwise []

variable (m : (ℓ : Loc nD τ sig) → Buf (Elt Ideal) ℓ) (ρ : Dev nD → PrngReg) (c : Dev nD)

/-! ### The arrays the call is given, and its blocks -/

def Hm (r : Fin 16384) (k : Fin 4096) : EReal := (V m c main_v1 : S16384x4096.Idx → EReal) (ix2 r k)
def Wm (k : Fin 4096) (n : Fin 29696) : EReal := (V m c main_v2 : S4096x29696.Idx → EReal) (ix2 k n)

/-- The gates' columns begin at column 21504 of the weights. -/
def gcol (n : Fin 8192) : Fin 29696 := ⟨21504 + n.val, by omega⟩

/-- The result, element by element. -/
def outv (r : Fin 16384) (n : Fin 8192) : EReal := half (∑ k, Hm m c r k * Wm m c k (gcol n))

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = t.val % 16 ∧ win0_1.index t (1 : Fin 2) = t.val / 16 :=
  (by decide +kernel : ∀ t : Fin grid0.N, _)

theorem lt_N (t : Fin cfg0.N) : t.val < 128 := lt_of_lt_of_eq t.isLt (show cfg0.N = 128 from N_0)

/-- A row of row block `t % 16`, a column of column block `t / 16`. -/
def row (t : ℕ) (r : Fin 1024) : Fin 16384 := ⟨1024 * (t % 16) + r.val, by omega⟩
def col (t : ℕ) (ht : t < 128) (q : Fin 1024) : Fin 8192 := ⟨1024 * (t / 16) + q.val, by omega⟩

theorem iblk0_at (t : Fin cfg0.N) (r : Fin 1024) (k : Fin 4096) :
    (iblk m c 0 t : S1024x4096.Idx → EReal) (ix2 r k) = Hm m c (row t.val r) k := by
  obtain ⟨e0, e1⟩ := idx0 t
  refine congrArg (V m c main_v1 : S16384x4096.Idx → EReal) (funext fun a => Fin.ext ?_)
  match a with
  | 0 => show win0_0.index t (0 : Fin 2) * 1024 + 1 * r.val = 1024 * (t.val % 16) + r.val; omega
  | 1 => show win0_0.index t (1 : Fin 2) * 4096 + 1 * k.val = k.val; omega

/-- A chunk of the weights at an element, -/
theorem payload_at (W : Buf (Elt Ideal) (wM.view.loc (c : Thread nD τ))) (b : Fin 128) (p : Fin 256) (q : Fin 1024) :
    (payload c W b : S256x1024.Idx → EReal) (ix2 p q) = (W : S4096x29696.Idx → EReal)
      (ix2 ⟨256 * (b.val % 16) + p.val, by omega⟩ ⟨21504 + 1024 * (b.val / 16) + q.val, by omega⟩) := by
  refine congrArg (W : S4096x29696.Idx → EReal) (funext fun (a : Fin 2) => Fin.ext ?_)
  match a with
  | 0 => show 256 * (b.val % 16) + 1 * p.val = 256 * (b.val % 16) + p.val; omega
  | 1 => show 21504 + 1024 * (b.val / 16) + 1 * q.val = 21504 + 1024 * (b.val / 16) + q.val; omega

theorem chunk_at (W : Buf (Elt Ideal) (wM.view.loc (c : Thread nD τ))) (b : Fin 128) (p : Fin 256) (q : Fin 1024) :
    (chunk c W b : S1x256x1024.Idx → EReal) (ix3 0 p q) = (W : S4096x29696.Idx → EReal)
      (ix2 ⟨256 * (b.val % 16) + p.val, by omega⟩ ⟨21504 + 1024 * (b.val / 16) + q.val, by omega⟩) := by
  rw [← payload_at c W b p q]
  unfold chunk
  generalize payload c W b = x
  pointwise []

/-- and so the rounded weights' column block. -/
theorem wB_at (t : ℕ) (ht : t < 128) (k : Fin 4096) (q : Fin 1024) :
    (wB c (V m c main_v2) (t / 16) : S1x4096x1024.Idx → EReal) (ix3 0 k q) = Wm m c k (gcol (col t ht q)) := by
  have hb : (Ring.bk 128 (16 * (t / 16) + k.val / 256)).val = 16 * (t / 16) + k.val / 256 := Ring.bk_val (by omega)
  have hi : (fun a => match a with
      | 0 => ⟨0, by decide⟩
      | 1 => ⟨k.val % 256, Nat.mod_lt _ (by decide)⟩
      | 2 => q : S1x256x1024.Idx) = ix3 (0 : Fin 1) (⟨k.val % 256, Nat.mod_lt _ (by decide)⟩ : Fin 256) q := by
    funext a
    match a with
    | 0 => rfl
    | 1 => rfl
    | 2 => rfl
  refine (congrArg (chunk c (V m c main_v2) (Ring.bk 128 (16 * (t / 16) + k.val / 256)) : S1x256x1024.Idx → EReal) hi).trans ?_
  refine (chunk_at c _ _ _ q).trans ?_
  refine congrArg (V m c main_v2 : S4096x29696.Idx → EReal) (funext fun a => Fin.ext ?_)
  match a with
  | 0 =>
    show 256 * ((Ring.bk 128 (16 * (t / 16) + k.val / 256)).val % 16) + k.val % 256 = k.val
    rw [hb]; omega
  | 1 =>
    show 21504 + 1024 * ((Ring.bk 128 (16 * (t / 16) + k.val / 256)).val / 16) + q.val = 21504 + (1024 * (t / 16) + q.val)
    rw [hb]; omega

/-! ### What the points write -/

theorem res_at (t : Fin cfg0.N) (r q : Fin 1024) :
    (res m c t : S1024x1024.Idx → EReal) (ix2 r q) = outv m c (row t.val r) (col t.val (lt_N t) q) := by
  unfold res outv
  rw [gate_at, pay25_at]
  refine congrArg half (Finset.sum_congr rfl fun k _ => ?_)
  rw [iblk0_at, wB_at m c t.val (lt_N t)]

/-! ### The result array -/

def resA : S16384x8192.Idx → EReal := fun y => outv m c (y 0) (y 1)

/-- What a point writes back is its block of the result. -/
theorem flushed_eq (t : Fin cfg0.N) :
    (dats m 0 c).flushed 1 t = ((cfg0.win 1).blk t).view.read (Elt Ideal) (resA m c) := by
  obtain ⟨e0, e1⟩ := idx1 t
  unfold Pipeline.Dat.flushed
  rw [after0_1]
  funext j
  have hj : j = (ix2 (⟨(j 0).val, (j 0).isLt⟩ : Fin 1024) (⟨(j 1).val, (j 1).isLt⟩ : Fin 1024) : S1024x1024.Idx) := by
    funext a
    match a with
    | 0 => rfl
    | 1 => rfl
  refine (congrArg (res m c t : S1024x1024.Idx → EReal) hj).trans ((res_at m c t _ _).trans ?_)
  show outv m c _ _ = outv m c _ _
  congr 1 <;> apply Fin.ext
  · show 1024 * (t.val % 16) + (j 0).val = win0_1.index t (0 : Fin 2) * 1024 + 1 * (j 0).val; omega
  · show 1024 * (t.val / 16) + (j 1).val = win0_1.index t (1 : Fin 2) * 1024 + 1 * (j 1).val; omega

theorem covered (i : S16384x8192.Idx) :
    ∃ t : Fin cfg0.N, (cfg0.win 1).flush t = true ∧ i ∈ ((cfg0.win 1).blk t).view.set := by
  have h0 : (i 0).val < 16384 := (i 0).isLt
  have h1 : (i 1).val < 8192 := (i 1).isLt
  have ht : 16 * ((i 1).val / 1024) + (i 0).val / 1024 < 128 := by omega
  refine ⟨(⟨16 * ((i 1).val / 1024) + (i 0).val / 1024, ht⟩ : Fin cfg0.N), flush0_1 _, ?_⟩
  obtain ⟨e0, e1⟩ := idx1 ⟨16 * ((i 1).val / 1024) + (i 0).val / 1024, ht⟩
  have h := ((cfg0.win 1).blk (⟨16 * ((i 1).val / 1024) + (i 0).val / 1024, ht⟩ : Fin cfg0.N)).view.emb_mem_set
    (ix2 (⟨(i 0).val % 1024, by omega⟩ : Fin 1024) (⟨(i 1).val % 1024, by omega⟩ : Fin 1024) : S1024x1024.Idx)
  refine Eq.mp (congrArg (· ∈ _) (?_ : _ = i)) h
  refine funext fun a => Fin.ext ?_
  match a with
  | 0 => show win0_1.index _ (0 : Fin 2) * 1024 + 1 * ((i 0).val % 1024) = (i 0).val; rw [e0]; dsimp only; omega
  | 1 => show win0_1.index _ (1 : Fin 2) * 1024 + 1 * ((i 1).val % 1024) = (i 1).val; rw [e1]; dsimp only; omega

/-- The result array after the run. -/
theorem final : (dats m 0 c).arrAt 1 cfg0.N = resA m c :=
  (dats m 0 c).arrAt_eq_of_cover 1 (resA m c) (fun t _ => flushed_eq m c t) covered

end Cert.Proof.GatesValue

end
-- ==== Proof.GatesMatch.lean ====
/- Hand-written, untrusted: THE MERGE GATES' RESULT IS THEIR REFERENCE'S. The host's re-laying out of the arguments read at an
   element, the reference's operations read at an element, and the one difference between the two: the kernel's sigmoid is
   `½ tanh(½ x) + ½`, the reference's is `1 / (1 + e⁻ˣ)`; at the infinities too the two are one number. -/
module

public import proofs.«01_k».proof.Proof.GatesValue
public import proofs.«01_k».proof.Proof.Gen.GatesReferenceIdeal.Read
public import Idealize.ShloMosaic.Lib.Claim
public import Idealize.ShloMosaic.Lib.StableHlo.ReadAt

@[expose] public section

noncomputable section

namespace Cert.Proof.GatesValue

open Cert.GatesIdeal Cert.GatesIdeal.Gen Cert.Proof.GatesFrame
open Idealize.ShloMosaic Idealize.ShloMosaic.TcCoe Idealize.SL.Sem

/-! ### The reference at an element -/

section
open Cert.GatesReferenceIdeal.Read
variable (h : S4x4096x4096.Idx → EReal) (w : S1x4096x29696.Idx → EReal)

/-- The product, at a sequence, a position and a column. -/
def pR (b : Fin 4) (s : Fin 4096) (n : Fin 8192) : EReal := ∑ k : Fin 4096, h (ix3 b s k) * w (ix3 0 k (gcol n))

theorem v2_at (b : Fin 4) (s : Fin 4096) (n : Fin 8192) : val_main_v2 (F := Ideal) h w (ix3 b s n) = pR h w b s n := by
  unfold val_main_v2 val_main_v1 val_main_v0 pR gcol
  pointwise []

theorem v10_at (r : Fin 16384) (n : Fin 8192) : val_main_v10 (F := Ideal) h w (ix2 r n)
    = Ideal.div (Ideal.ofBits .f32 0x3F800000#32) (Ideal.ofBits .f32 0x3F800000#32
        + Ideal.exp (-pR h w ⟨r.val / 4096, by omega⟩ ⟨r.val % 4096, by omega⟩ n)) := by
  rw [← v2_at]
  unfold val_main_v10 val_main_v9 val_main_v8 val_main_v7 val_main_v6 val_main_v5 val_main_v4 val_main_v3 val_main_cst val_main_cst_0
  generalize val_main_v2 (F := Ideal) h w = y
  pointwise []
end

/-- The two forms of the sigmoid are one function, the infinities included. -/
theorem half_eq (x : EReal) : half x = Ideal.div (Ideal.ofBits .f32 0x3F800000#32) (Ideal.ofBits .f32 0x3F800000#32 + Ideal.exp (-x)) := by
  have h1 : Ideal.ofBits .f32 0x3F800000#32 = ((1 : ℝ) : EReal) := by
    simp [Ideal.ofBits, Ideal.ieee, -EReal.coe_mul]; norm_num
  have h2 : Ideal.ofBits .f32 0x3F000000#32 = ((1 / 2 : ℝ) : EReal) := by
    simp [Ideal.ofBits, Ideal.ieee, -EReal.coe_mul]; norm_num
  unfold half Ideal.div
  rw [h1, h2]
  induction x with
  | bot =>
    rw [EReal.coe_mul_bot_of_pos (by norm_num)]
    show ((1 / 2 : ℝ) : EReal) * -1 + ((1 / 2 : ℝ) : EReal) = _
    rw [EReal.neg_bot]
    show _ = if ((1 : ℝ) : EReal) + ⊤ = 0 then _ else ((1 : ℝ) : EReal) * (((1 : ℝ) : EReal) + ⊤)⁻¹
    rw [EReal.coe_add_top, if_neg EReal.top_ne_zero, EReal.inv_top, mul_zero]
    rw [show (-1 : EReal) = ((-1 : ℝ) : EReal) by rw [EReal.coe_neg, EReal.coe_one], ← EReal.coe_mul, ← EReal.coe_add]
    norm_num
  | top =>
    rw [EReal.coe_mul_top_of_pos (by norm_num)]
    show ((1 / 2 : ℝ) : EReal) * 1 + ((1 / 2 : ℝ) : EReal) = _
    rw [EReal.neg_top]
    show _ = if ((1 : ℝ) : EReal) + 0 = 0 then _ else ((1 : ℝ) : EReal) * (((1 : ℝ) : EReal) + 0)⁻¹
    rw [add_zero, if_neg (EReal.coe_ne_zero.2 (by norm_num)), ← EReal.coe_inv, ← EReal.coe_mul, mul_one, ← EReal.coe_add]
    norm_num
  | coe x =>
    rw [← EReal.coe_mul, ← EReal.coe_neg]
    show ((1 / 2 : ℝ) : EReal) * (Real.tanh (1 / 2 * x) : EReal) + ((1 / 2 : ℝ) : EReal)
      = if ((1 : ℝ) : EReal) + (Real.exp (-x) : EReal) = 0 then _ else ((1 : ℝ) : EReal) * (((1 : ℝ) : EReal) + (Real.exp (-x) : EReal))⁻¹
    have hp : 0 < 1 + Real.exp (-x) := by positivity
    rw [← EReal.coe_add, if_neg (EReal.coe_ne_zero.2 hp.ne'), ← EReal.coe_inv, ← EReal.coe_mul, ← EReal.coe_mul, ← EReal.coe_add]
    refine congrArg _ ?_
    have ha : 0 < Real.exp (1 / 2 * x) := Real.exp_pos _
    have e1 : Real.exp (-(1 / 2 * x)) = (Real.exp (1 / 2 * x))⁻¹ := Real.exp_neg _
    have e2 : Real.exp (-x) = (Real.exp (1 / 2 * x))⁻¹ * (Real.exp (1 / 2 * x))⁻¹ := by
      rw [← e1, ← Real.exp_add]; congr 1; ring
    rw [Real.tanh_eq_sinh_div_cosh, Real.sinh_eq, Real.cosh_eq, e1, e2]
    generalize Real.exp (1 / 2 * x) = u at ha
    have hu : u ≠ 0 := ha.ne'
    have hs : u ^ 2 + 1 ≠ 0 := by positivity
    have hs' : u + u⁻¹ ≠ 0 := by positivity
    have hs'' : 1 + u⁻¹ * u⁻¹ ≠ 0 := by positivity
    field_simp
    ring

/-! ### The arrays the call is given, as the arguments -/

variable (m : (ℓ : Loc nD τ sig) → Buf (Elt Ideal) ℓ) (c : Dev nD)

/-- The arguments as the caller stores them: the activations, and the in-projection's weights. -/
def hA : S4x4096x4096.Idx → EReal := m ((c : Thread nD τ).loc main_arg0)
def wA : S1x4096x29696.Idx → EReal := m ((c : Thread nD τ).loc main_arg1)

theorem Hm_eq (r : Fin 16384) (k : Fin 4096) : Hm m c r k = hA m c (ix3 ⟨r.val / 4096, by omega⟩ ⟨r.val % 4096, by omega⟩ k) := by
  unfold Hm
  entry_read
  pointwise []
  rfl
theorem Wm_eq (k : Fin 4096) (n : Fin 29696) : Wm m c k n = wA m c (ix3 0 k n) := by
  unfold Wm
  entry_read
  pointwise []
  rfl

/-- The kernel's result is the reference's, element by element. -/
theorem outv_eq (r : Fin 16384) (n : Fin 8192) :
    outv m c r n = Cert.GatesReferenceIdeal.Read.val_main_v10 (F := Ideal) (hA m c) (wA m c) (ix2 r n) := by
  rw [v10_at, ← half_eq]
  unfold outv pR
  simp only [Hm_eq, Wm_eq]

theorem resA_eq : resA m c = Cert.GatesReferenceIdeal.Read.val_main_v10 (F := Ideal) (hA m c) (wA m c) := by
  funext y
  have hy : y = ix2 (⟨(y 0).val, (y 0).isLt⟩ : Fin 16384) (⟨(y 1).val, (y 1).isLt⟩ : Fin 8192) := by
    funext a
    match a with
    | 0 => rfl
    | 1 => rfl
  exact Eq.trans rfl ((outv_eq m c _ _).trans (congrArg _ hy.symm))

end Cert.Proof.GatesValue

end
-- ==== Proof.SiluBody.lean ====
/- Hand-written, untrusted: ONE RUN OF THE BRANCH GATES' BODY, in each of its five cases. The weights come from HBM in chunks of 256
   rows by 1024 columns, 128 of them, 16 to a column block; point `t` starts chunk `t + 16` into one of two staging slots and waits
   for chunk `t + 15` in the other, rounds it, and puts it in its half of the rounded weights; the first point fetches the sixteen
   chunks of the first column block itself. Then the point multiplies its block of rows by its column block of the weights. -/
module

public import proofs.«01_k».proof.Proof.Gen.SiluIdeal.Launch
public import proofs.«01_k».proof.Proof.Gen.SiluIdeal.Skeleton
public import proofs.«01_k».proof.Proof.Gen.SiluIdeal.Points
public import Idealize.ShloMosaic.Lib.VecWindow
public import Idealize.ShloMosaic.Lib.Transfers
public import Idealize.ShloMosaic.Lib.Ring

@[expose] public section

set_option maxRecDepth 16384

noncomputable section

namespace Cert.Proof.SiluBody

open Cert.SiluIdeal Cert.SiluIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

/-! ### Names for the chunks, the staging slots and their semaphores -/

/-- The weights, whole, in HBM; the rounded weights; the two staging slots. -/
abbrev wM : Memref sig .tc .hbm S4096x29696 .f32 := Memref.whole main_v2
abbrev wbM : Memref sig .tc .vmem S2x4096x1024 .bf16 := Memref.whole cc0_scratch0
abbrev bufM : Memref sig .tc .vmem S2x256x1024 .f32 := Memref.whole cc0_scratch1

abbrev grpOff (b : Fin 128) : Fin 2 → ℕ := ![256 * (b.val % 16), 5120 + 1024 * (b.val / 16) + 8192 * (b.val / 64)]
theorem grpOff_inb (b : Fin 128) : ∀ a, grpOff b a + S256x1024.size a ≤ S4096x29696.size a := fun a => by
  have := b.isLt
  match a with
  | 0 => show 256 * (b.val % 16) + 256 ≤ 4096; omega
  | 1 => show 5120 + 1024 * (b.val / 16) + 8192 * (b.val / 64) + 1024 ≤ 29696; omega
abbrev slotOff (s : Fin 2) : Fin 3 → ℕ := ![s.val, 0, 0]
theorem slotOff_inb (s : Fin 2) : ∀ a, slotOff s a + S1x256x1024.size a ≤ S2x256x1024.size a := fun a => by
  have := s.isLt
  match a with
  | 0 => show s.val + 1 ≤ 2; omega
  | 1 => exact Nat.le_refl _
  | 2 => exact Nat.le_refl _
abbrev semOff (s : Fin 2) : Fin 1 → ℕ := ![s.val]
theorem semOff_inb (s : Fin 2) : ∀ a, semOff s a + S1.size a ≤ S2.size a := fun a => by
  have := s.isLt
  match a with
  | 0 => show s.val + 1 ≤ 2; omega

/-- Chunk `b` of the weights, -/
def grp (b : Fin 128) : Memref sig .tc .hbm S256x1024 .f32 :=
  wM.slice (Rect.unit (s := S4096x29696) (grpOff b) S256x1024.size (grpOff_inb b)) (fun _ => rfl)
/-- staging slot `s`, -/
def rslot (s : Fin 2) : Memref sig .tc .vmem S256x1024 .f32 :=
  (bufM.slice (Rect.unit (s := S2x256x1024) (slotOff s) S1x256x1024.size (slotOff_inb s)) (fun _ => rfl)).squeeze S256x1024 squeezes_S1x256x1024_S256x1024
/-- and its semaphore. -/
def csm (s : Fin 2) : DmaSems sig S_ := (cc0_scratch2.slice (Rect.unit (s := S2) (semOff s) S1.size (semOff_inb s))).squeeze S_ squeezes_S1_S_

instance (s : Fin 2) : ClosedOff (slotOff s) := ⟨slotOff s, rfl⟩
instance (b : Fin 128) : ClosedOff (grpOff b) := ⟨grpOff b, rfl⟩

/-! ### The offsets in closed form -/

theorem cond1_iff : ∀ t : Fin grid0.N, k0_cond1 (grid0.coords t) = 1#1 ↔ t.val = 0 := by decide +kernel
theorem cond2_iff : ∀ t : Fin grid0.N, k0_cond2 (grid0.coords t) = 1#1 ↔ t.val < 112 := by decide +kernel
theorem cond3_iff : ∀ t : Fin grid0.N, k0_cond3 (grid0.coords t) = 1#1 ↔ t.val < 112 ∧ t.val % 16 ≠ 0 := by decide +kernel
theorem cond4_iff : ∀ t : Fin grid0.N, k0_cond4 (grid0.coords t) = 1#1 ↔ 0 < t.val ∧ t.val % 16 = 0 := by decide +kernel
theorem off1_eq : ∀ t : Fin grid0.N, k0_off17 (grid0.coords t) = semOff (Ring.sl 2 (t.val + 16)) := by decide +kernel
theorem off2_eq : ∀ t : Fin grid0.N, k0_off18 (grid0.coords t) = slotOff (Ring.sl 2 (t.val + 16)) := by decide +kernel
theorem off3_eq : ∀ t : Fin grid0.N, t.val < 112 → k0_off19 (grid0.coords t) = grpOff (Ring.bk 128 (t.val + 16)) := by decide +kernel
theorem off4_eq : ∀ t : Fin grid0.N, t.val % 16 ≠ 0 → k0_off20 (grid0.coords t) = semOff (Ring.sl 2 (t.val + 15)) := by decide +kernel
theorem off5_eq : ∀ t : Fin grid0.N, t.val % 16 ≠ 0 → k0_off21 (grid0.coords t) = slotOff (Ring.sl 2 (t.val + 15)) := by decide +kernel
theorem off6_eq : ∀ t : Fin grid0.N, t.val < 112 → t.val % 16 ≠ 0 → k0_off22 (grid0.coords t) = grpOff (Ring.bk 128 (t.val + 15)) := by decide +kernel
theorem off7_eq : ∀ t : Fin grid0.N, k0_off23 (grid0.coords t) = slotOff (Ring.sl 2 (t.val + 15)) := by decide +kernel
theorem off8_eq : ∀ t : Fin grid0.N, t.val < 112 → t.val % 16 ≠ 0 →
    k0_off24 (grid0.coords t) = ![(t.val + 15) / 16 % 2, 256 * ((t.val + 15) % 16), 0] := by decide +kernel
theorem off9_eq : ∀ t : Fin grid0.N, 0 < t.val → t.val % 16 = 0 → k0_off25 (grid0.coords t) = grpOff (Ring.bk 128 (t.val + 15)) := by decide +kernel
theorem off10_eq : ∀ t : Fin grid0.N, 0 < t.val → t.val % 16 = 0 →
    k0_off26 (grid0.coords t) = ![(t.val + 15) / 16 % 2, 256 * ((t.val + 15) % 16), 0] := by decide +kernel
theorem off11_eq : ∀ t : Fin grid0.N, k0_off27 (grid0.coords t) = ![t.val / 16 % 2, 0, 0] := by decide +kernel
theorem sl_one : ∀ t : Fin grid0.N, t.val % 16 = 0 → Ring.sl 2 (t.val + 15) = 1 := by decide +kernel
theorem sl_zero : ∀ t : Fin grid0.N, t.val % 16 = 0 → Ring.sl 2 (t.val + 16) = 0 := by decide +kernel

/-! ### The body's slices under those names -/

private theorem csm_congr {off : Fin 1 → ℕ} {s : Fin 2} (e : off = semOff s) (hh) :
    (cc0_scratch2.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → ℕ} {s : Fin 2} (e : off = slotOff s) (hh hs) :
    (bufM.slice (Rect.unit (s := S2x256x1024) off S1x256x1024.size hh) hs).squeeze S256x1024 squeezes_S1x256x1024_S256x1024 = rslot s :=
  congrArg (fun M : Memref sig .tc .vmem S1x256x1024 .f32 => M.squeeze S256x1024 squeezes_S1x256x1024_S256x1024) (Memref.slice_unit_congr _ e _ _ _ _)
private theorem grp_congr {off : Fin 2 → ℕ} {b : Fin 128} (e : off = grpOff b) (hh hs) :
    wM.slice (Rect.unit (s := S4096x29696) off S256x1024.size hh) hs = grp b := Memref.slice_unit_congr _ e _ _ _ fun _ => rfl

@[sl_canon] theorem semL0 (hh) : (cc0_scratch2.slice (Rect.unit (s := S2) ![0] S1.size hh)).squeeze S_ squeezes_S1_S_ = csm 0 := csm_congr (by decide) _
@[sl_canon] theorem semL1 (hh) : (cc0_scratch2.slice (Rect.unit (s := S2) ![1] S1.size hh)).squeeze S_ squeezes_S1_S_ = csm 1 := csm_congr (by decide) _
@[sl_canon] theorem slotL0 (hh hs) : (bufM.slice (Rect.unit (s := S2x256x1024) ![0, 0, 0] S1x256x1024.size hh) hs).squeeze S256x1024 squeezes_S1x256x1024_S256x1024 = rslot 0 := rslot_congr (by decide) _ _
@[sl_canon] theorem slotL1 (hh hs) : (bufM.slice (Rect.unit (s := S2x256x1024) ![1, 0, 0] S1x256x1024.size hh) hs).squeeze S256x1024 squeezes_S1x256x1024_S256x1024 = rslot 1 := rslot_congr (by decide) _ _
@[sl_canon] theorem grpL0 (hh hs) : wM.slice (Rect.unit (s := S4096x29696) k0_off1 S256x1024.size hh) hs = grp 0 := grp_congr (by decide +kernel) _ _
@[sl_canon] theorem grpL1 (hh hs) : wM.slice (Rect.unit (s := S4096x29696) k0_off2 S256x1024.size hh) hs = grp 1 := grp_congr (by decide +kernel) _ _
@[sl_canon] theorem grpL2 (hh hs) : wM.slice (Rect.unit (s := S4096x29696) k0_off3 S256x1024.size hh) hs = grp 2 := grp_congr (by decide +kernel) _ _
@[sl_canon] theorem grpL3 (hh hs) : wM.slice (Rect.unit (s := S4096x29696) k0_off4 S256x1024.size hh) hs = grp 3 := grp_congr (by decide +kernel) _ _
@[sl_canon] theorem grpL4 (hh hs) : wM.slice (Rect.unit (s := S4096x29696) k0_off5 S256x1024.size hh) hs = grp 4 := grp_congr (by decide +kernel) _ _
@[sl_canon] theorem grpL5 (hh hs) : wM.slice (Rect.unit (s := S4096x29696) k0_off6 S256x1024.size hh) hs = grp 5 := grp_congr (by decide +kernel) _ _
@[sl_canon] theorem grpL6 (hh hs) : wM.slice (Rect.unit (s := S4096x29696) k0_off7 S256x1024.size hh) hs = grp 6 := grp_congr (by decide +kernel) _ _
@[sl_canon] theorem grpL7 (hh hs) : wM.slice (Rect.unit (s := S4096x29696) k0_off8 S256x1024.size hh) hs = grp 7 := grp_congr (by decide +kernel) _ _
@[sl_canon] theorem grpL8 (hh hs) : wM.slice (Rect.unit (s := S4096x29696) k0_off9 S256x1024.size hh) hs = grp 8 := grp_congr (by decide +kernel) _ _
@[sl_canon] theorem grpL9 (hh hs) : wM.slice (Rect.unit (s := S4096x29696) k0_off10 S256x1024.size hh) hs = grp 9 := grp_congr (by decide +kernel) _ _
@[sl_canon] theorem grpL10 (hh hs) : wM.slice (Rect.unit (s := S4096x29696) k0_off11 S256x1024.size hh) hs = grp 10 := grp_congr (by decide +kernel) _ _
@[sl_canon] theorem grpL11 (hh hs) : wM.slice (Rect.unit (s := S4096x29696) k0_off12 S256x1024.size hh) hs = grp 11 := grp_congr (by decide +kernel) _ _
@[sl_canon] theorem grpL12 (hh hs) : wM.slice (Rect.unit (s := S4096x29696) k0_off13 S256x1024.size hh) hs = grp 12 := grp_congr (by decide +kernel) _ _
@[sl_canon] theorem grpL13 (hh hs) : wM.slice (Rect.unit (s := S4096x29696) k0_off14 S256x1024.size hh) hs = grp 13 := grp_congr (by decide +kernel) _ _
@[sl_canon] theorem grpL14 (hh hs) : wM.slice (Rect.unit (s := S4096x29696) k0_off15 S256x1024.size hh) hs = grp 14 := grp_congr (by decide +kernel) _ _
@[sl_canon] theorem grpL15 (hh hs) : wM.slice (Rect.unit (s := S4096x29696) k0_off16 S256x1024.size hh) hs = grp 15 := grp_congr (by decide +kernel) _ _

section Canon
variable (t : Fin grid0.N)
@[sl_canon] theorem semI (hh) : (cc0_scratch2.slice (Rect.unit (s := S2) (k0_off17 (grid0.coords t)) S1.size hh)).squeeze S_ squeezes_S1_S_ = csm (Ring.sl 2 (t.val + 16)) := csm_congr (off1_eq t) _
@[sl_canon] theorem slotI (hh hs) : (bufM.slice (Rect.unit (s := S2x256x1024) (k0_off18 (grid0.coords t)) S1x256x1024.size hh) hs).squeeze S256x1024 squeezes_S1x256x1024_S256x1024 = rslot (Ring.sl 2 (t.val + 16)) := rslot_congr (off2_eq t) _ _
@[sl_canon] theorem grpI (ht : t.val < 112) (hh hs) : wM.slice (Rect.unit (s := S4096x29696) (k0_off19 (grid0.coords t)) S256x1024.size hh) hs = grp (Ring.bk 128 (t.val + 16)) := grp_congr (off3_eq t ht) _ _
@[sl_canon] theorem semW (hm : t.val % 16 ≠ 0) (hh) : (cc0_scratch2.slice (Rect.unit (s := S2) (k0_off20 (grid0.coords t)) S1.size hh)).squeeze S_ squeezes_S1_S_ = csm (Ring.sl 2 (t.val + 15)) := csm_congr (off4_eq t hm) _
@[sl_canon] theorem slotW (hm : t.val % 16 ≠ 0) (hh hs) : (bufM.slice (Rect.unit (s := S2x256x1024) (k0_off21 (grid0.coords t)) S1x256x1024.size hh) hs).squeeze S256x1024 squeezes_S1x256x1024_S256x1024 = rslot (Ring.sl 2 (t.val + 15)) := rslot_congr (off5_eq t hm) _ _
@[sl_canon] theorem grpW (ht : t.val < 112) (hm : t.val % 16 ≠ 0) (hh hs) : wM.slice (Rect.unit (s := S4096x29696) (k0_off22 (grid0.coords t)) S256x1024.size hh) hs = grp (Ring.bk 128 (t.val + 15)) := grp_congr (off6_eq t ht hm) _ _
@[sl_canon] theorem grpE (h0 : 0 < t.val) (hm : t.val % 16 = 0) (hh hs) : wM.slice (Rect.unit (s := S4096x29696) (k0_off25 (grid0.coords t)) S256x1024.size hh) hs = grp (Ring.bk 128 (t.val + 15)) := grp_congr (off9_eq t h0 hm) _ _
instance : ClosedOff (k0_off23 (grid0.coords t)) := ⟨_, off7_eq t⟩
end Canon

/-! ### The pieces: a chunk at home, a slot, its semaphore, a slot in flight -/

section Pieces
variable (c : Dev nD) (q : PosShare TreeShare) (W : Buf (Elt F) (wM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
abbrev homeP (b : Fin 128) : sProp 𝕄 := (grp b).view.loc (c : Thread nD τ) ↦[(grp b).view.set]{q} W
/-- Chunk `b` as a transfer carries it. -/
abbrev payload (b : Fin 128) : S256x1024.Idx → Elt F .f32 := ReadAs.same.apply ((grp b).view.read (Elt F) W)
abbrev landed (s : Fin 2) (b : Fin 128) (f : Buf (Elt F) ((rslot s).view.loc (c : Thread nD τ))) : Buf (Elt F) ((rslot s).view.loc (c : Thread nD τ)) :=
  (rslot s).view.writes (Elt F) f [⟨Rect.whole S256x1024, payload c W b⟩]
/-- Slot `s` with chunk `b` on its way into it. -/
abbrev flightP (s : Fin 2) (b : Fin 128) (f : Buf (Elt F) ((rslot s).view.loc (c : Thread nD τ))) : sProp 𝕄 :=
  Transfers.Flight countersEmb (c : Thread nD τ) (SemLoc.dma (csm s).sem) () 32768 iprop(slotP c s (landed c W s b f) ∗ homeP c q W b)
end Pieces

/-! ### What the body computes -/

/-- Where chunk `g` goes in the rounded weights. -/
abbrev wbOff (g : ℕ) : Fin 3 → ℕ := ![g / 16 % 2, 256 * (g % 16), 0]
/-- Chunk `b`, rounded. -/
def chunk (c : Dev nD) (W : Buf (Elt F) (wM.view.loc (c : Thread nD τ))) (b : Fin 128) : Vec F S1x256x1024 .bf16 :=
  shapeCast S1x256x1024 (truncf .bf16 (payload c W b) bitsLt_bf16_f32) shapeCasts_S256x1024_S1x256x1024
/-- The rounded weights with chunk `g` put in. -/
def putChunk (c : Dev nD) (W : Buf (Elt F) (wM.view.loc (c : Thread nD τ))) (g : ℕ) (wb : Vec F S2x4096x1024 .bf16) : Vec F S2x4096x1024 .bf16 :=
  VecWindow.put (s := S2x4096x1024) wb (wbOff g) S1x256x1024.size (chunk c W (Ring.bk 128 g))

/-- A load of a slot just filled is the chunk that filled it. -/
theorem slotRead (c : Dev nD) (s : Fin 2) {off : Fin 3 → ℕ} (h : off = slotOff s) (inb : ∀ a, off a + S1x256x1024.size a ≤ S2x256x1024.size a)
    (f : Buf (Elt F) ((rslot s).view.loc (c : Thread nD τ))) (p : S256x1024.Idx → Elt F .f32) :
    shapeCast S256x1024 (bufM.view.readAt (Elt F) (Rect.unit (s := S2x256x1024) off S1x256x1024.size inb).toLoadRect
      ((rslot s).view.writes (Elt F) f [⟨Rect.whole S256x1024, p⟩])) shapeCasts_S1x256x1024_S256x1024 = p := by
  subst h
  exact View.read_writes_whole (rslot s).view f p

/-- The product's SiLU as the body computes it: `½x tanh(½x) + ½x`, rounded. -/
def gate (x : Vec F S1024x1024 .f32) : Vec F S1024x1024 .bf16 :=
  truncf .bf16 (addf (mulf (mulf (broadcast S1024x1024 (Scalar.ofBits .f32 0x3F000000#32)) x) (tanh (mulf (broadcast S1024x1024 (Scalar.ofBits .f32 0x3F000000#32)) x)))
    (mulf (broadcast S1024x1024 (Scalar.ofBits .f32 0x3F000000#32)) x)) bitsLt_bf16_f32

/-- Windows of one vector put over any other, where they reach, leave that vector. -/
theorem put_window {α : Type} {S : Shape} (G o : S.Idx → α) (off size : Fin S.rank → ℕ) (inb) (y : S.Idx) :
    VecWindow.put o off size (VecWindow.window G off size inb) y
      = if ∀ a, off a ≤ (y a).val ∧ (y a).val < off a + size a then G y else o y := by
  unfold VecWindow.put
  by_cases h : ∀ a, off a ≤ (y a).val ∧ (y a).val < off a + size a
  · rw [dif_pos h, if_pos h]
    unfold VecWindow.window
    congr 1
    funext a
    refine Fin.ext ?_
    have e : ((Rect.unit off size inb).emb (Rect.unitLocal (s := S) (off := off) (size := size) y h) a).val = off a + 1 * ((y a).val - off a) := rfl
    have := h a
    omega
  · rw [dif_neg h, if_neg h]

variable (c : Dev nD) (t : Fin grid0.N) (q q' : PosShare TreeShare) (W : Buf (Elt F) (wM.view.loc (c : Thread nD τ)))
  (arg2 : Memref sig .tc .vmem S1024x4096 .bf16) (harg2 : arg2.IsWhole) (arg4 : Memref sig .tc .vmem S1024x1024 .bf16) (harg4 : arg4.IsWhole)
  (arg5 : Memref sig .tc .vmem S2x4096x1024 .bf16) (harg5 : arg5.IsWhole)
  (a : Vec F S1024x4096 .bf16) (wb : Vec F S2x4096x1024 .bf16) (o : Vec F S1024x1024 .bf16)

/-- The body at point `t`: -/
abbrev bodyG : Prog (TpuEff nD τ sig (Elt F) Λ₀ .tc) PUnit :=
  cc0_in_proj_silu (grid0.coords t) arg2 harg2 wM (Memref.isWhole_whole _) arg4 harg4 arg5 harg5 bufM (Memref.isWhole_whole _) cc0_scratch2
/-- its first part, which fetches weights and reads the point's block of rows, -/
abbrev headG : Prog (TpuEff nD τ sig (Elt F) Λ₀ .tc) (FVec F S1024x4096 .bf16) :=
  k0_part18 (grid0.coords t) arg2 harg2 wM (Memref.isWhole_whole _) arg4 harg4 arg5 harg5 bufM (Memref.isWhole_whole _) cc0_scratch2
/-- and the rest of it, which multiplies and writes. -/
def tailG (v31 : FVec F S1024x4096 .bf16) : Prog (TpuEff nD τ sig (Elt F) Λ₀ .tc) PUnit := do
  let ⟨v35, v65, v67⟩ : Σ' (v35 : FVec F S1024x1024 .f32) (v65 : FVec F S1024x128 .f32), FVec F S1024x128 .f32 ← k0_part19 (grid0.coords t) arg2 harg2 wM (Memref.isWhole_whole _) arg4 harg4 arg5 harg5 bufM (Memref.isWhole_whole _) cc0_scratch2 v31
  let ⟨v99, cst_47⟩ : Σ' (v99 : FVec F S1024x128 .f32), F .f32 ← k0_part20 (grid0.coords t) arg2 harg2 wM (Memref.isWhole_whole _) arg4 harg4 arg5 harg5 bufM (Memref.isWhole_whole _) cc0_scratch2 v35 v65 v67
  let v106 : Memref sig .tc .vmem S1024x1024 .bf16 := arg4.slice (Rect.unit (s := S1024x1024) ![0, 0] S1024x1024.size inb_S1024x1024_S1024x1024_0_0) (fun _ => rfl)
  let v107 : Vec F S1024x128 .bf16 ← Prog.lift (.load v106 (Rect.unit (s := S1024x1024) ![0, 896] S1024x128.size inb_S1024x1024_S1024x128_0_896).toLoadRect (View.loadsAt_vmem h_S1024x128))
  Prog.lift (.store arg4 (Rect.unit (s := S1024x1024) ![0, 896] S1024x128.size inb_S1024x1024_S1024x128_0_896) (k0_pay1 v99 cst_47) Finset.univ (View.stores_vmem h_S1024x128 (harg4.storeExact_slice rfl _ packedbf16_S1024x1024_S1024x128_0_896) (fun _ => rfl)) (.inl rfl))
  pure ⟨⟩

theorem bodyG_eq : bodyG (F := F) t arg2 harg2 arg4 harg4 arg5 harg5
    = (headG t arg2 harg2 arg4 harg4 arg5 harg5 >>= tailG t arg2 harg2 arg4 harg4 arg5 harg5) := by
  unfold bodyG
  rw [cc0_in_proj_silu_eq_skeleton]
  rfl

/-! ### Loads and stores of whole memrefs -/

/-- What a store leaves in a buffer that held what `f` reads: the payload put there. -/
theorem putAt {sp : Space} {S : Shape} {e : EltTy} (v : View sig .tc sp S e) (f : v.ty.Contents (Elt F)) {u : Vec F S e}
    (hf : v.read (Elt F) f = u) (off size : Fin S.rank → ℕ) (inb : ∀ a, off a + size a ≤ S.size a)
    (z : (Rect.unit off size inb).shape.Idx → Elt F e) :
    v.read (Elt F) (v.writes (Elt F) f [⟨Rect.unit off size inb, z⟩]) = VecWindow.put u off size z := by
  rw [View.read_writes_cons_put v f inb z [] rfl, View.writes_nil, hf]

/-- A load of the whole of what `f` reads. -/
theorem readAll {sp : Space} {S : Shape} {e : EltTy} (v : View sig .tc sp S e) (f : v.ty.Contents (Elt F)) {u : Vec F S e}
    (hf : v.read (Elt F) f = u) {off : Fin S.rank → ℕ} (inb : ∀ a, off a + S.size a ≤ S.size a) :
    v.readAt (Elt F) (Rect.unit off S.size inb).toLoadRect f = u := (View.readAt_full v f inb).trans hf

/-! ### The rest: the product and its eight groups of columns -/

/-- The point's column block of the rounded weights. -/
def wBlk (i : grid0.Coords) (wb : Vec F S2x4096x1024 .bf16) : Vec F S1x4096x1024 .bf16 :=
  VecWindow.window wb (k0_off27 i) S1x4096x1024.size (k0_off27_inb i)

/-- A slice of a block is its window there. -/
theorem slice_window {α : Type} (x : S1024x1024.Idx → α) (off : Fin 2 → ℕ) (h : S1024x1024.Slices off S1024x128)
    (inb : ∀ a, off a + S1024x128.size a ≤ S1024x1024.size a) :
    extractStridedSlice S1024x128 off x h = VecWindow.window x off S1024x128.size inb := by
  funext y
  refine congrArg x (funext fun a => Fin.ext ?_)
  show off a + (y a).val = off a + 1 * (y a).val
  omega

/-- A group of 128 columns of the SiLU, from the product. -/
theorem gate_window (x : Vec F S1024x1024 .f32) (off : Fin 2 → ℕ) (h : S1024x1024.Slices off S1024x128)
    (inb : ∀ a, off a + S1024x128.size a ≤ S1024x1024.size a) :
    truncf .bf16 (addf (mulf (mulf (broadcast S1024x128 (Scalar.ofBits .f32 0x3F000000#32)) (extractStridedSlice S1024x128 off x h))
      (tanh (mulf (broadcast S1024x128 (Scalar.ofBits .f32 0x3F000000#32)) (extractStridedSlice S1024x128 off x h))))
      (mulf (broadcast S1024x128 (Scalar.ofBits .f32 0x3F000000#32)) (extractStridedSlice S1024x128 off x h))) bitsLt_bf16_f32
      = VecWindow.window (gate x) off S1024x128.size inb := by
  rw [slice_window x off h inb]
  rfl

theorem gate0 (x : Vec F S1024x4096 .bf16) (v : Vec F S1x4096x1024 .bf16) : k0_pay25 x v = VecWindow.window (gate (k0_pay24 x v)) ![0, 0] S1024x128.size inb_S1024x1024_S1024x128_0_0 := gate_window _ _ _ _
theorem gate1 (x : Vec F S1024x4096 .bf16) (v : Vec F S1x4096x1024 .bf16) : k0_pay26 x v = VecWindow.window (gate (k0_pay24 x v)) ![0, 128] S1024x128.size inb_S1024x1024_S1024x128_0_128 := gate_window _ _ _ _
theorem gate2 (x : Vec F S1024x4096 .bf16) (v : Vec F S1x4096x1024 .bf16) : k0_pay27 x v = VecWindow.window (gate (k0_pay24 x v)) ![0, 256] S1024x128.size inb_S1024x1024_S1024x128_0_256 := gate_window _ _ _ _
theorem gate3 (x : Vec F S1024x4096 .bf16) (v : Vec F S1x4096x1024 .bf16) : k0_pay30 (k0_pay28 x v) (k0_pay29 x v) = VecWindow.window (gate (k0_pay24 x v)) ![0, 384] S1024x128.size inb_S1024x1024_S1024x128_0_384 := gate_window _ _ _ _
theorem gate4 (x : Vec F S1024x1024 .f32) : k0_pay31 x = VecWindow.window (gate x) ![0, 512] S1024x128.size inb_S1024x1024_S1024x128_0_512 := gate_window _ _ _ _
theorem gate5 (x : Vec F S1024x1024 .f32) : k0_pay32 x = VecWindow.window (gate x) ![0, 640] S1024x128.size inb_S1024x1024_S1024x128_0_640 := gate_window _ _ _ _
theorem gate6 (x : Vec F S1024x1024 .f32) : k0_pay33 x = VecWindow.window (gate x) ![0, 768] S1024x128.size inb_S1024x1024_S1024x128_0_768 := gate_window _ _ _ _
theorem gate7 (x : Vec F S1024x1024 .f32) : k0_pay1 (k0_pay34 x) (Scalar.ofBits .f32 0x3F000000#32) = VecWindow.window (gate x) ![0, 896] S1024x128.size inb_S1024x1024_S1024x128_0_896 := gate_window x _ slices_S1024x1024_o0_896_S1024x128 _

/-- The eight groups of columns of one block, put one after another, are the block, whatever was there. -/
theorem put8 {α : Type} (G o : S1024x1024.Idx → α) (h0 h1 h2 h3 h4 h5 h6 h7) :
    VecWindow.put (VecWindow.put (VecWindow.put (VecWindow.put (VecWindow.put (VecWindow.put (VecWindow.put (VecWindow.put o
      ![0, 0] S1024x128.size (VecWindow.window G ![0, 0] S1024x128.size h0)) ![0, 128] S1024x128.size (VecWindow.window G ![0, 128] S1024x128.size h1))
      ![0, 256] S1024x128.size (VecWindow.window G ![0, 256] S1024x128.size h2)) ![0, 384] S1024x128.size (VecWindow.window G ![0, 384] S1024x128.size h3))
      ![0, 512] S1024x128.size (VecWindow.window G ![0, 512] S1024x128.size h4)) ![0, 640] S1024x128.size (VecWindow.window G ![0, 640] S1024x128.size h5))
      ![0, 768] S1024x128.size (VecWindow.window G ![0, 768] S1024x128.size h6)) ![0, 896] S1024x128.size (VecWindow.window G ![0, 896] S1024x128.size h7) = G := by
  funext y
  have r0 : (y 0).val < 1024 := (y 0).isLt
  have r1 : (y 1).val < 1024 := (y 1).isLt
  have key : ∀ k : ℕ, (∀ a : Fin 2, (![0, k] : Fin 2 → ℕ) a ≤ (y a).val ∧ (y a).val < (![0, k] : Fin 2 → ℕ) a + S1024x128.size a) ↔ k ≤ (y 1).val ∧ (y 1).val < k + 128 :=
    fun k => ⟨fun h => h 1, fun h a => match a with
      | 0 => ⟨Nat.zero_le _, by show (y 0).val < 0 + 1024; omega⟩
      | 1 => h⟩
  rw [put_window, put_window, put_window, put_window, put_window, put_window, put_window, put_window]
  by_cases c7 : 896 ≤ (y 1).val
  · exact if_pos ((key 896).mpr ⟨c7, by omega⟩)
  rw [if_neg (fun h => c7 ((key 896).mp h).1)]
  by_cases c6 : 768 ≤ (y 1).val
  · exact if_pos ((key 768).mpr ⟨c6, by omega⟩)
  rw [if_neg (fun h => c6 ((key 768).mp h).1)]
  by_cases c5 : 640 ≤ (y 1).val
  · exact if_pos ((key 640).mpr ⟨c5, by omega⟩)
  rw [if_neg (fun h => c5 ((key 640).mp h).1)]
  by_cases c4 : 512 ≤ (y 1).val
  · exact if_pos ((key 512).mpr ⟨c4, by omega⟩)
  rw [if_neg (fun h => c4 ((key 512).mp h).1)]
  by_cases c3 : 384 ≤ (y 1).val
  · exact if_pos ((key 384).mpr ⟨c3, by omega⟩)
  rw [if_neg (fun h => c3 ((key 384).mp h).1)]
  by_cases c2 : 256 ≤ (y 1).val
  · exact if_pos ((key 256).mpr ⟨c2, by omega⟩)
  rw [if_neg (fun h => c2 ((key 256).mp h).1)]
  by_cases c1 : 128 ≤ (y 1).val
  · exact if_pos ((key 128).mpr ⟨c1, by omega⟩)
  rw [if_neg (fun h => c1 ((key 128).mp h).1)]
  exact if_pos ((key 0).mpr ⟨Nat.zero_le _, by omega⟩)

/-- The block of the result that the point writes. -/
def outB (i : grid0.Coords) (a : Vec F S1024x4096 .bf16) (wb : Vec F S2x4096x1024 .bf16) : Vec F S1024x1024 .bf16 := gate (k0_pay24 a (wBlk i wb))

set_option maxHeartbeats 4000000 in
theorem runTail (K : PUnit → sProp 𝕄) :
    iprop(owns (c : Thread nD τ) arg4 fullShare o ∗ owns (c : Thread nD τ) arg5 fullShare wb
        ∗ (iprop(owns (c : Thread nD τ) arg4 fullShare (outB (grid0.coords t) a wb) ∗ owns (c : Thread nD τ) arg5 fullShare wb) -∗ K ⟨⟩))
      ⊢ wp frame (wpE (defs₀ (F := F)) Variants.none c none) Set.univ (tailG t arg2 harg2 arg4 harg4 arg5 harg5 a) K := by
  unfold tailG
  simp only [k0_part19_eq_skeleton, k0_part20_eq_skeleton]; unfold k0_part19_skel k0_part20_skel
  unfold owns
  iintro ⟨⟨%f4, %hf4, H4⟩, ⟨%f5, %hf5, H5⟩, Hk⟩
  sl_exec
  sl_step
  iapply Hk
  isplitl [H4]
  · iexists _; isplitr
    swap; · iexact H4
    ipureintro
    rw [View.readAt_unit arg5.view f5 _ rfl (k0_off27_inb _), hf5]
    unfold runTail.sl.cst_47
    simp only [gate0, gate1, gate2, gate3, gate4, gate5, gate6, gate7]
    repeat rw [View.read_writes_cons_put arg4.view f4 _ _ _ rfl]
    exact put8 _ _ _ _ _ _ _ _ _ _
  iexists _; isplitr; · ipureintro; exact hf5
  iexact H5

/-! ### The fetches -/

set_option maxHeartbeats 4000000 in
/-- A point inside a column block: a chunk is started, the one before it arrives. -/
theorem headB (ht : t.val < 112) (hm : t.val % 16 ≠ 0) (K : _ → sProp 𝕄) :
    iprop(owns (c : Thread nD τ) arg2 fullShare a
      ∗ owns (c : Thread nD τ) arg5 fullShare wb ∗ (∃ W', owes (c : Thread nD τ) 0 W')
      ∗ homeP c q W (Ring.bk 128 (t.val + 16)) ∗ (∃ f, slotP c (Ring.sl 2 (t.val + 16)) f) ∗ cellP c (Ring.sl 2 (t.val + 16))
      ∗ (∃ f, flightP c q' W (Ring.sl 2 (t.val + 15)) (Ring.bk 128 (t.val + 15)) f)
        ∗ (iprop(owns (c : Thread nD τ) arg2 fullShare a
          ∗ owns (c : Thread nD τ) arg5 fullShare (putChunk c W (t.val + 15) wb) ∗ (∃ W', owes (c : Thread nD τ) 0 W')
          ∗ (∃ f, flightP c q W (Ring.sl 2 (t.val + 16)) (Ring.bk 128 (t.val + 16)) f)
          ∗ homeP c q' W (Ring.bk 128 (t.val + 15)) ∗ (∃ f, slotP c (Ring.sl 2 (t.val + 15)) f) ∗ cellP c (Ring.sl 2 (t.val + 15))) -∗ K (k0_pay23 a)))
      ⊢ wp frame (wpE (defs₀ (F := F)) Variants.none c none) Set.univ (headG t arg2 harg2 arg4 harg4 arg5 harg5) K := by
  have h1 : ¬k0_cond1 (grid0.coords t) = 1#1 := fun h => by have := (cond1_iff t).mp h; omega
  have h2 : k0_cond2 (grid0.coords t) = 1#1 := (cond2_iff t).mpr ht
  have h3 : k0_cond3 (grid0.coords t) = 1#1 := (cond3_iff t).mpr ⟨ht, hm⟩
  have h4 : ¬k0_cond4 (grid0.coords t) = 1#1 := fun h => by have := (cond4_iff t).mp h; omega
  unfold headG
  simp only [k0_part18_eq_skeleton]; unfold k0_part18_skel
  simp only [k0_part14_eq_skeleton, k0_part15_eq_skeleton, k0_part16_eq_skeleton, k0_part17_eq_skeleton]
  unfold owns
  iintro ⟨⟨%f2, %hf2, H2⟩, ⟨%f5, %hf5, H5⟩, ⟨%W', HW⟩, Hg, ⟨%fa, Hs⟩, Hc, ⟨%fb, HF⟩, Hk⟩
  sl_exec (disch := first | sl_exact h1 | sl_exact h2 | sl_exact h3 | sl_exact h4)
  simp only [semI t, slotI t, grpI t ht]
  sl_exec (disch := first | sl_exact h1 | sl_exact h2 | sl_exact h3 | sl_exact h4)
  sl_step
  rw [readAll arg2.view f2 hf2]
  iapply Hk
  isplitl [H2]
  · iexists _; isplitr; · ipureintro; exact hf2
    iexact H2
  isplitl [H5]
  · iexists _; isplitr
    swap; · iexact H5
    ipureintro
    rw [putAt arg5.view f5 hf5]
    unfold headB.sl.v174 k0_pay20 putChunk chunk
    simp only [slotRead c _ (off7_eq t)]
    rw [off8_eq t ht hm]
  isplitl [HW]; · iexists _; iexact HW
  isplitl [Hc]; · iexists _; iexact Hc
  isplitl [HF_src]; · iexact HF_src
  isplitl [HF_dst]; · iexists _; iexact HF_dst
  iexact HF

set_option maxHeartbeats 4000000 in
/-- The first point of a column block: a chunk is started, the last of this column block arrives. -/
theorem headC (ht : t.val < 112) (h0 : 0 < t.val) (hm : t.val % 16 = 0) (K : _ → sProp 𝕄) :
    iprop(owns (c : Thread nD τ) arg2 fullShare a
      ∗ owns (c : Thread nD τ) arg5 fullShare wb ∗ (∃ W', owes (c : Thread nD τ) 0 W')
      ∗ homeP c q W (Ring.bk 128 (t.val + 16)) ∗ (∃ f, slotP c (Ring.sl 2 (t.val + 16)) f) ∗ cellP c (Ring.sl 2 (t.val + 16))
      ∗ (∃ f, flightP c q' W (Ring.sl 2 (t.val + 15)) (Ring.bk 128 (t.val + 15)) f)
        ∗ (iprop(owns (c : Thread nD τ) arg2 fullShare a
          ∗ owns (c : Thread nD τ) arg5 fullShare (putChunk c W (t.val + 15) wb) ∗ (∃ W', owes (c : Thread nD τ) 0 W')
          ∗ (∃ f, flightP c q W (Ring.sl 2 (t.val + 16)) (Ring.bk 128 (t.val + 16)) f)
          ∗ homeP c q' W (Ring.bk 128 (t.val + 15)) ∗ (∃ f, slotP c (Ring.sl 2 (t.val + 15)) f) ∗ cellP c (Ring.sl 2 (t.val + 15))) -∗ K (k0_pay23 a)))
      ⊢ wp frame (wpE (defs₀ (F := F)) Variants.none c none) Set.univ (headG t arg2 harg2 arg4 harg4 arg5 harg5) K := by
  have h1 : ¬k0_cond1 (grid0.coords t) = 1#1 := fun h => by have := (cond1_iff t).mp h; omega
  have h2 : k0_cond2 (grid0.coords t) = 1#1 := (cond2_iff t).mpr ht
  have h3 : ¬k0_cond3 (grid0.coords t) = 1#1 := fun h => by have := (cond3_iff t).mp h; omega
  have h4 : k0_cond4 (grid0.coords t) = 1#1 := (cond4_iff t).mpr ⟨h0, hm⟩
  rw [sl_one t hm]
  unfold headG
  simp only [k0_part18_eq_skeleton]; unfold k0_part18_skel
  simp only [k0_part14_eq_skeleton, k0_part15_eq_skeleton, k0_part16_eq_skeleton, k0_part17_eq_skeleton]
  unfold owns
  iintro ⟨⟨%f2, %hf2, H2⟩, ⟨%f5, %hf5, H5⟩, ⟨%W', HW⟩, Hg, ⟨%fa, Hs⟩, Hc, ⟨%fb, HF⟩, Hk⟩
  sl_exec (disch := first | sl_exact h1 | sl_exact h2 | sl_exact h3 | sl_exact h4)
  simp only [semI t, slotI t, grpI t ht]
  sl_exec (disch := first | sl_exact h1 | sl_exact h2 | sl_exact h3 | sl_exact h4)
  sl_step
  rw [readAll arg2.view f2 hf2]
  iapply Hk
  isplitl [H2]
  · iexists _; isplitr; · ipureintro; exact hf2
    iexact H2
  isplitl [H5]
  · iexists _; isplitr
    swap; · iexact H5
    ipureintro
    rw [putAt arg5.view f5 hf5]
    unfold headC.sl.v145 k0_pay22 putChunk chunk
    simp only [slotRead c _ (by decide : (![1, 0, 0] : Fin 3 → ℕ) = slotOff 1)]
    rw [off10_eq t h0 hm]
  isplitl [HW]; · iexists _; iexact HW
  isplitl [Hc]; · iexists _; iexact Hc
  isplitl [HF_src]; · iexact HF_src
  isplitl [HF_dst]; · iexists _; iexact HF_dst
  iexact HF

set_option maxHeartbeats 4000000 in
/-- The first point of the last column block: its last chunk arrives. -/
theorem headD (ht : 112 ≤ t.val) (h0 : 0 < t.val) (hm : t.val % 16 = 0) (K : _ → sProp 𝕄) :
    iprop(owns (c : Thread nD τ) arg2 fullShare a
      ∗ owns (c : Thread nD τ) arg5 fullShare wb ∗ (∃ W', owes (c : Thread nD τ) 0 W')
      ∗ (∃ f, flightP c q' W (Ring.sl 2 (t.val + 15)) (Ring.bk 128 (t.val + 15)) f)
        ∗ (iprop(owns (c : Thread nD τ) arg2 fullShare a
          ∗ owns (c : Thread nD τ) arg5 fullShare (putChunk c W (t.val + 15) wb) ∗ (∃ W', owes (c : Thread nD τ) 0 W')
          ∗ homeP c q' W (Ring.bk 128 (t.val + 15)) ∗ (∃ f, slotP c (Ring.sl 2 (t.val + 15)) f) ∗ cellP c (Ring.sl 2 (t.val + 15))) -∗ K (k0_pay23 a)))
      ⊢ wp frame (wpE (defs₀ (F := F)) Variants.none c none) Set.univ (headG t arg2 harg2 arg4 harg4 arg5 harg5) K := by
  have h1 : ¬k0_cond1 (grid0.coords t) = 1#1 := fun h => by have := (cond1_iff t).mp h; omega
  have h2 : ¬k0_cond2 (grid0.coords t) = 1#1 := fun h => by have := (cond2_iff t).mp h; omega
  have h3 : ¬k0_cond3 (grid0.coords t) = 1#1 := fun h => by have := (cond3_iff t).mp h; omega
  have h4 : k0_cond4 (grid0.coords t) = 1#1 := (cond4_iff t).mpr ⟨h0, hm⟩
  rw [sl_one t hm]
  unfold headG
  simp only [k0_part18_eq_skeleton]; unfold k0_part18_skel
  simp only [k0_part14_eq_skeleton, k0_part15_eq_skeleton, k0_part16_eq_skeleton, k0_part17_eq_skeleton]
  unfold owns
  iintro ⟨⟨%f2, %hf2, H2⟩, ⟨%f5, %hf5, H5⟩, ⟨%W', HW⟩, ⟨%fb, HF⟩, Hk⟩
  sl_exec (disch := first | sl_exact h1 | sl_exact h2 | sl_exact h3 | sl_exact h4)
  sl_step
  rw [readAll arg2.view f2 hf2]
  iapply Hk
  isplitl [H2]
  · iexists _; isplitr; · ipureintro; exact hf2
    iexact H2
  isplitl [H5]
  · iexists _; isplitr
    swap; · iexact H5
    ipureintro
    rw [putAt arg5.view f5 hf5]
    unfold headD.sl.v145 k0_pay22 putChunk chunk
    simp only [slotRead c _ (by decide : (![1, 0, 0] : Fin 3 → ℕ) = slotOff 1)]
    rw [off10_eq t h0 hm]
  isplitl [HW]; · iexists _; iexact HW
  isplitl [HF_src]; · iexact HF_src
  isplitl [HF_dst]; · iexists _; iexact HF_dst
  iexact HF

set_option maxHeartbeats 4000000 in
/-- A later point of the last column block: nothing is fetched. -/
theorem headE (ht : 112 < t.val) (K : _ → sProp 𝕄) :
    iprop(owns (c : Thread nD τ) arg2 fullShare a
        ∗ (iprop(owns (c : Thread nD τ) arg2 fullShare a) -∗ K (k0_pay23 a)))
      ⊢ wp frame (wpE (defs₀ (F := F)) Variants.none c none) Set.univ (headG t arg2 harg2 arg4 harg4 arg5 harg5) K := by
  have h1 : ¬k0_cond1 (grid0.coords t) = 1#1 := fun h => by have := (cond1_iff t).mp h; omega
  have h2 : ¬k0_cond2 (grid0.coords t) = 1#1 := fun h => by have := (cond2_iff t).mp h; omega
  have h3 : ¬k0_cond3 (grid0.coords t) = 1#1 := fun h => by have := (cond3_iff t).mp h; omega
  have h4 : ¬k0_cond4 (grid0.coords t) = 1#1 := fun h => by have := (cond4_iff t).mp h; have : t.val < 128 := lt_of_lt_of_eq t.isLt N_0; omega
  unfold headG
  simp only [k0_part18_eq_skeleton]; unfold k0_part18_skel
  simp only [k0_part14_eq_skeleton, k0_part15_eq_skeleton, k0_part16_eq_skeleton, k0_part17_eq_skeleton]
  unfold owns
  iintro ⟨⟨%f2, %hf2, H2⟩, Hk⟩
  sl_exec (disch := first | sl_exact h1 | sl_exact h2 | sl_exact h3 | sl_exact h4)
  sl_step
  rw [readAll arg2.view f2 hf2]
  iapply Hk
  iexists _; isplitr; · ipureintro; exact hf2
  iexact H2

end Cert.Proof.SiluBody

end
-- ==== Proof.SiluFirst.lean ====
/- Hand-written, untrusted: THE FIRST POINT OF THE BRANCH GATES. It fetches the sixteen chunks of the first column block itself, two
   at a time, and starts the seventeenth. -/
module

public import proofs.«01_k».proof.Proof.SiluBody

@[expose] public section

set_option maxRecDepth 16384

noncomputable section

namespace Cert.Proof.SiluFirst

open Cert.SiluIdeal Cert.SiluIdeal.Gen Cert.Proof.SiluBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

variable (c : Dev nD) (t : Fin grid0.N) (q : PosShare TreeShare) (W : Buf (Elt F) (wM.view.loc (c : Thread nD τ)))
  (arg2 : Memref sig .tc .vmem S1024x4096 .bf16) (harg2 : arg2.IsWhole) (arg4 : Memref sig .tc .vmem S1024x1024 .bf16) (harg4 : arg4.IsWhole)
  (arg5 : Memref sig .tc .vmem S2x4096x1024 .bf16) (harg5 : arg5.IsWhole)
  (a : Vec F S1024x4096 .bf16) (wb : Vec F S2x4096x1024 .bf16)

/-- The first column block's chunks at home. -/
def firstHomes : sProp 𝕄 :=
  iprop(homeP c q W 0 ∗ homeP c q W 1 ∗ homeP c q W 2 ∗ homeP c q W 3 ∗ homeP c q W 4 ∗ homeP c q W 5 ∗ homeP c q W 6 ∗ homeP c q W 7 ∗ homeP c q W 8 ∗ homeP c q W 9 ∗ homeP c q W 10 ∗ homeP c q W 11 ∗ homeP c q W 12 ∗ homeP c q W 13 ∗ homeP c q W 14 ∗ homeP c q W 15)

/-- The rounded weights with the first column block put in. -/
def putFirst : Vec F S2x4096x1024 .bf16 :=
  putChunk c W 15 (putChunk c W 14 (putChunk c W 13 (putChunk c W 12 (putChunk c W 11 (putChunk c W 10 (putChunk c W 9 (putChunk c W 8 (putChunk c W 7 (putChunk c W 6 (putChunk c W 5 (putChunk c W 4 (putChunk c W 3 (putChunk c W 2 (putChunk c W 1 (putChunk c W 0 wb)))))))))))))))

/-- A load of a slot just filled with a chunk, rounded, is the rounded chunk. -/
theorem chunkRead (s : Fin 2) {off : Fin 3 → ℕ} (h : off = slotOff s) (inb : ∀ a, off a + S1x256x1024.size a ≤ S2x256x1024.size a)
    (f : Buf (Elt F) ((rslot s).view.loc (c : Thread nD τ))) (b : Fin 128) :
    shapeCast S1x256x1024 (truncf .bf16 (shapeCast S256x1024 (bufM.view.readAt (Elt F) (Rect.unit (s := S2x256x1024) off S1x256x1024.size inb).toLoadRect
      ((rslot s).view.writes (Elt F) f [⟨Rect.whole S256x1024, payload c W b⟩])) shapeCasts_S1x256x1024_S256x1024) bitsLt_bf16_f32)
      shapeCasts_S256x1024_S1x256x1024 = chunk c W b := by
  rw [slotRead c s h]
  rfl

/-- Chunks put in one after another: the last of them first. -/
theorem put_step (g : ℕ) {u u' : Vec F S2x4096x1024 .bf16} {off : Fin 3 → ℕ} {z : Vec F S1x256x1024 .bf16}
    (ho : off = wbOff g) (hz : z = chunk c W (Ring.bk 128 g)) (hu : u = u') :
    VecWindow.put (s := S2x4096x1024) u off S1x256x1024.size z = putChunk c W g u' := by
  subst ho hz hu
  rfl

set_option maxHeartbeats 16000000 in
/-- The first point: the sixteen chunks of the first column block one after another, and the seventeenth started. -/
theorem headA (ht : t.val < 112) (h0 : t.val = 0) (hm : t.val % 16 = 0) (K : _ → sProp 𝕄) :
    iprop(owns (c : Thread nD τ) arg2 fullShare a
      ∗ owns (c : Thread nD τ) arg5 fullShare wb ∗ (∃ W', owes (c : Thread nD τ) 0 W')
      ∗ firstHomes c q W ∗ homeP c q W (Ring.bk 128 (t.val + 16))
      ∗ (∃ f, slotP c 0 f) ∗ cellP c 0 ∗ (∃ f, slotP c 1 f) ∗ cellP c 1
        ∗ (iprop(owns (c : Thread nD τ) arg2 fullShare a
          ∗ owns (c : Thread nD τ) arg5 fullShare (putFirst c W wb) ∗ (∃ W', owes (c : Thread nD τ) 0 W')
          ∗ firstHomes c q W ∗ (∃ f, flightP c q W 0 (Ring.bk 128 (t.val + 16)) f)
          ∗ (∃ f, slotP c 1 f) ∗ cellP c 1) -∗ K (k0_pay23 a)))
      ⊢ wp frame (wpE (defs₀ (F := F)) Variants.none c none) Set.univ (headG t arg2 harg2 arg4 harg4 arg5 harg5) K := by
  have h1 : k0_cond1 (grid0.coords t) = 1#1 := (cond1_iff t).mpr h0
  have h2 : k0_cond2 (grid0.coords t) = 1#1 := (cond2_iff t).mpr ht
  have h3 : ¬k0_cond3 (grid0.coords t) = 1#1 := fun h => by have := (cond3_iff t).mp h; omega
  have h4 : ¬k0_cond4 (grid0.coords t) = 1#1 := fun h => by have := (cond4_iff t).mp h; omega
  unfold headG
  simp only [k0_part18_eq_skeleton]; unfold k0_part18_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns firstHomes
  iintro ⟨⟨%f2, %hf2, H2⟩, ⟨%f5, %hf5, H5⟩, ⟨%W', HW⟩, ⟨Hg0, Hg1, Hg2, Hg3, Hg4, Hg5, Hg6, Hg7, Hg8, Hg9, Hg10, Hg11, Hg12, Hg13, Hg14, Hg15⟩, Hg, ⟨%f0, Hs0⟩, Hc0, ⟨%f1, Hs1⟩, Hc1, Hk⟩
  sl_exec (disch := first | sl_exact h1 | sl_exact h2 | sl_exact h3 | sl_exact h4)
  simp only [semI t, slotI t, grpI t ht, sl_zero t hm]
  sl_exec (disch := first | sl_exact h1 | sl_exact h2 | sl_exact h3 | sl_exact h4)
  sl_step
  rw [readAll arg2.view f2 hf2]
  iapply Hk
  isplitl [H2]
  · iexists _; isplitr; · ipureintro; exact hf2
    iexact H2
  isplitl [H5]
  · iexists _; isplitr
    swap; · iexact H5
    ipureintro
    repeat rw [View.read_writes_cons_put arg5.view f5 _ _ _ rfl]
    rw [View.writes_nil, hf5]
    unfold putFirst
    refine put_step c W 15 (by decide) (chunkRead c W 1 (by decide) _ _ (Ring.bk 128 15)) ?_
    refine put_step c W 14 (by decide) (chunkRead c W 0 (by decide) _ _ (Ring.bk 128 14)) ?_
    refine put_step c W 13 (by decide) (chunkRead c W 1 (by decide) _ _ (Ring.bk 128 13)) ?_
    refine put_step c W 12 (by decide) (chunkRead c W 0 (by decide) _ _ (Ring.bk 128 12)) ?_
    refine put_step c W 11 (by decide) (chunkRead c W 1 (by decide) _ _ (Ring.bk 128 11)) ?_
    refine put_step c W 10 (by decide) (chunkRead c W 0 (by decide) _ _ (Ring.bk 128 10)) ?_
    refine put_step c W 9 (by decide) (chunkRead c W 1 (by decide) _ _ (Ring.bk 128 9)) ?_
    refine put_step c W 8 (by decide) (chunkRead c W 0 (by decide) _ _ (Ring.bk 128 8)) ?_
    refine put_step c W 7 (by decide) (chunkRead c W 1 (by decide) _ _ (Ring.bk 128 7)) ?_
    refine put_step c W 6 (by decide) (chunkRead c W 0 (by decide) _ _ (Ring.bk 128 6)) ?_
    refine put_step c W 5 (by decide) (chunkRead c W 1 (by decide) _ _ (Ring.bk 128 5)) ?_
    refine put_step c W 4 (by decide) (chunkRead c W 0 (by decide) _ _ (Ring.bk 128 4)) ?_
    refine put_step c W 3 (by decide) (chunkRead c W 1 (by decide) _ _ (Ring.bk 128 3)) ?_
    refine put_step c W 2 (by decide) (chunkRead c W 0 (by decide) _ _ (Ring.bk 128 2)) ?_
    refine put_step c W 1 (by decide) (chunkRead c W 1 (by decide) _ _ (Ring.bk 128 1)) ?_
    refine put_step c W 0 (by decide) (chunkRead c W 0 (by decide) _ _ (Ring.bk 128 0)) ?_
    rfl
  isplitl [HW]; · iexists _; iexact HW
  isplitl [Hg0 Hg1 Hg2 Hg3 Hg4 Hg5 Hg6 Hg7 Hg8 Hg9 Hg10 Hg11 Hg12 Hg13 Hg14 Hg15]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hg8]; · iexact Hg8
    isplitl [Hg9]; · iexact Hg9
    isplitl [Hg10]; · iexact Hg10
    isplitl [Hg11]; · iexact Hg11
    isplitl [Hg12]; · iexact Hg12
    isplitl [Hg13]; · iexact Hg13
    isplitl [Hg14]; · iexact Hg14
    iexact Hg15
  isplitl [Hc0]; · iexists _; iexact Hc0
  isplitl [Hs1]; · iexists _; iexact Hs1
  iexact Hc1

end Cert.Proof.SiluFirst

end
-- ==== Proof.SiluFrame.lean ====
/- Hand-written, untrusted: THE RUN OF THE MERGE GATES, at any values. What lies between two grid points (`Φ`): the rounded
   weights, whose last chunks are known (`Inv`), the chunks of the weights at home, and from the first point to the last but
   one column block one chunk on its way into a staging slot. Then the body's obligation at every point, the run, and the frame. -/
module

public import proofs.«01_k».proof.Proof.SiluFirst
public import Idealize.ShloMosaic.Lib.Claim
public import Idealize.ShloMosaic.Lib.Pipeline.Frame
public import Idealize.ShloMosaic.Lib.Pipeline.FrameBody
public import Idealize.ShloMosaic.Lib.Pipeline.Routed
public import Idealize.ShloMosaic.Lib.Pipeline.Value
public import Idealize.ShloMosaic.Lib.Tactic

@[expose] public section

set_option maxRecDepth 16384

noncomputable section

namespace Cert.Proof.SiluFrame

open Cert.SiluIdeal Cert.SiluIdeal.Gen Cert.Proof.SiluBody Cert.Proof.SiluFirst
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (m : (ℓ : Loc nD τ sig) → Buf (Elt F) ℓ) (ρ : Dev nD → PrngReg)

/-! ### `main` up to the call -/

/-- The buffers as the call finds them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain : Pipeline.HMain (Ix := Unit) (Name := ℕ) (U := UR sig nD τ × Counters) (Lvl := ℕ) cfgs 0 defs₀ Variants.none m (main (F := F)) (V m) :=
  Pipeline.hmain_prefix cfgs 0 defs₀ Variants.none m main hostOps0 hostOps0_sub hostOps0_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ### The kernel's semaphores, the weights' chunks and the staging slots -/

abbrev osem : Fin 2 → SemLoc sig := fun s => .dma (csm s).sem
theorem ownSemFacts : Pipeline.OwnSemFacts spec0 osem := by decide

/-- A chunk's elements, a slot's elements. -/
abbrev G (b : Fin 128) : Finset S4096x29696.Idx := (Rect.unit (s := S4096x29696) (grpOff b) S256x1024.size (grpOff_inb b)).set
abbrev S2s (s : Fin 2) : Finset S2x256x1024.Idx := (Rect.unit (s := S2x256x1024) (slotOff s) S1x256x1024.size (slotOff_inb s)).set

theorem grp_set (b : Fin 128) : (grp b : Memref sig .tc .hbm _ _).view.set = G b := View.set_slice_whole _ _
theorem rslot_set (s : Fin 2) : (rslot s : Memref sig .tc .vmem _ _).view.set = S2s s := (View.set_reshape _ _).trans (View.set_slice_whole _ _)

/-- Which of the eight column blocks a column of the weights is in. -/
def colBlk (n : ℕ) : ℕ := if n < 9216 then (n - 5120) / 1024 else (n - 13312) / 1024

theorem mem_G (b : Fin 128) (y : S4096x29696.Idx) (h : y ∈ G b) :
    (y 0).val / 256 = b.val % 16 ∧ colBlk (y 1).val = b.val / 16 := by
  rw [Rect.mem_set_unit] at h
  have a0 : 256 * (b.val % 16) ≤ (y 0).val ∧ (y 0).val < 256 * (b.val % 16) + 256 := h 0
  have a1 : 5120 + 1024 * (b.val / 16) + 8192 * (b.val / 64) ≤ (y 1).val ∧ (y 1).val < 5120 + 1024 * (b.val / 16) + 8192 * (b.val / 64) + 1024 := h 1
  have hb := b.isLt
  unfold colBlk
  split <;>
  omega
theorem mem_S2s (s : Fin 2) (y : S2x256x1024.Idx) : y ∈ S2s s ↔ (y 0).val = s.val := by
  rw [Rect.mem_set_unit]
  have h1 : (y 1).val < 256 := (y 1).isLt
  have h2 : (y 2).val < 1024 := (y 2).isLt
  constructor
  · intro H; have a0 : s.val ≤ (y 0).val ∧ (y 0).val < s.val + 1 := H 0; omega
  · intro H a
    match a with
    | 0 => show s.val ≤ (y 0).val ∧ (y 0).val < s.val + 1; omega
    | 1 => show 0 ≤ (y 1).val ∧ (y 1).val < 0 + 256; omega
    | 2 => show 0 ≤ (y 2).val ∧ (y 2).val < 0 + 1024; omega
theorem G_disjoint : ∀ b b' : Fin 128, b ≠ b' → Disjoint (G b) (G b') := by
  intro b b' hne
  rw [Finset.disjoint_left]
  intro y hy hy'
  have e := mem_G b y hy
  have e' := mem_G b' y hy'
  exact hne (Fin.ext (by omega))
theorem S2s_disjoint : ∀ s s' : Fin 2, s ≠ s' → Disjoint (S2s s) (S2s s') := by
  intro s s' hne
  rw [Finset.disjoint_left]
  intro y hy hy'
  rw [mem_S2s] at hy hy'
  exact hne (Fin.ext (hy.symm.trans hy'))
theorem S2s_cover : (Finset.univ : Finset (Fin 2)).biUnion S2s = Finset.univ := by
  ext y
  simp only [Finset.mem_biUnion, Finset.mem_univ, true_and, iff_true]
  exact ⟨(y 0).cast (by decide), by rw [mem_S2s]; rfl⟩

private theorem of_eq {P Q : sProp 𝕄} (e : P = Q) : P ⊢ Q := e ▸ .rfl

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

variable (c : Dev nD) (W : Buf (Elt F) (wM.view.loc (c : Thread nD τ)))

/-- The weights no chunk covers. -/
def restW : sProp 𝕄 := ((c : Thread nD τ).loc main_v2) ↦[Finset.univ \ Finset.univ.biUnion G]{fullShare} W

/-- The weights, whole, are the chunks at home and the rest. -/
theorem w_eq : (((c : Thread nD τ).loc main_v2) ↦{fullShare} W : sProp 𝕄)
    = iprop(bigSep Finset.univ (homeP c fullShare W) ∗ restW c W) := by
  have h := pointsTo_split_subset (Ix := Unit) (Name := ℕ) (U := UR sig nD τ × Counters) (Lvl := ℕ) (ℓ := (c : Thread nD τ).loc main_v2) (q := fullShare) (f := W) (Finset.subset_univ (Finset.univ.biUnion G))
  refine (equiv_iff.mp ⟨h.1, h.2⟩).trans ?_
  rw [Ring.pointsTo_sub_blocks (ℓ := (c : Thread nD τ).loc main_v2) G G_disjoint _ rfl]
  rw [bigSep_congr (Ψ := homeP c fullShare W) fun b _ => by rw [← grp_set]; rfl]
  rfl

theorem slotP_eq (s : Fin 2) (f) : slotP c s f = (((c : Thread nD τ).loc cc0_scratch1) ↦[S2s s]{fullShare} f : sProp 𝕄) :=
  congrArg (fun S => (_ ↦[S]{fullShare} f : sProp 𝕄)) (rslot_set s)
/-- The staging buffer, whole, is its two slots, -/
theorem buf_split :
    iprop(∃ f : Buf (Elt F) ((c : Thread nD τ).loc cc0_scratch1), ((c : Thread nD τ).loc cc0_scratch1) ↦{fullShare} f)
      ⊢ (iprop((∃ f, slotP c 0 f) ∗ ∃ f, slotP c 1 f) : sProp 𝕄) := by
  iintro ⟨%f, H⟩
  ihave H2 := (of_eq ((Ring.pointsTo_blocks (Ix := Unit) (Name := ℕ) (U := UR sig nD τ × Counters) (Lvl := ℕ) (q := fullShare) (ℓ := (c : Thread nD τ).loc cc0_scratch1) S2s S2s_disjoint S2s_cover f).trans (bigSep_fin2 _))) $$ H
  icases H2 with ⟨H0, H1⟩
  isplitl [H0]
  · iexists f; iapply (of_eq (slotP_eq c 0 f).symm); iexact H0
  · iexists f; iapply (of_eq (slotP_eq c 1 f).symm); iexact H1
/-- and back. -/
theorem buf_join :
    iprop((∃ f, slotP c 0 f) ∗ ∃ f, slotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) S2s S2s_disjoint S2s_cover f0)
  irw [bigSep_fin2]
  isplitl [H0]
  · iexists f0; iapply (of_eq (slotP_eq c 0 f0)); iexact H0
  · iexists f1; iapply (of_eq (slotP_eq c 1 f1)); iexact H1

theorem ownSems0_eq : (Pipeline.ownSems0 (Ix := Unit) (Name := ℕ) (U := UR sig nD τ × Counters) (Lvl := ℕ) (Val := Elt F) (τ := τ) osem c : sProp 𝕄)
    = iprop(cellP c 0 ∗ cellP c 1) := by
  unfold Pipeline.ownSems0; rw [bigSep_fin2]

/-! ### The chunks at home, apart -/

/-- The chunks of the first column block. -/
def S16 : Finset (Fin 128) := Finset.univ.filter fun b => b.val < 16

theorem first_eq : firstHomes c fullShare W = bigSep S16 (homeP c fullShare W) :=
  (bigSep_eq_bigSepL_of_eq [0, 1, 2, 3, 4, 5, 6, 7, 8, 9, 10, 11, 12, 13, 14, 15] (by decide) (by decide) (homeP c fullShare W)).symm

private theorem swap (P Q R : sProp 𝕄) : iprop(P ∗ Q ∗ R) = iprop(Q ∗ P ∗ R) :=
  have h := sep_left_comm (P := P) (Q := Q) (R := R)
  equiv_iff.mp ⟨h.1, h.2⟩

/-- All of them: the first column block, the seventeenth chunk, and the rest; -/
theorem homes_first : bigSep Finset.univ (homeP c fullShare W)
    = iprop(firstHomes c fullShare W ∗ homeP c fullShare W 16 ∗ bigSep ((Finset.univ.erase 16) \ S16) (homeP c fullShare W)) := by
  rw [first_eq, bigSep_erase (Finset.mem_univ (16 : Fin 128)), bigSep_sdiff_split (show S16 ⊆ Finset.univ.erase 16 by decide)]
  exact swap _ _ _
/-- and back but for the seventeenth. -/
theorem homes_first_back : bigSep (Finset.univ.erase 16) (homeP c fullShare W)
    = iprop(firstHomes c fullShare W ∗ bigSep ((Finset.univ.erase 16) \ S16) (homeP c fullShare W)) := by
  rw [first_eq, bigSep_sdiff_split (show S16 ⊆ Finset.univ.erase 16 by decide)]
  rfl

/-- One chunk apart from some. -/
theorem homes_take (s : Finset (Fin 128)) (b : Fin 128) (h : b ∈ s) :
    bigSep s (homeP c fullShare W) = iprop(homeP c fullShare W b ∗ bigSep (s.erase b) (homeP c fullShare W)) := bigSep_erase h

/-! ### What lies between two points -/

theorem wbOff_inb (g : ℕ) : ∀ a, wbOff g a + S1x256x1024.size a ≤ S2x4096x1024.size a := fun a => by
  match a with
  | 0 => show g / 16 % 2 + 1 ≤ 2; omega
  | 1 => show 256 * (g % 16) + 256 ≤ 4096; omega
  | 2 => exact Nat.le_refl _

/-- The rounded weights before point `n` have the chunks of its column block that came before, and of the one before it. -/
def Inv (n : ℕ) (wb : Vec F S2x4096x1024 .bf16) : Prop :=
  1 ≤ n → ∀ g, g < 128 → n ≤ g + 16 → g < n + 15 →
    VecWindow.window wb (wbOff g) S1x256x1024.size (wbOff_inb g) = chunk c W (Ring.bk 128 g)

variable {wb : Vec F S2x4096x1024 .bf16}

theorem window_same (g : ℕ) : VecWindow.window (putChunk c W g wb) (wbOff g) S1x256x1024.size (wbOff_inb g) = chunk c W (Ring.bk 128 g) :=
  VecWindow.window_put_same (s := S2x4096x1024) wb _ _ _ _
theorem window_ne (g k : ℕ) (h : k % 32 ≠ g % 32) : VecWindow.window (putChunk c W g wb) (wbOff k) S1x256x1024.size (wbOff_inb k)
    = VecWindow.window wb (wbOff k) S1x256x1024.size (wbOff_inb k) := by
  by_cases hs : k / 16 % 2 = g / 16 % 2
  · refine VecWindow.window_put_of_disjoint (s := S2x4096x1024) wb _ _ _ _ _ _ (1 : Fin 3) ?_
    show 256 * (k % 16) + 256 ≤ 256 * (g % 16) ∨ 256 * (g % 16) + 256 ≤ 256 * (k % 16)
    omega
  · refine VecWindow.window_put_of_disjoint (s := S2x4096x1024) wb _ _ _ _ _ _ (0 : Fin 3) ?_
    show k / 16 % 2 + 1 ≤ g / 16 % 2 ∨ g / 16 % 2 + 1 ≤ k / 16 % 2
    omega

theorem Inv.start : Inv c W 0 wb := fun h => absurd h (by omega)
theorem Inv.first : Inv c W 1 (putFirst c W wb) := fun _ g _ _ hg => by
  unfold putFirst
  by_cases h : g = 15
  · subst h; exact window_same c W 15
  rw [window_ne c W 15 g (by omega)]
  by_cases h : g = 14
  · subst h; exact window_same c W 14
  rw [window_ne c W 14 g (by omega)]
  by_cases h : g = 13
  · subst h; exact window_same c W 13
  rw [window_ne c W 13 g (by omega)]
  by_cases h : g = 12
  · subst h; exact window_same c W 12
  rw [window_ne c W 12 g (by omega)]
  by_cases h : g = 11
  · subst h; exact window_same c W 11
  rw [window_ne c W 11 g (by omega)]
  by_cases h : g = 10
  · subst h; exact window_same c W 10
  rw [window_ne c W 10 g (by omega)]
  by_cases h : g = 9
  · subst h; exact window_same c W 9
  rw [window_ne c W 9 g (by omega)]
  by_cases h : g = 8
  · subst h; exact window_same c W 8
  rw [window_ne c W 8 g (by omega)]
  by_cases h : g = 7
  · subst h; exact window_same c W 7
  rw [window_ne c W 7 g (by omega)]
  by_cases h : g = 6
  · subst h; exact window_same c W 6
  rw [window_ne c W 6 g (by omega)]
  by_cases h : g = 5
  · subst h; exact window_same c W 5
  rw [window_ne c W 5 g (by omega)]
  by_cases h : g = 4
  · subst h; exact window_same c W 4
  rw [window_ne c W 4 g (by omega)]
  by_cases h : g = 3
  · subst h; exact window_same c W 3
  rw [window_ne c W 3 g (by omega)]
  by_cases h : g = 2
  · subst h; exact window_same c W 2
  rw [window_ne c W 2 g (by omega)]
  by_cases h : g = 1
  · subst h; exact window_same c W 1
  rw [window_ne c W 1 g (by omega)]
  obtain rfl : g = 0 := by omega
  exact window_same c W 0
theorem Inv.put (n : ℕ) (hn : 1 ≤ n) (I : Inv c W n wb) : Inv c W (n + 1) (putChunk c W (n + 15) wb) := fun _ g h128 hg hg' => by
  by_cases h : g = n + 15
  · subst h; exact window_same c W (n + 15)
  rw [window_ne c W (n + 15) g (by omega)]
  exact I hn g h128 (by omega) (by omega)
theorem Inv.skip (n : ℕ) (hn : 113 ≤ n) (I : Inv c W n wb) : Inv c W (n + 1) wb := fun _ g h128 hg hg' =>
  I (by omega) g h128 (by omega) (by omega)

/-- Column block `n` of the weights, rounded. -/
def wB (n : ℕ) : Vec F S1x4096x1024 .bf16 := fun y =>
  chunk c W (Ring.bk 128 (16 * n + (y 1).val / 256)) (fun a => match a with
    | 0 => ⟨0, by decide⟩
    | 1 => ⟨(y 1).val % 256, Nat.mod_lt _ (by decide)⟩
    | 2 => y 2)

/-- It is what the point's half of the rounded weights holds after its fetches. -/
theorem Inv.blk (t : Fin cfg0.N) (I : Inv c W (t.val + 1) wb) : wBlk (grid0.coords t) wb = wB c W (t.val / 16) := by
  have hN : t.val < 128 := lt_of_lt_of_eq t.isLt (show cfg0.N = 128 from N_0)
  funext y
  have y0 : (y 0).val < 1 := (y 0).isLt
  have y1 : (y 1).val < 4096 := (y 1).isLt
  unfold wB
  rw [← I (by omega) (16 * (t.val / 16) + (y 1).val / 256) (by omega) (by omega) (by omega)]
  unfold wBlk VecWindow.window
  refine congrArg wb (funext fun a => Fin.ext ?_)
  have e := congrFun (off11_eq t) a
  match a with
  | 0 =>
    show k0_off27 (grid0.coords t) 0 + 1 * (y 0).val = (16 * (t.val / 16) + (y 1).val / 256) / 16 % 2 + 1 * 0
    have e : k0_off27 (grid0.coords t) 0 = t.val / 16 % 2 := e
    omega
  | 1 =>
    show k0_off27 (grid0.coords t) 1 + 1 * (y 1).val = 256 * ((16 * (t.val / 16) + (y 1).val / 256) % 16) + 1 * ((y 1).val % 256)
    have e : k0_off27 (grid0.coords t) 1 = 0 := e
    omega
  | 2 =>
    show k0_off27 (grid0.coords t) 2 + 1 * (y 2).val = 0 + 1 * (y 2).val
    have e : k0_off27 (grid0.coords t) 2 = 0 := e
    omega

/-- The chunks and the slots between two points while a chunk is on its way, -/
def moving (n : ℕ) : sProp 𝕄 :=
  iprop(bigSep (Finset.univ.erase (Ring.bk 128 (n + 15))) (homeP c fullShare W) ∗ (∃ f, flightP c fullShare W (Ring.sl 2 (n + 15)) (Ring.bk 128 (n + 15)) f)
    ∗ (∃ f, slotP c (Ring.sl 2 (n + 16)) f) ∗ cellP c (Ring.sl 2 (n + 16)))
/-- and while none is. -/
def still : sProp 𝕄 :=
  iprop(bigSep Finset.univ (homeP c fullShare W) ∗ (∃ f, slotP c 0 f) ∗ cellP c 0 ∗ (∃ f, slotP c 1 f) ∗ cellP c 1)
def mid (n : ℕ) : sProp 𝕄 := if 1 ≤ n ∧ n ≤ 112 then moving c W n else still c W

/-- The block of the result that point `n` writes. -/
def res (t : Fin cfg0.N) : Vec F S1024x1024 .bf16 := gate (k0_pay24 (iblk m c 0 t) (wB c (V m c main_v2) (t.val / 16)))

/-! ### The proof data -/

def dats (_ : Fin 1) (c : Dev nD) : Dat τ (Elt F) Unit ℕ (UR sig nD τ × Counters) ℕ cfg0 c where
  A w := V m c (Pipeline.arrRef spec0 w)
  after w t := match w with
    | ⟨0, _⟩ => iblk m c 0 t
    | ⟨1, _⟩ => res m c t
  Φ n := iprop(∃ wb, ⌜Inv c (V m c main_v2) n.val wb⌝ ∗ owns (c : Thread nD τ) (Memref.whole cc0_scratch0) fullShare wb
    ∗ mid c (V m c main_v2) n.val ∗ restW c (V m c main_v2) ∗ (∃ r, prngReg c r))
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = res m c t := by dsimp only [dats]
theorem before0_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem Φ_eq (n : Fin (cfg0.N + 1)) : (dats m 0 c).Φ n = iprop(∃ wb, ⌜Inv c (V m c main_v2) n.val wb⌝
    ∗ owns (c : Thread nD τ) (Memref.whole cc0_scratch0) fullShare wb
    ∗ mid c (V m c main_v2) n.val ∗ restW c (V m c main_v2) ∗ (∃ r, prngReg c r)) := by dsimp only [dats]

/-! ### The fetches at any point -/

theorem pay23_eq (a : Vec F S1024x4096 .bf16) : k0_pay23 a = a := by
  unfold k0_pay23; exact shapeCast_self _ _

variable (t : Fin cfg0.N)
  (arg2 : Memref sig .tc .vmem S1024x4096 .bf16) (harg2 : arg2.IsWhole) (arg4 : Memref sig .tc .vmem S1024x1024 .bf16) (harg4 : arg4.IsWhole)
  (arg5 : Memref sig .tc .vmem S2x4096x1024 .bf16) (harg5 : arg5.IsWhole)
  (a : Vec F S1024x4096 .bf16)

theorem bk_ne (n k : ℕ) (hn : n < 128) (hk : k < 128) (h : n ≠ k) : Ring.bk 128 n ≠ Ring.bk 128 k := fun e => h (by
  have := congrArg Fin.val e
  rwa [Ring.bk_val hn, Ring.bk_val hk] at this)

/-- A point that starts a chunk and waits for another. -/
theorem headBC (ht : t.val < 112) (h0 : 0 < t.val) (K : _ → sProp 𝕄) :
    iprop(owns (c : Thread nD τ) arg2 fullShare a
      ∗ owns (c : Thread nD τ) arg5 fullShare wb ∗ (∃ W', owes (c : Thread nD τ) 0 W')
      ∗ homeP c fullShare W (Ring.bk 128 (t.val + 16)) ∗ (∃ f, slotP c (Ring.sl 2 (t.val + 16)) f) ∗ cellP c (Ring.sl 2 (t.val + 16))
      ∗ (∃ f, flightP c fullShare W (Ring.sl 2 (t.val + 15)) (Ring.bk 128 (t.val + 15)) f)
        ∗ (iprop(owns (c : Thread nD τ) arg2 fullShare a
          ∗ owns (c : Thread nD τ) arg5 fullShare (putChunk c W (t.val + 15) wb) ∗ (∃ W', owes (c : Thread nD τ) 0 W')
          ∗ (∃ f, flightP c fullShare W (Ring.sl 2 (t.val + 16)) (Ring.bk 128 (t.val + 16)) f)
          ∗ homeP c fullShare W (Ring.bk 128 (t.val + 15)) ∗ (∃ f, slotP c (Ring.sl 2 (t.val + 15)) f) ∗ cellP c (Ring.sl 2 (t.val + 15))) -∗ K (k0_pay23 a)))
      ⊢ wp frame (wpE (defs₀ (F := F)) Variants.none c none) Set.univ (headG t arg2 harg2 arg4 harg4 arg5 harg5) K := by
  by_cases hm : t.val % 16 = 0
  · exact headC c t fullShare fullShare W arg2 harg2 arg4 harg4 arg5 harg5 a wb ht h0 hm K
  · exact headB c t fullShare fullShare W arg2 harg2 arg4 harg4 arg5 harg5 a wb ht hm K

set_option maxHeartbeats 1600000 in
/-- The first part of the body at any point, with the step of what lies between the points. -/
theorem head (I : Inv c W t.val wb) (K : _ → sProp 𝕄) :
    iprop(owns (c : Thread nD τ) arg2 fullShare a ∗ owns (c : Thread nD τ) arg5 fullShare wb ∗ (∃ W', owes (c : Thread nD τ) 0 W') ∗ mid c W t.val
      ∗ (iprop(∃ wb', ⌜Inv c W (t.val + 1) wb'⌝ ∗ owns (c : Thread nD τ) arg2 fullShare a ∗ owns (c : Thread nD τ) arg5 fullShare wb'
          ∗ (∃ W', owes (c : Thread nD τ) 0 W') ∗ mid c W (t.val + 1)) -∗ K a))
      ⊢ wp frame (wpE (defs₀ (F := F)) Variants.none c none) Set.univ (headG t arg2 harg2 arg4 harg4 arg5 harg5) K := by
  have hN : t.val < 128 := lt_of_lt_of_eq t.isLt (show cfg0.N = 128 from N_0)
  have hp : k0_pay23 a = a := pay23_eq a
  rcases Nat.eq_zero_or_pos t.val with h0 | h0
  · have e16 : Ring.bk 128 (t.val + 16) = 16 := by rw [h0]; decide
    have hA := headA c t fullShare W arg2 harg2 arg4 harg4 arg5 harg5 a wb (by omega) h0 (by omega) K
    rw [hp, e16] at hA
    have e1 : mid c W t.val = still c W := if_neg (by omega)
    have e2 : mid c W (t.val + 1) = moving c W 1 := by rw [h0]; exact if_pos ⟨by omega, by omega⟩
    rw [e1, e2]
    unfold still moving
    rw [homes_first, show Ring.bk 128 (1 + 15) = 16 by decide, homes_first_back, show Ring.sl 2 (1 + 15) = 0 by decide, show Ring.sl 2 (1 + 16) = 1 by decide]
    iintro ⟨H2, H5, HO, ⟨⟨Hf, Hg, Hr⟩, Hs0, Hc0, Hs1, Hc1⟩, Hk⟩
    iapply hA
    isplitl [H2]; · iexact H2
    isplitl [H5]; · iexact H5
    isplitl [HO]; · iexact HO
    isplitl [Hf]; · iexact Hf
    isplitl [Hg]; · iexact Hg
    isplitl [Hs0]; · iexact Hs0
    isplitl [Hc0]; · iexact Hc0
    isplitl [Hs1]; · iexact Hs1
    isplitl [Hc1]; · iexact Hc1
    iintro ⟨H2, H5, HO, Hf, HF, Hs1, Hc1⟩
    iapply Hk
    iexists (putFirst c W wb)
    isplitr; · ipureintro; rw [h0]; exact Inv.first c W
    isplitl [H2]; · iexact H2
    isplitl [H5]; · iexact H5
    isplitl [HO]; · iexact HO
    isplitl [Hf Hr]
    · isplitl [Hf]; · iexact Hf
      iexact Hr
    isplitl [HF]; · iexact HF
    isplitl [Hs1]; · iexact Hs1
    iexact Hc1
  rcases Nat.lt_or_ge 112 t.val with h112 | h112
  · have hE := headE c t arg2 harg2 arg4 harg4 arg5 harg5 a h112 K
    rw [hp] at hE
    rw [show mid c W t.val = still c W from if_neg (by omega), show mid c W (t.val + 1) = still c W from if_neg (by omega)]
    iintro ⟨H2, H5, HO, Hm, Hk⟩
    iapply hE
    isplitl [H2]; · iexact H2
    iintro H2
    iapply Hk
    iexists wb
    isplitr; · ipureintro; exact Inv.skip c W t.val (by omega) I
    isplitl [H2]; · iexact H2
    isplitl [H5]; · iexact H5
    isplitl [HO]; · iexact HO
    iexact Hm
  rw [show mid c W t.val = moving c W t.val from if_pos ⟨h0, h112⟩]
  rcases Nat.lt_or_ge t.val 112 with hlt | hge
  · have hBC := headBC c W t arg2 harg2 arg4 harg4 arg5 harg5 a (wb := wb) hlt h0 K
    rw [hp] at hBC
    rw [show mid c W (t.val + 1) = moving c W (t.val + 1) from if_pos ⟨by omega, by omega⟩]
    unfold moving
    have hne := bk_ne (t.val + 16) (t.val + 15) (by omega) (by omega) (by omega)
    have esl : Ring.sl 2 (t.val + 1 + 16) = Ring.sl 2 (t.val + 15) := Fin.ext (by show (t.val + 1 + 16) % 2 = (t.val + 15) % 2; omega)
    rw [show t.val + 1 + 15 = t.val + 16 by omega, esl,
      homes_take c W _ _ (Finset.mem_erase.mpr ⟨hne, Finset.mem_univ (Ring.bk 128 (t.val + 16))⟩),
      homes_take c W (Finset.univ.erase (Ring.bk 128 (t.val + 16))) _ (Finset.mem_erase.mpr ⟨hne.symm, Finset.mem_univ (Ring.bk 128 (t.val + 15))⟩),
      Finset.erase_right_comm]
    iintro ⟨H2, H5, HO, ⟨⟨Hg, Hr⟩, HF, Hs, Hc⟩, Hk⟩
    iapply hBC
    isplitl [H2]; · iexact H2
    isplitl [H5]; · iexact H5
    isplitl [HO]; · iexact HO
    isplitl [Hg]; · iexact Hg
    isplitl [Hs]; · iexact Hs
    isplitl [Hc]; · iexact Hc
    isplitl [HF]; · iexact HF
    iintro ⟨H2, H5, HO, HF, Hg, Hs, Hc⟩
    iapply Hk
    iexists (putChunk c W (t.val + 15) wb)
    isplitr; · ipureintro; exact Inv.put c W t.val h0 I
    isplitl [H2]; · iexact H2
    isplitl [H5]; · iexact H5
    isplitl [HO]; · iexact HO
    isplitl [Hg Hr]
    · isplitl [Hg]; · iexact Hg
      iexact Hr
    isplitl [HF]; · iexact HF
    isplitl [Hs]; · iexact Hs
    iexact Hc
  · have ht : t.val = 112 := by omega
    have hD := headD c t fullShare W arg2 harg2 arg4 harg4 arg5 harg5 a wb hge h0 (by omega) K
    rw [hp] at hD
    rw [show mid c W (t.val + 1) = still c W from if_neg (by omega)]
    unfold moving still
    rw [homes_take c W Finset.univ _ (Finset.mem_univ (Ring.bk 128 (t.val + 15)))]
    have e15 : Ring.sl 2 (t.val + 15) = 1 := by rw [ht]; decide
    have e16 : Ring.sl 2 (t.val + 16) = 0 := by rw [ht]; decide
    rw [e15] at hD
    rw [e15, e16]
    iintro ⟨H2, H5, HO, ⟨Hr, HF, Hs, Hc⟩, Hk⟩
    iapply hD
    isplitl [H2]; · iexact H2
    isplitl [H5]; · iexact H5
    isplitl [HO]; · iexact HO
    isplitl [HF]; · iexact HF
    iintro ⟨H2, H5, HO, Hg, Hs1, Hc1⟩
    iapply Hk
    iexists (putChunk c W (t.val + 15) wb)
    isplitr; · ipureintro; exact Inv.put c W t.val h0 I
    isplitl [H2]; · iexact H2
    isplitl [H5]; · iexact H5
    isplitl [HO]; · iexact HO
    isplitl [Hg Hr]
    · isplitl [Hg]; · iexact Hg
      iexact Hr
    isplitl [Hs]; · iexact Hs
    isplitl [Hc]; · iexact Hc
    isplitl [Hs1]; · iexact Hs1
    iexact Hc1

/-! ### The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

set_option maxHeartbeats 1600000 in
theorem sound_body :
    bodyPre m c t ⊢ wp frame (wpE (defs₀ (F := F)) Variants.none c none) Set.univ (bodyAt0 t) (fun _ => bodyPost m c t) := by
  unfold bodyPre bodyPost bodyAt0
  simp only [before0_0]
  unfold Dat.owesAt Pipeline.owesWithin
  rw [show (dats m 0 c).owed t.castSucc = 0 from rfl, show (dats m 0 c).owed t.succ = 0 from rfl, after0_0, after0_1, Φ_eq, Φ_eq]
  iintro ⟨⟨%wb, %I, HS0, Hm, Hr, Hp⟩, ⟨%W', -, HO⟩, ⟨%d0, H0⟩, ⟨%d1, H1⟩⟩
  have I : Inv c (V m c main_v2) t.val wb := I
  rw [show cc0_in_proj_silu (F := F) (grid0.coords t) (win0_0.stage (cfg0.slots t 0)) (hstage0_0 ((cfg0.slots t 0).cast nbuf0_0)) (Memref.whole main_v2) (Memref.isWhole_whole _) (win0_1.stage (cfg0.slots t 1)) (hstage0_1 ((cfg0.slots t 1).cast nbuf0_1)) (Memref.whole cc0_scratch0) (Memref.isWhole_whole _) (Memref.whole cc0_scratch1) (Memref.isWhole_whole _) cc0_scratch2
    = _ from bodyG_eq t _ _ _ _ _ _, wp_bind]
  iapply (head c (V m c main_v2) t _ _ _ _ _ _ (iblk m c 0 t) I _)
  isplitl [H0]; · iexact H0
  isplitl [HS0]; · iexact HS0
  isplitl [HO]; · iexists _; iexact HO
  isplitl [Hm]; · iexact Hm
  iintro ⟨%wb', %I', H0, HS0, ⟨%W'', HO⟩, Hm⟩
  iapply (runTail c t _ _ _ _ _ _ (iblk m c 0 t) wb' _ _)
  isplitl [H1]; · iexact H1
  isplitl [HS0]; · iexact HS0
  unfold outB
  rw [Inv.blk c (V m c main_v2) t I']
  iintro ⟨H1, HS0⟩
  isplitl [HS0 Hm Hr Hp]
  · iexists _
    isplitr; · ipureintro; exact I'
    isplitl [HS0]; · iexact HS0
    isplitl [Hm]; · iexact Hm
    isplitl [Hr]; · iexact Hr
    iexact Hp
  isplitl [HO]
  · iexists W''; isplitr; · ipureintro; exact fun _ _ => Or.inl trivial
    iexact HO
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run and the frame -/

theorem enters : Pipeline.Ends (cfgs 0).spec osem {main_v2} c (V m c) ⊢ ((dats (F := F) m 0 c).Φ 0 : sProp 𝕄) := by
  rw [Φ_eq]
  unfold Pipeline.Ends
  rw [show (cfgs 0).spec = spec0 from rfl, scopedRest0_eq, Pipeline.routed_singleton, w_eq, ownSems0_eq]
  simp only [owns_whole]
  rw [show mid c (V m c main_v2) (0 : Fin (cfg0.N + 1)).val = still c (V m c main_v2) from if_neg (by decide)]
  unfold still
  iintro ⟨⟨Hh, Hr⟩, ⟨Hc0, Hc1⟩, ⟨⟨%wb, HS0⟩, HS1⟩, Hg⟩
  ihave Hs := (buf_split c) $$ HS1
  icases Hs with ⟨Hs0, Hs1⟩
  iexists wb
  isplitr; · ipureintro; exact Inv.start c _
  isplitl [HS0]; · iexact HS0
  isplitl [Hh Hs0 Hc0 Hs1 Hc1]
  · isplitl [Hh]; · iexact Hh
    isplitl [Hs0]; · iexact Hs0
    isplitl [Hc0]; · iexact Hc0
    isplitl [Hs1]; · iexact Hs1
    iexact Hc1
  isplitl [Hr]; · iexact Hr
  iexact Hg

theorem leaves : ((dats (F := F) m 0 c).Φ (Fin.last cfg0.N) : sProp 𝕄) ⊢ Pipeline.Ends (cfgs 0).spec osem {main_v2} c (V m c) := by
  rw [Φ_eq]
  unfold Pipeline.Ends
  rw [show (cfgs 0).spec = spec0 from rfl, scopedRest0_eq, Pipeline.routed_singleton, w_eq, ownSems0_eq]
  simp only [owns_whole]
  rw [show mid c (V m c main_v2) (Fin.last cfg0.N).val = still c (V m c main_v2) from if_neg (by decide)]
  unfold still
  iintro ⟨%wb, -, HS0, ⟨Hh, Hs0, Hc0, Hs1, Hc1⟩, Hr, Hg⟩
  isplitl [Hh Hr]
  · isplitl [Hh]; · iexact Hh
    iexact Hr
  isplitl [Hc0 Hc1]
  · isplitl [Hc0]; · iexact Hc0
    iexact Hc1
  isplitl [HS0 Hs0 Hs1]
  · isplitl [HS0]; · iexists wb; iexact HS0
    iapply (buf_join c)
    isplitl [Hs0]; · iexact Hs0
    iexact Hs1
  iexact Hg

set_option backward.isDefEq.respectTransparency.types false in
/-- The launch: the result ends at what the proof data says, the other arrays as the call found them, every counter at zero. -/
theorem run_main_quiescent : θ_run defs (onTc (τ := τ) (main (F := F))) (s₀ m ρ)
    (fun r => Pipeline.RoutedPost cfgs (dats m) 0 {main_v2} (V m) (V m) r ∧ r.2.sem = fun _ => 0) :=
  Pipeline.θ_run_frame_routed (Q' := _) cfgs (dats m) (0 : Fin 1) launch0 ownSemFacts defs₀ Variants.none m ρ main
    (hbody := fun c => (body_obligation m c).loose)
    (hshare := fun c w => by unfold Dat.share; split <;> rfl)
    (howed := fun _ _ => rfl) (V := V m) (hmain := hmain m) (hA := A_eq m) (R := {main_v2}) (hR := by decide) (Y := V m)
    (hin := enters m) (hout := leaves m) (hQ' := fun _ h => h)

/-- THE FRAME, at any values: the arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2.2 main_arg0 (by decide)).trans (V_arg0 m c), ((h.1 c).2.2 main_arg1 (by decide)).trans (V_arg1 m c)⟩, h.2⟩) (run_main_quiescent m ρ)

end Cert.Proof.SiluFrame

end
-- ==== Proof.SiluBits.lean ====
/- Hand-written, untrusted: THE PRINTED PROGRAM OF THE BRANCH GATES AND ITS IDEALIZATION ARE ONE TEXT (no rule rewrites it), so the frame
   proved at any values of the one is the frame of the other. -/
module

public import proofs.«01_k».proof.Proof.Gen.Silu.Launch
public import proofs.«01_k».proof.Proof.SiluFrame

@[expose] public section

noncomputable section

namespace Cert.Proof.SiluBits

open Idealize.ShloMosaic Idealize.ShloMosaic.TcCoe Idealize.SL.Sem

variable {F : FTy → Type} [FloatOps F]

theorem defs₀_eq : @Cert.Silu.defs₀ F _ Cert.Silu.Gen.facts = @Cert.SiluIdeal.defs₀ F _ Cert.SiluIdeal.Gen.facts := by
  unfold Cert.Silu.defs₀ Cert.SiluIdeal.defs₀
  congr 1
  funext l x
  match l, x with
  | ⟨0, _⟩, (t, s) => rfl

theorem defs_eq : @Cert.Silu.defs F _ Cert.Silu.Gen.facts = @Cert.SiluIdeal.defs F _ Cert.SiluIdeal.Gen.facts := by
  unfold Cert.Silu.defs Cert.SiluIdeal.defs
  exact congrArg (Pipeline.defs _) defs₀_eq

theorem main_eq : @Cert.Silu.main F _ Cert.Silu.Gen.facts = @Cert.SiluIdeal.main F _ Cert.SiluIdeal.Gen.facts := rfl

open Cert.Silu in
/-- The printed program's frame. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  have h := SiluFrame.frame (F := F) m ρ
  rw [← defs_eq, ← main_eq] at h
  exact h

end Cert.Proof.SiluBits

end
-- ==== Proof.SiluValue.lean ====
/- Hand-written, untrusted: THE BRANCH GATES' RESULT ARRAY at ideal values, as one function of the arrays their call is given:
   `½x tanh(½x) + ½x` of the product of the activations with the gates' columns of the weights. -/
module

public import proofs.«01_k».proof.Proof.SiluFrame
public import Idealize.ShloMosaic.Lib.Pipeline.Value
public import Idealize.ShloMosaic.Lib.Pointwise
public import Idealize.ShloMosaic.Lib.Tactic.WordOmega

@[expose] public section

set_option maxRecDepth 16384

noncomputable section

namespace Cert.Proof.SiluValue

open Cert.SiluIdeal Cert.SiluIdeal.Gen Cert.Proof.SiluBody Cert.Proof.SiluFrame
open Idealize.ShloMosaic Idealize.ShloMosaic.TcCoe Idealize.SL.Sem

/-! ### The payloads at an element -/

theorem pay24_at (a : Vec Ideal S1024x4096 .bf16) (w : Vec Ideal S1x4096x1024 .bf16) (r q : Fin 1024) :
    (k0_pay24 a w : S1024x1024.Idx → EReal) (ix2 r q)
      = ∑ k : Fin 4096, (a : S1024x4096.Idx → EReal) (ix2 r k) * (w : S1x4096x1024.Idx → EReal) (ix3 0 k q) := by
  unfold k0_pay24
  pointwise []

/-- The half-argument form of SiLU that the kernel computes. -/
def half (x : EReal) : EReal :=
  Ideal.ofBits .f32 0x3F000000#32 * x * Ideal.tanh (Ideal.ofBits .f32 0x3F000000#32 * x) + Ideal.ofBits .f32 0x3F000000#32 * x

theorem gate_at (x : Vec Ideal S1024x1024 .f32) (r q : Fin 1024) :
    (gate x : S1024x1024.Idx → EReal) (ix2 r q) = half ((x : S1024x1024.Idx → EReal) (ix2 r q)) := by
  unfold gate half
  pointwise []

variable (m : (ℓ : Loc nD τ sig) → Buf (Elt Ideal) ℓ) (ρ : Dev nD → PrngReg) (c : Dev nD)

/-! ### The arrays the call is given, and its blocks -/

def Hm (r : Fin 16384) (k : Fin 4096) : EReal := (V m c main_v1 : S16384x4096.Idx → EReal) (ix2 r k)
def Wm (k : Fin 4096) (n : Fin 29696) : EReal := (V m c main_v2 : S4096x29696.Idx → EReal) (ix2 k n)

/-- The attention gates' columns begin at column 5120 of the weights, the gated MLP's at column 17408. -/
def gcol (n : Fin 8192) : Fin 29696 := ⟨5120 + n.val + 8192 * (n.val / 4096), by omega⟩

/-- The result, element by element. -/
def outv (r : Fin 16384) (n : Fin 8192) : EReal := half (∑ k, Hm m c r k * Wm m c k (gcol n))

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = t.val % 16 ∧ win0_1.index t (1 : Fin 2) = t.val / 16 :=
  (by decide +kernel : ∀ t : Fin grid0.N, _)

theorem lt_N (t : Fin cfg0.N) : t.val < 128 := lt_of_lt_of_eq t.isLt (show cfg0.N = 128 from N_0)

/-- A row of row block `t % 16`, a column of column block `t / 16`. -/
def row (t : ℕ) (r : Fin 1024) : Fin 16384 := ⟨1024 * (t % 16) + r.val, by omega⟩
def col (t : ℕ) (ht : t < 128) (q : Fin 1024) : Fin 8192 := ⟨1024 * (t / 16) + q.val, by omega⟩

theorem iblk0_at (t : Fin cfg0.N) (r : Fin 1024) (k : Fin 4096) :
    (iblk m c 0 t : S1024x4096.Idx → EReal) (ix2 r k) = Hm m c (row t.val r) k := by
  obtain ⟨e0, e1⟩ := idx0 t
  refine congrArg (V m c main_v1 : S16384x4096.Idx → EReal) (funext fun a => Fin.ext ?_)
  match a with
  | 0 => show win0_0.index t (0 : Fin 2) * 1024 + 1 * r.val = 1024 * (t.val % 16) + r.val; omega
  | 1 => show win0_0.index t (1 : Fin 2) * 4096 + 1 * k.val = k.val; omega

/-- A chunk of the weights at an element, -/
theorem payload_at (W : Buf (Elt Ideal) (wM.view.loc (c : Thread nD τ))) (b : Fin 128) (p : Fin 256) (q : Fin 1024) :
    (payload c W b : S256x1024.Idx → EReal) (ix2 p q) = (W : S4096x29696.Idx → EReal)
      (ix2 ⟨256 * (b.val % 16) + p.val, by omega⟩ ⟨5120 + 1024 * (b.val / 16) + 8192 * (b.val / 64) + q.val, by omega⟩) := by
  refine congrArg (W : S4096x29696.Idx → EReal) (funext fun (a : Fin 2) => Fin.ext ?_)
  match a with
  | 0 => show 256 * (b.val % 16) + 1 * p.val = 256 * (b.val % 16) + p.val; omega
  | 1 => show 5120 + 1024 * (b.val / 16) + 8192 * (b.val / 64) + 1 * q.val = 5120 + 1024 * (b.val / 16) + 8192 * (b.val / 64) + q.val; omega

theorem chunk_at (W : Buf (Elt Ideal) (wM.view.loc (c : Thread nD τ))) (b : Fin 128) (p : Fin 256) (q : Fin 1024) :
    (chunk c W b : S1x256x1024.Idx → EReal) (ix3 0 p q) = (W : S4096x29696.Idx → EReal)
      (ix2 ⟨256 * (b.val % 16) + p.val, by omega⟩ ⟨5120 + 1024 * (b.val / 16) + 8192 * (b.val / 64) + q.val, by omega⟩) := by
  rw [← payload_at c W b p q]
  unfold chunk
  generalize payload c W b = x
  pointwise []

/-- and so the rounded weights' column block. -/
theorem wB_at (t : ℕ) (ht : t < 128) (k : Fin 4096) (q : Fin 1024) :
    (wB c (V m c main_v2) (t / 16) : S1x4096x1024.Idx → EReal) (ix3 0 k q) = Wm m c k (gcol (col t ht q)) := by
  have hb : (Ring.bk 128 (16 * (t / 16) + k.val / 256)).val = 16 * (t / 16) + k.val / 256 := Ring.bk_val (by omega)
  have hi : (fun a => match a with
      | 0 => ⟨0, by decide⟩
      | 1 => ⟨k.val % 256, Nat.mod_lt _ (by decide)⟩
      | 2 => q : S1x256x1024.Idx) = ix3 (0 : Fin 1) (⟨k.val % 256, Nat.mod_lt _ (by decide)⟩ : Fin 256) q := by
    funext a
    match a with
    | 0 => rfl
    | 1 => rfl
    | 2 => rfl
  refine (congrArg (chunk c (V m c main_v2) (Ring.bk 128 (16 * (t / 16) + k.val / 256)) : S1x256x1024.Idx → EReal) hi).trans ?_
  refine (chunk_at c _ _ _ q).trans ?_
  refine congrArg (V m c main_v2 : S4096x29696.Idx → EReal) (funext fun a => Fin.ext ?_)
  match a with
  | 0 =>
    show 256 * ((Ring.bk 128 (16 * (t / 16) + k.val / 256)).val % 16) + k.val % 256 = k.val
    rw [hb]; omega
  | 1 =>
    show 5120 + 1024 * ((Ring.bk 128 (16 * (t / 16) + k.val / 256)).val / 16) + 8192 * ((Ring.bk 128 (16 * (t / 16) + k.val / 256)).val / 64) + q.val
      = 5120 + (1024 * (t / 16) + q.val) + 8192 * ((1024 * (t / 16) + q.val) / 4096)
    rw [hb]; omega

/-! ### What the points write -/

theorem res_at (t : Fin cfg0.N) (r q : Fin 1024) :
    (res m c t : S1024x1024.Idx → EReal) (ix2 r q) = outv m c (row t.val r) (col t.val (lt_N t) q) := by
  unfold res outv
  rw [gate_at, pay24_at]
  refine congrArg half (Finset.sum_congr rfl fun k _ => ?_)
  rw [iblk0_at, wB_at m c t.val (lt_N t)]

/-! ### The result array -/

def resA : S16384x8192.Idx → EReal := fun y => outv m c (y 0) (y 1)

/-- What a point writes back is its block of the result. -/
theorem flushed_eq (t : Fin cfg0.N) :
    (dats m 0 c).flushed 1 t = ((cfg0.win 1).blk t).view.read (Elt Ideal) (resA m c) := by
  obtain ⟨e0, e1⟩ := idx1 t
  unfold Pipeline.Dat.flushed
  rw [after0_1]
  funext j
  have hj : j = (ix2 (⟨(j 0).val, (j 0).isLt⟩ : Fin 1024) (⟨(j 1).val, (j 1).isLt⟩ : Fin 1024) : S1024x1024.Idx) := by
    funext a
    match a with
    | 0 => rfl
    | 1 => rfl
  refine (congrArg (res m c t : S1024x1024.Idx → EReal) hj).trans ((res_at m c t _ _).trans ?_)
  show outv m c _ _ = outv m c _ _
  congr 1 <;> apply Fin.ext
  · show 1024 * (t.val % 16) + (j 0).val = win0_1.index t (0 : Fin 2) * 1024 + 1 * (j 0).val; omega
  · show 1024 * (t.val / 16) + (j 1).val = win0_1.index t (1 : Fin 2) * 1024 + 1 * (j 1).val; omega

theorem covered (i : S16384x8192.Idx) :
    ∃ t : Fin cfg0.N, (cfg0.win 1).flush t = true ∧ i ∈ ((cfg0.win 1).blk t).view.set := by
  have h0 : (i 0).val < 16384 := (i 0).isLt
  have h1 : (i 1).val < 8192 := (i 1).isLt
  have ht : 16 * ((i 1).val / 1024) + (i 0).val / 1024 < 128 := by omega
  refine ⟨(⟨16 * ((i 1).val / 1024) + (i 0).val / 1024, ht⟩ : Fin cfg0.N), flush0_1 _, ?_⟩
  obtain ⟨e0, e1⟩ := idx1 ⟨16 * ((i 1).val / 1024) + (i 0).val / 1024, ht⟩
  have h := ((cfg0.win 1).blk (⟨16 * ((i 1).val / 1024) + (i 0).val / 1024, ht⟩ : Fin cfg0.N)).view.emb_mem_set
    (ix2 (⟨(i 0).val % 1024, by omega⟩ : Fin 1024) (⟨(i 1).val % 1024, by omega⟩ : Fin 1024) : S1024x1024.Idx)
  refine Eq.mp (congrArg (· ∈ _) (?_ : _ = i)) h
  refine funext fun a => Fin.ext ?_
  match a with
  | 0 => show win0_1.index _ (0 : Fin 2) * 1024 + 1 * ((i 0).val % 1024) = (i 0).val; rw [e0]; dsimp only; omega
  | 1 => show win0_1.index _ (1 : Fin 2) * 1024 + 1 * ((i 1).val % 1024) = (i 1).val; rw [e1]; dsimp only; omega

/-- The result array after the run. -/
theorem final : (dats m 0 c).arrAt 1 cfg0.N = resA m c :=
  (dats m 0 c).arrAt_eq_of_cover 1 (resA m c) (fun t _ => flushed_eq m c t) covered

end Cert.Proof.SiluValue

end
-- ==== Proof.SiluMatch.lean ====
/- Hand-written, untrusted: THE BRANCH GATES' RESULT IS THEIR REFERENCE'S. The host's re-laying out of the arguments read at an
   element, the reference's operations read at an element, and the one difference between the two: the kernel's SiLU is
   `½x tanh(½x) + ½x`, the reference's is `x / (1 + e⁻ˣ)`. On the reals they are one function; at `-∞` they are not (the kernel's
   is `-∞`, the reference's zero), so the activations and the weights are taken finite, and then so is every product. -/
module

public import proofs.«01_k».proof.Proof.SiluValue
public import proofs.«01_k».proof.Proof.Gen.SiluReferenceIdeal.Read
public import proofs.«01_k».proof.Proof.Value
public import proofs.«01_k».proof.Proof.Gen.Pre_finite_silu
public import Idealize.ShloMosaic.Lib.Claim
public import Idealize.ShloMosaic.Lib.StableHlo.ReadAt

@[expose] public section

set_option maxRecDepth 16384

noncomputable section

namespace Cert.Proof.SiluValue

open Cert.SiluIdeal Cert.SiluIdeal.Gen Cert.Proof.SiluFrame
open Idealize.ShloMosaic Idealize.ShloMosaic.TcCoe Idealize.SL.Sem

/-! ### The reference at an element -/

section
open Cert.SiluReferenceIdeal.Read
variable (h : S4x4096x4096.Idx → EReal) (w : S1x4096x29696.Idx → EReal)

/-- The product, at a sequence, a position and a column. -/
def pR (b : Fin 4) (s : Fin 4096) (n : Fin 8192) : EReal := ∑ k : Fin 4096, h (ix3 b s k) * w (ix3 0 k (gcol n))

theorem v2_at (b : Fin 4) (s n : Fin 4096) :
    val_main_v2 (F := Ideal) h w (ix3 b s n) = ∑ k : Fin 4096, h (ix3 b s k) * w (ix3 0 k ⟨5120 + n.val, by omega⟩) := by
  unfold val_main_v2 val_main_v1 val_main_v0
  pointwise []

theorem v5_at (b : Fin 4) (s n : Fin 4096) :
    val_main_v5 (F := Ideal) h w (ix3 b s n) = ∑ k : Fin 4096, h (ix3 b s k) * w (ix3 0 k ⟨17408 + n.val, by omega⟩) := by
  unfold val_main_v5 val_main_v4 val_main_v3
  pointwise []

/-- SiLU as the reference computes it: `x` times one over `1 + e⁻ˣ`. -/
def silu (x : EReal) : EReal := x * Ideal.div (Ideal.ofBits .f32 0x3F800000#32) (Ideal.ofBits .f32 0x3F800000#32 + Ideal.exp (-x))

theorem v6_at (b : Fin 4) (s n : Fin 4096) :
    val_main_v6 (F := Ideal) h w (ix3 b s n) = silu (∑ k : Fin 4096, h (ix3 b s k) * w (ix3 0 k ⟨5120 + n.val, by omega⟩)) := by
  rw [← v2_at]
  unfold val_main_v6 val_main_call0_v5 val_main_call0_v4 val_main_call0_v3 val_main_call0_v2 val_main_call0_v1 val_main_call0_v0
    val_main_call0_cst val_main_call0_cst_0 silu
  generalize val_main_v2 (F := Ideal) h w = y
  pointwise []

theorem v7_at (b : Fin 4) (s n : Fin 4096) :
    val_main_v7 (F := Ideal) h w (ix3 b s n) = silu (∑ k : Fin 4096, h (ix3 b s k) * w (ix3 0 k ⟨17408 + n.val, by omega⟩)) := by
  rw [← v5_at]
  unfold val_main_v7 val_main_call1_v5 val_main_call1_v4 val_main_call1_v3 val_main_call1_v2 val_main_call1_v1 val_main_call1_v0
    val_main_call1_cst val_main_call1_cst_0 silu
  generalize val_main_v5 (F := Ideal) h w = y
  pointwise []

/-- The two products side by side: the columns below 4096 are the first's, the others the second's. -/
theorem v8_at (b : Fin 4) (s : Fin 4096) (n : Fin 8192) : val_main_v8 (F := Ideal) h w (ix3 b s n) = silu (pR h w b s n) := by
  unfold val_main_v8
  by_cases hn : n.val < 4096
  · refine (concatenate_pair_apply_left (t := Cert.SiluReferenceIdeal.S4x4096x8192) (s₁ := Cert.SiluReferenceIdeal.S4x4096x4096) (s₂ := Cert.SiluReferenceIdeal.S4x4096x4096)
        (2 : Fin 3) _ _ _ _ rfl (ix3 b s ⟨n.val, hn⟩ : Cert.SiluReferenceIdeal.S4x4096x4096.Idx) (fun a => ?_)).trans ?_
    · match a with
      | ⟨0, _⟩ => rfl
      | ⟨1, _⟩ => rfl
      | ⟨2, _⟩ => rfl
    refine (v6_at h w b s _).trans (congrArg silu (Finset.sum_congr rfl fun k _ => congrArg (fun i => h (ix3 b s k) * w (ix3 0 k i)) (Fin.ext ?_)))
    show 5120 + n.val = 5120 + n.val + 8192 * (n.val / 4096)
    omega
  · obtain ⟨k', hk'⟩ : ∃ k' : Fin 4096, k'.val + 4096 = n.val := ⟨⟨n.val - 4096, by omega⟩, Nat.sub_add_cancel (by omega)⟩
    refine (concatenate_pair_apply_right (t := Cert.SiluReferenceIdeal.S4x4096x8192) (s₁ := Cert.SiluReferenceIdeal.S4x4096x4096) (s₂ := Cert.SiluReferenceIdeal.S4x4096x4096)
        (2 : Fin 3) _ _ _ _ rfl rfl (ix3 b s k' : Cert.SiluReferenceIdeal.S4x4096x4096.Idx) (fun a ha => ?_) ?_).trans ?_
    · match a with
      | ⟨0, _⟩ => rfl
      | ⟨1, _⟩ => rfl
      | ⟨2, _⟩ => exact absurd rfl ha
    · exact (fun (p q : ℕ) (hp : p = k'.val) (hq : q = 4096) => by rw [hp, hq, hk'] : ∀ p q : ℕ, p = k'.val → q = 4096 → p + q = n.val) _ _ rfl rfl
    refine (v7_at h w b s _).trans (congrArg silu (Finset.sum_congr rfl fun k _ => congrArg (fun i => h (ix3 b s k) * w (ix3 0 k i)) (Fin.ext ?_)))
    show 17408 + k'.val = 5120 + n.val + 8192 * (n.val / 4096)
    omega

theorem v10_at (r : Fin 16384) (n : Fin 8192) : val_main_v10 (F := Ideal) h w (ix2 r n)
    = silu (pR h w ⟨r.val / 4096, by omega⟩ ⟨r.val % 4096, by omega⟩ n) := by
  rw [← v8_at]
  unfold val_main_v10 val_main_v9
  generalize val_main_v8 (F := Ideal) h w = y
  pointwise []

/-- Of finite activations and weights the product is finite. -/
theorem pR_real (fh : ∀ y, h y = ((h y).toReal : EReal)) (fw : ∀ y, w y = ((w y).toReal : EReal)) (b : Fin 4) (s : Fin 4096) (n : Fin 8192) :
    ∃ x : ℝ, pR h w b s n = (x : EReal) := by
  unfold pR
  generalize Finset.univ (α := Fin 4096) = S
  induction S using Finset.induction_on with
  | empty => exact ⟨0, by rw [Finset.sum_empty]; rfl⟩
  | insert k S hk ih =>
    obtain ⟨x, hx⟩ := ih
    refine ⟨(h (ix3 b s k)).toReal * (w (ix3 0 k (gcol n))).toReal + x, ?_⟩
    rw [Finset.sum_insert hk, hx, fh (ix3 b s k), fw (ix3 0 k (gcol n)), ← EReal.coe_mul, ← EReal.coe_add]
    simp only [EReal.toReal_coe]
end

/-- The two forms of SiLU are one function on the reals. -/
theorem half_eq (x : ℝ) : half (x : EReal) = silu (x : EReal) := by
  have h1 : Ideal.ofBits .f32 0x3F800000#32 = ((1 : ℝ) : EReal) := by
    simp [Ideal.ofBits, Ideal.ieee, -EReal.coe_mul]; norm_num
  have h2 : Ideal.ofBits .f32 0x3F000000#32 = ((1 / 2 : ℝ) : EReal) := by
    simp [Ideal.ofBits, Ideal.ieee, -EReal.coe_mul]; norm_num
  unfold half silu Ideal.div
  rw [h1, h2, ← EReal.coe_mul, ← EReal.coe_neg]
  show ((1 / 2 * x : ℝ) : EReal) * (Real.tanh (1 / 2 * x) : EReal) + ((1 / 2 * x : ℝ) : EReal)
    = (x : EReal) * if ((1 : ℝ) : EReal) + (Real.exp (-x) : EReal) = 0 then _ else ((1 : ℝ) : EReal) * (((1 : ℝ) : EReal) + (Real.exp (-x) : EReal))⁻¹
  have hp : 0 < 1 + Real.exp (-x) := by positivity
  rw [← EReal.coe_add, if_neg (EReal.coe_ne_zero.2 hp.ne'), ← EReal.coe_inv, ← EReal.coe_mul, ← EReal.coe_mul, ← EReal.coe_mul, ← EReal.coe_add]
  refine congrArg _ ?_
  have ha : 0 < Real.exp (1 / 2 * x) := Real.exp_pos _
  have e1 : Real.exp (-(1 / 2 * x)) = (Real.exp (1 / 2 * x))⁻¹ := Real.exp_neg _
  have e2 : Real.exp (-x) = (Real.exp (1 / 2 * x))⁻¹ * (Real.exp (1 / 2 * x))⁻¹ := by
    rw [← e1, ← Real.exp_add]; congr 1; ring
  rw [Real.tanh_eq_sinh_div_cosh, Real.sinh_eq, Real.cosh_eq, e1, e2]
  generalize Real.exp (1 / 2 * x) = u at ha
  have hu : u ≠ 0 := ha.ne'
  have hs : u ^ 2 + 1 ≠ 0 := by positivity
  have hs' : u + u⁻¹ ≠ 0 := by positivity
  have hs'' : 1 + u⁻¹ * u⁻¹ ≠ 0 := by positivity
  field_simp
  ring

instance : Subsingleton Cert.Pre_finite_silu.S_.Idx := ⟨fun a b => funext fun i => i.elim0⟩

/-- What the precondition says of the arguments. -/
theorem finite (h : FVec Ideal Cert.Pre_finite_silu.S4x4096x4096 .f32) (w : FVec Ideal Cert.Pre_finite_silu.S1x4096x29696 .f32)
    (j : Cert.Pre_finite_silu.S_.Idx) (hp : Cert.Pre_finite_silu.fn (F := Ideal) h w j = 1#1) :
    (∀ y, (h y : EReal) = ((h y : EReal).toReal : EReal)) ∧ (∀ y, (w y : EReal) = ((w y : EReal).toReal : EReal)) := by
  unfold Cert.Pre_finite_silu.fn at hp
  dsimp only at hp
  obtain ⟨h0, h1⟩ := IntOp.andi_eq_one.1 hp
  exact ⟨fun y => Value.real_of_lt _ (Host.reduce_andi_all _ _ _ _ _ h0 y), fun y => Value.real_of_lt _ (Host.reduce_andi_all _ _ _ _ _ h1 y)⟩

/-! ### The arrays the call is given, as the arguments -/

variable (m : (ℓ : Loc nD τ sig) → Buf (Elt Ideal) ℓ) (c : Dev nD)

/-- The arguments as the caller stores them: the activations, and the in-projection's weights. -/
def hA : S4x4096x4096.Idx → EReal := m ((c : Thread nD τ).loc main_arg0)
def wA : S1x4096x29696.Idx → EReal := m ((c : Thread nD τ).loc main_arg1)

theorem Hm_eq (r : Fin 16384) (k : Fin 4096) : Hm m c r k = hA m c (ix3 ⟨r.val / 4096, by omega⟩ ⟨r.val % 4096, by omega⟩ k) := by
  unfold Hm
  entry_read
  pointwise []
  rfl
theorem Wm_eq (k : Fin 4096) (n : Fin 29696) : Wm m c k n = wA m c (ix3 0 k n) := by
  unfold Wm
  entry_read
  pointwise []
  rfl

variable (fh : ∀ y, hA m c y = ((hA m c y).toReal : EReal)) (fw : ∀ y, wA m c y = ((wA m c y).toReal : EReal))
include fh fw

/-- The kernel's result is the reference's, element by element, -/
theorem outv_eq (r : Fin 16384) (n : Fin 8192) :
    outv m c r n = Cert.SiluReferenceIdeal.Read.val_main_v10 (F := Ideal) (hA m c) (wA m c) (ix2 r n) := by
  obtain ⟨x, hx⟩ := pR_real (hA m c) (wA m c) fh fw ⟨r.val / 4096, by omega⟩ ⟨r.val % 4096, by omega⟩ n
  rw [v10_at, hx, ← half_eq, ← hx]
  unfold outv pR
  simp only [Hm_eq, Wm_eq]

/-- and whole. -/
theorem resA_eq : resA m c = Cert.SiluReferenceIdeal.Read.val_main_v10 (F := Ideal) (hA m c) (wA m c) := by
  funext y
  have hy : y = ix2 (⟨(y 0).val, (y 0).isLt⟩ : Fin 16384) (⟨(y 1).val, (y 1).isLt⟩ : Fin 8192) := by
    funext a
    match a with
    | 0 => rfl
    | 1 => rfl
  exact Eq.trans rfl ((outv_eq m c fh fw _ _).trans (congrArg _ hy.symm))

end Cert.Proof.SiluValue

end
-- ==== Proof.MergeBody.lean ====
/- Hand-written, untrusted: ONE RUN OF THE MERGE'S BODY, in each of its five cases. The weights come from HBM in chunks of 256
   rows by 1024 columns, 64 of them, 16 to a column block; point `t` starts chunk `t + 16` into one of two staging slots and waits
   for chunk `t + 15` in the other, rounds it, and puts it in its half of the rounded weights; the first point fetches the sixteen
   chunks of the first column block itself. Then the point multiplies its block of rows by its column block of the weights. -/
module

public import proofs.«01_k».proof.Proof.Gen.MergeIdeal.Launch
public import proofs.«01_k».proof.Proof.Gen.MergeIdeal.Skeleton
public import proofs.«01_k».proof.Proof.Gen.MergeIdeal.Points
public import Idealize.ShloMosaic.Lib.VecWindow
public import Idealize.ShloMosaic.Lib.Transfers
public import Idealize.ShloMosaic.Lib.Ring

@[expose] public section

set_option maxRecDepth 16384

noncomputable section

namespace Cert.Proof.MergeBody

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

/-! ### Names for the chunks, the staging slots and their semaphores -/

/-- The weights, whole, in HBM; the rounded weights; the two staging slots. -/
abbrev wM : Memref sig .tc .hbm S4096x4096 .f32 := Memref.whole main_v2
abbrev wbM : Memref sig .tc .vmem S2x4096x1024 .bf16 := Memref.whole cc0_scratch0
abbrev bufM : Memref sig .tc .vmem S2x256x1024 .f32 := Memref.whole cc0_scratch1

abbrev grpOff (b : Fin 64) : Fin 2 → ℕ := ![256 * (b.val % 16), 1024 * (b.val / 16)]
theorem grpOff_inb (b : Fin 64) : ∀ a, grpOff b a + S256x1024.size a ≤ S4096x4096.size a := fun a => by
  have := b.isLt
  match a with
  | 0 => show 256 * (b.val % 16) + 256 ≤ 4096; omega
  | 1 => show 1024 * (b.val / 16) + 1024 ≤ 4096; omega
abbrev slotOff (s : Fin 2) : Fin 3 → ℕ := ![s.val, 0, 0]
theorem slotOff_inb (s : Fin 2) : ∀ a, slotOff s a + S1x256x1024.size a ≤ S2x256x1024.size a := fun a => by
  have := s.isLt
  match a with
  | 0 => show s.val + 1 ≤ 2; omega
  | 1 => exact Nat.le_refl _
  | 2 => exact Nat.le_refl _
abbrev semOff (s : Fin 2) : Fin 1 → ℕ := ![s.val]
theorem semOff_inb (s : Fin 2) : ∀ a, semOff s a + S1.size a ≤ S2.size a := fun a => by
  have := s.isLt
  match a with
  | 0 => show s.val + 1 ≤ 2; omega

/-- Chunk `b` of the weights, -/
def grp (b : Fin 64) : Memref sig .tc .hbm S256x1024 .f32 :=
  wM.slice (Rect.unit (s := S4096x4096) (grpOff b) S256x1024.size (grpOff_inb b)) (fun _ => rfl)
/-- staging slot `s`, -/
def rslot (s : Fin 2) : Memref sig .tc .vmem S256x1024 .f32 :=
  (bufM.slice (Rect.unit (s := S2x256x1024) (slotOff s) S1x256x1024.size (slotOff_inb s)) (fun _ => rfl)).squeeze S256x1024 squeezes_S1x256x1024_S256x1024
/-- and its semaphore. -/
def csm (s : Fin 2) : DmaSems sig S_ := (cc0_scratch2.slice (Rect.unit (s := S2) (semOff s) S1.size (semOff_inb s))).squeeze S_ squeezes_S1_S_

instance (s : Fin 2) : ClosedOff (slotOff s) := ⟨slotOff s, rfl⟩
instance (b : Fin 64) : ClosedOff (grpOff b) := ⟨grpOff b, rfl⟩

/-! ### The offsets in closed form -/

theorem cond1_iff : ∀ t : Fin grid0.N, k0_cond1 (grid0.coords t) = 1#1 ↔ t.val = 0 := by decide +kernel
theorem cond2_iff : ∀ t : Fin grid0.N, k0_cond2 (grid0.coords t) = 1#1 ↔ t.val < 48 := by decide +kernel
theorem cond3_iff : ∀ t : Fin grid0.N, k0_cond3 (grid0.coords t) = 1#1 ↔ t.val < 48 ∧ t.val % 16 ≠ 0 := by decide +kernel
theorem cond4_iff : ∀ t : Fin grid0.N, k0_cond4 (grid0.coords t) = 1#1 ↔ 0 < t.val ∧ t.val % 16 = 0 := by decide +kernel
theorem off1_eq : ∀ t : Fin grid0.N, k0_off1 (grid0.coords t) = semOff (Ring.sl 2 (t.val + 16)) := by decide +kernel
theorem off2_eq : ∀ t : Fin grid0.N, k0_off2 (grid0.coords t) = slotOff (Ring.sl 2 (t.val + 16)) := by decide +kernel
theorem off3_eq : ∀ t : Fin grid0.N, t.val < 48 → k0_off3 (grid0.coords t) = grpOff (Ring.bk 64 (t.val + 16)) := by decide +kernel
theorem off4_eq : ∀ t : Fin grid0.N, t.val % 16 ≠ 0 → k0_off4 (grid0.coords t) = semOff (Ring.sl 2 (t.val + 15)) := by decide +kernel
theorem off5_eq : ∀ t : Fin grid0.N, t.val % 16 ≠ 0 → k0_off5 (grid0.coords t) = slotOff (Ring.sl 2 (t.val + 15)) := by decide +kernel
theorem off6_eq : ∀ t : Fin grid0.N, t.val < 48 → t.val % 16 ≠ 0 → k0_off6 (grid0.coords t) = grpOff (Ring.bk 64 (t.val + 15)) := by decide +kernel
theorem off7_eq : ∀ t : Fin grid0.N, k0_off7 (grid0.coords t) = slotOff (Ring.sl 2 (t.val + 15)) := by decide +kernel
theorem off8_eq : ∀ t : Fin grid0.N, t.val < 48 → t.val % 16 ≠ 0 →
    k0_off8 (grid0.coords t) = ![(t.val + 15) / 16 % 2, 256 * ((t.val + 15) % 16), 0] := by decide +kernel
theorem off9_eq : ∀ t : Fin grid0.N, 0 < t.val → t.val % 16 = 0 → k0_off9 (grid0.coords t) = grpOff (Ring.bk 64 (t.val + 15)) := by decide +kernel
theorem off10_eq : ∀ t : Fin grid0.N, 0 < t.val → t.val % 16 = 0 →
    k0_off10 (grid0.coords t) = ![(t.val + 15) / 16 % 2, 256 * ((t.val + 15) % 16), 0] := by decide +kernel
theorem off11_eq : ∀ t : Fin grid0.N, k0_off11 (grid0.coords t) = ![t.val / 16 % 2, 0, 0] := by decide +kernel
theorem sl_one : ∀ t : Fin grid0.N, t.val % 16 = 0 → Ring.sl 2 (t.val + 15) = 1 := by decide +kernel
theorem sl_zero : ∀ t : Fin grid0.N, t.val % 16 = 0 → Ring.sl 2 (t.val + 16) = 0 := by decide +kernel

/-! ### The body's slices under those names -/

private theorem csm_congr {off : Fin 1 → ℕ} {s : Fin 2} (e : off = semOff s) (hh) :
    (cc0_scratch2.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → ℕ} {s : Fin 2} (e : off = slotOff s) (hh hs) :
    (bufM.slice (Rect.unit (s := S2x256x1024) off S1x256x1024.size hh) hs).squeeze S256x1024 squeezes_S1x256x1024_S256x1024 = rslot s :=
  congrArg (fun M : Memref sig .tc .vmem S1x256x1024 .f32 => M.squeeze S256x1024 squeezes_S1x256x1024_S256x1024) (Memref.slice_unit_congr _ e _ _ _ _)
private theorem grp_congr {off : Fin 2 → ℕ} {b : Fin 64} (e : off = grpOff b) (hh hs) :
    wM.slice (Rect.unit (s := S4096x4096) off S256x1024.size hh) hs = grp b := Memref.slice_unit_congr _ e _ _ _ fun _ => rfl

@[sl_canon] theorem semL0 (hh) : (cc0_scratch2.slice (Rect.unit (s := S2) ![0] S1.size hh)).squeeze S_ squeezes_S1_S_ = csm 0 := csm_congr (by decide) _
@[sl_canon] theorem semL1 (hh) : (cc0_scratch2.slice (Rect.unit (s := S2) ![1] S1.size hh)).squeeze S_ squeezes_S1_S_ = csm 1 := csm_congr (by decide) _
@[sl_canon] theorem slotL0 (hh hs) : (bufM.slice (Rect.unit (s := S2x256x1024) ![0, 0, 0] S1x256x1024.size hh) hs).squeeze S256x1024 squeezes_S1x256x1024_S256x1024 = rslot 0 := rslot_congr (by decide) _ _
@[sl_canon] theorem slotL1 (hh hs) : (bufM.slice (Rect.unit (s := S2x256x1024) ![1, 0, 0] S1x256x1024.size hh) hs).squeeze S256x1024 squeezes_S1x256x1024_S256x1024 = rslot 1 := rslot_congr (by decide) _ _
@[sl_canon] theorem grpL0 (hh hs) : wM.slice (Rect.unit (s := S4096x4096) ![0, 0] S256x1024.size hh) hs = grp 0 := grp_congr (by decide) _ _
@[sl_canon] theorem grpL1 (hh hs) : wM.slice (Rect.unit (s := S4096x4096) ![256, 0] S256x1024.size hh) hs = grp 1 := grp_congr (by decide) _ _
@[sl_canon] theorem grpL2 (hh hs) : wM.slice (Rect.unit (s := S4096x4096) ![512, 0] S256x1024.size hh) hs = grp 2 := grp_congr (by decide) _ _
@[sl_canon] theorem grpL3 (hh hs) : wM.slice (Rect.unit (s := S4096x4096) ![768, 0] S256x1024.size hh) hs = grp 3 := grp_congr (by decide) _ _
@[sl_canon] theorem grpL4 (hh hs) : wM.slice (Rect.unit (s := S4096x4096) ![1024, 0] S256x1024.size hh) hs = grp 4 := grp_congr (by decide) _ _
@[sl_canon] theorem grpL5 (hh hs) : wM.slice (Rect.unit (s := S4096x4096) ![1280, 0] S256x1024.size hh) hs = grp 5 := grp_congr (by decide) _ _
@[sl_canon] theorem grpL6 (hh hs) : wM.slice (Rect.unit (s := S4096x4096) ![1536, 0] S256x1024.size hh) hs = grp 6 := grp_congr (by decide) _ _
@[sl_canon] theorem grpL7 (hh hs) : wM.slice (Rect.unit (s := S4096x4096) ![1792, 0] S256x1024.size hh) hs = grp 7 := grp_congr (by decide) _ _
@[sl_canon] theorem grpL8 (hh hs) : wM.slice (Rect.unit (s := S4096x4096) ![2048, 0] S256x1024.size hh) hs = grp 8 := grp_congr (by decide) _ _
@[sl_canon] theorem grpL9 (hh hs) : wM.slice (Rect.unit (s := S4096x4096) ![2304, 0] S256x1024.size hh) hs = grp 9 := grp_congr (by decide) _ _
@[sl_canon] theorem grpL10 (hh hs) : wM.slice (Rect.unit (s := S4096x4096) ![2560, 0] S256x1024.size hh) hs = grp 10 := grp_congr (by decide) _ _
@[sl_canon] theorem grpL11 (hh hs) : wM.slice (Rect.unit (s := S4096x4096) ![2816, 0] S256x1024.size hh) hs = grp 11 := grp_congr (by decide) _ _
@[sl_canon] theorem grpL12 (hh hs) : wM.slice (Rect.unit (s := S4096x4096) ![3072, 0] S256x1024.size hh) hs = grp 12 := grp_congr (by decide) _ _
@[sl_canon] theorem grpL13 (hh hs) : wM.slice (Rect.unit (s := S4096x4096) ![3328, 0] S256x1024.size hh) hs = grp 13 := grp_congr (by decide) _ _
@[sl_canon] theorem grpL14 (hh hs) : wM.slice (Rect.unit (s := S4096x4096) ![3584, 0] S256x1024.size hh) hs = grp 14 := grp_congr (by decide) _ _
@[sl_canon] theorem grpL15 (hh hs) : wM.slice (Rect.unit (s := S4096x4096) ![3840, 0] S256x1024.size hh) hs = grp 15 := grp_congr (by decide) _ _

section Canon
variable (t : Fin grid0.N)
@[sl_canon] theorem semI (hh) : (cc0_scratch2.slice (Rect.unit (s := S2) (k0_off1 (grid0.coords t)) S1.size hh)).squeeze S_ squeezes_S1_S_ = csm (Ring.sl 2 (t.val + 16)) := csm_congr (off1_eq t) _
@[sl_canon] theorem slotI (hh hs) : (bufM.slice (Rect.unit (s := S2x256x1024) (k0_off2 (grid0.coords t)) S1x256x1024.size hh) hs).squeeze S256x1024 squeezes_S1x256x1024_S256x1024 = rslot (Ring.sl 2 (t.val + 16)) := rslot_congr (off2_eq t) _ _
@[sl_canon] theorem grpI (ht : t.val < 48) (hh hs) : wM.slice (Rect.unit (s := S4096x4096) (k0_off3 (grid0.coords t)) S256x1024.size hh) hs = grp (Ring.bk 64 (t.val + 16)) := grp_congr (off3_eq t ht) _ _
@[sl_canon] theorem semW (hm : t.val % 16 ≠ 0) (hh) : (cc0_scratch2.slice (Rect.unit (s := S2) (k0_off4 (grid0.coords t)) S1.size hh)).squeeze S_ squeezes_S1_S_ = csm (Ring.sl 2 (t.val + 15)) := csm_congr (off4_eq t hm) _
@[sl_canon] theorem slotW (hm : t.val % 16 ≠ 0) (hh hs) : (bufM.slice (Rect.unit (s := S2x256x1024) (k0_off5 (grid0.coords t)) S1x256x1024.size hh) hs).squeeze S256x1024 squeezes_S1x256x1024_S256x1024 = rslot (Ring.sl 2 (t.val + 15)) := rslot_congr (off5_eq t hm) _ _
@[sl_canon] theorem grpW (ht : t.val < 48) (hm : t.val % 16 ≠ 0) (hh hs) : wM.slice (Rect.unit (s := S4096x4096) (k0_off6 (grid0.coords t)) S256x1024.size hh) hs = grp (Ring.bk 64 (t.val + 15)) := grp_congr (off6_eq t ht hm) _ _
@[sl_canon] theorem grpE (h0 : 0 < t.val) (hm : t.val % 16 = 0) (hh hs) : wM.slice (Rect.unit (s := S4096x4096) (k0_off9 (grid0.coords t)) S256x1024.size hh) hs = grp (Ring.bk 64 (t.val + 15)) := grp_congr (off9_eq t h0 hm) _ _
instance : ClosedOff (k0_off7 (grid0.coords t)) := ⟨_, off7_eq t⟩
end Canon

/-! ### The pieces: a chunk at home, a slot, its semaphore, a slot in flight -/

section Pieces
variable (c : Dev nD) (q : PosShare TreeShare) (W : Buf (Elt F) (wM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
abbrev homeP (b : Fin 64) : sProp 𝕄 := (grp b).view.loc (c : Thread nD τ) ↦[(grp b).view.set]{q} W
/-- Chunk `b` as a transfer carries it. -/
abbrev payload (b : Fin 64) : S256x1024.Idx → Elt F .f32 := ReadAs.same.apply ((grp b).view.read (Elt F) W)
abbrev landed (s : Fin 2) (b : Fin 64) (f : Buf (Elt F) ((rslot s).view.loc (c : Thread nD τ))) : Buf (Elt F) ((rslot s).view.loc (c : Thread nD τ)) :=
  (rslot s).view.writes (Elt F) f [⟨Rect.whole S256x1024, payload c W b⟩]
/-- Slot `s` with chunk `b` on its way into it. -/
abbrev flightP (s : Fin 2) (b : Fin 64) (f : Buf (Elt F) ((rslot s).view.loc (c : Thread nD τ))) : sProp 𝕄 :=
  Transfers.Flight countersEmb (c : Thread nD τ) (SemLoc.dma (csm s).sem) () 32768 iprop(slotP c s (landed c W s b f) ∗ homeP c q W b)
end Pieces

/-! ### What the body computes -/

/-- Where chunk `g` goes in the rounded weights. -/
abbrev wbOff (g : ℕ) : Fin 3 → ℕ := ![g / 16 % 2, 256 * (g % 16), 0]
/-- Chunk `b`, rounded. -/
def chunk (c : Dev nD) (W : Buf (Elt F) (wM.view.loc (c : Thread nD τ))) (b : Fin 64) : Vec F S1x256x1024 .bf16 :=
  shapeCast S1x256x1024 (truncf .bf16 (payload c W b) bitsLt_bf16_f32) shapeCasts_S256x1024_S1x256x1024
/-- The rounded weights with chunk `g` put in. -/
def putChunk (c : Dev nD) (W : Buf (Elt F) (wM.view.loc (c : Thread nD τ))) (g : ℕ) (wb : Vec F S2x4096x1024 .bf16) : Vec F S2x4096x1024 .bf16 :=
  VecWindow.put (s := S2x4096x1024) wb (wbOff g) S1x256x1024.size (chunk c W (Ring.bk 64 g))

/-- A load of a slot just filled is the chunk that filled it. -/
theorem slotRead (c : Dev nD) (s : Fin 2) {off : Fin 3 → ℕ} (h : off = slotOff s) (inb : ∀ a, off a + S1x256x1024.size a ≤ S2x256x1024.size a)
    (f : Buf (Elt F) ((rslot s).view.loc (c : Thread nD τ))) (p : S256x1024.Idx → Elt F .f32) :
    shapeCast S256x1024 (bufM.view.readAt (Elt F) (Rect.unit (s := S2x256x1024) off S1x256x1024.size inb).toLoadRect
      ((rslot s).view.writes (Elt F) f [⟨Rect.whole S256x1024, p⟩])) shapeCasts_S1x256x1024_S256x1024 = p := by
  subst h
  exact View.read_writes_whole (rslot s).view f p

variable (c : Dev nD) (t : Fin grid0.N) (q q' : PosShare TreeShare) (W : Buf (Elt F) (wM.view.loc (c : Thread nD τ)))
  (arg2 : Memref sig .tc .vmem S1024x4096 .bf16) (harg2 : arg2.IsWhole) (arg4 : Memref sig .tc .vmem S1024x1024 .bf16) (harg4 : arg4.IsWhole)
  (arg5 : Memref sig .tc .vmem S1024x1024 .bf16) (harg5 : arg5.IsWhole) (arg6 : Memref sig .tc .vmem S1024x1024 .bf16) (harg6 : arg6.IsWhole)
  (arg7 : Memref sig .tc .vmem S2x4096x1024 .bf16) (harg7 : arg7.IsWhole)
  (a : Vec F S1024x4096 .bf16) (wb : Vec F S2x4096x1024 .bf16) (o : Vec F S1024x1024 .bf16)

/-- The body at point `t`: -/
abbrev bodyG : Prog (TpuEff nD τ sig (Elt F) Λ₀ .tc) PUnit :=
  cc0_up_gmlp_merge (grid0.coords t) arg2 harg2 wM (Memref.isWhole_whole _) arg4 harg4 arg5 harg5 arg6 harg6 arg7 harg7 bufM (Memref.isWhole_whole _) cc0_scratch2
/-- its first part, which fetches weights and reads the point's block of rows, -/
abbrev headG : Prog (TpuEff nD τ sig (Elt F) Λ₀ .tc) (FVec F S1024x4096 .bf16) :=
  k0_part12 (grid0.coords t) arg2 harg2 wM (Memref.isWhole_whole _) arg4 harg4 arg5 harg5 arg6 harg6 arg7 harg7 bufM (Memref.isWhole_whole _) cc0_scratch2
/-- and the rest of it, which multiplies and writes. -/
def tailG (v31 : FVec F S1024x4096 .bf16) : Prog (TpuEff nD τ sig (Elt F) Λ₀ .tc) PUnit := do
  let ⟨v35, v61⟩ : Σ' (v35 : FVec F S1024x1024 .f32), FVec F S1024x128 .bf16 ← k0_part13 (grid0.coords t) arg2 harg2 wM (Memref.isWhole_whole _) arg4 harg4 arg5 harg5 arg6 harg6 arg7 harg7 bufM (Memref.isWhole_whole _) cc0_scratch2 v31
  k0_part14 (grid0.coords t) arg2 harg2 wM (Memref.isWhole_whole _) arg4 harg4 arg5 harg5 arg6 harg6 arg7 harg7 bufM (Memref.isWhole_whole _) cc0_scratch2 v35 v61
  let v121 : Vec F S1024x128 .bf16 ← k0_part15 (grid0.coords t) arg2 harg2 wM (Memref.isWhole_whole _) arg4 harg4 arg5 harg5 arg6 harg6 arg7 harg7 bufM (Memref.isWhole_whole _) cc0_scratch2 v35
  let v124 : Memref sig .tc .vmem S1024x1024 .bf16 := arg4.slice (Rect.unit (s := S1024x1024) ![0, 0] S1024x1024.size inb_S1024x1024_S1024x1024_0_0) (fun _ => rfl)
  let v125 : Vec F S1024x128 .bf16 ← Prog.lift (.load v124 (Rect.unit (s := S1024x1024) ![0, 768] S1024x128.size inb_S1024x1024_S1024x128_0_768).toLoadRect (View.loadsAt_vmem h_S1024x128))
  let v132 : Memref sig .tc .vmem S1024x1024 .bf16 := arg6.slice (Rect.unit (s := S1024x1024) ![0, 0] S1024x1024.size inb_S1024x1024_S1024x1024_0_0) (fun _ => rfl)
  let v133 : Vec F S1024x128 .bf16 ← Prog.lift (.load v132 (Rect.unit (s := S1024x1024) ![0, 768] S1024x128.size inb_S1024x1024_S1024x128_0_768).toLoadRect (View.loadsAt_vmem h_S1024x128))
  Prog.lift (.store arg6 (Rect.unit (s := S1024x1024) ![0, 768] S1024x128.size inb_S1024x1024_S1024x128_0_768) (k0_pay1 v35 v121 v125) Finset.univ (View.stores_vmem h_S1024x128 (harg6.storeExact_slice rfl _ packedbf16_S1024x1024_S1024x128_0_768) (fun _ => rfl)) (.inl rfl))
  let v134 : Memref sig .tc .vmem S1024x1024 .bf16 := arg5.slice (Rect.unit (s := S1024x1024) ![0, 0] S1024x1024.size inb_S1024x1024_S1024x1024_0_0) (fun _ => rfl)
  let v135 : Vec F S1024x128 .bf16 ← Prog.lift (.load v134 (Rect.unit (s := S1024x1024) ![0, 896] S1024x128.size inb_S1024x1024_S1024x128_0_896).toLoadRect (View.loadsAt_vmem h_S1024x128))
  let v138 : Memref sig .tc .vmem S1024x1024 .bf16 := arg4.slice (Rect.unit (s := S1024x1024) ![0, 0] S1024x1024.size inb_S1024x1024_S1024x1024_0_0) (fun _ => rfl)
  let v139 : Vec F S1024x128 .bf16 ← Prog.lift (.load v138 (Rect.unit (s := S1024x1024) ![0, 896] S1024x128.size inb_S1024x1024_S1024x128_0_896).toLoadRect (View.loadsAt_vmem h_S1024x128))
  let v146 : Memref sig .tc .vmem S1024x1024 .bf16 := arg6.slice (Rect.unit (s := S1024x1024) ![0, 0] S1024x1024.size inb_S1024x1024_S1024x1024_0_0) (fun _ => rfl)
  let v147 : Vec F S1024x128 .bf16 ← Prog.lift (.load v146 (Rect.unit (s := S1024x1024) ![0, 896] S1024x128.size inb_S1024x1024_S1024x128_0_896).toLoadRect (View.loadsAt_vmem h_S1024x128))
  Prog.lift (.store arg6 (Rect.unit (s := S1024x1024) ![0, 896] S1024x128.size inb_S1024x1024_S1024x128_0_896) (k0_pay2 v35 v135 v139) Finset.univ (View.stores_vmem h_S1024x128 (harg6.storeExact_slice rfl _ packedbf16_S1024x1024_S1024x128_0_896) (fun _ => rfl)) (.inl rfl))
  pure ⟨⟩

theorem bodyG_eq : bodyG (F := F) t arg2 harg2 arg4 harg4 arg5 harg5 arg6 harg6 arg7 harg7
    = (headG t arg2 harg2 arg4 harg4 arg5 harg5 arg6 harg6 arg7 harg7 >>= tailG t arg2 harg2 arg4 harg4 arg5 harg5 arg6 harg6 arg7 harg7) := by
  unfold bodyG
  rw [cc0_up_gmlp_merge_eq_skeleton]
  rfl

/-! ### Loads and stores of whole memrefs -/

/-- What a store leaves in a buffer that held what `f` reads: the payload put there. -/
theorem putAt {sp : Space} {S : Shape} {e : EltTy} (v : View sig .tc sp S e) (f : v.ty.Contents (Elt F)) {u : Vec F S e}
    (hf : v.read (Elt F) f = u) (off size : Fin S.rank → ℕ) (inb : ∀ a, off a + size a ≤ S.size a)
    (z : (Rect.unit off size inb).shape.Idx → Elt F e) :
    v.read (Elt F) (v.writes (Elt F) f [⟨Rect.unit off size inb, z⟩]) = VecWindow.put u off size z := by
  rw [View.read_writes_cons_put v f inb z [] rfl, View.writes_nil, hf]

/-- A load of the whole of what `f` reads. -/
theorem readAll {sp : Space} {S : Shape} {e : EltTy} (v : View sig .tc sp S e) (f : v.ty.Contents (Elt F)) {u : Vec F S e}
    (hf : v.read (Elt F) f = u) {off : Fin S.rank → ℕ} (inb : ∀ a, off a + S.size a ≤ S.size a) :
    v.readAt (Elt F) (Rect.unit off S.size inb).toLoadRect f = u := (View.readAt_full v f inb).trans hf

/-! ### The fetches -/

set_option maxHeartbeats 4000000 in
/-- A point inside a column block: a chunk is started, the one before it arrives. -/
theorem headB (ht : t.val < 48) (hm : t.val % 16 ≠ 0) (K : _ → sProp 𝕄) :
    iprop(owns (c : Thread nD τ) arg2 fullShare a
      ∗ owns (c : Thread nD τ) arg7 fullShare wb ∗ (∃ W', owes (c : Thread nD τ) 0 W')
      ∗ homeP c q W (Ring.bk 64 (t.val + 16)) ∗ (∃ f, slotP c (Ring.sl 2 (t.val + 16)) f) ∗ cellP c (Ring.sl 2 (t.val + 16))
      ∗ (∃ f, flightP c q' W (Ring.sl 2 (t.val + 15)) (Ring.bk 64 (t.val + 15)) f)
        ∗ (iprop(owns (c : Thread nD τ) arg2 fullShare a
          ∗ owns (c : Thread nD τ) arg7 fullShare (putChunk c W (t.val + 15) wb) ∗ (∃ W', owes (c : Thread nD τ) 0 W')
          ∗ (∃ f, flightP c q W (Ring.sl 2 (t.val + 16)) (Ring.bk 64 (t.val + 16)) f)
          ∗ homeP c q' W (Ring.bk 64 (t.val + 15)) ∗ (∃ f, slotP c (Ring.sl 2 (t.val + 15)) f) ∗ cellP c (Ring.sl 2 (t.val + 15))) -∗ K (k0_pay23 a)))
      ⊢ wp frame (wpE (defs₀ (F := F)) Variants.none c none) Set.univ (headG t arg2 harg2 arg4 harg4 arg5 harg5 arg6 harg6 arg7 harg7) K := by
  have h1 : ¬k0_cond1 (grid0.coords t) = 1#1 := fun h => by have := (cond1_iff t).mp h; omega
  have h2 : k0_cond2 (grid0.coords t) = 1#1 := (cond2_iff t).mpr ht
  have h3 : k0_cond3 (grid0.coords t) = 1#1 := (cond3_iff t).mpr ⟨ht, hm⟩
  have h4 : ¬k0_cond4 (grid0.coords t) = 1#1 := fun h => by have := (cond4_iff t).mp h; omega
  unfold headG
  simp only [k0_part12_eq_skeleton]; unfold k0_part12_skel
  unfold owns
  iintro ⟨⟨%f2, %hf2, H2⟩, ⟨%f5, %hf5, H5⟩, ⟨%W', HW⟩, Hg, ⟨%fa, Hs⟩, Hc, ⟨%fb, HF⟩, Hk⟩
  sl_exec (disch := first | sl_exact h1 | sl_exact h2 | sl_exact h3 | sl_exact h4)
  sl_step
  rw [readAll arg2.view f2 hf2]
  iapply Hk
  isplitl [H2]
  · iexists _; isplitr; · ipureintro; exact hf2
    iexact H2
  isplitl [H5]
  · iexists _; isplitr
    swap; · iexact H5
    ipureintro
    rw [putAt arg7.view f5 hf5]
    unfold headB.sl.v195 k0_pay21 putChunk chunk
    simp only [slotRead c _ (off7_eq t)]
    rw [off8_eq t ht hm]
  isplitl [HW]; · iexists _; iexact HW
  isplitl [Hc]; · iexists _; iexact Hc
  isplitl [HF_src]; · iexact HF_src
  isplitl [HF_dst]; · iexists _; iexact HF_dst
  iexact HF

set_option maxHeartbeats 4000000 in
/-- The first point of a column block: a chunk is started, the last of this column block arrives. -/
theorem headC (ht : t.val < 48) (h0 : 0 < t.val) (hm : t.val % 16 = 0) (K : _ → sProp 𝕄) :
    iprop(owns (c : Thread nD τ) arg2 fullShare a
      ∗ owns (c : Thread nD τ) arg7 fullShare wb ∗ (∃ W', owes (c : Thread nD τ) 0 W')
      ∗ homeP c q W (Ring.bk 64 (t.val + 16)) ∗ (∃ f, slotP c (Ring.sl 2 (t.val + 16)) f) ∗ cellP c (Ring.sl 2 (t.val + 16))
      ∗ (∃ f, flightP c q' W (Ring.sl 2 (t.val + 15)) (Ring.bk 64 (t.val + 15)) f)
        ∗ (iprop(owns (c : Thread nD τ) arg2 fullShare a
          ∗ owns (c : Thread nD τ) arg7 fullShare (putChunk c W (t.val + 15) wb) ∗ (∃ W', owes (c : Thread nD τ) 0 W')
          ∗ (∃ f, flightP c q W (Ring.sl 2 (t.val + 16)) (Ring.bk 64 (t.val + 16)) f)
          ∗ homeP c q' W (Ring.bk 64 (t.val + 15)) ∗ (∃ f, slotP c (Ring.sl 2 (t.val + 15)) f) ∗ cellP c (Ring.sl 2 (t.val + 15))) -∗ K (k0_pay23 a)))
      ⊢ wp frame (wpE (defs₀ (F := F)) Variants.none c none) Set.univ (headG t arg2 harg2 arg4 harg4 arg5 harg5 arg6 harg6 arg7 harg7) K := by
  have h1 : ¬k0_cond1 (grid0.coords t) = 1#1 := fun h => by have := (cond1_iff t).mp h; omega
  have h2 : k0_cond2 (grid0.coords t) = 1#1 := (cond2_iff t).mpr ht
  have h3 : ¬k0_cond3 (grid0.coords t) = 1#1 := fun h => by have := (cond3_iff t).mp h; omega
  have h4 : k0_cond4 (grid0.coords t) = 1#1 := (cond4_iff t).mpr ⟨h0, hm⟩
  rw [sl_one t hm]
  unfold headG
  simp only [k0_part12_eq_skeleton]; unfold k0_part12_skel
  unfold owns
  iintro ⟨⟨%f2, %hf2, H2⟩, ⟨%f5, %hf5, H5⟩, ⟨%W', HW⟩, Hg, ⟨%fa, Hs⟩, Hc, ⟨%fb, HF⟩, Hk⟩
  sl_exec (disch := first | sl_exact h1 | sl_exact h2 | sl_exact h3 | sl_exact h4)
  sl_step
  rw [readAll arg2.view f2 hf2]
  iapply Hk
  isplitl [H2]
  · iexists _; isplitr; · ipureintro; exact hf2
    iexact H2
  isplitl [H5]
  · iexists _; isplitr
    swap; · iexact H5
    ipureintro
    rw [putAt arg7.view f5 hf5]
    unfold headC.sl.v166 k0_pay22 putChunk chunk
    simp only [slotRead c _ (by decide : (![1, 0, 0] : Fin 3 → ℕ) = slotOff 1)]
    rw [off10_eq t h0 hm]
  isplitl [HW]; · iexists _; iexact HW
  isplitl [Hc]; · iexists _; iexact Hc
  isplitl [HF_src]; · iexact HF_src
  isplitl [HF_dst]; · iexists _; iexact HF_dst
  iexact HF

set_option maxHeartbeats 4000000 in
/-- The first point of the last column block: its last chunk arrives. -/
theorem headD (ht : 48 ≤ t.val) (h0 : 0 < t.val) (hm : t.val % 16 = 0) (K : _ → sProp 𝕄) :
    iprop(owns (c : Thread nD τ) arg2 fullShare a
      ∗ owns (c : Thread nD τ) arg7 fullShare wb ∗ (∃ W', owes (c : Thread nD τ) 0 W')
      ∗ (∃ f, flightP c q' W (Ring.sl 2 (t.val + 15)) (Ring.bk 64 (t.val + 15)) f)
        ∗ (iprop(owns (c : Thread nD τ) arg2 fullShare a
          ∗ owns (c : Thread nD τ) arg7 fullShare (putChunk c W (t.val + 15) wb) ∗ (∃ W', owes (c : Thread nD τ) 0 W')
          ∗ homeP c q' W (Ring.bk 64 (t.val + 15)) ∗ (∃ f, slotP c (Ring.sl 2 (t.val + 15)) f) ∗ cellP c (Ring.sl 2 (t.val + 15))) -∗ K (k0_pay23 a)))
      ⊢ wp frame (wpE (defs₀ (F := F)) Variants.none c none) Set.univ (headG t arg2 harg2 arg4 harg4 arg5 harg5 arg6 harg6 arg7 harg7) K := by
  have h1 : ¬k0_cond1 (grid0.coords t) = 1#1 := fun h => by have := (cond1_iff t).mp h; omega
  have h2 : ¬k0_cond2 (grid0.coords t) = 1#1 := fun h => by have := (cond2_iff t).mp h; omega
  have h3 : ¬k0_cond3 (grid0.coords t) = 1#1 := fun h => by have := (cond3_iff t).mp h; omega
  have h4 : k0_cond4 (grid0.coords t) = 1#1 := (cond4_iff t).mpr ⟨h0, hm⟩
  rw [sl_one t hm]
  unfold headG
  simp only [k0_part12_eq_skeleton]; unfold k0_part12_skel
  unfold owns
  iintro ⟨⟨%f2, %hf2, H2⟩, ⟨%f5, %hf5, H5⟩, ⟨%W', HW⟩, ⟨%fb, HF⟩, Hk⟩
  sl_exec (disch := first | sl_exact h1 | sl_exact h2 | sl_exact h3 | sl_exact h4)
  sl_step
  rw [readAll arg2.view f2 hf2]
  iapply Hk
  isplitl [H2]
  · iexists _; isplitr; · ipureintro; exact hf2
    iexact H2
  isplitl [H5]
  · iexists _; isplitr
    swap; · iexact H5
    ipureintro
    rw [putAt arg7.view f5 hf5]
    unfold headD.sl.v166 k0_pay22 putChunk chunk
    simp only [slotRead c _ (by decide : (![1, 0, 0] : Fin 3 → ℕ) = slotOff 1)]
    rw [off10_eq t h0 hm]
  isplitl [HW]; · iexists _; iexact HW
  isplitl [HF_src]; · iexact HF_src
  isplitl [HF_dst]; · iexists _; iexact HF_dst
  iexact HF

set_option maxHeartbeats 4000000 in
/-- A later point of the last column block: nothing is fetched. -/
theorem headE (ht : 48 < t.val) (K : _ → sProp 𝕄) :
    iprop(owns (c : Thread nD τ) arg2 fullShare a
        ∗ (iprop(owns (c : Thread nD τ) arg2 fullShare a) -∗ K (k0_pay23 a)))
      ⊢ wp frame (wpE (defs₀ (F := F)) Variants.none c none) Set.univ (headG t arg2 harg2 arg4 harg4 arg5 harg5 arg6 harg6 arg7 harg7) K := by
  have h1 : ¬k0_cond1 (grid0.coords t) = 1#1 := fun h => by have := (cond1_iff t).mp h; omega
  have h2 : ¬k0_cond2 (grid0.coords t) = 1#1 := fun h => by have := (cond2_iff t).mp h; omega
  have h3 : ¬k0_cond3 (grid0.coords t) = 1#1 := fun h => by have := (cond3_iff t).mp h; omega
  have h4 : ¬k0_cond4 (grid0.coords t) = 1#1 := fun h => by have := (cond4_iff t).mp h; have : t.val < 64 := lt_of_lt_of_eq t.isLt N_0; omega
  unfold headG
  simp only [k0_part12_eq_skeleton]; unfold k0_part12_skel
  unfold owns
  iintro ⟨⟨%f2, %hf2, H2⟩, Hk⟩
  sl_exec (disch := first | sl_exact h1 | sl_exact h2 | sl_exact h3 | sl_exact h4)
  sl_step
  rw [readAll arg2.view f2 hf2]
  iapply Hk
  iexists _; isplitr; · ipureintro; exact hf2
  iexact H2

end Cert.Proof.MergeBody

end
-- ==== Proof.MergeFirst.lean ====
/- Hand-written, untrusted: THE FIRST POINT OF THE MERGE. It fetches the sixteen chunks of the first column block itself, two
   at a time, and starts the seventeenth. -/
module

public import proofs.«01_k».proof.Proof.MergeBody

@[expose] public section

set_option maxRecDepth 16384

noncomputable section

namespace Cert.Proof.MergeFirst

open Cert.MergeIdeal Cert.MergeIdeal.Gen Cert.Proof.MergeBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

variable (c : Dev nD) (t : Fin grid0.N) (q : PosShare TreeShare) (W : Buf (Elt F) (wM.view.loc (c : Thread nD τ)))
  (arg2 : Memref sig .tc .vmem S1024x4096 .bf16) (harg2 : arg2.IsWhole) (arg4 : Memref sig .tc .vmem S1024x1024 .bf16) (harg4 : arg4.IsWhole)
  (arg5 : Memref sig .tc .vmem S1024x1024 .bf16) (harg5 : arg5.IsWhole) (arg6 : Memref sig .tc .vmem S1024x1024 .bf16) (harg6 : arg6.IsWhole)
  (arg7 : Memref sig .tc .vmem S2x4096x1024 .bf16) (harg7 : arg7.IsWhole)
  (a : Vec F S1024x4096 .bf16) (wb : Vec F S2x4096x1024 .bf16)

/-- The first column block's chunks at home. -/
def firstHomes : sProp 𝕄 :=
  iprop(homeP c q W 0 ∗ homeP c q W 1 ∗ homeP c q W 2 ∗ homeP c q W 3 ∗ homeP c q W 4 ∗ homeP c q W 5 ∗ homeP c q W 6 ∗ homeP c q W 7 ∗ homeP c q W 8 ∗ homeP c q W 9 ∗ homeP c q W 10 ∗ homeP c q W 11 ∗ homeP c q W 12 ∗ homeP c q W 13 ∗ homeP c q W 14 ∗ homeP c q W 15)

/-- The rounded weights with the first column block put in. -/
def putFirst : Vec F S2x4096x1024 .bf16 :=
  putChunk c W 15 (putChunk c W 14 (putChunk c W 13 (putChunk c W 12 (putChunk c W 11 (putChunk c W 10 (putChunk c W 9 (putChunk c W 8 (putChunk c W 7 (putChunk c W 6 (putChunk c W 5 (putChunk c W 4 (putChunk c W 3 (putChunk c W 2 (putChunk c W 1 (putChunk c W 0 wb)))))))))))))))

/-- A load of a slot just filled with a chunk, rounded, is the rounded chunk. -/
theorem chunkRead (s : Fin 2) {off : Fin 3 → ℕ} (h : off = slotOff s) (inb : ∀ a, off a + S1x256x1024.size a ≤ S2x256x1024.size a)
    (f : Buf (Elt F) ((rslot s).view.loc (c : Thread nD τ))) (b : Fin 64) :
    shapeCast S1x256x1024 (truncf .bf16 (shapeCast S256x1024 (bufM.view.readAt (Elt F) (Rect.unit (s := S2x256x1024) off S1x256x1024.size inb).toLoadRect
      ((rslot s).view.writes (Elt F) f [⟨Rect.whole S256x1024, payload c W b⟩])) shapeCasts_S1x256x1024_S256x1024) bitsLt_bf16_f32)
      shapeCasts_S256x1024_S1x256x1024 = chunk c W b := by
  rw [slotRead c s h]
  rfl

/-- Chunks put in one after another: the last of them first. -/
theorem put_step (g : ℕ) {u u' : Vec F S2x4096x1024 .bf16} {off : Fin 3 → ℕ} {z : Vec F S1x256x1024 .bf16}
    (ho : off = wbOff g) (hz : z = chunk c W (Ring.bk 64 g)) (hu : u = u') :
    VecWindow.put (s := S2x4096x1024) u off S1x256x1024.size z = putChunk c W g u' := by
  subst ho hz hu
  rfl

set_option maxHeartbeats 16000000 in
/-- The first point: the sixteen chunks of the first column block one after another, and the seventeenth started. -/
theorem headA (ht : t.val < 48) (h0 : t.val = 0) (hm : t.val % 16 = 0) (K : _ → sProp 𝕄) :
    iprop(owns (c : Thread nD τ) arg2 fullShare a
      ∗ owns (c : Thread nD τ) arg7 fullShare wb ∗ (∃ W', owes (c : Thread nD τ) 0 W')
      ∗ firstHomes c q W ∗ homeP c q W (Ring.bk 64 (t.val + 16))
      ∗ (∃ f, slotP c 0 f) ∗ cellP c 0 ∗ (∃ f, slotP c 1 f) ∗ cellP c 1
        ∗ (iprop(owns (c : Thread nD τ) arg2 fullShare a
          ∗ owns (c : Thread nD τ) arg7 fullShare (putFirst c W wb) ∗ (∃ W', owes (c : Thread nD τ) 0 W')
          ∗ firstHomes c q W ∗ (∃ f, flightP c q W 0 (Ring.bk 64 (t.val + 16)) f)
          ∗ (∃ f, slotP c 1 f) ∗ cellP c 1) -∗ K (k0_pay23 a)))
      ⊢ wp frame (wpE (defs₀ (F := F)) Variants.none c none) Set.univ (headG t arg2 harg2 arg4 harg4 arg5 harg5 arg6 harg6 arg7 harg7) K := by
  have h1 : k0_cond1 (grid0.coords t) = 1#1 := (cond1_iff t).mpr h0
  have h2 : k0_cond2 (grid0.coords t) = 1#1 := (cond2_iff t).mpr ht
  have h3 : ¬k0_cond3 (grid0.coords t) = 1#1 := fun h => by have := (cond3_iff t).mp h; omega
  have h4 : ¬k0_cond4 (grid0.coords t) = 1#1 := fun h => by have := (cond4_iff t).mp h; omega
  unfold headG
  simp only [k0_part12_eq_skeleton]; unfold k0_part12_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns firstHomes
  iintro ⟨⟨%f2, %hf2, H2⟩, ⟨%f5, %hf5, H5⟩, ⟨%W', HW⟩, ⟨Hg0, Hg1, Hg2, Hg3, Hg4, Hg5, Hg6, Hg7, Hg8, Hg9, Hg10, Hg11, Hg12, Hg13, Hg14, Hg15⟩, Hg, ⟨%f0, Hs0⟩, Hc0, ⟨%f1, Hs1⟩, Hc1, Hk⟩
  sl_exec (disch := first | sl_exact h1 | sl_exact h2 | sl_exact h3 | sl_exact h4)
  simp only [semI t, slotI t, grpI t ht, sl_zero t hm]
  sl_exec (disch := first | sl_exact h1 | sl_exact h2 | sl_exact h3 | sl_exact h4)
  sl_step
  rw [readAll arg2.view f2 hf2]
  iapply Hk
  isplitl [H2]
  · iexists _; isplitr; · ipureintro; exact hf2
    iexact H2
  isplitl [H5]
  · iexists _; isplitr
    swap; · iexact H5
    ipureintro
    repeat rw [View.read_writes_cons_put arg7.view f5 _ _ _ rfl]
    rw [View.writes_nil, hf5]
    unfold putFirst
    refine put_step c W 15 (by decide) (chunkRead c W 1 (by decide) _ _ (Ring.bk 64 15)) ?_
    refine put_step c W 14 (by decide) (chunkRead c W 0 (by decide) _ _ (Ring.bk 64 14)) ?_
    refine put_step c W 13 (by decide) (chunkRead c W 1 (by decide) _ _ (Ring.bk 64 13)) ?_
    refine put_step c W 12 (by decide) (chunkRead c W 0 (by decide) _ _ (Ring.bk 64 12)) ?_
    refine put_step c W 11 (by decide) (chunkRead c W 1 (by decide) _ _ (Ring.bk 64 11)) ?_
    refine put_step c W 10 (by decide) (chunkRead c W 0 (by decide) _ _ (Ring.bk 64 10)) ?_
    refine put_step c W 9 (by decide) (chunkRead c W 1 (by decide) _ _ (Ring.bk 64 9)) ?_
    refine put_step c W 8 (by decide) (chunkRead c W 0 (by decide) _ _ (Ring.bk 64 8)) ?_
    refine put_step c W 7 (by decide) (chunkRead c W 1 (by decide) _ _ (Ring.bk 64 7)) ?_
    refine put_step c W 6 (by decide) (chunkRead c W 0 (by decide) _ _ (Ring.bk 64 6)) ?_
    refine put_step c W 5 (by decide) (chunkRead c W 1 (by decide) _ _ (Ring.bk 64 5)) ?_
    refine put_step c W 4 (by decide) (chunkRead c W 0 (by decide) _ _ (Ring.bk 64 4)) ?_
    refine put_step c W 3 (by decide) (chunkRead c W 1 (by decide) _ _ (Ring.bk 64 3)) ?_
    refine put_step c W 2 (by decide) (chunkRead c W 0 (by decide) _ _ (Ring.bk 64 2)) ?_
    refine put_step c W 1 (by decide) (chunkRead c W 1 (by decide) _ _ (Ring.bk 64 1)) ?_
    refine put_step c W 0 (by decide) (chunkRead c W 0 (by decide) _ _ (Ring.bk 64 0)) ?_
    rfl
  isplitl [HW]; · iexists _; iexact HW
  isplitl [Hg0 Hg1 Hg2 Hg3 Hg4 Hg5 Hg6 Hg7 Hg8 Hg9 Hg10 Hg11 Hg12 Hg13 Hg14 Hg15]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hg8]; · iexact Hg8
    isplitl [Hg9]; · iexact Hg9
    isplitl [Hg10]; · iexact Hg10
    isplitl [Hg11]; · iexact Hg11
    isplitl [Hg12]; · iexact Hg12
    isplitl [Hg13]; · iexact Hg13
    isplitl [Hg14]; · iexact Hg14
    iexact Hg15
  isplitl [Hc0]; · iexists _; iexact Hc0
  isplitl [Hs1]; · iexists _; iexact Hs1
  iexact Hc1

end Cert.Proof.MergeFirst

end
-- ==== Proof.MergeTail.lean ====
/- Hand-written, untrusted: THE REST OF ONE RUN OF THE MERGE'S BODY. The product of the point's block of rows with its column block of
   the weights, gated and added to the other branch, is written eight groups of columns one after another. -/
module

public import proofs.«01_k».proof.Proof.MergeBody
public import Idealize.ShloMosaic.Lib.Pipeline.Value
public import Idealize.ShloMosaic.Lib.VecWindow
public import Idealize.ShloMosaic.Lib.Transfers
public import Idealize.ShloMosaic.Lib.Ring

@[expose] public section

set_option maxRecDepth 16384

noncomputable section

namespace Cert.Proof.MergeTail

open Cert.MergeIdeal Cert.MergeIdeal.Gen Cert.Proof.MergeBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

/-- The merge as the body computes it: the attention branch plus the gate times the product, rounded. -/
def mrg (x : Vec F S1024x1024 .f32) (ya sb : Vec F S1024x1024 .bf16) : Vec F S1024x1024 .bf16 :=
  truncf .bf16 (addf (extf .f32 ya bitsLt_bf16_f32) (mulf (extf .f32 sb bitsLt_bf16_f32) x)) bitsLt_bf16_f32

/-- Windows of one vector put over any other, where they reach, leave that vector. -/
theorem put_window {α : Type} {S : Shape} (G o : S.Idx → α) (off size : Fin S.rank → ℕ) (inb) (y : S.Idx) :
    VecWindow.put o off size (VecWindow.window G off size inb) y
      = if ∀ a, off a ≤ (y a).val ∧ (y a).val < off a + size a then G y else o y := by
  unfold VecWindow.put
  by_cases h : ∀ a, off a ≤ (y a).val ∧ (y a).val < off a + size a
  · rw [dif_pos h, if_pos h]
    unfold VecWindow.window
    congr 1
    funext a
    refine Fin.ext ?_
    have e : ((Rect.unit off size inb).emb (Rect.unitLocal (s := S) (off := off) (size := size) y h) a).val = off a + 1 * ((y a).val - off a) := rfl
    have := h a
    omega
  · rw [dif_neg h, if_neg h]

variable (c : Dev nD) (t : Fin grid0.N)
  (arg2 : Memref sig .tc .vmem S1024x4096 .bf16) (harg2 : arg2.IsWhole) (arg4 : Memref sig .tc .vmem S1024x1024 .bf16) (harg4 : arg4.IsWhole)
  (arg5 : Memref sig .tc .vmem S1024x1024 .bf16) (harg5 : arg5.IsWhole) (arg6 : Memref sig .tc .vmem S1024x1024 .bf16) (harg6 : arg6.IsWhole)
  (arg7 : Memref sig .tc .vmem S2x4096x1024 .bf16) (harg7 : arg7.IsWhole)
  (a : Vec F S1024x4096 .bf16) (wb : Vec F S2x4096x1024 .bf16) (o : Vec F S1024x1024 .bf16)

/-! ### The rest: the product and its eight groups of columns -/

/-- The point's column block of the rounded weights. -/
def wBlk (i : grid0.Coords) (wb : Vec F S2x4096x1024 .bf16) : Vec F S1x4096x1024 .bf16 :=
  VecWindow.window wb (k0_off11 i) S1x4096x1024.size (k0_off11_inb i)

/-- A slice of a block is its window there. -/
theorem slice_window {α : Type} (x : S1024x1024.Idx → α) (off : Fin 2 → ℕ) (h : S1024x1024.Slices off S1024x128)
    (inb : ∀ a, off a + S1024x128.size a ≤ S1024x1024.size a) :
    extractStridedSlice S1024x128 off x h = VecWindow.window x off S1024x128.size inb := by
  funext y
  refine congrArg x (funext fun a => Fin.ext ?_)
  show off a + (y a).val = off a + 1 * (y a).val
  omega

/-- A load of a group of columns of a block, through a slice that is the whole of it. -/
theorem readGroup {u : Vec F S1024x1024 .bf16} (v : View sig .tc .vmem S1024x1024 .bf16) (f : v.ty.Contents (Elt F)) (hf : v.read (Elt F) f = u)
    (off : Fin 2 → ℕ) (inb : ∀ a, off a + S1024x128.size a ≤ S1024x1024.size a) (h0 h1) :
    (v.readAt (Elt F) ((Rect.unit (s := S1024x1024) ![0, 0] S1024x1024.size h0).withinL (Rect.unit (s := S1024x1024) off S1024x128.size inb).toLoadRect h1) f
      : Vec F S1024x128 .bf16) = VecWindow.window u off S1024x128.size inb := by
  subst hf
  funext y
  refine congrArg (v.read (Elt F) f) ((Rect.idx_withinL (Rect.unit (s := S1024x1024) ![0, 0] S1024x1024.size h0) (Rect.unit (s := S1024x1024) off S1024x128.size inb).toLoadRect h1 y).trans (funext fun (a : Fin 2) => Fin.ext ?_))
  match a with
  | 0 => show 0 + 1 * (off 0 + 1 * (y 0).val) = off 0 + 1 * (y 0).val; omega
  | 1 => show 0 + 1 * (off 1 + 1 * (y 1).val) = off 1 + 1 * (y 1).val; omega

/-- A group of 128 columns of the merge, from the product and the groups of the two other blocks. -/
theorem mrg_window (x : Vec F S1024x1024 .f32) {ya sb : Vec F S1024x1024 .bf16} (off : Fin 2 → ℕ) (h : S1024x1024.Slices off S1024x128)
    (inb : ∀ a, off a + S1024x128.size a ≤ S1024x1024.size a) {A B : Vec F S1024x128 .bf16}
    (hA : A = VecWindow.window ya off S1024x128.size inb) (hB : B = VecWindow.window sb off S1024x128.size inb) :
    truncf .bf16 (addf (extf .f32 (shapeCast S1024x128 A shapeCasts_S1024x128_S1024x128) bitsLt_bf16_f32)
      (mulf (extf .f32 (shapeCast S1024x128 B shapeCasts_S1024x128_S1024x128) bitsLt_bf16_f32)
        (extractStridedSlice S1024x128 off x h))) bitsLt_bf16_f32
      = VecWindow.window (mrg x ya sb) off S1024x128.size inb := by
  rw [slice_window x off h inb, shapeCast_self, shapeCast_self, hA, hB]
  rfl

theorem mrg0 (x : Vec F S1024x4096 .bf16) (v : Vec F S1x4096x1024 .bf16) {ya sb : Vec F S1024x1024 .bf16} {A B : Vec F S1024x128 .bf16} (hA : A = VecWindow.window ya ![0, 0] S1024x128.size inb_S1024x1024_S1024x128_0_0) (hB : B = VecWindow.window sb ![0, 0] S1024x128.size inb_S1024x1024_S1024x128_0_0) :
    k0_pay25 x v A B = VecWindow.window (mrg (k0_pay24 x v) ya sb) ![0, 0] S1024x128.size inb_S1024x1024_S1024x128_0_0 := mrg_window (k0_pay24 x v) _ slices_S1024x1024_o0_0_S1024x128 _ hA hB
theorem mrg1 (x : Vec F S1024x4096 .bf16) (v : Vec F S1x4096x1024 .bf16) {ya sb : Vec F S1024x1024 .bf16} {A B : Vec F S1024x128 .bf16} (hA : A = VecWindow.window ya ![0, 128] S1024x128.size inb_S1024x1024_S1024x128_0_128) (hB : B = VecWindow.window sb ![0, 128] S1024x128.size inb_S1024x1024_S1024x128_0_128) :
    k0_pay27 (k0_pay26 x v A B) = VecWindow.window (mrg (k0_pay24 x v) ya sb) ![0, 128] S1024x128.size inb_S1024x1024_S1024x128_0_128 := mrg_window (k0_pay24 x v) _ slices_S1024x1024_o0_128_S1024x128 _ hA hB
theorem mrg2 (x : Vec F S1024x1024 .f32) {ya sb : Vec F S1024x1024 .bf16} {A B : Vec F S1024x128 .bf16} (hA : A = VecWindow.window ya ![0, 256] S1024x128.size inb_S1024x1024_S1024x128_0_256) (hB : B = VecWindow.window sb ![0, 256] S1024x128.size inb_S1024x1024_S1024x128_0_256) :
    k0_pay28 x A B = VecWindow.window (mrg x ya sb) ![0, 256] S1024x128.size inb_S1024x1024_S1024x128_0_256 := mrg_window x _ slices_S1024x1024_o0_256_S1024x128 _ hA hB
theorem mrg3 (x : Vec F S1024x1024 .f32) {ya sb : Vec F S1024x1024 .bf16} {A B : Vec F S1024x128 .bf16} (hA : A = VecWindow.window ya ![0, 384] S1024x128.size inb_S1024x1024_S1024x128_0_384) (hB : B = VecWindow.window sb ![0, 384] S1024x128.size inb_S1024x1024_S1024x128_0_384) :
    k0_pay29 x A B = VecWindow.window (mrg x ya sb) ![0, 384] S1024x128.size inb_S1024x1024_S1024x128_0_384 := mrg_window x _ slices_S1024x1024_o0_384_S1024x128 _ hA hB
theorem mrg4 (x : Vec F S1024x1024 .f32) {ya sb : Vec F S1024x1024 .bf16} {A B : Vec F S1024x128 .bf16} (hA : A = VecWindow.window ya ![0, 512] S1024x128.size inb_S1024x1024_S1024x128_0_512) (hB : B = VecWindow.window sb ![0, 512] S1024x128.size inb_S1024x1024_S1024x128_0_512) :
    k0_pay30 x A B = VecWindow.window (mrg x ya sb) ![0, 512] S1024x128.size inb_S1024x1024_S1024x128_0_512 := mrg_window x _ slices_S1024x1024_o0_512_S1024x128 _ hA hB
theorem mrg5 (x : Vec F S1024x1024 .f32) {ya sb : Vec F S1024x1024 .bf16} {A B : Vec F S1024x128 .bf16} (hA : A = VecWindow.window ya ![0, 640] S1024x128.size inb_S1024x1024_S1024x128_0_640) (hB : B = VecWindow.window sb ![0, 640] S1024x128.size inb_S1024x1024_S1024x128_0_640) :
    k0_pay31 x A B = VecWindow.window (mrg x ya sb) ![0, 640] S1024x128.size inb_S1024x1024_S1024x128_0_640 := mrg_window x _ slices_S1024x1024_o0_640_S1024x128 _ hA hB
theorem mrg6 (x : Vec F S1024x1024 .f32) {ya sb : Vec F S1024x1024 .bf16} {A B : Vec F S1024x128 .bf16} (hA : A = VecWindow.window ya ![0, 768] S1024x128.size inb_S1024x1024_S1024x128_0_768) (hB : B = VecWindow.window sb ![0, 768] S1024x128.size inb_S1024x1024_S1024x128_0_768) :
    k0_pay1 x A B = VecWindow.window (mrg x ya sb) ![0, 768] S1024x128.size inb_S1024x1024_S1024x128_0_768 := mrg_window x _ slices_S1024x1024_o0_768_S1024x128 _ hA hB
theorem mrg7 (x : Vec F S1024x1024 .f32) {ya sb : Vec F S1024x1024 .bf16} {A B : Vec F S1024x128 .bf16} (hA : A = VecWindow.window ya ![0, 896] S1024x128.size inb_S1024x1024_S1024x128_0_896) (hB : B = VecWindow.window sb ![0, 896] S1024x128.size inb_S1024x1024_S1024x128_0_896) :
    k0_pay2 x A B = VecWindow.window (mrg x ya sb) ![0, 896] S1024x128.size inb_S1024x1024_S1024x128_0_896 := mrg_window x _ slices_S1024x1024_o0_896_S1024x128 _ hA hB

/-- The eight groups of columns of one block, put one after another, are the block, whatever was there. -/
theorem put8 {α : Type} (G o : S1024x1024.Idx → α) (h0 h1 h2 h3 h4 h5 h6 h7) :
    VecWindow.put (VecWindow.put (VecWindow.put (VecWindow.put (VecWindow.put (VecWindow.put (VecWindow.put (VecWindow.put o
      ![0, 0] S1024x128.size (VecWindow.window G ![0, 0] S1024x128.size h0)) ![0, 128] S1024x128.size (VecWindow.window G ![0, 128] S1024x128.size h1))
      ![0, 256] S1024x128.size (VecWindow.window G ![0, 256] S1024x128.size h2)) ![0, 384] S1024x128.size (VecWindow.window G ![0, 384] S1024x128.size h3))
      ![0, 512] S1024x128.size (VecWindow.window G ![0, 512] S1024x128.size h4)) ![0, 640] S1024x128.size (VecWindow.window G ![0, 640] S1024x128.size h5))
      ![0, 768] S1024x128.size (VecWindow.window G ![0, 768] S1024x128.size h6)) ![0, 896] S1024x128.size (VecWindow.window G ![0, 896] S1024x128.size h7) = G := by
  funext y
  have r0 : (y 0).val < 1024 := (y 0).isLt
  have r1 : (y 1).val < 1024 := (y 1).isLt
  have key : ∀ k : ℕ, (∀ a : Fin 2, (![0, k] : Fin 2 → ℕ) a ≤ (y a).val ∧ (y a).val < (![0, k] : Fin 2 → ℕ) a + S1024x128.size a) ↔ k ≤ (y 1).val ∧ (y 1).val < k + 128 :=
    fun k => ⟨fun h => h 1, fun h a => match a with
      | 0 => ⟨Nat.zero_le _, by show (y 0).val < 0 + 1024; omega⟩
      | 1 => h⟩
  rw [put_window, put_window, put_window, put_window, put_window, put_window, put_window, put_window]
  by_cases c7 : 896 ≤ (y 1).val
  · exact if_pos ((key 896).mpr ⟨c7, by omega⟩)
  rw [if_neg (fun h => c7 ((key 896).mp h).1)]
  by_cases c6 : 768 ≤ (y 1).val
  · exact if_pos ((key 768).mpr ⟨c6, by omega⟩)
  rw [if_neg (fun h => c6 ((key 768).mp h).1)]
  by_cases c5 : 640 ≤ (y 1).val
  · exact if_pos ((key 640).mpr ⟨c5, by omega⟩)
  rw [if_neg (fun h => c5 ((key 640).mp h).1)]
  by_cases c4 : 512 ≤ (y 1).val
  · exact if_pos ((key 512).mpr ⟨c4, by omega⟩)
  rw [if_neg (fun h => c4 ((key 512).mp h).1)]
  by_cases c3 : 384 ≤ (y 1).val
  · exact if_pos ((key 384).mpr ⟨c3, by omega⟩)
  rw [if_neg (fun h => c3 ((key 384).mp h).1)]
  by_cases c2 : 256 ≤ (y 1).val
  · exact if_pos ((key 256).mpr ⟨c2, by omega⟩)
  rw [if_neg (fun h => c2 ((key 256).mp h).1)]
  by_cases c1 : 128 ≤ (y 1).val
  · exact if_pos ((key 128).mpr ⟨c1, by omega⟩)
  rw [if_neg (fun h => c1 ((key 128).mp h).1)]
  exact if_pos ((key 0).mpr ⟨Nat.zero_le _, by omega⟩)

/-- The same, of eight vectors that are such groups. -/
theorem put8' {α : Type} (G o : S1024x1024.Idx → α) {z0 z1 z2 z3 z4 z5 z6 z7 : S1024x128.Idx → α} (h0 h1 h2 h3 h4 h5 h6 h7)
    (e0 : z0 = VecWindow.window G ![0, 0] S1024x128.size h0)
    (e1 : z1 = VecWindow.window G ![0, 128] S1024x128.size h1)
    (e2 : z2 = VecWindow.window G ![0, 256] S1024x128.size h2)
    (e3 : z3 = VecWindow.window G ![0, 384] S1024x128.size h3)
    (e4 : z4 = VecWindow.window G ![0, 512] S1024x128.size h4)
    (e5 : z5 = VecWindow.window G ![0, 640] S1024x128.size h5)
    (e6 : z6 = VecWindow.window G ![0, 768] S1024x128.size h6)
    (e7 : z7 = VecWindow.window G ![0, 896] S1024x128.size h7) :
    VecWindow.put (VecWindow.put (VecWindow.put (VecWindow.put (VecWindow.put (VecWindow.put (VecWindow.put (VecWindow.put o ![0, 0] S1024x128.size z0) ![0, 128] S1024x128.size z1) ![0, 256] S1024x128.size z2) ![0, 384] S1024x128.size z3) ![0, 512] S1024x128.size z4) ![0, 640] S1024x128.size z5) ![0, 768] S1024x128.size z6) ![0, 896] S1024x128.size z7 = G := by
  subst e0 e1 e2 e3 e4 e5 e6 e7
  exact put8 G o h0 h1 h2 h3 h4 h5 h6 h7

/-- The block of the result that the point writes. -/
def outB (i : grid0.Coords) (a : Vec F S1024x4096 .bf16) (wb : Vec F S2x4096x1024 .bf16) (ya sb : Vec F S1024x1024 .bf16) : Vec F S1024x1024 .bf16 :=
  mrg (k0_pay24 a (wBlk i wb)) ya sb

set_option maxHeartbeats 4000000 in
theorem runTail (sb ya : Vec F S1024x1024 .bf16) (K : PUnit → sProp 𝕄) :
    iprop(owns (c : Thread nD τ) arg4 fullShare sb ∗ owns (c : Thread nD τ) arg5 fullShare ya
        ∗ owns (c : Thread nD τ) arg6 fullShare o ∗ owns (c : Thread nD τ) arg7 fullShare wb
        ∗ (iprop(owns (c : Thread nD τ) arg4 fullShare sb ∗ owns (c : Thread nD τ) arg5 fullShare ya
          ∗ owns (c : Thread nD τ) arg6 fullShare (outB (grid0.coords t) a wb ya sb) ∗ owns (c : Thread nD τ) arg7 fullShare wb) -∗ K ⟨⟩))
      ⊢ wp frame (wpE (defs₀ (F := F)) Variants.none c none) Set.univ (tailG t arg2 harg2 arg4 harg4 arg5 harg5 arg6 harg6 arg7 harg7 a) K := by
  unfold tailG
  simp only [k0_part13_eq_skeleton, k0_part14_eq_skeleton, k0_part15_eq_skeleton]; unfold k0_part13_skel k0_part14_skel k0_part15_skel
  unfold owns
  iintro ⟨⟨%f4, %hf4, H4⟩, ⟨%f5, %hf5, H5⟩, ⟨%f6, %hf6, H6⟩, ⟨%f7, %hf7, H7⟩, Hk⟩
  sl_exec
  sl_step
  iapply Hk
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    rw [View.readAt_unit arg7.view f7 _ rfl (k0_off11_inb _), hf7]
    repeat rw [View.read_writes_cons_put arg6.view f6 _ _ _ rfl]
    exact put8' _ _ _ _ _ _ _ _ _ _ (mrg0 _ _ (readGroup arg5.view f5 hf5 _ _ _ _) (readGroup arg4.view f4 hf4 _ _ _ _)) (mrg1 _ _ (readGroup arg5.view f5 hf5 _ _ _ _) (readGroup arg4.view f4 hf4 _ _ _ _)) (mrg2 _ (readGroup arg5.view f5 hf5 _ _ _ _) (readGroup arg4.view f4 hf4 _ _ _ _)) (mrg3 _ (readGroup arg5.view f5 hf5 _ _ _ _) (readGroup arg4.view f4 hf4 _ _ _ _)) (mrg4 _ (readGroup arg5.view f5 hf5 _ _ _ _) (readGroup arg4.view f4 hf4 _ _ _ _)) (mrg5 _ (readGroup arg5.view f5 hf5 _ _ _ _) (readGroup arg4.view f4 hf4 _ _ _ _)) (mrg6 _ (readGroup arg5.view f5 hf5 _ _ _ _) (readGroup arg4.view f4 hf4 _ _ _ _)) (mrg7 _ (readGroup arg5.view f5 hf5 _ _ _ _) (readGroup arg4.view f4 hf4 _ _ _ _))
  iexists _; isplitr; · ipureintro; exact hf7
  iexact H7

end Cert.Proof.MergeTail

end
-- ==== Proof.MergeFrame.lean ====
/- Hand-written, untrusted: THE RUN OF THE MERGE, at any values. What lies between two grid points (`Φ`): the rounded
   weights, whose last chunks are known (`Inv`), the chunks of the weights at home, and from the first point to the last but
   one column block one chunk on its way into a staging slot. Then the body's obligation at every point, the run, and the frame. -/
module

public import proofs.«01_k».proof.Proof.MergeFirst
public import proofs.«01_k».proof.Proof.MergeTail
public import Idealize.ShloMosaic.Lib.Claim
public import Idealize.ShloMosaic.Lib.Pipeline.Frame
public import Idealize.ShloMosaic.Lib.Pipeline.FrameBody
public import Idealize.ShloMosaic.Lib.Pipeline.Routed
public import Idealize.ShloMosaic.Lib.Pipeline.Value
public import Idealize.ShloMosaic.Lib.Tactic

@[expose] public section

set_option maxRecDepth 16384

noncomputable section

namespace Cert.Proof.MergeFrame

open Cert.MergeIdeal Cert.MergeIdeal.Gen Cert.Proof.MergeBody Cert.Proof.MergeFirst Cert.Proof.MergeTail
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (m : (ℓ : Loc nD τ sig) → Buf (Elt F) ℓ) (ρ : Dev nD → PrngReg)

/-! ### `main` up to the call -/

/-- The buffers as the call finds them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain : Pipeline.HMain (Ix := Unit) (Name := ℕ) (U := UR sig nD τ × Counters) (Lvl := ℕ) cfgs 0 defs₀ Variants.none m (main (F := F)) (V m) :=
  Pipeline.hmain_prefix cfgs 0 defs₀ Variants.none m main hostOps0 hostOps0_sub hostOps0_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ### The kernel's semaphores, the weights' chunks and the staging slots -/

abbrev osem : Fin 2 → SemLoc sig := fun s => .dma (csm s).sem
theorem ownSemFacts : Pipeline.OwnSemFacts spec0 osem := by decide

/-- A chunk's elements, a slot's elements. -/
abbrev G (b : Fin 64) : Finset S4096x4096.Idx := (Rect.unit (s := S4096x4096) (grpOff b) S256x1024.size (grpOff_inb b)).set
abbrev S2s (s : Fin 2) : Finset S2x256x1024.Idx := (Rect.unit (s := S2x256x1024) (slotOff s) S1x256x1024.size (slotOff_inb s)).set

theorem grp_set (b : Fin 64) : (grp b : Memref sig .tc .hbm _ _).view.set = G b := View.set_slice_whole _ _
theorem rslot_set (s : Fin 2) : (rslot s : Memref sig .tc .vmem _ _).view.set = S2s s := (View.set_reshape _ _).trans (View.set_slice_whole _ _)

theorem mem_G (b : Fin 64) (y : S4096x4096.Idx) (h : y ∈ G b) :
    (y 0).val / 256 = b.val % 16 ∧ (y 1).val / 1024 = b.val / 16 := by
  rw [Rect.mem_set_unit] at h
  have a0 : 256 * (b.val % 16) ≤ (y 0).val ∧ (y 0).val < 256 * (b.val % 16) + 256 := h 0
  have a1 : 1024 * (b.val / 16) ≤ (y 1).val ∧ (y 1).val < 1024 * (b.val / 16) + 1024 := h 1
  omega
theorem mem_S2s (s : Fin 2) (y : S2x256x1024.Idx) : y ∈ S2s s ↔ (y 0).val = s.val := by
  rw [Rect.mem_set_unit]
  have h1 : (y 1).val < 256 := (y 1).isLt
  have h2 : (y 2).val < 1024 := (y 2).isLt
  constructor
  · intro H; have a0 : s.val ≤ (y 0).val ∧ (y 0).val < s.val + 1 := H 0; omega
  · intro H a
    match a with
    | 0 => show s.val ≤ (y 0).val ∧ (y 0).val < s.val + 1; omega
    | 1 => show 0 ≤ (y 1).val ∧ (y 1).val < 0 + 256; omega
    | 2 => show 0 ≤ (y 2).val ∧ (y 2).val < 0 + 1024; omega
theorem G_disjoint : ∀ b b' : Fin 64, b ≠ b' → Disjoint (G b) (G b') := by
  intro b b' hne
  rw [Finset.disjoint_left]
  intro y hy hy'
  have e := mem_G b y hy
  have e' := mem_G b' y hy'
  exact hne (Fin.ext (by omega))
theorem S2s_disjoint : ∀ s s' : Fin 2, s ≠ s' → Disjoint (S2s s) (S2s s') := by
  intro s s' hne
  rw [Finset.disjoint_left]
  intro y hy hy'
  rw [mem_S2s] at hy hy'
  exact hne (Fin.ext (hy.symm.trans hy'))
theorem S2s_cover : (Finset.univ : Finset (Fin 2)).biUnion S2s = Finset.univ := by
  ext y
  simp only [Finset.mem_biUnion, Finset.mem_univ, true_and, iff_true]
  exact ⟨(y 0).cast (by decide), by rw [mem_S2s]; rfl⟩

private theorem of_eq {P Q : sProp 𝕄} (e : P = Q) : P ⊢ Q := e ▸ .rfl

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

variable (c : Dev nD) (W : Buf (Elt F) (wM.view.loc (c : Thread nD τ)))

/-- The weights no chunk covers. -/
def restW : sProp 𝕄 := ((c : Thread nD τ).loc main_v2) ↦[Finset.univ \ Finset.univ.biUnion G]{fullShare} W

/-- The weights, whole, are the chunks at home and the rest. -/
theorem w_eq : (((c : Thread nD τ).loc main_v2) ↦{fullShare} W : sProp 𝕄)
    = iprop(bigSep Finset.univ (homeP c fullShare W) ∗ restW c W) := by
  have h := pointsTo_split_subset (Ix := Unit) (Name := ℕ) (U := UR sig nD τ × Counters) (Lvl := ℕ) (ℓ := (c : Thread nD τ).loc main_v2) (q := fullShare) (f := W) (Finset.subset_univ (Finset.univ.biUnion G))
  refine (equiv_iff.mp ⟨h.1, h.2⟩).trans ?_
  rw [Ring.pointsTo_sub_blocks (ℓ := (c : Thread nD τ).loc main_v2) G G_disjoint _ rfl]
  rw [bigSep_congr (Ψ := homeP c fullShare W) fun b _ => by rw [← grp_set]; rfl]
  rfl

theorem slotP_eq (s : Fin 2) (f) : slotP c s f = (((c : Thread nD τ).loc cc0_scratch1) ↦[S2s s]{fullShare} f : sProp 𝕄) :=
  congrArg (fun S => (_ ↦[S]{fullShare} f : sProp 𝕄)) (rslot_set s)
/-- The staging buffer, whole, is its two slots, -/
theorem buf_split :
    iprop(∃ f : Buf (Elt F) ((c : Thread nD τ).loc cc0_scratch1), ((c : Thread nD τ).loc cc0_scratch1) ↦{fullShare} f)
      ⊢ (iprop((∃ f, slotP c 0 f) ∗ ∃ f, slotP c 1 f) : sProp 𝕄) := by
  iintro ⟨%f, H⟩
  ihave H2 := (of_eq ((Ring.pointsTo_blocks (Ix := Unit) (Name := ℕ) (U := UR sig nD τ × Counters) (Lvl := ℕ) (q := fullShare) (ℓ := (c : Thread nD τ).loc cc0_scratch1) S2s S2s_disjoint S2s_cover f).trans (bigSep_fin2 _))) $$ H
  icases H2 with ⟨H0, H1⟩
  isplitl [H0]
  · iexists f; iapply (of_eq (slotP_eq c 0 f).symm); iexact H0
  · iexists f; iapply (of_eq (slotP_eq c 1 f).symm); iexact H1
/-- and back. -/
theorem buf_join :
    iprop((∃ f, slotP c 0 f) ∗ ∃ f, slotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) S2s S2s_disjoint S2s_cover f0)
  irw [bigSep_fin2]
  isplitl [H0]
  · iexists f0; iapply (of_eq (slotP_eq c 0 f0)); iexact H0
  · iexists f1; iapply (of_eq (slotP_eq c 1 f1)); iexact H1

theorem ownSems0_eq : (Pipeline.ownSems0 (Ix := Unit) (Name := ℕ) (U := UR sig nD τ × Counters) (Lvl := ℕ) (Val := Elt F) (τ := τ) osem c : sProp 𝕄)
    = iprop(cellP c 0 ∗ cellP c 1) := by
  unfold Pipeline.ownSems0; rw [bigSep_fin2]

/-! ### The chunks at home, apart -/

/-- The chunks of the first column block. -/
def S16 : Finset (Fin 64) := Finset.univ.filter fun b => b.val < 16

theorem first_eq : firstHomes c fullShare W = bigSep S16 (homeP c fullShare W) :=
  (bigSep_eq_bigSepL_of_eq [0, 1, 2, 3, 4, 5, 6, 7, 8, 9, 10, 11, 12, 13, 14, 15] (by decide) (by decide) (homeP c fullShare W)).symm

private theorem swap (P Q R : sProp 𝕄) : iprop(P ∗ Q ∗ R) = iprop(Q ∗ P ∗ R) :=
  have h := sep_left_comm (P := P) (Q := Q) (R := R)
  equiv_iff.mp ⟨h.1, h.2⟩

/-- All of them: the first column block, the seventeenth chunk, and the rest; -/
theorem homes_first : bigSep Finset.univ (homeP c fullShare W)
    = iprop(firstHomes c fullShare W ∗ homeP c fullShare W 16 ∗ bigSep ((Finset.univ.erase 16) \ S16) (homeP c fullShare W)) := by
  rw [first_eq, bigSep_erase (Finset.mem_univ (16 : Fin 64)), bigSep_sdiff_split (show S16 ⊆ Finset.univ.erase 16 by decide)]
  exact swap _ _ _
/-- and back but for the seventeenth. -/
theorem homes_first_back : bigSep (Finset.univ.erase 16) (homeP c fullShare W)
    = iprop(firstHomes c fullShare W ∗ bigSep ((Finset.univ.erase 16) \ S16) (homeP c fullShare W)) := by
  rw [first_eq, bigSep_sdiff_split (show S16 ⊆ Finset.univ.erase 16 by decide)]
  rfl

/-- One chunk apart from some. -/
theorem homes_take (s : Finset (Fin 64)) (b : Fin 64) (h : b ∈ s) :
    bigSep s (homeP c fullShare W) = iprop(homeP c fullShare W b ∗ bigSep (s.erase b) (homeP c fullShare W)) := bigSep_erase h

/-! ### What lies between two points -/

theorem wbOff_inb (g : ℕ) : ∀ a, wbOff g a + S1x256x1024.size a ≤ S2x4096x1024.size a := fun a => by
  match a with
  | 0 => show g / 16 % 2 + 1 ≤ 2; omega
  | 1 => show 256 * (g % 16) + 256 ≤ 4096; omega
  | 2 => exact Nat.le_refl _

/-- The rounded weights before point `n` have the chunks of its column block that came before, and of the one before it. -/
def Inv (n : ℕ) (wb : Vec F S2x4096x1024 .bf16) : Prop :=
  1 ≤ n → ∀ g, g < 64 → n ≤ g + 16 → g < n + 15 →
    VecWindow.window wb (wbOff g) S1x256x1024.size (wbOff_inb g) = chunk c W (Ring.bk 64 g)

variable {wb : Vec F S2x4096x1024 .bf16}

theorem window_same (g : ℕ) : VecWindow.window (putChunk c W g wb) (wbOff g) S1x256x1024.size (wbOff_inb g) = chunk c W (Ring.bk 64 g) :=
  VecWindow.window_put_same (s := S2x4096x1024) wb _ _ _ _
theorem window_ne (g k : ℕ) (h : k % 32 ≠ g % 32) : VecWindow.window (putChunk c W g wb) (wbOff k) S1x256x1024.size (wbOff_inb k)
    = VecWindow.window wb (wbOff k) S1x256x1024.size (wbOff_inb k) := by
  by_cases hs : k / 16 % 2 = g / 16 % 2
  · refine VecWindow.window_put_of_disjoint (s := S2x4096x1024) wb _ _ _ _ _ _ (1 : Fin 3) ?_
    show 256 * (k % 16) + 256 ≤ 256 * (g % 16) ∨ 256 * (g % 16) + 256 ≤ 256 * (k % 16)
    omega
  · refine VecWindow.window_put_of_disjoint (s := S2x4096x1024) wb _ _ _ _ _ _ (0 : Fin 3) ?_
    show k / 16 % 2 + 1 ≤ g / 16 % 2 ∨ g / 16 % 2 + 1 ≤ k / 16 % 2
    omega

theorem Inv.start : Inv c W 0 wb := fun h => absurd h (by omega)
theorem Inv.first : Inv c W 1 (putFirst c W wb) := fun _ g _ _ hg => by
  unfold putFirst
  by_cases h : g = 15
  · subst h; exact window_same c W 15
  rw [window_ne c W 15 g (by omega)]
  by_cases h : g = 14
  · subst h; exact window_same c W 14
  rw [window_ne c W 14 g (by omega)]
  by_cases h : g = 13
  · subst h; exact window_same c W 13
  rw [window_ne c W 13 g (by omega)]
  by_cases h : g = 12
  · subst h; exact window_same c W 12
  rw [window_ne c W 12 g (by omega)]
  by_cases h : g = 11
  · subst h; exact window_same c W 11
  rw [window_ne c W 11 g (by omega)]
  by_cases h : g = 10
  · subst h; exact window_same c W 10
  rw [window_ne c W 10 g (by omega)]
  by_cases h : g = 9
  · subst h; exact window_same c W 9
  rw [window_ne c W 9 g (by omega)]
  by_cases h : g = 8
  · subst h; exact window_same c W 8
  rw [window_ne c W 8 g (by omega)]
  by_cases h : g = 7
  · subst h; exact window_same c W 7
  rw [window_ne c W 7 g (by omega)]
  by_cases h : g = 6
  · subst h; exact window_same c W 6
  rw [window_ne c W 6 g (by omega)]
  by_cases h : g = 5
  · subst h; exact window_same c W 5
  rw [window_ne c W 5 g (by omega)]
  by_cases h : g = 4
  · subst h; exact window_same c W 4
  rw [window_ne c W 4 g (by omega)]
  by_cases h : g = 3
  · subst h; exact window_same c W 3
  rw [window_ne c W 3 g (by omega)]
  by_cases h : g = 2
  · subst h; exact window_same c W 2
  rw [window_ne c W 2 g (by omega)]
  by_cases h : g = 1
  · subst h; exact window_same c W 1
  rw [window_ne c W 1 g (by omega)]
  obtain rfl : g = 0 := by omega
  exact window_same c W 0
theorem Inv.put (n : ℕ) (hn : 1 ≤ n) (I : Inv c W n wb) : Inv c W (n + 1) (putChunk c W (n + 15) wb) := fun _ g h128 hg hg' => by
  by_cases h : g = n + 15
  · subst h; exact window_same c W (n + 15)
  rw [window_ne c W (n + 15) g (by omega)]
  exact I hn g h128 (by omega) (by omega)
theorem Inv.skip (n : ℕ) (hn : 49 ≤ n) (I : Inv c W n wb) : Inv c W (n + 1) wb := fun _ g h128 hg hg' =>
  I (by omega) g h128 (by omega) (by omega)

/-- Column block `n` of the weights, rounded. -/
def wB (n : ℕ) : Vec F S1x4096x1024 .bf16 := fun y =>
  chunk c W (Ring.bk 64 (16 * n + (y 1).val / 256)) (fun a => match a with
    | 0 => ⟨0, by decide⟩
    | 1 => ⟨(y 1).val % 256, Nat.mod_lt _ (by decide)⟩
    | 2 => y 2)

/-- It is what the point's half of the rounded weights holds after its fetches. -/
theorem Inv.blk (t : Fin cfg0.N) (I : Inv c W (t.val + 1) wb) : wBlk (grid0.coords t) wb = wB c W (t.val / 16) := by
  have hN : t.val < 64 := lt_of_lt_of_eq t.isLt (show cfg0.N = 64 from N_0)
  funext y
  have y0 : (y 0).val < 1 := (y 0).isLt
  have y1 : (y 1).val < 4096 := (y 1).isLt
  unfold wB
  rw [← I (by omega) (16 * (t.val / 16) + (y 1).val / 256) (by omega) (by omega) (by omega)]
  unfold wBlk VecWindow.window
  refine congrArg wb (funext fun a => Fin.ext ?_)
  have e := congrFun (off11_eq t) a
  match a with
  | 0 =>
    show k0_off11 (grid0.coords t) 0 + 1 * (y 0).val = (16 * (t.val / 16) + (y 1).val / 256) / 16 % 2 + 1 * 0
    have e : k0_off11 (grid0.coords t) 0 = t.val / 16 % 2 := e
    omega
  | 1 =>
    show k0_off11 (grid0.coords t) 1 + 1 * (y 1).val = 256 * ((16 * (t.val / 16) + (y 1).val / 256) % 16) + 1 * ((y 1).val % 256)
    have e : k0_off11 (grid0.coords t) 1 = 0 := e
    omega
  | 2 =>
    show k0_off11 (grid0.coords t) 2 + 1 * (y 2).val = 0 + 1 * (y 2).val
    have e : k0_off11 (grid0.coords t) 2 = 0 := e
    omega

/-- The chunks and the slots between two points while a chunk is on its way, -/
def moving (n : ℕ) : sProp 𝕄 :=
  iprop(bigSep (Finset.univ.erase (Ring.bk 64 (n + 15))) (homeP c fullShare W) ∗ (∃ f, flightP c fullShare W (Ring.sl 2 (n + 15)) (Ring.bk 64 (n + 15)) f)
    ∗ (∃ f, slotP c (Ring.sl 2 (n + 16)) f) ∗ cellP c (Ring.sl 2 (n + 16)))
/-- and while none is. -/
def still : sProp 𝕄 :=
  iprop(bigSep Finset.univ (homeP c fullShare W) ∗ (∃ f, slotP c 0 f) ∗ cellP c 0 ∗ (∃ f, slotP c 1 f) ∗ cellP c 1)
def mid (n : ℕ) : sProp 𝕄 := if 1 ≤ n ∧ n ≤ 48 then moving c W n else still c W

/-- The block of the result that point `n` writes. -/
def res (t : Fin cfg0.N) : Vec F S1024x1024 .bf16 :=
  mrg (k0_pay24 (iblk m c 0 t) (wB c (V m c main_v2) (t.val / 16))) (iblk m c 2 t) (iblk m c 1 t)

/-! ### The proof data -/

def dats (_ : Fin 1) (c : Dev nD) : Dat τ (Elt F) Unit ℕ (UR sig nD τ × Counters) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => res m c t
  Φ n := iprop(∃ wb, ⌜Inv c (V m c main_v2) n.val wb⌝ ∗ owns (c : Thread nD τ) (Memref.whole cc0_scratch0) fullShare wb
    ∗ mid c (V m c main_v2) n.val ∗ restW c (V m c main_v2) ∗ (∃ r, prngReg c r))
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = res m c t := by dsimp only [dats]
theorem before0_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before0_1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before0_2 (c : Dev nD) (t : Fin cfg0.N) (d) : (dats m 0 c).before 2 t d = iblk m c 2 t := by
  unfold Dat.before; rw [if_pos (fetch0_2 t)]; unfold Dat.fetched Dat.blockOf iblk; dsimp only [dats]; rfl
theorem Φ_eq (n : Fin (cfg0.N + 1)) : (dats m 0 c).Φ n = iprop(∃ wb, ⌜Inv c (V m c main_v2) n.val wb⌝
    ∗ owns (c : Thread nD τ) (Memref.whole cc0_scratch0) fullShare wb
    ∗ mid c (V m c main_v2) n.val ∗ restW c (V m c main_v2) ∗ (∃ r, prngReg c r)) := by dsimp only [dats]

/-! ### The fetches at any point -/

theorem pay23_eq (a : Vec F S1024x4096 .bf16) : k0_pay23 a = a := by
  unfold k0_pay23; exact shapeCast_self _ _

variable (t : Fin cfg0.N)
  (arg2 : Memref sig .tc .vmem S1024x4096 .bf16) (harg2 : arg2.IsWhole) (arg4 : Memref sig .tc .vmem S1024x1024 .bf16) (harg4 : arg4.IsWhole)
  (arg5 : Memref sig .tc .vmem S1024x1024 .bf16) (harg5 : arg5.IsWhole) (arg6 : Memref sig .tc .vmem S1024x1024 .bf16) (harg6 : arg6.IsWhole)
  (arg7 : Memref sig .tc .vmem S2x4096x1024 .bf16) (harg7 : arg7.IsWhole)
  (a : Vec F S1024x4096 .bf16)

theorem bk_ne (n k : ℕ) (hn : n < 64) (hk : k < 64) (h : n ≠ k) : Ring.bk 64 n ≠ Ring.bk 64 k := fun e => h (by
  have := congrArg Fin.val e
  rwa [Ring.bk_val hn, Ring.bk_val hk] at this)

/-- A point that starts a chunk and waits for another. -/
theorem headBC (ht : t.val < 48) (h0 : 0 < t.val) (K : _ → sProp 𝕄) :
    iprop(owns (c : Thread nD τ) arg2 fullShare a
      ∗ owns (c : Thread nD τ) arg7 fullShare wb ∗ (∃ W', owes (c : Thread nD τ) 0 W')
      ∗ homeP c fullShare W (Ring.bk 64 (t.val + 16)) ∗ (∃ f, slotP c (Ring.sl 2 (t.val + 16)) f) ∗ cellP c (Ring.sl 2 (t.val + 16))
      ∗ (∃ f, flightP c fullShare W (Ring.sl 2 (t.val + 15)) (Ring.bk 64 (t.val + 15)) f)
        ∗ (iprop(owns (c : Thread nD τ) arg2 fullShare a
          ∗ owns (c : Thread nD τ) arg7 fullShare (putChunk c W (t.val + 15) wb) ∗ (∃ W', owes (c : Thread nD τ) 0 W')
          ∗ (∃ f, flightP c fullShare W (Ring.sl 2 (t.val + 16)) (Ring.bk 64 (t.val + 16)) f)
          ∗ homeP c fullShare W (Ring.bk 64 (t.val + 15)) ∗ (∃ f, slotP c (Ring.sl 2 (t.val + 15)) f) ∗ cellP c (Ring.sl 2 (t.val + 15))) -∗ K (k0_pay23 a)))
      ⊢ wp frame (wpE (defs₀ (F := F)) Variants.none c none) Set.univ (headG t arg2 harg2 arg4 harg4 arg5 harg5 arg6 harg6 arg7 harg7) K := by
  by_cases hm : t.val % 16 = 0
  · exact headC c t fullShare fullShare W arg2 harg2 arg4 harg4 arg5 harg5 arg6 harg6 arg7 harg7 a wb ht h0 hm K
  · exact headB c t fullShare fullShare W arg2 harg2 arg4 harg4 arg5 harg5 arg6 harg6 arg7 harg7 a wb ht hm K

set_option maxHeartbeats 1600000 in
/-- The first part of the body at any point, with the step of what lies between the points. -/
theorem head (I : Inv c W t.val wb) (K : _ → sProp 𝕄) :
    iprop(owns (c : Thread nD τ) arg2 fullShare a ∗ owns (c : Thread nD τ) arg7 fullShare wb ∗ (∃ W', owes (c : Thread nD τ) 0 W') ∗ mid c W t.val
      ∗ (iprop(∃ wb', ⌜Inv c W (t.val + 1) wb'⌝ ∗ owns (c : Thread nD τ) arg2 fullShare a ∗ owns (c : Thread nD τ) arg7 fullShare wb'
          ∗ (∃ W', owes (c : Thread nD τ) 0 W') ∗ mid c W (t.val + 1)) -∗ K a))
      ⊢ wp frame (wpE (defs₀ (F := F)) Variants.none c none) Set.univ (headG t arg2 harg2 arg4 harg4 arg5 harg5 arg6 harg6 arg7 harg7) K := by
  have hN : t.val < 64 := lt_of_lt_of_eq t.isLt (show cfg0.N = 64 from N_0)
  have hp : k0_pay23 a = a := pay23_eq a
  rcases Nat.eq_zero_or_pos t.val with h0 | h0
  · have e16 : Ring.bk 64 (t.val + 16) = 16 := by rw [h0]; decide
    have hA := headA c t fullShare W arg2 harg2 arg4 harg4 arg5 harg5 arg6 harg6 arg7 harg7 a wb (by omega) h0 (by omega) K
    rw [hp, e16] at hA
    have e1 : mid c W t.val = still c W := if_neg (by omega)
    have e2 : mid c W (t.val + 1) = moving c W 1 := by rw [h0]; exact if_pos ⟨by omega, by omega⟩
    rw [e1, e2]
    unfold still moving
    rw [homes_first, show Ring.bk 64 (1 + 15) = 16 by decide, homes_first_back, show Ring.sl 2 (1 + 15) = 0 by decide, show Ring.sl 2 (1 + 16) = 1 by decide]
    iintro ⟨H2, H5, HO, ⟨⟨Hf, Hg, Hr⟩, Hs0, Hc0, Hs1, Hc1⟩, Hk⟩
    iapply hA
    isplitl [H2]; · iexact H2
    isplitl [H5]; · iexact H5
    isplitl [HO]; · iexact HO
    isplitl [Hf]; · iexact Hf
    isplitl [Hg]; · iexact Hg
    isplitl [Hs0]; · iexact Hs0
    isplitl [Hc0]; · iexact Hc0
    isplitl [Hs1]; · iexact Hs1
    isplitl [Hc1]; · iexact Hc1
    iintro ⟨H2, H5, HO, Hf, HF, Hs1, Hc1⟩
    iapply Hk
    iexists (putFirst c W wb)
    isplitr; · ipureintro; rw [h0]; exact Inv.first c W
    isplitl [H2]; · iexact H2
    isplitl [H5]; · iexact H5
    isplitl [HO]; · iexact HO
    isplitl [Hf Hr]
    · isplitl [Hf]; · iexact Hf
      iexact Hr
    isplitl [HF]; · iexact HF
    isplitl [Hs1]; · iexact Hs1
    iexact Hc1
  rcases Nat.lt_or_ge 48 t.val with h112 | h112
  · have hE := headE c t arg2 harg2 arg4 harg4 arg5 harg5 arg6 harg6 arg7 harg7 a h112 K
    rw [hp] at hE
    rw [show mid c W t.val = still c W from if_neg (by omega), show mid c W (t.val + 1) = still c W from if_neg (by omega)]
    iintro ⟨H2, H5, HO, Hm, Hk⟩
    iapply hE
    isplitl [H2]; · iexact H2
    iintro H2
    iapply Hk
    iexists wb
    isplitr; · ipureintro; exact Inv.skip c W t.val (by omega) I
    isplitl [H2]; · iexact H2
    isplitl [H5]; · iexact H5
    isplitl [HO]; · iexact HO
    iexact Hm
  rw [show mid c W t.val = moving c W t.val from if_pos ⟨h0, h112⟩]
  rcases Nat.lt_or_ge t.val 48 with hlt | hge
  · have hBC := headBC c W t arg2 harg2 arg4 harg4 arg5 harg5 arg6 harg6 arg7 harg7 a (wb := wb) hlt h0 K
    rw [hp] at hBC
    rw [show mid c W (t.val + 1) = moving c W (t.val + 1) from if_pos ⟨by omega, by omega⟩]
    unfold moving
    have hne := bk_ne (t.val + 16) (t.val + 15) (by omega) (by omega) (by omega)
    have esl : Ring.sl 2 (t.val + 1 + 16) = Ring.sl 2 (t.val + 15) := Fin.ext (by show (t.val + 1 + 16) % 2 = (t.val + 15) % 2; omega)
    rw [show t.val + 1 + 15 = t.val + 16 by omega, esl,
      homes_take c W _ _ (Finset.mem_erase.mpr ⟨hne, Finset.mem_univ (Ring.bk 64 (t.val + 16))⟩),
      homes_take c W (Finset.univ.erase (Ring.bk 64 (t.val + 16))) _ (Finset.mem_erase.mpr ⟨hne.symm, Finset.mem_univ (Ring.bk 64 (t.val + 15))⟩),
      Finset.erase_right_comm]
    iintro ⟨H2, H5, HO, ⟨⟨Hg, Hr⟩, HF, Hs, Hc⟩, Hk⟩
    iapply hBC
    isplitl [H2]; · iexact H2
    isplitl [H5]; · iexact H5
    isplitl [HO]; · iexact HO
    isplitl [Hg]; · iexact Hg
    isplitl [Hs]; · iexact Hs
    isplitl [Hc]; · iexact Hc
    isplitl [HF]; · iexact HF
    iintro ⟨H2, H5, HO, HF, Hg, Hs, Hc⟩
    iapply Hk
    iexists (putChunk c W (t.val + 15) wb)
    isplitr; · ipureintro; exact Inv.put c W t.val h0 I
    isplitl [H2]; · iexact H2
    isplitl [H5]; · iexact H5
    isplitl [HO]; · iexact HO
    isplitl [Hg Hr]
    · isplitl [Hg]; · iexact Hg
      iexact Hr
    isplitl [HF]; · iexact HF
    isplitl [Hs]; · iexact Hs
    iexact Hc
  · have ht : t.val = 48 := by omega
    have hD := headD c t fullShare W arg2 harg2 arg4 harg4 arg5 harg5 arg6 harg6 arg7 harg7 a wb hge h0 (by omega) K
    rw [hp] at hD
    rw [show mid c W (t.val + 1) = still c W from if_neg (by omega)]
    unfold moving still
    rw [homes_take c W Finset.univ _ (Finset.mem_univ (Ring.bk 64 (t.val + 15)))]
    have e15 : Ring.sl 2 (t.val + 15) = 1 := by rw [ht]; decide
    have e16 : Ring.sl 2 (t.val + 16) = 0 := by rw [ht]; decide
    rw [e15] at hD
    rw [e15, e16]
    iintro ⟨H2, H5, HO, ⟨Hr, HF, Hs, Hc⟩, Hk⟩
    iapply hD
    isplitl [H2]; · iexact H2
    isplitl [H5]; · iexact H5
    isplitl [HO]; · iexact HO
    isplitl [HF]; · iexact HF
    iintro ⟨H2, H5, HO, Hg, Hs1, Hc1⟩
    iapply Hk
    iexists (putChunk c W (t.val + 15) wb)
    isplitr; · ipureintro; exact Inv.put c W t.val h0 I
    isplitl [H2]; · iexact H2
    isplitl [H5]; · iexact H5
    isplitl [HO]; · iexact HO
    isplitl [Hg Hr]
    · isplitl [Hg]; · iexact Hg
      iexact Hr
    isplitl [Hs]; · iexact Hs
    isplitl [Hc]; · iexact Hc
    isplitl [Hs1]; · iexact Hs1
    iexact Hc1

/-! ### The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1600000 in
theorem sound_body :
    bodyPre m c t ⊢ wp frame (wpE (defs₀ (F := F)) Variants.none c none) Set.univ (bodyAt0 t) (fun _ => bodyPost m c t) := by
  unfold bodyPre bodyPost bodyAt0
  simp only [before0_0, before0_1, before0_2]
  unfold Dat.owesAt Pipeline.owesWithin
  rw [show (dats m 0 c).owed t.castSucc = 0 from rfl, show (dats m 0 c).owed t.succ = 0 from rfl, after0_0, after0_1, after0_2, after0_3, Φ_eq, Φ_eq]
  iintro ⟨⟨%wb, %I, HS0, Hm, Hr, Hp⟩, ⟨%W', -, HO⟩, ⟨%d0, H0⟩, ⟨%d1, H1⟩, ⟨%d2, H2⟩, ⟨%d3, H3⟩⟩
  have I : Inv c (V m c main_v2) t.val wb := I
  rw [show cc0_up_gmlp_merge (F := F) (grid0.coords t) (win0_0.stage (cfg0.slots t 0)) (hstage0_0 ((cfg0.slots t 0).cast nbuf0_0)) (Memref.whole main_v2) (Memref.isWhole_whole _) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) cc0_scratch2
    = _ from bodyG_eq t _ _ _ _ _ _ _ _ _ _, wp_bind]
  iapply (head c (V m c main_v2) t _ _ _ _ _ _ _ _ _ _ (iblk m c 0 t) I _)
  isplitl [H0]; · iexact H0
  isplitl [HS0]; · iexact HS0
  isplitl [HO]; · iexists _; iexact HO
  isplitl [Hm]; · iexact Hm
  iintro ⟨%wb', %I', H0, HS0, ⟨%W'', HO⟩, Hm⟩
  iapply (runTail c t _ _ _ _ _ _ _ _ _ _ (iblk m c 0 t) wb' _ (iblk m c 1 t) (iblk m c 2 t) _)
  isplitl [H1]; · iexact H1
  isplitl [H2]; · iexact H2
  isplitl [H3]; · iexact H3
  isplitl [HS0]; · iexact HS0
  unfold outB
  rw [Inv.blk c (V m c main_v2) t I']
  iintro ⟨H1, H2, H3, HS0⟩
  isplitl [HS0 Hm Hr Hp]
  · iexists _
    isplitr; · ipureintro; exact I'
    isplitl [HS0]; · iexact HS0
    isplitl [Hm]; · iexact Hm
    isplitl [Hr]; · iexact Hr
    iexact Hp
  isplitl [HO]
  · iexists W''; isplitr; · ipureintro; exact fun _ _ => Or.inl trivial
    iexact HO
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run and the frame -/

theorem enters : Pipeline.Ends (cfgs 0).spec osem {main_v2} c (V m c) ⊢ ((dats (F := F) m 0 c).Φ 0 : sProp 𝕄) := by
  rw [Φ_eq]
  unfold Pipeline.Ends
  rw [show (cfgs 0).spec = spec0 from rfl, scopedRest0_eq, Pipeline.routed_singleton, w_eq, ownSems0_eq]
  simp only [owns_whole]
  rw [show mid c (V m c main_v2) (0 : Fin (cfg0.N + 1)).val = still c (V m c main_v2) from if_neg (by decide)]
  unfold still
  iintro ⟨⟨Hh, Hr⟩, ⟨Hc0, Hc1⟩, ⟨⟨%wb, HS0⟩, HS1⟩, Hg⟩
  ihave Hs := (buf_split c) $$ HS1
  icases Hs with ⟨Hs0, Hs1⟩
  iexists wb
  isplitr; · ipureintro; exact Inv.start c _
  isplitl [HS0]; · iexact HS0
  isplitl [Hh Hs0 Hc0 Hs1 Hc1]
  · isplitl [Hh]; · iexact Hh
    isplitl [Hs0]; · iexact Hs0
    isplitl [Hc0]; · iexact Hc0
    isplitl [Hs1]; · iexact Hs1
    iexact Hc1
  isplitl [Hr]; · iexact Hr
  iexact Hg

theorem leaves : ((dats (F := F) m 0 c).Φ (Fin.last cfg0.N) : sProp 𝕄) ⊢ Pipeline.Ends (cfgs 0).spec osem {main_v2} c (V m c) := by
  rw [Φ_eq]
  unfold Pipeline.Ends
  rw [show (cfgs 0).spec = spec0 from rfl, scopedRest0_eq, Pipeline.routed_singleton, w_eq, ownSems0_eq]
  simp only [owns_whole]
  rw [show mid c (V m c main_v2) (Fin.last cfg0.N).val = still c (V m c main_v2) from if_neg (by decide)]
  unfold still
  iintro ⟨%wb, -, HS0, ⟨Hh, Hs0, Hc0, Hs1, Hc1⟩, Hr, Hg⟩
  isplitl [Hh Hr]
  · isplitl [Hh]; · iexact Hh
    iexact Hr
  isplitl [Hc0 Hc1]
  · isplitl [Hc0]; · iexact Hc0
    iexact Hc1
  isplitl [HS0 Hs0 Hs1]
  · isplitl [HS0]; · iexists wb; iexact HS0
    iapply (buf_join c)
    isplitl [Hs0]; · iexact Hs0
    iexact Hs1
  iexact Hg

set_option backward.isDefEq.respectTransparency.types false in
/-- The launch: the result ends at what the proof data says, the other arrays as the call found them, every counter at zero. -/
theorem run_main_quiescent : θ_run defs (onTc (τ := τ) (main (F := F))) (s₀ m ρ)
    (fun r => Pipeline.RoutedPost cfgs (dats m) 0 {main_v2} (V m) (V m) r ∧ r.2.sem = fun _ => 0) :=
  Pipeline.θ_run_frame_routed (Q' := _) cfgs (dats m) (0 : Fin 1) launch0 ownSemFacts defs₀ Variants.none m ρ main
    (hbody := fun c => (body_obligation m c).loose)
    (hshare := fun c w => by unfold Dat.share; split <;> rfl)
    (howed := fun _ _ => rfl) (V := V m) (hmain := hmain m) (hA := A_eq m) (R := {main_v2}) (hR := by decide) (Y := V m)
    (hin := enters m) (hout := leaves m) (hQ' := fun _ h => h)

/-- THE FRAME, at any values: the arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2.2 main_arg0 (by decide)).trans (V_arg0 m c), ((h.1 c).2.2 main_arg1 (by decide)).trans (V_arg1 m c),
      ((h.1 c).2.2 main_arg2 (by decide)).trans (V_arg2 m c), ((h.1 c).2.2 main_arg3 (by decide)).trans (V_arg3 m c)⟩, h.2⟩) (run_main_quiescent m ρ)

end Cert.Proof.MergeFrame

end
-- ==== Proof.MergeBits.lean ====
/- Hand-written, untrusted: THE PRINTED PROGRAM OF THE MERGE AND ITS IDEALIZATION ARE ONE TEXT (no rule rewrites it), so the frame
   proved at any values of the one is the frame of the other. -/
module

public import proofs.«01_k».proof.Proof.Gen.Merge.Launch
public import proofs.«01_k».proof.Proof.MergeFrame

@[expose] public section

noncomputable section

namespace Cert.Proof.MergeBits

open Idealize.ShloMosaic Idealize.ShloMosaic.TcCoe Idealize.SL.Sem

variable {F : FTy → Type} [FloatOps F]

theorem defs₀_eq : @Cert.Merge.defs₀ F _ Cert.Merge.Gen.facts = @Cert.MergeIdeal.defs₀ F _ Cert.MergeIdeal.Gen.facts := by
  unfold Cert.Merge.defs₀ Cert.MergeIdeal.defs₀
  congr 1
  funext l x
  match l, x with
  | ⟨0, _⟩, (t, s) => rfl

theorem defs_eq : @Cert.Merge.defs F _ Cert.Merge.Gen.facts = @Cert.MergeIdeal.defs F _ Cert.MergeIdeal.Gen.facts := by
  unfold Cert.Merge.defs Cert.MergeIdeal.defs
  exact congrArg (Pipeline.defs _) defs₀_eq

theorem main_eq : @Cert.Merge.main F _ Cert.Merge.Gen.facts = @Cert.MergeIdeal.main F _ Cert.MergeIdeal.Gen.facts := rfl

open Cert.Merge in
/-- The printed program's frame. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := MergeFrame.frame (F := F) m ρ
  rw [← defs_eq, ← main_eq] at h
  exact h

end Cert.Proof.MergeBits

end
-- ==== Proof.MergeValue.lean ====
/- Hand-written, untrusted: THE MERGE'S RESULT ARRAY at ideal values, as one function of the arrays its call is given: the attention
   branch, plus its gate times the product of the gated MLP's activations with the up-projection's weights. -/
module

public import proofs.«01_k».proof.Proof.MergeFrame
public import Idealize.ShloMosaic.Lib.Pipeline.Value
public import Idealize.ShloMosaic.Lib.Pointwise
public import Idealize.ShloMosaic.Lib.Tactic.WordOmega

@[expose] public section

set_option maxRecDepth 16384

noncomputable section

namespace Cert.Proof.MergeValue

open Cert.MergeIdeal Cert.MergeIdeal.Gen Cert.Proof.MergeBody Cert.Proof.MergeTail Cert.Proof.MergeFrame
open Idealize.ShloMosaic Idealize.ShloMosaic.TcCoe Idealize.SL.Sem

/-! ### The payloads at an element -/

theorem pay24_at (a : Vec Ideal S1024x4096 .bf16) (w : Vec Ideal S1x4096x1024 .bf16) (r q : Fin 1024) :
    (k0_pay24 a w : S1024x1024.Idx → EReal) (ix2 r q)
      = ∑ k : Fin 4096, (a : S1024x4096.Idx → EReal) (ix2 r k) * (w : S1x4096x1024.Idx → EReal) (ix3 0 k q) := by
  unfold k0_pay24
  pointwise []

theorem mrg_at (x : Vec Ideal S1024x1024 .f32) (ya sb : Vec Ideal S1024x1024 .bf16) (r q : Fin 1024) :
    (mrg x ya sb : S1024x1024.Idx → EReal) (ix2 r q)
      = (ya : S1024x1024.Idx → EReal) (ix2 r q) + (sb : S1024x1024.Idx → EReal) (ix2 r q) * (x : S1024x1024.Idx → EReal) (ix2 r q) := by
  unfold mrg
  pointwise []

variable (m : (ℓ : Loc nD τ sig) → Buf (Elt Ideal) ℓ) (ρ : Dev nD → PrngReg) (c : Dev nD)

/-! ### The arrays the call is given, and its blocks -/

def Hm (r : Fin 16384) (k : Fin 4096) : EReal := (V m c main_v1 : S16384x4096.Idx → EReal) (ix2 r k)
def Wm (k : Fin 4096) (n : Fin 4096) : EReal := (V m c main_v2 : S4096x4096.Idx → EReal) (ix2 k n)

def Gm (r : Fin 16384) (n : Fin 8192) : EReal := (V m c main_v4 : S16384x8192.Idx → EReal) (ix2 r n)
def Ym (r : Fin 16384) (n : Fin 4096) : EReal := (V m c main_v6 : S16384x4096.Idx → EReal) (ix2 r n)

/-- The gate's columns are the second half of the gates. -/
def gcol (n : Fin 4096) : Fin 8192 := ⟨4096 + n.val, by omega⟩

/-- The result, element by element. -/
def outv (r : Fin 16384) (n : Fin 4096) : EReal := Ym m c r n + Gm m c r (gcol n) * ∑ k, Hm m c r k * Wm m c k n

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = t.val % 16 ∧ win0_1.index t (1 : Fin 2) = 4 + t.val / 16 :=
  (by decide +kernel : ∀ t : Fin grid0.N, _)
theorem idx2 : ∀ t : Fin cfg0.N, win0_2.index t (0 : Fin 2) = t.val % 16 ∧ win0_2.index t (1 : Fin 2) = t.val / 16 :=
  (by decide +kernel : ∀ t : Fin grid0.N, _)
theorem idx3 : ∀ t : Fin cfg0.N, win0_3.index t (0 : Fin 2) = t.val % 16 ∧ win0_3.index t (1 : Fin 2) = t.val / 16 :=
  (by decide +kernel : ∀ t : Fin grid0.N, _)

theorem lt_N (t : Fin cfg0.N) : t.val < 64 := lt_of_lt_of_eq t.isLt (show cfg0.N = 64 from N_0)

/-- A row of row block `t % 16`, a column of column block `t / 16`. -/
def row (t : ℕ) (r : Fin 1024) : Fin 16384 := ⟨1024 * (t % 16) + r.val, by omega⟩
def col (t : ℕ) (ht : t < 64) (q : Fin 1024) : Fin 4096 := ⟨1024 * (t / 16) + q.val, by omega⟩

theorem iblk0_at (t : Fin cfg0.N) (r : Fin 1024) (k : Fin 4096) :
    (iblk m c 0 t : S1024x4096.Idx → EReal) (ix2 r k) = Hm m c (row t.val r) k := by
  obtain ⟨e0, e1⟩ := idx0 t
  refine congrArg (V m c main_v1 : S16384x4096.Idx → EReal) (funext fun a => Fin.ext ?_)
  match a with
  | 0 => show win0_0.index t (0 : Fin 2) * 1024 + 1 * r.val = 1024 * (t.val % 16) + r.val; omega
  | 1 => show win0_0.index t (1 : Fin 2) * 4096 + 1 * k.val = k.val; omega

theorem iblk1_at (t : Fin cfg0.N) (r q : Fin 1024) :
    (iblk m c 1 t : S1024x1024.Idx → EReal) (ix2 r q) = Gm m c (row t.val r) (gcol (col t.val (lt_N t) q)) := by
  obtain ⟨e0, e1⟩ := idx1 t
  refine congrArg (V m c main_v4 : S16384x8192.Idx → EReal) (funext fun a => Fin.ext ?_)
  match a with
  | 0 => show win0_1.index t (0 : Fin 2) * 1024 + 1 * r.val = 1024 * (t.val % 16) + r.val; omega
  | 1 => show win0_1.index t (1 : Fin 2) * 1024 + 1 * q.val = 4096 + (1024 * (t.val / 16) + q.val); omega

theorem iblk2_at (t : Fin cfg0.N) (r q : Fin 1024) :
    (iblk m c 2 t : S1024x1024.Idx → EReal) (ix2 r q) = Ym m c (row t.val r) (col t.val (lt_N t) q) := by
  obtain ⟨e0, e1⟩ := idx2 t
  refine congrArg (V m c main_v6 : S16384x4096.Idx → EReal) (funext fun a => Fin.ext ?_)
  match a with
  | 0 => show win0_2.index t (0 : Fin 2) * 1024 + 1 * r.val = 1024 * (t.val % 16) + r.val; omega
  | 1 => show win0_2.index t (1 : Fin 2) * 1024 + 1 * q.val = 1024 * (t.val / 16) + q.val; omega

/-- A chunk of the weights at an element, -/
theorem payload_at (W : Buf (Elt Ideal) (wM.view.loc (c : Thread nD τ))) (b : Fin 64) (p : Fin 256) (q : Fin 1024) :
    (payload c W b : S256x1024.Idx → EReal) (ix2 p q) = (W : S4096x4096.Idx → EReal)
      (ix2 ⟨256 * (b.val % 16) + p.val, by omega⟩ ⟨1024 * (b.val / 16) + q.val, by omega⟩) := by
  refine congrArg (W : S4096x4096.Idx → EReal) (funext fun (a : Fin 2) => Fin.ext ?_)
  match a with
  | 0 => show 256 * (b.val % 16) + 1 * p.val = 256 * (b.val % 16) + p.val; omega
  | 1 => show 1024 * (b.val / 16) + 1 * q.val = 1024 * (b.val / 16) + q.val; omega

theorem chunk_at (W : Buf (Elt Ideal) (wM.view.loc (c : Thread nD τ))) (b : Fin 64) (p : Fin 256) (q : Fin 1024) :
    (chunk c W b : S1x256x1024.Idx → EReal) (ix3 0 p q) = (W : S4096x4096.Idx → EReal)
      (ix2 ⟨256 * (b.val % 16) + p.val, by omega⟩ ⟨1024 * (b.val / 16) + q.val, by omega⟩) := by
  rw [← payload_at c W b p q]
  unfold chunk
  generalize payload c W b = x
  pointwise []

/-- and so the rounded weights' column block. -/
theorem wB_at (t : ℕ) (ht : t < 64) (k : Fin 4096) (q : Fin 1024) :
    (wB c (V m c main_v2) (t / 16) : S1x4096x1024.Idx → EReal) (ix3 0 k q) = Wm m c k (col t ht q) := by
  have hb : (Ring.bk 64 (16 * (t / 16) + k.val / 256)).val = 16 * (t / 16) + k.val / 256 := Ring.bk_val (by omega)
  have hi : (fun a => match a with
      | 0 => ⟨0, by decide⟩
      | 1 => ⟨k.val % 256, Nat.mod_lt _ (by decide)⟩
      | 2 => q : S1x256x1024.Idx) = ix3 (0 : Fin 1) (⟨k.val % 256, Nat.mod_lt _ (by decide)⟩ : Fin 256) q := by
    funext a
    match a with
    | 0 => rfl
    | 1 => rfl
    | 2 => rfl
  refine (congrArg (chunk c (V m c main_v2) (Ring.bk 64 (16 * (t / 16) + k.val / 256)) : S1x256x1024.Idx → EReal) hi).trans ?_
  refine (chunk_at c _ _ _ q).trans ?_
  refine congrArg (V m c main_v2 : S4096x4096.Idx → EReal) (funext fun a => Fin.ext ?_)
  match a with
  | 0 =>
    show 256 * ((Ring.bk 64 (16 * (t / 16) + k.val / 256)).val % 16) + k.val % 256 = k.val
    rw [hb]; omega
  | 1 =>
    show 1024 * ((Ring.bk 64 (16 * (t / 16) + k.val / 256)).val / 16) + q.val = (1024 * (t / 16) + q.val)
    rw [hb]; omega

/-! ### What the points write -/

theorem res_at (t : Fin cfg0.N) (r q : Fin 1024) :
    (res m c t : S1024x1024.Idx → EReal) (ix2 r q) = outv m c (row t.val r) (col t.val (lt_N t) q) := by
  unfold res outv
  rw [mrg_at, pay24_at, iblk1_at, iblk2_at]
  refine congrArg (fun z : EReal => Ym m c (row t.val r) (col t.val (lt_N t) q) + Gm m c (row t.val r) (gcol (col t.val (lt_N t) q)) * z)
    (Finset.sum_congr rfl fun k _ => ?_)
  rw [iblk0_at, wB_at m c t.val (lt_N t)]

/-! ### The result array -/

def resA : S16384x4096.Idx → EReal := fun y => outv m c (y 0) (y 1)

/-- What a point writes back is its block of the result. -/
theorem flushed_eq (t : Fin cfg0.N) :
    (dats m 0 c).flushed 3 t = ((cfg0.win 3).blk t).view.read (Elt Ideal) (resA m c) := by
  obtain ⟨e0, e1⟩ := idx3 t
  unfold Pipeline.Dat.flushed
  rw [after0_3]
  funext j
  have hj : j = (ix2 (⟨(j 0).val, (j 0).isLt⟩ : Fin 1024) (⟨(j 1).val, (j 1).isLt⟩ : Fin 1024) : S1024x1024.Idx) := by
    funext a
    match a with
    | 0 => rfl
    | 1 => rfl
  refine (congrArg (res m c t : S1024x1024.Idx → EReal) hj).trans ((res_at m c t _ _).trans ?_)
  show outv m c _ _ = outv m c _ _
  congr 1 <;> apply Fin.ext
  · show 1024 * (t.val % 16) + (j 0).val = win0_3.index t (0 : Fin 2) * 1024 + 1 * (j 0).val; omega
  · show 1024 * (t.val / 16) + (j 1).val = win0_3.index t (1 : Fin 2) * 1024 + 1 * (j 1).val; omega

theorem covered (i : S16384x4096.Idx) :
    ∃ t : Fin cfg0.N, (cfg0.win 3).flush t = true ∧ i ∈ ((cfg0.win 3).blk t).view.set := by
  have h0 : (i 0).val < 16384 := (i 0).isLt
  have h1 : (i 1).val < 4096 := (i 1).isLt
  have ht : 16 * ((i 1).val / 1024) + (i 0).val / 1024 < 64 := by omega
  refine ⟨(⟨16 * ((i 1).val / 1024) + (i 0).val / 1024, ht⟩ : Fin cfg0.N), flush0_3 _, ?_⟩
  obtain ⟨e0, e1⟩ := idx3 ⟨16 * ((i 1).val / 1024) + (i 0).val / 1024, ht⟩
  have h := ((cfg0.win 3).blk (⟨16 * ((i 1).val / 1024) + (i 0).val / 1024, ht⟩ : Fin cfg0.N)).view.emb_mem_set
    (ix2 (⟨(i 0).val % 1024, by omega⟩ : Fin 1024) (⟨(i 1).val % 1024, by omega⟩ : Fin 1024) : S1024x1024.Idx)
  refine Eq.mp (congrArg (· ∈ _) (?_ : _ = i)) h
  refine funext fun a => Fin.ext ?_
  match a with
  | 0 => show win0_3.index _ (0 : Fin 2) * 1024 + 1 * ((i 0).val % 1024) = (i 0).val; rw [e0]; dsimp only; omega
  | 1 => show win0_3.index _ (1 : Fin 2) * 1024 + 1 * ((i 1).val % 1024) = (i 1).val; rw [e1]; dsimp only; omega

/-- The result array after the run. -/
theorem final : (dats m 0 c).arrAt 3 cfg0.N = resA m c :=
  (dats m 0 c).arrAt_eq_of_cover 3 (resA m c) (fun t _ => flushed_eq m c t) covered

end Cert.Proof.MergeValue

end
-- ==== Proof.MergeMatch.lean ====
/- Hand-written, untrusted: THE MERGE'S RESULT IS ITS REFERENCE'S. The host's re-laying out of the arguments read at an element and
   the reference's operations read at an element: the two are one expression. -/
module

public import proofs.«01_k».proof.Proof.MergeValue
public import proofs.«01_k».proof.Proof.Gen.MergeReferenceIdeal.Read
public import Idealize.ShloMosaic.Lib.Claim
public import Idealize.ShloMosaic.Lib.StableHlo.ReadAt

@[expose] public section

noncomputable section

namespace Cert.Proof.MergeValue

open Cert.MergeIdeal Cert.MergeIdeal.Gen Cert.Proof.MergeFrame
open Idealize.ShloMosaic Idealize.ShloMosaic.TcCoe Idealize.SL.Sem

/-! ### The reference at an element -/

section
open Cert.MergeReferenceIdeal.Read
variable (h : S4x4096x4096.Idx → EReal) (w : S1x4096x4096.Idx → EReal) (g : S4x4096x8192.Idx → EReal) (ya : S4x4096x4096.Idx → EReal)

/-- The product, at a sequence, a position and a column. -/
def pR (b : Fin 4) (s n : Fin 4096) : EReal := ∑ k : Fin 4096, h (ix3 b s k) * w (ix3 0 k n)

theorem v1_at (b : Fin 4) (s n : Fin 4096) : val_main_v1 (F := Ideal) h w (ix3 b s n) = pR h w b s n := by
  unfold val_main_v1 val_main_v0 pR
  pointwise []

theorem v6_at (r : Fin 16384) (n : Fin 4096) : val_main_v6 (F := Ideal) h w g ya (ix2 r n)
    = ya (ix3 ⟨r.val / 4096, by omega⟩ ⟨r.val % 4096, by omega⟩ n)
      + g (ix3 ⟨r.val / 4096, by omega⟩ ⟨r.val % 4096, by omega⟩ (gcol n)) * pR h w ⟨r.val / 4096, by omega⟩ ⟨r.val % 4096, by omega⟩ n := by
  rw [← v1_at]
  unfold val_main_v6 val_main_v5 val_main_v4 val_main_v3 val_main_v2 gcol
  generalize val_main_v1 (F := Ideal) h w = y
  pointwise []
end

/-! ### The arrays the call is given, as the arguments -/

variable (m : (ℓ : Loc nD τ sig) → Buf (Elt Ideal) ℓ) (c : Dev nD)

/-- The arguments as the caller stores them: the gated MLP's activations, the up-projection's weights, the gates, the attention branch. -/
def hA : S4x4096x4096.Idx → EReal := m ((c : Thread nD τ).loc main_arg0)
def wA : S1x4096x4096.Idx → EReal := m ((c : Thread nD τ).loc main_arg1)
def gA : S4x4096x8192.Idx → EReal := m ((c : Thread nD τ).loc main_arg2)
def yA : S4x4096x4096.Idx → EReal := m ((c : Thread nD τ).loc main_arg3)

theorem Hm_eq (r : Fin 16384) (k : Fin 4096) : Hm m c r k = hA m c (ix3 ⟨r.val / 4096, by omega⟩ ⟨r.val % 4096, by omega⟩ k) := by
  unfold Hm
  entry_read
  pointwise []
  rfl
theorem Wm_eq (k n : Fin 4096) : Wm m c k n = wA m c (ix3 0 k n) := by
  unfold Wm
  entry_read
  pointwise []
  rfl
theorem Gm_eq (r : Fin 16384) (n : Fin 8192) : Gm m c r n = gA m c (ix3 ⟨r.val / 4096, by omega⟩ ⟨r.val % 4096, by omega⟩ n) := by
  unfold Gm
  entry_read
  pointwise []
  rfl
theorem Ym_eq (r : Fin 16384) (n : Fin 4096) : Ym m c r n = yA m c (ix3 ⟨r.val / 4096, by omega⟩ ⟨r.val % 4096, by omega⟩ n) := by
  unfold Ym
  entry_read
  pointwise []
  rfl

/-- The kernel's result is the reference's, element by element. -/
theorem outv_eq (r : Fin 16384) (n : Fin 4096) :
    outv m c r n = Cert.MergeReferenceIdeal.Read.val_main_v6 (F := Ideal) (hA m c) (wA m c) (gA m c) (yA m c) (ix2 r n) := by
  rw [v6_at]
  unfold outv pR
  simp only [Hm_eq, Wm_eq, Gm_eq, Ym_eq]

theorem resA_eq : resA m c = Cert.MergeReferenceIdeal.Read.val_main_v6 (F := Ideal) (hA m c) (wA m c) (gA m c) (yA m c) := by
  funext y
  have hy : y = ix2 (⟨(y 0).val, (y 0).isLt⟩ : Fin 16384) (⟨(y 1).val, (y 1).isLt⟩ : Fin 4096) := by
    funext a
    match a with
    | 0 => rfl
    | 1 => rfl
  exact Eq.trans rfl ((outv_eq m c _ _).trans (congrArg _ hy.symm))

end Cert.Proof.MergeValue

end
-- ==== Proof.UpBody.lean ====
/- Hand-written, untrusted: ONE RUN OF THE UP PROJECTION'S BODY, in each of its five cases. The weights come from HBM in chunks of 256
   rows by 1024 columns, 64 of them, 16 to a column block; point `t` starts chunk `t + 16` into one of two staging slots and waits
   for chunk `t + 15` in the other, rounds it, and puts it in its half of the rounded weights; the first point fetches the sixteen
   chunks of the first column block itself. Then the point multiplies its block of rows by its column block of the weights. -/
module

public import proofs.«01_k».proof.Proof.Gen.UpIdeal.Launch
public import proofs.«01_k».proof.Proof.Gen.UpIdeal.Skeleton
public import proofs.«01_k».proof.Proof.Gen.UpIdeal.Points
public import Idealize.ShloMosaic.Lib.Pipeline.Value
public import Idealize.ShloMosaic.Lib.VecWindow
public import Idealize.ShloMosaic.Lib.Transfers
public import Idealize.ShloMosaic.Lib.Ring

@[expose] public section

set_option maxRecDepth 16384

noncomputable section

namespace Cert.Proof.UpBody

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

/-! ### Names for the chunks, the staging slots and their semaphores -/

/-- The weights, whole, in HBM; the rounded weights; the two staging slots. -/
abbrev wM : Memref sig .tc .hbm S4096x4096 .f32 := Memref.whole main_v2
abbrev wbM : Memref sig .tc .vmem S2x4096x1024 .bf16 := Memref.whole cc0_scratch0
abbrev bufM : Memref sig .tc .vmem S2x256x1024 .f32 := Memref.whole cc0_scratch1

abbrev grpOff (b : Fin 64) : Fin 2 → ℕ := ![256 * (b.val % 16), 1024 * (b.val / 16)]
theorem grpOff_inb (b : Fin 64) : ∀ a, grpOff b a + S256x1024.size a ≤ S4096x4096.size a := fun a => by
  have := b.isLt
  match a with
  | 0 => show 256 * (b.val % 16) + 256 ≤ 4096; omega
  | 1 => show 1024 * (b.val / 16) + 1024 ≤ 4096; omega
abbrev slotOff (s : Fin 2) : Fin 3 → ℕ := ![s.val, 0, 0]
theorem slotOff_inb (s : Fin 2) : ∀ a, slotOff s a + S1x256x1024.size a ≤ S2x256x1024.size a := fun a => by
  have := s.isLt
  match a with
  | 0 => show s.val + 1 ≤ 2; omega
  | 1 => exact Nat.le_refl _
  | 2 => exact Nat.le_refl _
abbrev semOff (s : Fin 2) : Fin 1 → ℕ := ![s.val]
theorem semOff_inb (s : Fin 2) : ∀ a, semOff s a + S1.size a ≤ S2.size a := fun a => by
  have := s.isLt
  match a with
  | 0 => show s.val + 1 ≤ 2; omega

/-- Chunk `b` of the weights, -/
def grp (b : Fin 64) : Memref sig .tc .hbm S256x1024 .f32 :=
  wM.slice (Rect.unit (s := S4096x4096) (grpOff b) S256x1024.size (grpOff_inb b)) (fun _ => rfl)
/-- staging slot `s`, -/
def rslot (s : Fin 2) : Memref sig .tc .vmem S256x1024 .f32 :=
  (bufM.slice (Rect.unit (s := S2x256x1024) (slotOff s) S1x256x1024.size (slotOff_inb s)) (fun _ => rfl)).squeeze S256x1024 squeezes_S1x256x1024_S256x1024
/-- and its semaphore. -/
def csm (s : Fin 2) : DmaSems sig S_ := (cc0_scratch2.slice (Rect.unit (s := S2) (semOff s) S1.size (semOff_inb s))).squeeze S_ squeezes_S1_S_

instance (s : Fin 2) : ClosedOff (slotOff s) := ⟨slotOff s, rfl⟩
instance (b : Fin 64) : ClosedOff (grpOff b) := ⟨grpOff b, rfl⟩

/-! ### The offsets in closed form -/

theorem cond1_iff : ∀ t : Fin grid0.N, k0_cond1 (grid0.coords t) = 1#1 ↔ t.val = 0 := by decide +kernel
theorem cond2_iff : ∀ t : Fin grid0.N, k0_cond2 (grid0.coords t) = 1#1 ↔ t.val < 48 := by decide +kernel
theorem cond3_iff : ∀ t : Fin grid0.N, k0_cond3 (grid0.coords t) = 1#1 ↔ t.val < 48 ∧ t.val % 16 ≠ 0 := by decide +kernel
theorem cond4_iff : ∀ t : Fin grid0.N, k0_cond4 (grid0.coords t) = 1#1 ↔ 0 < t.val ∧ t.val % 16 = 0 := by decide +kernel
theorem off1_eq : ∀ t : Fin grid0.N, k0_off1 (grid0.coords t) = semOff (Ring.sl 2 (t.val + 16)) := by decide +kernel
theorem off2_eq : ∀ t : Fin grid0.N, k0_off2 (grid0.coords t) = slotOff (Ring.sl 2 (t.val + 16)) := by decide +kernel
theorem off3_eq : ∀ t : Fin grid0.N, t.val < 48 → k0_off3 (grid0.coords t) = grpOff (Ring.bk 64 (t.val + 16)) := by decide +kernel
theorem off4_eq : ∀ t : Fin grid0.N, t.val % 16 ≠ 0 → k0_off4 (grid0.coords t) = semOff (Ring.sl 2 (t.val + 15)) := by decide +kernel
theorem off5_eq : ∀ t : Fin grid0.N, t.val % 16 ≠ 0 → k0_off5 (grid0.coords t) = slotOff (Ring.sl 2 (t.val + 15)) := by decide +kernel
theorem off6_eq : ∀ t : Fin grid0.N, t.val < 48 → t.val % 16 ≠ 0 → k0_off6 (grid0.coords t) = grpOff (Ring.bk 64 (t.val + 15)) := by decide +kernel
theorem off7_eq : ∀ t : Fin grid0.N, k0_off7 (grid0.coords t) = slotOff (Ring.sl 2 (t.val + 15)) := by decide +kernel
theorem off8_eq : ∀ t : Fin grid0.N, t.val < 48 → t.val % 16 ≠ 0 →
    k0_off8 (grid0.coords t) = ![(t.val + 15) / 16 % 2, 256 * ((t.val + 15) % 16), 0] := by decide +kernel
theorem off9_eq : ∀ t : Fin grid0.N, 0 < t.val → t.val % 16 = 0 → k0_off9 (grid0.coords t) = grpOff (Ring.bk 64 (t.val + 15)) := by decide +kernel
theorem off10_eq : ∀ t : Fin grid0.N, 0 < t.val → t.val % 16 = 0 →
    k0_off10 (grid0.coords t) = ![(t.val + 15) / 16 % 2, 256 * ((t.val + 15) % 16), 0] := by decide +kernel
theorem off11_eq : ∀ t : Fin grid0.N, k0_off11 (grid0.coords t) = ![t.val / 16 % 2, 0, 0] := by decide +kernel
theorem sl_one : ∀ t : Fin grid0.N, t.val % 16 = 0 → Ring.sl 2 (t.val + 15) = 1 := by decide +kernel
theorem sl_zero : ∀ t : Fin grid0.N, t.val % 16 = 0 → Ring.sl 2 (t.val + 16) = 0 := by decide +kernel

/-! ### The body's slices under those names -/

private theorem csm_congr {off : Fin 1 → ℕ} {s : Fin 2} (e : off = semOff s) (hh) :
    (cc0_scratch2.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → ℕ} {s : Fin 2} (e : off = slotOff s) (hh hs) :
    (bufM.slice (Rect.unit (s := S2x256x1024) off S1x256x1024.size hh) hs).squeeze S256x1024 squeezes_S1x256x1024_S256x1024 = rslot s :=
  congrArg (fun M : Memref sig .tc .vmem S1x256x1024 .f32 => M.squeeze S256x1024 squeezes_S1x256x1024_S256x1024) (Memref.slice_unit_congr _ e _ _ _ _)
private theorem grp_congr {off : Fin 2 → ℕ} {b : Fin 64} (e : off = grpOff b) (hh hs) :
    wM.slice (Rect.unit (s := S4096x4096) off S256x1024.size hh) hs = grp b := Memref.slice_unit_congr _ e _ _ _ fun _ => rfl

@[sl_canon] theorem semL0 (hh) : (cc0_scratch2.slice (Rect.unit (s := S2) ![0] S1.size hh)).squeeze S_ squeezes_S1_S_ = csm 0 := csm_congr (by decide) _
@[sl_canon] theorem semL1 (hh) : (cc0_scratch2.slice (Rect.unit (s := S2) ![1] S1.size hh)).squeeze S_ squeezes_S1_S_ = csm 1 := csm_congr (by decide) _
@[sl_canon] theorem slotL0 (hh hs) : (bufM.slice (Rect.unit (s := S2x256x1024) ![0, 0, 0] S1x256x1024.size hh) hs).squeeze S256x1024 squeezes_S1x256x1024_S256x1024 = rslot 0 := rslot_congr (by decide) _ _
@[sl_canon] theorem slotL1 (hh hs) : (bufM.slice (Rect.unit (s := S2x256x1024) ![1, 0, 0] S1x256x1024.size hh) hs).squeeze S256x1024 squeezes_S1x256x1024_S256x1024 = rslot 1 := rslot_congr (by decide) _ _
@[sl_canon] theorem grpL0 (hh hs) : wM.slice (Rect.unit (s := S4096x4096) ![0, 0] S256x1024.size hh) hs = grp 0 := grp_congr (by decide) _ _
@[sl_canon] theorem grpL1 (hh hs) : wM.slice (Rect.unit (s := S4096x4096) ![256, 0] S256x1024.size hh) hs = grp 1 := grp_congr (by decide) _ _
@[sl_canon] theorem grpL2 (hh hs) : wM.slice (Rect.unit (s := S4096x4096) ![512, 0] S256x1024.size hh) hs = grp 2 := grp_congr (by decide) _ _
@[sl_canon] theorem grpL3 (hh hs) : wM.slice (Rect.unit (s := S4096x4096) ![768, 0] S256x1024.size hh) hs = grp 3 := grp_congr (by decide) _ _
@[sl_canon] theorem grpL4 (hh hs) : wM.slice (Rect.unit (s := S4096x4096) ![1024, 0] S256x1024.size hh) hs = grp 4 := grp_congr (by decide) _ _
@[sl_canon] theorem grpL5 (hh hs) : wM.slice (Rect.unit (s := S4096x4096) ![1280, 0] S256x1024.size hh) hs = grp 5 := grp_congr (by decide) _ _
@[sl_canon] theorem grpL6 (hh hs) : wM.slice (Rect.unit (s := S4096x4096) ![1536, 0] S256x1024.size hh) hs = grp 6 := grp_congr (by decide) _ _
@[sl_canon] theorem grpL7 (hh hs) : wM.slice (Rect.unit (s := S4096x4096) ![1792, 0] S256x1024.size hh) hs = grp 7 := grp_congr (by decide) _ _
@[sl_canon] theorem grpL8 (hh hs) : wM.slice (Rect.unit (s := S4096x4096) ![2048, 0] S256x1024.size hh) hs = grp 8 := grp_congr (by decide) _ _
@[sl_canon] theorem grpL9 (hh hs) : wM.slice (Rect.unit (s := S4096x4096) ![2304, 0] S256x1024.size hh) hs = grp 9 := grp_congr (by decide) _ _
@[sl_canon] theorem grpL10 (hh hs) : wM.slice (Rect.unit (s := S4096x4096) ![2560, 0] S256x1024.size hh) hs = grp 10 := grp_congr (by decide) _ _
@[sl_canon] theorem grpL11 (hh hs) : wM.slice (Rect.unit (s := S4096x4096) ![2816, 0] S256x1024.size hh) hs = grp 11 := grp_congr (by decide) _ _
@[sl_canon] theorem grpL12 (hh hs) : wM.slice (Rect.unit (s := S4096x4096) ![3072, 0] S256x1024.size hh) hs = grp 12 := grp_congr (by decide) _ _
@[sl_canon] theorem grpL13 (hh hs) : wM.slice (Rect.unit (s := S4096x4096) ![3328, 0] S256x1024.size hh) hs = grp 13 := grp_congr (by decide) _ _
@[sl_canon] theorem grpL14 (hh hs) : wM.slice (Rect.unit (s := S4096x4096) ![3584, 0] S256x1024.size hh) hs = grp 14 := grp_congr (by decide) _ _
@[sl_canon] theorem grpL15 (hh hs) : wM.slice (Rect.unit (s := S4096x4096) ![3840, 0] S256x1024.size hh) hs = grp 15 := grp_congr (by decide) _ _

section Canon
variable (t : Fin grid0.N)
@[sl_canon] theorem semI (hh) : (cc0_scratch2.slice (Rect.unit (s := S2) (k0_off1 (grid0.coords t)) S1.size hh)).squeeze S_ squeezes_S1_S_ = csm (Ring.sl 2 (t.val + 16)) := csm_congr (off1_eq t) _
@[sl_canon] theorem slotI (hh hs) : (bufM.slice (Rect.unit (s := S2x256x1024) (k0_off2 (grid0.coords t)) S1x256x1024.size hh) hs).squeeze S256x1024 squeezes_S1x256x1024_S256x1024 = rslot (Ring.sl 2 (t.val + 16)) := rslot_congr (off2_eq t) _ _
@[sl_canon] theorem grpI (ht : t.val < 48) (hh hs) : wM.slice (Rect.unit (s := S4096x4096) (k0_off3 (grid0.coords t)) S256x1024.size hh) hs = grp (Ring.bk 64 (t.val + 16)) := grp_congr (off3_eq t ht) _ _
@[sl_canon] theorem semW (hm : t.val % 16 ≠ 0) (hh) : (cc0_scratch2.slice (Rect.unit (s := S2) (k0_off4 (grid0.coords t)) S1.size hh)).squeeze S_ squeezes_S1_S_ = csm (Ring.sl 2 (t.val + 15)) := csm_congr (off4_eq t hm) _
@[sl_canon] theorem slotW (hm : t.val % 16 ≠ 0) (hh hs) : (bufM.slice (Rect.unit (s := S2x256x1024) (k0_off5 (grid0.coords t)) S1x256x1024.size hh) hs).squeeze S256x1024 squeezes_S1x256x1024_S256x1024 = rslot (Ring.sl 2 (t.val + 15)) := rslot_congr (off5_eq t hm) _ _
@[sl_canon] theorem grpW (ht : t.val < 48) (hm : t.val % 16 ≠ 0) (hh hs) : wM.slice (Rect.unit (s := S4096x4096) (k0_off6 (grid0.coords t)) S256x1024.size hh) hs = grp (Ring.bk 64 (t.val + 15)) := grp_congr (off6_eq t ht hm) _ _
@[sl_canon] theorem grpE (h0 : 0 < t.val) (hm : t.val % 16 = 0) (hh hs) : wM.slice (Rect.unit (s := S4096x4096) (k0_off9 (grid0.coords t)) S256x1024.size hh) hs = grp (Ring.bk 64 (t.val + 15)) := grp_congr (off9_eq t h0 hm) _ _
instance : ClosedOff (k0_off7 (grid0.coords t)) := ⟨_, off7_eq t⟩
end Canon

/-! ### The pieces: a chunk at home, a slot, its semaphore, a slot in flight -/

section Pieces
variable (c : Dev nD) (q : PosShare TreeShare) (W : Buf (Elt F) (wM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
abbrev homeP (b : Fin 64) : sProp 𝕄 := (grp b).view.loc (c : Thread nD τ) ↦[(grp b).view.set]{q} W
/-- Chunk `b` as a transfer carries it. -/
abbrev payload (b : Fin 64) : S256x1024.Idx → Elt F .f32 := ReadAs.same.apply ((grp b).view.read (Elt F) W)
abbrev landed (s : Fin 2) (b : Fin 64) (f : Buf (Elt F) ((rslot s).view.loc (c : Thread nD τ))) : Buf (Elt F) ((rslot s).view.loc (c : Thread nD τ)) :=
  (rslot s).view.writes (Elt F) f [⟨Rect.whole S256x1024, payload c W b⟩]
/-- Slot `s` with chunk `b` on its way into it. -/
abbrev flightP (s : Fin 2) (b : Fin 64) (f : Buf (Elt F) ((rslot s).view.loc (c : Thread nD τ))) : sProp 𝕄 :=
  Transfers.Flight countersEmb (c : Thread nD τ) (SemLoc.dma (csm s).sem) () 32768 iprop(slotP c s (landed c W s b f) ∗ homeP c q W b)
end Pieces

/-! ### What the body computes -/

/-- Where chunk `g` goes in the rounded weights. -/
abbrev wbOff (g : ℕ) : Fin 3 → ℕ := ![g / 16 % 2, 256 * (g % 16), 0]
/-- Chunk `b`, rounded. -/
def chunk (c : Dev nD) (W : Buf (Elt F) (wM.view.loc (c : Thread nD τ))) (b : Fin 64) : Vec F S1x256x1024 .bf16 :=
  shapeCast S1x256x1024 (truncf .bf16 (payload c W b) bitsLt_bf16_f32) shapeCasts_S256x1024_S1x256x1024
/-- The rounded weights with chunk `g` put in. -/
def putChunk (c : Dev nD) (W : Buf (Elt F) (wM.view.loc (c : Thread nD τ))) (g : ℕ) (wb : Vec F S2x4096x1024 .bf16) : Vec F S2x4096x1024 .bf16 :=
  VecWindow.put (s := S2x4096x1024) wb (wbOff g) S1x256x1024.size (chunk c W (Ring.bk 64 g))

/-- A load of a slot just filled is the chunk that filled it. -/
theorem slotRead (c : Dev nD) (s : Fin 2) {off : Fin 3 → ℕ} (h : off = slotOff s) (inb : ∀ a, off a + S1x256x1024.size a ≤ S2x256x1024.size a)
    (f : Buf (Elt F) ((rslot s).view.loc (c : Thread nD τ))) (p : S256x1024.Idx → Elt F .f32) :
    shapeCast S256x1024 (bufM.view.readAt (Elt F) (Rect.unit (s := S2x256x1024) off S1x256x1024.size inb).toLoadRect
      ((rslot s).view.writes (Elt F) f [⟨Rect.whole S256x1024, p⟩])) shapeCasts_S1x256x1024_S256x1024 = p := by
  subst h
  exact View.read_writes_whole (rslot s).view f p

variable (c : Dev nD) (t : Fin grid0.N) (q q' : PosShare TreeShare) (W : Buf (Elt F) (wM.view.loc (c : Thread nD τ)))
  (arg2 : Memref sig .tc .vmem S1024x4096 .bf16) (harg2 : arg2.IsWhole) (arg4 : Memref sig .tc .vmem S1024x1024 .bf16) (harg4 : arg4.IsWhole)
  (arg5 : Memref sig .tc .vmem S64x4096 .f32) (harg5 : arg5.IsWhole) (arg6 : Memref sig .tc .vmem S1024x1024 .bf16) (harg6 : arg6.IsWhole)
  (arg7 : Memref sig .tc .vmem S64x4096 .bf16) (harg7 : arg7.IsWhole)
  (arg8 : Memref sig .tc .vmem S2x4096x1024 .bf16) (harg8 : arg8.IsWhole)
  (a : Vec F S1024x4096 .bf16) (sd : Vec F S64x4096 .f32) (so : Vec F S64x4096 .bf16) (wb : Vec F S2x4096x1024 .bf16) (o : Vec F S1024x1024 .bf16)

/-- The body at point `t`: -/
abbrev bodyG : Prog (TpuEff nD τ sig (Elt F) Λ₀ .tc) PUnit :=
  cc0_up_attn (grid0.coords t) arg2 harg2 wM (Memref.isWhole_whole _) arg4 harg4 arg5 harg5 arg6 harg6 arg7 harg7 arg8 harg8 bufM (Memref.isWhole_whole _) cc0_scratch2
/-- the last chunk of a column block, where this point waits for it, and the point's block of rows, -/
def midG : Prog (TpuEff nD τ sig (Elt F) Λ₀ .tc) (Vec F S1024x4096 .bf16) := do

  if h4 : k0_cond4 (grid0.coords t) = 1#1 then do

    let v125 : DmaSems sig S1 := cc0_scratch2.slice (Rect.unit (s := S2) ![1] S1.size inb_S2_S1_1)
    let v126 : DmaSems sig S_ := v125.squeeze S_ squeezes_S1_S_
    let v127 : Memref sig .tc .vmem S1x256x1024 .f32 := bufM.slice (Rect.unit (s := S2x256x1024) ![1, 0, 0] S1x256x1024.size inb_S2x256x1024_S1x256x1024_1_0_0) (fun _ => rfl)
    let v128 : Memref sig .tc .vmem S256x1024 .f32 := v127.squeeze S256x1024 squeezes_S1x256x1024_S256x1024
    let v129 : Memref sig .tc .hbm S256x1024 .f32 := wM.slice (Rect.unit (s := S4096x4096) (k0_off9 (grid0.coords t)) S256x1024.size (k0_off9_inb (grid0.coords t) h4)) (fun _ => rfl)
    Prog.lift (.waitDma2 v126.sem v129 v128 (View.wordExact_bits rfl) ((View.wordExact_bits rfl).reshape _ _))
    let v130 : Vec F S1x256x1024 .f32 ← Prog.lift (.load bufM (Rect.unit (s := S2x256x1024) ![1, 0, 0] S1x256x1024.size inb_S2x256x1024_S1x256x1024_1_0_0).toLoadRect (View.loadsAt_vmem h_S1x256x1024))

    let v134 : Vec F S1x256x1024 .bf16 ← Prog.lift (.load arg8 (Rect.unit (s := S2x4096x1024) (k0_off10 (grid0.coords t)) S1x256x1024.size (k0_off10_inb (grid0.coords t) h4)).toLoadRect (View.loadsAt_vmem h_S1x256x1024))

    Prog.lift (.store arg8 (Rect.unit (s := S2x4096x1024) (k0_off10 (grid0.coords t)) S1x256x1024.size (k0_off10_inb (grid0.coords t) h4)) (k0_pay24 v130) Finset.univ (View.stores_vmem h_S1x256x1024 (harg8.storeExact_slice rfl _ (k0_off10_packedbf16 (grid0.coords t) h4)) (fun _ => rfl)) (.inl rfl))
    pure ⟨⟩
  else do
    pure ⟨⟩
  let v34 : Vec F S1024x4096 .bf16 ← Prog.lift (.load arg2 (Rect.unit (s := S1024x4096) ![0, 0] S1024x4096.size inb_S1024x4096_S1024x4096_0_0).toLoadRect (View.loadsAt_vmem h_S1024x4096))
  pure v34
/-- its first part, which rounds a block of the weights handed on, fetches weights and reads the point's block of rows, -/
abbrev headG : Prog (TpuEff nD τ sig (Elt F) Λ₀ .tc) (Vec F S1024x4096 .bf16) :=
  k0_part12 (grid0.coords t) arg2 harg2 wM (Memref.isWhole_whole _) arg4 harg4 arg5 harg5 arg6 harg6 arg7 harg7 arg8 harg8 bufM (Memref.isWhole_whole _) cc0_scratch2 >>= fun _ => midG t arg2 arg8 harg8
/-- and the rest of it, which multiplies and writes. -/
def tailG (v34 : Vec F S1024x4096 .bf16) : Prog (TpuEff nD τ sig (Elt F) Λ₀ .tc) PUnit := do

  let v37 : Vec F S1x4096x1024 .bf16 ← Prog.lift (.load arg8 (Rect.unit (s := S2x4096x1024) (k0_off11 (grid0.coords t)) S1x4096x1024.size (k0_off11_inb (grid0.coords t))).toLoadRect (View.loadsAt_vmem h_S1x4096x1024))
  let v40 : Memref sig .tc .vmem S1024x1024 .bf16 := arg4.slice (Rect.unit (s := S1024x1024) ![0, 0] S1024x1024.size inb_S1024x1024_S1024x1024_0_0) (fun _ => rfl)
  let v41 : Vec F S1024x128 .bf16 ← Prog.lift (.load v40 (Rect.unit (s := S1024x1024) ![0, 0] S1024x128.size inb_S1024x1024_S1024x128_0_0).toLoadRect (View.loadsAt_vmem h_S1024x128))
  let v47 : Memref sig .tc .vmem S1024x1024 .bf16 := arg6.slice (Rect.unit (s := S1024x1024) ![0, 0] S1024x1024.size inb_S1024x1024_S1024x1024_0_0) (fun _ => rfl)
  let v48 : Vec F S1024x128 .bf16 ← Prog.lift (.load v47 (Rect.unit (s := S1024x1024) ![0, 0] S1024x128.size inb_S1024x1024_S1024x128_0_0).toLoadRect (View.loadsAt_vmem h_S1024x128))
  Prog.lift (.store arg6 (Rect.unit (s := S1024x1024) ![0, 0] S1024x128.size inb_S1024x1024_S1024x128_0_0) (k0_pay26 v34 v37 v41) Finset.univ (View.stores_vmem h_S1024x128 (harg6.storeExact_slice rfl _ packedbf16_S1024x1024_S1024x128_0_0) (fun _ => rfl)) (.inl rfl))
  let v49 : Memref sig .tc .vmem S1024x1024 .bf16 := arg4.slice (Rect.unit (s := S1024x1024) ![0, 0] S1024x1024.size inb_S1024x1024_S1024x1024_0_0) (fun _ => rfl)
  let v50 : Vec F S1024x128 .bf16 ← Prog.lift (.load v49 (Rect.unit (s := S1024x1024) ![0, 128] S1024x128.size inb_S1024x1024_S1024x128_0_128).toLoadRect (View.loadsAt_vmem h_S1024x128))
  let v56 : Memref sig .tc .vmem S1024x1024 .bf16 := arg6.slice (Rect.unit (s := S1024x1024) ![0, 0] S1024x1024.size inb_S1024x1024_S1024x1024_0_0) (fun _ => rfl)
  let v57 : Vec F S1024x128 .bf16 ← Prog.lift (.load v56 (Rect.unit (s := S1024x1024) ![0, 128] S1024x128.size inb_S1024x1024_S1024x128_0_128).toLoadRect (View.loadsAt_vmem h_S1024x128))
  Prog.lift (.store arg6 (Rect.unit (s := S1024x1024) ![0, 128] S1024x128.size inb_S1024x1024_S1024x128_0_128) (k0_pay27 v34 v37 v50) Finset.univ (View.stores_vmem h_S1024x128 (harg6.storeExact_slice rfl _ packedbf16_S1024x1024_S1024x128_0_128) (fun _ => rfl)) (.inl rfl))
  let v58 : Memref sig .tc .vmem S1024x1024 .bf16 := arg4.slice (Rect.unit (s := S1024x1024) ![0, 0] S1024x1024.size inb_S1024x1024_S1024x1024_0_0) (fun _ => rfl)
  let v59 : Vec F S1024x128 .bf16 ← Prog.lift (.load v58 (Rect.unit (s := S1024x1024) ![0, 256] S1024x128.size inb_S1024x1024_S1024x128_0_256).toLoadRect (View.loadsAt_vmem h_S1024x128))
  let v90 : FVec F S1024x128 .f32 ← k0_part14 (grid0.coords t) arg2 harg2 wM (Memref.isWhole_whole _) arg4 harg4 arg5 harg5 arg6 harg6 arg7 harg7 arg8 harg8 bufM (Memref.isWhole_whole _) cc0_scratch2 (k0_pay25 v34 v37) (k0_pay28 v59)
  let v92 : Memref sig .tc .vmem S1024x1024 .bf16 := arg6.slice (Rect.unit (s := S1024x1024) ![0, 0] S1024x1024.size inb_S1024x1024_S1024x1024_0_0) (fun _ => rfl)
  let v93 : Vec F S1024x128 .bf16 ← Prog.lift (.load v92 (Rect.unit (s := S1024x1024) ![0, 640] S1024x128.size inb_S1024x1024_S1024x128_0_640).toLoadRect (View.loadsAt_vmem h_S1024x128))
  Prog.lift (.store arg6 (Rect.unit (s := S1024x1024) ![0, 640] S1024x128.size inb_S1024x1024_S1024x128_0_640) (k0_pay1 v90) Finset.univ (View.stores_vmem h_S1024x128 (harg6.storeExact_slice rfl _ packedbf16_S1024x1024_S1024x128_0_640) (fun _ => rfl)) (.inl rfl))
  let v94 : Memref sig .tc .vmem S1024x1024 .bf16 := arg4.slice (Rect.unit (s := S1024x1024) ![0, 0] S1024x1024.size inb_S1024x1024_S1024x1024_0_0) (fun _ => rfl)
  let v95 : Vec F S1024x128 .bf16 ← Prog.lift (.load v94 (Rect.unit (s := S1024x1024) ![0, 768] S1024x128.size inb_S1024x1024_S1024x128_0_768).toLoadRect (View.loadsAt_vmem h_S1024x128))
  let v101 : Memref sig .tc .vmem S1024x1024 .bf16 := arg6.slice (Rect.unit (s := S1024x1024) ![0, 0] S1024x1024.size inb_S1024x1024_S1024x1024_0_0) (fun _ => rfl)
  let v102 : Vec F S1024x128 .bf16 ← Prog.lift (.load v101 (Rect.unit (s := S1024x1024) ![0, 768] S1024x128.size inb_S1024x1024_S1024x128_0_768).toLoadRect (View.loadsAt_vmem h_S1024x128))
  Prog.lift (.store arg6 (Rect.unit (s := S1024x1024) ![0, 768] S1024x128.size inb_S1024x1024_S1024x128_0_768) (k0_pay2 (k0_pay25 v34 v37) v95) Finset.univ (View.stores_vmem h_S1024x128 (harg6.storeExact_slice rfl _ packedbf16_S1024x1024_S1024x128_0_768) (fun _ => rfl)) (.inl rfl))
  let v103 : Memref sig .tc .vmem S1024x1024 .bf16 := arg4.slice (Rect.unit (s := S1024x1024) ![0, 0] S1024x1024.size inb_S1024x1024_S1024x1024_0_0) (fun _ => rfl)
  let v104 : Vec F S1024x128 .bf16 ← Prog.lift (.load v103 (Rect.unit (s := S1024x1024) ![0, 896] S1024x128.size inb_S1024x1024_S1024x128_0_896).toLoadRect (View.loadsAt_vmem h_S1024x128))
  let v110 : Memref sig .tc .vmem S1024x1024 .bf16 := arg6.slice (Rect.unit (s := S1024x1024) ![0, 0] S1024x1024.size inb_S1024x1024_S1024x1024_0_0) (fun _ => rfl)
  let v111 : Vec F S1024x128 .bf16 ← Prog.lift (.load v110 (Rect.unit (s := S1024x1024) ![0, 896] S1024x128.size inb_S1024x1024_S1024x128_0_896).toLoadRect (View.loadsAt_vmem h_S1024x128))
  Prog.lift (.store arg6 (Rect.unit (s := S1024x1024) ![0, 896] S1024x128.size inb_S1024x1024_S1024x128_0_896) (k0_pay3 (k0_pay25 v34 v37) v104) Finset.univ (View.stores_vmem h_S1024x128 (harg6.storeExact_slice rfl _ packedbf16_S1024x1024_S1024x128_0_896) (fun _ => rfl)) (.inl rfl))
  pure ⟨⟩

theorem bodyG_eq : bodyG (F := F) t arg2 harg2 arg4 harg4 arg5 harg5 arg6 harg6 arg7 harg7 arg8 harg8
    = (headG t arg2 harg2 arg4 harg4 arg5 harg5 arg6 harg6 arg7 harg7 arg8 harg8 >>= tailG t arg2 harg2 arg4 harg4 arg5 harg5 arg6 harg6 arg7 harg7 arg8 harg8) := by
  unfold bodyG headG
  rw [cc0_up_attn_eq_skeleton]
  refine Eq.trans ?_ (Prog.bind_assoc _ _ _).symm
  unfold cc0_up_attn_skel
  refine congrArg (fun k => k0_part12 (grid0.coords t) arg2 harg2 wM (Memref.isWhole_whole _) arg4 harg4 arg5 harg5 arg6 harg6 arg7 harg7 arg8 harg8 bufM (Memref.isWhole_whole _) cc0_scratch2 >>= k) (funext fun x => ?_)
  obtain ⟨x0, x1, x2⟩ := x
  unfold midG
  simp only [k0_part13_eq_skeleton]
  unfold k0_part13_skel
  by_cases h : k0_cond4 (grid0.coords t) = 1#1
  · simp only [dif_pos h]
    rfl
  · simp only [dif_neg h]
    rfl

/-- The rounded block of the weights handed on. -/
abbrev sideOut (sd : Vec F S64x4096 .f32) : Vec F S64x4096 .bf16 := truncf .bf16 sd bitsLt_bf16_f32
/-- What the first part reads: the block of rows and the block of the weights handed on, whose rounding it writes. -/
def inputs (c : Dev nD) (arg2 : Memref sig .tc .vmem S1024x4096 .bf16) (arg5 : Memref sig .tc .vmem S64x4096 .f32) (arg7 : Memref sig .tc .vmem S64x4096 .bf16)
    (a : Vec F S1024x4096 .bf16) (sd : Vec F S64x4096 .f32) (so : Vec F S64x4096 .bf16) : sProp 𝕄 :=
  iprop(owns (c : Thread nD τ) arg2 fullShare a ∗ owns (c : Thread nD τ) arg5 fullShare sd ∗ owns (c : Thread nD τ) arg7 fullShare so)

/-! ### Loads and stores of whole memrefs -/

/-- What a store leaves in a buffer that held what `f` reads: the payload put there. -/
theorem putAt {sp : Space} {S : Shape} {e : EltTy} (v : View sig .tc sp S e) (f : v.ty.Contents (Elt F)) {u : Vec F S e}
    (hf : v.read (Elt F) f = u) (off size : Fin S.rank → ℕ) (inb : ∀ a, off a + size a ≤ S.size a)
    (z : (Rect.unit off size inb).shape.Idx → Elt F e) :
    v.read (Elt F) (v.writes (Elt F) f [⟨Rect.unit off size inb, z⟩]) = VecWindow.put u off size z := by
  rw [View.read_writes_cons_put v f inb z [] rfl, View.writes_nil, hf]

/-- A load of the whole of what `f` reads. -/
theorem readAll {sp : Space} {S : Shape} {e : EltTy} (v : View sig .tc sp S e) (f : v.ty.Contents (Elt F)) {u : Vec F S e}
    (hf : v.read (Elt F) f = u) {off : Fin S.rank → ℕ} (inb : ∀ a, off a + S.size a ≤ S.size a) :
    v.readAt (Elt F) (Rect.unit off S.size inb).toLoadRect f = u := (View.readAt_full v f inb).trans hf

set_option maxHeartbeats 1000000 in
/-- A store of the rounding of a whole memref over another leaves that rounding. -/
theorem sideStored (v5 : View sig .tc .vmem S64x4096 .f32) (v7 : View sig .tc .vmem S64x4096 .bf16) (fd : v5.ty.Contents (Elt F)) (fs : v7.ty.Contents (Elt F))
    {sd : Vec F S64x4096 .f32} (hfd : v5.read (Elt F) fd = sd) {inb inb'} :
    v7.read (Elt F) (v7.writes (Elt F) fs [⟨Rect.unit (s := S64x4096) ![0, 0] S64x4096.size inb,
      k0_pay21 (v5.readAt (Elt F) (Rect.unit (s := S64x4096) ![0, 0] S64x4096.size inb').toLoadRect fd)⟩]) = sideOut sd := by
  rw [readAll v5 fd hfd, View.read_writes_full]
  unfold k0_pay21
  rw [shapeCast_self]

/-! ### The fetches -/

set_option maxHeartbeats 4000000 in
/-- A point inside a column block: a chunk is started, the one before it arrives. -/
theorem headB (ht : t.val < 48) (hm : t.val % 16 ≠ 0) (K : _ → sProp 𝕄) :
    iprop(inputs c arg2 arg5 arg7 a sd so
      ∗ owns (c : Thread nD τ) arg8 fullShare wb ∗ (∃ W', owes (c : Thread nD τ) 0 W')
      ∗ homeP c q W (Ring.bk 64 (t.val + 16)) ∗ (∃ f, slotP c (Ring.sl 2 (t.val + 16)) f) ∗ cellP c (Ring.sl 2 (t.val + 16))
      ∗ (∃ f, flightP c q' W (Ring.sl 2 (t.val + 15)) (Ring.bk 64 (t.val + 15)) f)
        ∗ (iprop(inputs c arg2 arg5 arg7 a sd (sideOut sd)
          ∗ owns (c : Thread nD τ) arg8 fullShare (putChunk c W (t.val + 15) wb) ∗ (∃ W', owes (c : Thread nD τ) 0 W')
          ∗ (∃ f, flightP c q W (Ring.sl 2 (t.val + 16)) (Ring.bk 64 (t.val + 16)) f)
          ∗ homeP c q' W (Ring.bk 64 (t.val + 15)) ∗ (∃ f, slotP c (Ring.sl 2 (t.val + 15)) f) ∗ cellP c (Ring.sl 2 (t.val + 15))) -∗ K a))
      ⊢ wp frame (wpE (defs₀ (F := F)) Variants.none c none) Set.univ (headG t arg2 harg2 arg4 harg4 arg5 harg5 arg6 harg6 arg7 harg7 arg8 harg8) K := by
  have h1 : ¬k0_cond1 (grid0.coords t) = 1#1 := fun h => by have := (cond1_iff t).mp h; omega
  have h2 : k0_cond2 (grid0.coords t) = 1#1 := (cond2_iff t).mpr ht
  have h3 : k0_cond3 (grid0.coords t) = 1#1 := (cond3_iff t).mpr ⟨ht, hm⟩
  have h4 : ¬k0_cond4 (grid0.coords t) = 1#1 := fun h => by have := (cond4_iff t).mp h; omega
  unfold headG
  simp only [k0_part12_eq_skeleton]; unfold k0_part12_skel midG
  simp only [k0_part11_eq_skeleton]
  unfold inputs owns
  iintro ⟨⟨⟨%f2, %hf2, H2⟩, ⟨%fd, %hfd, Hd⟩, ⟨%fs, %hfs, Hz⟩⟩, ⟨%f5, %hf5, H5⟩, ⟨%W', HW⟩, Hg, ⟨%fa, Hs⟩, Hc, ⟨%fb, HF⟩, Hk⟩
  sl_exec (disch := first | sl_exact h1 | sl_exact h2 | sl_exact h3 | sl_exact h4)
  simp only [semI t, slotI t, grpI t ht]
  sl_exec (disch := first | sl_exact h1 | sl_exact h2 | sl_exact h3 | sl_exact h4)
  sl_step
  rw [readAll arg2.view f2 hf2]
  iapply Hk
  isplitl [H2 Hd Hz]
  · isplitl [H2]
    · iexists _; isplitr; · ipureintro; exact hf2
      iexact H2
    isplitl [Hd]
    · iexists _; isplitr; · ipureintro; exact hfd
      iexact Hd
    iexists _; isplitr
    swap; · iexact Hz
    ipureintro
    exact sideStored arg5.view arg7.view fd fs hfd
  isplitl [H5]
  · iexists _; isplitr
    swap; · iexact H5
    ipureintro
    rw [putAt arg8.view f5 hf5]
    unfold headB.sl.v159 k0_pay23 putChunk chunk
    simp only [slotRead c _ (off7_eq t)]
    rw [off8_eq t ht hm]
  isplitl [HW]; · iexists _; iexact HW
  isplitl [Hc]; · iexists _; iexact Hc
  isplitl [HF_src]; · iexact HF_src
  isplitl [HF_dst]; · iexists _; iexact HF_dst
  iexact HF

set_option maxHeartbeats 4000000 in
/-- The first point of a column block: a chunk is started, the last of this column block arrives. -/
theorem headC (ht : t.val < 48) (h0 : 0 < t.val) (hm : t.val % 16 = 0) (K : _ → sProp 𝕄) :
    iprop(inputs c arg2 arg5 arg7 a sd so
      ∗ owns (c : Thread nD τ) arg8 fullShare wb ∗ (∃ W', owes (c : Thread nD τ) 0 W')
      ∗ homeP c q W (Ring.bk 64 (t.val + 16)) ∗ (∃ f, slotP c (Ring.sl 2 (t.val + 16)) f) ∗ cellP c (Ring.sl 2 (t.val + 16))
      ∗ (∃ f, flightP c q' W (Ring.sl 2 (t.val + 15)) (Ring.bk 64 (t.val + 15)) f)
        ∗ (iprop(inputs c arg2 arg5 arg7 a sd (sideOut sd)
          ∗ owns (c : Thread nD τ) arg8 fullShare (putChunk c W (t.val + 15) wb) ∗ (∃ W', owes (c : Thread nD τ) 0 W')
          ∗ (∃ f, flightP c q W (Ring.sl 2 (t.val + 16)) (Ring.bk 64 (t.val + 16)) f)
          ∗ homeP c q' W (Ring.bk 64 (t.val + 15)) ∗ (∃ f, slotP c (Ring.sl 2 (t.val + 15)) f) ∗ cellP c (Ring.sl 2 (t.val + 15))) -∗ K a))
      ⊢ wp frame (wpE (defs₀ (F := F)) Variants.none c none) Set.univ (headG t arg2 harg2 arg4 harg4 arg5 harg5 arg6 harg6 arg7 harg7 arg8 harg8) K := by
  have h1 : ¬k0_cond1 (grid0.coords t) = 1#1 := fun h => by have := (cond1_iff t).mp h; omega
  have h2 : k0_cond2 (grid0.coords t) = 1#1 := (cond2_iff t).mpr ht
  have h3 : ¬k0_cond3 (grid0.coords t) = 1#1 := fun h => by have := (cond3_iff t).mp h; omega
  have h4 : k0_cond4 (grid0.coords t) = 1#1 := (cond4_iff t).mpr ⟨h0, hm⟩
  rw [sl_one t hm]
  unfold headG
  simp only [k0_part12_eq_skeleton]; unfold k0_part12_skel midG
  simp only [k0_part11_eq_skeleton]
  unfold inputs owns
  iintro ⟨⟨⟨%f2, %hf2, H2⟩, ⟨%fd, %hfd, Hd⟩, ⟨%fs, %hfs, Hz⟩⟩, ⟨%f5, %hf5, H5⟩, ⟨%W', HW⟩, Hg, ⟨%fa, Hs⟩, Hc, ⟨%fb, HF⟩, Hk⟩
  sl_exec (disch := first | sl_exact h1 | sl_exact h2 | sl_exact h3 | sl_exact h4)
  simp only [semI t, slotI t, grpI t ht]
  sl_exec (disch := first | sl_exact h1 | sl_exact h2 | sl_exact h3 | sl_exact h4)
  sl_step
  rw [readAll arg2.view f2 hf2]
  iapply Hk
  isplitl [H2 Hd Hz]
  · isplitl [H2]
    · iexists _; isplitr; · ipureintro; exact hf2
      iexact H2
    isplitl [Hd]
    · iexists _; isplitr; · ipureintro; exact hfd
      iexact Hd
    iexists _; isplitr
    swap; · iexact Hz
    ipureintro
    exact sideStored arg5.view arg7.view fd fs hfd
  isplitl [H5]
  · iexists _; isplitr
    swap; · iexact H5
    ipureintro
    rw [putAt arg8.view f5 hf5]
    unfold headC.sl.v130 k0_pay24 putChunk chunk
    simp only [slotRead c _ (by decide : (![1, 0, 0] : Fin 3 → ℕ) = slotOff 1)]
    rw [off10_eq t h0 hm]
  isplitl [HW]; · iexists _; iexact HW
  isplitl [Hc]; · iexists _; iexact Hc
  isplitl [HF_src]; · iexact HF_src
  isplitl [HF_dst]; · iexists _; iexact HF_dst
  iexact HF

set_option maxHeartbeats 4000000 in
/-- The first point of the last column block: its last chunk arrives. -/
theorem headD (ht : 48 ≤ t.val) (h0 : 0 < t.val) (hm : t.val % 16 = 0) (K : _ → sProp 𝕄) :
    iprop(inputs c arg2 arg5 arg7 a sd so
      ∗ owns (c : Thread nD τ) arg8 fullShare wb ∗ (∃ W', owes (c : Thread nD τ) 0 W')
      ∗ (∃ f, flightP c q' W (Ring.sl 2 (t.val + 15)) (Ring.bk 64 (t.val + 15)) f)
        ∗ (iprop(inputs c arg2 arg5 arg7 a sd (sideOut sd)
          ∗ owns (c : Thread nD τ) arg8 fullShare (putChunk c W (t.val + 15) wb) ∗ (∃ W', owes (c : Thread nD τ) 0 W')
          ∗ homeP c q' W (Ring.bk 64 (t.val + 15)) ∗ (∃ f, slotP c (Ring.sl 2 (t.val + 15)) f) ∗ cellP c (Ring.sl 2 (t.val + 15))) -∗ K a))
      ⊢ wp frame (wpE (defs₀ (F := F)) Variants.none c none) Set.univ (headG t arg2 harg2 arg4 harg4 arg5 harg5 arg6 harg6 arg7 harg7 arg8 harg8) K := by
  have h1 : ¬k0_cond1 (grid0.coords t) = 1#1 := fun h => by have := (cond1_iff t).mp h; omega
  have h2 : ¬k0_cond2 (grid0.coords t) = 1#1 := fun h => by have := (cond2_iff t).mp h; omega
  have h3 : ¬k0_cond3 (grid0.coords t) = 1#1 := fun h => by have := (cond3_iff t).mp h; omega
  have h4 : k0_cond4 (grid0.coords t) = 1#1 := (cond4_iff t).mpr ⟨h0, hm⟩
  rw [sl_one t hm]
  unfold headG
  simp only [k0_part12_eq_skeleton]; unfold k0_part12_skel midG
  simp only [k0_part11_eq_skeleton]
  unfold inputs owns
  iintro ⟨⟨⟨%f2, %hf2, H2⟩, ⟨%fd, %hfd, Hd⟩, ⟨%fs, %hfs, Hz⟩⟩, ⟨%f5, %hf5, H5⟩, ⟨%W', HW⟩, ⟨%fb, HF⟩, Hk⟩
  sl_exec (disch := first | sl_exact h1 | sl_exact h2 | sl_exact h3 | sl_exact h4)
  sl_step
  rw [readAll arg2.view f2 hf2]
  iapply Hk
  isplitl [H2 Hd Hz]
  · isplitl [H2]
    · iexists _; isplitr; · ipureintro; exact hf2
      iexact H2
    isplitl [Hd]
    · iexists _; isplitr; · ipureintro; exact hfd
      iexact Hd
    iexists _; isplitr
    swap; · iexact Hz
    ipureintro
    exact sideStored arg5.view arg7.view fd fs hfd
  isplitl [H5]
  · iexists _; isplitr
    swap; · iexact H5
    ipureintro
    rw [putAt arg8.view f5 hf5]
    unfold headD.sl.v130 k0_pay24 putChunk chunk
    simp only [slotRead c _ (by decide : (![1, 0, 0] : Fin 3 → ℕ) = slotOff 1)]
    rw [off10_eq t h0 hm]
  isplitl [HW]; · iexists _; iexact HW
  isplitl [HF_src]; · iexact HF_src
  isplitl [HF_dst]; · iexists _; iexact HF_dst
  iexact HF

set_option maxHeartbeats 4000000 in
/-- A later point of the last column block: nothing is fetched. -/
theorem headE (ht : 48 < t.val) (K : _ → sProp 𝕄) :
    iprop(inputs c arg2 arg5 arg7 a sd so
        ∗ (iprop(inputs c arg2 arg5 arg7 a sd (sideOut sd)) -∗ K a))
      ⊢ wp frame (wpE (defs₀ (F := F)) Variants.none c none) Set.univ (headG t arg2 harg2 arg4 harg4 arg5 harg5 arg6 harg6 arg7 harg7 arg8 harg8) K := by
  have h1 : ¬k0_cond1 (grid0.coords t) = 1#1 := fun h => by have := (cond1_iff t).mp h; omega
  have h2 : ¬k0_cond2 (grid0.coords t) = 1#1 := fun h => by have := (cond2_iff t).mp h; omega
  have h3 : ¬k0_cond3 (grid0.coords t) = 1#1 := fun h => by have := (cond3_iff t).mp h; omega
  have h4 : ¬k0_cond4 (grid0.coords t) = 1#1 := fun h => by have := (cond4_iff t).mp h; have : t.val < 64 := lt_of_lt_of_eq t.isLt N_0; omega
  unfold headG
  simp only [k0_part12_eq_skeleton]; unfold k0_part12_skel midG
  simp only [k0_part11_eq_skeleton]
  unfold inputs owns
  iintro ⟨⟨⟨%f2, %hf2, H2⟩, ⟨%fd, %hfd, Hd⟩, ⟨%fs, %hfs, Hz⟩⟩, Hk⟩
  sl_exec (disch := first | sl_exact h1 | sl_exact h2 | sl_exact h3 | sl_exact h4)
  sl_step
  rw [readAll arg2.view f2 hf2]
  iapply Hk
  isplitl [H2]
  · iexists _; isplitr; · ipureintro; exact hf2
    iexact H2
  isplitl [Hd]
  · iexists _; isplitr; · ipureintro; exact hfd
    iexact Hd
  iexists _; isplitr
  swap; · iexact Hz
  ipureintro
  exact sideStored arg5.view arg7.view fd fs hfd

end Cert.Proof.UpBody

end
-- ==== Proof.UpFirst.lean ====
/- Hand-written, untrusted: THE FIRST POINT OF THE UP PROJECTION. It fetches the sixteen chunks of the first column block itself, two
   at a time, and starts the seventeenth. -/
module

public import proofs.«01_k».proof.Proof.UpBody

@[expose] public section

set_option maxRecDepth 16384

noncomputable section

namespace Cert.Proof.UpFirst

open Cert.UpIdeal Cert.UpIdeal.Gen Cert.Proof.UpBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

variable (c : Dev nD) (t : Fin grid0.N) (q : PosShare TreeShare) (W : Buf (Elt F) (wM.view.loc (c : Thread nD τ)))
  (arg2 : Memref sig .tc .vmem S1024x4096 .bf16) (harg2 : arg2.IsWhole) (arg4 : Memref sig .tc .vmem S1024x1024 .bf16) (harg4 : arg4.IsWhole)
  (arg5 : Memref sig .tc .vmem S64x4096 .f32) (harg5 : arg5.IsWhole) (arg6 : Memref sig .tc .vmem S1024x1024 .bf16) (harg6 : arg6.IsWhole)
  (arg7 : Memref sig .tc .vmem S64x4096 .bf16) (harg7 : arg7.IsWhole)
  (arg8 : Memref sig .tc .vmem S2x4096x1024 .bf16) (harg8 : arg8.IsWhole)
  (a : Vec F S1024x4096 .bf16) (sd : Vec F S64x4096 .f32) (so : Vec F S64x4096 .bf16) (wb : Vec F S2x4096x1024 .bf16)

/-- The first column block's chunks at home. -/
def firstHomes : sProp 𝕄 :=
  iprop(homeP c q W 0 ∗ homeP c q W 1 ∗ homeP c q W 2 ∗ homeP c q W 3 ∗ homeP c q W 4 ∗ homeP c q W 5 ∗ homeP c q W 6 ∗ homeP c q W 7 ∗ homeP c q W 8 ∗ homeP c q W 9 ∗ homeP c q W 10 ∗ homeP c q W 11 ∗ homeP c q W 12 ∗ homeP c q W 13 ∗ homeP c q W 14 ∗ homeP c q W 15)

/-- The rounded weights with the first column block put in. -/
def putFirst : Vec F S2x4096x1024 .bf16 :=
  putChunk c W 15 (putChunk c W 14 (putChunk c W 13 (putChunk c W 12 (putChunk c W 11 (putChunk c W 10 (putChunk c W 9 (putChunk c W 8 (putChunk c W 7 (putChunk c W 6 (putChunk c W 5 (putChunk c W 4 (putChunk c W 3 (putChunk c W 2 (putChunk c W 1 (putChunk c W 0 wb)))))))))))))))

/-- A load of a slot just filled with a chunk, rounded, is the rounded chunk. -/
theorem chunkRead (s : Fin 2) {off : Fin 3 → ℕ} (h : off = slotOff s) (inb : ∀ a, off a + S1x256x1024.size a ≤ S2x256x1024.size a)
    (f : Buf (Elt F) ((rslot s).view.loc (c : Thread nD τ))) (b : Fin 64) :
    shapeCast S1x256x1024 (truncf .bf16 (shapeCast S256x1024 (bufM.view.readAt (Elt F) (Rect.unit (s := S2x256x1024) off S1x256x1024.size inb).toLoadRect
      ((rslot s).view.writes (Elt F) f [⟨Rect.whole S256x1024, payload c W b⟩])) shapeCasts_S1x256x1024_S256x1024) bitsLt_bf16_f32)
      shapeCasts_S256x1024_S1x256x1024 = chunk c W b := by
  rw [slotRead c s h]
  rfl

/-- Chunks put in one after another: the last of them first. -/
theorem put_step (g : ℕ) {u u' : Vec F S2x4096x1024 .bf16} {off : Fin 3 → ℕ} {z : Vec F S1x256x1024 .bf16}
    (ho : off = wbOff g) (hz : z = chunk c W (Ring.bk 64 g)) (hu : u = u') :
    VecWindow.put (s := S2x4096x1024) u off S1x256x1024.size z = putChunk c W g u' := by
  subst ho hz hu
  rfl

set_option maxHeartbeats 16000000 in
/-- The first point: the sixteen chunks of the first column block one after another, and the seventeenth started. -/
theorem headA (ht : t.val < 48) (h0 : t.val = 0) (hm : t.val % 16 = 0) (K : _ → sProp 𝕄) :
    iprop(inputs c arg2 arg5 arg7 a sd so
      ∗ owns (c : Thread nD τ) arg8 fullShare wb ∗ (∃ W', owes (c : Thread nD τ) 0 W')
      ∗ firstHomes c q W ∗ homeP c q W (Ring.bk 64 (t.val + 16))
      ∗ (∃ f, slotP c 0 f) ∗ cellP c 0 ∗ (∃ f, slotP c 1 f) ∗ cellP c 1
        ∗ (iprop(inputs c arg2 arg5 arg7 a sd (sideOut sd)
          ∗ owns (c : Thread nD τ) arg8 fullShare (putFirst c W wb) ∗ (∃ W', owes (c : Thread nD τ) 0 W')
          ∗ firstHomes c q W ∗ (∃ f, flightP c q W 0 (Ring.bk 64 (t.val + 16)) f)
          ∗ (∃ f, slotP c 1 f) ∗ cellP c 1) -∗ K a))
      ⊢ wp frame (wpE (defs₀ (F := F)) Variants.none c none) Set.univ (headG t arg2 harg2 arg4 harg4 arg5 harg5 arg6 harg6 arg7 harg7 arg8 harg8) K := by
  have h1 : k0_cond1 (grid0.coords t) = 1#1 := (cond1_iff t).mpr h0
  have h2 : k0_cond2 (grid0.coords t) = 1#1 := (cond2_iff t).mpr ht
  have h3 : ¬k0_cond3 (grid0.coords t) = 1#1 := fun h => by have := (cond3_iff t).mp h; omega
  have h4 : ¬k0_cond4 (grid0.coords t) = 1#1 := fun h => by have := (cond4_iff t).mp h; omega
  unfold headG
  simp only [k0_part12_eq_skeleton]; unfold k0_part12_skel midG
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold inputs owns firstHomes
  iintro ⟨⟨⟨%f2, %hf2, H2⟩, ⟨%fd, %hfd, Hd⟩, ⟨%fs, %hfs, Hz⟩⟩, ⟨%f5, %hf5, H5⟩, ⟨%W', HW⟩, ⟨Hg0, Hg1, Hg2, Hg3, Hg4, Hg5, Hg6, Hg7, Hg8, Hg9, Hg10, Hg11, Hg12, Hg13, Hg14, Hg15⟩, Hg, ⟨%f0, Hs0⟩, Hc0, ⟨%f1, Hs1⟩, Hc1, Hk⟩
  sl_exec (disch := first | sl_exact h1 | sl_exact h2 | sl_exact h3 | sl_exact h4)
  simp only [semI t, slotI t, grpI t ht, sl_zero t hm]
  sl_exec (disch := first | sl_exact h1 | sl_exact h2 | sl_exact h3 | sl_exact h4)
  sl_step
  rw [readAll arg2.view f2 hf2]
  iapply Hk
  isplitl [H2 Hd Hz]
  · isplitl [H2]
    · iexists _; isplitr; · ipureintro; exact hf2
      iexact H2
    isplitl [Hd]
    · iexists _; isplitr; · ipureintro; exact hfd
      iexact Hd
    iexists _; isplitr
    swap; · iexact Hz
    ipureintro
    exact sideStored arg5.view arg7.view fd fs hfd
  isplitl [H5]
  · iexists _; isplitr
    swap; · iexact H5
    ipureintro
    repeat rw [View.read_writes_cons_put arg8.view f5 _ _ _ rfl]
    rw [View.writes_nil, hf5]
    unfold putFirst
    refine put_step c W 15 (by decide) (chunkRead c W 1 (by decide) _ _ (Ring.bk 64 15)) ?_
    refine put_step c W 14 (by decide) (chunkRead c W 0 (by decide) _ _ (Ring.bk 64 14)) ?_
    refine put_step c W 13 (by decide) (chunkRead c W 1 (by decide) _ _ (Ring.bk 64 13)) ?_
    refine put_step c W 12 (by decide) (chunkRead c W 0 (by decide) _ _ (Ring.bk 64 12)) ?_
    refine put_step c W 11 (by decide) (chunkRead c W 1 (by decide) _ _ (Ring.bk 64 11)) ?_
    refine put_step c W 10 (by decide) (chunkRead c W 0 (by decide) _ _ (Ring.bk 64 10)) ?_
    refine put_step c W 9 (by decide) (chunkRead c W 1 (by decide) _ _ (Ring.bk 64 9)) ?_
    refine put_step c W 8 (by decide) (chunkRead c W 0 (by decide) _ _ (Ring.bk 64 8)) ?_
    refine put_step c W 7 (by decide) (chunkRead c W 1 (by decide) _ _ (Ring.bk 64 7)) ?_
    refine put_step c W 6 (by decide) (chunkRead c W 0 (by decide) _ _ (Ring.bk 64 6)) ?_
    refine put_step c W 5 (by decide) (chunkRead c W 1 (by decide) _ _ (Ring.bk 64 5)) ?_
    refine put_step c W 4 (by decide) (chunkRead c W 0 (by decide) _ _ (Ring.bk 64 4)) ?_
    refine put_step c W 3 (by decide) (chunkRead c W 1 (by decide) _ _ (Ring.bk 64 3)) ?_
    refine put_step c W 2 (by decide) (chunkRead c W 0 (by decide) _ _ (Ring.bk 64 2)) ?_
    refine put_step c W 1 (by decide) (chunkRead c W 1 (by decide) _ _ (Ring.bk 64 1)) ?_
    refine put_step c W 0 (by decide) (chunkRead c W 0 (by decide) _ _ (Ring.bk 64 0)) ?_
    rfl
  isplitl [HW]; · iexists _; iexact HW
  isplitl [Hg0 Hg1 Hg2 Hg3 Hg4 Hg5 Hg6 Hg7 Hg8 Hg9 Hg10 Hg11 Hg12 Hg13 Hg14 Hg15]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hg8]; · iexact Hg8
    isplitl [Hg9]; · iexact Hg9
    isplitl [Hg10]; · iexact Hg10
    isplitl [Hg11]; · iexact Hg11
    isplitl [Hg12]; · iexact Hg12
    isplitl [Hg13]; · iexact Hg13
    isplitl [Hg14]; · iexact Hg14
    iexact Hg15
  isplitl [Hc0]; · iexists _; iexact Hc0
  isplitl [Hs1]; · iexists _; iexact Hs1
  iexact Hc1

end Cert.Proof.UpFirst

end
-- ==== Proof.UpTail.lean ====
/- Hand-written, untrusted: THE REST OF ONE RUN OF THE UP PROJECTION'S BODY. The product of the point's block of rows with its column block of
   the weights, gated, is written eight groups of columns one after another. -/
module

public import proofs.«01_k».proof.Proof.UpBody
public import Idealize.ShloMosaic.Lib.Pipeline.Value
public import Idealize.ShloMosaic.Lib.VecWindow
public import Idealize.ShloMosaic.Lib.Transfers
public import Idealize.ShloMosaic.Lib.Ring

@[expose] public section

set_option maxRecDepth 16384

noncomputable section

namespace Cert.Proof.UpTail

open Cert.UpIdeal Cert.UpIdeal.Gen Cert.Proof.UpBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × Counters) ℕ

/-- The branch as the body computes it: the gate times the product, rounded. -/
def gated (x : Vec F S1024x1024 .f32) (g : Vec F S1024x1024 .bf16) : Vec F S1024x1024 .bf16 :=
  truncf .bf16 (mulf (extf .f32 g bitsLt_bf16_f32) x) bitsLt_bf16_f32

/-- Windows of one vector put over any other, where they reach, leave that vector. -/
theorem put_window {α : Type} {S : Shape} (G o : S.Idx → α) (off size : Fin S.rank → ℕ) (inb) (y : S.Idx) :
    VecWindow.put o off size (VecWindow.window G off size inb) y
      = if ∀ a, off a ≤ (y a).val ∧ (y a).val < off a + size a then G y else o y := by
  unfold VecWindow.put
  by_cases h : ∀ a, off a ≤ (y a).val ∧ (y a).val < off a + size a
  · rw [dif_pos h, if_pos h]
    unfold VecWindow.window
    congr 1
    funext a
    refine Fin.ext ?_
    have e : ((Rect.unit off size inb).emb (Rect.unitLocal (s := S) (off := off) (size := size) y h) a).val = off a + 1 * ((y a).val - off a) := rfl
    have := h a
    omega
  · rw [dif_neg h, if_neg h]

variable (c : Dev nD) (t : Fin grid0.N)
  (arg2 : Memref sig .tc .vmem S1024x4096 .bf16) (harg2 : arg2.IsWhole) (arg4 : Memref sig .tc .vmem S1024x1024 .bf16) (harg4 : arg4.IsWhole)
  (arg5 : Memref sig .tc .vmem S64x4096 .f32) (harg5 : arg5.IsWhole) (arg6 : Memref sig .tc .vmem S1024x1024 .bf16) (harg6 : arg6.IsWhole)
  (arg7 : Memref sig .tc .vmem S64x4096 .bf16) (harg7 : arg7.IsWhole)
  (arg8 : Memref sig .tc .vmem S2x4096x1024 .bf16) (harg8 : arg8.IsWhole)
  (a : Vec F S1024x4096 .bf16) (wb : Vec F S2x4096x1024 .bf16) (o : Vec F S1024x1024 .bf16)

/-! ### The rest: the product and its eight groups of columns -/

/-- The point's column block of the rounded weights. -/
def wBlk (i : grid0.Coords) (wb : Vec F S2x4096x1024 .bf16) : Vec F S1x4096x1024 .bf16 :=
  VecWindow.window wb (k0_off11 i) S1x4096x1024.size (k0_off11_inb i)

/-- A slice of a block is its window there. -/
theorem slice_window {α : Type} (x : S1024x1024.Idx → α) (off : Fin 2 → ℕ) (h : S1024x1024.Slices off S1024x128)
    (inb : ∀ a, off a + S1024x128.size a ≤ S1024x1024.size a) :
    extractStridedSlice S1024x128 off x h = VecWindow.window x off S1024x128.size inb := by
  funext y
  refine congrArg x (funext fun a => Fin.ext ?_)
  show off a + (y a).val = off a + 1 * (y a).val
  omega

/-- A load of a group of columns of a block, through a slice that is the whole of it. -/
theorem readGroup {u : Vec F S1024x1024 .bf16} (v : View sig .tc .vmem S1024x1024 .bf16) (f : v.ty.Contents (Elt F)) (hf : v.read (Elt F) f = u)
    (off : Fin 2 → ℕ) (inb : ∀ a, off a + S1024x128.size a ≤ S1024x1024.size a) (h0 h1) :
    (v.readAt (Elt F) ((Rect.unit (s := S1024x1024) ![0, 0] S1024x1024.size h0).withinL (Rect.unit (s := S1024x1024) off S1024x128.size inb).toLoadRect h1) f
      : Vec F S1024x128 .bf16) = VecWindow.window u off S1024x128.size inb := by
  subst hf
  funext y
  refine congrArg (v.read (Elt F) f) ((Rect.idx_withinL (Rect.unit (s := S1024x1024) ![0, 0] S1024x1024.size h0) (Rect.unit (s := S1024x1024) off S1024x128.size inb).toLoadRect h1 y).trans (funext fun (a : Fin 2) => Fin.ext ?_))
  match a with
  | 0 => show 0 + 1 * (off 0 + 1 * (y 0).val) = off 0 + 1 * (y 0).val; omega
  | 1 => show 0 + 1 * (off 1 + 1 * (y 1).val) = off 1 + 1 * (y 1).val; omega

/-- A group of 128 columns of the gated product, from the product and the gate's group. -/
theorem gated_window (x : Vec F S1024x1024 .f32) {g : Vec F S1024x1024 .bf16} (off : Fin 2 → ℕ) (h : S1024x1024.Slices off S1024x128)
    (inb : ∀ a, off a + S1024x128.size a ≤ S1024x1024.size a) {B : Vec F S1024x128 .bf16}
    (hB : B = VecWindow.window g off S1024x128.size inb) :
    truncf .bf16 (mulf (extf .f32 (shapeCast S1024x128 B shapeCasts_S1024x128_S1024x128) bitsLt_bf16_f32)
        (extractStridedSlice S1024x128 off x h)) bitsLt_bf16_f32
      = VecWindow.window (gated x g) off S1024x128.size inb := by
  rw [slice_window x off h inb, shapeCast_self, hB]
  rfl

theorem gated0 (x : Vec F S1024x4096 .bf16) (v : Vec F S1x4096x1024 .bf16) {g : Vec F S1024x1024 .bf16} {B : Vec F S1024x128 .bf16} (hB : B = VecWindow.window g ![0, 0] S1024x128.size inb_S1024x1024_S1024x128_0_0) :
    k0_pay26 x v B = VecWindow.window (gated (k0_pay25 x v) g) ![0, 0] S1024x128.size inb_S1024x1024_S1024x128_0_0 := gated_window (k0_pay25 x v) _ slices_S1024x1024_o0_0_S1024x128 _ hB
theorem gated1 (x : Vec F S1024x4096 .bf16) (v : Vec F S1x4096x1024 .bf16) {g : Vec F S1024x1024 .bf16} {B : Vec F S1024x128 .bf16} (hB : B = VecWindow.window g ![0, 128] S1024x128.size inb_S1024x1024_S1024x128_0_128) :
    k0_pay27 x v B = VecWindow.window (gated (k0_pay25 x v) g) ![0, 128] S1024x128.size inb_S1024x1024_S1024x128_0_128 := gated_window (k0_pay25 x v) _ slices_S1024x1024_o0_128_S1024x128 _ hB
theorem gated2 (x : Vec F S1024x1024 .f32) {g : Vec F S1024x1024 .bf16} {B : Vec F S1024x128 .bf16} (hB : B = VecWindow.window g ![0, 256] S1024x128.size inb_S1024x1024_S1024x128_0_256) :
    k0_pay29 x (k0_pay28 B) = VecWindow.window (gated x g) ![0, 256] S1024x128.size inb_S1024x1024_S1024x128_0_256 := gated_window x _ slices_S1024x1024_o0_256_S1024x128 _ hB
theorem gated3 (x : Vec F S1024x1024 .f32) {g : Vec F S1024x1024 .bf16} {B : Vec F S1024x128 .bf16} (hB : B = VecWindow.window g ![0, 384] S1024x128.size inb_S1024x1024_S1024x128_0_384) :
    k0_pay30 x B = VecWindow.window (gated x g) ![0, 384] S1024x128.size inb_S1024x1024_S1024x128_0_384 := gated_window x _ slices_S1024x1024_o0_384_S1024x128 _ hB
theorem gated4 (x : Vec F S1024x1024 .f32) {g : Vec F S1024x1024 .bf16} {B : Vec F S1024x128 .bf16} (hB : B = VecWindow.window g ![0, 512] S1024x128.size inb_S1024x1024_S1024x128_0_512) :
    k0_pay31 x B = VecWindow.window (gated x g) ![0, 512] S1024x128.size inb_S1024x1024_S1024x128_0_512 := gated_window x _ slices_S1024x1024_o0_512_S1024x128 _ hB
theorem gated5 (x : Vec F S1024x1024 .f32) {g : Vec F S1024x1024 .bf16} {B : Vec F S1024x128 .bf16} (hB : B = VecWindow.window g ![0, 640] S1024x128.size inb_S1024x1024_S1024x128_0_640) :
    k0_pay1 (k0_pay32 x B) = VecWindow.window (gated x g) ![0, 640] S1024x128.size inb_S1024x1024_S1024x128_0_640 := gated_window x _ slices_S1024x1024_o0_640_S1024x128 _ hB
theorem gated6 (x : Vec F S1024x1024 .f32) {g : Vec F S1024x1024 .bf16} {B : Vec F S1024x128 .bf16} (hB : B = VecWindow.window g ![0, 768] S1024x128.size inb_S1024x1024_S1024x128_0_768) :
    k0_pay2 x B = VecWindow.window (gated x g) ![0, 768] S1024x128.size inb_S1024x1024_S1024x128_0_768 := gated_window x _ slices_S1024x1024_o0_768_S1024x128 _ hB
theorem gated7 (x : Vec F S1024x1024 .f32) {g : Vec F S1024x1024 .bf16} {B : Vec F S1024x128 .bf16} (hB : B = VecWindow.window g ![0, 896] S1024x128.size inb_S1024x1024_S1024x128_0_896) :
    k0_pay3 x B = VecWindow.window (gated x g) ![0, 896] S1024x128.size inb_S1024x1024_S1024x128_0_896 := gated_window x _ slices_S1024x1024_o0_896_S1024x128 _ hB

/-- The eight groups of columns of one block, put one after another, are the block, whatever was there. -/
theorem put8 {α : Type} (G o : S1024x1024.Idx → α) (h0 h1 h2 h3 h4 h5 h6 h7) :
    VecWindow.put (VecWindow.put (VecWindow.put (VecWindow.put (VecWindow.put (VecWindow.put (VecWindow.put (VecWindow.put o
      ![0, 0] S1024x128.size (VecWindow.window G ![0, 0] S1024x128.size h0)) ![0, 128] S1024x128.size (VecWindow.window G ![0, 128] S1024x128.size h1))
      ![0, 256] S1024x128.size (VecWindow.window G ![0, 256] S1024x128.size h2)) ![0, 384] S1024x128.size (VecWindow.window G ![0, 384] S1024x128.size h3))
      ![0, 512] S1024x128.size (VecWindow.window G ![0, 512] S1024x128.size h4)) ![0, 640] S1024x128.size (VecWindow.window G ![0, 640] S1024x128.size h5))
      ![0, 768] S1024x128.size (VecWindow.window G ![0, 768] S1024x128.size h6)) ![0, 896] S1024x128.size (VecWindow.window G ![0, 896] S1024x128.size h7) = G := by
  funext y
  have r0 : (y 0).val < 1024 := (y 0).isLt
  have r1 : (y 1).val < 1024 := (y 1).isLt
  have key : ∀ k : ℕ, (∀ a : Fin 2, (![0, k] : Fin 2 → ℕ) a ≤ (y a).val ∧ (y a).val < (![0, k] : Fin 2 → ℕ) a + S1024x128.size a) ↔ k ≤ (y 1).val ∧ (y 1).val < k + 128 :=
    fun k => ⟨fun h => h 1, fun h a => match a with
      | 0 => ⟨Nat.zero_le _, by show (y 0).val < 0 + 1024; omega⟩
      | 1 => h⟩
  rw [put_window, put_window, put_window, put_window, put_window, put_window, put_window, put_window]
  by_cases c7 : 896 ≤ (y 1).val
  · exact if_pos ((key 896).mpr ⟨c7, by omega⟩)
  rw [if_neg (fun h => c7 ((key 896).mp h).1)]
  by_cases c6 : 768 ≤ (y 1).val
  · exact if_pos ((key 768).mpr ⟨c6, by omega⟩)
  rw [if_neg (fun h => c6 ((key 768).mp h).1)]
  by_cases c5 : 640 ≤ (y 1).val
  · exact if_pos ((key 640).mpr ⟨c5, by omega⟩)
  rw [if_neg (fun h => c5 ((key 640).mp h).1)]
  by_cases c4 : 512 ≤ (y 1).val
  · exact if_pos ((key 512).mpr ⟨c4, by omega⟩)
  rw [if_neg (fun h => c4 ((key 512).mp h).1)]
  by_cases c3 : 384 ≤ (y 1).val
  · exact if_pos ((key 384).mpr ⟨c3, by omega⟩)
  rw [if_neg (fun h => c3 ((key 384).mp h).1)]
  by_cases c2 : 256 ≤ (y 1).val
  · exact if_pos ((key 256).mpr ⟨c2, by omega⟩)
  rw [if_neg (fun h => c2 ((key 256).mp h).1)]
  by_cases c1 : 128 ≤ (y 1).val
  · exact if_pos ((key 128).mpr ⟨c1, by omega⟩)
  rw [if_neg (fun h => c1 ((key 128).mp h).1)]
  exact if_pos ((key 0).mpr ⟨Nat.zero_le _, by omega⟩)

/-- The same, of eight vectors that are such groups. -/
theorem put8' {α : Type} (G o : S1024x1024.Idx → α) {z0 z1 z2 z3 z4 z5 z6 z7 : S1024x128.Idx → α} (h0 h1 h2 h3 h4 h5 h6 h7)
    (e0 : z0 = VecWindow.window G ![0, 0] S1024x128.size h0)
    (e1 : z1 = VecWindow.window G ![0, 128] S1024x128.size h1)
    (e2 : z2 = VecWindow.window G ![0, 256] S1024x128.size h2)
    (e3 : z3 = VecWindow.window G ![0, 384] S1024x128.size h3)
    (e4 : z4 = VecWindow.window G ![0, 512] S1024x128.size h4)
    (e5 : z5 = VecWindow.window G ![0, 640] S1024x128.size h5)
    (e6 : z6 = VecWindow.window G ![0, 768] S1024x128.size h6)
    (e7 : z7 = VecWindow.window G ![0, 896] S1024x128.size h7) :
    VecWindow.put (VecWindow.put (VecWindow.put (VecWindow.put (VecWindow.put (VecWindow.put (VecWindow.put (VecWindow.put o ![0, 0] S1024x128.size z0) ![0, 128] S1024x128.size z1) ![0, 256] S1024x128.size z2) ![0, 384] S1024x128.size z3) ![0, 512] S1024x128.size z4) ![0, 640] S1024x128.size z5) ![0, 768] S1024x128.size z6) ![0, 896] S1024x128.size z7 = G := by
  subst e0 e1 e2 e3 e4 e5 e6 e7
  exact put8 G o h0 h1 h2 h3 h4 h5 h6 h7

/-- The block of the result that the point writes. -/
def outB (i : grid0.Coords) (a : Vec F S1024x4096 .bf16) (wb : Vec F S2x4096x1024 .bf16) (g : Vec F S1024x1024 .bf16) : Vec F S1024x1024 .bf16 :=
  gated (k0_pay25 a (wBlk i wb)) g

set_option maxHeartbeats 4000000 in
theorem runTail (g : Vec F S1024x1024 .bf16) (K : PUnit → sProp 𝕄) :
    iprop(owns (c : Thread nD τ) arg4 fullShare g
        ∗ owns (c : Thread nD τ) arg6 fullShare o ∗ owns (c : Thread nD τ) arg8 fullShare wb
        ∗ (iprop(owns (c : Thread nD τ) arg4 fullShare g
          ∗ owns (c : Thread nD τ) arg6 fullShare (outB (grid0.coords t) a wb g) ∗ owns (c : Thread nD τ) arg8 fullShare wb) -∗ K ⟨⟩))
      ⊢ wp frame (wpE (defs₀ (F := F)) Variants.none c none) Set.univ (tailG t arg2 harg2 arg4 harg4 arg5 harg5 arg6 harg6 arg7 harg7 arg8 harg8 a) K := by
  unfold tailG
  simp only [k0_part14_eq_skeleton]; unfold k0_part14_skel
  unfold owns
  iintro ⟨⟨%f4, %hf4, H4⟩, ⟨%f6, %hf6, H6⟩, ⟨%f7, %hf7, H7⟩, Hk⟩
  sl_exec
  sl_step
  iapply Hk
  isplitl [H4]
  · iexists _; isplitr; · ipureintro; exact hf4
    iexact H4
  isplitl [H6]
  · iexists _; isplitr
    swap; · iexact H6
    ipureintro
    rw [View.readAt_unit arg8.view f7 _ rfl (k0_off11_inb _), hf7]
    repeat rw [View.read_writes_cons_put arg6.view f6 _ _ _ rfl]
    exact put8' _ _ _ _ _ _ _ _ _ _ (gated0 _ _ (readGroup arg4.view f4 hf4 _ _ _ _)) (gated1 _ _ (readGroup arg4.view f4 hf4 _ _ _ _)) (gated2 _ (readGroup arg4.view f4 hf4 _ _ _ _)) (gated3 _ (readGroup arg4.view f4 hf4 _ _ _ _)) (gated4 _ (readGroup arg4.view f4 hf4 _ _ _ _)) (gated5 _ (readGroup arg4.view f4 hf4 _ _ _ _)) (gated6 _ (readGroup arg4.view f4 hf4 _ _ _ _)) (gated7 _ (readGroup arg4.view f4 hf4 _ _ _ _))
  iexists _; isplitr; · ipureintro; exact hf7
  iexact H7

end Cert.Proof.UpTail

end
-- ==== Proof.UpFrame.lean ====
/- Hand-written, untrusted: THE RUN OF THE UP PROJECTION, at any values. What lies between two grid points (`Φ`): the rounded
   weights, whose last chunks are known (`Inv`), the chunks of the weights at home, and from the first point to the last but
   one column block one chunk on its way into a staging slot. Then the body's obligation at every point, the run, and the frame. -/
module

public import proofs.«01_k».proof.Proof.UpFirst
public import proofs.«01_k».proof.Proof.UpTail
public import Idealize.ShloMosaic.Lib.Claim
public import Idealize.ShloMosaic.Lib.Pipeline.Frame
public import Idealize.ShloMosaic.Lib.Pipeline.FrameBody
public import Idealize.ShloMosaic.Lib.Pipeline.Routed
public import Idealize.ShloMosaic.Lib.Pipeline.Value
public import Idealize.ShloMosaic.Lib.Tactic

@[expose] public section

set_option maxRecDepth 16384

noncomputable section

namespace Cert.Proof.UpFrame

open Cert.UpIdeal Cert.UpIdeal.Gen Cert.Proof.UpBody Cert.Proof.UpFirst Cert.Proof.UpTail
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ × Counters) ℕ

variable (m : (ℓ : Loc nD τ sig) → Buf (Elt F) ℓ) (ρ : Dev nD → PrngReg)

/-! ### `main` up to the call -/

/-- The buffers as the call finds them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain : Pipeline.HMain (Ix := Unit) (Name := ℕ) (U := UR sig nD τ × Counters) (Lvl := ℕ) cfgs 0 defs₀ Variants.none m (main (F := F)) (V m) :=
  Pipeline.hmain_prefix cfgs 0 defs₀ Variants.none m main hostOps0 hostOps0_sub hostOps0_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ### The kernel's semaphores, the weights' chunks and the staging slots -/

abbrev osem : Fin 2 → SemLoc sig := fun s => .dma (csm s).sem
theorem ownSemFacts : Pipeline.OwnSemFacts spec0 osem := by decide

/-- A chunk's elements, a slot's elements. -/
abbrev G (b : Fin 64) : Finset S4096x4096.Idx := (Rect.unit (s := S4096x4096) (grpOff b) S256x1024.size (grpOff_inb b)).set
abbrev S2s (s : Fin 2) : Finset S2x256x1024.Idx := (Rect.unit (s := S2x256x1024) (slotOff s) S1x256x1024.size (slotOff_inb s)).set

theorem grp_set (b : Fin 64) : (grp b : Memref sig .tc .hbm _ _).view.set = G b := View.set_slice_whole _ _
theorem rslot_set (s : Fin 2) : (rslot s : Memref sig .tc .vmem _ _).view.set = S2s s := (View.set_reshape _ _).trans (View.set_slice_whole _ _)

theorem mem_G (b : Fin 64) (y : S4096x4096.Idx) (h : y ∈ G b) :
    (y 0).val / 256 = b.val % 16 ∧ (y 1).val / 1024 = b.val / 16 := by
  rw [Rect.mem_set_unit] at h
  have a0 : 256 * (b.val % 16) ≤ (y 0).val ∧ (y 0).val < 256 * (b.val % 16) + 256 := h 0
  have a1 : 1024 * (b.val / 16) ≤ (y 1).val ∧ (y 1).val < 1024 * (b.val / 16) + 1024 := h 1
  omega
theorem mem_S2s (s : Fin 2) (y : S2x256x1024.Idx) : y ∈ S2s s ↔ (y 0).val = s.val := by
  rw [Rect.mem_set_unit]
  have h1 : (y 1).val < 256 := (y 1).isLt
  have h2 : (y 2).val < 1024 := (y 2).isLt
  constructor
  · intro H; have a0 : s.val ≤ (y 0).val ∧ (y 0).val < s.val + 1 := H 0; omega
  · intro H a
    match a with
    | 0 => show s.val ≤ (y 0).val ∧ (y 0).val < s.val + 1; omega
    | 1 => show 0 ≤ (y 1).val ∧ (y 1).val < 0 + 256; omega
    | 2 => show 0 ≤ (y 2).val ∧ (y 2).val < 0 + 1024; omega
theorem G_disjoint : ∀ b b' : Fin 64, b ≠ b' → Disjoint (G b) (G b') := by
  intro b b' hne
  rw [Finset.disjoint_left]
  intro y hy hy'
  have e := mem_G b y hy
  have e' := mem_G b' y hy'
  exact hne (Fin.ext (by omega))
theorem S2s_disjoint : ∀ s s' : Fin 2, s ≠ s' → Disjoint (S2s s) (S2s s') := by
  intro s s' hne
  rw [Finset.disjoint_left]
  intro y hy hy'
  rw [mem_S2s] at hy hy'
  exact hne (Fin.ext (hy.symm.trans hy'))
theorem S2s_cover : (Finset.univ : Finset (Fin 2)).biUnion S2s = Finset.univ := by
  ext y
  simp only [Finset.mem_biUnion, Finset.mem_univ, true_and, iff_true]
  exact ⟨(y 0).cast (by decide), by rw [mem_S2s]; rfl⟩

private theorem of_eq {P Q : sProp 𝕄} (e : P = Q) : P ⊢ Q := e ▸ .rfl

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

variable (c : Dev nD) (W : Buf (Elt F) (wM.view.loc (c : Thread nD τ)))

/-- The weights no chunk covers. -/
def restW : sProp 𝕄 := ((c : Thread nD τ).loc main_v2) ↦[Finset.univ \ Finset.univ.biUnion G]{fullShare} W

/-- The weights, whole, are the chunks at home and the rest. -/
theorem w_eq : (((c : Thread nD τ).loc main_v2) ↦{fullShare} W : sProp 𝕄)
    = iprop(bigSep Finset.univ (homeP c fullShare W) ∗ restW c W) := by
  have h := pointsTo_split_subset (Ix := Unit) (Name := ℕ) (U := UR sig nD τ × Counters) (Lvl := ℕ) (ℓ := (c : Thread nD τ).loc main_v2) (q := fullShare) (f := W) (Finset.subset_univ (Finset.univ.biUnion G))
  refine (equiv_iff.mp ⟨h.1, h.2⟩).trans ?_
  rw [Ring.pointsTo_sub_blocks (ℓ := (c : Thread nD τ).loc main_v2) G G_disjoint _ rfl]
  rw [bigSep_congr (Ψ := homeP c fullShare W) fun b _ => by rw [← grp_set]; rfl]
  rfl

theorem slotP_eq (s : Fin 2) (f) : slotP c s f = (((c : Thread nD τ).loc cc0_scratch1) ↦[S2s s]{fullShare} f : sProp 𝕄) :=
  congrArg (fun S => (_ ↦[S]{fullShare} f : sProp 𝕄)) (rslot_set s)
/-- The staging buffer, whole, is its two slots, -/
theorem buf_split :
    iprop(∃ f : Buf (Elt F) ((c : Thread nD τ).loc cc0_scratch1), ((c : Thread nD τ).loc cc0_scratch1) ↦{fullShare} f)
      ⊢ (iprop((∃ f, slotP c 0 f) ∗ ∃ f, slotP c 1 f) : sProp 𝕄) := by
  iintro ⟨%f, H⟩
  ihave H2 := (of_eq ((Ring.pointsTo_blocks (Ix := Unit) (Name := ℕ) (U := UR sig nD τ × Counters) (Lvl := ℕ) (q := fullShare) (ℓ := (c : Thread nD τ).loc cc0_scratch1) S2s S2s_disjoint S2s_cover f).trans (bigSep_fin2 _))) $$ H
  icases H2 with ⟨H0, H1⟩
  isplitl [H0]
  · iexists f; iapply (of_eq (slotP_eq c 0 f).symm); iexact H0
  · iexists f; iapply (of_eq (slotP_eq c 1 f).symm); iexact H1
/-- and back. -/
theorem buf_join :
    iprop((∃ f, slotP c 0 f) ∗ ∃ f, slotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) S2s S2s_disjoint S2s_cover f0)
  irw [bigSep_fin2]
  isplitl [H0]
  · iexists f0; iapply (of_eq (slotP_eq c 0 f0)); iexact H0
  · iexists f1; iapply (of_eq (slotP_eq c 1 f1)); iexact H1

theorem ownSems0_eq : (Pipeline.ownSems0 (Ix := Unit) (Name := ℕ) (U := UR sig nD τ × Counters) (Lvl := ℕ) (Val := Elt F) (τ := τ) osem c : sProp 𝕄)
    = iprop(cellP c 0 ∗ cellP c 1) := by
  unfold Pipeline.ownSems0; rw [bigSep_fin2]

/-! ### The chunks at home, apart -/

/-- The chunks of the first column block. -/
def S16 : Finset (Fin 64) := Finset.univ.filter fun b => b.val < 16

theorem first_eq : firstHomes c fullShare W = bigSep S16 (homeP c fullShare W) :=
  (bigSep_eq_bigSepL_of_eq [0, 1, 2, 3, 4, 5, 6, 7, 8, 9, 10, 11, 12, 13, 14, 15] (by decide) (by decide) (homeP c fullShare W)).symm

private theorem swap (P Q R : sProp 𝕄) : iprop(P ∗ Q ∗ R) = iprop(Q ∗ P ∗ R) :=
  have h := sep_left_comm (P := P) (Q := Q) (R := R)
  equiv_iff.mp ⟨h.1, h.2⟩

/-- All of them: the first column block, the seventeenth chunk, and the rest; -/
theorem homes_first : bigSep Finset.univ (homeP c fullShare W)
    = iprop(firstHomes c fullShare W ∗ homeP c fullShare W 16 ∗ bigSep ((Finset.univ.erase 16) \ S16) (homeP c fullShare W)) := by
  rw [first_eq, bigSep_erase (Finset.mem_univ (16 : Fin 64)), bigSep_sdiff_split (show S16 ⊆ Finset.univ.erase 16 by decide)]
  exact swap _ _ _
/-- and back but for the seventeenth. -/
theorem homes_first_back : bigSep (Finset.univ.erase 16) (homeP c fullShare W)
    = iprop(firstHomes c fullShare W ∗ bigSep ((Finset.univ.erase 16) \ S16) (homeP c fullShare W)) := by
  rw [first_eq, bigSep_sdiff_split (show S16 ⊆ Finset.univ.erase 16 by decide)]
  rfl

/-- One chunk apart from some. -/
theorem homes_take (s : Finset (Fin 64)) (b : Fin 64) (h : b ∈ s) :
    bigSep s (homeP c fullShare W) = iprop(homeP c fullShare W b ∗ bigSep (s.erase b) (homeP c fullShare W)) := bigSep_erase h

/-! ### What lies between two points -/

theorem wbOff_inb (g : ℕ) : ∀ a, wbOff g a + S1x256x1024.size a ≤ S2x4096x1024.size a := fun a => by
  match a with
  | 0 => show g / 16 % 2 + 1 ≤ 2; omega
  | 1 => show 256 * (g % 16) + 256 ≤ 4096; omega
  | 2 => exact Nat.le_refl _

/-- The rounded weights before point `n` have the chunks of its column block that came before, and of the one before it. -/
def Inv (n : ℕ) (wb : Vec F S2x4096x1024 .bf16) : Prop :=
  1 ≤ n → ∀ g, g < 64 → n ≤ g + 16 → g < n + 15 →
    VecWindow.window wb (wbOff g) S1x256x1024.size (wbOff_inb g) = chunk c W (Ring.bk 64 g)

variable {wb : Vec F S2x4096x1024 .bf16}

theorem window_same (g : ℕ) : VecWindow.window (putChunk c W g wb) (wbOff g) S1x256x1024.size (wbOff_inb g) = chunk c W (Ring.bk 64 g) :=
  VecWindow.window_put_same (s := S2x4096x1024) wb _ _ _ _
theorem window_ne (g k : ℕ) (h : k % 32 ≠ g % 32) : VecWindow.window (putChunk c W g wb) (wbOff k) S1x256x1024.size (wbOff_inb k)
    = VecWindow.window wb (wbOff k) S1x256x1024.size (wbOff_inb k) := by
  by_cases hs : k / 16 % 2 = g / 16 % 2
  · refine VecWindow.window_put_of_disjoint (s := S2x4096x1024) wb _ _ _ _ _ _ (1 : Fin 3) ?_
    show 256 * (k % 16) + 256 ≤ 256 * (g % 16) ∨ 256 * (g % 16) + 256 ≤ 256 * (k % 16)
    omega
  · refine VecWindow.window_put_of_disjoint (s := S2x4096x1024) wb _ _ _ _ _ _ (0 : Fin 3) ?_
    show k / 16 % 2 + 1 ≤ g / 16 % 2 ∨ g / 16 % 2 + 1 ≤ k / 16 % 2
    omega

theorem Inv.start : Inv c W 0 wb := fun h => absurd h (by omega)
theorem Inv.first : Inv c W 1 (putFirst c W wb) := fun _ g _ _ hg => by
  unfold putFirst
  by_cases h : g = 15
  · subst h; exact window_same c W 15
  rw [window_ne c W 15 g (by omega)]
  by_cases h : g = 14
  · subst h; exact window_same c W 14
  rw [window_ne c W 14 g (by omega)]
  by_cases h : g = 13
  · subst h; exact window_same c W 13
  rw [window_ne c W 13 g (by omega)]
  by_cases h : g = 12
  · subst h; exact window_same c W 12
  rw [window_ne c W 12 g (by omega)]
  by_cases h : g = 11
  · subst h; exact window_same c W 11
  rw [window_ne c W 11 g (by omega)]
  by_cases h : g = 10
  · subst h; exact window_same c W 10
  rw [window_ne c W 10 g (by omega)]
  by_cases h : g = 9
  · subst h; exact window_same c W 9
  rw [window_ne c W 9 g (by omega)]
  by_cases h : g = 8
  · subst h; exact window_same c W 8
  rw [window_ne c W 8 g (by omega)]
  by_cases h : g = 7
  · subst h; exact window_same c W 7
  rw [window_ne c W 7 g (by omega)]
  by_cases h : g = 6
  · subst h; exact window_same c W 6
  rw [window_ne c W 6 g (by omega)]
  by_cases h : g = 5
  · subst h; exact window_same c W 5
  rw [window_ne c W 5 g (by omega)]
  by_cases h : g = 4
  · subst h; exact window_same c W 4
  rw [window_ne c W 4 g (by omega)]
  by_cases h : g = 3
  · subst h; exact window_same c W 3
  rw [window_ne c W 3 g (by omega)]
  by_cases h : g = 2
  · subst h; exact window_same c W 2
  rw [window_ne c W 2 g (by omega)]
  by_cases h : g = 1
  · subst h; exact window_same c W 1
  rw [window_ne c W 1 g (by omega)]
  obtain rfl : g = 0 := by omega
  exact window_same c W 0
theorem Inv.put (n : ℕ) (hn : 1 ≤ n) (I : Inv c W n wb) : Inv c W (n + 1) (putChunk c W (n + 15) wb) := fun _ g h128 hg hg' => by
  by_cases h : g = n + 15
  · subst h; exact window_same c W (n + 15)
  rw [window_ne c W (n + 15) g (by omega)]
  exact I hn g h128 (by omega) (by omega)
theorem Inv.skip (n : ℕ) (hn : 49 ≤ n) (I : Inv c W n wb) : Inv c W (n + 1) wb := fun _ g h128 hg hg' =>
  I (by omega) g h128 (by omega) (by omega)

/-- Column block `n` of the weights, rounded. -/
def wB (n : ℕ) : Vec F S1x4096x1024 .bf16 := fun y =>
  chunk c W (Ring.bk 64 (16 * n + (y 1).val / 256)) (fun a => match a with
    | 0 => ⟨0, by decide⟩
    | 1 => ⟨(y 1).val % 256, Nat.mod_lt _ (by decide)⟩
    | 2 => y 2)

/-- It is what the point's half of the rounded weights holds after its fetches. -/
theorem Inv.blk (t : Fin cfg0.N) (I : Inv c W (t.val + 1) wb) : wBlk (grid0.coords t) wb = wB c W (t.val / 16) := by
  have hN : t.val < 64 := lt_of_lt_of_eq t.isLt (show cfg0.N = 64 from N_0)
  funext y
  have y0 : (y 0).val < 1 := (y 0).isLt
  have y1 : (y 1).val < 4096 := (y 1).isLt
  unfold wB
  rw [← I (by omega) (16 * (t.val / 16) + (y 1).val / 256) (by omega) (by omega) (by omega)]
  unfold wBlk VecWindow.window
  refine congrArg wb (funext fun a => Fin.ext ?_)
  have e := congrFun (off11_eq t) a
  match a with
  | 0 =>
    show k0_off11 (grid0.coords t) 0 + 1 * (y 0).val = (16 * (t.val / 16) + (y 1).val / 256) / 16 % 2 + 1 * 0
    have e : k0_off11 (grid0.coords t) 0 = t.val / 16 % 2 := e
    omega
  | 1 =>
    show k0_off11 (grid0.coords t) 1 + 1 * (y 1).val = 256 * ((16 * (t.val / 16) + (y 1).val / 256) % 16) + 1 * ((y 1).val % 256)
    have e : k0_off11 (grid0.coords t) 1 = 0 := e
    omega
  | 2 =>
    show k0_off11 (grid0.coords t) 2 + 1 * (y 2).val = 0 + 1 * (y 2).val
    have e : k0_off11 (grid0.coords t) 2 = 0 := e
    omega

/-- The chunks and the slots between two points while a chunk is on its way, -/
def moving (n : ℕ) : sProp 𝕄 :=
  iprop(bigSep (Finset.univ.erase (Ring.bk 64 (n + 15))) (homeP c fullShare W) ∗ (∃ f, flightP c fullShare W (Ring.sl 2 (n + 15)) (Ring.bk 64 (n + 15)) f)
    ∗ (∃ f, slotP c (Ring.sl 2 (n + 16)) f) ∗ cellP c (Ring.sl 2 (n + 16)))
/-- and while none is. -/
def still : sProp 𝕄 :=
  iprop(bigSep Finset.univ (homeP c fullShare W) ∗ (∃ f, slotP c 0 f) ∗ cellP c 0 ∗ (∃ f, slotP c 1 f) ∗ cellP c 1)
def mid (n : ℕ) : sProp 𝕄 := if 1 ≤ n ∧ n ≤ 48 then moving c W n else still c W

/-- The block of the result that point `n` writes. -/
def res (t : Fin cfg0.N) : Vec F S1024x1024 .bf16 :=
  gated (k0_pay25 (iblk m c 0 t) (wB c (V m c main_v2) (t.val / 16))) (iblk m c 1 t)

/-! ### The proof data -/

def dats (_ : Fin 1) (c : Dev nD) : Dat τ (Elt F) Unit ℕ (UR sig nD τ × Counters) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => res m c t
    | ⟨4, _⟩ => sideOut (iblk m c 2 t)
  Φ n := iprop(∃ wb, ⌜Inv c (V m c main_v2) n.val wb⌝ ∗ owns (c : Thread nD τ) (Memref.whole cc0_scratch0) fullShare wb
    ∗ mid c (V m c main_v2) n.val ∗ restW c (V m c main_v2) ∗ (∃ r, prngReg c r))
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = res m c t := by dsimp only [dats]
theorem after0_4 (c : Dev nD) (t : Fin cfg0.N) : (dats m 0 c).after 4 t = sideOut (iblk m c 2 t) := by dsimp only [dats]
theorem before0_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before0_1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before0_2 (c : Dev nD) (t : Fin cfg0.N) (d) : (dats m 0 c).before 2 t d = iblk m c 2 t := by
  unfold Dat.before; rw [if_pos (fetch0_2 t)]; unfold Dat.fetched Dat.blockOf iblk; dsimp only [dats]; rfl
theorem Φ_eq (n : Fin (cfg0.N + 1)) : (dats m 0 c).Φ n = iprop(∃ wb, ⌜Inv c (V m c main_v2) n.val wb⌝
    ∗ owns (c : Thread nD τ) (Memref.whole cc0_scratch0) fullShare wb
    ∗ mid c (V m c main_v2) n.val ∗ restW c (V m c main_v2) ∗ (∃ r, prngReg c r)) := by dsimp only [dats]

/-! ### The fetches at any point -/

variable (t : Fin cfg0.N)
  (arg2 : Memref sig .tc .vmem S1024x4096 .bf16) (harg2 : arg2.IsWhole) (arg4 : Memref sig .tc .vmem S1024x1024 .bf16) (harg4 : arg4.IsWhole)
  (arg5 : Memref sig .tc .vmem S64x4096 .f32) (harg5 : arg5.IsWhole) (arg6 : Memref sig .tc .vmem S1024x1024 .bf16) (harg6 : arg6.IsWhole)
  (arg7 : Memref sig .tc .vmem S64x4096 .bf16) (harg7 : arg7.IsWhole)
  (arg8 : Memref sig .tc .vmem S2x4096x1024 .bf16) (harg8 : arg8.IsWhole)
  (a : Vec F S1024x4096 .bf16) (sd : Vec F S64x4096 .f32) (so : Vec F S64x4096 .bf16)

theorem bk_ne (n k : ℕ) (hn : n < 64) (hk : k < 64) (h : n ≠ k) : Ring.bk 64 n ≠ Ring.bk 64 k := fun e => h (by
  have := congrArg Fin.val e
  rwa [Ring.bk_val hn, Ring.bk_val hk] at this)

/-- A point that starts a chunk and waits for another. -/
theorem headBC (ht : t.val < 48) (h0 : 0 < t.val) (K : _ → sProp 𝕄) :
    iprop(inputs c arg2 arg5 arg7 a sd so
      ∗ owns (c : Thread nD τ) arg8 fullShare wb ∗ (∃ W', owes (c : Thread nD τ) 0 W')
      ∗ homeP c fullShare W (Ring.bk 64 (t.val + 16)) ∗ (∃ f, slotP c (Ring.sl 2 (t.val + 16)) f) ∗ cellP c (Ring.sl 2 (t.val + 16))
      ∗ (∃ f, flightP c fullShare W (Ring.sl 2 (t.val + 15)) (Ring.bk 64 (t.val + 15)) f)
        ∗ (iprop(inputs c arg2 arg5 arg7 a sd (sideOut sd)
          ∗ owns (c : Thread nD τ) arg8 fullShare (putChunk c W (t.val + 15) wb) ∗ (∃ W', owes (c : Thread nD τ) 0 W')
          ∗ (∃ f, flightP c fullShare W (Ring.sl 2 (t.val + 16)) (Ring.bk 64 (t.val + 16)) f)
          ∗ homeP c fullShare W (Ring.bk 64 (t.val + 15)) ∗ (∃ f, slotP c (Ring.sl 2 (t.val + 15)) f) ∗ cellP c (Ring.sl 2 (t.val + 15))) -∗ K a))
      ⊢ wp frame (wpE (defs₀ (F := F)) Variants.none c none) Set.univ (headG t arg2 harg2 arg4 harg4 arg5 harg5 arg6 harg6 arg7 harg7 arg8 harg8) K := by
  by_cases hm : t.val % 16 = 0
  · exact headC c t fullShare fullShare W arg2 harg2 arg4 harg4 arg5 harg5 arg6 harg6 arg7 harg7 arg8 harg8 a sd so wb ht h0 hm K
  · exact headB c t fullShare fullShare W arg2 harg2 arg4 harg4 arg5 harg5 arg6 harg6 arg7 harg7 arg8 harg8 a sd so wb ht hm K

set_option maxHeartbeats 1600000 in
/-- The first part of the body at any point, with the step of what lies between the points. -/
theorem head (I : Inv c W t.val wb) (K : _ → sProp 𝕄) :
    iprop(inputs c arg2 arg5 arg7 a sd so ∗ owns (c : Thread nD τ) arg8 fullShare wb ∗ (∃ W', owes (c : Thread nD τ) 0 W') ∗ mid c W t.val
      ∗ (iprop(∃ wb', ⌜Inv c W (t.val + 1) wb'⌝ ∗ inputs c arg2 arg5 arg7 a sd (sideOut sd) ∗ owns (c : Thread nD τ) arg8 fullShare wb'
          ∗ (∃ W', owes (c : Thread nD τ) 0 W') ∗ mid c W (t.val + 1)) -∗ K a))
      ⊢ wp frame (wpE (defs₀ (F := F)) Variants.none c none) Set.univ (headG t arg2 harg2 arg4 harg4 arg5 harg5 arg6 harg6 arg7 harg7 arg8 harg8) K := by
  have hN : t.val < 64 := lt_of_lt_of_eq t.isLt (show cfg0.N = 64 from N_0)
  rcases Nat.eq_zero_or_pos t.val with h0 | h0
  · have e16 : Ring.bk 64 (t.val + 16) = 16 := by rw [h0]; decide
    have hA := headA c t fullShare W arg2 harg2 arg4 harg4 arg5 harg5 arg6 harg6 arg7 harg7 arg8 harg8 a sd so wb (by omega) h0 (by omega) K
    rw [e16] at hA
    have e1 : mid c W t.val = still c W := if_neg (by omega)
    have e2 : mid c W (t.val + 1) = moving c W 1 := by rw [h0]; exact if_pos ⟨by omega, by omega⟩
    rw [e1, e2]
    unfold still moving
    rw [homes_first, show Ring.bk 64 (1 + 15) = 16 by decide, homes_first_back, show Ring.sl 2 (1 + 15) = 0 by decide, show Ring.sl 2 (1 + 16) = 1 by decide]
    iintro ⟨H2, H5, HO, ⟨⟨Hf, Hg, Hr⟩, Hs0, Hc0, Hs1, Hc1⟩, Hk⟩
    iapply hA
    isplitl [H2]; · iexact H2
    isplitl [H5]; · iexact H5
    isplitl [HO]; · iexact HO
    isplitl [Hf]; · iexact Hf
    isplitl [Hg]; · iexact Hg
    isplitl [Hs0]; · iexact Hs0
    isplitl [Hc0]; · iexact Hc0
    isplitl [Hs1]; · iexact Hs1
    isplitl [Hc1]; · iexact Hc1
    iintro ⟨H2, H5, HO, Hf, HF, Hs1, Hc1⟩
    iapply Hk
    iexists (putFirst c W wb)
    isplitr; · ipureintro; rw [h0]; exact Inv.first c W
    isplitl [H2]; · iexact H2
    isplitl [H5]; · iexact H5
    isplitl [HO]; · iexact HO
    isplitl [Hf Hr]
    · isplitl [Hf]; · iexact Hf
      iexact Hr
    isplitl [HF]; · iexact HF
    isplitl [Hs1]; · iexact Hs1
    iexact Hc1
  rcases Nat.lt_or_ge 48 t.val with h112 | h112
  · have hE := headE c t arg2 harg2 arg4 harg4 arg5 harg5 arg6 harg6 arg7 harg7 arg8 harg8 a sd so h112 K
    -- rw at hE
    rw [show mid c W t.val = still c W from if_neg (by omega), show mid c W (t.val + 1) = still c W from if_neg (by omega)]
    iintro ⟨H2, H5, HO, Hm, Hk⟩
    iapply hE
    isplitl [H2]; · iexact H2
    iintro H2
    iapply Hk
    iexists wb
    isplitr; · ipureintro; exact Inv.skip c W t.val (by omega) I
    isplitl [H2]; · iexact H2
    isplitl [H5]; · iexact H5
    isplitl [HO]; · iexact HO
    iexact Hm
  rw [show mid c W t.val = moving c W t.val from if_pos ⟨h0, h112⟩]
  rcases Nat.lt_or_ge t.val 48 with hlt | hge
  · have hBC := headBC c W t arg2 harg2 arg4 harg4 arg5 harg5 arg6 harg6 arg7 harg7 arg8 harg8 a sd so (wb := wb) hlt h0 K
    -- rw at hBC
    rw [show mid c W (t.val + 1) = moving c W (t.val + 1) from if_pos ⟨by omega, by omega⟩]
    unfold moving
    have hne := bk_ne (t.val + 16) (t.val + 15) (by omega) (by omega) (by omega)
    have esl : Ring.sl 2 (t.val + 1 + 16) = Ring.sl 2 (t.val + 15) := Fin.ext (by show (t.val + 1 + 16) % 2 = (t.val + 15) % 2; omega)
    rw [show t.val + 1 + 15 = t.val + 16 by omega, esl,
      homes_take c W _ _ (Finset.mem_erase.mpr ⟨hne, Finset.mem_univ (Ring.bk 64 (t.val + 16))⟩),
      homes_take c W (Finset.univ.erase (Ring.bk 64 (t.val + 16))) _ (Finset.mem_erase.mpr ⟨hne.symm, Finset.mem_univ (Ring.bk 64 (t.val + 15))⟩),
      Finset.erase_right_comm]
    iintro ⟨H2, H5, HO, ⟨⟨Hg, Hr⟩, HF, Hs, Hc⟩, Hk⟩
    iapply hBC
    isplitl [H2]; · iexact H2
    isplitl [H5]; · iexact H5
    isplitl [HO]; · iexact HO
    isplitl [Hg]; · iexact Hg
    isplitl [Hs]; · iexact Hs
    isplitl [Hc]; · iexact Hc
    isplitl [HF]; · iexact HF
    iintro ⟨H2, H5, HO, HF, Hg, Hs, Hc⟩
    iapply Hk
    iexists (putChunk c W (t.val + 15) wb)
    isplitr; · ipureintro; exact Inv.put c W t.val h0 I
    isplitl [H2]; · iexact H2
    isplitl [H5]; · iexact H5
    isplitl [HO]; · iexact HO
    isplitl [Hg Hr]
    · isplitl [Hg]; · iexact Hg
      iexact Hr
    isplitl [HF]; · iexact HF
    isplitl [Hs]; · iexact Hs
    iexact Hc
  · have ht : t.val = 48 := by omega
    have hD := headD c t fullShare W arg2 harg2 arg4 harg4 arg5 harg5 arg6 harg6 arg7 harg7 arg8 harg8 a sd so wb hge h0 (by omega) K
    -- rw at hD
    rw [show mid c W (t.val + 1) = still c W from if_neg (by omega)]
    unfold moving still
    rw [homes_take c W Finset.univ _ (Finset.mem_univ (Ring.bk 64 (t.val + 15)))]
    have e15 : Ring.sl 2 (t.val + 15) = 1 := by rw [ht]; decide
    have e16 : Ring.sl 2 (t.val + 16) = 0 := by rw [ht]; decide
    rw [e15] at hD
    rw [e15, e16]
    iintro ⟨H2, H5, HO, ⟨Hr, HF, Hs, Hc⟩, Hk⟩
    iapply hD
    isplitl [H2]; · iexact H2
    isplitl [H5]; · iexact H5
    isplitl [HO]; · iexact HO
    isplitl [HF]; · iexact HF
    iintro ⟨H2, H5, HO, Hg, Hs1, Hc1⟩
    iapply Hk
    iexists (putChunk c W (t.val + 15) wb)
    isplitr; · ipureintro; exact Inv.put c W t.val h0 I
    isplitl [H2]; · iexact H2
    isplitl [H5]; · iexact H5
    isplitl [HO]; · iexact HO
    isplitl [Hg Hr]
    · isplitl [Hg]; · iexact Hg
      iexact Hr
    isplitl [Hs]; · iexact Hs
    isplitl [Hc]; · iexact Hc
    isplitl [Hs1]; · iexact Hs1
    iexact Hc1

/-! ### The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1600000 in
theorem sound_body :
    bodyPre m c t ⊢ wp frame (wpE (defs₀ (F := F)) Variants.none c none) Set.univ (bodyAt0 t) (fun _ => bodyPost m c t) := by
  unfold bodyPre bodyPost bodyAt0
  simp only [before0_0, before0_1, before0_2]
  unfold Dat.owesAt Pipeline.owesWithin
  rw [show (dats m 0 c).owed t.castSucc = 0 from rfl, show (dats m 0 c).owed t.succ = 0 from rfl, after0_0, after0_1, after0_2, after0_3, after0_4, Φ_eq, Φ_eq]
  iintro ⟨⟨%wb, %I, HS0, Hm, Hr, Hp⟩, ⟨%W', -, HO⟩, ⟨%d0, H0⟩, ⟨%d1, H1⟩, ⟨%d2, H2⟩, ⟨%d3, H3⟩, ⟨%d4, H4⟩⟩
  have I : Inv c (V m c main_v2) t.val wb := I
  rw [show cc0_up_attn (F := F) (grid0.coords t) (win0_0.stage (cfg0.slots t 0)) (hstage0_0 ((cfg0.slots t 0).cast nbuf0_0)) (Memref.whole main_v2) (Memref.isWhole_whole _) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) cc0_scratch2
    = _ from bodyG_eq t _ _ _ _ _ _ _ _ _ _ _ _, wp_bind]
  iapply (head c (V m c main_v2) t _ _ _ _ _ _ _ _ _ _ _ _ (iblk m c 0 t) (iblk m c 2 t) _ I _)
  isplitl [H0 H2 H4]
  · unfold inputs
    isplitl [H0]; · iexact H0
    isplitl [H2]; · iexact H2
    iexact H4
  isplitl [HS0]; · iexact HS0
  isplitl [HO]; · iexists _; iexact HO
  isplitl [Hm]; · iexact Hm
  unfold inputs
  iintro ⟨%wb', %I', ⟨H0, H2, H4⟩, HS0, ⟨%W'', HO⟩, Hm⟩
  iapply (runTail c t _ _ _ _ _ _ _ _ _ _ _ _ (iblk m c 0 t) wb' _ (iblk m c 1 t) _)
  isplitl [H1]; · iexact H1
  isplitl [H3]; · iexact H3
  isplitl [HS0]; · iexact HS0
  unfold outB
  rw [Inv.blk c (V m c main_v2) t I']
  iintro ⟨H1, H3, HS0⟩
  isplitl [HS0 Hm Hr Hp]
  · iexists _
    isplitr; · ipureintro; exact I'
    isplitl [HS0]; · iexact HS0
    isplitl [Hm]; · iexact Hm
    isplitl [Hr]; · iexact Hr
    iexact Hp
  isplitl [HO]
  · iexists W''; isplitr; · ipureintro; exact fun _ _ => Or.inl trivial
    iexact HO
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run and the frame -/

theorem enters : Pipeline.Ends (cfgs 0).spec osem {main_v2} c (V m c) ⊢ ((dats (F := F) m 0 c).Φ 0 : sProp 𝕄) := by
  rw [Φ_eq]
  unfold Pipeline.Ends
  rw [show (cfgs 0).spec = spec0 from rfl, scopedRest0_eq, Pipeline.routed_singleton, w_eq, ownSems0_eq]
  simp only [owns_whole]
  rw [show mid c (V m c main_v2) (0 : Fin (cfg0.N + 1)).val = still c (V m c main_v2) from if_neg (by decide)]
  unfold still
  iintro ⟨⟨Hh, Hr⟩, ⟨Hc0, Hc1⟩, ⟨⟨%wb, HS0⟩, HS1⟩, Hg⟩
  ihave Hs := (buf_split c) $$ HS1
  icases Hs with ⟨Hs0, Hs1⟩
  iexists wb
  isplitr; · ipureintro; exact Inv.start c _
  isplitl [HS0]; · iexact HS0
  isplitl [Hh Hs0 Hc0 Hs1 Hc1]
  · isplitl [Hh]; · iexact Hh
    isplitl [Hs0]; · iexact Hs0
    isplitl [Hc0]; · iexact Hc0
    isplitl [Hs1]; · iexact Hs1
    iexact Hc1
  isplitl [Hr]; · iexact Hr
  iexact Hg

theorem leaves : ((dats (F := F) m 0 c).Φ (Fin.last cfg0.N) : sProp 𝕄) ⊢ Pipeline.Ends (cfgs 0).spec osem {main_v2} c (V m c) := by
  rw [Φ_eq]
  unfold Pipeline.Ends
  rw [show (cfgs 0).spec = spec0 from rfl, scopedRest0_eq, Pipeline.routed_singleton, w_eq, ownSems0_eq]
  simp only [owns_whole]
  rw [show mid c (V m c main_v2) (Fin.last cfg0.N).val = still c (V m c main_v2) from if_neg (by decide)]
  unfold still
  iintro ⟨%wb, -, HS0, ⟨Hh, Hs0, Hc0, Hs1, Hc1⟩, Hr, Hg⟩
  isplitl [Hh Hr]
  · isplitl [Hh]; · iexact Hh
    iexact Hr
  isplitl [Hc0 Hc1]
  · isplitl [Hc0]; · iexact Hc0
    iexact Hc1
  isplitl [HS0 Hs0 Hs1]
  · isplitl [HS0]; · iexists wb; iexact HS0
    iapply (buf_join c)
    isplitl [Hs0]; · iexact Hs0
    iexact Hs1
  iexact Hg

set_option backward.isDefEq.respectTransparency.types false in
/-- The launch: the result ends at what the proof data says, the other arrays as the call found them, every counter at zero. -/
theorem run_main_quiescent : θ_run defs (onTc (τ := τ) (main (F := F))) (s₀ m ρ)
    (fun r => Pipeline.RoutedPost cfgs (dats m) 0 {main_v2} (V m) (V m) r ∧ r.2.sem = fun _ => 0) :=
  Pipeline.θ_run_frame_routed (Q' := _) cfgs (dats m) (0 : Fin 1) launch0 ownSemFacts defs₀ Variants.none m ρ main
    (hbody := fun c => (body_obligation m c).loose)
    (hshare := fun c w => by unfold Dat.share; split <;> rfl)
    (howed := fun _ _ => rfl) (V := V m) (hmain := hmain m) (hA := A_eq m) (R := {main_v2}) (hR := by decide) (Y := V m)
    (hin := enters m) (hout := leaves m) (hQ' := fun _ h => h)

/-- THE FRAME, at any values: the arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2.2 main_arg0 (by decide)).trans (V_arg0 m c), ((h.1 c).2.2 main_arg1 (by decide)).trans (V_arg1 m c),
      ((h.1 c).2.2 main_arg2 (by decide)).trans (V_arg2 m c), ((h.1 c).2.2 main_arg3 (by decide)).trans (V_arg3 m c)⟩, h.2⟩) (run_main_quiescent m ρ)

end Cert.Proof.UpFrame

end
-- ==== Proof.UpBits.lean ====
/- Hand-written, untrusted: THE PRINTED PROGRAM OF THE UP PROJECTION AND ITS IDEALIZATION ARE ONE TEXT (no rule rewrites it), so the frame
   proved at any values of the one is the frame of the other. -/
module

public import proofs.«01_k».proof.Proof.Gen.Up.Launch
public import proofs.«01_k».proof.Proof.UpFrame

@[expose] public section

noncomputable section

namespace Cert.Proof.UpBits

open Idealize.ShloMosaic Idealize.ShloMosaic.TcCoe Idealize.SL.Sem

variable {F : FTy → Type} [FloatOps F]

theorem defs₀_eq : @Cert.Up.defs₀ F _ Cert.Up.Gen.facts = @Cert.UpIdeal.defs₀ F _ Cert.UpIdeal.Gen.facts := by
  unfold Cert.Up.defs₀ Cert.UpIdeal.defs₀
  congr 1
  funext l x
  match l, x with
  | ⟨0, _⟩, (t, s) => rfl

theorem defs_eq : @Cert.Up.defs F _ Cert.Up.Gen.facts = @Cert.UpIdeal.defs F _ Cert.UpIdeal.Gen.facts := by
  unfold Cert.Up.defs Cert.UpIdeal.defs
  exact congrArg (Pipeline.defs _) defs₀_eq

theorem main_eq : @Cert.Up.main F _ Cert.Up.Gen.facts = @Cert.UpIdeal.main F _ Cert.UpIdeal.Gen.facts := rfl

open Cert.Up in
/-- The printed program's frame. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := UpFrame.frame (F := F) m ρ
  rw [← defs_eq, ← main_eq] at h
  exact h

end Cert.Proof.UpBits

end
-- ==== Proof.UpValue.lean ====
/- Hand-written, untrusted: THE UP PROJECTION'S RESULT ARRAYS at ideal values, as functions of the arrays its call is given: the gate
   times the product of the attention's rows with the up-projection's weights, and the weights handed on, unchanged. -/
module

public import proofs.«01_k».proof.Proof.UpFrame
public import Idealize.ShloMosaic.Lib.Pipeline.Value
public import Idealize.ShloMosaic.Lib.Pointwise
public import Idealize.ShloMosaic.Lib.Tactic.WordOmega

@[expose] public section

set_option maxRecDepth 16384

noncomputable section

namespace Cert.Proof.UpValue

open Cert.UpIdeal Cert.UpIdeal.Gen Cert.Proof.UpBody Cert.Proof.UpTail Cert.Proof.UpFrame
open Idealize.ShloMosaic Idealize.ShloMosaic.TcCoe Idealize.SL.Sem

/-! ### The payloads at an element -/

theorem pay25_at (a : Vec Ideal S1024x4096 .bf16) (w : Vec Ideal S1x4096x1024 .bf16) (r q : Fin 1024) :
    (k0_pay25 a w : S1024x1024.Idx → EReal) (ix2 r q)
      = ∑ k : Fin 4096, (a : S1024x4096.Idx → EReal) (ix2 r k) * (w : S1x4096x1024.Idx → EReal) (ix3 0 k q) := by
  unfold k0_pay25
  pointwise []

theorem gated_at (x : Vec Ideal S1024x1024 .f32) (g : Vec Ideal S1024x1024 .bf16) (r q : Fin 1024) :
    (gated x g : S1024x1024.Idx → EReal) (ix2 r q)
      = (g : S1024x1024.Idx → EReal) (ix2 r q) * (x : S1024x1024.Idx → EReal) (ix2 r q) := by
  unfold gated
  pointwise []

theorem sideOut_at (x : Vec Ideal S64x4096 .f32) (r : Fin 64) (q : Fin 4096) :
    (sideOut x : S64x4096.Idx → EReal) (ix2 r q) = (x : S64x4096.Idx → EReal) (ix2 r q) := by
  pointwise []

variable (m : (ℓ : Loc nD τ sig) → Buf (Elt Ideal) ℓ) (ρ : Dev nD → PrngReg) (c : Dev nD)

/-! ### The arrays the call is given, and its blocks -/

def Hm (r : Fin 16384) (k : Fin 4096) : EReal := (V m c main_v1 : S16384x4096.Idx → EReal) (ix2 r k)
def Wm (k : Fin 4096) (n : Fin 4096) : EReal := (V m c main_v2 : S4096x4096.Idx → EReal) (ix2 k n)

def Gm (r : Fin 16384) (n : Fin 8192) : EReal := (V m c main_v4 : S16384x8192.Idx → EReal) (ix2 r n)
def Om (k n : Fin 4096) : EReal := (V m c main_v5 : S4096x4096.Idx → EReal) (ix2 k n)

/-- The gate's columns are the first half of the gates. -/
def gcol (n : Fin 4096) : Fin 8192 := ⟨n.val, by omega⟩

/-- The result, element by element. -/
def outv (r : Fin 16384) (n : Fin 4096) : EReal := Gm m c r (gcol n) * ∑ k, Hm m c r k * Wm m c k n

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = t.val % 16 ∧ win0_1.index t (1 : Fin 2) = t.val / 16 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val % 16 ∧ win0_3.index t (1 : Fin 2) = t.val / 16 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem lt_N (t : Fin cfg0.N) : t.val < 64 := lt_of_lt_of_eq t.isLt (show cfg0.N = 64 from N_0)

/-- A row of row block `t % 16`, a column of column block `t / 16`. -/
def row (t : ℕ) (r : Fin 1024) : Fin 16384 := ⟨1024 * (t % 16) + r.val, by omega⟩
def col (t : ℕ) (ht : t < 64) (q : Fin 1024) : Fin 4096 := ⟨1024 * (t / 16) + q.val, by omega⟩

theorem iblk0_at (t : Fin cfg0.N) (r : Fin 1024) (k : Fin 4096) :
    (iblk m c 0 t : S1024x4096.Idx → EReal) (ix2 r k) = Hm m c (row t.val r) k := by
  obtain ⟨e0, e1⟩ := idx0 t
  refine congrArg (V m c main_v1 : S16384x4096.Idx → EReal) (funext fun a => Fin.ext ?_)
  match a with
  | 0 => show win0_0.index t (0 : Fin 2) * 1024 + 1 * r.val = 1024 * (t.val % 16) + r.val; omega
  | 1 => show win0_0.index t (1 : Fin 2) * 4096 + 1 * k.val = k.val; omega

theorem iblk1_at (t : Fin cfg0.N) (r q : Fin 1024) :
    (iblk m c 1 t : S1024x1024.Idx → EReal) (ix2 r q) = Gm m c (row t.val r) (gcol (col t.val (lt_N t) q)) := by
  obtain ⟨e0, e1⟩ := idx1 t
  refine congrArg (V m c main_v4 : S16384x8192.Idx → EReal) (funext fun a => Fin.ext ?_)
  match a with
  | 0 => show win0_1.index t (0 : Fin 2) * 1024 + 1 * r.val = 1024 * (t.val % 16) + r.val; omega
  | 1 => show win0_1.index t (1 : Fin 2) * 1024 + 1 * q.val = 1024 * (t.val / 16) + q.val; omega

theorem iblk2_at (t : Fin cfg0.N) (r : Fin 64) (q : Fin 4096) :
    (iblk m c 2 t : S64x4096.Idx → EReal) (ix2 r q) = Om m c ⟨64 * t.val + r.val, by have := lt_N t; omega⟩ q := by
  obtain ⟨e0, e1⟩ := idx2 t
  refine congrArg (V m c main_v5 : S4096x4096.Idx → EReal) (funext fun a => Fin.ext ?_)
  match a with
  | 0 => show win0_2.index t (0 : Fin 2) * 64 + 1 * r.val = 64 * t.val + r.val; omega
  | 1 => show win0_2.index t (1 : Fin 2) * 4096 + 1 * q.val = q.val; omega

/-- A chunk of the weights at an element, -/
theorem payload_at (W : Buf (Elt Ideal) (wM.view.loc (c : Thread nD τ))) (b : Fin 64) (p : Fin 256) (q : Fin 1024) :
    (payload c W b : S256x1024.Idx → EReal) (ix2 p q) = (W : S4096x4096.Idx → EReal)
      (ix2 ⟨256 * (b.val % 16) + p.val, by omega⟩ ⟨1024 * (b.val / 16) + q.val, by omega⟩) := by
  refine congrArg (W : S4096x4096.Idx → EReal) (funext fun (a : Fin 2) => Fin.ext ?_)
  match a with
  | 0 => show 256 * (b.val % 16) + 1 * p.val = 256 * (b.val % 16) + p.val; omega
  | 1 => show 1024 * (b.val / 16) + 1 * q.val = 1024 * (b.val / 16) + q.val; omega

theorem chunk_at (W : Buf (Elt Ideal) (wM.view.loc (c : Thread nD τ))) (b : Fin 64) (p : Fin 256) (q : Fin 1024) :
    (chunk c W b : S1x256x1024.Idx → EReal) (ix3 0 p q) = (W : S4096x4096.Idx → EReal)
      (ix2 ⟨256 * (b.val % 16) + p.val, by omega⟩ ⟨1024 * (b.val / 16) + q.val, by omega⟩) := by
  rw [← payload_at c W b p q]
  unfold chunk
  generalize payload c W b = x
  pointwise []

/-- and so the rounded weights' column block. -/
theorem wB_at (t : ℕ) (ht : t < 64) (k : Fin 4096) (q : Fin 1024) :
    (wB c (V m c main_v2) (t / 16) : S1x4096x1024.Idx → EReal) (ix3 0 k q) = Wm m c k (col t ht q) := by
  have hb : (Ring.bk 64 (16 * (t / 16) + k.val / 256)).val = 16 * (t / 16) + k.val / 256 := Ring.bk_val (by omega)
  have hi : (fun a => match a with
      | 0 => ⟨0, by decide⟩
      | 1 => ⟨k.val % 256, Nat.mod_lt _ (by decide)⟩
      | 2 => q : S1x256x1024.Idx) = ix3 (0 : Fin 1) (⟨k.val % 256, Nat.mod_lt _ (by decide)⟩ : Fin 256) q := by
    funext a
    match a with
    | 0 => rfl
    | 1 => rfl
    | 2 => rfl
  refine (congrArg (chunk c (V m c main_v2) (Ring.bk 64 (16 * (t / 16) + k.val / 256)) : S1x256x1024.Idx → EReal) hi).trans ?_
  refine (chunk_at c _ _ _ q).trans ?_
  refine congrArg (V m c main_v2 : S4096x4096.Idx → EReal) (funext fun a => Fin.ext ?_)
  match a with
  | 0 =>
    show 256 * ((Ring.bk 64 (16 * (t / 16) + k.val / 256)).val % 16) + k.val % 256 = k.val
    rw [hb]; omega
  | 1 =>
    show 1024 * ((Ring.bk 64 (16 * (t / 16) + k.val / 256)).val / 16) + q.val = (1024 * (t / 16) + q.val)
    rw [hb]; omega

/-! ### What the points write -/

theorem res_at (t : Fin cfg0.N) (r q : Fin 1024) :
    (res m c t : S1024x1024.Idx → EReal) (ix2 r q) = outv m c (row t.val r) (col t.val (lt_N t) q) := by
  unfold res outv
  rw [gated_at, pay25_at, iblk1_at]
  refine congrArg (fun z : EReal => Gm m c (row t.val r) (gcol (col t.val (lt_N t) q)) * z)
    (Finset.sum_congr rfl fun k _ => ?_)
  rw [iblk0_at, wB_at m c t.val (lt_N t)]

/-! ### The result array -/

def resA : S16384x4096.Idx → EReal := fun y => outv m c (y 0) (y 1)

/-- What a point writes back is its block of the result. -/
theorem flushed_eq (t : Fin cfg0.N) :
    (dats m 0 c).flushed 3 t = ((cfg0.win 3).blk t).view.read (Elt Ideal) (resA m c) := by
  obtain ⟨e0, e1⟩ := idx3 t
  unfold Pipeline.Dat.flushed
  rw [after0_3]
  funext j
  have hj : j = (ix2 (⟨(j 0).val, (j 0).isLt⟩ : Fin 1024) (⟨(j 1).val, (j 1).isLt⟩ : Fin 1024) : S1024x1024.Idx) := by
    funext a
    match a with
    | 0 => rfl
    | 1 => rfl
  refine (congrArg (res m c t : S1024x1024.Idx → EReal) hj).trans ((res_at m c t _ _).trans ?_)
  show outv m c _ _ = outv m c _ _
  congr 1 <;> apply Fin.ext
  · show 1024 * (t.val % 16) + (j 0).val = win0_3.index t (0 : Fin 2) * 1024 + 1 * (j 0).val; omega
  · show 1024 * (t.val / 16) + (j 1).val = win0_3.index t (1 : Fin 2) * 1024 + 1 * (j 1).val; omega

theorem covered (i : S16384x4096.Idx) :
    ∃ t : Fin cfg0.N, (cfg0.win 3).flush t = true ∧ i ∈ ((cfg0.win 3).blk t).view.set := by
  have h0 : (i 0).val < 16384 := (i 0).isLt
  have h1 : (i 1).val < 4096 := (i 1).isLt
  have ht : 16 * ((i 1).val / 1024) + (i 0).val / 1024 < 64 := by omega
  refine ⟨(⟨16 * ((i 1).val / 1024) + (i 0).val / 1024, ht⟩ : Fin cfg0.N), flush0_3 _, ?_⟩
  obtain ⟨e0, e1⟩ := idx3 ⟨16 * ((i 1).val / 1024) + (i 0).val / 1024, ht⟩
  have h := ((cfg0.win 3).blk (⟨16 * ((i 1).val / 1024) + (i 0).val / 1024, ht⟩ : Fin cfg0.N)).view.emb_mem_set
    (ix2 (⟨(i 0).val % 1024, by omega⟩ : Fin 1024) (⟨(i 1).val % 1024, by omega⟩ : Fin 1024) : S1024x1024.Idx)
  refine Eq.mp (congrArg (· ∈ _) (?_ : _ = i)) h
  refine funext fun a => Fin.ext ?_
  match a with
  | 0 => show win0_3.index _ (0 : Fin 2) * 1024 + 1 * ((i 0).val % 1024) = (i 0).val; rw [e0]; dsimp only; omega
  | 1 => show win0_3.index _ (1 : Fin 2) * 1024 + 1 * ((i 1).val % 1024) = (i 1).val; rw [e1]; dsimp only; omega

/-- The result array after the run. -/
theorem final : (dats m 0 c).arrAt 3 cfg0.N = resA m c :=
  (dats m 0 c).arrAt_eq_of_cover 3 (resA m c) (fun t _ => flushed_eq m c t) covered

/-! ### The array handed on -/

def sideA : S4096x4096.Idx → EReal := fun y => Om m c (y 0) (y 1)

theorem side_flushed_eq (t : Fin cfg0.N) :
    (dats m 0 c).flushed 4 t = ((cfg0.win 4).blk t).view.read (Elt Ideal) (sideA m c) := by
  obtain ⟨e0, e1⟩ := idx4 t
  unfold Pipeline.Dat.flushed
  rw [after0_4]
  funext j
  have hj : j = (ix2 (⟨(j 0).val, (j 0).isLt⟩ : Fin 64) (⟨(j 1).val, (j 1).isLt⟩ : Fin 4096) : S64x4096.Idx) := by
    funext a
    match a with
    | 0 => rfl
    | 1 => rfl
  refine (congrArg (sideOut (iblk m c 2 t) : S64x4096.Idx → EReal) hj).trans ((sideOut_at _ _ _).trans ((iblk2_at m c t _ _).trans ?_))
  show Om m c _ _ = Om m c _ _
  congr 1 <;> apply Fin.ext
  · show 64 * t.val + (j 0).val = win0_4.index t (0 : Fin 2) * 64 + 1 * (j 0).val; omega
  · show (j 1).val = win0_4.index t (1 : Fin 2) * 4096 + 1 * (j 1).val; omega

theorem side_covered (i : S4096x4096.Idx) :
    ∃ t : Fin cfg0.N, (cfg0.win 4).flush t = true ∧ i ∈ ((cfg0.win 4).blk t).view.set := by
  have h0 : (i 0).val < 4096 := (i 0).isLt
  have h1 : (i 1).val < 4096 := (i 1).isLt
  have ht : (i 0).val / 64 < 64 := by omega
  refine ⟨(⟨(i 0).val / 64, ht⟩ : Fin cfg0.N), flush0_4 _, ?_⟩
  obtain ⟨e0, e1⟩ := idx4 ⟨(i 0).val / 64, ht⟩
  have h := ((cfg0.win 4).blk (⟨(i 0).val / 64, ht⟩ : Fin cfg0.N)).view.emb_mem_set
    (ix2 (⟨(i 0).val % 64, by omega⟩ : Fin 64) (⟨(i 1).val, h1⟩ : Fin 4096) : S64x4096.Idx)
  refine Eq.mp (congrArg (· ∈ _) (?_ : _ = i)) h
  refine funext fun a => Fin.ext ?_
  match a with
  | 0 => show win0_4.index _ (0 : Fin 2) * 64 + 1 * ((i 0).val % 64) = (i 0).val; rw [e0]; dsimp only; omega
  | 1 => show win0_4.index _ (1 : Fin 2) * 4096 + 1 * (i 1).val = (i 1).val; rw [e1]; omega

/-- The array handed on, after the run. -/
theorem side_final : (dats m 0 c).arrAt 4 cfg0.N = sideA m c :=
  (dats m 0 c).arrAt_eq_of_cover 4 (sideA m c) (fun t _ => side_flushed_eq m c t) side_covered

end Cert.Proof.UpValue

end
-- ==== Proof.UpMatch.lean ====
/- Hand-written, untrusted: THE UP PROJECTION'S RESULTS ARE ITS REFERENCE'S. The host's re-laying out of the arguments read at an element and
   the reference's operations read at an element: the two are one expression. -/
module

public import proofs.«01_k».proof.Proof.UpValue
public import proofs.«01_k».proof.Proof.Gen.UpReferenceIdeal.Read
public import Idealize.ShloMosaic.Lib.Claim
public import Idealize.ShloMosaic.Lib.StableHlo.ReadAt

@[expose] public section

noncomputable section

namespace Cert.Proof.UpValue

open Cert.UpIdeal Cert.UpIdeal.Gen Cert.Proof.UpFrame
open Idealize.ShloMosaic Idealize.ShloMosaic.TcCoe Idealize.SL.Sem

/-! ### The reference at an element -/

section
open Cert.UpReferenceIdeal.Read
variable (h : S4x4096x4096.Idx → EReal) (w : S1x4096x4096.Idx → EReal) (g : S4x4096x8192.Idx → EReal) (o : S1x4096x4096.Idx → EReal)

/-- The product, at a sequence, a position and a column. -/
def pR (b : Fin 4) (s n : Fin 4096) : EReal := ∑ k : Fin 4096, h (ix3 b s k) * w (ix3 0 k n)

theorem v2_at (b : Fin 4) (s n : Fin 4096) : val_main_v2 (F := Ideal) h w (ix3 b s n) = pR h w b s n := by
  unfold val_main_v2 val_main_v1 pR
  pointwise []

theorem v5_at (r : Fin 16384) (n : Fin 4096) : val_main_v5 (F := Ideal) h w g (ix2 r n)
    = g (ix3 ⟨r.val / 4096, by omega⟩ ⟨r.val % 4096, by omega⟩ (gcol n)) * pR h w ⟨r.val / 4096, by omega⟩ ⟨r.val % 4096, by omega⟩ n := by
  rw [← v2_at]
  unfold val_main_v5 val_main_v4 val_main_v3 val_main_v0 gcol
  generalize val_main_v2 (F := Ideal) h w = y
  pointwise []

theorem v7_at (k n : Fin 4096) : val_main_v7 (F := Ideal) o (ix2 k n) = o (ix3 0 k n) := by
  unfold val_main_v7 val_main_v6
  pointwise []
end

/-! ### The arrays the call is given, as the arguments -/

variable (m : (ℓ : Loc nD τ sig) → Buf (Elt Ideal) ℓ) (c : Dev nD)

/-- The arguments as the caller stores them: the attention's rows, the up-projection's weights, the gates, the weights handed on. -/
def hA : S4x4096x4096.Idx → EReal := m ((c : Thread nD τ).loc main_arg0)
def wA : S1x4096x4096.Idx → EReal := m ((c : Thread nD τ).loc main_arg1)
def gA : S4x4096x8192.Idx → EReal := m ((c : Thread nD τ).loc main_arg2)
def oA : S1x4096x4096.Idx → EReal := m ((c : Thread nD τ).loc main_arg3)

theorem Hm_eq (r : Fin 16384) (k : Fin 4096) : Hm m c r k = hA m c (ix3 ⟨r.val / 4096, by omega⟩ ⟨r.val % 4096, by omega⟩ k) := by
  unfold Hm
  entry_read
  pointwise []
  rfl
theorem Wm_eq (k n : Fin 4096) : Wm m c k n = wA m c (ix3 0 k n) := by
  unfold Wm
  entry_read
  pointwise []
  rfl
theorem Gm_eq (r : Fin 16384) (n : Fin 8192) : Gm m c r n = gA m c (ix3 ⟨r.val / 4096, by omega⟩ ⟨r.val % 4096, by omega⟩ n) := by
  unfold Gm
  entry_read
  pointwise []
  rfl
theorem Om_eq (k n : Fin 4096) : Om m c k n = oA m c (ix3 0 k n) := by
  unfold Om
  entry_read
  pointwise []
  rfl

/-- The kernel's result is the reference's, element by element. -/
theorem outv_eq (r : Fin 16384) (n : Fin 4096) :
    outv m c r n = Cert.UpReferenceIdeal.Read.val_main_v5 (F := Ideal) (hA m c) (wA m c) (gA m c) (ix2 r n) := by
  rw [v5_at]
  unfold outv pR
  simp only [Hm_eq, Wm_eq, Gm_eq]

theorem resA_eq : resA m c = Cert.UpReferenceIdeal.Read.val_main_v5 (F := Ideal) (hA m c) (wA m c) (gA m c) := by
  funext y
  have hy : y = ix2 (⟨(y 0).val, (y 0).isLt⟩ : Fin 16384) (⟨(y 1).val, (y 1).isLt⟩ : Fin 4096) := by
    funext a
    match a with
    | 0 => rfl
    | 1 => rfl
  exact Eq.trans rfl ((outv_eq m c _ _).trans (congrArg _ hy.symm))

/-- The array handed on is the reference's. -/
theorem sideA_eq : sideA m c = Cert.UpReferenceIdeal.Read.val_main_v7 (F := Ideal) (oA m c) := by
  funext y
  have hy : y = ix2 (⟨(y 0).val, (y 0).isLt⟩ : Fin 4096) (⟨(y 1).val, (y 1).isLt⟩ : Fin 4096) := by
    funext a
    match a with
    | 0 => rfl
    | 1 => rfl
  exact Eq.trans rfl ((Om_eq m c _ _).trans ((v7_at _ _ _).symm.trans (congrArg _ hy.symm)))

end Cert.Proof.UpValue

end
-- ==== Proof.lean ====
/- The certificate, for six calls of the layer: the attention (`Kernel`), the output projection with the final norm (`Out`),
   the in-projection's matrix products for the merge gates (`Gates`) and for the two branch gates (`Silu`),
   the gMLP's up projection with the merge of the branches (`Merge`), and the attention's up projection (`Up`).
   Of each, the programs run to the end with their arguments kept and their semaphores at zero, the ideal one differs from the
   printed one by named constants only, and its result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Value
public import proofs.«01_k».proof.Proof.OutBits
public import proofs.«01_k».proof.Proof.OutMatch
public import proofs.«01_k».proof.Proof.GatesBits
public import proofs.«01_k».proof.Proof.GatesMatch
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesReferenceIdeal
public import proofs.«01_k».proof.Proof.Gen.GatesReferenceIdeal.Run
public import proofs.«01_k».proof.Proof.Gen.GatesReferenceIdeal.Read
public import proofs.«01_k».proof.Proof.SiluBits
public import proofs.«01_k».proof.Proof.SiluMatch
public import proofs.«01_k».proof.Proof.Gen.Silu
public import proofs.«01_k».proof.Proof.Gen.Silu.Skeleton
public import proofs.«01_k».proof.Proof.Gen.Silu.Launch
public import proofs.«01_k».proof.Proof.Gen.Silu.Points
public import proofs.«01_k».proof.Proof.Gen.SiluIdeal
public import proofs.«01_k».proof.Proof.Gen.SiluIdeal.Skeleton
public import proofs.«01_k».proof.Proof.Gen.SiluIdeal.Launch
public import proofs.«01_k».proof.Proof.Gen.SiluIdeal.Points
public import proofs.«01_k».proof.Proof.Gen.SiluReferenceIdeal
public import proofs.«01_k».proof.Proof.Gen.SiluReferenceIdeal.Run
public import proofs.«01_k».proof.Proof.Gen.SiluReferenceIdeal.Read
public import proofs.«01_k».proof.Proof.Gen.Pre_finite_silu
public import proofs.«01_k».proof.Proof.MergeBits
public import proofs.«01_k».proof.Proof.MergeMatch
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.UpBits
public import proofs.«01_k».proof.Proof.UpMatch
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpReferenceIdeal
public import proofs.«01_k».proof.Proof.Gen.UpReferenceIdeal.Run
public import proofs.«01_k».proof.Proof.Gen.UpReferenceIdeal.Read
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The two results are one array, where queries, keys and sinks are finite. -/
theorem algebraic : Cert.algebraic_KernelIdeal_ReferenceIdeal_pre_finite_scores := by
  intro m g m' g' hpre hagree
  refine ⟨fun c => Run.res m c, ?_, ?_⟩
  · exact (θ_run Cert.KernelIdeal.defs _ _).mono (fun r h c => ⟨(h c).1.trans (Run.final m c), (h c).2⟩) (Cert.KernelIdeal.Value.run_blocks m g)
  · refine (θ_run Cert.ReferenceIdeal.defs _ _).mono (fun r h c => ⟨(h c).1.trans ?_, (h c).2⟩) (Cert.ReferenceIdeal.Value.run m' g')
    obtain ⟨fq, fk, fs⟩ := Value.finite _ _ _ _ _ _ (congrFun (hpre c) (Shape.Idx.first (by decide)))
    rw [Cert.ReferenceIdeal.Read.val_main_v72_eq, (hagree c).1, (hagree c).2.1, (hagree c).2.2.1, (hagree c).2.2.2.1, (hagree c).2.2.2.2]
    exact (Value.res_eq m c fq fk fs).symm

/-- The output projection's result, and that its arguments are kept. -/
theorem run_out (m : (ℓ : Loc Cert.OutIdeal.nD Cert.OutIdeal.τ Cert.OutIdeal.sig) → Buf (Elt Ideal) ℓ) (g : Dev Cert.OutIdeal.nD → PrngReg) :
    θ_run (Cert.OutIdeal.defs (F := Ideal)) (onTc (τ := Cert.OutIdeal.τ) (Cert.OutIdeal.main (F := Ideal))) ⟨m, fun _ => 0, g⟩
      (fun r => (∀ c : Dev Cert.OutIdeal.nD, r.2.mem ((c.tc : Thread Cert.OutIdeal.nD Cert.OutIdeal.τ).loc Cert.OutIdeal.main_v6) = OutValue.resA m c)) :=
  (θ_run Cert.OutIdeal.defs _ _).mono (fun r h c => ((h c).1 4).trans (OutValue.final m c)) (OutFrame.run_main m g)

/-- The two results are one array, whatever the arguments. -/
theorem algebraic_out : Cert.algebraic_OutIdeal_OutReferenceIdeal := by
  intro m g m' g' _ hagree
  refine ⟨fun c => OutValue.resA m c, ?_, ?_⟩
  · exact (θ_run Cert.OutIdeal.defs _ _).mono (fun r h c => ⟨h.1 c, h.2.1 c⟩) (θ_run_and (run_out m g) (OutFrame.frame m g))
  · refine (θ_run Cert.OutReferenceIdeal.defs _ _).mono (fun r h c => ⟨(h c).1.trans ?_, (h c).2⟩) (Cert.OutReferenceIdeal.Value.run m' g')
    rw [Cert.OutReferenceIdeal.Read.val_main_v16_eq, (hagree c).1, (hagree c).2.1, (hagree c).2.2.1, (hagree c).2.2.2]
    exact (OutValue.resA_eq m c).symm

/-- The merge gates' result. -/
theorem run_gates (m : (ℓ : Loc Cert.GatesIdeal.nD Cert.GatesIdeal.τ Cert.GatesIdeal.sig) → Buf (Elt Ideal) ℓ) (g : Dev Cert.GatesIdeal.nD → PrngReg) :
    θ_run (Cert.GatesIdeal.defs (F := Ideal)) (onTc (τ := Cert.GatesIdeal.τ) (Cert.GatesIdeal.main (F := Ideal))) ⟨m, fun _ => 0, g⟩
      (fun r => (∀ c : Dev Cert.GatesIdeal.nD, r.2.mem ((c.tc : Thread Cert.GatesIdeal.nD Cert.GatesIdeal.τ).loc Cert.GatesIdeal.main_v3) = GatesValue.resA m c)) :=
  (θ_run Cert.GatesIdeal.defs _ _).mono (fun r h c => ((h.1 c).1 1).trans (GatesValue.final m c)) (GatesFrame.run_main_quiescent m g)

/-- The two results are one array, whatever the arguments. -/
theorem algebraic_gates : Cert.algebraic_GatesIdeal_GatesReferenceIdeal := by
  intro m g m' g' _ hagree
  refine ⟨fun c => GatesValue.resA m c, ?_, ?_⟩
  · exact (θ_run Cert.GatesIdeal.defs _ _).mono (fun r h c => ⟨h.1 c, h.2.1 c⟩) (θ_run_and (run_gates m g) (GatesFrame.frame m g))
  · refine (θ_run Cert.GatesReferenceIdeal.defs _ _).mono (fun r h c => ⟨(h c).1.trans ?_, (h c).2⟩) (Cert.GatesReferenceIdeal.Value.run m' g')
    rw [Cert.GatesReferenceIdeal.Read.val_main_v10_eq, (hagree c).1, (hagree c).2]
    exact (GatesValue.resA_eq m c).symm

/-- The branch gates' result. -/
theorem run_silu (m : (ℓ : Loc Cert.SiluIdeal.nD Cert.SiluIdeal.τ Cert.SiluIdeal.sig) → Buf (Elt Ideal) ℓ) (g : Dev Cert.SiluIdeal.nD → PrngReg) :
    θ_run (Cert.SiluIdeal.defs (F := Ideal)) (onTc (τ := Cert.SiluIdeal.τ) (Cert.SiluIdeal.main (F := Ideal))) ⟨m, fun _ => 0, g⟩
      (fun r => (∀ c : Dev Cert.SiluIdeal.nD, r.2.mem ((c.tc : Thread Cert.SiluIdeal.nD Cert.SiluIdeal.τ).loc Cert.SiluIdeal.main_v3) = SiluValue.resA m c)) :=
  (θ_run Cert.SiluIdeal.defs _ _).mono (fun r h c => ((h.1 c).1 1).trans (SiluValue.final m c)) (SiluFrame.run_main_quiescent m g)

/-- The two results are one array, where the activations and the weights are finite. -/
theorem algebraic_silu : Cert.algebraic_SiluIdeal_SiluReferenceIdeal_pre_finite_silu := by
  intro m g m' g' hpre hagree
  refine ⟨fun c => SiluValue.resA m c, ?_, ?_⟩
  · exact (θ_run Cert.SiluIdeal.defs _ _).mono (fun r h c => ⟨h.1 c, h.2.1 c⟩) (θ_run_and (run_silu m g) (SiluFrame.frame m g))
  · refine (θ_run Cert.SiluReferenceIdeal.defs _ _).mono (fun r h c => ⟨(h c).1.trans ?_, (h c).2⟩) (Cert.SiluReferenceIdeal.Value.run m' g')
    obtain ⟨fh, fw⟩ := SiluValue.finite _ _ _ (congrFun (hpre c) (Shape.Idx.first (by decide)))
    rw [Cert.SiluReferenceIdeal.Read.val_main_v10_eq, (hagree c).1, (hagree c).2]
    exact (SiluValue.resA_eq m c fh fw).symm

/-- The merge's result. -/
theorem run_merge (m : (ℓ : Loc Cert.MergeIdeal.nD Cert.MergeIdeal.τ Cert.MergeIdeal.sig) → Buf (Elt Ideal) ℓ) (g : Dev Cert.MergeIdeal.nD → PrngReg) :
    θ_run (Cert.MergeIdeal.defs (F := Ideal)) (onTc (τ := Cert.MergeIdeal.τ) (Cert.MergeIdeal.main (F := Ideal))) ⟨m, fun _ => 0, g⟩
      (fun r => (∀ c : Dev Cert.MergeIdeal.nD, r.2.mem ((c.tc : Thread Cert.MergeIdeal.nD Cert.MergeIdeal.τ).loc Cert.MergeIdeal.main_v7) = MergeValue.resA m c)) :=
  (θ_run Cert.MergeIdeal.defs _ _).mono (fun r h c => ((h.1 c).1 3).trans (MergeValue.final m c)) (MergeFrame.run_main_quiescent m g)

/-- The two results are one array, whatever the arguments. -/
theorem algebraic_merge : Cert.algebraic_MergeIdeal_MergeReferenceIdeal := by
  intro m g m' g' _ hagree
  refine ⟨fun c => MergeValue.resA m c, ?_, ?_⟩
  · exact (θ_run Cert.MergeIdeal.defs _ _).mono (fun r h c => ⟨h.1 c, h.2.1 c⟩) (θ_run_and (run_merge m g) (MergeFrame.frame m g))
  · refine (θ_run Cert.MergeReferenceIdeal.defs _ _).mono (fun r h c => ⟨(h c).1.trans ?_, (h c).2⟩) (Cert.MergeReferenceIdeal.Value.run m' g')
    rw [Cert.MergeReferenceIdeal.Read.val_main_v6_eq, (hagree c).1, (hagree c).2.1, (hagree c).2.2.1, (hagree c).2.2.2]
    exact (MergeValue.resA_eq m c).symm

/-- The up projection's two results. -/
theorem run_up (m : (ℓ : Loc Cert.UpIdeal.nD Cert.UpIdeal.τ Cert.UpIdeal.sig) → Buf (Elt Ideal) ℓ) (g : Dev Cert.UpIdeal.nD → PrngReg) :
    θ_run (Cert.UpIdeal.defs (F := Ideal)) (onTc (τ := Cert.UpIdeal.τ) (Cert.UpIdeal.main (F := Ideal))) ⟨m, fun _ => 0, g⟩
      (fun r => (∀ c : Dev Cert.UpIdeal.nD, r.2.mem ((c.tc : Thread Cert.UpIdeal.nD Cert.UpIdeal.τ).loc Cert.UpIdeal.main_v6_0) = UpValue.resA m c
        ∧ r.2.mem ((c.tc : Thread Cert.UpIdeal.nD Cert.UpIdeal.τ).loc Cert.UpIdeal.main_v6_1) = UpValue.sideA m c)) :=
  (θ_run Cert.UpIdeal.defs _ _).mono (fun r h c => ⟨((h.1 c).1 3).trans (UpValue.final m c), ((h.1 c).1 4).trans (UpValue.side_final m c)⟩) (UpFrame.run_main_quiescent m g)

/-- The results are the same two arrays, whatever the arguments. -/
theorem algebraic_up : Cert.algebraic_UpIdeal_UpReferenceIdeal := by
  intro m g m' g' _ hagree
  refine ⟨fun c => UpValue.resA m c, fun c => UpValue.sideA m c, ?_, ?_⟩
  · exact (θ_run Cert.UpIdeal.defs _ _).mono (fun r h c => ⟨(h.1 c).1, (h.1 c).2, h.2.1 c⟩) (θ_run_and (run_up m g) (UpFrame.frame m g))
  · refine (θ_run Cert.UpReferenceIdeal.defs _ _).mono (fun r h c => ⟨(h c).1.trans ?_, (h c).2.1.trans ?_, (h c).2.2⟩) (Cert.UpReferenceIdeal.Value.run m' g')
    · rw [Cert.UpReferenceIdeal.Read.val_main_v5_eq, (hagree c).1, (hagree c).2.1, (hagree c).2.2.1]
      exact (UpValue.resA_eq m c).symm
    · rw [Cert.UpReferenceIdeal.Read.val_main_v7_eq, (hagree c).2.2.2]
      exact (UpValue.sideA_eq m c).symm

theorem claim : Cert.Claim := ⟨Cert.Kernel.Gen.facts, Cert.KernelIdeal.Gen.facts, Cert.ReferenceIdeal.Gen.facts,
  Cert.Out.Gen.facts, Cert.OutIdeal.Gen.facts, Cert.OutReferenceIdeal.Gen.facts,
  Cert.Gates.Gen.facts, Cert.GatesIdeal.Gen.facts, Cert.GatesReferenceIdeal.Gen.facts,
  Cert.Silu.Gen.facts, Cert.SiluIdeal.Gen.facts, Cert.SiluReferenceIdeal.Gen.facts,
  Cert.Merge.Gen.facts, Cert.MergeIdeal.Gen.facts, Cert.MergeReferenceIdeal.Gen.facts,
  Cert.Up.Gen.facts, Cert.UpIdeal.Gen.facts, Cert.UpReferenceIdeal.Gen.facts, Cert.Pre_finite_scores.Gen.facts, Cert.Pre_finite_silu.Gen.facts,
  fun m ρ _ => Cert.Kernel.Gen.frame m ρ, fun m ρ _ => Cert.KernelIdeal.Gen.frame m ρ, fun m ρ _ => Cert.KernelIdeal.Gen.frame m ρ,
  fun m ρ _ => (θ_run Cert.ReferenceIdeal.defs _ _).mono (fun r h => ⟨fun c => (h c).2, sem_eq_zero_of_no_sems (by decide) r.2⟩) (Cert.ReferenceIdeal.Value.run m ρ),
  fun m ρ _ => (θ_run Cert.ReferenceIdeal.defs _ _).mono (fun r h => ⟨fun c => (h c).2, sem_eq_zero_of_no_sems (by decide) r.2⟩) (Cert.ReferenceIdeal.Value.run m ρ),
  fun m ρ _ => OutBits.frame m ρ, fun m ρ _ => OutFrame.frame m ρ,
  fun m ρ _ => (θ_run Cert.OutReferenceIdeal.defs _ _).mono (fun r h => ⟨fun c => (h c).2, sem_eq_zero_of_no_sems (by decide) r.2⟩) (Cert.OutReferenceIdeal.Value.run m ρ),
  fun m ρ _ => GatesBits.frame m ρ, fun m ρ _ => GatesFrame.frame m ρ,
  fun m ρ _ => (θ_run Cert.GatesReferenceIdeal.defs _ _).mono (fun r h => ⟨fun c => (h c).2, sem_eq_zero_of_no_sems (by decide) r.2⟩) (Cert.GatesReferenceIdeal.Value.run m ρ),
  fun m ρ _ => SiluBits.frame m ρ, fun m ρ _ => SiluFrame.frame m ρ, fun m ρ _ => SiluFrame.frame m ρ,
  fun m ρ _ => (θ_run Cert.SiluReferenceIdeal.defs _ _).mono (fun r h => ⟨fun c => (h c).2, sem_eq_zero_of_no_sems (by decide) r.2⟩) (Cert.SiluReferenceIdeal.Value.run m ρ),
  fun m ρ _ => (θ_run Cert.SiluReferenceIdeal.defs _ _).mono (fun r h => ⟨fun c => (h c).2, sem_eq_zero_of_no_sems (by decide) r.2⟩) (Cert.SiluReferenceIdeal.Value.run m ρ),
  fun m ρ _ => MergeBits.frame m ρ, fun m ρ _ => MergeFrame.frame m ρ,
  fun m ρ _ => (θ_run Cert.MergeReferenceIdeal.defs _ _).mono (fun r h => ⟨fun c => (h c).2, sem_eq_zero_of_no_sems (by decide) r.2⟩) (Cert.MergeReferenceIdeal.Value.run m ρ),
  fun m ρ _ => UpBits.frame m ρ, fun m ρ _ => UpFrame.frame m ρ,
  fun m ρ _ => (θ_run Cert.UpReferenceIdeal.defs _ _).mono (fun r h => ⟨fun c => (h c).2.2, sem_eq_zero_of_no_sems (by decide) r.2⟩) (Cert.UpReferenceIdeal.Value.run m ρ),
  IdealRules.named_const.statement Cert.KernelIdeal.κ "log2e" .f32 0x3FB8AA3B#32 _ rfl, algebraic, trivial, algebraic_out, trivial, algebraic_gates, trivial, algebraic_silu, trivial, algebraic_merge, trivial, algebraic_up⟩

end Cert.Proof

end
